-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "root_half" .f32 0x3F3504F3#32 (((Real.sqrt 2)⁻¹ : ℝ) : EReal)
  ∧ IdealRules.named_const.Statement Cert.Kernel2Ideal.κ "inv_root_two_pi" .f32 0x3ECC422A#32 (((Real.sqrt (2 * Real.pi))⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v318) = v0 c
          ∧ r.2.mem ((c.tc : Thread Cert.Reference2Ideal.nD Cert.Reference2Ideal.τ).loc Cert.Reference2Ideal.main_v320) = v1 c
          ∧ r.2.mem ((c.tc : Thread Cert.Reference2Ideal.nD Cert.Reference2Ideal.τ).loc Cert.Reference2Ideal.main_v310) = v2 c
          ∧ r.2.mem ((c.tc : Thread Cert.Reference2Ideal.nD Cert.Reference2Ideal.τ).loc Cert.Reference2Ideal.main_v317) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "root_half" .f32 0x3F3504F3#32 (((Real.sqrt 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v156) = v1 c
          ∧ r.2.mem ((c.tc : Thread Cert.Reference3Ideal.nD Cert.Reference3Ideal.τ).loc Cert.Reference3Ideal.main_v157) = v2 c
          ∧ r.2.mem ((c.tc : Thread Cert.Reference3Ideal.nD Cert.Reference3Ideal.τ).loc Cert.Reference3Ideal.main_v159) = v3 c
          ∧ r.2.mem ((c.tc : Thread Cert.Reference3Ideal.nD Cert.Reference3Ideal.τ).loc Cert.Reference3Ideal.main_v161) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.block ⟨2, ![8192, 8448]⟩ ⟨2, ![16384, 8448]⟩ 0 2 c (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = Layout.block ⟨2, ![8192, 3072]⟩ ⟨2, ![16384, 3072]⟩ 0 2 c (m' (((0 : Dev Cert.Reference5Ideal.nD).tc : Thread Cert.Reference5Ideal.nD Cert.Reference5Ideal.τ).loc Cert.Reference5Ideal.main_arg1))) →
    ∃ (v0 : Buf (Elt Ideal) (((0 : Dev Cert.Reference5Ideal.nD).tc : Thread Cert.Reference5Ideal.nD Cert.Reference5Ideal.τ).loc Cert.Reference5Ideal.main_v7)) (v1 : Buf (Elt Ideal) (((0 : Dev Cert.Reference5Ideal.nD).tc : Thread Cert.Reference5Ideal.nD Cert.Reference5Ideal.τ).loc Cert.Reference5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.block ⟨3, ![4, 352, 1024]⟩ ⟨3, ![4, 704, 1024]⟩ 1 2 c v0
          ∧ r.2.mem ((c.tc : Thread Cert.Kernel5Ideal.nD Cert.Kernel5Ideal.τ).loc Cert.Kernel5Ideal.main_v1_1) = Layout.block ⟨2, ![352, 1024]⟩ ⟨2, ![704, 1024]⟩ 0 2 c v1
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v7) = v0
          ∧ r.2.mem (((0 : Dev Cert.Reference5Ideal.nD).tc : Thread Cert.Reference5Ideal.nD Cert.Reference5Ideal.τ).loc Cert.Reference5Ideal.main_v9) = v1
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)) (v12 : (c : Dev Cert.Kernel6Ideal.nD) → Buf (Elt Ideal) ((c.tc : Thread Cert.Kernel6Ideal.nD Cert.Kernel6Ideal.τ).loc Cert.Kernel6Ideal.main_v0_12)) (v13 : (c : Dev Cert.Kernel6Ideal.nD) → Buf (Elt Ideal) ((c.tc : Thread Cert.Kernel6Ideal.nD Cert.Kernel6Ideal.τ).loc Cert.Kernel6Ideal.main_v0_13)) (v14 : (c : Dev Cert.Kernel6Ideal.nD) → Buf (Elt Ideal) ((c.tc : Thread Cert.Kernel6Ideal.nD Cert.Kernel6Ideal.τ).loc Cert.Kernel6Ideal.main_v0_14)) (v15 : (c : Dev Cert.Kernel6Ideal.nD) → Buf (Elt Ideal) ((c.tc : Thread Cert.Kernel6Ideal.nD Cert.Kernel6Ideal.τ).loc Cert.Kernel6Ideal.main_v0_15)) (v16 : (c : Dev Cert.Kernel6Ideal.nD) → Buf (Elt Ideal) ((c.tc : Thread Cert.Kernel6Ideal.nD Cert.Kernel6Ideal.τ).loc Cert.Kernel6Ideal.main_v0_16)) (v17 : (c : Dev Cert.Kernel6Ideal.nD) → Buf (Elt Ideal) ((c.tc : Thread Cert.Kernel6Ideal.nD Cert.Kernel6Ideal.τ).loc Cert.Kernel6Ideal.main_v0_17)) (v18 : (c : Dev Cert.Kernel6Ideal.nD) → Buf (Elt Ideal) ((c.tc : Thread Cert.Kernel6Ideal.nD Cert.Kernel6Ideal.τ).loc Cert.Kernel6Ideal.main_v0_18)) (v19 : (c : Dev Cert.Kernel6Ideal.nD) → Buf (Elt Ideal) ((c.tc : Thread Cert.Kernel6Ideal.nD Cert.Kernel6Ideal.τ).loc Cert.Kernel6Ideal.main_v0_19)) (v20 : (c : Dev Cert.Kernel6Ideal.nD) → Buf (Elt Ideal) ((c.tc : Thread Cert.Kernel6Ideal.nD Cert.Kernel6Ideal.τ).loc Cert.Kernel6Ideal.main_v0_20)) (v21 : (c : Dev Cert.Kernel6Ideal.nD) → Buf (Elt Ideal) ((c.tc : Thread Cert.Kernel6Ideal.nD Cert.Kernel6Ideal.τ).loc Cert.Kernel6Ideal.main_v0_21)) (v22 : (c : Dev Cert.Kernel6Ideal.nD) → Buf (Elt Ideal) ((c.tc : Thread Cert.Kernel6Ideal.nD Cert.Kernel6Ideal.τ).loc Cert.Kernel6Ideal.main_v0_22)) (v23 : (c : Dev Cert.Kernel6Ideal.nD) → Buf (Elt Ideal) ((c.tc : Thread Cert.Kernel6Ideal.nD Cert.Kernel6Ideal.τ).loc Cert.Kernel6Ideal.main_v0_23)) (v24 : (c : Dev Cert.Kernel6Ideal.nD) → Buf (Elt Ideal) ((c.tc : Thread Cert.Kernel6Ideal.nD Cert.Kernel6Ideal.τ).loc Cert.Kernel6Ideal.main_v0_24)) (v25 : (c : Dev Cert.Kernel6Ideal.nD) → Buf (Elt Ideal) ((c.tc : Thread Cert.Kernel6Ideal.nD Cert.Kernel6Ideal.τ).loc Cert.Kernel6Ideal.main_v0_25)) (v26 : (c : Dev Cert.Kernel6Ideal.nD) → Buf (Elt Ideal) ((c.tc : Thread Cert.Kernel6Ideal.nD Cert.Kernel6Ideal.τ).loc Cert.Kernel6Ideal.main_v0_26)) (v27 : (c : Dev Cert.Kernel6Ideal.nD) → Buf (Elt Ideal) ((c.tc : Thread Cert.Kernel6Ideal.nD Cert.Kernel6Ideal.τ).loc Cert.Kernel6Ideal.main_v0_27)) (v28 : (c : Dev Cert.Kernel6Ideal.nD) → Buf (Elt Ideal) ((c.tc : Thread Cert.Kernel6Ideal.nD Cert.Kernel6Ideal.τ).loc Cert.Kernel6Ideal.main_v0_28)) (v29 : (c : Dev Cert.Kernel6Ideal.nD) → Buf (Elt Ideal) ((c.tc : Thread Cert.Kernel6Ideal.nD Cert.Kernel6Ideal.τ).loc Cert.Kernel6Ideal.main_v0_29)) (v30 : (c : Dev Cert.Kernel6Ideal.nD) → Buf (Elt Ideal) ((c.tc : Thread Cert.Kernel6Ideal.nD Cert.Kernel6Ideal.τ).loc Cert.Kernel6Ideal.main_v0_30)) (v31 : (c : Dev Cert.Kernel6Ideal.nD) → Buf (Elt Ideal) ((c.tc : Thread Cert.Kernel6Ideal.nD Cert.Kernel6Ideal.τ).loc Cert.Kernel6Ideal.main_v0_31)) (v32 : (c : Dev Cert.Kernel6Ideal.nD) → Buf (Elt Ideal) ((c.tc : Thread Cert.Kernel6Ideal.nD Cert.Kernel6Ideal.τ).loc Cert.Kernel6Ideal.main_v0_32)) (v33 : (c : Dev Cert.Kernel6Ideal.nD) → Buf (Elt Ideal) ((c.tc : Thread Cert.Kernel6Ideal.nD Cert.Kernel6Ideal.τ).loc Cert.Kernel6Ideal.main_v0_33)) (v34 : (c : Dev Cert.Kernel6Ideal.nD) → Buf (Elt Ideal) ((c.tc : Thread Cert.Kernel6Ideal.nD Cert.Kernel6Ideal.τ).loc Cert.Kernel6Ideal.main_v0_34)) (v35 : (c : Dev Cert.Kernel6Ideal.nD) → Buf (Elt Ideal) ((c.tc : Thread Cert.Kernel6Ideal.nD Cert.Kernel6Ideal.τ).loc Cert.Kernel6Ideal.main_v0_35)) (v36 : (c : Dev Cert.Kernel6Ideal.nD) → Buf (Elt Ideal) ((c.tc : Thread Cert.Kernel6Ideal.nD Cert.Kernel6Ideal.τ).loc Cert.Kernel6Ideal.main_v0_36)) (v37 : (c : Dev Cert.Kernel6Ideal.nD) → Buf (Elt Ideal) ((c.tc : Thread Cert.Kernel6Ideal.nD Cert.Kernel6Ideal.τ).loc Cert.Kernel6Ideal.main_v0_37)) (v38 : (c : Dev Cert.Kernel6Ideal.nD) → Buf (Elt Ideal) ((c.tc : Thread Cert.Kernel6Ideal.nD Cert.Kernel6Ideal.τ).loc Cert.Kernel6Ideal.main_v0_38)) (v39 : (c : Dev Cert.Kernel6Ideal.nD) → Buf (Elt Ideal) ((c.tc : Thread Cert.Kernel6Ideal.nD Cert.Kernel6Ideal.τ).loc Cert.Kernel6Ideal.main_v0_39)) (v40 : (c : Dev Cert.Kernel6Ideal.nD) → Buf (Elt Ideal) ((c.tc : Thread Cert.Kernel6Ideal.nD Cert.Kernel6Ideal.τ).loc Cert.Kernel6Ideal.main_v0_40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_v0_12) = v12 c
          ∧ r.2.mem ((c.tc : Thread Cert.Kernel6Ideal.nD Cert.Kernel6Ideal.τ).loc Cert.Kernel6Ideal.main_v0_13) = v13 c
          ∧ r.2.mem ((c.tc : Thread Cert.Kernel6Ideal.nD Cert.Kernel6Ideal.τ).loc Cert.Kernel6Ideal.main_v0_14) = v14 c
          ∧ r.2.mem ((c.tc : Thread Cert.Kernel6Ideal.nD Cert.Kernel6Ideal.τ).loc Cert.Kernel6Ideal.main_v0_15) = v15 c
          ∧ r.2.mem ((c.tc : Thread Cert.Kernel6Ideal.nD Cert.Kernel6Ideal.τ).loc Cert.Kernel6Ideal.main_v0_16) = v16 c
          ∧ r.2.mem ((c.tc : Thread Cert.Kernel6Ideal.nD Cert.Kernel6Ideal.τ).loc Cert.Kernel6Ideal.main_v0_17) = v17 c
          ∧ r.2.mem ((c.tc : Thread Cert.Kernel6Ideal.nD Cert.Kernel6Ideal.τ).loc Cert.Kernel6Ideal.main_v0_18) = v18 c
          ∧ r.2.mem ((c.tc : Thread Cert.Kernel6Ideal.nD Cert.Kernel6Ideal.τ).loc Cert.Kernel6Ideal.main_v0_19) = v19 c
          ∧ r.2.mem ((c.tc : Thread Cert.Kernel6Ideal.nD Cert.Kernel6Ideal.τ).loc Cert.Kernel6Ideal.main_v0_20) = v20 c
          ∧ r.2.mem ((c.tc : Thread Cert.Kernel6Ideal.nD Cert.Kernel6Ideal.τ).loc Cert.Kernel6Ideal.main_v0_21) = v21 c
          ∧ r.2.mem ((c.tc : Thread Cert.Kernel6Ideal.nD Cert.Kernel6Ideal.τ).loc Cert.Kernel6Ideal.main_v0_22) = v22 c
          ∧ r.2.mem ((c.tc : Thread Cert.Kernel6Ideal.nD Cert.Kernel6Ideal.τ).loc Cert.Kernel6Ideal.main_v0_23) = v23 c
          ∧ r.2.mem ((c.tc : Thread Cert.Kernel6Ideal.nD Cert.Kernel6Ideal.τ).loc Cert.Kernel6Ideal.main_v0_24) = v24 c
          ∧ r.2.mem ((c.tc : Thread Cert.Kernel6Ideal.nD Cert.Kernel6Ideal.τ).loc Cert.Kernel6Ideal.main_v0_25) = v25 c
          ∧ r.2.mem ((c.tc : Thread Cert.Kernel6Ideal.nD Cert.Kernel6Ideal.τ).loc Cert.Kernel6Ideal.main_v0_26) = v26 c
          ∧ r.2.mem ((c.tc : Thread Cert.Kernel6Ideal.nD Cert.Kernel6Ideal.τ).loc Cert.Kernel6Ideal.main_v0_27) = v27 c
          ∧ r.2.mem ((c.tc : Thread Cert.Kernel6Ideal.nD Cert.Kernel6Ideal.τ).loc Cert.Kernel6Ideal.main_v0_28) = v28 c
          ∧ r.2.mem ((c.tc : Thread Cert.Kernel6Ideal.nD Cert.Kernel6Ideal.τ).loc Cert.Kernel6Ideal.main_v0_29) = v29 c
          ∧ r.2.mem ((c.tc : Thread Cert.Kernel6Ideal.nD Cert.Kernel6Ideal.τ).loc Cert.Kernel6Ideal.main_v0_30) = v30 c
          ∧ r.2.mem ((c.tc : Thread Cert.Kernel6Ideal.nD Cert.Kernel6Ideal.τ).loc Cert.Kernel6Ideal.main_v0_31) = v31 c
          ∧ r.2.mem ((c.tc : Thread Cert.Kernel6Ideal.nD Cert.Kernel6Ideal.τ).loc Cert.Kernel6Ideal.main_v0_32) = v32 c
          ∧ r.2.mem ((c.tc : Thread Cert.Kernel6Ideal.nD Cert.Kernel6Ideal.τ).loc Cert.Kernel6Ideal.main_v0_33) = v33 c
          ∧ r.2.mem ((c.tc : Thread Cert.Kernel6Ideal.nD Cert.Kernel6Ideal.τ).loc Cert.Kernel6Ideal.main_v0_34) = v34 c
          ∧ r.2.mem ((c.tc : Thread Cert.Kernel6Ideal.nD Cert.Kernel6Ideal.τ).loc Cert.Kernel6Ideal.main_v0_35) = v35 c
          ∧ r.2.mem ((c.tc : Thread Cert.Kernel6Ideal.nD Cert.Kernel6Ideal.τ).loc Cert.Kernel6Ideal.main_v0_36) = v36 c
          ∧ r.2.mem ((c.tc : Thread Cert.Kernel6Ideal.nD Cert.Kernel6Ideal.τ).loc Cert.Kernel6Ideal.main_v0_37) = v37 c
          ∧ r.2.mem ((c.tc : Thread Cert.Kernel6Ideal.nD Cert.Kernel6Ideal.τ).loc Cert.Kernel6Ideal.main_v0_38) = v38 c
          ∧ r.2.mem ((c.tc : Thread Cert.Kernel6Ideal.nD Cert.Kernel6Ideal.τ).loc Cert.Kernel6Ideal.main_v0_39) = v39 c
          ∧ r.2.mem ((c.tc : Thread Cert.Kernel6Ideal.nD Cert.Kernel6Ideal.τ).loc Cert.Kernel6Ideal.main_v0_40) = v40 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v260) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v6) = v3 c
          ∧ r.2.mem ((c.tc : Thread Cert.Reference6Ideal.nD Cert.Reference6Ideal.τ).loc Cert.Reference6Ideal.main_v7) = v4 c
          ∧ r.2.mem ((c.tc : Thread Cert.Reference6Ideal.nD Cert.Reference6Ideal.τ).loc Cert.Reference6Ideal.main_v8) = v5 c
          ∧ r.2.mem ((c.tc : Thread Cert.Reference6Ideal.nD Cert.Reference6Ideal.τ).loc Cert.Reference6Ideal.main_v10) = v6 c
          ∧ r.2.mem ((c.tc : Thread Cert.Reference6Ideal.nD Cert.Reference6Ideal.τ).loc Cert.Reference6Ideal.main_v11) = v7 c
          ∧ r.2.mem ((c.tc : Thread Cert.Reference6Ideal.nD Cert.Reference6Ideal.τ).loc Cert.Reference6Ideal.main_v12) = v8 c
          ∧ r.2.mem ((c.tc : Thread Cert.Reference6Ideal.nD Cert.Reference6Ideal.τ).loc Cert.Reference6Ideal.main_v13) = v9 c
          ∧ r.2.mem ((c.tc : Thread Cert.Reference6Ideal.nD Cert.Reference6Ideal.τ).loc Cert.Reference6Ideal.main_v14) = v10 c
          ∧ r.2.mem ((c.tc : Thread Cert.Reference6Ideal.nD Cert.Reference6Ideal.τ).loc Cert.Reference6Ideal.main_v43) = v11 c
          ∧ r.2.mem ((c.tc : Thread Cert.Reference6Ideal.nD Cert.Reference6Ideal.τ).loc Cert.Reference6Ideal.main_v67) = v12 c
          ∧ r.2.mem ((c.tc : Thread Cert.Reference6Ideal.nD Cert.Reference6Ideal.τ).loc Cert.Reference6Ideal.main_v91) = v13 c
          ∧ r.2.mem ((c.tc : Thread Cert.Reference6Ideal.nD Cert.Reference6Ideal.τ).loc Cert.Reference6Ideal.main_v115) = v14 c
          ∧ r.2.mem ((c.tc : Thread Cert.Reference6Ideal.nD Cert.Reference6Ideal.τ).loc Cert.Reference6Ideal.main_v139) = v15 c
          ∧ r.2.mem ((c.tc : Thread Cert.Reference6Ideal.nD Cert.Reference6Ideal.τ).loc Cert.Reference6Ideal.main_v163) = v16 c
          ∧ r.2.mem ((c.tc : Thread Cert.Reference6Ideal.nD Cert.Reference6Ideal.τ).loc Cert.Reference6Ideal.main_v187) = v17 c
          ∧ r.2.mem ((c.tc : Thread Cert.Reference6Ideal.nD Cert.Reference6Ideal.τ).loc Cert.Reference6Ideal.main_v211) = v18 c
          ∧ r.2.mem ((c.tc : Thread Cert.Reference6Ideal.nD Cert.Reference6Ideal.τ).loc Cert.Reference6Ideal.main_v235) = v19 c
          ∧ r.2.mem ((c.tc : Thread Cert.Reference6Ideal.nD Cert.Reference6Ideal.τ).loc Cert.Reference6Ideal.main_v259) = v20 c
          ∧ r.2.mem ((c.tc : Thread Cert.Reference6Ideal.nD Cert.Reference6Ideal.τ).loc Cert.Reference6Ideal.main_v24) = v21 c
          ∧ r.2.mem ((c.tc : Thread Cert.Reference6Ideal.nD Cert.Reference6Ideal.τ).loc Cert.Reference6Ideal.main_v48) = v22 c
          ∧ r.2.mem ((c.tc : Thread Cert.Reference6Ideal.nD Cert.Reference6Ideal.τ).loc Cert.Reference6Ideal.main_v72) = v23 c
          ∧ r.2.mem ((c.tc : Thread Cert.Reference6Ideal.nD Cert.Reference6Ideal.τ).loc Cert.Reference6Ideal.main_v96) = v24 c
          ∧ r.2.mem ((c.tc : Thread Cert.Reference6Ideal.nD Cert.Reference6Ideal.τ).loc Cert.Reference6Ideal.main_v120) = v25 c
          ∧ r.2.mem ((c.tc : Thread Cert.Reference6Ideal.nD Cert.Reference6Ideal.τ).loc Cert.Reference6Ideal.main_v144) = v26 c
          ∧ r.2.mem ((c.tc : Thread Cert.Reference6Ideal.nD Cert.Reference6Ideal.τ).loc Cert.Reference6Ideal.main_v168) = v27 c
          ∧ r.2.mem ((c.tc : Thread Cert.Reference6Ideal.nD Cert.Reference6Ideal.τ).loc Cert.Reference6Ideal.main_v192) = v28 c
          ∧ r.2.mem ((c.tc : Thread Cert.Reference6Ideal.nD Cert.Reference6Ideal.τ).loc Cert.Reference6Ideal.main_v216) = v29 c
          ∧ r.2.mem ((c.tc : Thread Cert.Reference6Ideal.nD Cert.Reference6Ideal.τ).loc Cert.Reference6Ideal.main_v240) = v30 c
          ∧ r.2.mem ((c.tc : Thread Cert.Reference6Ideal.nD Cert.Reference6Ideal.τ).loc Cert.Reference6Ideal.main_v30) = v31 c
          ∧ r.2.mem ((c.tc : Thread Cert.Reference6Ideal.nD Cert.Reference6Ideal.τ).loc Cert.Reference6Ideal.main_v54) = v32 c
          ∧ r.2.mem ((c.tc : Thread Cert.Reference6Ideal.nD Cert.Reference6Ideal.τ).loc Cert.Reference6Ideal.main_v78) = v33 c
          ∧ r.2.mem ((c.tc : Thread Cert.Reference6Ideal.nD Cert.Reference6Ideal.τ).loc Cert.Reference6Ideal.main_v102) = v34 c
          ∧ r.2.mem ((c.tc : Thread Cert.Reference6Ideal.nD Cert.Reference6Ideal.τ).loc Cert.Reference6Ideal.main_v126) = v35 c
          ∧ r.2.mem ((c.tc : Thread Cert.Reference6Ideal.nD Cert.Reference6Ideal.τ).loc Cert.Reference6Ideal.main_v150) = v36 c
          ∧ r.2.mem ((c.tc : Thread Cert.Reference6Ideal.nD Cert.Reference6Ideal.τ).loc Cert.Reference6Ideal.main_v174) = v37 c
          ∧ r.2.mem ((c.tc : Thread Cert.Reference6Ideal.nD Cert.Reference6Ideal.τ).loc Cert.Reference6Ideal.main_v198) = v38 c
          ∧ r.2.mem ((c.tc : Thread Cert.Reference6Ideal.nD Cert.Reference6Ideal.τ).loc Cert.Reference6Ideal.main_v222) = v39 c
          ∧ r.2.mem ((c.tc : Thread Cert.Reference6Ideal.nD Cert.Reference6Ideal.τ).loc Cert.Reference6Ideal.main_v246) = v40 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024 .f32) (main_arg7 : FVec F S1x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x5632 .f32) (main_arg3 : FVec F S2816x1024 .f32) (main_arg4 : FVec F S1x1024 .f32) (main_arg5 : FVec F S1x1024 .f32) (main_arg6 : FVec F S1x1024 .f32) (main_arg7 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_arg6 main_arg7 main_v13 main_v16
-- ==== Pre_finite2.lean ====
abbrev S8192x1024 : Shape := ⟨2, ![8192, 1024]⟩
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1x1024x1536 : S_.BroadcastsInDim S1x1024x1536 (![] : Fin 0 → Fin S1x1024x1536.rank)
  reducesTo_S1x1024x1536_S_d0_1_2 : S1x1024x1536.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part2 {F : FTy → Type} [FloatOps F] (main_arg7 : FVec F S1x512 .f32) (main_arg8 : FVec F S1x4x128x128 .f32) (main_arg9 : FVec F S1x4x128 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x4x128x128 .f32 := Host.absf main_arg8
  let main_cst_14 : FVec F S_ .f32 := constant S_ .f32 0x7F800000#32
  let main_v40 : FVec F S1x4x128x128 .f32 := broadcastInDim S1x4x128x128 ![] bcast_S_S1x4x128x128 main_cst_14
  let main_v41 : IVec S1x4x128x128 1 := cmpf .olt main_v39 main_v40
  let main_c_15 : IVec S_ 1 := constantI S_ 1 1#1
  let main_v42 : IVec S_ 1 := (fun x v => Host.reduce IntOp.andi x v reducesTo_S1x4x128x128_S_d0_1_2_3 h_S_) main_v41 main_c_15
  let main_v43 : IVec S_ 1 := andi main_v38 main_v42
  let main_v44 : FVec F S1x4x128 .f32 := Host.absf main_arg9
  let main_cst_16 : FVec F S_ .f32 := constant S_ .f32 0x7F800000#32
  let main_v45 : FVec F S1x4x128 .f32 := broadcastInDim S1x4x128 ![] bcast_S_S1x4x128 main_cst_16
  let main_v46 : IVec S1x4x128 1 := cmpf .olt main_v44 main_v45
  let main_c_17 : IVec S_ 1 := constantI S_ 1 1#1
  let main_v47 : IVec S_ 1 := (fun x v => Host.reduce IntOp.andi x v reducesTo_S1x4x128_S_d0_1_2 h_S_) main_v46 main_c_17
  let main_v48 : IVec S_ 1 := andi main_v43 main_v47
  main_v48

def fn_part1 {F : FTy → Type} [FloatOps F] (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  let main_v19 : FVec F S1x4x128x128 .f32 := Host.absf main_arg4
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S4x2048x1024 .f32) (main_arg2 : FVec F S1x1024x1536 .f32) (main_arg3 : FVec F S1x1024x1024 .f32) (main_arg4 : FVec F S1x4x128x128 .f32) (main_arg5 : FVec F S1x512 .f32) (main_arg6 : FVec F S1x512 .f32) (main_arg7 : FVec F S1x512 .f32) (main_arg8 : FVec F S1x4x128x128 .f32) (main_arg9 : FVec F S1x4x128 .f32) (main_arg10 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1x1024x1536 .f32 := Host.absf main_arg2
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_c_3 : IVec S_ 1 := constantI S_ 1 1#1
  let main_v12 : IVec S_ 1 := (fun x v => Host.reduce IntOp.andi x v reducesTo_S1x1024x1536_S_d0_1_2 h_S_) main_v11 main_c_3
  let main_v13 : IVec S_ 1 := andi main_v8 main_v12
  let main_v14 : FVec F S1x1024x1024 .f32 := Host.absf main_arg3
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_arg4 main_arg5 main_arg6 main_arg7 main_arg8 main_arg9 main_v13 main_v16
-- ==== Pre_finite3.lean ====
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024x1536 : S_.BroadcastsInDim S1x1024x1536 (![] : Fin 0 → Fin S1x1024x1536.rank)
  reducesTo_S1x1024x1536_S_d0_1_2 : S1x1024x1536.ReducesTo [0, 1, 2] S_

variable [Facts]

def fn {F : FTy → Type} [FloatOps F] (main_arg0 : FVec F S4x2048x1024 .f32) (main_arg1 : FVec F S1x1024x1536 .f32) (main_arg2 : FVec F S1x1024x1024 .f32) (main_arg3 : FVec F S1x4x128x128 .f32) (main_arg4 : FVec F S1x512 .f32) (main_arg5 : FVec F S1x512 .f32) (main_arg6 : FVec F S1x512 .f32) (main_arg7 : FVec F S1x4x128x128 .f32) (main_arg8 : FVec F S1x4x128 .f32) (main_arg9 : FVec F S1x1024 .f32) (main_arg10 : FVec F S1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1024x1536 .f32 := Host.absf main_arg1
  let main_cst_0 : FVec F S_ .f32 := constant S_ .f32 0x7F800000#32
  let main_v5 : FVec F S1x1024x1536 .f32 := broadcastInDim S1x1024x1536 ![] bcast_S_S1x1024x1536 main_cst_0
  let main_v6 : IVec S1x1024x1536 1 := cmpf .olt main_v4 main_v5
  let main_c_1 : IVec S_ 1 := constantI S_ 1 1#1
  let main_v7 : IVec S_ 1 := (fun x v => Host.reduce IntOp.andi x v reducesTo_S1x1024x1536_S_d0_1_2 h_S_) main_v6 main_c_1
  let main_v8 : IVec S_ 1 := andi main_v3 main_v7
  main_v8
-- ==== Kernel.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩
abbrev S8192x3072 : Shape := ⟨2, ![8192, 3072]⟩
abbrev S8192x8448 : Shape := ⟨2, ![8192, 8448]⟩
abbrev S8x1024 : Shape := ⟨2, ![8, 1024]⟩
abbrev S256x1024 : Shape := ⟨2, ![256, 1024]⟩
abbrev S256x1 : Shape := ⟨2, ![256, 1]⟩
abbrev S256x3072 : Shape := ⟨2, ![256, 3072]⟩
abbrev S256x8448 : Shape := ⟨2, ![256, 8448]⟩
abbrev S256x5632 : Shape := ⟨2, ![256, 5632]⟩
abbrev S2 : Shape := ⟨1, ![2]⟩
abbrev S1 : Shape := ⟨1, ![1]⟩
abbrev S256x2816 : Shape := ⟨2, ![256, 2816]⟩
abbrev S256 : Shape := ⟨1, ![256]⟩
abbrev S1024 : Shape := ⟨1, ![1024]⟩

abbrev nBuf : Space → Nat
  | .hbm => 36
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S5632x1024, .f32⟩
  | .hbm, ⟨30, _⟩ => ⟨S5632x1024, .bf16⟩
  | .hbm, ⟨31, _⟩ => ⟨S2816x1024, .bf16⟩
  | .hbm, ⟨32, _⟩ => ⟨S8192x1024, .f32⟩
  | .hbm, ⟨33, _⟩ => ⟨S8192x3072, .bf16⟩
  | .hbm, ⟨34, _⟩ => ⟨S8192x8448, .bf16⟩
  | .hbm, ⟨35, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x3072, .bf16⟩
  | .local _ .vmem, ⟨13, _⟩ => ⟨S256x3072, .bf16⟩
  | .local _ .vmem, ⟨14, _⟩ => ⟨S256x8448, .bf16⟩
  | .local _ .vmem, ⟨15, _⟩ => ⟨S256x8448, .bf16⟩
  | .local _ .vmem, ⟨16, _⟩ => ⟨S8x1024, .f32⟩
  | .local _ .vmem, ⟨17, _⟩ => ⟨S5632x1024, .bf16⟩
  | .local _ .vmem, ⟨18, _⟩ => ⟨S2816x1024, .bf16⟩
  | .local _ .vmem, ⟨19, _⟩ => ⟨S256x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8448 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8192x3072 : Shape := ⟨2, ![8192, 3072]⟩
abbrev S8192x8448 : Shape := ⟨2, ![8192, 8448]⟩
abbrev S3x1024 : Shape := ⟨2, ![3, 1024]⟩
abbrev S8x1024 : Shape := ⟨2, ![8, 1024]⟩

abbrev nBuf : Space → Nat
  | .hbm => 234
  | .vmem => 0
  | .smem => 0
  | _ => 0

abbrev hbmTy0_0 (i : Nat) : BufTy := match i % 128 with
  | 0 => ⟨S8192x1024, .f32⟩
  | 1 => ⟨S8192x1024, .f32⟩
  | 2 => ⟨S1024x5632, .f32⟩
  | 3 => ⟨S2816x1024, .f32⟩
  | 4 => ⟨S1x1024, .f32⟩
  | 5 => ⟨S1x1024, .f32⟩
  | 6 => ⟨S1x1024, .f32⟩
  | 7 => ⟨S1x1024, .f32⟩
  | 8 => ⟨S_, .f32⟩
  | 9 => ⟨S8192x5632, .f32⟩
  | 10 => ⟨S_, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x5632, .f32⟩
  | 47 => ⟨S8192x5632, .f32⟩
  | 48 => ⟨S8192x2816, .f32⟩
  | 49 => ⟨S8192x2816, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S8192x2816, .f32⟩
  | 62 => ⟨S8192x2816, .f32⟩
  | 63 => ⟨S8192x2816, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192, .f32⟩
  | 111 => ⟨S_, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S1024, .f32⟩
  | 120 => ⟨S1x1024, .f32⟩
  | 121 => ⟨S_, .f32⟩
  | 122 => ⟨S_, .f32⟩
  | 123 => ⟨S_, .f32⟩
  | 124 => ⟨S8192, .f32⟩
  | 125 => ⟨S_, .f32⟩
  | 126 => ⟨S8192, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1024, .f32⟩
  | 17 => ⟨S8192x1, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192, .f32⟩
  | 40 => ⟨S8192x1024, .f32⟩
  | 41 => ⟨S8192x1024, .f32⟩
  | 42 => ⟨S8192x2816, .f32⟩
  | 43 => ⟨S_, .f32⟩
  | 44 => ⟨S8192x1024, .f32⟩
  | 45 => ⟨S8192x1024, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x2816, .f32⟩
  | 52 => ⟨S_, .f32⟩
  | 53 => ⟨S8192x5632, .f32⟩
  | 54 => ⟨S_, .f32⟩
  | 55 => ⟨S8192x5632, .f32⟩
  | 56 => ⟨S8192x5632, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S_, .f32⟩
  | 64 => ⟨S1024, .f32⟩
  | 65 => ⟨S1x1024, .f32⟩
  | 66 => ⟨S8192x1024, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S8192x1024, .f32⟩
  | 73 => ⟨S8192x1024, .f32⟩
  | 74 => ⟨S8192x1, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x1024, .f32⟩
  | 98 => ⟨S8192x1024, .f32⟩
  | 99 => ⟨S8192x3072, .f32⟩
  | 100 => ⟨S8192x3072, .bf16⟩
  | 101 => ⟨S8192x8448, .f32⟩
  | 102 => ⟨S8192x8448, .bf16⟩
  | 103 => ⟨S_, .f32⟩
  | 104 => ⟨S3x1024, .f32⟩
  | 105 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v33_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v33_1 : Ref sig .tc := ⟨.hbm, 61, rfl⟩
abbrev main_v33_0 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_cst_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_cst_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_cst_17 : Ref sig .tc := ⟨.hbm, 109, rfl⟩
abbrev main_v71 : Ref sig .tc := ⟨.hbm, 110, rfl⟩
abbrev main_cst_18 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_cst_20 : Ref sig .tc := ⟨.hbm, 116, rfl⟩
abbrev main_v75 : Ref sig .tc := ⟨.hbm, 117, rfl⟩
abbrev main_cst_21 : Ref sig .tc := ⟨.hbm, 118, rfl⟩
abbrev main_v76 : Ref sig .tc := ⟨.hbm, 119, rfl⟩
abbrev main_v77 : Ref sig .tc := ⟨.hbm, 120, rfl⟩
abbrev main_cst_22 : Ref sig .tc := ⟨.hbm, 121, rfl⟩
abbrev main_cst_23 : Ref sig .tc := ⟨.hbm, 122, rfl⟩
abbrev main_v78 : Ref sig .tc := ⟨.hbm, 123, rfl⟩
abbrev main_v79 : Ref sig .tc := ⟨.hbm, 124, rfl⟩
abbrev main_cst_24 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_25 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_26 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_27 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_28 : Ref sig .tc := ⟨.hbm, 147, rfl⟩
abbrev main_v98 : Ref sig .tc := ⟨.hbm, 148, rfl⟩
abbrev main_v99 : Ref sig .tc := ⟨.hbm, 149, rfl⟩
abbrev main_cst_29 : Ref sig .tc := ⟨.hbm, 150, rfl⟩
abbrev main_v100 : Ref sig .tc := ⟨.hbm, 151, rfl⟩
abbrev main_v101 : Ref sig .tc := ⟨.hbm, 152, rfl⟩
abbrev main_cst_30 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_31 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_32 : Ref sig .tc := ⟨.hbm, 163, rfl⟩
abbrev main_v110 : Ref sig .tc := ⟨.hbm, 164, rfl⟩
abbrev main_v111 : Ref sig .tc := ⟨.hbm, 165, rfl⟩
abbrev main_cst_33 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_34 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call1_v0 : Ref sig .tc := ⟨.hbm, 176, rfl⟩
abbrev main_call1_v1 : Ref sig .tc := ⟨.hbm, 177, rfl⟩
abbrev main_call1_v2 : Ref sig .tc := ⟨.hbm, 178, rfl⟩
abbrev main_v120 : Ref sig .tc := ⟨.hbm, 179, rfl⟩
abbrev main_cst_35 : Ref sig .tc := ⟨.hbm, 180, rfl⟩
abbrev main_v121 : Ref sig .tc := ⟨.hbm, 181, rfl⟩
abbrev main_cst_36 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_37 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_38 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_39 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_40 : Ref sig .tc := ⟨.hbm, 204, rfl⟩
abbrev main_v140 : Ref sig .tc := ⟨.hbm, 205, rfl⟩
abbrev main_v141 : Ref sig .tc := ⟨.hbm, 206, rfl⟩
abbrev main_cst_41 : Ref sig .tc := ⟨.hbm, 207, rfl⟩
abbrev main_v142 : Ref sig .tc := ⟨.hbm, 208, rfl⟩
abbrev main_v143 : Ref sig .tc := ⟨.hbm, 209, rfl⟩
abbrev main_cst_42 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_43 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_44 : Ref sig .tc := ⟨.hbm, 220, rfl⟩
abbrev main_v152 : Ref sig .tc := ⟨.hbm, 221, rfl⟩
abbrev main_v153 : Ref sig .tc := ⟨.hbm, 222, rfl⟩
abbrev main_cst_45 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_cst_46 : Ref sig .tc := ⟨.hbm, 231, rfl⟩
abbrev main_v161 : Ref sig .tc := ⟨.hbm, 232, rfl⟩
abbrev main_v162 : Ref sig .tc := ⟨.hbm, 233, rfl⟩

abbrev nD : Nat := 1
abbrev τ : Topo := Topo.v7x

variable {F : FTy → Type} [FloatOps F]
-- ==== Kernel2.lean ====
abbrev S8192x1024 : Shape := ⟨2, ![8192, 1024]⟩
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S8x1024 : Shape := ⟨2, ![8, 1024]⟩
abbrev S1024x1536 : Shape := ⟨2, ![1024, 1536]⟩
abbrev S1536x1024 : Shape := ⟨2, ![1536, 1024]⟩
abbrev S8192x1536 : Shape := ⟨2, ![8192, 1536]⟩
abbrev S1024x1024 : Shape := ⟨2, ![1024, 1024]⟩
abbrev S4x128x128 : Shape := ⟨3, ![4, 128, 128]⟩
abbrev S4x128 : Shape := ⟨2, ![4, 128]⟩
abbrev S128x4 : Shape := ⟨2, ![128, 4]⟩
abbrev S8x128x128 : Shape := ⟨3, ![8, 128, 128]⟩
abbrev S16x1024 : Shape := ⟨2, ![16, 1024]⟩
abbrev S16x512 : Shape := ⟨2, ![16, 512]⟩
abbrev S1024x512 : Shape := ⟨2, ![1024, 512]⟩
abbrev S512x1024 : Shape := ⟨2, ![512, 1024]⟩
abbrev S1024x1 : Shape := ⟨2, ![1024, 1]⟩
abbrev S16x1 : Shape := ⟨2, ![16, 1]⟩
abbrev S1x128x128 : Shape := ⟨3, ![1, 128, 128]⟩
abbrev S128x128 : Shape := ⟨2, ![128, 128]⟩
abbrev S1024x128 : Shape := ⟨2, ![1024, 128]⟩
abbrev S16x128 : Shape := ⟨2, ![16, 128]⟩
abbrev S1040x128 : Shape := ⟨2, ![1040, 128]⟩
abbrev S1x128 : Shape := ⟨2, ![1, 128]⟩
abbrev S128 : Shape := ⟨1, ![128]⟩
abbrev S1024 : Shape := ⟨1, ![1024]⟩
abbrev S128x1024 : Shape := ⟨2, ![128, 1024]⟩
abbrev S128x1 : Shape := ⟨2, ![128, 1]⟩
abbrev S8x128 : Shape := ⟨2, ![8, 128]⟩
abbrev S512 : Shape := ⟨1, ![512]⟩

abbrev nBuf : Space → Nat
  | .hbm => 27
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S1x1024x1536, .f32⟩
  | .hbm, ⟨3, _⟩ => ⟨S1x1024x1024, .f32⟩
  | .hbm, ⟨4, _⟩ => ⟨S1x4x128x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x4x128x128, .f32⟩
  | .hbm, ⟨9, _⟩ => ⟨S1x4x128, .f32⟩
  | .hbm, ⟨10, _⟩ => ⟨S8x1024, .f32⟩
  | .hbm, ⟨11, _⟩ => ⟨S1024x1536, .f32⟩
  | .hbm, ⟨12, _⟩ => ⟨S1536x1024, .f32⟩
  | .hbm, ⟨13, _⟩ => ⟨S1536x1024, .bf16⟩
  | .hbm, ⟨14, _⟩ => ⟨S8192x1024, .f32⟩
  | .hbm, ⟨15, _⟩ => ⟨S8192x1024, .bf16⟩
  | .hbm, ⟨16, _⟩ => ⟨S8192x1536, .f32⟩
  | .hbm, ⟨17, _⟩ => ⟨S1024x1024, .f32⟩
  | .hbm, ⟨18, _⟩ => ⟨S1024x1024, .bf16⟩
  | .hbm, ⟨19, _⟩ => ⟨S4x128x128, .f32⟩
  | .hbm, ⟨20, _⟩ => ⟨S4x128x128, .f32⟩
  | .hbm, ⟨21, _⟩ => ⟨S4x128, .f32⟩
  | .hbm, ⟨22, _⟩ => ⟨S128x4, .f32⟩
  | .hbm, ⟨23, _⟩ => ⟨S8192x1024, .f32⟩
  | .hbm, ⟨24, _⟩ => ⟨S8192x1536, .bf16⟩
  | .hbm, ⟨25, _⟩ => ⟨S8x128x128, .f32⟩
  | .hbm, ⟨26, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1536, .f32⟩
  | .local _ .vmem, ⟨5, _⟩ => ⟨S1024x1536, .f32⟩
  | .local _ .vmem, ⟨6, _⟩ => ⟨S16x512, .f32⟩
  | .local _ .vmem, ⟨7, _⟩ => ⟨S16x512, .f32⟩
  | .local _ .vmem, ⟨8, _⟩ => ⟨S1536x1024, .bf16⟩
  | .local _ .vmem, ⟨9, _⟩ => ⟨S1024x1024, .bf16⟩
  | .local _ .vmem, ⟨10, _⟩ => ⟨S4x128x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S128x4, .f32⟩
  | .local _ .vmem, ⟨16, _⟩ => ⟨S8x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1536, .bf16⟩
  | .local _ .vmem, ⟨20, _⟩ => ⟨S1024x1536, .bf16⟩
  | .local _ .vmem, ⟨21, _⟩ => ⟨S8x128x128, .f32⟩
  | .local _ .vmem, ⟨22, _⟩ => ⟨S16x1024, .f32⟩
  | .local _ .vmem, ⟨23, _⟩ => ⟨S1024x512, .f32⟩
  | .local _ .vmem, ⟨24, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2Ideal.lean ====
variable {F : FTy → Type} [FloatOps F] [Named F]
def κ : String → Option EReal := fun
  | "inv_root_two_pi" => some (((Real.sqrt (2 * Real.pi))⁻¹ : ℝ) : EReal)
  | "root_half" => some (((Real.sqrt 2)⁻¹ : ℝ) : EReal)
  | _ => none
-- ==== Reference2Ideal.lean ====
abbrev S8192x1024 : Shape := ⟨2, ![8192, 1024]⟩
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S8x1024 : Shape := ⟨2, ![8, 1024]⟩
abbrev S_ : Shape := ⟨0, ![]⟩
abbrev S4x2048x1536 : Shape := ⟨3, ![4, 2048, 1536]⟩
abbrev S1024x1536 : Shape := ⟨2, ![1024, 1536]⟩
abbrev S4x2048x512 : Shape := ⟨3, ![4, 2048, 512]⟩
abbrev S4x1x512 : Shape := ⟨3, ![4, 1, 512]⟩
abbrev S4x2049x512 : Shape := ⟨3, ![4, 2049, 512]⟩
abbrev S2048 : Shape := ⟨1, ![2048]⟩
abbrev S4x2049x128 : Shape := ⟨3, ![4, 2049, 128]⟩
abbrev S4x1x128 : Shape := ⟨3, ![4, 1, 128]⟩
abbrev S4x2050x128 : Shape := ⟨3, ![4, 2050, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2052x128 : Shape := ⟨3, ![4, 2052, 128]⟩
abbrev S4x7x128 : Shape := ⟨3, ![4, 7, 128]⟩
abbrev S4x2056x128 : Shape := ⟨3, ![4, 2056, 128]⟩
abbrev S4x15x128 : Shape := ⟨3, ![4, 15, 128]⟩
abbrev S4x2064x128 : Shape := ⟨3, ![4, 2064, 128]⟩
abbrev S4x2048x1x128 : Shape := ⟨4, ![4, 2048, 1, 128]⟩
abbrev S4x2048x4x128 : Shape := ⟨4, ![4, 2048, 4, 128]⟩
abbrev S4x128x128 : Shape := ⟨3, ![4, 128, 128]⟩
abbrev S4x128x4x2048 : Shape := ⟨4, ![4, 128, 4, 2048]⟩
abbrev S512 : Shape := ⟨1, ![512]⟩
abbrev S1x1x512 : Shape := ⟨3, ![1, 1, 512]⟩
abbrev S4x128 : Shape := ⟨2, ![4, 128]⟩
abbrev S4x2048 : Shape := ⟨2, ![4, 2048]⟩
abbrev S4x2048x1 : Shape := ⟨3, ![4, 2048, 1]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S4x4x2048x128 : Shape := ⟨4, ![4, 4, 2048, 128]⟩
abbrev S8x128x128 : Shape := ⟨3, ![8, 128, 128]⟩
abbrev S1x1024 : Shape := ⟨2, ![1, 1024]⟩
abbrev S4x1024 : Shape := ⟨2, ![4, 1024]⟩
abbrev S16x1024 : Shape := ⟨2, ![16, 1024]⟩
abbrev S8192x1536 : Shape := ⟨2, ![8192, 1536]⟩

abbrev nBuf : Space → Nat
  | .hbm => 420
  | .vmem => 0
  | .smem => 0
  | _ => 0

abbrev hbmTy0_0 (i : Nat) : BufTy := match i % 128 with
  | 0 => ⟨S8192x1024, .f32⟩
  | 1 => ⟨S4x2048x1024, .f32⟩
  | 2 => ⟨S1x1024x1536, .f32⟩
  | 3 => ⟨S1x1024x1024, .f32⟩
  | 4 => ⟨S1x4x128x128, .f32⟩
  | 5 => ⟨S1x512, .f32⟩
  | 6 => ⟨S1x512, .f32⟩
  | 7 => ⟨S1x512, .f32⟩
  | 8 => ⟨S1x4x128x128, .f32⟩
  | 9 => ⟨S1x4x128, .f32⟩
  | 10 => ⟨S8x1024, .f32⟩
  | 11 => ⟨S_, .f32⟩
  | 12 => ⟨S4x2048x1536, .f32⟩
  | 13 => ⟨S1024x1536, .f32⟩
  | 14 => ⟨S4x2048x1536, .f32⟩
  | 15 => ⟨S4x2048x1536, .f32⟩
  | 16 => ⟨S4x2048x512, .f32⟩
  | 17 => ⟨S4x2048x1024, .f32⟩
  | 18 => ⟨S_, .f32⟩
  | 19 => ⟨S4x2048x1024, .f32⟩
  | 20 => ⟨S4x2048x1024, .f32⟩
  | 21 => ⟨S4x2048x1024, .f32⟩
  | 22 => ⟨S_, .f32⟩
  | 23 => ⟨S_, .f32⟩
  | 24 => ⟨S4x2048x1024, .f32⟩
  | 25 => ⟨S4x2048x1024, .f32⟩
  | 26 => ⟨S_, .f32⟩
  | 27 => ⟨S_, .f32⟩
  | 28 => ⟨S_, .f32⟩
  | 29 => ⟨S_, .f32⟩
  | 30 => ⟨S4x2048x1024, .f32⟩
  | 31 => ⟨S_, .f32⟩
  | 32 => ⟨S_, .f32⟩
  | 33 => ⟨S_, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S_, .f32⟩
  | 41 => ⟨S4x1x512, .f32⟩
  | 42 => ⟨S_, .f32⟩
  | 43 => ⟨S_, .f32⟩
  | 44 => ⟨S4x2048x512, .f32⟩
  | 45 => ⟨S4x2049x512, .f32⟩
  | 46 => ⟨S_, .f32⟩
  | 47 => ⟨S4x1x512, .f32⟩
  | 48 => ⟨S2048, .i32⟩
  | 49 => ⟨S_, .i32⟩
  | 50 => ⟨S2048, .i32⟩
  | 51 => ⟨S2048, .i32⟩
  | 52 => ⟨S4x2049x128, .f32⟩
  | 53 => ⟨S_, .f32⟩
  | 54 => ⟨S4x1x128, .f32⟩
  | 55 => ⟨S4x2050x128, .f32⟩
  | 56 => ⟨S_, .f32⟩
  | 57 => ⟨S4x1x128, .f32⟩
  | 58 => ⟨S4x2048x128, .f32⟩
  | 59 => ⟨S_, .i32⟩
  | 60 => ⟨S2048, .i32⟩
  | 61 => ⟨S2048, .i32⟩
  | 62 => ⟨S2048, .f32⟩
  | 63 => ⟨S1x2048x1, .f32⟩
  | 64 => ⟨S4x2048x128, .f32⟩
  | 65 => ⟨S4x2048x128, .f32⟩
  | 66 => ⟨S4x2048x128, .f32⟩
  | 67 => ⟨S4x2048x128, .f32⟩
  | 68 => ⟨S4x2048x128, .f32⟩
  | 69 => ⟨S4x2048x128, .f32⟩
  | 70 => ⟨S4x2049x128, .f32⟩
  | 71 => ⟨S_, .f32⟩
  | 72 => ⟨S4x3x128, .f32⟩
  | 73 => ⟨S4x2052x128, .f32⟩
  | 74 => ⟨S_, .f32⟩
  | 75 => ⟨S4x3x128, .f32⟩
  | 76 => ⟨S4x2048x128, .f32⟩
  | 77 => ⟨S_, .i32⟩
  | 78 => ⟨S2048, .i32⟩
  | 79 => ⟨S2048, .i32⟩
  | 80 => ⟨S2048, .f32⟩
  | 81 => ⟨S1x2048x1, .f32⟩
  | 82 => ⟨S4x2048x128, .f32⟩
  | 83 => ⟨S4x2048x128, .f32⟩
  | 84 => ⟨S4x2048x128, .f32⟩
  | 85 => ⟨S4x2048x128, .f32⟩
  | 86 => ⟨S4x2048x128, .f32⟩
  | 87 => ⟨S4x2048x128, .f32⟩
  | 88 => ⟨S4x2049x128, .f32⟩
  | 89 => ⟨S_, .f32⟩
  | 90 => ⟨S4x7x128, .f32⟩
  | 91 => ⟨S4x2056x128, .f32⟩
  | 92 => ⟨S_, .f32⟩
  | 93 => ⟨S4x7x128, .f32⟩
  | 94 => ⟨S4x2048x128, .f32⟩
  | 95 => ⟨S_, .i32⟩
  | 96 => ⟨S2048, .i32⟩
  | 97 => ⟨S2048, .i32⟩
  | 98 => ⟨S2048, .f32⟩
  | 99 => ⟨S1x2048x1, .f32⟩
  | 100 => ⟨S4x2048x128, .f32⟩
  | 101 => ⟨S4x2048x128, .f32⟩
  | 102 => ⟨S4x2048x128, .f32⟩
  | 103 => ⟨S4x2048x128, .f32⟩
  | 104 => ⟨S4x2048x128, .f32⟩
  | 105 => ⟨S4x2048x128, .f32⟩
  | 106 => ⟨S4x2049x128, .f32⟩
  | 107 => ⟨S_, .f32⟩
  | 108 => ⟨S4x15x128, .f32⟩
  | 109 => ⟨S4x2064x128, .f32⟩
  | 110 => ⟨S_, .f32⟩
  | 111 => ⟨S4x15x128, .f32⟩
  | 112 => ⟨S4x2048x128, .f32⟩
  | 113 => ⟨S_, .i32⟩
  | 114 => ⟨S2048, .i32⟩
  | 115 => ⟨S2048, .i32⟩
  | 116 => ⟨S2048, .f32⟩
  | 117 => ⟨S1x2048x1, .f32⟩
  | 118 => ⟨S4x2048x128, .f32⟩
  | 119 => ⟨S4x2048x128, .f32⟩
  | 120 => ⟨S4x2048x128, .f32⟩
  | 121 => ⟨S4x2048x128, .f32⟩
  | 122 => ⟨S4x2048x128, .f32⟩
  | 123 => ⟨S4x2048x128, .f32⟩
  | 124 => ⟨S4x2048x1x128, .f32⟩
  | 125 => ⟨S4x2048x1x128, .f32⟩
  | 126 => ⟨S4x2048x1x128, .f32⟩
  | 127 => ⟨S4x2048x1x128, .f32⟩
  | _ => ⟨S8192x1024, .f32⟩

abbrev hbmTy0_1 (i : Nat) : BufTy := match i % 128 with
  | 0 => ⟨S4x2048x4x128, .f32⟩
  | 1 => ⟨S4x128x128, .f32⟩
  | 2 => ⟨S4x128x4x2048, .f32⟩
  | 3 => ⟨S4x2048x4x128, .f32⟩
  | 4 => ⟨S4x2048x512, .f32⟩
  | 5 => ⟨S512, .f32⟩
  | 6 => ⟨S1x1x512, .f32⟩
  | 7 => ⟨S4x2048x512, .f32⟩
  | 8 => ⟨S4x2048x512, .f32⟩
  | 9 => ⟨S512, .f32⟩
  | 10 => ⟨S512, .f32⟩
  | 11 => ⟨S4x128x128, .f32⟩
  | 12 => ⟨S4x128, .f32⟩
  | 13 => ⟨S4x2048x512, .f32⟩
  | 14 => ⟨S4x2048x512, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x512, .f32⟩
  | 22 => ⟨S4x2048x512, .f32⟩
  | 23 => ⟨S4x2048x512, .f32⟩
  | 24 => ⟨S_, .f32⟩
  | 25 => ⟨S4x2048x512, .f32⟩
  | 26 => ⟨S4x2048x512, .f32⟩
  | 27 => ⟨S_, .f32⟩
  | 28 => ⟨S4x2048, .f32⟩
  | 29 => ⟨S4x2048x1, .f32⟩
  | 30 => ⟨S_, .f32⟩
  | 31 => ⟨S4x2048x1, .f32⟩
  | 32 => ⟨S4x2048x1, .f32⟩
  | 33 => ⟨S4x2048x512, .f32⟩
  | 34 => ⟨S4x2048x512, .f32⟩
  | 35 => ⟨S_, .f32⟩
  | 36 => ⟨S4x2048x1, .f32⟩
  | 37 => ⟨S4x2048x1, .f32⟩
  | 38 => ⟨S4x2048x1, .f32⟩
  | 39 => ⟨S4x2048x1, .f32⟩
  | 40 => ⟨S_, .f32⟩
  | 41 => ⟨S4x2048x1, .f32⟩
  | 42 => ⟨S4x2048x1, .f32⟩
  | 43 => ⟨S4x2048x512, .f32⟩
  | 44 => ⟨S4x2048x512, .f32⟩
  | 45 => ⟨S1x1x512, .f32⟩
  | 46 => ⟨S4x2048x512, .f32⟩
  | 47 => ⟨S4x2048x512, .f32⟩
  | 48 => ⟨S1x1x512, .f32⟩
  | 49 => ⟨S4x2048x512, .f32⟩
  | 50 => ⟨S4x2048x512, .f32⟩
  | 51 => ⟨S4x16x128x4x128, .f32⟩
  | 52 => ⟨S_, .f32⟩
  | 53 => ⟨S128x128, .f32⟩
  | 54 => ⟨S128x128, .i32⟩
  | 55 => ⟨S_, .i32⟩
  | 56 => ⟨S128x128, .i32⟩
  | 57 => ⟨S128x128, .i32⟩
  | 58 => ⟨S128x128, .i32⟩
  | 59 => ⟨S128x128, .i1⟩
  | 60 => ⟨S_, .f32⟩
  | 61 => ⟨S128x128, .f32⟩
  | 62 => ⟨S128x128, .f32⟩
  | 63 => ⟨S1x128x128, .f32⟩
  | 64 => ⟨S4x128x128, .f32⟩
  | 65 => ⟨S4x128x128, .f32⟩
  | 66 => ⟨S4x4x16x128x128, .f32⟩
  | 67 => ⟨S4x16x128x4x128, .f32⟩
  | 68 => ⟨S128x4, .f32⟩
  | 69 => ⟨S1x1x128x4x1, .f32⟩
  | 70 => ⟨S4x16x128x4x128, .f32⟩
  | 71 => ⟨S4x16x128x4x128, .f32⟩
  | 72 => ⟨S4x2048x512, .f32⟩
  | 73 => ⟨S4x2048x512, .f32⟩
  | 74 => ⟨S4x2048x1024, .f32⟩
  | 75 => ⟨S_, .f32⟩
  | 76 => ⟨S4x2048x1024, .f32⟩
  | 77 => ⟨S4x2048x1024, .f32⟩
  | 78 => ⟨S1024x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S_, .f32⟩
  | 84 => ⟨S4x2048x1024, .f32⟩
  | 85 => ⟨S4x2048x1024, .f32⟩
  | 86 => ⟨S4x2048x512, .f32⟩
  | 87 => ⟨S4x2048x512, .f32⟩
  | 88 => ⟨S4x2048x512, .f32⟩
  | 89 => ⟨S4x2048x512, .f32⟩
  | 90 => ⟨S4x16x128x4x128, .f32⟩
  | 91 => ⟨S_, .f32⟩
  | 92 => ⟨S128x4, .f32⟩
  | 93 => ⟨S1x1x128x4x1, .f32⟩
  | 94 => ⟨S_, .f32⟩
  | 95 => ⟨S128x4, .f32⟩
  | 96 => ⟨S4x128, .f32⟩
  | 97 => ⟨S4x4x16x128x128, .f32⟩
  | 98 => ⟨S4x128x128, .f32⟩
  | 99 => ⟨S4x4x16x128x128, .f32⟩
  | 100 => ⟨S4x16x128x4x128, .f32⟩
  | 101 => ⟨S4x128x128, .f32⟩
  | 102 => ⟨S4x128x128, .f32⟩
  | 103 => ⟨S4x2048x512, .f32⟩
  | 104 => ⟨S_, .f32⟩
  | 105 => ⟨S512, .f32⟩
  | 106 => ⟨S1x1x512, .f32⟩
  | 107 => ⟨S_, .f32⟩
  | 108 => ⟨S512, .f32⟩
  | 109 => ⟨S4x2048x512, .f32⟩
  | 110 => ⟨S_, .f32⟩
  | 111 => ⟨S512, .f32⟩
  | 112 => ⟨S1x1x512, .f32⟩
  | 113 => ⟨S4x2048x512, .f32⟩
  | 114 => ⟨S4x2048x512, .f32⟩
  | 115 => ⟨S_, .f32⟩
  | 116 => ⟨S512, .f32⟩
  | 117 => ⟨S4x2048x512, .f32⟩
  | 118 => ⟨S_, .f32⟩
  | 119 => ⟨S4x2048, .f32⟩
  | 120 => ⟨S4x2048x1, .f32⟩
  | 121 => ⟨S4x2048x512, .f32⟩
  | 122 => ⟨S4x2048x512, .f32⟩
  | 123 => ⟨S4x2048x1, .f32⟩
  | 124 => ⟨S4x2048x512, .f32⟩
  | 125 => ⟨S_, .f32⟩
  | 126 => ⟨S4x2048, .f32⟩
  | 127 => ⟨S4x2048x1, .f32⟩
  | _ => ⟨S8192x1024, .f32⟩

abbrev hbmTy0_2 (i : Nat) : BufTy := match i % 128 with
  | 0 => ⟨S_, .f32⟩
  | 1 => ⟨S4x2048x1, .f32⟩
  | 2 => ⟨S4x2048x1, .f32⟩
  | 3 => ⟨S_, .f32⟩
  | 4 => ⟨S4x2048, .f32⟩
  | 5 => ⟨S4x2048x512, .f32⟩
  | 6 => ⟨S4x2048x512, .f32⟩
  | 7 => ⟨S4x2048x512, .f32⟩
  | 8 => ⟨S_, .f32⟩
  | 9 => ⟨S4x2048, .f32⟩
  | 10 => ⟨S4x2048x1, .f32⟩
  | 11 => ⟨S4x2048x512, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048, .f32⟩
  | 18 => ⟨S4x2048x512, .f32⟩
  | 19 => ⟨S4x2048x512, .f32⟩
  | 20 => ⟨S_, .f32⟩
  | 21 => ⟨S4x2048x1024, .f32⟩
  | 22 => ⟨S_, .f32⟩
  | 23 => ⟨S4x2048x1024, .f32⟩
  | 24 => ⟨S4x2048x1024, .f32⟩
  | 25 => ⟨S1x4x128, .f32⟩
  | 26 => ⟨S1x4x128x128, .f32⟩
  | 27 => ⟨S1x512, .f32⟩
  | 28 => ⟨S1x512, .f32⟩
  | 29 => ⟨S4x2048x512, .f32⟩
  | 30 => ⟨S_, .f32⟩
  | 31 => ⟨S512, .f32⟩
  | 32 => ⟨S1x1x512, .f32⟩
  | 33 => ⟨S4x2048x512, .f32⟩
  | 34 => ⟨S4x2048x512, .f32⟩
  | 35 => ⟨S_, .f32⟩
  | 36 => ⟨S512, .f32⟩
  | 37 => ⟨S1x512, .f32⟩
  | 38 => ⟨S4x2048x4x128, .f32⟩
  | 39 => ⟨S4x128x4x2048, .f32⟩
  | 40 => ⟨S4x4x2048x128, .f32⟩
  | 41 => ⟨S4x2048x4x128, .f32⟩
  | 42 => ⟨S4x128x128, .f32⟩
  | 43 => ⟨S4x128x128, .f32⟩
  | 44 => ⟨S1x4x128x128, .f32⟩
  | 45 => ⟨S4x2048x1x128, .f32⟩
  | 46 => ⟨S4x2048x128, .f32⟩
  | 47 => ⟨S4x2048x1x128, .f32⟩
  | 48 => ⟨S4x2048x128, .f32⟩
  | 49 => ⟨S4x2048x1x128, .f32⟩
  | 50 => ⟨S4x2048x128, .f32⟩
  | 51 => ⟨S4x2048x1x128, .f32⟩
  | 52 => ⟨S4x2048x128, .f32⟩
  | 53 => ⟨S4x2048x128, .f32⟩
  | 54 => ⟨S_, .f32⟩
  | 55 => ⟨S4x2048x512, .f32⟩
  | 56 => ⟨S4x2048x128, .f32⟩
  | 57 => ⟨S4x2048x128, .f32⟩
  | 58 => ⟨S4x2048x128, .f32⟩
  | 59 => ⟨S_, .f32⟩
  | 60 => ⟨S4x2049x128, .f32⟩
  | 61 => ⟨S_, .f32⟩
  | 62 => ⟨S4x2064x128, .f32⟩
  | 63 => ⟨S4x15x128, .f32⟩
  | 64 => ⟨S4x2049x128, .f32⟩
  | 65 => ⟨S4x2049x128, .f32⟩
  | 66 => ⟨S_, .f32⟩
  | 67 => ⟨S4x2049x512, .f32⟩
  | 68 => ⟨S4x2048x128, .f32⟩
  | 69 => ⟨S_, .f32⟩
  | 70 => ⟨S4x2048x512, .f32⟩
  | 71 => ⟨S4x2048x512, .f32⟩
  | 72 => ⟨S4x2048x128, .f32⟩
  | 73 => ⟨S4x2048x128, .f32⟩
  | 74 => ⟨S4x2048x128, .f32⟩
  | 75 => ⟨S_, .f32⟩
  | 76 => ⟨S4x2049x128, .f32⟩
  | 77 => ⟨S_, .f32⟩
  | 78 => ⟨S4x2056x128, .f32⟩
  | 79 => ⟨S4x7x128, .f32⟩
  | 80 => ⟨S4x2049x128, .f32⟩
  | 81 => ⟨S4x2049x128, .f32⟩
  | 82 => ⟨S_, .f32⟩
  | 83 => ⟨S4x2049x512, .f32⟩
  | 84 => ⟨S4x2049x512, .f32⟩
  | 85 => ⟨S4x2048x128, .f32⟩
  | 86 => ⟨S_, .f32⟩
  | 87 => ⟨S4x2048x512, .f32⟩
  | 88 => ⟨S4x2048x512, .f32⟩
  | 89 => ⟨S4x2048x128, .f32⟩
  | 90 => ⟨S4x2048x128, .f32⟩
  | 91 => ⟨S4x2048x128, .f32⟩
  | 92 => ⟨S_, .f32⟩
  | 93 => ⟨S4x2049x128, .f32⟩
  | 94 => ⟨S_, .f32⟩
  | 95 => ⟨S4x2052x128, .f32⟩
  | 96 => ⟨S4x3x128, .f32⟩
  | 97 => ⟨S4x2049x128, .f32⟩
  | 98 => ⟨S4x2049x128, .f32⟩
  | 99 => ⟨S_, .f32⟩
  | 100 => ⟨S4x2049x512, .f32⟩
  | 101 => ⟨S4x2049x512, .f32⟩
  | 102 => ⟨S4x2048x128, .f32⟩
  | 103 => ⟨S_, .f32⟩
  | 104 => ⟨S4x2048x512, .f32⟩
  | 105 => ⟨S4x2048x512, .f32⟩
  | 106 => ⟨S4x2048x128, .f32⟩
  | 107 => ⟨S4x2048x128, .f32⟩
  | 108 => ⟨S4x2048x128, .f32⟩
  | 109 => ⟨S_, .f32⟩
  | 110 => ⟨S4x2049x128, .f32⟩
  | 111 => ⟨S_, .f32⟩
  | 112 => ⟨S4x2050x128, .f32⟩
  | 113 => ⟨S4x1x128, .f32⟩
  | 114 => ⟨S4x2049x128, .f32⟩
  | 115 => ⟨S4x2049x128, .f32⟩
  | 116 => ⟨S_, .f32⟩
  | 117 => ⟨S4x2049x512, .f32⟩
  | 118 => ⟨S4x2049x512, .f32⟩
  | 119 => ⟨S4x1x512, .f32⟩
  | 120 => ⟨S4x2048x512, .f32⟩
  | 121 => ⟨S_, .f32⟩
  | 122 => ⟨S_, .f32⟩
  | 123 => ⟨S4x2048x512, .f32⟩
  | 124 => ⟨S4x2048x512, .f32⟩
  | 125 => ⟨S4x2048x1024, .f32⟩
  | 126 => ⟨S4x2048x1024, .f32⟩
  | 127 => ⟨S4x2048x1024, .f32⟩
  | _ => ⟨S8192x1024, .f32⟩

abbrev hbmTy0_3 (i : Nat) : BufTy := match i % 128 with
  | 0 => ⟨S4x2048x1024, .f32⟩
  | 1 => ⟨S4x2048x1024, .f32⟩
  | 2 => ⟨S4x2048x1024, .f32⟩
  | 3 => ⟨S_, .f32⟩
  | 4 => ⟨S4x2048x1024, .f32⟩
  | 5 => ⟨S4x2048x1024, .f32⟩
  | 6 => ⟨S4x2048x1024, .f32⟩
  | 7 => ⟨S_, .f32⟩
  | 8 => ⟨S4x2048x1536, .f32⟩
  | 9 => ⟨S_, .f32⟩
  | 10 => ⟨S4x2048x1536, .f32⟩
  | 11 => ⟨S4x2048x1536, .f32⟩
  | 12 => ⟨S4x2048x1024, .f32⟩
  | 13 => ⟨S4x2048x1024, .f32⟩
  | 14 => ⟨S4x128x128, .f32⟩
  | 15 => ⟨S4x128x128, .f32⟩
  | 16 => ⟨S8x128x128, .f32⟩
  | 17 => ⟨S_, .i32⟩
  | 18 => ⟨S_, .f32⟩
  | 19 => ⟨S1x1024, .f32⟩
  | 20 => ⟨S_, .i32⟩
  | 21 => ⟨S_, .f32⟩
  | 22 => ⟨S1x1024, .f32⟩
  | 23 => ⟨S_, .i32⟩
  | 24 => ⟨S_, .f32⟩
  | 25 => ⟨S1x1024, .f32⟩
  | 26 => ⟨S4x128, .f32⟩
  | 27 => ⟨S_, .i32⟩
  | 28 => ⟨S_, .f32⟩
  | 29 => ⟨S4x1024, .f32⟩
  | 30 => ⟨S_, .f32⟩
  | 31 => ⟨S1x1024, .f32⟩
  | 32 => ⟨S16x1024, .f32⟩
  | 33 => ⟨S8192x1024, .f32⟩
  | 34 => ⟨S8192x1536, .f32⟩
  | 35 => ⟨S8192x1536, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_call0_call0_cst : Ref sig .tc := ⟨.hbm, 42, rfl⟩
abbrev main_call0_call0_v0 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_19 : Ref sig .tc := ⟨.hbm, 143, rfl⟩
abbrev main_v109 : Ref sig .tc := ⟨.hbm, 144, rfl⟩
abbrev main_v110 : Ref sig .tc := ⟨.hbm, 145, rfl⟩
abbrev main_cst_20 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_21 : Ref sig .tc := ⟨.hbm, 152, rfl⟩
abbrev main_v116 : Ref sig .tc := ⟨.hbm, 153, rfl⟩
abbrev main_v117 : Ref sig .tc := ⟨.hbm, 154, rfl⟩
abbrev main_cst_22 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_24 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_25 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_26 : Ref sig .tc := ⟨.hbm, 180, rfl⟩
abbrev main_v139 : Ref sig .tc := ⟨.hbm, 181, rfl⟩
abbrev main_call1_v0 : Ref sig .tc := ⟨.hbm, 182, rfl⟩
abbrev main_call1_c : Ref sig .tc := ⟨.hbm, 183, rfl⟩
abbrev main_call1_v1 : Ref sig .tc := ⟨.hbm, 184, rfl⟩
abbrev main_call1_v2 : Ref sig .tc := ⟨.hbm, 185, rfl⟩
abbrev main_call1_v3 : Ref sig .tc := ⟨.hbm, 186, rfl⟩
abbrev main_call1_v4 : Ref sig .tc := ⟨.hbm, 187, rfl⟩
abbrev main_call1_cst : Ref sig .tc := ⟨.hbm, 188, rfl⟩
abbrev main_call1_v5 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_27 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_28 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_29 : Ref sig .tc := ⟨.hbm, 219, rfl⟩
abbrev main_v167 : Ref sig .tc := ⟨.hbm, 220, rfl⟩
abbrev main_v168 : Ref sig .tc := ⟨.hbm, 221, rfl⟩
abbrev main_cst_30 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_31 : Ref sig .tc := ⟨.hbm, 232, rfl⟩
abbrev main_v178 : Ref sig .tc := ⟨.hbm, 233, rfl⟩
abbrev main_v179 : Ref sig .tc := ⟨.hbm, 234, rfl⟩
abbrev main_cst_32 : Ref sig .tc := ⟨.hbm, 235, rfl⟩
abbrev main_v180 : Ref sig .tc := ⟨.hbm, 236, rfl⟩
abbrev main_v181 : Ref sig .tc := ⟨.hbm, 237, rfl⟩
abbrev main_cst_33 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_34 : Ref sig .tc := ⟨.hbm, 243, rfl⟩
abbrev main_v186 : Ref sig .tc := ⟨.hbm, 244, rfl⟩
abbrev main_v187 : Ref sig .tc := ⟨.hbm, 245, rfl⟩
abbrev main_cst_35 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_36 : Ref sig .tc := ⟨.hbm, 253, rfl⟩
abbrev main_v194 : Ref sig .tc := ⟨.hbm, 254, rfl⟩
abbrev main_v195 : Ref sig .tc := ⟨.hbm, 255, rfl⟩
abbrev main_cst_37 : Ref sig .tc := ⟨.hbm, 256, rfl⟩
abbrev main_v196 : Ref sig .tc := ⟨.hbm, 257, rfl⟩
abbrev main_v197 : Ref sig .tc := ⟨.hbm, 258, rfl⟩
abbrev main_cst_38 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_39 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_cst_40 : Ref sig .tc := ⟨.hbm, 269, rfl⟩
abbrev main_v206 : Ref sig .tc := ⟨.hbm, 270, rfl⟩
abbrev main_v207 : Ref sig .tc := ⟨.hbm, 271, rfl⟩
abbrev main_cst_41 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_42 : Ref sig .tc := ⟨.hbm, 276, rfl⟩
abbrev main_v211 : Ref sig .tc := ⟨.hbm, 277, rfl⟩
abbrev main_cst_43 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_44 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_45 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_cst_46 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_cst_47 : Ref sig .tc := ⟨.hbm, 315, rfl⟩
abbrev main_v245 : Ref sig .tc := ⟨.hbm, 316, rfl⟩
abbrev main_cst_48 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_cst_49 : Ref sig .tc := ⟨.hbm, 322, rfl⟩
abbrev main_v250 : Ref sig .tc := ⟨.hbm, 323, rfl⟩
abbrev main_v251 : Ref sig .tc := ⟨.hbm, 324, rfl⟩
abbrev main_cst_50 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_cst_51 : Ref sig .tc := ⟨.hbm, 331, rfl⟩
abbrev main_v257 : Ref sig .tc := ⟨.hbm, 332, rfl⟩
abbrev main_cst_52 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_cst_53 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_cst_54 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_cst_55 : Ref sig .tc := ⟨.hbm, 348, rfl⟩
abbrev main_v270 : Ref sig .tc := ⟨.hbm, 349, rfl⟩
abbrev main_cst_56 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_cst_57 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_cst_58 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_cst_59 : Ref sig .tc := ⟨.hbm, 365, rfl⟩
abbrev main_v283 : Ref sig .tc := ⟨.hbm, 366, rfl⟩
abbrev main_cst_60 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_cst_61 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_call2_call0_cst : Ref sig .tc := ⟨.hbm, 377, rfl⟩
abbrev main_call2_call0_v0 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_cst_62 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_cst_63 : Ref sig .tc := ⟨.hbm, 391, rfl⟩
abbrev main_v303 : Ref sig .tc := ⟨.hbm, 392, rfl⟩
abbrev main_cst_64 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_c_65 : Ref sig .tc := ⟨.hbm, 401, rfl⟩
abbrev main_call3_v0 : Ref sig .tc := ⟨.hbm, 402, rfl⟩
abbrev main_v311 : Ref sig .tc := ⟨.hbm, 403, rfl⟩
abbrev main_c_66 : Ref sig .tc := ⟨.hbm, 404, rfl⟩
abbrev main_call4_v0 : Ref sig .tc := ⟨.hbm, 405, rfl⟩
abbrev main_v312 : Ref sig .tc := ⟨.hbm, 406, rfl⟩
abbrev main_c_67 : Ref sig .tc := ⟨.hbm, 407, rfl⟩
abbrev main_call5_v0 : Ref sig .tc := ⟨.hbm, 408, rfl⟩
abbrev main_v313 : Ref sig .tc := ⟨.hbm, 409, rfl⟩
abbrev main_v314 : Ref sig .tc := ⟨.hbm, 410, rfl⟩
abbrev main_c_68 : Ref sig .tc := ⟨.hbm, 411, rfl⟩
abbrev main_call6_v0 : Ref sig .tc := ⟨.hbm, 412, rfl⟩
abbrev main_v315 : Ref sig .tc := ⟨.hbm, 413, rfl⟩
abbrev main_cst_69 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩

abbrev nD : Nat := 1
abbrev τ : Topo := Topo.v7x

variable {F : FTy → Type} [FloatOps F]
-- ==== Kernel3.lean ====
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩
abbrev S4x128x128 : Shape := ⟨3, ![4, 128, 128]⟩
abbrev S4x128 : Shape := ⟨2, ![4, 128]⟩
abbrev S128x4 : Shape := ⟨2, ![128, 4]⟩
abbrev S8192x1536 : Shape := ⟨2, ![8192, 1536]⟩
abbrev S8192x1 : Shape := ⟨2, ![8192, 1]⟩
abbrev S512x1024 : Shape := ⟨2, ![512, 1024]⟩
abbrev S16x1024 : Shape := ⟨2, ![16, 1024]⟩
abbrev S512x1536 : Shape := ⟨2, ![512, 1536]⟩
abbrev S512x1 : Shape := ⟨2, ![512, 1]⟩
abbrev S16x512 : Shape := ⟨2, ![16, 512]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x512 : Shape := ⟨2, ![512, 512]⟩
abbrev S512 : Shape := ⟨1, ![512]⟩
abbrev S128x512 : Shape := ⟨2, ![128, 512]⟩
abbrev S128x1 : Shape := ⟨2, ![128, 1]⟩

abbrev nBuf : Space → Nat
  | .hbm => 26
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1x1024x1536, .f32⟩
  | .hbm, ⟨2, _⟩ => ⟨S1x1024x1024, .f32⟩
  | .hbm, ⟨3, _⟩ => ⟨S1x4x128x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x4x128, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S1024x1536, .f32⟩
  | .hbm, ⟨13, _⟩ => ⟨S1536x1024, .f32⟩
  | .hbm, ⟨14, _⟩ => ⟨S1536x1024, .bf16⟩
  | .hbm, ⟨15, _⟩ => ⟨S1024x1024, .f32⟩
  | .hbm, ⟨16, _⟩ => ⟨S1024x1024, .bf16⟩
  | .hbm, ⟨17, _⟩ => ⟨S4x128x128, .f32⟩
  | .hbm, ⟨18, _⟩ => ⟨S4x128x128, .f32⟩
  | .hbm, ⟨19, _⟩ => ⟨S4x128, .f32⟩
  | .hbm, ⟨20, _⟩ => ⟨S128x4, .f32⟩
  | .hbm, ⟨21, _⟩ => ⟨S8192x1536, .f32⟩
  | .hbm, ⟨22, _⟩ => ⟨S8192x1024, .f32⟩
  | .hbm, ⟨23, _⟩ => ⟨S8192x1, .f32⟩
  | .hbm, ⟨24, _⟩ => ⟨S8192x1024, .bf16⟩
  | .hbm, ⟨25, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1536x1024, .bf16⟩
  | .local _ .vmem, ⟨5, _⟩ => ⟨S1024x1024, .bf16⟩
  | .local _ .vmem, ⟨6, _⟩ => ⟨S4x128x128, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S128x4, .f32⟩
  | .local _ .vmem, ⟨12, _⟩ => ⟨S1x1024, .f32⟩
  | .local _ .vmem, ⟨13, _⟩ => ⟨S1x1024, .f32⟩
  | .local _ .vmem, ⟨14, _⟩ => ⟨S512x1536, .f32⟩
  | .local _ .vmem, ⟨15, _⟩ => ⟨S512x1536, .f32⟩
  | .local _ .vmem, ⟨16, _⟩ => ⟨S512x1024, .f32⟩
  | .local _ .vmem, ⟨17, _⟩ => ⟨S512x1024, .f32⟩
  | .local _ .vmem, ⟨18, _⟩ => ⟨S512x1, .f32⟩
  | .local _ .vmem, ⟨19, _⟩ => ⟨S512x1, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
variable {F : FTy → Type} [FloatOps F] [Named F]
def κ : String → Option EReal := fun
  | "root_half" => some (((Real.sqrt 2)⁻¹ : ℝ) : EReal)
  | _ => none
-- ==== Reference3Ideal.lean ====
abbrev S4x2048x1024 : Shape := ⟨3, ![4, 2048, 1024]⟩
abbrev S1x1024x1536 : Shape := ⟨3, ![1, 1024, 1536]⟩
abbrev S1x1024x1024 : Shape := ⟨3, ![1, 1024, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S1024x1536 : Shape := ⟨2, ![1024, 1536]⟩
abbrev S4x2048x1536 : Shape := ⟨3, ![4, 2048, 1536]⟩
abbrev S4x2048x512 : Shape := ⟨3, ![4, 2048, 512]⟩
abbrev S_ : Shape := ⟨0, ![]⟩
abbrev S4x1x512 : Shape := ⟨3, ![4, 1, 512]⟩
abbrev S4x2049x512 : Shape := ⟨3, ![4, 2049, 512]⟩
abbrev S2048 : Shape := ⟨1, ![2048]⟩
abbrev S4x2049x128 : Shape := ⟨3, ![4, 2049, 128]⟩
abbrev S4x1x128 : Shape := ⟨3, ![4, 1, 128]⟩
abbrev S4x2050x128 : Shape := ⟨3, ![4, 2050, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2052x128 : Shape := ⟨3, ![4, 2052, 128]⟩
abbrev S4x7x128 : Shape := ⟨3, ![4, 7, 128]⟩
abbrev S4x2056x128 : Shape := ⟨3, ![4, 2056, 128]⟩
abbrev S4x15x128 : Shape := ⟨3, ![4, 15, 128]⟩
abbrev S4x2064x128 : Shape := ⟨3, ![4, 2064, 128]⟩
abbrev S4x2048x1x128 : Shape := ⟨4, ![4, 2048, 1, 128]⟩
abbrev S4x2048x4x128 : Shape := ⟨4, ![4, 2048, 4, 128]⟩
abbrev S4x128x128 : Shape := ⟨3, ![4, 128, 128]⟩
abbrev S4x128x4x2048 : Shape := ⟨4, ![4, 128, 4, 2048]⟩
abbrev S512 : Shape := ⟨1, ![512]⟩
abbrev S1x1x512 : Shape := ⟨3, ![1, 1, 512]⟩
abbrev S4x128 : Shape := ⟨2, ![4, 128]⟩
abbrev S4x2048 : Shape := ⟨2, ![4, 2048]⟩
abbrev S4x2048x1 : Shape := ⟨3, ![4, 2048, 1]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S8192x1536 : Shape := ⟨2, ![8192, 1536]⟩
abbrev S8192x1024 : Shape := ⟨2, ![8192, 1024]⟩
abbrev S8192x1 : Shape := ⟨2, ![8192, 1]⟩

abbrev nBuf : Space → Nat
  | .hbm => 207
  | .vmem => 0
  | .smem => 0
  | _ => 0

abbrev hbmTy0_0 (i : Nat) : BufTy := match i % 128 with
  | 0 => ⟨S4x2048x1024, .f32⟩
  | 1 => ⟨S1x1024x1536, .f32⟩
  | 2 => ⟨S1x1024x1024, .f32⟩
  | 3 => ⟨S1x4x128x128, .f32⟩
  | 4 => ⟨S1x512, .f32⟩
  | 5 => ⟨S1x512, .f32⟩
  | 6 => ⟨S1x512, .f32⟩
  | 7 => ⟨S1x4x128x128, .f32⟩
  | 8 => ⟨S1x4x128, .f32⟩
  | 9 => ⟨S1x1024, .f32⟩
  | 10 => ⟨S1x1024, .f32⟩
  | 11 => ⟨S1024x1536, .f32⟩
  | 12 => ⟨S4x2048x1536, .f32⟩
  | 13 => ⟨S4x2048x512, .f32⟩
  | 14 => ⟨S4x2048x1024, .f32⟩
  | 15 => ⟨S_, .f32⟩
  | 16 => ⟨S4x2048x1024, .f32⟩
  | 17 => ⟨S4x2048x1024, .f32⟩
  | 18 => ⟨S4x2048x1024, .f32⟩
  | 19 => ⟨S_, .f32⟩
  | 20 => ⟨S_, .f32⟩
  | 21 => ⟨S4x2048x1024, .f32⟩
  | 22 => ⟨S4x2048x1024, .f32⟩
  | 23 => ⟨S4x2048x1024, .f32⟩
  | 24 => ⟨S4x2048x1024, .f32⟩
  | 25 => ⟨S_, .f32⟩
  | 26 => ⟨S4x1x512, .f32⟩
  | 27 => ⟨S_, .f32⟩
  | 28 => ⟨S_, .f32⟩
  | 29 => ⟨S4x2048x512, .f32⟩
  | 30 => ⟨S4x2049x512, .f32⟩
  | 31 => ⟨S2048, .i32⟩
  | 32 => ⟨S_, .i32⟩
  | 33 => ⟨S2048, .i32⟩
  | 34 => ⟨S2048, .i32⟩
  | 35 => ⟨S4x2049x128, .f32⟩
  | 36 => ⟨S_, .f32⟩
  | 37 => ⟨S4x1x128, .f32⟩
  | 38 => ⟨S4x2050x128, .f32⟩
  | 39 => ⟨S4x2048x128, .f32⟩
  | 40 => ⟨S_, .i32⟩
  | 41 => ⟨S2048, .i32⟩
  | 42 => ⟨S2048, .i32⟩
  | 43 => ⟨S2048, .f32⟩
  | 44 => ⟨S1x2048x1, .f32⟩
  | 45 => ⟨S4x2048x128, .f32⟩
  | 46 => ⟨S4x2048x128, .f32⟩
  | 47 => ⟨S4x2048x128, .f32⟩
  | 48 => ⟨S4x2048x128, .f32⟩
  | 49 => ⟨S4x2048x128, .f32⟩
  | 50 => ⟨S4x2048x128, .f32⟩
  | 51 => ⟨S4x2049x128, .f32⟩
  | 52 => ⟨S_, .f32⟩
  | 53 => ⟨S4x3x128, .f32⟩
  | 54 => ⟨S4x2052x128, .f32⟩
  | 55 => ⟨S4x2048x128, .f32⟩
  | 56 => ⟨S_, .i32⟩
  | 57 => ⟨S2048, .i32⟩
  | 58 => ⟨S2048, .i32⟩
  | 59 => ⟨S2048, .f32⟩
  | 60 => ⟨S1x2048x1, .f32⟩
  | 61 => ⟨S4x2048x128, .f32⟩
  | 62 => ⟨S4x2048x128, .f32⟩
  | 63 => ⟨S4x2048x128, .f32⟩
  | 64 => ⟨S4x2048x128, .f32⟩
  | 65 => ⟨S4x2048x128, .f32⟩
  | 66 => ⟨S4x2048x128, .f32⟩
  | 67 => ⟨S4x2049x128, .f32⟩
  | 68 => ⟨S_, .f32⟩
  | 69 => ⟨S4x7x128, .f32⟩
  | 70 => ⟨S4x2056x128, .f32⟩
  | 71 => ⟨S4x2048x128, .f32⟩
  | 72 => ⟨S_, .i32⟩
  | 73 => ⟨S2048, .i32⟩
  | 74 => ⟨S2048, .i32⟩
  | 75 => ⟨S2048, .f32⟩
  | 76 => ⟨S1x2048x1, .f32⟩
  | 77 => ⟨S4x2048x128, .f32⟩
  | 78 => ⟨S4x2048x128, .f32⟩
  | 79 => ⟨S4x2048x128, .f32⟩
  | 80 => ⟨S4x2048x128, .f32⟩
  | 81 => ⟨S4x2048x128, .f32⟩
  | 82 => ⟨S4x2048x128, .f32⟩
  | 83 => ⟨S4x2049x128, .f32⟩
  | 84 => ⟨S_, .f32⟩
  | 85 => ⟨S4x15x128, .f32⟩
  | 86 => ⟨S4x2064x128, .f32⟩
  | 87 => ⟨S4x2048x128, .f32⟩
  | 88 => ⟨S_, .i32⟩
  | 89 => ⟨S2048, .i32⟩
  | 90 => ⟨S2048, .i32⟩
  | 91 => ⟨S2048, .f32⟩
  | 92 => ⟨S1x2048x1, .f32⟩
  | 93 => ⟨S4x2048x128, .f32⟩
  | 94 => ⟨S4x2048x128, .f32⟩
  | 95 => ⟨S4x2048x128, .f32⟩
  | 96 => ⟨S4x2048x128, .f32⟩
  | 97 => ⟨S4x2048x128, .f32⟩
  | 98 => ⟨S4x2048x128, .f32⟩
  | 99 => ⟨S4x2048x1x128, .f32⟩
  | 100 => ⟨S4x2048x1x128, .f32⟩
  | 101 => ⟨S4x2048x1x128, .f32⟩
  | 102 => ⟨S4x2048x1x128, .f32⟩
  | 103 => ⟨S4x2048x4x128, .f32⟩
  | 104 => ⟨S4x128x128, .f32⟩
  | 105 => ⟨S4x128x4x2048, .f32⟩
  | 106 => ⟨S4x2048x4x128, .f32⟩
  | 107 => ⟨S4x2048x512, .f32⟩
  | 108 => ⟨S512, .f32⟩
  | 109 => ⟨S1x1x512, .f32⟩
  | 110 => ⟨S4x2048x512, .f32⟩
  | 111 => ⟨S4x2048x512, .f32⟩
  | 112 => ⟨S512, .f32⟩
  | 113 => ⟨S512, .f32⟩
  | 114 => ⟨S4x128x128, .f32⟩
  | 115 => ⟨S4x128, .f32⟩
  | 116 => ⟨S4x2048x512, .f32⟩
  | 117 => ⟨S4x2048x512, .f32⟩
  | 118 => ⟨S_, .f32⟩
  | 119 => ⟨S4x2048, .f32⟩
  | 120 => ⟨S4x2048x1, .f32⟩
  | 121 => ⟨S_, .f32⟩
  | 122 => ⟨S4x2048x1, .f32⟩
  | 123 => ⟨S4x2048x1, .f32⟩
  | 124 => ⟨S4x2048x512, .f32⟩
  | 125 => ⟨S4x2048x512, .f32⟩
  | 126 => ⟨S4x2048x512, .f32⟩
  | 127 => ⟨S_, .f32⟩
  | _ => ⟨S4x2048x1024, .f32⟩

abbrev hbmTy0_1 (i : Nat) : BufTy := match i % 128 with
  | 0 => ⟨S4x2048, .f32⟩
  | 1 => ⟨S4x2048x1, .f32⟩
  | 2 => ⟨S_, .f32⟩
  | 3 => ⟨S4x2048x1, .f32⟩
  | 4 => ⟨S4x2048x1, .f32⟩
  | 5 => ⟨S4x2048x512, .f32⟩
  | 6 => ⟨S4x2048x512, .f32⟩
  | 7 => ⟨S_, .f32⟩
  | 8 => ⟨S4x2048x1, .f32⟩
  | 9 => ⟨S4x2048x1, .f32⟩
  | 10 => ⟨S4x2048x1, .f32⟩
  | 11 => ⟨S4x2048x512, .f32⟩
  | 12 => ⟨S4x2048x512, .f32⟩
  | 13 => ⟨S1x1x512, .f32⟩
  | 14 => ⟨S4x2048x512, .f32⟩
  | 15 => ⟨S4x2048x512, .f32⟩
  | 16 => ⟨S1x1x512, .f32⟩
  | 17 => ⟨S4x2048x512, .f32⟩
  | 18 => ⟨S4x2048x512, .f32⟩
  | 19 => ⟨S4x16x128x4x128, .f32⟩
  | 20 => ⟨S_, .f32⟩
  | 21 => ⟨S128x128, .f32⟩
  | 22 => ⟨S128x128, .i32⟩
  | 23 => ⟨S_, .i32⟩
  | 24 => ⟨S128x128, .i32⟩
  | 25 => ⟨S128x128, .i32⟩
  | 26 => ⟨S128x128, .i32⟩
  | 27 => ⟨S128x128, .i1⟩
  | 28 => ⟨S_, .f32⟩
  | 29 => ⟨S128x128, .f32⟩
  | 30 => ⟨S128x128, .f32⟩
  | 31 => ⟨S1x128x128, .f32⟩
  | 32 => ⟨S4x128x128, .f32⟩
  | 33 => ⟨S4x128x128, .f32⟩
  | 34 => ⟨S4x4x16x128x128, .f32⟩
  | 35 => ⟨S4x16x128x4x128, .f32⟩
  | 36 => ⟨S128x4, .f32⟩
  | 37 => ⟨S1x1x128x4x1, .f32⟩
  | 38 => ⟨S4x16x128x4x128, .f32⟩
  | 39 => ⟨S4x16x128x4x128, .f32⟩
  | 40 => ⟨S4x2048x512, .f32⟩
  | 41 => ⟨S4x2048x512, .f32⟩
  | 42 => ⟨S4x2048x1024, .f32⟩
  | 43 => ⟨S_, .f32⟩
  | 44 => ⟨S4x2048x1024, .f32⟩
  | 45 => ⟨S4x2048x1024, .f32⟩
  | 46 => ⟨S1024x1024, .f32⟩
  | 47 => ⟨S4x2048x1024, .f32⟩
  | 48 => ⟨S4x2048x1024, .f32⟩
  | 49 => ⟨S_, .f32⟩
  | 50 => ⟨S4x2048, .f32⟩
  | 51 => ⟨S4x2048x1, .f32⟩
  | 52 => ⟨S_, .f32⟩
  | 53 => ⟨S4x2048x1, .f32⟩
  | 54 => ⟨S4x2048x1, .f32⟩
  | 55 => ⟨S4x2048x1024, .f32⟩
  | 56 => ⟨S4x2048x1024, .f32⟩
  | 57 => ⟨S4x2048x1024, .f32⟩
  | 58 => ⟨S_, .f32⟩
  | 59 => ⟨S4x2048, .f32⟩
  | 60 => ⟨S4x2048x1, .f32⟩
  | 61 => ⟨S_, .f32⟩
  | 62 => ⟨S4x2048x1, .f32⟩
  | 63 => ⟨S4x2048x1, .f32⟩
  | 64 => ⟨S_, .f32⟩
  | 65 => ⟨S4x2048x1, .f32⟩
  | 66 => ⟨S4x2048x1, .f32⟩
  | 67 => ⟨S4x2048x1, .f32⟩
  | 68 => ⟨S8192x1536, .f32⟩
  | 69 => ⟨S4x2048x1024, .f32⟩
  | 70 => ⟨S4x2048x1024, .f32⟩
  | 71 => ⟨S4x2048x1024, .f32⟩
  | 72 => ⟨S4x2048x1024, .f32⟩
  | 73 => ⟨S8192x1024, .f32⟩
  | 74 => ⟨S8192x1, .f32⟩
  | 75 => ⟨S8192x1024, .f32⟩
  | 76 => ⟨S8192x1024, .bf16⟩
  | 77 => ⟨S8192x1024, .f32⟩
  | 78 => ⟨S8192x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_call0_call0_cst : Ref sig .tc := ⟨.hbm, 27, rfl⟩
abbrev main_call0_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_10 : Ref sig .tc := ⟨.hbm, 118, rfl⟩
abbrev main_v93 : Ref sig .tc := ⟨.hbm, 119, rfl⟩
abbrev main_v94 : Ref sig .tc := ⟨.hbm, 120, rfl⟩
abbrev main_cst_11 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_cst_13 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_14 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_15 : Ref sig .tc := ⟨.hbm, 148, rfl⟩
abbrev main_v118 : Ref sig .tc := ⟨.hbm, 149, rfl⟩
abbrev main_call1_v0 : Ref sig .tc := ⟨.hbm, 150, rfl⟩
abbrev main_call1_c : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_cst : Ref sig .tc := ⟨.hbm, 156, rfl⟩
abbrev main_call1_v5 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_16 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_17 : Ref sig .tc := ⟨.hbm, 177, rfl⟩
abbrev main_v137 : Ref sig .tc := ⟨.hbm, 178, rfl⟩
abbrev main_v138 : Ref sig .tc := ⟨.hbm, 179, rfl⟩
abbrev main_cst_18 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_19 : Ref sig .tc := ⟨.hbm, 186, rfl⟩
abbrev main_v144 : Ref sig .tc := ⟨.hbm, 187, rfl⟩
abbrev main_v145 : Ref sig .tc := ⟨.hbm, 188, rfl⟩
abbrev main_cst_20 : Ref sig .tc := ⟨.hbm, 189, rfl⟩
abbrev main_v146 : Ref sig .tc := ⟨.hbm, 190, rfl⟩
abbrev main_v147 : Ref sig .tc := ⟨.hbm, 191, rfl⟩
abbrev main_cst_21 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩

abbrev nD : Nat := 1
abbrev τ : Topo := Topo.v7x

variable {F : FTy → Type} [FloatOps F]
-- ==== Kernel4.lean ====
abbrev S1x1024x704 : Shape := ⟨3, ![1, 1024, 704]⟩
abbrev S704x1024 : Shape := ⟨2, ![704, 1024]⟩
abbrev S3x704x1024 : Shape := ⟨3, ![3, 704, 1024]⟩
abbrev S1024x704 : Shape := ⟨2, ![1024, 704]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S3x704x1024, .bf16⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S3x176x1024, .bf16⟩
  | .local _ .vmem, ⟨9, _⟩ => ⟨S3x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S1x1024x704 : Shape := ⟨3, ![1, 1024, 704]⟩
abbrev S704x1024 : Shape := ⟨2, ![704, 1024]⟩
abbrev S3x704x1024 : Shape := ⟨3, ![3, 704, 1024]⟩
abbrev S_ : Shape := ⟨0, ![]⟩
abbrev S1024x704 : Shape := ⟨2, ![1024, 704]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S3x704x1024, .bf16⟩
  | .hbm, ⟨5, _⟩ => ⟨S3x704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S704x1024, .f32⟩
  | .hbm, ⟨47, _⟩ => ⟨S704x1024, .f32⟩
  | .hbm, ⟨48, _⟩ => ⟨S704x1024, .f32⟩
  | .hbm, ⟨49, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel5.lean ====
abbrev S8192x8448 : Shape := ⟨2, ![8192, 8448]⟩
abbrev S8192x3072 : Shape := ⟨2, ![8192, 3072]⟩
abbrev S4x352x1024 : Shape := ⟨3, ![4, 352, 1024]⟩
abbrev S352x1024 : Shape := ⟨2, ![352, 1024]⟩
abbrev S1024x2816 : Shape := ⟨2, ![1024, 2816]⟩
abbrev S1024x1024 : Shape := ⟨2, ![1024, 1024]⟩
abbrev S2816x1024 : Shape := ⟨2, ![2816, 1024]⟩
abbrev S4 : Shape := ⟨1, ![4]⟩
abbrev S_ : Shape := ⟨0, ![]⟩
abbrev S1x352x1024 : Shape := ⟨3, ![1, 352, 1024]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S8192x8448, .bf16⟩
  | .hbm, ⟨1, _⟩ => ⟨S8192x3072, .bf16⟩
  | .hbm, ⟨2, _⟩ => ⟨S4x352x1024, .bf16⟩
  | .hbm, ⟨3, _⟩ => ⟨S352x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S4x352x1024, .bf16⟩
  | .local _ .vmem, ⟨5, _⟩ => ⟨S352x1024, .f32⟩
  | .local _ .vmem, ⟨6, _⟩ => ⟨S2816x1024, .f32⟩
  | .local _ .vmem, ⟨7, _⟩ => ⟨S4x352x1024, .f32⟩
  | .local _ .vmem, ⟨8, _⟩ => ⟨S4x352x1024, .bf16⟩
  | _, _ => ⟨S8192x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev barrier2 : Sem sig := 0

abbrev nD : Nat := 2
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v9 : BitVec 32 := Scalar.extui v2
  let c0_i32_2 : BitVec 32 := 0#32
  let v10 : BitVec 1 := Scalar.cmpi .ne v9 c0_i32_2
  v10

def k0_dev1 (d6 : Dev nD) : Nat :=
  let c0_i32_13 : BitVec 32 := 0#32
  let c1_i32_10 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v23 : BitVec 32 := Scalar.subi c1_i32_10 v8
  let c1_i32_12 : BitVec 32 := 1#32
  let v24 : BitVec 32 := Scalar.muli v23 c1_i32_12
  let v25 : BitVec 32 := Scalar.addi c0_i32_13 v24
  v25.toNat
def k0_cond4 (i : grid0.Coords) : BitVec 1 :=
  let arg1 : BitVec 32 := BitVec.ofNat 32 (i 1).val
  let c7_i32_7 : BitVec 32 := 7#32
  let v17 : BitVec 1 := Scalar.cmpi .eq arg1 c7_i32_7
  let v18 : BitVec 32 := Scalar.extui v17
  let c0_i32_8 : BitVec 32 := 0#32
  let v19 : BitVec 1 := Scalar.cmpi .ne v18 c0_i32_8
  v19

def k0_mult1 (d6 : Dev nD) : BitVec 32 :=
  let c0_i32_11 : BitVec 32 := 0#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let c352_i32 : BitVec 32 := 352#32
  let v24 : BitVec 32 := Scalar.muli v8 c352_i32
  let v25 : BitVec 32 := Scalar.addi c0_i32_11 v24
  v25
def k0_off1 (d6 : Dev nD) (c0_i32_11 : BitVec 32) : Fin 2 → Nat :=
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let c352_i32 : BitVec 32 := 352#32
  let v24 : BitVec 32 := Scalar.muli v8 c352_i32
  let v25 : BitVec 32 := Scalar.addi c0_i32_11 v24
  let v26 : BitVec 32 := v25
  let v27 : Index := Scalar.indexCast v26
  let c0 : Index := 0#32
  ![v27.toNat, 0]
def k0_off2 (i : grid0.Coords) (c0_i32_10 : BitVec 32) : Fin 3 → Nat :=
  let arg0 : BitVec 32 := BitVec.ofNat 32 (i 0).val
  let c4_i32 : BitVec 32 := 4#32
  let v22 : BitVec 32 := Scalar.muli arg0 c4_i32
  let v23 : BitVec 32 := Scalar.addi v22 c0_i32_10
  let v29 : Index := Scalar.indexCast v23
  let c0_12 : Index := 0#32
  let c0_13 : Index := 0#32
  ![v29.toNat, 0, 0]
def k0_mult2 (d6 : Dev nD) : BitVec 32 :=
  let c0_i32_16 : BitVec 32 := 0#32
  let c1_i32_14 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v33 : BitVec 32 := Scalar.subi c1_i32_14 v8
  let c352_i32_15 : BitVec 32 := 352#32
  let v34 : BitVec 32 := Scalar.muli v33 c352_i32_15
  let v35 : BitVec 32 := Scalar.addi c0_i32_16 v34
  v35
def k0_off3 (d6 : Dev nD) (c0_i32_16 : BitVec 32) : Fin 2 → Nat :=
  let c1_i32_14 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v33 : BitVec 32 := Scalar.subi c1_i32_14 v8
  let c352_i32_15 : BitVec 32 := 352#32
  let v34 : BitVec 32 := Scalar.muli v33 c352_i32_15
  let v35 : BitVec 32 := Scalar.addi c0_i32_16 v34
  let v36 : BitVec 32 := v35
  let v37 : Index := Scalar.indexCast v36
  let c0_17 : Index := 0#32
  ![v37.toNat, 0]
def k0_off4 (i : grid0.Coords) (c0_i32_10 : BitVec 32) : Fin 1 → Nat :=
  let arg0 : BitVec 32 := BitVec.ofNat 32 (i 0).val
  let c4_i32 : BitVec 32 := 4#32
  let v22 : BitVec 32 := Scalar.muli arg0 c4_i32
  let v23 : BitVec 32 := Scalar.addi v22 c0_i32_10
  ![v23.toNat]
def k0_off5 (i : grid0.Coords) (c0_i32_10 : BitVec 32) : Fin 3 → Nat :=
  let arg0 : BitVec 32 := BitVec.ofNat 32 (i 0).val
  let c4_i32 : BitVec 32 := 4#32
  let v22 : BitVec 32 := Scalar.muli arg0 c4_i32
  let v23 : BitVec 32 := Scalar.addi v22 c0_i32_10
  let c0_i32_23 : BitVec 32 := 0#32
  let c0_i32_24 : BitVec 32 := 0#32
  ![v23.toNat, 0, 0]
def k0_dev2 (d6 : Dev nD) : Nat :=
  let c0_i32_22 : BitVec 32 := 0#32
  let c1_i32_20 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v44 : BitVec 32 := Scalar.subi c1_i32_20 v8
  let c1_i32_21 : BitVec 32 := 1#32
  let v45 : BitVec 32 := Scalar.muli v44 c1_i32_21
  let v46 : BitVec 32 := Scalar.addi c0_i32_22 v45
  v46.toNat
def k0_mult3 (d6 : Dev nD) : BitVec 32 :=
  let c704_i32 : BitVec 32 := 704#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let c352_i32_29 : BitVec 32 := 352#32
  let v57 : BitVec 32 := Scalar.muli v8 c352_i32_29
  let v58 : BitVec 32 := Scalar.addi c704_i32 v57
  v58
def k0_mult4 (d6 : Dev nD) : BitVec 32 :=
  let c704_i32_35 : BitVec 32 := 704#32
  let c1_i32_33 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v66 : BitVec 32 := Scalar.subi c1_i32_33 v8
  let c352_i32_34 : BitVec 32 := 352#32
  let v67 : BitVec 32 := Scalar.muli v66 c352_i32_34
  let v68 : BitVec 32 := Scalar.addi c704_i32_35 v67
  v68
def k0_dev3 (d6 : Dev nD) : Nat :=
  let c0_i32_41 : BitVec 32 := 0#32
  let c1_i32_39 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v77 : BitVec 32 := Scalar.subi c1_i32_39 v8
  let c1_i32_40 : BitVec 32 := 1#32
  let v78 : BitVec 32 := Scalar.muli v77 c1_i32_40
  let v79 : BitVec 32 := Scalar.addi c0_i32_41 v78
  v79.toNat
def k0_mult5 (d6 : Dev nD) : BitVec 32 :=
  let c1408_i32 : BitVec 32 := 1408#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let c352_i32_48 : BitVec 32 := 352#32
  let v90 : BitVec 32 := Scalar.muli v8 c352_i32_48
  let v91 : BitVec 32 := Scalar.addi c1408_i32 v90
  v91
def k0_mult6 (d6 : Dev nD) : BitVec 32 :=
  let c1408_i32_54 : BitVec 32 := 1408#32
  let c1_i32_52 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v99 : BitVec 32 := Scalar.subi c1_i32_52 v8
  let c352_i32_53 : BitVec 32 := 352#32
  let v100 : BitVec 32 := Scalar.muli v99 c352_i32_53
  let v101 : BitVec 32 := Scalar.addi c1408_i32_54 v100
  v101
def k0_dev4 (d6 : Dev nD) : Nat :=
  let c0_i32_60 : BitVec 32 := 0#32
  let c1_i32_58 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v110 : BitVec 32 := Scalar.subi c1_i32_58 v8
  let c1_i32_59 : BitVec 32 := 1#32
  let v111 : BitVec 32 := Scalar.muli v110 c1_i32_59
  let v112 : BitVec 32 := Scalar.addi c0_i32_60 v111
  v112.toNat
def k0_mult7 (d6 : Dev nD) : BitVec 32 :=
  let c2112_i32 : BitVec 32 := 2112#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let c352_i32_66 : BitVec 32 := 352#32
  let v123 : BitVec 32 := Scalar.muli v8 c352_i32_66
  let v124 : BitVec 32 := Scalar.addi c2112_i32 v123
  v124
def k0_mult8 (d6 : Dev nD) : BitVec 32 :=
  let c2112_i32_72 : BitVec 32 := 2112#32
  let c1_i32_70 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v132 : BitVec 32 := Scalar.subi c1_i32_70 v8
  let c352_i32_71 : BitVec 32 := 352#32
  let v133 : BitVec 32 := Scalar.muli v132 c352_i32_71
  let v134 : BitVec 32 := Scalar.addi c2112_i32_72 v133
  v134
def k0_dev5 (d6 : Dev nD) : Nat :=
  let c0_i32_78 : BitVec 32 := 0#32
  let c1_i32_76 : BitVec 32 := 1#32
  let v6 : BitVec 32 := Dev.word d6
  let c1_i32 : BitVec 32 := 1#32
  let v7 : BitVec 32 := Scalar.divsi v6 c1_i32
  let c2_i32 : BitVec 32 := 2#32
  let v8 : BitVec 32 := Scalar.remsi v7 c2_i32
  let v143 : BitVec 32 := Scalar.subi c1_i32_76 v8
  let c1_i32_77 : BitVec 32 := 1#32
  let v144 : BitVec 32 := Scalar.muli v143 c1_i32_77
  let v145 : BitVec 32 := Scalar.addi c0_i32_78 v144
  v145.toNat
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c7_i32 : BitVec 32 := 7#32
  let v4 : BitVec 1 := Scalar.cmpi .eq arg1 c7_i32
  let v5 : BitVec 1 := Scalar.andi v3 v4
  let v20 : BitVec 32 := Scalar.extui v5
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference5Ideal.lean ====
abbrev S16384x8448 : Shape := ⟨2, ![16384, 8448]⟩
abbrev S16384x3072 : Shape := ⟨2, ![16384, 3072]⟩
abbrev S16384x2816 : Shape := ⟨2, ![16384, 2816]⟩
abbrev S2816x16384 : Shape := ⟨2, ![2816, 16384]⟩
abbrev S16384x1024 : Shape := ⟨2, ![16384, 1024]⟩
abbrev S2816x1024 : Shape := ⟨2, ![2816, 1024]⟩
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x8448, .bf16⟩
  | .hbm, ⟨1, _⟩ => ⟨S16384x3072, .bf16⟩
  | .hbm, ⟨2, _⟩ => ⟨S16384x2816, .bf16⟩
  | .hbm, ⟨3, _⟩ => ⟨S16384x2816, .f32⟩
  | .hbm, ⟨4, _⟩ => ⟨S2816x16384, .f32⟩
  | .hbm, ⟨5, _⟩ => ⟨S16384x1024, .bf16⟩
  | .hbm, ⟨6, _⟩ => ⟨S16384x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S1x704x1024, .f32⟩
  | .hbm, ⟨11, _⟩ => ⟨S704x1024, .f32⟩
  | _, _ => ⟨S16384x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S8x8x128x128 : Shape := ⟨4, ![8, 8, 128, 128]⟩
abbrev S8x16x1024 : Shape := ⟨3, ![8, 16, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S8x128 : Shape := ⟨2, ![8, 128]⟩
abbrev S16x1024 : Shape := ⟨2, ![16, 1024]⟩
abbrev S1x16x1024 : Shape := ⟨3, ![1, 16, 1024]⟩
abbrev S1x1x128x128 : Shape := ⟨4, ![1, 1, 128, 128]⟩
abbrev S128x128 : Shape := ⟨2, ![128, 128]⟩
abbrev S4x128 : Shape := ⟨2, ![4, 128]⟩
abbrev S1 : Shape := ⟨1, ![1]⟩
abbrev S1x1 : Shape := ⟨2, ![1, 1]⟩

abbrev nBuf : Space → Nat
  | .hbm => 73
  | .vmem => 74
  | .smem => 0
  | _ => 0

abbrev bufTy : (tb : Table) → Fin (tcTables nBuf tb) → BufTy
  | .hbm, ⟨0, _⟩ => ⟨S8x8x128x128, .f32⟩
  | .hbm, ⟨1, _⟩ => ⟨S8x16x1024, .f32⟩
  | .hbm, ⟨2, _⟩ => ⟨S1x4x128x128, .f32⟩
  | .hbm, ⟨3, _⟩ => ⟨S1x4x128x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x4x128x128, .f32⟩
  | .hbm, ⟨13, _⟩ => ⟨S1x4x128x128, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x4x128, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x4x128x128, .f32⟩
  | .hbm, ⟨23, _⟩ => ⟨S1x4x128x128, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x4x128, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S8x128, .f32⟩
  | .hbm, ⟨33, _⟩ => ⟨S1x4x128x128, .f32⟩
  | .hbm, ⟨34, _⟩ => ⟨S1x4x128x128, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x4x128, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x4x128x128, .f32⟩
  | .hbm, ⟨44, _⟩ => ⟨S1x4x128x128, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x4x128, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x4x128x128, .f32⟩
  | .hbm, ⟨54, _⟩ => ⟨S1x4x128x128, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x4x128, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x4x128x128, .f32⟩
  | .hbm, ⟨64, _⟩ => ⟨S1x4x128x128, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x4x128, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .local _ .vmem, ⟨0, _⟩ => ⟨S8x8x128x128, .f32⟩
  | .local _ .vmem, ⟨1, _⟩ => ⟨S8x16x1024, .f32⟩
  | .local _ .vmem, ⟨2, _⟩ => ⟨S1x4x128x128, .f32⟩
  | .local _ .vmem, ⟨3, _⟩ => ⟨S1x4x128x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x4x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x4x128x128, .f32⟩
  | .local _ .vmem, ⟨13, _⟩ => ⟨S1x4x128x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x4x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x4x128x128, .f32⟩
  | .local _ .vmem, ⟨23, _⟩ => ⟨S1x4x128x128, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x4x128, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S8x128, .f32⟩
  | .local _ .vmem, ⟨33, _⟩ => ⟨S1x4x128x128, .f32⟩
  | .local _ .vmem, ⟨34, _⟩ => ⟨S1x4x128x128, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x4x128, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x4x128x128, .f32⟩
  | .local _ .vmem, ⟨44, _⟩ => ⟨S1x4x128x128, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x4x128, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x4x128x128, .f32⟩
  | .local _ .vmem, ⟨54, _⟩ => ⟨S1x4x128x128, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x4x128, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x4x128x128, .f32⟩
  | .local _ .vmem, ⟨64, _⟩ => ⟨S1x4x128x128, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S1x4x128, .f32⟩
  | .local _ .vmem, ⟨69, _⟩ => ⟨S1x1024, .f32⟩
  | .local _ .vmem, ⟨70, _⟩ => ⟨S1x1024, .f32⟩
  | .local _ .vmem, ⟨71, _⟩ => ⟨S1x1024, .f32⟩
  | .local _ .vmem, ⟨72, _⟩ => ⟨S1x1024, .f32⟩
  | .local _ .vmem, ⟨73, _⟩ => ⟨S16x1024, .f32⟩
  | _, _ => ⟨S8x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev main_v0_24 : Ref sig .tc := ⟨.hbm, 56, rfl⟩
abbrev main_v0_25 : Ref sig .tc := ⟨.hbm, 57, rfl⟩
abbrev main_v0_26 : Ref sig .tc := ⟨.hbm, 58, rfl⟩
abbrev main_v0_27 : Ref sig .tc := ⟨.hbm, 59, rfl⟩
abbrev main_v0_28 : Ref sig .tc := ⟨.hbm, 60, rfl⟩
abbrev main_v0_29 : Ref sig .tc := ⟨.hbm, 61, rfl⟩
abbrev main_v0_30 : Ref sig .tc := ⟨.hbm, 62, rfl⟩
abbrev main_v0_31 : Ref sig .tc := ⟨.hbm, 63, rfl⟩
abbrev main_v0_32 : Ref sig .tc := ⟨.hbm, 64, rfl⟩
abbrev main_v0_33 : Ref sig .tc := ⟨.hbm, 65, rfl⟩
abbrev main_v0_34 : Ref sig .tc := ⟨.hbm, 66, rfl⟩
abbrev main_v0_35 : Ref sig .tc := ⟨.hbm, 67, rfl⟩
abbrev main_v0_36 : Ref sig .tc := ⟨.hbm, 68, rfl⟩
abbrev main_v0_37 : Ref sig .tc := ⟨.hbm, 69, rfl⟩
abbrev main_v0_38 : Ref sig .tc := ⟨.hbm, 70, rfl⟩
abbrev main_v0_39 : Ref sig .tc := ⟨.hbm, 71, rfl⟩
abbrev main_v0_40 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_scratch0 : Ref sig .tc := ⟨.vmem, 73, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72

abbrev nD : Nat := 1
abbrev τ : Topo := Topo.v7x

variable {F : FTy → Type} [FloatOps F]

abbrev grid0 : Pipeline.Grid := .none

abbrev stage0_0 : Fin 1 → Memref sig .tc .vmem S8x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x4x128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x4x128x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x4x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x4x128x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x4x128x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x4x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x4x128x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x4x128x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x4x128 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x4x128x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x4x128x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x4x128 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))
-- ==== Reference6Ideal.lean ====
abbrev S8x8x128x128 : Shape := ⟨4, ![8, 8, 128, 128]⟩
abbrev S8x16x1024 : Shape := ⟨3, ![8, 16, 1024]⟩
abbrev S1x4x128x128 : Shape := ⟨4, ![1, 4, 128, 128]⟩
abbrev S1x512 : Shape := ⟨2, ![1, 512]⟩
abbrev S1x4x128 : Shape := ⟨3, ![1, 4, 128]⟩
abbrev S1x1024 : Shape := ⟨2, ![1, 1024]⟩
abbrev S_ : Shape := ⟨0, ![]⟩
abbrev S8x128x128 : Shape := ⟨3, ![8, 128, 128]⟩
abbrev S16x1024 : Shape := ⟨2, ![16, 1024]⟩
abbrev S4x128x128 : Shape := ⟨3, ![4, 128, 128]⟩
abbrev S4x128 : Shape := ⟨2, ![4, 128]⟩
abbrev S1024 : Shape := ⟨1, ![1024]⟩
abbrev S8x128 : Shape := ⟨2, ![8, 128]⟩

abbrev nBuf : Space → Nat
  | .hbm => 388
  | .vmem => 0
  | .smem => 0
  | _ => 0

abbrev hbmTy0_0 (i : Nat) : BufTy := match i % 128 with
  | 0 => ⟨S8x8x128x128, .f32⟩
  | 1 => ⟨S8x16x1024, .f32⟩
  | 2 => ⟨S1x4x128x128, .f32⟩
  | 3 => ⟨S1x4x128x128, .f32⟩
  | 4 => ⟨S1x512, .f32⟩
  | 5 => ⟨S1x512, .f32⟩
  | 6 => ⟨S1x512, .f32⟩
  | 7 => ⟨S1x4x128, .f32⟩
  | 8 => ⟨S1x1024, .f32⟩
  | 9 => ⟨S1x1024, .f32⟩
  | 10 => ⟨S1x1024, .f32⟩
  | 11 => ⟨S1x1024, .f32⟩
  | 12 => ⟨S1x4x128x128, .f32⟩
  | 13 => ⟨S1x4x128x128, .f32⟩
  | 14 => ⟨S1x512, .f32⟩
  | 15 => ⟨S1x512, .f32⟩
  | 16 => ⟨S1x512, .f32⟩
  | 17 => ⟨S1x4x128, .f32⟩
  | 18 => ⟨S1x1024, .f32⟩
  | 19 => ⟨S1x1024, .f32⟩
  | 20 => ⟨S1x1024, .f32⟩
  | 21 => ⟨S1x1024, .f32⟩
  | 22 => ⟨S1x4x128x128, .f32⟩
  | 23 => ⟨S1x4x128x128, .f32⟩
  | 24 => ⟨S1x512, .f32⟩
  | 25 => ⟨S1x512, .f32⟩
  | 26 => ⟨S1x512, .f32⟩
  | 27 => ⟨S1x4x128, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S8x128x128, .f32⟩
  | 34 => ⟨S_, .f32⟩
  | 35 => ⟨S16x1024, .f32⟩
  | 36 => ⟨S4x128x128, .f32⟩
  | 37 => ⟨S1x4x128x128, .f32⟩
  | 38 => ⟨S4x128x128, .f32⟩
  | 39 => ⟨S1x4x128x128, .f32⟩
  | 40 => ⟨S1x512, .f32⟩
  | 41 => ⟨S1x512, .f32⟩
  | 42 => ⟨S1x512, .f32⟩
  | 43 => ⟨S4x128, .f32⟩
  | 44 => ⟨S1x4x128, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1024, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S1x4x128x128, .f32⟩
  | 59 => ⟨S1x4x128x128, .f32⟩
  | 60 => ⟨S_, .f32⟩
  | 61 => ⟨S1x4x128x128, .f32⟩
  | 62 => ⟨S1x4x128x128, .f32⟩
  | 63 => ⟨S1x4x128x128, .f32⟩
  | 64 => ⟨S_, .f32⟩
  | 65 => ⟨S1x4x128x128, .f32⟩
  | 66 => ⟨S1x4x128x128, .f32⟩
  | 67 => ⟨S1x4x128x128, .f32⟩
  | 68 => ⟨S_, .f32⟩
  | 69 => ⟨S1x4x128x128, .f32⟩
  | 70 => ⟨S1x4x128x128, .f32⟩
  | 71 => ⟨S1x4x128x128, .f32⟩
  | 72 => ⟨S_, .f32⟩
  | 73 => ⟨S1x4x128x128, .f32⟩
  | 74 => ⟨S1x4x128x128, .f32⟩
  | 75 => ⟨S_, .f32⟩
  | 76 => ⟨S1x4x128x128, .f32⟩
  | 77 => ⟨S1x4x128x128, .f32⟩
  | 78 => ⟨S1x4x128x128, .f32⟩
  | 79 => ⟨S_, .f32⟩
  | 80 => ⟨S1x4x128x128, .f32⟩
  | 81 => ⟨S1x4x128x128, .f32⟩
  | 82 => ⟨S1x4x128x128, .f32⟩
  | 83 => ⟨S_, .f32⟩
  | 84 => ⟨S1x4x128x128, .f32⟩
  | 85 => ⟨S1x4x128x128, .f32⟩
  | 86 => ⟨S1x4x128x128, .f32⟩
  | 87 => ⟨S_, .f32⟩
  | 88 => ⟨S1x4x128x128, .f32⟩
  | 89 => ⟨S1x4x128x128, .f32⟩
  | 90 => ⟨S_, .f32⟩
  | 91 => ⟨S1x4x128x128, .f32⟩
  | 92 => ⟨S1x4x128x128, .f32⟩
  | 93 => ⟨S_, .f32⟩
  | 94 => ⟨S1x4x128x128, .f32⟩
  | 95 => ⟨S1x4x128x128, .f32⟩
  | 96 => ⟨S1x4x128x128, .f32⟩
  | 97 => ⟨S_, .f32⟩
  | 98 => ⟨S1x4x128x128, .f32⟩
  | 99 => ⟨S1x4x128x128, .f32⟩
  | 100 => ⟨S1x4x128x128, .f32⟩
  | 101 => ⟨S_, .f32⟩
  | 102 => ⟨S1x4x128x128, .f32⟩
  | 103 => ⟨S1x4x128x128, .f32⟩
  | 104 => ⟨S1x4x128x128, .f32⟩
  | 105 => ⟨S_, .f32⟩
  | 106 => ⟨S1x4x128x128, .f32⟩
  | 107 => ⟨S1x4x128x128, .f32⟩
  | 108 => ⟨S_, .f32⟩
  | 109 => ⟨S1x4x128x128, .f32⟩
  | 110 => ⟨S1x4x128x128, .f32⟩
  | 111 => ⟨S1x4x128x128, .f32⟩
  | 112 => ⟨S_, .f32⟩
  | 113 => ⟨S1x4x128x128, .f32⟩
  | 114 => ⟨S1x4x128x128, .f32⟩
  | 115 => ⟨S1x4x128x128, .f32⟩
  | 116 => ⟨S_, .f32⟩
  | 117 => ⟨S1x4x128x128, .f32⟩
  | 118 => ⟨S1x4x128x128, .f32⟩
  | 119 => ⟨S1x4x128x128, .f32⟩
  | 120 => ⟨S_, .f32⟩
  | 121 => ⟨S1x4x128x128, .f32⟩
  | 122 => ⟨S1x4x128x128, .f32⟩
  | 123 => ⟨S_, .f32⟩
  | 124 => ⟨S1x512, .f32⟩
  | 125 => ⟨S1x512, .f32⟩
  | 126 => ⟨S_, .f32⟩
  | 127 => ⟨S1x512, .f32⟩
  | _ => ⟨S8x8x128x128, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x512, .f32⟩
  | 6 => ⟨S_, .f32⟩
  | 7 => ⟨S1x512, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S1x512, .f32⟩
  | 21 => ⟨S_, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S_, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S_, .f32⟩
  | 95 => ⟨S1x4x128, .f32⟩
  | 96 => ⟨S1x4x128, .f32⟩
  | 97 => ⟨S_, .f32⟩
  | 98 => ⟨S1x4x128, .f32⟩
  | 99 => ⟨S1x4x128, .f32⟩
  | 100 => ⟨S1x4x128, .f32⟩
  | 101 => ⟨S_, .f32⟩
  | 102 => ⟨S1x4x128, .f32⟩
  | 103 => ⟨S1x4x128, .f32⟩
  | 104 => ⟨S1x4x128, .f32⟩
  | 105 => ⟨S_, .f32⟩
  | 106 => ⟨S1x4x128, .f32⟩
  | 107 => ⟨S1x4x128, .f32⟩
  | 108 => ⟨S1x4x128, .f32⟩
  | 109 => ⟨S_, .f32⟩
  | 110 => ⟨S1x4x128, .f32⟩
  | 111 => ⟨S1x4x128, .f32⟩
  | 112 => ⟨S_, .f32⟩
  | 113 => ⟨S1x4x128, .f32⟩
  | 114 => ⟨S1x4x128, .f32⟩
  | 115 => ⟨S1x4x128, .f32⟩
  | 116 => ⟨S_, .f32⟩
  | 117 => ⟨S1x4x128, .f32⟩
  | 118 => ⟨S1x4x128, .f32⟩
  | 119 => ⟨S1x4x128, .f32⟩
  | 120 => ⟨S_, .f32⟩
  | 121 => ⟨S1x4x128, .f32⟩
  | 122 => ⟨S1x4x128, .f32⟩
  | 123 => ⟨S1x4x128, .f32⟩
  | 124 => ⟨S_, .f32⟩
  | 125 => ⟨S1x4x128, .f32⟩
  | 126 => ⟨S1x4x128, .f32⟩
  | 127 => ⟨S_, .f32⟩
  | _ => ⟨S8x8x128x128, .f32⟩

abbrev hbmTy0_2 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S8x8x128x128, .f32⟩

abbrev hbmTy0_3 (i : Nat) : BufTy := match i % 128 with
  | 0 => ⟨S_, .f32⟩
  | 1 => ⟨S1x1024, .f32⟩
  | 2 => ⟨S1x1024, .f32⟩
  | 3 => ⟨S8x128, .f32⟩
  | _ => ⟨S8x8x128x128, .f32⟩

abbrev hbmTy (i : Nat) : BufTy := match i / 128 with
  | 0 => hbmTy0_0 i
  | 1 => hbmTy0_1 i
  | 2 => hbmTy0_2 i
  | 3 => hbmTy0_3 i
  | _ => ⟨S8x8x128x128, .f32⟩

abbrev bufTy : (tb : Table) → Fin (tcTables nBuf tb) → BufTy
  | .hbm, ⟨i, _⟩ => hbmTy i
  | _, _ => ⟨S8x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_cst_0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_1 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_cst_4 : Ref sig .tc := ⟨.hbm, 57, rfl⟩
abbrev main_v20 : Ref sig .tc := ⟨.hbm, 58, rfl⟩
abbrev main_v21 : Ref sig .tc := ⟨.hbm, 59, rfl⟩
abbrev main_cst_5 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_6 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_7 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_8 : Ref sig .tc := ⟨.hbm, 72, rfl⟩
abbrev main_v31 : Ref sig .tc := ⟨.hbm, 73, rfl⟩
abbrev main_v32 : Ref sig .tc := ⟨.hbm, 74, rfl⟩
abbrev main_cst_9 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_10 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_11 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_12 : Ref sig .tc := ⟨.hbm, 87, rfl⟩
abbrev main_v42 : Ref sig .tc := ⟨.hbm, 88, rfl⟩
abbrev main_v43 : Ref sig .tc := ⟨.hbm, 89, rfl⟩
abbrev main_cst_13 : Ref sig .tc := ⟨.hbm, 90, rfl⟩
abbrev main_v44 : Ref sig .tc := ⟨.hbm, 91, rfl⟩
abbrev main_v45 : Ref sig .tc := ⟨.hbm, 92, rfl⟩
abbrev main_cst_14 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_15 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_16 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_17 : Ref sig .tc := ⟨.hbm, 105, rfl⟩
abbrev main_v55 : Ref sig .tc := ⟨.hbm, 106, rfl⟩
abbrev main_v56 : Ref sig .tc := ⟨.hbm, 107, rfl⟩
abbrev main_cst_18 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_19 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_20 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_21 : Ref sig .tc := ⟨.hbm, 120, rfl⟩
abbrev main_v66 : Ref sig .tc := ⟨.hbm, 121, rfl⟩
abbrev main_v67 : Ref sig .tc := ⟨.hbm, 122, rfl⟩
abbrev main_cst_22 : Ref sig .tc := ⟨.hbm, 123, rfl⟩
abbrev main_v68 : Ref sig .tc := ⟨.hbm, 124, rfl⟩
abbrev main_v69 : Ref sig .tc := ⟨.hbm, 125, rfl⟩
abbrev main_cst_23 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_24 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_25 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_26 : Ref sig .tc := ⟨.hbm, 138, rfl⟩
abbrev main_v79 : Ref sig .tc := ⟨.hbm, 139, rfl⟩
abbrev main_v80 : Ref sig .tc := ⟨.hbm, 140, rfl⟩
abbrev main_cst_27 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_28 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_29 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_30 : Ref sig .tc := ⟨.hbm, 153, rfl⟩
abbrev main_v90 : Ref sig .tc := ⟨.hbm, 154, rfl⟩
abbrev main_v91 : Ref sig .tc := ⟨.hbm, 155, rfl⟩
abbrev main_cst_31 : Ref sig .tc := ⟨.hbm, 156, rfl⟩
abbrev main_v92 : Ref sig .tc := ⟨.hbm, 157, rfl⟩
abbrev main_v93 : Ref sig .tc := ⟨.hbm, 158, rfl⟩
abbrev main_cst_32 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_33 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_34 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_35 : Ref sig .tc := ⟨.hbm, 171, rfl⟩
abbrev main_v103 : Ref sig .tc := ⟨.hbm, 172, rfl⟩
abbrev main_v104 : Ref sig .tc := ⟨.hbm, 173, rfl⟩
abbrev main_cst_36 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_37 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_38 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_39 : Ref sig .tc := ⟨.hbm, 186, rfl⟩
abbrev main_v114 : Ref sig .tc := ⟨.hbm, 187, rfl⟩
abbrev main_v115 : Ref sig .tc := ⟨.hbm, 188, rfl⟩
abbrev main_cst_40 : Ref sig .tc := ⟨.hbm, 189, rfl⟩
abbrev main_v116 : Ref sig .tc := ⟨.hbm, 190, rfl⟩
abbrev main_v117 : Ref sig .tc := ⟨.hbm, 191, rfl⟩
abbrev main_cst_41 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_42 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_43 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_44 : Ref sig .tc := ⟨.hbm, 204, rfl⟩
abbrev main_v127 : Ref sig .tc := ⟨.hbm, 205, rfl⟩
abbrev main_v128 : Ref sig .tc := ⟨.hbm, 206, rfl⟩
abbrev main_cst_45 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_46 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_cst_47 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_48 : Ref sig .tc := ⟨.hbm, 219, rfl⟩
abbrev main_v138 : Ref sig .tc := ⟨.hbm, 220, rfl⟩
abbrev main_v139 : Ref sig .tc := ⟨.hbm, 221, rfl⟩
abbrev main_cst_49 : Ref sig .tc := ⟨.hbm, 222, rfl⟩
abbrev main_v140 : Ref sig .tc := ⟨.hbm, 223, rfl⟩
abbrev main_v141 : Ref sig .tc := ⟨.hbm, 224, rfl⟩
abbrev main_cst_50 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_51 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_52 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_53 : Ref sig .tc := ⟨.hbm, 237, rfl⟩
abbrev main_v151 : Ref sig .tc := ⟨.hbm, 238, rfl⟩
abbrev main_v152 : Ref sig .tc := ⟨.hbm, 239, rfl⟩
abbrev main_cst_54 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_55 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_56 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_57 : Ref sig .tc := ⟨.hbm, 252, rfl⟩
abbrev main_v162 : Ref sig .tc := ⟨.hbm, 253, rfl⟩
abbrev main_v163 : Ref sig .tc := ⟨.hbm, 254, rfl⟩
abbrev main_cst_58 : Ref sig .tc := ⟨.hbm, 255, rfl⟩
abbrev main_v164 : Ref sig .tc := ⟨.hbm, 256, rfl⟩
abbrev main_v165 : Ref sig .tc := ⟨.hbm, 257, rfl⟩
abbrev main_cst_59 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_cst_60 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_61 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_cst_62 : Ref sig .tc := ⟨.hbm, 270, rfl⟩
abbrev main_v175 : Ref sig .tc := ⟨.hbm, 271, rfl⟩
abbrev main_v176 : Ref sig .tc := ⟨.hbm, 272, rfl⟩
abbrev main_cst_63 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_cst_64 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_cst_65 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_cst_66 : Ref sig .tc := ⟨.hbm, 285, rfl⟩
abbrev main_v186 : Ref sig .tc := ⟨.hbm, 286, rfl⟩
abbrev main_v187 : Ref sig .tc := ⟨.hbm, 287, rfl⟩
abbrev main_cst_67 : Ref sig .tc := ⟨.hbm, 288, rfl⟩
abbrev main_v188 : Ref sig .tc := ⟨.hbm, 289, rfl⟩
abbrev main_v189 : Ref sig .tc := ⟨.hbm, 290, rfl⟩
abbrev main_cst_68 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_cst_69 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_cst_70 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_cst_71 : Ref sig .tc := ⟨.hbm, 303, rfl⟩
abbrev main_v199 : Ref sig .tc := ⟨.hbm, 304, rfl⟩
abbrev main_v200 : Ref sig .tc := ⟨.hbm, 305, rfl⟩
abbrev main_cst_72 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_cst_73 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_74 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_cst_75 : Ref sig .tc := ⟨.hbm, 318, rfl⟩
abbrev main_v210 : Ref sig .tc := ⟨.hbm, 319, rfl⟩
abbrev main_v211 : Ref sig .tc := ⟨.hbm, 320, rfl⟩
abbrev main_cst_76 : Ref sig .tc := ⟨.hbm, 321, rfl⟩
abbrev main_v212 : Ref sig .tc := ⟨.hbm, 322, rfl⟩
abbrev main_v213 : Ref sig .tc := ⟨.hbm, 323, rfl⟩
abbrev main_cst_77 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_cst_78 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_cst_79 : Ref sig .tc := ⟨.hbm, 332, rfl⟩
abbrev main_v220 : Ref sig .tc := ⟨.hbm, 333, rfl⟩
abbrev main_v221 : Ref sig .tc := ⟨.hbm, 334, rfl⟩
abbrev main_v222 : Ref sig .tc := ⟨.hbm, 335, rfl⟩
abbrev main_cst_80 : Ref sig .tc := ⟨.hbm, 336, rfl⟩
abbrev main_v223 : Ref sig .tc := ⟨.hbm, 337, rfl⟩
abbrev main_v224 : Ref sig .tc := ⟨.hbm, 338, rfl⟩
abbrev main_cst_81 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_cst_82 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_cst_83 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_cst_84 : Ref sig .tc := ⟨.hbm, 351, rfl⟩
abbrev main_v234 : Ref sig .tc := ⟨.hbm, 352, rfl⟩
abbrev main_v235 : Ref sig .tc := ⟨.hbm, 353, rfl⟩
abbrev main_cst_85 : Ref sig .tc := ⟨.hbm, 354, rfl⟩
abbrev main_v236 : Ref sig .tc := ⟨.hbm, 355, rfl⟩
abbrev main_v237 : Ref sig .tc := ⟨.hbm, 356, rfl⟩
abbrev main_cst_86 : Ref sig .tc := ⟨.hbm, 357, rfl⟩
abbrev main_v238 : Ref sig .tc := ⟨.hbm, 358, rfl⟩
abbrev main_v239 : Ref sig .tc := ⟨.hbm, 359, rfl⟩
abbrev main_v240 : Ref sig .tc := ⟨.hbm, 360, rfl⟩
abbrev main_cst_87 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_cst_88 : Ref sig .tc := ⟨.hbm, 365, rfl⟩
abbrev main_v244 : Ref sig .tc := ⟨.hbm, 366, rfl⟩
abbrev main_v245 : Ref sig .tc := ⟨.hbm, 367, rfl⟩
abbrev main_v246 : Ref sig .tc := ⟨.hbm, 368, rfl⟩
abbrev main_cst_89 : Ref sig .tc := ⟨.hbm, 369, rfl⟩
abbrev main_v247 : Ref sig .tc := ⟨.hbm, 370, rfl⟩
abbrev main_v248 : Ref sig .tc := ⟨.hbm, 371, rfl⟩
abbrev main_cst_90 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_cst_91 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_cst_92 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_cst_93 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩

abbrev nD : Nat := 1
abbrev τ : Topo := Topo.v7x

variable {F : FTy → Type} [FloatOps F]
-- ==== Proof.Pieces.lean ====
/- Reading a matrix that was stored in rectangular pieces: at an index of the last piece its payload, elsewhere what the
   earlier pieces left. -/
module

public import Idealize.ShloMosaic.Lib.Pipeline.ValueKit
public import Idealize.ShloMosaic.Lib.Pipeline.ReadBack

@[expose] public section

noncomputable section

open Idealize.ShloMosaic

namespace Cert.Pieces

variable {Val : EltTy → Type} [∀ e, Nonempty (Val e)] {sig : RefSig} {κ : Kind} {sp : Space} {e : EltTy}

/-- After a transfer over the whole buffer a load of any rectangle reads the transferred contents there. -/
theorem readCov_whole {s : Shape} (v : View sig κ sp s e) (w : s.Idx → Val e) (L : List (View.Piece Val s e)) (r : Rect s) :
    v.readCov ((⟨Rect.whole s, w⟩ : View.Piece Val s e) :: L) r.toLoadRect = View.ld w r := by
  rw [View.readCov_eq_canon_ld _ _ _ (fun y => ⟨_, List.mem_cons_self, by
    show y ∈ (Rect.whole s).set; rw [Rect.set_whole]; exact Finset.mem_univ y⟩)]
  exact congrArg (fun z => View.ld z r) (View.canon_cons_unit_zero rfl (fun a => by simp) w L)

/-- A piece that is the whole buffer leaves its payload. -/
theorem canon_whole {s : Shape} (w : s.Idx → Val e) (L : List (View.Piece Val s e)) :
    View.canon ((⟨Rect.whole s, w⟩ : View.Piece Val s e) :: L) = w :=
  View.canon_cons_unit_zero rfl (fun a => by simp) w L

variable {n k a b p q : ℕ} (inb : ∀ x, (![a, b] : Fin 2 → ℕ) x + (![p, q] : Fin 2 → ℕ) x ≤ (⟨2, ![n, k]⟩ : Shape).size x)
variable (w : (⟨2, ![p, q]⟩ : Shape).Idx → Val e) (L : List (View.Piece Val ⟨2, ![n, k]⟩ e))
variable (R : Fin n) (J : Fin k)

theorem emb_at (r : Fin p) (j : Fin q) (hR : R.val = a + r.val) (hJ : J.val = b + j.val) :
    (Rect.unit (s := ⟨2, ![n, k]⟩) ![a, b] ![p, q] inb).emb (ix2 r j) = ix2 R J := by
  funext x
  refine Fin.ext ?_
  rw [ValueKit.rect_emb_unit_val]
  fin_cases x
  · exact hR.symm
  · exact hJ.symm

theorem not_mem (h : ¬(a ≤ R.val ∧ R.val < a + p ∧ b ≤ J.val ∧ J.val < b + q)) :
    (ix2 R J : (⟨2, ![n, k]⟩ : Shape).Idx) ∉ (Rect.unit (s := ⟨2, ![n, k]⟩) ![a, b] ![p, q] inb).set := by
  intro hm
  obtain ⟨x, hx⟩ := (Rect.unit (s := ⟨2, ![n, k]⟩) ![a, b] ![p, q] inb).exists_idx_of_mem hm
  have h0 := congrArg Fin.val (congrFun hx 0)
  have h1 := congrArg Fin.val (congrFun hx 1)
  change ((Rect.unit (s := ⟨2, ![n, k]⟩) ![a, b] ![p, q] inb).emb x 0 : ℕ) = R.val at h0
  change ((Rect.unit (s := ⟨2, ![n, k]⟩) ![a, b] ![p, q] inb).emb x 1 : ℕ) = J.val at h1
  rw [ValueKit.rect_emb_unit_val] at h0 h1
  have l0 : (x 0 : ℕ) < p := (x 0).isLt
  have l1 : (x 1 : ℕ) < q := (x 1).isLt
  change a + (x 0 : ℕ) = R.val at h0
  change b + (x 1 : ℕ) = J.val at h1
  exact h ⟨by omega, by omega, by omega, by omega⟩

theorem canon_hit (r : Fin p) (j : Fin q) (hR : R.val = a + r.val) (hJ : J.val = b + j.val) :
    View.canon ((⟨Rect.unit ![a, b] ![p, q] inb, w⟩ : View.Piece Val ⟨2, ![n, k]⟩ e) :: L) (ix2 R J) = w (ix2 r j) := by
  rw [← emb_at inb R J r j hR hJ]
  exact View.canon_cons_emb (Rect.unit (s := ⟨2, ![n, k]⟩) ![a, b] ![p, q] inb) w L _

theorem canon_miss (h : ¬(a ≤ R.val ∧ R.val < a + p ∧ b ≤ J.val ∧ J.val < b + q)) :
    View.canon ((⟨Rect.unit ![a, b] ![p, q] inb, w⟩ : View.Piece Val ⟨2, ![n, k]⟩ e) :: L) (ix2 R J)
      = View.canon L (ix2 R J) :=
  View.canon_cons_of_not_mem _ L (not_mem inb R J h)

/-- The last piece decides inside its rectangle, the earlier ones outside. -/
theorem canon_step {F : Val e} (hw : ∀ (r : Fin p) (j : Fin q), R.val = a + r.val → J.val = b + j.val → w (ix2 r j) = F)
    (hL : ¬(a ≤ R.val ∧ R.val < a + p ∧ b ≤ J.val ∧ J.val < b + q) → View.canon L (ix2 R J) = F) :
    View.canon ((⟨Rect.unit ![a, b] ![p, q] inb, w⟩ : View.Piece Val ⟨2, ![n, k]⟩ e) :: L) (ix2 R J) = F := by
  by_cases h : a ≤ R.val ∧ R.val < a + p ∧ b ≤ J.val ∧ J.val < b + q
  · have hR : R.val = a + (⟨R.val - a, by omega⟩ : Fin p).val := by dsimp only; omega
    have hJ : J.val = b + (⟨J.val - b, by omega⟩ : Fin q).val := by dsimp only; omega
    exact (canon_hit inb w L R J _ _ hR hJ).trans (hw _ _ hR hJ)
  · exact (canon_miss inb w L R J h).trans (hL h)

variable (v : View sig κ sp ⟨2, ![n, k]⟩ e) (f : v.ty.Contents Val)

theorem writes_hit (r : Fin p) (j : Fin q) (hR : R.val = a + r.val) (hJ : J.val = b + j.val) :
    v.read Val (v.writes Val f ((⟨Rect.unit ![a, b] ![p, q] inb, w⟩ : View.Piece Val ⟨2, ![n, k]⟩ e) :: L)) (ix2 R J)
      = w (ix2 r j) := by
  rw [← emb_at inb R J r j hR hJ]
  exact v.read_writes_cons_emb f (Rect.unit (s := ⟨2, ![n, k]⟩) ![a, b] ![p, q] inb) w L _

theorem writes_miss (h : ¬(a ≤ R.val ∧ R.val < a + p ∧ b ≤ J.val ∧ J.val < b + q)) :
    v.read Val (v.writes Val f ((⟨Rect.unit ![a, b] ![p, q] inb, w⟩ : View.Piece Val ⟨2, ![n, k]⟩ e) :: L)) (ix2 R J)
      = v.read Val (v.writes Val f L) (ix2 R J) := by
  rw [View.writes_cons]
  exact View.read_slice_write_of_not_mem _ _ _ _ (by rw [Rect.map_emb_univ]; exact not_mem inb R J h)

theorem writes_step {F : Val e} (hw : ∀ (r : Fin p) (j : Fin q), R.val = a + r.val → J.val = b + j.val → w (ix2 r j) = F)
    (hL : ¬(a ≤ R.val ∧ R.val < a + p ∧ b ≤ J.val ∧ J.val < b + q) →
      v.read Val (v.writes Val f L) (ix2 R J) = F) :
    v.read Val (v.writes Val f ((⟨Rect.unit ![a, b] ![p, q] inb, w⟩ : View.Piece Val ⟨2, ![n, k]⟩ e) :: L)) (ix2 R J) = F := by
  by_cases h : a ≤ R.val ∧ R.val < a + p ∧ b ≤ J.val ∧ J.val < b + q
  · have hR : R.val = a + (⟨R.val - a, by omega⟩ : Fin p).val := by dsimp only; omega
    have hJ : J.val = b + (⟨J.val - b, by omega⟩ : Fin q).val := by dsimp only; omega
    exact (writes_hit inb w L R J v f _ _ hR hJ).trans (hw _ _ hR hJ)
  · exact (writes_miss inb w L R J v f h).trans (hL h)

/-- Three matrices stored side by side, the leftmost first. -/
theorem three_columns {c d : ℕ} {F : Fin k → Val e} {w0 w1 w2 : (⟨2, ![n, q]⟩ : Shape).Idx → Val e}
    (inb0 : ∀ x, (![0, b] : Fin 2 → ℕ) x + (![n, q] : Fin 2 → ℕ) x ≤ (⟨2, ![n, k]⟩ : Shape).size x)
    (inb1 : ∀ x, (![0, c] : Fin 2 → ℕ) x + (![n, q] : Fin 2 → ℕ) x ≤ (⟨2, ![n, k]⟩ : Shape).size x)
    (inb2 : ∀ x, (![0, d] : Fin 2 → ℕ) x + (![n, q] : Fin 2 → ℕ) x ≤ (⟨2, ![n, k]⟩ : Shape).size x)
    (cover : ∀ j < k, (b ≤ j ∧ j < b + q) ∨ (c ≤ j ∧ j < c + q) ∨ (d ≤ j ∧ j < d + q))
    (h0 : ∀ (j : Fin k) (i : Fin q), j.val = b + i.val → w0 (ix2 R i) = F j)
    (h1 : ∀ (j : Fin k) (i : Fin q), j.val = c + i.val → w1 (ix2 R i) = F j)
    (h2 : ∀ (j : Fin k) (i : Fin q), j.val = d + i.val → w2 (ix2 R i) = F j) :
    View.canon ([⟨Rect.unit ![0, b] ![n, q] inb0, w0⟩, ⟨Rect.unit ![0, c] ![n, q] inb1, w1⟩,
      ⟨Rect.unit ![0, d] ![n, q] inb2, w2⟩] : List (View.Piece Val ⟨2, ![n, k]⟩ e)) (ix2 R J) = F J := by
  have hR := R.isLt
  have own : ∀ r : Fin n, R.val = 0 + r.val → r = R := fun r h => Fin.ext (by omega)
  refine canon_step _ _ _ _ _ (fun r i hr hi => own r hr ▸ h0 J i hi) fun m0 => ?_
  refine canon_step _ _ _ _ _ (fun r i hr hi => own r hr ▸ h1 J i hi) fun m1 => ?_
  refine canon_step _ _ _ _ _ (fun r i hr hi => own r hr ▸ h2 J i hi) fun m2 => ?_
  have := cover J.val J.isLt
  omega

/-- One row stored over what was there. -/
theorem row_step {G : Fin n → Val e} {w : (⟨2, ![1, k]⟩ : Shape).Idx → Val e}
    (inb : ∀ x, (![a, 0] : Fin 2 → ℕ) x + (![1, k] : Fin 2 → ℕ) x ≤ (⟨2, ![n, k]⟩ : Shape).size x)
    (hw : R.val = a → w (ix2 0 J) = G R) (hL : R.val ≠ a → View.canon L (ix2 R J) = G R) :
    View.canon ((⟨Rect.unit ![a, 0] ![1, k] inb, w⟩ : View.Piece Val ⟨2, ![n, k]⟩ e) :: L) (ix2 R J) = G R := by
  refine canon_step inb w L R J (fun r j hr hj => ?_) fun h => hL fun e => h ⟨by omega, by omega, by omega, by omega⟩
  have er : r = 0 := Subsingleton.elim _ _
  have ej : j = J := Fin.ext (by omega)
  subst er ej
  exact hw (by simpa using hr)

theorem row_step_over {G : Fin n → Val e} {w : (⟨2, ![1, k]⟩ : Shape).Idx → Val e}
    (inb : ∀ x, (![a, 0] : Fin 2 → ℕ) x + (![1, k] : Fin 2 → ℕ) x ≤ (⟨2, ![n, k]⟩ : Shape).size x)
    (hw : R.val = a → w (ix2 0 J) = G R) (hL : R.val ≠ a → v.read Val (v.writes Val f L) (ix2 R J) = G R) :
    v.read Val (v.writes Val f ((⟨Rect.unit ![a, 0] ![1, k] inb, w⟩ : View.Piece Val ⟨2, ![n, k]⟩ e) :: L)) (ix2 R J) = G R := by
  refine writes_step inb w L R J v f (fun r j hr hj => ?_) fun h => hL fun e => h ⟨by omega, by omega, by omega, by omega⟩
  have er : r = 0 := Subsingleton.elim _ _
  have ej : j = J := Fin.ext (by omega)
  subst er ej
  exact hw (by simpa using hr)

end Cert.Pieces

end
-- ==== Proof.Adam.lean ====
/- The optimiser's step on one matrix: what the kernel leaves in its four results and what the reference's lines say are the
   same functions of the arguments, entry by entry. -/
module

public import proofs.«01_k».proof.Proof.Pieces
public import proofs.«01_k».proof.Proof.Gen.Kernel4Ideal.Value
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Adam

/-! ## The step, number by number -/

/-- The number that a word of a program stands for. -/
abbrev word (b : BitVec 32) : EReal := (Scalar.ofBits .f32 b : Ideal .f32)

/-- The first moment after the step, from the gradient `g` and the moment `u` before it. -/
def first (g u : EReal) : EReal := word 0x3F666666#32 * u + word 0x3DCCCCCD#32 * g

/-- The second moment after the step. -/
def second (g u : EReal) : EReal := word 0x3F7FBE77#32 * u + word 0x3A83126F#32 * (g * g)

/-- The change of the weight `w`, from the two moments after the step. -/
def change (w a b : EReal) : EReal :=
  word 0xBA83126F#32 *
    (Ideal.div (Ideal.div a (word 0x3F26BD02#32)) (Ideal.sqrt (Ideal.div b (word 0x3C231ACC#32)) + word 0x322BCC77#32)
      + word 0x3C23D70A#32 * w)

/-- The arrays of the weights and of the two moments, as the step is given them. -/
abbrev Given := (⟨3, ![1, 1024, 704]⟩ : Shape).Idx → EReal
/-- This device's part of the gradient, and each of the four results. -/
abbrev Part := (⟨2, ![704, 1024]⟩ : Shape).Idx → EReal
/-- The parts that the other devices have sent. -/
abbrev Parts := (⟨3, ![3, 704, 1024]⟩ : Shape).Idx → EReal

/-- The gradient: the sum of the four parts. -/
def grad (own : Part) (parts : Parts) : Part := fun i => own i + ∑ k, parts (ix3 k (i 0) (i 1))

/-- The first moments after the step. -/
def firsts (u : Given) (own : Part) (parts : Parts) : Part := fun i => first (grad own parts i) (u (ix3 0 (i 1) (i 0)))

/-- The second moments after the step. -/
def seconds (u : Given) (own : Part) (parts : Parts) : Part := fun i => second (grad own parts i) (u (ix3 0 (i 1) (i 0)))

/-- The changes of the weights. -/
def changes (w u u' : Given) (own : Part) (parts : Parts) : Part := fun i =>
  change (w (ix3 0 (i 1) (i 0))) (firsts u own parts i) (seconds u' own parts i)

/-! ## The kernel's tile -/

section Kernel

open Cert.Kernel4Ideal Cert.Kernel4Ideal.Gen

section Tile

variable (v0 v14 v16 v18 : Vec Ideal S176x1024 .f32) (v1 v5 v9 : Vec Ideal S1x176x1024 .bf16) (r : Fin 176) (j : Fin 1024)

/-- The tile of the gradient adds the four parts. -/
theorem pay2 : k0_pay2 v0 v1 v5 v9 (ix2 r j) = v0 (ix2 r j) + v1 (ix3 0 r j) + v5 (ix3 0 r j) + v9 (ix3 0 r j) := by
  pointwise [k0_pay2]

/-- The tile of the first moments. -/
theorem pay4 : k0_pay4 v0 v1 v5 v9 v16 (ix2 r j) = first (k0_pay2 v0 v1 v5 v9 (ix2 r j)) (v16 (ix2 r j)) := by
  pointwise [k0_pay4]
  rfl

/-- The tile of the second moments. -/
theorem pay5 : k0_pay5 v0 v1 v5 v9 v18 (ix2 r j) = second (k0_pay2 v0 v1 v5 v9 (ix2 r j)) (v18 (ix2 r j)) := by
  pointwise [k0_pay5]
  rfl

/-- The tile of the changes. -/
theorem pay1 : k0_pay1 (k0_pay3 v14) (k0_pay5 v0 v1 v5 v9 v18) (k0_pay6 v0 v1 v5 v9 v16) (Scalar.ofBits .f32 0x3C231ACC#32) (ix2 r j)
    = change (v14 (ix2 r j)) (k0_pay4 v0 v1 v5 v9 v16 (ix2 r j)) (k0_pay5 v0 v1 v5 v9 v18 (ix2 r j)) := by
  pointwise [k0_pay1, k0_pay3, k0_pay6]
  rfl

end Tile

variable (m : (ℓ : Loc nD τ sig) → Buf (Elt Ideal) ℓ) (c : Dev nD)

/-! ## The blocks of one point -/

theorem idx : ∀ t : Fin cfg0.N, win0_0.index t = ![t.val, 0] ∧ win0_1.index t = ![t.val, 0] ∧ win0_2.index t = ![t.val, 0] ∧
    win0_3.index t = ![t.val, 0] ∧ win0_4.index t = ![0, t.val, 0] ∧ win0_5.index t = ![t.val, 0] ∧ win0_6.index t = ![t.val, 0] ∧
    win0_7.index t = ![t.val, 0] ∧ win0_8.index t = ![t.val, 0] :=
  (by decide +kernel : ∀ t : Fin grid0.N, _)

/-- Row `r` of block `t`. -/
def row (t : Fin cfg0.N) (r : Fin 176) : Fin 704 := ⟨t.val * 176 + r.val, by have := lt_of_lt_of_eq t.isLt N_0; omega⟩

theorem blk_w (t : Fin cfg0.N) (r : Fin 176) (j : Fin 1024) :
    iblk m c 0 t (ix2 r j) = m ((c : Thread nD τ).loc main_arg0) (ix3 0 j (row t r)) := by
  have h : V m c main_v1 (ix2 (row t r) j) = m ((c : Thread nD τ).loc main_arg0) (ix3 0 j (row t r)) := by
    unfold V
    after_results
    pointwise
  refine Eq.trans ?_ h
  unfold row
  blk_ext [iblk, V, idx t]

theorem blk_u (t : Fin cfg0.N) (r : Fin 176) (j : Fin 1024) :
    iblk m c 1 t (ix2 r j) = m ((c : Thread nD τ).loc main_arg1) (ix3 0 j (row t r)) := by
  have h : V m c main_v3 (ix2 (row t r) j) = m ((c : Thread nD τ).loc main_arg1) (ix3 0 j (row t r)) := by
    unfold V
    after_results
    pointwise
  refine Eq.trans ?_ h
  unfold row
  blk_ext [iblk, V, idx t]

theorem blk_u' (t : Fin cfg0.N) (r : Fin 176) (j : Fin 1024) :
    iblk m c 2 t (ix2 r j) = m ((c : Thread nD τ).loc main_arg2) (ix3 0 j (row t r)) := by
  have h : V m c main_v5 (ix2 (row t r) j) = m ((c : Thread nD τ).loc main_arg2) (ix3 0 j (row t r)) := by
    unfold V
    after_results
    pointwise
  refine Eq.trans ?_ h
  unfold row
  blk_ext [iblk, V, idx t]

theorem blk_own (t : Fin cfg0.N) (r : Fin 176) (j : Fin 1024) :
    iblk m c 3 t (ix2 r j) = m ((c : Thread nD τ).loc main_arg3) (ix2 (row t r) j) := by
  unfold row
  blk_ext [iblk, V, idx t]

theorem blk_parts (t : Fin cfg0.N) (k : Fin 3) (r : Fin 176) (j : Fin 1024) :
    iblk m c 4 t (ix3 k r j) = m ((c : Thread nD τ).loc main_arg4) (ix3 k (row t r) j) := by
  unfold row
  blk_ext [iblk, V, idx t]

/-- A load of one of the three blocks of parts. -/
theorem ld_part (x : Vec Ideal S3x176x1024 .bf16) (k : Fin 3) (off : Fin 3 → ℕ) (inb) (h : off = ![k.val, 0, 0]) (r : Fin 176) (j : Fin 1024) :
    View.ld x (Rect.unit (s := S3x176x1024) off S1x176x1024.size inb) (ix3 0 r j) = x (ix3 k r j) := by
  subst h
  refine View.ld_unit_apply_of x _ _ _ _ (ix3 k r j) fun a => ?_
  match a with
  | ⟨0, _⟩ => rfl
  | ⟨1, _⟩ => exact (Nat.zero_add _).symm
  | ⟨2, _⟩ => exact (Nat.zero_add _).symm

/-- A load of a whole block reads the block. -/
theorem ld_all (x : Vec Ideal S176x1024 .f32) : View.ld x r0_0 = x := View.ld_unit_lit _ _ (by decide)

/-- A store of a whole block leaves what is stored. -/
theorem canon_all (x : Vec Ideal S176x1024 .f32) : View.canon [(⟨r0_0, x⟩ : View.Piece (Elt Ideal) S176x1024 .f32)] = x :=
  View.canon_cons_unit_lit _ _ _ (by decide)

/-- The arguments of the program on device `c`. -/
abbrev aw : Given := m ((c : Thread nD τ).loc main_arg0)
abbrev au : Given := m ((c : Thread nD τ).loc main_arg1)
abbrev au' : Given := m ((c : Thread nD τ).loc main_arg2)
abbrev aown : Part := m ((c : Thread nD τ).loc main_arg3)
abbrev aparts : Parts := m ((c : Thread nD τ).loc main_arg4)

/-- The block of the gradient at point `t`. -/
theorem tile_grad (t : Fin cfg0.N) (r : Fin 176) (j : Fin 1024) :
    k0_pay2 (iblk m c 3 t) (View.ld (iblk m c 4 t) r0_1) (View.ld (iblk m c 4 t) r0_2) (View.ld (iblk m c 4 t) r0_3) (ix2 r j)
      = grad (aown m c) (aparts m c) (ix2 (row t r) j) := by
  rw [pay2, ld_part _ 0 ![0, 0, 0] _ rfl, ld_part _ 1 ![1, 0, 0] _ rfl, ld_part _ 2 ![2, 0, 0] _ rfl, blk_own]
  simp only [blk_parts, grad, Fin.sum_univ_three, ← add_assoc]
  rfl

/-- The block of the first moments at point `t`. -/
theorem tile_first (t : Fin cfg0.N) (r : Fin 176) (j : Fin 1024) :
    k0_pay4 (iblk m c 3 t) (View.ld (iblk m c 4 t) r0_1) (View.ld (iblk m c 4 t) r0_2) (View.ld (iblk m c 4 t) r0_3) (iblk m c 1 t) (ix2 r j)
      = firsts (au m c) (aown m c) (aparts m c) (ix2 (row t r) j) := by
  rw [pay4, tile_grad, blk_u]
  rfl

/-- The block of the second moments at point `t`. -/
theorem tile_second (t : Fin cfg0.N) (r : Fin 176) (j : Fin 1024) :
    k0_pay5 (iblk m c 3 t) (View.ld (iblk m c 4 t) r0_1) (View.ld (iblk m c 4 t) r0_2) (View.ld (iblk m c 4 t) r0_3) (iblk m c 2 t) (ix2 r j)
      = seconds (au' m c) (aown m c) (aparts m c) (ix2 (row t r) j) := by
  rw [pay5, tile_grad, blk_u']
  rfl

/-! ## The four results of the kernel -/

/-- The gradient. -/
theorem arr_grad : (dats m 0 c).arrAt 5 (cfgs 0).N = grad (aown m c) (aparts m c) := by
  refine (dats m 0 c).arrAt_eq_of_covers 5 _ (by decide +kernel) fun t _ i => ?_
  blk_simp
  rw [after0_5]
  have e : (win0_5.blk t).view.emb i = ix2 (row t (i 0)) (show Fin 1024 from i 1) := by
    unfold row
    blk_ext [idx t]
  rw [e]
  unfold_out out0_5
  rw [canon_all, ld_all]
  exact (congrArg _ (eq_ix2 (show (⟨2, ![176, 1024]⟩ : Shape).Idx from i))).trans (tile_grad m c t (i 0) (i 1))

/-- The changes of the weights. -/
theorem arr_changes : (dats m 0 c).arrAt 6 (cfgs 0).N = changes (aw m c) (au m c) (au' m c) (aown m c) (aparts m c) := by
  refine (dats m 0 c).arrAt_eq_of_covers 6 _ (by decide +kernel) fun t _ i => ?_
  blk_simp
  rw [after0_6]
  have e : (win0_6.blk t).view.emb i = ix2 (row t (i 0)) (show Fin 1024 from i 1) := by
    unfold row
    blk_ext [idx t]
  rw [e]
  unfold_out out0_6
  rw [canon_all]
  simp only [ld_all]
  refine (congrArg _ (eq_ix2 (show (⟨2, ![176, 1024]⟩ : Shape).Idx from i))).trans ((pay1 ..).trans ?_)
  exact congrArg₂ (fun f g => f g) (congrArg₂ change (blk_w m c t (i 0) (i 1)) (tile_first m c t (i 0) (i 1)))
    (tile_second m c t (i 0) (i 1))

/-- The first moments. -/
theorem arr_firsts : (dats m 0 c).arrAt 7 (cfgs 0).N = firsts (au m c) (aown m c) (aparts m c) := by
  refine (dats m 0 c).arrAt_eq_of_covers 7 _ (by decide +kernel) fun t _ i => ?_
  blk_simp
  rw [after0_7]
  have e : (win0_7.blk t).view.emb i = ix2 (row t (i 0)) (show Fin 1024 from i 1) := by
    unfold row
    blk_ext [idx t]
  rw [e]
  unfold_out out0_7
  rw [canon_all]
  simp only [ld_all]
  exact (congrArg _ (eq_ix2 (show (⟨2, ![176, 1024]⟩ : Shape).Idx from i))).trans (tile_first m c t (i 0) (i 1))

/-- The second moments. -/
theorem arr_seconds : (dats m 0 c).arrAt 8 (cfgs 0).N = seconds (au' m c) (aown m c) (aparts m c) := by
  refine (dats m 0 c).arrAt_eq_of_covers 8 _ (by decide +kernel) fun t _ i => ?_
  blk_simp
  rw [after0_8]
  have e : (win0_8.blk t).view.emb i = ix2 (row t (i 0)) (show Fin 1024 from i 1) := by
    unfold row
    blk_ext [idx t]
  rw [e]
  unfold_out out0_8
  rw [canon_all]
  simp only [ld_all]
  exact (congrArg _ (eq_ix2 (show (⟨2, ![176, 1024]⟩ : Shape).Idx from i))).trans (tile_second m c t (i 0) (i 1))

end Kernel

/-! ## The reference's lines -/

section Reference

open Cert.Reference4Ideal Cert.Reference4Ideal.Read

variable (w u u' : (⟨S1x1024x704, .f32⟩ : BufTy).Contents (Elt Ideal)) (own : (⟨S704x1024, .f32⟩ : BufTy).Contents (Elt Ideal))
  (parts : (⟨S3x704x1024, .bf16⟩ : BufTy).Contents (Elt Ideal))

/-- The gradient, as the reference holds it: transposed. -/
theorem v3_at (j : Fin 1024) (r : Fin 704) : val_main_v3 own parts (ix2 j r) = grad own parts (ix2 r j) := by
  pointwise [val_main_v3, val_main_v2, val_main_v1, val_main_v0, val_main_cst]
  rfl

theorem v11_at (j : Fin 1024) (r : Fin 704) : val_main_v11 u own parts (ix2 j r) = firsts u own parts (ix2 r j) := by
  pointwise [val_main_v11, val_main_v10, val_main_v9, val_main_v8, val_main_v7, val_main_v5, val_main_cst_0, val_main_cst_1, v3_at _ _ _ _]
  rfl

theorem v17_at (j : Fin 1024) (r : Fin 704) : val_main_v17 u' own parts (ix2 j r) = seconds u' own parts (ix2 r j) := by
  pointwise [val_main_v17, val_main_v16, val_main_v15, val_main_v14, val_main_v13, val_main_v12, val_main_v6, val_main_cst_2, val_main_cst_3, v3_at _ _ _ _]
  rfl

theorem ref_grad : val_main_v31 own parts = grad own parts := by
  funext i
  rw [eq_ix2 i]
  pointwise [val_main_v31, v3_at _ _ _ _]

theorem ref_firsts : val_main_v33 u own parts = firsts u own parts := by
  funext i
  rw [eq_ix2 i]
  pointwise [val_main_v33, v11_at _ _ _ _ _]

theorem ref_seconds : val_main_v34 u' own parts = seconds u' own parts := by
  funext i
  rw [eq_ix2 i]
  pointwise [val_main_v34, v17_at _ _ _ _ _]

theorem ref_changes : val_main_v32 w u u' own parts = changes w u u' own parts := by
  funext i
  rw [eq_ix2 i]
  pointwise [val_main_v32, val_main_v30, val_main_v29, val_main_v28, val_main_v27, val_main_v26, val_main_v25, val_main_v24, val_main_v23,
    val_main_v22, val_main_v21, val_main_v20, val_main_v19, val_main_v18, val_main_v4, val_main_cst_4, val_main_cst_5, val_main_cst_6,
    val_main_cst_7, val_main_cst_8, v11_at _ _ _ _ _, v17_at _ _ _ _ _]
  rfl

end Reference

end Cert.Adam

end
-- ==== Proof.Layer.lean ====
/- The feed-forward half of the layer over the real numbers, one token (one row) at a time: layer norms, the gated
   unit, their gradients; and how the extended reals' operations act on numbers that are real. -/
module

public import Idealize.ShloMosaic.Lib.Pointwise

@[expose] public section

noncomputable section

open Idealize.ShloMosaic

namespace Cert.Layer

/-- A row of the model's width. -/
abbrev Row := Fin 1024 → ℝ

/-- The layer norms' small constant, as the program's own bit pattern has it. -/
def eps : ℝ := 10995116 * (2 : ℝ) ^ (-40 : ℤ)

/-- The residual's weight, as the program's own bit pattern has it. -/
def alpha : ℝ := 9975792 * (2 : ℝ) ^ (-23 : ℤ)

def mean (x : Row) : ℝ := (∑ j, x j) / 1024

def cen (x : Row) : Row := fun j => x j - mean x

def var (x : Row) : ℝ := mean fun j => cen x j * cen x j

def inv (x : Row) : ℝ := (Real.sqrt (var x + eps))⁻¹

def hat (x : Row) : Row := fun j => cen x j * inv x

/-- The gradient of a layer norm with scale `g` at the row `x`, for the cotangent `d` of its result. -/
def normGrad (g x d : Row) : Row := fun j =>
  inv x * (d j * g j - mean (fun k => d k * g k) - hat x j * mean (fun k => d k * g k * hat x k))

theorem eps_pos : 0 < eps := by unfold eps; positivity

theorem var_nonneg (x : Row) : 0 ≤ var x := by
  unfold var mean
  exact div_nonneg (Finset.sum_nonneg fun j _ => mul_self_nonneg _) (by norm_num)

theorem var_eps_pos (x : Row) : 0 < var x + eps := add_pos_of_nonneg_of_pos (var_nonneg x) eps_pos

/-- A centred row sums to zero. -/
theorem sum_cen (x : Row) : ∑ j, cen x j = 0 := by
  simp only [cen, mean, Finset.sum_sub_distrib, Finset.sum_const, Finset.card_univ, Fintype.card_fin, nsmul_eq_mul]
  push_cast; ring

/-- The square of the reciprocal root is the reciprocal. -/
theorem inv_sq (x : Row) : inv x * inv x = 1 / (var x + eps) := by
  unfold inv
  rw [← mul_inv, Real.mul_self_sqrt (var_eps_pos x).le, one_div]

/-- The layer norm's gradient as the derivative rules compose it — through the product, the reciprocal root, the
    variance and the mean, each by itself — is the closed form. -/
theorem normGrad_rules (g x d : Row) (j : Fin 1024) :
    d j * g j * inv x
        + (∑ k, cen x k * (d k * g k)) * (-0.5 * (inv x / (var x + eps))) / 1024 * (2 * cen x j)
        + ((∑ k, -(d k * g k * inv x))
            + ∑ k, -((∑ l, cen x l * (d l * g l)) * (-0.5 * (inv x / (var x + eps))) / 1024 * (2 * cen x k))) / 1024
      = normGrad g x d j := by
  have h0 : ∑ k, -((∑ l, cen x l * (d l * g l)) * (-0.5 * (inv x / (var x + eps))) / 1024 * (2 * cen x k)) = 0 := by
    rw [Finset.sum_neg_distrib, ← Finset.mul_sum, ← Finset.mul_sum, sum_cen]; ring
  have h1 : ∑ k, -(d k * g k * inv x) = -(inv x * ∑ k, d k * g k) := by
    rw [Finset.sum_neg_distrib, Finset.mul_sum]
    exact congrArg _ (Finset.sum_congr rfl fun k _ => by ring)
  have h2 : mean (fun k => d k * g k * hat x k) = inv x * (∑ k, cen x k * (d k * g k)) / 1024 := by
    unfold mean hat
    rw [Finset.mul_sum]
    exact congrArg (· / 1024) (Finset.sum_congr rfl fun k _ => by ring)
  have h3 : inv x / (var x + eps) = inv x * (inv x * inv x) := by rw [inv_sq]; ring
  rw [h0, h1, normGrad, h2, h3]
  unfold mean hat
  ring

/-- The logistic function. -/
def sg (z : ℝ) : ℝ := (1 + Real.exp (-z))⁻¹

/-- What the layer's weights are. -/
structure Weights where
  gu : Fin 1024 → Fin 5632 → ℝ
  down : Fin 2816 → Fin 1024 → ℝ
  g1 : Row
  b1 : Row
  g2 : Row
  b2 : Row

variable (P : Weights) (x t : Row)

/-- The first layer norm's result. -/
def hid : Row := fun j => hat x j * P.g1 j + P.b1 j
def gate (f : Fin 2816) : ℝ := ∑ j, hid P x j * P.gu j ⟨f.val, by omega⟩
def up (f : Fin 2816) : ℝ := ∑ j, hid P x j * P.gu j ⟨2816 + f.val, by omega⟩
def act (f : Fin 2816) : ℝ := gate P x f * sg (gate P x f) * up P x f
/-- The second layer norm's argument. -/
def res : Row := fun j => alpha * hid P x j + ∑ f, act P x f * P.down f j
def err : Row := fun j => hat (res P x) j * P.g2 j + P.b2 j - t j
def dy : Row := fun j => err P x t j / 1024
def dres : Row := normGrad P.g2 (res P x) (dy P x t)
def dact (f : Fin 2816) : ℝ := ∑ j, dres P x t j * P.down f j
def dgate (f : Fin 2816) : ℝ :=
  dact P x t f * up P x f * (sg (gate P x f) * (1 + gate P x f * (1 - sg (gate P x f))))
def dup (f : Fin 2816) : ℝ := dact P x t f * (gate P x f * sg (gate P x f))
/-- The cotangent of the first layer norm's result. -/
def dhid : Row := fun j => alpha * dres P x t j + (∑ f, dgate P x t f * P.gu j ⟨f.val, by omega⟩)
  + ∑ f, dup P x t f * P.gu j ⟨2816 + f.val, by omega⟩
/-- The gradient in the layer's argument. -/
def dx : Row := normGrad P.g1 x (dhid P x t)

/-- A token's part of the eight rows of statistics: the gradients of the scales and the shifts, the squared errors,
    three rows of zero. -/
def stat (r : Fin 8) (j : Fin 1024) : ℝ :=
  match r with
  | 0 => dy P x t j * hat (res P x) j
  | 1 => dy P x t j
  | 2 => dhid P x t j * hat x j
  | 3 => dhid P x t j
  | 4 => err P x t j * err P x t j
  | _ => 0

/-- A token's three rows of activations side by side: the first layer norm, the gradients at the arguments of both. -/
def actsRow (j : Fin 3072) : ℝ :=
  if h : j.val < 1024 then hid P x ⟨j.val, h⟩
  else if h' : j.val < 2048 then dres P x t ⟨j.val - 1024, by omega⟩ else dx P x t ⟨j.val - 2048, by omega⟩

/-- A token's three rows of the gated pair's side: the gradients of gate and up, the activation. -/
def gradsRow (j : Fin 8448) : ℝ :=
  if h : j.val < 2816 then dgate P x t ⟨j.val, h⟩
  else if h' : j.val < 5632 then dup P x t ⟨j.val - 2816, by omega⟩ else act P x ⟨j.val - 5632, by omega⟩

theorem actsRow_hid (j : Fin 3072) (i : Fin 1024) (h : j.val = i.val) : actsRow P x t j = hid P x i := by
  rw [actsRow, dif_pos (by omega)]; exact congrArg _ (Fin.ext h)

theorem actsRow_dres (j : Fin 3072) (i : Fin 1024) (h : j.val = 1024 + i.val) : actsRow P x t j = dres P x t i := by
  rw [actsRow, dif_neg (by omega), dif_pos (by omega)]; exact congrArg _ (Fin.ext (by dsimp only; omega))

theorem actsRow_dx (j : Fin 3072) (i : Fin 1024) (h : j.val = 2048 + i.val) : actsRow P x t j = dx P x t i := by
  rw [actsRow, dif_neg (by omega), dif_neg (by omega)]; exact congrArg _ (Fin.ext (by dsimp only; omega))

theorem gradsRow_dgate (j : Fin 8448) (i : Fin 2816) (h : j.val = i.val) : gradsRow P x t j = dgate P x t i := by
  rw [gradsRow, dif_pos (by omega)]; exact congrArg _ (Fin.ext h)

theorem gradsRow_dup (j : Fin 8448) (i : Fin 2816) (h : j.val = 2816 + i.val) : gradsRow P x t j = dup P x t i := by
  rw [gradsRow, dif_neg (by omega), dif_pos (by omega)]; exact congrArg _ (Fin.ext (by dsimp only; omega))

theorem gradsRow_act (j : Fin 8448) (i : Fin 2816) (h : j.val = 5632 + i.val) : gradsRow P x t j = act P x i := by
  rw [gradsRow, dif_neg (by omega), dif_neg (by omega)]; exact congrArg _ (Fin.ext (by dsimp only; omega))

/-! ## The extended reals' operations on real numbers -/

theorem coe_sum {ι : Type} [Fintype ι] (f : ι → ℝ) : ∑ k, ((f k : ℝ) : EReal) = ((∑ k, f k : ℝ) : EReal) := by
  classical
  induction (Finset.univ : Finset ι) using Finset.induction_on with
  | empty => simp
  | insert a s h ih => rw [Finset.sum_insert h, Finset.sum_insert h, ih, EReal.coe_add]

theorem div_coe_coe (a b : ℝ) (h : b ≠ 0) : Ideal.div (a : EReal) (b : EReal) = ((a / b : ℝ) : EReal) := by
  rw [Ideal.div_coe h, ← EReal.coe_mul, mul_one_div]

theorem div_width (a : ℝ) : Ideal.div (a : EReal) ((1024 : ℝ) : EReal) = ((a / 1024 : ℝ) : EReal) :=
  div_coe_coe a 1024 (by norm_num)

theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem rsqrt_var (x : Row) : Ideal.rsqrt ((var x + eps : ℝ) : EReal) = ((inv x : ℝ) : EReal) :=
  rsqrt_pos (var_eps_pos x)

theorem logistic_sg (z : ℝ) : Ideal.logistic (z : EReal) = ((sg z : ℝ) : EReal) := Ideal.logistic_coe _

theorem bits_eps : Ideal.ofBits .f32 0x3727C5AC#32 = ((eps : ℝ) : EReal) := by
  rw [eps]; simp [Ideal.ofBits, Ideal.ieee, -EReal.coe_mul]
theorem bits_alpha : Ideal.ofBits .f32 0x3F9837F0#32 = ((alpha : ℝ) : EReal) := by
  rw [alpha]; simp [Ideal.ofBits, Ideal.ieee, -EReal.coe_mul]
theorem bits_width : Ideal.ofBits .f32 0x44800000#32 = ((1024 : ℝ) : EReal) := by
  simp [Ideal.ofBits, Ideal.ieee, -EReal.coe_mul]; norm_num
theorem bits_recip : Ideal.ofBits .f32 0x3A800000#32 = ((1 / 1024 : ℝ) : EReal) := by
  simp [Ideal.ofBits, Ideal.ieee, -EReal.coe_mul]; norm_num
theorem bits_half : Ideal.ofBits .f32 0x3F000000#32 = ((0.5 : ℝ) : EReal) := by
  simp [Ideal.ofBits, Ideal.ieee, -EReal.coe_mul]; norm_num
theorem bits_neg_half : Ideal.ofBits .f32 0xBF000000#32 = ((-0.5 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

/-- A number below the top in absolute value is real. -/
theorem exists_coe {x : EReal} (h : max x (-x) < ⊤) : ∃ r : ℝ, x = (r : EReal) := by
  induction x with
  | bot => simp at h
  | top => simp at h
  | coe r => exact ⟨r, rfl⟩

/-- The array holds these real numbers. -/
def Holds {a b : ℕ} {φ : FTy} (v : FVec Ideal ⟨2, ![a, b]⟩ φ) (f : Fin a → Fin b → ℝ) : Prop :=
  ∀ (r : Fin a) (j : Fin b), v (ix2 r j) = ((f r j : ℝ) : EReal)

/-- … so it is the array of them. -/
theorem Holds.eq {a b : ℕ} {φ : FTy} {v : FVec Ideal ⟨2, ![a, b]⟩ φ} {f : Fin a → Fin b → ℝ} (h : Holds v f) :
    v = fun i => ((f (i 0) (i 1) : ℝ) : EReal) :=
  funext fun i => (congrArg v (eq_ix2 i)).trans (h (i 0) (i 1))

/-- The eight arguments hold real numbers: the tokens `x`, their targets `y`, the weights. -/
structure Args {n : ℕ} (X T : FVec Ideal ⟨2, ![n, 1024]⟩ .f32) (W : FVec Ideal ⟨2, ![1024, 5632]⟩ .f32)
    (D : FVec Ideal ⟨2, ![2816, 1024]⟩ .f32) (s1 t1 s2 t2 : FVec Ideal ⟨2, ![1, 1024]⟩ .f32) (P : Weights)
    (x y : Fin n → Row) : Prop where
  rows : Holds X x
  target : Holds T y
  pair : Holds W P.gu
  down : Holds D P.down
  g1 : Holds s1 fun _ => P.g1
  b1 : Holds t1 fun _ => P.b1
  g2 : Holds s2 fun _ => P.g2
  b2 : Holds t2 fun _ => P.b2

end Cert.Layer

end
-- ==== Proof.Finite.lean ====
/- The precondition read back: every element of the eight arguments is a real number. -/
module

public import proofs.«01_k».proof.Proof.Layer
public import proofs.«01_k».proof.Proof.Gen.Pre_finite
public import Idealize.ShloMosaic.Lib.ReduceAll

@[expose] public section

set_option maxRecDepth 16384

noncomputable section

open Idealize.ShloMosaic

namespace Cert.Finite

open Cert.Layer Cert.Pre_finite

/-- A scalar has one index. -/
instance : Subsingleton S_.Idx := ⟨fun _ _ => funext fun k => k.elim0⟩

/-- The bit pattern of infinity is the top. -/
theorem bits_top : Ideal.ofBits .f32 0x7F800000#32 = ⊤ := by
  simp [Ideal.ofBits, Ideal.ieee]

/-- An array whose absolute values are all below the top holds real numbers. -/
theorem holds {a b : ℕ} (v : FVec Ideal ⟨2, ![a, b]⟩ .f32) (hb : S_.BroadcastsInDim ⟨2, ![a, b]⟩ ![])
    (hr : Shape.ReducesTo ⟨2, ![a, b]⟩ [0, 1] S_) (hu : 0 < S_.numel) (i : S_.Idx)
    (h : Host.reduce IntOp.andi (cmpf .olt (Host.absf v) (broadcastInDim ⟨2, ![a, b]⟩ ![] hb (constant S_ .f32 0x7F800000#32)))
      (constantI S_ 1 1#1) hr hu i = 1#1) : ∃ f : Fin a → Fin b → ℝ, Holds v f := by
  have e : ∀ (r : Fin a) (j : Fin b), ∃ z : ℝ, v (ix2 r j) = (z : EReal) := by
    intro r j
    have := Host.reduce_andi_all _ _ _ _ i h (ix2 r j)
    pointwise at this
    refine exists_coe ?_
    rw [bits_top] at this
    exact of_decide_eq_true (BitVec.ofBool_eq_iff_eq (b' := true).1 this)
  exact ⟨fun r j => (e r j).choose, fun r j => (e r j).choose_spec⟩

/-- Where the precondition holds, the eight arguments hold real numbers. -/
theorem known (X T : FVec Ideal S8192x1024 .f32) (W : FVec Ideal S1024x5632 .f32) (D : FVec Ideal S2816x1024 .f32)
    (s1 t1 s2 t2 : FVec Ideal S1x1024 .f32) (h : Cert.Pre_finite.fn (F := Ideal) X T W D s1 t1 s2 t2 = fun _ => 1#1) :
    ∃ (P : Weights) (x y : Fin 8192 → Row), Args X T W D s1 t1 s2 t2 P x y := by
  have e := congrFun h ix0
  simp only [fn, fn_part1, fn_part2, andi_apply, IntOp.andi_eq_one] at e
  obtain ⟨⟨⟨⟨⟨⟨⟨hX, hT⟩, hW⟩, hD⟩, hs1⟩, ht1⟩, hs2⟩, ht2⟩ := e
  obtain ⟨x, kx⟩ := holds _ _ _ _ _ hX
  obtain ⟨y, ky⟩ := holds _ _ _ _ _ hT
  obtain ⟨gu, kgu⟩ := holds _ _ _ _ _ hW
  obtain ⟨down, kdown⟩ := holds _ _ _ _ _ hD
  obtain ⟨g1, kg1⟩ := holds _ _ _ _ _ hs1
  obtain ⟨b1, kb1⟩ := holds _ _ _ _ _ ht1
  obtain ⟨g2, kg2⟩ := holds _ _ _ _ _ hs2
  obtain ⟨b2, kb2⟩ := holds _ _ _ _ _ ht2
  have one : ∀ {v : FVec Ideal S1x1024 .f32} {f : Fin 1 → Row}, Holds v f → Holds v fun _ => f 0 :=
    fun k r j => (k r j).trans (by rw [Subsingleton.elim r 0])
  exact ⟨⟨gu, down, g1 0, b1 0, g2 0, b2 0⟩, x, y, kx, ky, kgu, kdown, one kg1, one kb1, one kg2, one kb2⟩

end Cert.Finite

end
-- ==== Proof.ForwardRun.lean ====
/- One grid point of the mixer's forward pass: the body run symbolically. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The type of the assertions about the machine. -/
local notation "𝕄" => MT nD τ sig Unit (Elt F) ℕ (UR sig nD τ) ℕ

/-- The buffers that the body is handed: twelve inputs, five outputs, the scratch array. -/
structure Refs where
  x : Memref sig .tc .vmem S512x1024 .f32
  xPrev : Memref sig .tc .vmem S16x1024 .f32
  win : Memref sig .tc .vmem S1536x1024 .bf16
  wout : Memref sig .tc .vmem S1024x1024 .bf16
  pw : Memref sig .tc .vmem S4x128x128 .f32
  ps : Memref sig .tc .vmem S1x512 .f32
  lg : Memref sig .tc .vmem S1x512 .f32
  lb : Memref sig .tc .vmem S1x512 .f32
  sw : Memref sig .tc .vmem S4x128x128 .f32
  sb : Memref sig .tc .vmem S128x4 .f32
  g : Memref sig .tc .vmem S1x1024 .f32
  b : Memref sig .tc .vmem S1x1024 .f32
  proj : Memref sig .tc .vmem S512x1536 .f32
  xhat : Memref sig .tc .vmem S512x1024 .f32
  rstd : Memref sig .tc .vmem S512x1 .f32
  mix : Memref sig .tc .vmem S512x1024 .bf16
  xb : Memref sig .tc .vmem S512x1024 .bf16
  scr : Memref sig .tc .vmem S512x1024 .f32
  hx : x.IsWhole
  hxPrev : xPrev.IsWhole
  hwin : win.IsWhole
  hwout : wout.IsWhole
  hpw : pw.IsWhole
  hps : ps.IsWhole
  hlg : lg.IsWhole
  hlb : lb.IsWhole
  hsw : sw.IsWhole
  hsb : sb.IsWhole
  hg : g.IsWhole
  hb : b.IsWhole
  hproj : proj.IsWhole
  hxhat : xhat.IsWhole
  hrstd : rstd.IsWhole
  hmix : mix.IsWhole
  hxb : xb.IsWhole
  hscr : scr.IsWhole

/-- The contents of the twelve inputs. -/
structure Ins (F : FTy → Type) where
  x : Vec F S512x1024 .f32
  xPrev : Vec F S16x1024 .f32
  win : Vec F S1536x1024 .bf16
  wout : Vec F S1024x1024 .bf16
  pw : Vec F S4x128x128 .f32
  ps : Vec F S1x512 .f32
  lg : Vec F S1x512 .f32
  lb : Vec F S1x512 .f32
  sw : Vec F S4x128x128 .f32
  sb : Vec F S128x4 .f32
  g : Vec F S1x1024 .f32
  b : Vec F S1x1024 .f32

/-- The body on the buffers `R` at grid coordinates `i`. -/
abbrev body (i : grid0.Coords) (R : Refs) : Prog (TpuEff nD τ sig (Elt F) Λ₀ .tc) PUnit :=
  cc0_mixer_fwd i R.x R.hx R.xPrev R.hxPrev R.win R.hwin R.wout R.hwout R.pw R.hpw R.ps R.hps R.lg R.hlg R.lb R.hlb R.sw R.hsw R.sb R.hsb R.g R.hg R.b R.hb R.proj R.hproj R.xhat R.hxhat R.rstd R.hrstd R.mix R.hmix R.xb R.hxb R.scr R.hscr

/-- The inputs held at the contents `X`. -/
def held (c : Dev nD) (R : Refs) (X : Ins F) : sProp 𝕄 :=
  iprop(owns (c : Thread nD τ) R.x fullShare X.x
    ∗ owns (c : Thread nD τ) R.xPrev fullShare X.xPrev
    ∗ owns (c : Thread nD τ) R.win fullShare X.win
    ∗ owns (c : Thread nD τ) R.wout fullShare X.wout
    ∗ owns (c : Thread nD τ) R.pw fullShare X.pw
    ∗ owns (c : Thread nD τ) R.ps fullShare X.ps
    ∗ owns (c : Thread nD τ) R.lg fullShare X.lg
    ∗ owns (c : Thread nD τ) R.lb fullShare X.lb
    ∗ owns (c : Thread nD τ) R.sw fullShare X.sw
    ∗ owns (c : Thread nD τ) R.sb fullShare X.sb
    ∗ owns (c : Thread nD τ) R.g fullShare X.g
    ∗ owns (c : Thread nD τ) R.b fullShare X.b)

/-- A buffer held at some contents. -/
abbrev some_ (c : Dev nD) {s : Shape} {e : EltTy} (M : Memref sig .tc .vmem s e) : sProp 𝕄 :=
  iprop(∃ d, owns (c : Thread nD τ) M fullShare d)

/-- A buffer held at what the stores `L`, the last one first, leave over some contents. -/
abbrev stored (c : Dev nD) {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

set_option maxHeartbeats 4000000 in
/-- The body: from the inputs and any contents elsewhere, the stores that each output and the scratch array end with. -/
noncomputable def run (c : Dev nD) (i : grid0.Coords) (R : Refs) (X : Ins F) :
    Σ' (Lproj : List (View.Piece (Elt F) S512x1536 .f32)) (Lxhat : List (View.Piece (Elt F) S512x1024 .f32)) (Lrstd : List (View.Piece (Elt F) S512x1 .f32)) (Lmix : List (View.Piece (Elt F) S512x1024 .bf16)) (Lxb : List (View.Piece (Elt F) S512x1024 .bf16)),
      { Lscr : List (View.Piece (Elt F) S512x1024 .f32) //
      ∀ K : PUnit → sProp 𝕄,
        iprop(held c R X ∗ some_ c R.proj ∗ some_ c R.xhat ∗ some_ c R.rstd ∗ some_ c R.mix ∗ some_ c R.xb ∗ some_ c R.scr
            ∗ (iprop(held c R X ∗ stored c R.proj Lproj ∗ stored c R.xhat Lxhat ∗ stored c R.rstd Lrstd ∗ stored c R.mix Lmix ∗ stored c R.xb Lxb ∗ stored c R.scr Lscr) -∗ K ⟨⟩))
          ⊢ wp frame (wpE (defs₀ (F := F)) Variants.none c none) Set.univ (body i R) K } := by
  refine ⟨?_, ?_, ?_, ?_, ?_, ?_, fun K => ?run⟩
  case run =>
    simp only [body, cc0_mixer_fwd_eq_skeleton]; unfold cc0_mixer_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold held some_ stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := R.hx.eq_unread hf0; obtain rfl := R.hxPrev.eq_unread hf1; obtain rfl := R.hwin.eq_unread hf2; obtain rfl := R.hwout.eq_unread hf3; obtain rfl := R.hpw.eq_unread hf4; obtain rfl := R.hps.eq_unread hf5; obtain rfl := R.hlg.eq_unread hf6; obtain rfl := R.hlb.eq_unread hf7; obtain rfl := R.hsw.eq_unread hf8; obtain rfl := R.hsb.eq_unread hf9; obtain rfl := R.hg.eq_unread hf10; obtain rfl := R.hb.eq_unread hf11
    sl_exec
    sl_step
    iapply Hk
    isplitl [H0 H1 H2 H3 H4 H5 H6 H7 H8 H9 H10 H11]
    · isplitl [H0]; · iexists _; isplitr; · ipureintro; exact R.hx.read_unread _
                      iexact H0
      isplitl [H1]; · iexists _; isplitr; · ipureintro; exact R.hxPrev.read_unread _
                      iexact H1
      isplitl [H2]; · iexists _; isplitr; · ipureintro; exact R.hwin.read_unread _
                      iexact H2
      isplitl [H3]; · iexists _; isplitr; · ipureintro; exact R.hwout.read_unread _
                      iexact H3
      isplitl [H4]; · iexists _; isplitr; · ipureintro; exact R.hpw.read_unread _
                      iexact H4
      isplitl [H5]; · iexists _; isplitr; · ipureintro; exact R.hps.read_unread _
                      iexact H5
      isplitl [H6]; · iexists _; isplitr; · ipureintro; exact R.hlg.read_unread _
                      iexact H6
      isplitl [H7]; · iexists _; isplitr; · ipureintro; exact R.hlb.read_unread _
                      iexact H7
      isplitl [H8]; · iexists _; isplitr; · ipureintro; exact R.hsw.read_unread _
                      iexact H8
      isplitl [H9]; · iexists _; isplitr; · ipureintro; exact R.hsb.read_unread _
                      iexact H9
      isplitl [H10]; · iexists _; isplitr; · ipureintro; exact R.hg.read_unread _
                       iexact H10
      iexists _; isplitr; · ipureintro; exact R.hb.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Kernel3Ideal.Mixer

end
-- ==== Proof.ForwardFrame.lean ====
/- The frame of the mixer's forward pass: what the run leaves in every buffer, and that its arguments end unchanged. -/
module

public import proofs.«01_k».proof.Proof.ForwardRun

@[expose] public section

set_option maxRecDepth 16384

noncomputable section

namespace Cert.Kernel3Ideal.Mixer

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The type of the assertions about the machine. -/
local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered. -/
abbrev V (c : Dev nD) (b : Ref sig .tc) : Buf (Elt F) ((c : Thread nD τ).loc b) := StableHlo.after hostOps0 (fun b => m (c, b)) b

/-- No host operation makes a buffer of its own. -/
theorem hostOps_fresh : (hostOps0 : List (HloOp τ sig (Elt F))).Forall fun op => op.fresh = ∅ := by
  simp only [List.Forall]; repeat' constructor

/-- The program up to the region. -/
theorem hmain (𝒱₀ : Variants) : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub hostOps_fresh main_chain

/-- A buffer that no host operation writes is found as it was launched. -/
theorem V_kept (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! ## What a point is handed -/

/-- Window `w`'s block at point `t`, read from the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The staging buffers at point `t`, with the scratch array. -/
abbrev refs (t : Fin cfg0.N) : Refs :=
  ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), win0_12.stage (cfg0.slots t 12), win0_13.stage (cfg0.slots t 13), win0_14.stage (cfg0.slots t 14), win0_15.stage (cfg0.slots t 15), win0_16.stage (cfg0.slots t 16),
   Memref.whole cc0_scratch0,
   hstage0_0 ((cfg0.slots t 0).cast nbuf0_0),
   hstage0_1 ((cfg0.slots t 1).cast nbuf0_1),
   hstage0_2 ((cfg0.slots t 2).cast nbuf0_2),
   hstage0_3 ((cfg0.slots t 3).cast nbuf0_3),
   hstage0_4 ((cfg0.slots t 4).cast nbuf0_4),
   hstage0_5 ((cfg0.slots t 5).cast nbuf0_5),
   hstage0_6 ((cfg0.slots t 6).cast nbuf0_6),
   hstage0_7 ((cfg0.slots t 7).cast nbuf0_7),
   hstage0_8 ((cfg0.slots t 8).cast nbuf0_8),
   hstage0_9 ((cfg0.slots t 9).cast nbuf0_9),
   hstage0_10 ((cfg0.slots t 10).cast nbuf0_10),
   hstage0_11 ((cfg0.slots t 11).cast nbuf0_11),
   hstage0_12 ((cfg0.slots t 12).cast nbuf0_12),
   hstage0_13 ((cfg0.slots t 13).cast nbuf0_13),
   hstage0_14 ((cfg0.slots t 14).cast nbuf0_14),
   hstage0_15 ((cfg0.slots t 15).cast nbuf0_15),
   hstage0_16 ((cfg0.slots t 16).cast nbuf0_16),
   Memref.isWhole_whole _⟩

/-- The blocks of the twelve inputs at point `t`. -/
def insAt (c : Dev nD) (t : Fin cfg0.N) : Ins F :=
  ⟨blockAt m c 0 t, blockAt m c 1 t, blockAt m c 2 t, blockAt m c 3 t, blockAt m c 4 t, blockAt m c 5 t, blockAt m c 6 t, blockAt m c 7 t, blockAt m c 8 t, blockAt m c 9 t, blockAt m c 10 t, blockAt m c 11 t⟩

/-! ## What a point leaves -/

/-- The stores of point `t`. -/
abbrev runAt (c : Dev nD) (t : Fin cfg0.N) := run c (grid0.coords t) (refs t) (insAt m c t)

/-- The contents of the five outputs. -/
structure Outs (F : FTy → Type) where
  proj : Vec F S512x1536 .f32
  xhat : Vec F S512x1024 .f32
  rstd : Vec F S512x1 .f32
  mix : Vec F S512x1024 .bf16
  xb : Vec F S512x1024 .bf16

/-- What a point leaves in the five outputs. -/
def outOf (c : Dev nD) (i : grid0.Coords) (R : Refs) (X : Ins F) : Outs F :=
  ⟨View.canon (run c i R X).1, View.canon (run c i R X).2.1, View.canon (run c i R X).2.2.1, View.canon (run c i R X).2.2.2.1, View.canon (run c i R X).2.2.2.2.1⟩

/-- What point `t` leaves. -/
def outsAt (c : Dev nD) (t : Fin cfg0.N) : Outs F := outOf c (grid0.coords t) (refs t) (insAt m c t)

/-! ## The stores cover the outputs -/

/-- The projection is stored whole, -/
theorem cover_proj (c : Dev nD) (i : grid0.Coords) (R : Refs) (X : Ins F) (y : S512x1536.Idx) :
    ∃ p ∈ (run c i R X).1, y ∈ p.1.set := View.cover_of_tiledL _ S512x1536.size (by sl_kernel_rfl) y

/-- so are the normalised rows, -/
theorem cover_xhat (c : Dev nD) (i : grid0.Coords) (R : Refs) (X : Ins F) (y : S512x1024.Idx) :
    ∃ p ∈ (run c i R X).2.1, y ∈ p.1.set := View.cover_of_tiledL _ S512x1024.size (by sl_kernel_rfl) y

/-- their reciprocal deviations, -/
theorem cover_rstd (c : Dev nD) (i : grid0.Coords) (R : Refs) (X : Ins F) (y : S512x1.Idx) :
    ∃ p ∈ (run c i R X).2.2.1, y ∈ p.1.set := View.cover_of_tiledL _ S512x1.size (by sl_kernel_rfl) y

/-- the mixed rows, -/
theorem cover_mix (c : Dev nD) (i : grid0.Coords) (R : Refs) (X : Ins F) (y : S512x1024.Idx) :
    ∃ p ∈ (run c i R X).2.2.2.1, y ∈ p.1.set := View.cover_of_tiledL _ S512x1024.size (by sl_kernel_rfl) y

/-- and the input's copy. -/
theorem cover_xb (c : Dev nD) (i : grid0.Coords) (R : Refs) (X : Ins F) (y : S512x1024.Idx) :
    ∃ p ∈ (run c i R X).2.2.2.2.1, y ∈ p.1.set := View.cover_of_tiledL _ S512x1024.size (by sl_kernel_rfl) y

/-! ## The proof data -/

/-- What each window's buffer holds after each point: an input its block, an output what the point leaves. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => (outsAt m c t).proj
    | ⟨13, _⟩ => (outsAt m c t).xhat
    | ⟨14, _⟩ => (outsAt m c t).rstd
    | ⟨15, _⟩ => (outsAt m c t).mix
    | ⟨16, _⟩ => (outsAt m c t).xb
    | ⟨_ + 17, h⟩ => absurd h (Nat.not_lt.2 (Nat.le_add_left _ _))
  Φ _ := Pipeline.ΦA spec0 c
  q := Pipeline.shareOf spec0
  owed _ := 0

/-- The arrays of the proof data are what the region finds. -/
theorem dats_A (c : Dev nD) (w : Fin cfg0.W) : (dats m 0 c).A w = V m c (Pipeline.arrRef spec0 w) := by dsimp only [dats]

/-- After a point an input's window still holds its block, -/
theorem after_ins (c : Dev nD) (t : Fin cfg0.N) :
    (dats m 0 c).after 0 t = blockAt m c 0 t
    ∧ (dats m 0 c).after 1 t = blockAt m c 1 t
    ∧ (dats m 0 c).after 2 t = blockAt m c 2 t
    ∧ (dats m 0 c).after 3 t = blockAt m c 3 t
    ∧ (dats m 0 c).after 4 t = blockAt m c 4 t
    ∧ (dats m 0 c).after 5 t = blockAt m c 5 t
    ∧ (dats m 0 c).after 6 t = blockAt m c 6 t
    ∧ (dats m 0 c).after 7 t = blockAt m c 7 t
    ∧ (dats m 0 c).after 8 t = blockAt m c 8 t
    ∧ (dats m 0 c).after 9 t = blockAt m c 9 t
    ∧ (dats m 0 c).after 10 t = blockAt m c 10 t
    ∧ (dats m 0 c).after 11 t = blockAt m c 11 t := by
  refine ⟨?_, ?_, ?_, ?_, ?_, ?_, ?_, ?_, ?_, ?_, ?_, ?_⟩ <;> dsimp only [dats]

/-- and held it before. -/
theorem before_ins (c : Dev nD) (t : Fin cfg0.N) :
    (∀ d, (dats m 0 c).before 0 t d = blockAt m c 0 t)
    ∧ (∀ d, (dats m 0 c).before 1 t d = blockAt m c 1 t)
    ∧ (∀ d, (dats m 0 c).before 2 t d = blockAt m c 2 t)
    ∧ (∀ d, (dats m 0 c).before 3 t d = blockAt m c 3 t)
    ∧ (∀ d, (dats m 0 c).before 4 t d = blockAt m c 4 t)
    ∧ (∀ d, (dats m 0 c).before 5 t d = blockAt m c 5 t)
    ∧ (∀ d, (dats m 0 c).before 6 t d = blockAt m c 6 t)
    ∧ (∀ d, (dats m 0 c).before 7 t d = blockAt m c 7 t)
    ∧ (∀ d, (dats m 0 c).before 8 t d = blockAt m c 8 t)
    ∧ (∀ d, (dats m 0 c).before 9 t d = blockAt m c 9 t)
    ∧ (∀ d, (dats m 0 c).before 10 t d = blockAt m c 10 t)
    ∧ (∀ d, (dats m 0 c).before 11 t d = blockAt m c 11 t) := by
  refine ⟨?_, ?_, ?_, ?_, ?_, ?_, ?_, ?_, ?_, ?_, ?_, ?_⟩ <;> intro d <;>
    exact ((dats m 0 c).before_in_eq_fetched _ rfl (fun _ => rfl) (fun _ _ _ => rfl)
      (fun t => by dsimp only [dats]; unfold Dat.blockOf blockAt; try rfl) t d).trans
        (by unfold Dat.fetched Dat.blockOf blockAt; rw [dats_A]; try rfl)

/-- An output's window holds what the point leaves in it. -/
theorem after_outs (c : Dev nD) (t : Fin cfg0.N) :
    (dats m 0 c).after 12 t = (outsAt m c t).proj
    ∧ (dats m 0 c).after 13 t = (outsAt m c t).xhat
    ∧ (dats m 0 c).after 14 t = (outsAt m c t).rstd
    ∧ (dats m 0 c).after 15 t = (outsAt m c t).mix
    ∧ (dats m 0 c).after 16 t = (outsAt m c t).xb := by
  refine ⟨?_, ?_, ?_, ?_, ?_⟩ <;> dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (refs t).x fullShare ((dats m 0 c).before 0 t d))
    ∗ (∃ d, owns (c : Thread nD τ) (refs t).xPrev fullShare ((dats m 0 c).before 1 t d))
    ∗ (∃ d, owns (c : Thread nD τ) (refs t).win fullShare ((dats m 0 c).before 2 t d))
    ∗ (∃ d, owns (c : Thread nD τ) (refs t).wout fullShare ((dats m 0 c).before 3 t d))
    ∗ (∃ d, owns (c : Thread nD τ) (refs t).pw fullShare ((dats m 0 c).before 4 t d))
    ∗ (∃ d, owns (c : Thread nD τ) (refs t).ps fullShare ((dats m 0 c).before 5 t d))
    ∗ (∃ d, owns (c : Thread nD τ) (refs t).lg fullShare ((dats m 0 c).before 6 t d))
    ∗ (∃ d, owns (c : Thread nD τ) (refs t).lb fullShare ((dats m 0 c).before 7 t d))
    ∗ (∃ d, owns (c : Thread nD τ) (refs t).sw fullShare ((dats m 0 c).before 8 t d))
    ∗ (∃ d, owns (c : Thread nD τ) (refs t).sb fullShare ((dats m 0 c).before 9 t d))
    ∗ (∃ d, owns (c : Thread nD τ) (refs t).g fullShare ((dats m 0 c).before 10 t d))
    ∗ (∃ d, owns (c : Thread nD τ) (refs t).b fullShare ((dats m 0 c).before 11 t d))
    ∗ (∃ d, owns (c : Thread nD τ) (refs t).proj fullShare ((dats m 0 c).before 12 t d))
    ∗ (∃ d, owns (c : Thread nD τ) (refs t).xhat fullShare ((dats m 0 c).before 13 t d))
    ∗ (∃ d, owns (c : Thread nD τ) (refs t).rstd fullShare ((dats m 0 c).before 14 t d))
    ∗ (∃ d, owns (c : Thread nD τ) (refs t).mix fullShare ((dats m 0 c).before 15 t d))
    ∗ (∃ d, owns (c : Thread nD τ) (refs t).xb fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (refs t).x fullShare ((dats m 0 c).after 0 t)
    ∗ owns (c : Thread nD τ) (refs t).xPrev fullShare ((dats m 0 c).after 1 t)
    ∗ owns (c : Thread nD τ) (refs t).win fullShare ((dats m 0 c).after 2 t)
    ∗ owns (c : Thread nD τ) (refs t).wout fullShare ((dats m 0 c).after 3 t)
    ∗ owns (c : Thread nD τ) (refs t).pw fullShare ((dats m 0 c).after 4 t)
    ∗ owns (c : Thread nD τ) (refs t).ps fullShare ((dats m 0 c).after 5 t)
    ∗ owns (c : Thread nD τ) (refs t).lg fullShare ((dats m 0 c).after 6 t)
    ∗ owns (c : Thread nD τ) (refs t).lb fullShare ((dats m 0 c).after 7 t)
    ∗ owns (c : Thread nD τ) (refs t).sw fullShare ((dats m 0 c).after 8 t)
    ∗ owns (c : Thread nD τ) (refs t).sb fullShare ((dats m 0 c).after 9 t)
    ∗ owns (c : Thread nD τ) (refs t).g fullShare ((dats m 0 c).after 10 t)
    ∗ owns (c : Thread nD τ) (refs t).b fullShare ((dats m 0 c).after 11 t)
    ∗ owns (c : Thread nD τ) (refs t).proj fullShare ((dats m 0 c).after 12 t)
    ∗ owns (c : Thread nD τ) (refs t).xhat fullShare ((dats m 0 c).after 13 t)
    ∗ owns (c : Thread nD τ) (refs t).rstd fullShare ((dats m 0 c).after 14 t)
    ∗ owns (c : Thread nD τ) (refs t).mix fullShare ((dats m 0 c).after 15 t)
    ∗ owns (c : Thread nD τ) (refs t).xb fullShare ((dats m 0 c).after 16 t))

/-- What the region keeps between points: the scratch array and the generator register, each at anything. -/
theorem kept_eq (c : Dev nD) : (Pipeline.ΦA (U := UR sig nD τ) (Val := Elt F) spec0 c : sProp 𝕄)
    = iprop((∃ d, owns (c : Thread nD τ) (Memref.whole cc0_scratch0) fullShare d) ∗ ∃ r, prngReg c r) := by
  unfold Pipeline.ΦA
  rw [scopedRest0_eq]
  simp only [owns_whole]
  try rfl

/-- A buffer at stores over anything is a buffer at some contents. -/
theorem some_of_stored (c : Dev nD) {s : Shape} {e : EltTy} (M : Memref sig .tc .vmem s e) (L : List (View.Piece (Elt F) s e)) :
    (stored c M L : sProp 𝕄) ⊢ some_ c M := by
  unfold stored some_ owns
  iintro ⟨%f, H⟩
  iexists _; iexists _; isplitr
  swap; · iexact H
  ipureintro; rfl

/-- A buffer at covering stores holds their contents. -/
theorem owns_of_stored (c : Dev nD) {s : Shape} {e : EltTy} (M : Memref sig .tc .vmem s e) (L : List (View.Piece (Elt F) s e))
    (h : ∀ y : s.Idx, ∃ p ∈ L, y ∈ p.1.set) : (stored c M L : sProp 𝕄) ⊢ owns (c : Thread nD τ) M fullShare (View.canon L) := by
  unfold stored owns
  iintro ⟨%f, H⟩
  iexists _; isplitr
  swap; · iexact H
  ipureintro; exact View.read_writes_eq_canon _ _ _ h

set_option maxHeartbeats 4000000 in
/-- The body at any point, from what the windows hold before it to what they hold after. -/
theorem body_holds (c : Dev nD) (t : Fin cfg0.N) :
    bodyPre m c t ⊢ wp frame (wpE (defs₀ (F := F)) Variants.none c none) Set.univ (body (grid0.coords t) (refs t)) (fun _ => bodyPost m c t) := by
  obtain ⟨b0, b1, b2, b3, b4, b5, b6, b7, b8, b9, b10, b11⟩ := before_ins m c t
  obtain ⟨a0, a1, a2, a3, a4, a5, a6, a7, a8, a9, a10, a11⟩ := after_ins m c t
  obtain ⟨a12, a13, a14, a15, a16⟩ := after_outs m c t
  unfold bodyPre bodyPost
  simp only [b0, b1, b2, b3, b4, b5, b6, b7, b8, b9, b10, b11]
  rw [show (dats m 0 c).Φ t.succ = Pipeline.ΦA spec0 c from rfl, show (dats m 0 c).Φ t.castSucc = Pipeline.ΦA spec0 c from rfl, kept_eq,
    a0, a1, a2, a3, a4, a5, a6, a7, a8, a9, a10, a11, a12, a13, a14, a15, a16]
  rw [show (dats m 0 c).owesAt () t.succ = (dats m 0 c).owesAt () t.castSucc from rfl]
  iintro ⟨⟨HS, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runAt m c t).2.2.2.2.2.2 _)
  isplitl [H0 H1 H2 H3 H4 H5 H6 H7 H8 H9 H10 H11]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexists _; iexact H12
  isplitl [H13]; · iexists _; iexact H13
  isplitl [H14]; · iexists _; iexact H14
  isplitl [H15]; · iexists _; iexact H15
  isplitl [H16]; · iexists _; iexact H16
  isplitl [HS]; · iexact HS
  unfold held
  iintro ⟨⟨H0, H1, H2, H3, H4, H5, H6, H7, H8, H9, H10, H11⟩, H12, H13, H14, H15, H16, HS⟩
  isplitl [HS Hg]
  · isplitl [HS]; · iapply (some_of_stored c _ _); iexact HS
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_of_stored c _ _ (cover_proj c _ _ _)); iexact H12
  isplitl [H13]; · iapply (owns_of_stored c _ _ (cover_xhat c _ _ _)); iexact H13
  isplitl [H14]; · iapply (owns_of_stored c _ _ (cover_rstd c _ _ _)); iexact H14
  isplitl [H15]; · iapply (owns_of_stored c _ _ (cover_mix c _ _ _)); iexact H15
  iapply (owns_of_stored c _ _ (cover_xb c _ _ _)); iexact H16

/-- The table's row for the body at point `t`. -/
theorem row (t : Fin cfg0.N) :
    defs₀ (F := F) .tc cfg0.body (cfg0.bodyArgs t (cfg0.slots t)) = body (grid0.coords t) (refs t) := by
  unfold defs₀; rw [Defs.onTc_tc]

/-- The pipeline's demand on the body, at every point. -/
theorem obligation (c : Dev nD) : BodyObligation (dats (F := F) m 0 c) (defs₀ (F := F)) Variants.none () Set.univ := fun t => by
  rw [bigSep_W0, bigSep_W0, row]
  exact triple_restated (body_holds m c t) rfl .rfl fun _ => .rfl

/-! ## The run -/

set_option backward.isDefEq.respectTransparency.types false in
/-- Every run ends with the pipeline's arrays at what the proof data say, every other buffer as the region found it, and all
    counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := dats_A m) (hΦ := fun _ _ => rfl)

/-- The contents alone. -/
theorem run_main : θ_run defs (onTc (τ := τ) (main (F := F))) (s₀ m ρ) (Pipeline.FramePost cfgs (dats m) 0 (V m)) :=
  (θ_run defs _ _).mono (fun _ h => h.1) (run_quiet m ρ)

/-- The buffers the host operations write. -/
def hostWrites : List (Ref sig .tc) := [main_v0, main_v1, main_v2, main_v3, main_v4, main_v5, main_v6, main_v7, main_v8, main_v9]

/-- A buffer that is none of them is written by no host operation. -/
theorem untouched (b : Ref sig .tc) (h : ∀ b' ∈ hostWrites, b ≠ b') :
    (hostOps0 : List (HloOp τ sig (Elt F))).Forall fun op => Proc.devRef .tc b ∉ op.writes := by
  simp only [hostWrites, List.forall_mem_cons] at h
  obtain ⟨h0, h1, h2, h3, h4, h5, h6, h7, h8, h9, -⟩ := h
  simp only [hostOps0, List.Forall, StableHlo.unary_writes, StableHlo.binary_writes, StableHlo.reshape_writes, Finset.mem_singleton]
  refine ⟨?_, ?_, ?_, ?_, ?_, ?_, ?_, ?_, ?_, ?_⟩ <;> exact StableHlo.devRef_ne_of_ne (by assumption)

/-- The arguments are as they were launched. -/
def ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)

/-- What the pipeline leaves keeps the arguments. -/
theorem args_kept (r : PUnit × MemSt nD τ sig (Elt F)) (h : Pipeline.FramePost cfgs (dats m) 0 (V m) r) (c : Dev nD) : ArgsKept m r c :=
  ⟨((h c).2 main_arg0 (Pipeline.mem_restRefs_of main_arg0 (by decide) (by decide))).trans (V_kept m c main_arg0 (untouched main_arg0 (by decide))),
    ((h c).2 main_arg1 (Pipeline.mem_restRefs_of main_arg1 (by decide) (by decide))).trans (V_kept m c main_arg1 (untouched main_arg1 (by decide))),
    ((h c).2 main_arg2 (Pipeline.mem_restRefs_of main_arg2 (by decide) (by decide))).trans (V_kept m c main_arg2 (untouched main_arg2 (by decide))),
    ((h c).2 main_arg3 (Pipeline.mem_restRefs_of main_arg3 (by decide) (by decide))).trans (V_kept m c main_arg3 (untouched main_arg3 (by decide))),
    ((h c).1 5).trans (((dats m 0 c).arrAt_in 5 rfl _).trans ((dats_A m c 5).trans (V_kept m c main_arg4 (untouched main_arg4 (by decide))))),
    ((h c).1 6).trans (((dats m 0 c).arrAt_in 6 rfl _).trans ((dats_A m c 6).trans (V_kept m c main_arg5 (untouched main_arg5 (by decide))))),
    ((h c).1 7).trans (((dats m 0 c).arrAt_in 7 rfl _).trans ((dats_A m c 7).trans (V_kept m c main_arg6 (untouched main_arg6 (by decide))))),
    ((h c).2 main_arg7 (Pipeline.mem_restRefs_of main_arg7 (by decide) (by decide))).trans (V_kept m c main_arg7 (untouched main_arg7 (by decide))),
    ((h c).2 main_arg8 (Pipeline.mem_restRefs_of main_arg8 (by decide) (by decide))).trans (V_kept m c main_arg8 (untouched main_arg8 (by decide))),
    ((h c).1 10).trans (((dats m 0 c).arrAt_in 10 rfl _).trans ((dats_A m c 10).trans (V_kept m c main_arg9 (untouched main_arg9 (by decide))))),
    ((h c).1 11).trans (((dats m 0 c).arrAt_in 11 rfl _).trans ((dats_A m c 11).trans (V_kept m c main_arg10 (untouched main_arg10 (by decide)))))⟩

/-- Every run ends with the arguments unchanged and all counters at zero. -/
theorem frame : θ_run defs (onTc (τ := τ) (main (F := F))) ⟨m, fun _ => 0, ρ⟩ (fun r => (∀ c : Dev nD, ArgsKept m r c)
      ∧ r.2.sem = fun _ => 0) :=
  (θ_run defs _ _).mono (fun r hq => ⟨args_kept m r hq.1, hq.2⟩) (run_quiet m ρ)

/-- Every run ends with the five results that the write-backs name, the arguments unchanged. -/
theorem run_arrays : θ_run defs (onTc (τ := τ) (main (F := F))) ⟨m, fun _ => 0, ρ⟩ (fun r => ∀ c : Dev nD,
      r.2.mem ((c.tc : Thread nD τ).loc main_v10_0) = (dats m 0 c).arrAt 12 (cfgs 0).N
      ∧ r.2.mem ((c.tc : Thread nD τ).loc main_v10_1) = (dats m 0 c).arrAt 13 (cfgs 0).N
      ∧ r.2.mem ((c.tc : Thread nD τ).loc main_v10_2) = (dats m 0 c).arrAt 14 (cfgs 0).N
      ∧ r.2.mem ((c.tc : Thread nD τ).loc main_v10_3) = (dats m 0 c).arrAt 15 (cfgs 0).N
      ∧ r.2.mem ((c.tc : Thread nD τ).loc main_v10_4) = (dats m 0 c).arrAt 16 (cfgs 0).N
      ∧ ArgsKept m r c) :=
  (θ_run defs _ _).mono (fun r h c => ⟨(h c).1 12, (h c).1 13, (h c).1 14, (h c).1 15, (h c).1 16, args_kept m r h c⟩) (run_main m ρ)

end Cert.Kernel3Ideal.Mixer

end
-- ==== Proof.ForwardBits.lean ====
/- The frame of the mixer's forward pass as the machine computes it: the idealized text, its named constants at the words
   the kernel has. -/
module

public import proofs.«01_k».proof.Proof.ForwardFrame
public import proofs.«01_k».proof.Defs
public import proofs.«01_k».proof.Proof.Gen.Kernel3

@[expose] public section

set_option maxRecDepth 16384

noncomputable section

namespace Cert.Kernel3.Mixer

open Idealize.ShloMosaic Idealize.ShloMosaic.TcCoe Idealize.SL.Sem Idealize.ShloMosaic.Tactic

/-- At the machine's words a named constant is the word it was printed with. -/
local instance atWords : Named Bits := ⟨fun _ _ _ b => Scalar.ofBits _ b⟩

/-- The two host programs are one text, -/
theorem main_eq : Cert.Kernel3.main (F := Bits) = Cert.Kernel3Ideal.main (F := Bits) := rfl

/-- and so are the two tables of bodies. -/
theorem defs_eq : Cert.Kernel3.defs (F := Bits) = Cert.Kernel3Ideal.defs (F := Bits) := by sl_kernel_rfl

/-- The kernel runs, its arguments end unchanged and all counters at zero. -/
theorem frame : Cert.quiescent_Kernel3 := fun m ρ _ => by
  rw [main_eq, defs_eq]
  exact Cert.Kernel3Ideal.Mixer.frame (F := Bits) m ρ

end Cert.Kernel3.Mixer

end
-- ==== Proof.MixerMath.lean ====
/- The hybrid mixer over the real numbers, one sequence at a time: the pooled groups, the gated unit's mixing inside
   chunks of 128 tokens, their gradients. Rows are counted by natural numbers; a sequence has 2048 of them. -/
module

public import proofs.«01_k».proof.Proof.Layer

@[expose] public section

noncomputable section

open Idealize.ShloMosaic

namespace Cert.Mix

open Cert.Layer (eps alpha eps_pos)

/-- A row of half the model's width. -/
abbrev Half := Fin 512 → ℝ

/-! ## The layer norm over 512 columns -/

def mean (x : Half) : ℝ := (∑ j, x j) / 512
def cen (x : Half) : Half := fun j => x j - mean x
def var (x : Half) : ℝ := mean fun j => cen x j * cen x j
def inv (x : Half) : ℝ := (Real.sqrt (var x + eps))⁻¹
def hat (x : Half) : Half := fun j => cen x j * inv x

/-- The gradient of the layer norm with scale `g` at the row `x`, for the cotangent `d` of its result. -/
def normGrad (g x d : Half) : Half := fun j =>
  inv x * (d j * g j - mean (fun k => d k * g k) - hat x j * mean (fun k => d k * g k * hat x k))

theorem var_eps_pos (x : Half) : 0 < var x + eps := by
  refine add_pos_of_nonneg_of_pos ?_ eps_pos
  unfold var mean
  exact div_nonneg (Finset.sum_nonneg fun j _ => mul_self_nonneg _) (by norm_num)

theorem sum_cen (x : Half) : ∑ j, cen x j = 0 := by
  simp only [cen, mean, Finset.sum_sub_distrib, Finset.sum_const, Finset.card_univ, Fintype.card_fin, nsmul_eq_mul]
  push_cast; ring

theorem inv_sq (x : Half) : inv x * inv x = 1 / (var x + eps) := by
  unfold inv
  rw [← mul_inv, Real.mul_self_sqrt (var_eps_pos x).le, one_div]

/-- The gradient as the derivative rules compose it, through the product, the reciprocal root, the variance and the
    mean each by itself, is the closed form. -/
theorem normGrad_rules (g x d : Half) (j : Fin 512) :
    d j * g j * inv x
        + (∑ k, cen x k * (d k * g k)) * (-0.5 * (inv x / (var x + eps))) / 512 * (2 * cen x j)
        + ((∑ k, -(d k * g k * inv x))
            + ∑ k, -((∑ l, cen x l * (d l * g l)) * (-0.5 * (inv x / (var x + eps))) / 512 * (2 * cen x k))) / 512
      = normGrad g x d j := by
  have h0 : ∑ k, -((∑ l, cen x l * (d l * g l)) * (-0.5 * (inv x / (var x + eps))) / 512 * (2 * cen x k)) = 0 := by
    rw [Finset.sum_neg_distrib, ← Finset.mul_sum, ← Finset.mul_sum, sum_cen]; ring
  have h1 : ∑ k, -(d k * g k * inv x) = -(inv x * ∑ k, d k * g k) := by
    rw [Finset.sum_neg_distrib, Finset.mul_sum]
    exact congrArg _ (Finset.sum_congr rfl fun k _ => by ring)
  have h2 : mean (fun k => d k * g k * hat x k) = inv x * (∑ k, cen x k * (d k * g k)) / 512 := by
    unfold mean hat
    rw [Finset.mul_sum]
    exact congrArg (· / 512) (Finset.sum_congr rfl fun k _ => by ring)
  have h3 : inv x / (var x + eps) = inv x * (inv x * inv x) := by rw [inv_sq]; ring
  rw [h0, h1, normGrad, h2, h3]
  unfold mean hat
  ring

/-! ## The exact Gaussian unit -/

/-- The error function. -/
def erf (r : ℝ) : ℝ := 2 / Real.sqrt Real.pi * ∫ t in (0 : ℝ)..r, Real.exp (-(t ^ 2))

def gelu (z : ℝ) : ℝ := 0.5 * z * (1 + erf (z * (Real.sqrt 2)⁻¹))

/-- Its derivative. -/
def gelu' (z : ℝ) : ℝ :=
  0.5 * (1 + erf (z * (Real.sqrt 2)⁻¹)) + z * Real.exp (-0.5 * z * z) * (Real.sqrt (2 * Real.pi))⁻¹

theorem erf_coe (r : ℝ) : Ideal.erf (r : EReal) = ((erf r : ℝ) : EReal) := rfl

/-! ## Windows over the rows -/

/-- The sum of the `w` rows that end at `t`, the ones before the sequence left out. -/
def back (w : ℕ) (f : ℕ → ℝ) (t : ℕ) : ℝ := ∑ i ∈ Finset.range w, if i ≤ t then f (t - i) else 0

/-- The sum of the `w` rows that begin at `t`, the ones after the sequence left out. -/
def ahead (w : ℕ) (f : ℕ → ℝ) (t : ℕ) : ℝ := ∑ i ∈ Finset.range w, if t + i < 2048 then f (t + i) else 0

/-- One over the number of rows in the window that ends at `t`. -/
def recip (w t : ℕ) : ℝ := 1 / ((min (t + 1) w : ℕ) : ℝ)

/-! ## The mixer -/

structure Weights where
  win : Fin 1024 → Fin 1536 → ℝ
  wout : Fin 1024 → Fin 1024 → ℝ
  pw : Fin 4 → Fin 128 → Fin 128 → ℝ
  ps : Half
  lg : Half
  lb : Half
  sw : Fin 4 → Fin 128 → Fin 128 → ℝ
  sb : Fin 4 → Fin 128 → ℝ

/-- A sequence: the rows of its projection and of its cotangent. -/
structure Seq where
  p : ℕ → Fin 1536 → ℝ
  d : ℕ → Fin 1024 → ℝ

/-- Column `j` of group (of head) `g`. -/
abbrev col (g : Fin 4) (j : Fin 128) : Fin 512 := ⟨128 * g.val + j.val, by omega⟩

abbrev grp (c : Fin 512) : Fin 4 := ⟨c.val / 128, by omega⟩
abbrev lane (c : Fin 512) : Fin 128 := ⟨c.val % 128, by omega⟩

/-- The window of group `g`. -/
def width (g : Fin 4) : ℕ := 2 ^ (g.val + 1)

variable (P : Weights) (S : Seq) (t : ℕ)

/-- The columns that are pooled, the gates, the values. -/
def xp (c : Fin 512) : ℝ := S.p t ⟨c.val, by omega⟩
def zu (c : Fin 512) : ℝ := S.p t ⟨512 + c.val, by omega⟩
def zv (c : Fin 512) : ℝ := S.p t ⟨1024 + c.val, by omega⟩

/-- The cotangent of the mixer's concatenated result, and its two halves. -/
def dmix (c : Fin 1024) : ℝ := ∑ k, S.d t k * P.wout c k
def dpo (c : Fin 512) : ℝ := dmix P S t ⟨c.val, by omega⟩
def dsg (c : Fin 512) : ℝ := dmix P S t ⟨512 + c.val, by omega⟩

/-! The pooled half. -/

def pooled (g : Fin 4) (j : Fin 128) : ℝ :=
  back (width g) (fun s => xp S s (col g j)) t * recip (width g) t - xp S t (col g j)
def pre (g : Fin 4) (j : Fin 128) : ℝ := ∑ k, pooled S t g k * P.pw g k j
def dsb (g : Fin 4) (j : Fin 128) : ℝ := dpo P S t (col g j) * P.ps (col g j)
def dpool (g : Fin 4) (k : Fin 128) : ℝ := ∑ j, dsb P S t g j * P.pw g k j
def dxp (g : Fin 4) (k : Fin 128) : ℝ :=
  ahead (width g) (fun s => dpool P S s g k * recip (width g) s) t - dpool P S t g k

/-! The gated half. -/

def u (c : Fin 512) : ℝ := gelu (zu S t c)
def v : Half := fun c => gelu (zv S t c)
def vln (c : Fin 512) : ℝ := hat (v S t) c * P.lg c + P.lb c

/-- The causal mixing weights of head `h`. -/
def tri (h : Fin 4) (p s : Fin 128) : ℝ := if s ≤ p then P.sw h p s else 0

/-- The mixed value of row `p` of the chunk that begins at row `t`. -/
def mixAt (p : Fin 128) (h : Fin 4) (j : Fin 128) : ℝ :=
  (∑ s : Fin 128, tri P h p s * vln P S (t + s.val) (col h j)) + P.sb h p
/-- The cotangent of the mixed value. -/
def dmx (c : Fin 512) : ℝ := dsg P S t c * u S t c
/-- The cotangent of the layer norm's result at row `s` of the chunk that begins at row `t`. -/
def dvAt (s : Fin 128) (h : Fin 4) (j : Fin 128) : ℝ := ∑ p : Fin 128, tri P h p s * dmx P S (t + p.val) (col h j)

/-- The beginning of the chunk of row `t`, and the row inside it. -/
abbrev chunk : ℕ := 128 * (t / 128)
abbrev inside : Fin 128 := ⟨t % 128, Nat.mod_lt _ (by norm_num)⟩

def du (c : Fin 512) : ℝ := dsg P S t c * mixAt P S (chunk t) (inside t) (grp c) (lane c)
def dvln : Half := fun c => dvAt P S (chunk t) (inside t) (grp c) (lane c)
def dv : Half := normGrad P.lg (v S t) (dvln P S t)

/-! The results of a row. -/

def dproj (c : Fin 1536) : ℝ :=
  if h : c.val < 512 then dxp P S t (grp ⟨c.val, h⟩) (lane ⟨c.val, h⟩)
  else if h' : c.val < 1024 then du P S t ⟨c.val - 512, by omega⟩ * gelu' (zu S t ⟨c.val - 512, by omega⟩)
  else dv P S t ⟨c.val - 1024, by omega⟩ * gelu' (zv S t ⟨c.val - 1024, by omega⟩)

def gx (k : Fin 1024) : ℝ := alpha * S.d t k + ∑ c, dproj P S t c * P.win k c

theorem dproj_pool (g : Fin 4) (j : Fin 128) (c : Fin 1536) (h : c.val = 128 * g.val + j.val) :
    dproj P S t c = dxp P S t g j := by
  rw [dproj, dif_pos (by omega)]
  exact congrArg₂ (dxp P S t) (Fin.ext (by dsimp only; omega)) (Fin.ext (by dsimp only; omega))

theorem dproj_gate (j : Fin 512) (c : Fin 1536) (h : c.val = 512 + j.val) :
    dproj P S t c = du P S t j * gelu' (zu S t j) := by
  have e : ∀ q : c.val - 512 < 512, (⟨c.val - 512, q⟩ : Fin 512) = j := fun q => Fin.ext (by dsimp only; omega)
  rw [dproj, dif_neg (by omega), dif_pos (by omega), e]

theorem dproj_value (j : Fin 512) (c : Fin 1536) (h : c.val = 1024 + j.val) :
    dproj P S t c = dv P S t j * gelu' (zv S t j) := by
  have e : ∀ q : c.val - 1024 < 512, (⟨c.val - 1024, q⟩ : Fin 512) = j := fun q => Fin.ext (by dsimp only; omega)
  rw [dproj, dif_neg (by omega), dif_neg (by omega), e]

/-! The results that are summed over rows: what the 1024 rows from `t` on give. -/

/-- The gradients of the pooled groups' matrices and of the heads' mixing weights. -/
def matPart (g : Fin 8) (a b : Fin 128) : ℝ :=
  if h : g.val < 4 then ∑ r : Fin 1024, pooled S (t + r.val) ⟨g.val, h⟩ a * dsb P S (t + r.val) ⟨g.val, h⟩ b
  else if b ≤ a then ∑ q : Fin 1024,
      dmx P S (t + 128 * (q.val / 128) + a.val) (col ⟨g.val - 4, by omega⟩ ⟨q.val % 128, by omega⟩)
        * vln P S (t + 128 * (q.val / 128) + b.val) (col ⟨g.val - 4, by omega⟩ ⟨q.val % 128, by omega⟩)
  else 0

/-- The gradients of the pooled half's scale, of the layer norm's scale and shift, of the four heads' shifts. -/
def vecPart (r : Fin 8) (c : Fin 1024) : ℝ :=
  if h : r.val < 3 then
    if hc : c.val < 512 then
      if r.val = 0 then ∑ s : Fin 1024, dpo P S (t + s.val) ⟨c.val, hc⟩
          * pre P S (t + s.val) (grp ⟨c.val, hc⟩) (lane ⟨c.val, hc⟩)
      else if r.val = 1 then ∑ s : Fin 1024, dvln P S (t + s.val) ⟨c.val, hc⟩ * hat (v S (t + s.val)) ⟨c.val, hc⟩
      else ∑ s : Fin 1024, dvln P S (t + s.val) ⟨c.val, hc⟩
    else 0
  else if h' : r.val < 7 then
    if c.val < 128 then ∑ q : Fin 1024,
      dmx P S (t + 128 * (q.val / 128) + c.val) (col ⟨r.val - 3, by omega⟩ ⟨q.val % 128, by omega⟩)
    else 0
  else 0

end Cert.Mix

end
-- ==== Proof.MixerArgs.lean ====
/- The arguments of the mixer's backward pass as real numbers, and the four sequences made of them. -/
module

public import proofs.«01_k».proof.Proof.Layer
public import proofs.«01_k».proof.Proof.MixerMath

@[expose] public section

noncomputable section

open Idealize.ShloMosaic

namespace Cert.Mix

open Cert.Layer

/-- The arrays hold the real numbers given: the cotangent, the activations, the eight weights. -/
structure Args (a0 : (⟨2, ![8192, 1024]⟩ : Shape).Idx → EReal) (a1 : (⟨3, ![4, 2048, 1024]⟩ : Shape).Idx → EReal)
    (a2 : (⟨3, ![1, 1024, 1536]⟩ : Shape).Idx → EReal) (a3 : (⟨3, ![1, 1024, 1024]⟩ : Shape).Idx → EReal)
    (a4 : (⟨4, ![1, 4, 128, 128]⟩ : Shape).Idx → EReal) (a5 a6 a7 : (⟨2, ![1, 512]⟩ : Shape).Idx → EReal)
    (a8 : (⟨4, ![1, 4, 128, 128]⟩ : Shape).Idx → EReal) (a9 : (⟨3, ![1, 4, 128]⟩ : Shape).Idx → EReal)
    (P : Weights) (x : Fin 4 → Fin 2048 → Fin 1024 → ℝ) (d : Fin 8192 → Fin 1024 → ℝ) : Prop where
  d : ∀ n k, a0 (ix2 n k) = ((d n k : ℝ) : EReal)
  x : ∀ b t k, a1 (ix3 b t k) = ((x b t k : ℝ) : EReal)
  win : ∀ z k c, a2 (ix3 z k c) = ((P.win k c : ℝ) : EReal)
  wout : ∀ z c k, a3 (ix3 z c k) = ((P.wout c k : ℝ) : EReal)
  pw : ∀ z g k j, a4 (ix4 z g k j) = ((P.pw g k j : ℝ) : EReal)
  ps : ∀ z j, a5 (ix2 z j) = ((P.ps j : ℝ) : EReal)
  lg : ∀ z j, a6 (ix2 z j) = ((P.lg j : ℝ) : EReal)
  lb : ∀ z j, a7 (ix2 z j) = ((P.lb j : ℝ) : EReal)
  sw : ∀ z h p s, a8 (ix4 z h p s) = ((P.sw h p s : ℝ) : EReal)
  sb : ∀ z h p, a9 (ix3 z h p) = ((P.sb h p : ℝ) : EReal)

/-- Sequence `b`: its projected rows and the cotangents of its rows. -/
def seq (P : Weights) (x : Fin 4 → Fin 2048 → Fin 1024 → ℝ) (d : Fin 8192 → Fin 1024 → ℝ) (b : Fin 4) : Seq where
  p t c := ∑ k, x b ⟨t % 2048, Nat.mod_lt _ (by norm_num)⟩ k * P.win k c
  d t k := d ⟨2048 * b.val + t % 2048, by omega⟩ k

/-! ## Numbers and choices -/

theorem bits_512 : Ideal.ofBits .f32 0x44000000#32 = ((512 : ℝ) : EReal) := by
  simp [Ideal.ofBits, Ideal.ieee, -EReal.coe_mul]; norm_num

theorem div_512 (a : ℝ) : Ideal.div (a : EReal) ((512 : ℝ) : EReal) = ((a / 512 : ℝ) : EReal) :=
  div_coe_coe a 512 (by norm_num)

theorem one_add (r : ℝ) : (1 : EReal) + (r : EReal) = ((1 + r : ℝ) : EReal) := by rw [EReal.coe_add, EReal.coe_one]

/-- A choice by the order of two small numbers kept as words. -/
theorem select_le {α : Type} (p s : Fin 128) (a b : α) :
    Scalar.select (IntOp.cmpi .sge (BitVec.ofNat 32 p.val) (BitVec.ofNat 32 s.val)) a b = if s ≤ p then a else b := by
  have hp := p.isLt
  have hs := s.isLt
  have e : ∀ n : ℕ, n < 128 → (BitVec.ofNat 32 n).toInt = (n : ℤ) := fun n hn => by
    rw [BitVec.toInt_eq_toNat_of_lt (by rw [BitVec.toNat_ofNat, Nat.mod_eq_of_lt (by omega)]; omega),
      BitVec.toNat_ofNat, Nat.mod_eq_of_lt (by omega)]
  have q : (BitVec.ofNat 32 s.val).sle (BitVec.ofNat 32 p.val) = decide (s ≤ p) := by
    rw [BitVec.sle_eq_decide, e _ hp, e _ hs]
    exact decide_eq_decide.2 (by rw [Fin.le_def]; omega)
  by_cases d : s ≤ p
  · rw [if_pos d]
    show Scalar.select (BitVec.ofBool ((BitVec.ofNat 32 s.val).sle (BitVec.ofNat 32 p.val))) a b = a
    rw [q, decide_eq_true d]; rfl
  · rw [if_neg d]
    show Scalar.select (BitVec.ofBool ((BitVec.ofNat 32 s.val).sle (BitVec.ofNat 32 p.val))) a b = b
    rw [q, decide_eq_false d]; rfl

end Cert.Mix

end
-- ==== Proof.ForwardMath.lean ====
/- The hybrid mixer's forward pass and the normalised residual after it. The projection, its windows and its Gaussian units are real
   numbers; the weights behind them are any values. -/
module

public import proofs.«01_k».proof.Proof.MixerArgs

@[expose] public section

noncomputable section

open Idealize.ShloMosaic

namespace Cert.Forward

open Cert.Layer (eps alpha)
open Cert.Mix (Seq col grp lane chunk inside pooled u v)

/-- The weights behind the projection, whatever they are. -/
structure Weights where
  wout : Fin 1024 → Fin 1024 → EReal
  pw : Fin 4 → Fin 128 → Fin 128 → EReal
  ps : Fin 512 → EReal
  lg : Fin 512 → EReal
  lb : Fin 512 → EReal
  sw : Fin 4 → Fin 128 → Fin 128 → EReal
  sb : Fin 4 → Fin 128 → EReal

/-- The weights that the arrays hold. -/
def weightsOf (a2 : (⟨3, ![1, 1024, 1024]⟩ : Shape).Idx → EReal) (a3 : (⟨4, ![1, 4, 128, 128]⟩ : Shape).Idx → EReal)
    (a4 a5 a6 : (⟨2, ![1, 512]⟩ : Shape).Idx → EReal) (a7 : (⟨4, ![1, 4, 128, 128]⟩ : Shape).Idx → EReal)
    (a8 : (⟨3, ![1, 4, 128]⟩ : Shape).Idx → EReal) : Weights where
  wout c k := a2 (ix3 0 c k)
  pw g k j := a3 (ix4 0 g k j)
  ps c := a4 (ix2 0 c)
  lg c := a5 (ix2 0 c)
  lb c := a6 (ix2 0 c)
  sw h p s := a7 (ix4 0 h p s)
  sb h p := a8 (ix3 0 h p)

theorem weightsOf_congr {a2 b2 : (⟨3, ![1, 1024, 1024]⟩ : Shape).Idx → EReal} {a3 b3 : (⟨4, ![1, 4, 128, 128]⟩ : Shape).Idx → EReal}
    {a4 b4 a5 b5 a6 b6 : (⟨2, ![1, 512]⟩ : Shape).Idx → EReal} {a7 b7 : (⟨4, ![1, 4, 128, 128]⟩ : Shape).Idx → EReal}
    {a8 b8 : (⟨3, ![1, 4, 128]⟩ : Shape).Idx → EReal} (h2 : a2 = b2) (h3 : a3 = b3) (h4 : a4 = b4) (h5 : a5 = b5) (h6 : a6 = b6) (h7 : a7 = b7)
    (h8 : a8 = b8) : weightsOf a2 a3 a4 a5 a6 a7 a8 = weightsOf b2 b3 b4 b5 b6 b7 b8 := by
  subst h2 h3 h4 h5 h6 h7 h8
  rfl

/-- The activations and the projection's weight are the real numbers given. -/
structure Given (a0 : (⟨3, ![4, 2048, 1024]⟩ : Shape).Idx → EReal) (a1 : (⟨3, ![1, 1024, 1536]⟩ : Shape).Idx → EReal)
    (x : Fin 4 → Fin 2048 → Fin 1024 → ℝ) (win : Fin 1024 → Fin 1536 → ℝ) : Prop where
  x : ∀ b t k, a0 (ix3 b t k) = ((x b t k : ℝ) : EReal)
  win : ∀ z k c, a1 (ix3 z k c) = ((win k c : ℝ) : EReal)

/-- The projection's weight alone. -/
def only (win : Fin 1024 → Fin 1536 → ℝ) : Mix.Weights := ⟨win, 0, 0, 0, 0, 0, 0, 0⟩

/-- Sequence `b` of the projected rows, and the rows before the projection. -/
abbrev seqOf (x : Fin 4 → Fin 2048 → Fin 1024 → ℝ) (win : Fin 1024 → Fin 1536 → ℝ) (b : Fin 4) : Seq :=
  Mix.seq (only win) x (fun _ _ => 0) b
abbrev rowsOf (x : Fin 4 → Fin 2048 → Fin 1024 → ℝ) (b : Fin 4) (t : ℕ) (k : Fin 1024) : ℝ :=
  x b ⟨t % 2048, Nat.mod_lt _ (by norm_num)⟩ k

theorem Given.args {a0 a1 x win} (h : Given a0 a1 x win) :
    Mix.Args (fun _ => 0) a0 a1 (fun _ => 0) (fun _ => 0) (fun _ => 0) (fun _ => 0) (fun _ => 0) (fun _ => 0) (fun _ => 0)
      (only win) x (fun _ _ => 0) :=
  ⟨fun _ _ => rfl, h.x, h.win, fun _ _ _ => rfl, fun _ _ _ _ => rfl, fun _ _ => rfl, fun _ _ => rfl, fun _ _ => rfl,
    fun _ _ _ _ => rfl, fun _ _ _ => rfl⟩

variable (W : Weights) (S : Seq) (x : ℕ → Fin 1024 → ℝ) (t : ℕ)

/-- The pooled columns after their group's matrix. -/
def pre (g : Fin 4) (j : Fin 128) : EReal := ∑ k, ((pooled S t g k : ℝ) : EReal) * W.pw g k j

/-- The layer norm's result over the values. -/
def vln (c : Fin 512) : EReal := ((Mix.hat (v S t) c : ℝ) : EReal) * W.lg c + W.lb c

/-- The causal mixing weights of head `h`. -/
def tri (h : Fin 4) (p s : Fin 128) : EReal := if s ≤ p then W.sw h p s else 0

/-- The mixed value of row `p` of the chunk that begins at row `t`. -/
def mixAt (p : Fin 128) (h : Fin 4) (j : Fin 128) : EReal :=
  (∑ s : Fin 128, tri W h p s * vln W S (t + s.val) (col h j)) + W.sb h p

/-- The two halves of the mixer's result, and both side by side. -/
def pool (c : Fin 512) : EReal := pre W S t (grp c) (lane c) * W.ps c
def gated (c : Fin 512) : EReal := ((u S t c : ℝ) : EReal) * mixAt W S (chunk t) (inside t) (grp c) (lane c)
def mix (c : Fin 1024) : EReal := if h : c.val < 512 then pool W S t ⟨c.val, h⟩ else gated W S t ⟨c.val - 512, by omega⟩

/-- The residual row. -/
def res (k : Fin 1024) : EReal := ((alpha : ℝ) : EReal) * ((x t k : ℝ) : EReal) + ∑ c, mix W S t c * W.wout c k

/-! The layer norm of a row. -/

def mean (f : Fin 1024 → EReal) : EReal := Ideal.div (∑ k, f k) ((1024 : ℝ) : EReal)
def cen (f : Fin 1024 → EReal) (k : Fin 1024) : EReal := f k - mean f
def rstd (f : Fin 1024 → EReal) : EReal := Ideal.rsqrt (mean (fun k => cen f k * cen f k) + ((eps : ℝ) : EReal))
def hat (f : Fin 1024 → EReal) (k : Fin 1024) : EReal := cen f k * rstd f

theorem mix_pool (c : Fin 1024) (j : Fin 512) (h : c.val = j.val) : mix W S t c = pool W S t j := by
  rw [mix, dif_pos (by omega)]
  exact congrArg (pool W S t) (Fin.ext h)

theorem mix_gated (c : Fin 1024) (j : Fin 512) (h : c.val = 512 + j.val) : mix W S t c = gated W S t j := by
  rw [mix, dif_neg (by omega)]
  exact congrArg (gated W S t) (Fin.ext (by dsimp only; omega))

/-! ## The rows of the five results, by the row's number among all the tokens -/

section
variable (W : Weights) (x : Fin 4 → Fin 2048 → Fin 1024 → ℝ) (win : Fin 1024 → Fin 1536 → ℝ) (n : Fin 8192)

/-- The projection's row, -/
def projAll (j : Fin 1536) : EReal := (((seqOf x win ⟨n.val / 2048, by omega⟩).p (n.val % 2048) j : ℝ) : EReal)

/-- the residual's, from which come the normalised row and its reciprocal deviation, -/
def resAll : Fin 1024 → EReal :=
  res W (seqOf x win ⟨n.val / 2048, by omega⟩) (rowsOf x ⟨n.val / 2048, by omega⟩) (n.val % 2048)

/-- the mixed row -/
def mixAll : Fin 1024 → EReal := mix W (seqOf x win ⟨n.val / 2048, by omega⟩) (n.val % 2048)

/-- and the input's. -/
def xAll (j : Fin 1024) : EReal := ((x ⟨n.val / 2048, by omega⟩ ⟨n.val % 2048, by omega⟩ j : ℝ) : EReal)
end

end Cert.Forward

end
-- ==== Proof.MixerFinite.lean ====
/- The mixer's precondition read back: every element of its ten arguments that need it is a real number. -/
module

public import proofs.«01_k».proof.Proof.MixerArgs
public import proofs.«01_k».proof.Proof.Finite
public import proofs.«01_k».proof.Proof.Gen.Pre_finite2

@[expose] public section

set_option maxRecDepth 16384

noncomputable section

open Idealize.ShloMosaic

namespace Cert.Finite

open Cert.Layer Cert.Pre_finite2

/-- An array of any rank whose absolute values are all below the top holds real numbers. -/
theorem real_at {s : Shape} {dims : List (Fin s.rank)} (v : FVec Ideal s .f32) (hb : S_.BroadcastsInDim s (![] : Fin 0 → Fin s.rank))
    (hr : s.ReducesTo dims S_) (hu : 0 < S_.numel) (i : S_.Idx)
    (h : Host.reduce IntOp.andi (cmpf .olt (Host.absf v) (broadcastInDim s ![] hb (constant S_ .f32 0x7F800000#32)))
      (constantI S_ 1 1#1) hr hu i = 1#1) (j : s.Idx) : ∃ z : ℝ, v j = (z : EReal) := by
  have := Host.reduce_andi_all _ _ _ _ i h j
  pointwise at this
  refine exists_coe ?_
  rw [bits_top] at this
  exact of_decide_eq_true (BitVec.ofBool_eq_iff_eq (b' := true).1 this)

/-- Where the mixer's precondition holds, its arguments hold real numbers. -/
theorem known2 (D : FVec Ideal S8192x1024 .f32) (X : FVec Ideal S4x2048x1024 .f32) (Win : FVec Ideal S1x1024x1536 .f32) (Wout : FVec Ideal S1x1024x1024 .f32)
    (pw : FVec Ideal S1x4x128x128 .f32) (ps lg lb : FVec Ideal S1x512 .f32) (sw : FVec Ideal S1x4x128x128 .f32) (sb : FVec Ideal S1x4x128 .f32)
    (st : FVec Ideal S8x1024 .f32)
    (h : Cert.Pre_finite2.fn (F := Ideal) D X Win Wout pw ps lg lb sw sb st = fun _ => 1#1) :
    ∃ (P : Mix.Weights) (x : Fin 4 → Fin 2048 → Fin 1024 → ℝ) (d : Fin 8192 → Fin 1024 → ℝ), Mix.Args D X Win Wout pw ps lg lb sw sb P x d := by
  have e := congrFun h ix0
  simp only [fn, fn_part1, fn_part2, andi_apply, IntOp.andi_eq_one] at e
  obtain ⟨⟨⟨⟨⟨⟨⟨⟨⟨h0, h1⟩, h2⟩, h3⟩, h4⟩, h5⟩, h6⟩, h7⟩, h8⟩, h9⟩ := e
  choose f0 k0 using real_at _ _ _ _ _ h0
  choose f1 k1 using real_at _ _ _ _ _ h1
  choose f2 k2 using real_at _ _ _ _ _ h2
  choose f3 k3 using real_at _ _ _ _ _ h3
  choose f4 k4 using real_at _ _ _ _ _ h4
  choose f5 k5 using real_at _ _ _ _ _ h5
  choose f6 k6 using real_at _ _ _ _ _ h6
  choose f7 k7 using real_at _ _ _ _ _ h7
  choose f8 k8 using real_at _ _ _ _ _ h8
  choose f9 k9 using real_at _ _ _ _ _ h9
  have z : ∀ z : Fin 1, z = 0 := fun z => Subsingleton.elim z 0
  exact ⟨⟨fun k c => f2 (ix3 0 k c), fun c k => f3 (ix3 0 c k), fun g k j => f4 (ix4 0 g k j), fun j => f5 (ix2 0 j), fun j => f6 (ix2 0 j), fun j => f7 (ix2 0 j),
      fun g p s => f8 (ix4 0 g p s), fun g p => f9 (ix3 0 g p)⟩, fun b t k => f1 (ix3 b t k), fun n k => f0 (ix2 n k),
    fun n k => k0 _, fun b t k => k1 _, fun a k c => by rw [z a, k2], fun a c k => by rw [z a, k3], fun a g k j => by rw [z a, k4], fun a j => by rw [z a, k5],
    fun a j => by rw [z a, k6], fun a j => by rw [z a, k7], fun a g p s => by rw [z a, k8], fun a g p => by rw [z a, k9]⟩

end Cert.Finite

end
-- ==== Proof.ForwardFinite.lean ====
/- The forward mixer's precondition read back: the activations and the projection's weight hold real numbers. -/
module

public import proofs.«01_k».proof.Proof.ForwardMath
public import proofs.«01_k».proof.Proof.MixerFinite
public import proofs.«01_k».proof.Proof.Gen.Pre_finite3

@[expose] public section

set_option maxRecDepth 16384

noncomputable section

open Idealize.ShloMosaic

namespace Cert.Finite

open Cert.Layer Cert.Pre_finite3

/-- Where the forward mixer's precondition holds, its first two arguments hold real numbers. -/
theorem known3 (X : FVec Ideal S4x2048x1024 .f32) (Win : FVec Ideal S1x1024x1536 .f32) (Wout : FVec Ideal S1x1024x1024 .f32)
    (pw : FVec Ideal S1x4x128x128 .f32) (ps lg lb : FVec Ideal S1x512 .f32) (sw : FVec Ideal S1x4x128x128 .f32) (sb : FVec Ideal S1x4x128 .f32)
    (g b : FVec Ideal S1x1024 .f32) (h : Cert.Pre_finite3.fn (F := Ideal) X Win Wout pw ps lg lb sw sb g b = fun _ => 1#1) :
    ∃ (x : Fin 4 → Fin 2048 → Fin 1024 → ℝ) (win : Fin 1024 → Fin 1536 → ℝ), Forward.Given X Win x win := by
  have e := congrFun h ix0
  simp only [fn, andi_apply, IntOp.andi_eq_one] at e
  obtain ⟨h0, h1⟩ := e
  choose f0 k0 using real_at _ _ _ _ _ h0
  choose f1 k1 using real_at _ _ _ _ _ h1
  exact ⟨fun b t k => f0 (ix3 b t k), fun k c => f1 (ix3 0 k c), fun b t k => k0 _, fun z k c => by rw [Subsingleton.elim z 0, k1]⟩

end Cert.Finite

end
-- ==== Proof.MixerOpen.lean ====
/- The mixer's reference, read one operation after the other: the projection, the Gaussian units and the layer norm. -/
module

public import proofs.«01_k».proof.Proof.MixerArgs
public import proofs.«01_k».proof.Proof.Gen.Reference2Ideal.Read

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-- The array holds, for each sequence, row and column, the real number given. -/
def Holds3 {m n : ℕ} (A : (⟨3, ![4, m, n]⟩ : Shape).Idx → EReal) (f : Fin 4 → ℕ → Fin n → ℝ) : Prop :=
  ∀ b t j, A (ix3 b t j) = ((f b t.val j : ℝ) : EReal)

/-- The columns behind the pooled ones, at one row. -/
def zz (S : Mix.Seq) (t : ℕ) (j : Fin 1024) : ℝ := S.p t ⟨512 + j.val, by omega⟩

theorem zz_gate (S : Mix.Seq) (t : ℕ) (c : Fin 512) (h : c.val < 1024) : zz S t ⟨c.val, h⟩ = zu S t c := rfl
theorem zz_value (S : Mix.Seq) (t : ℕ) (c : Fin 512) (h : 512 + c.val < 1024) : zz S t ⟨512 + c.val, h⟩ = zv S t c :=
  congrArg (S.p t) (Fin.ext (by dsimp only; omega))

theorem seq_row (P : Mix.Weights) (x : Fin 4 → Fin 2048 → Fin 1024 → ℝ) {d : Fin 8192 → Fin 1024 → ℝ} (b : Fin 4) (t : Fin 2048)
    (h : b.val * 2048 + t.val < 8192) (j : Fin 1024) : d ⟨b.val * 2048 + t.val, h⟩ j = (seq P x d b).d t.val j :=
  congrArg (fun n => d n j) (Fin.ext (by dsimp only; omega))

theorem root_two_ne : Real.sqrt 2 ≠ 0 := (Real.sqrt_pos.2 two_pos).ne'

theorem bits_four : Ideal.ofBits .f32 0x40800000#32 = ((4 : ℝ) : EReal) := by
  simp [Ideal.ofBits, Ideal.ieee, -EReal.coe_mul]; norm_num
theorem bits_minus_two : Ideal.ofBits .f32 0xC0000000#32 = ((-2 : ℝ) : EReal) := by
  simp [Ideal.ofBits, Ideal.ieee, -EReal.coe_mul]; norm_num
theorem sqrt_real {r : ℝ} (h : 0 ≤ r) : Ideal.sqrt (r : EReal) = ((Real.sqrt r : ℝ) : EReal) := by
  rw [Ideal.sqrt_coe, if_neg (not_lt.2 h)]

theorem erfc_neg_real (r : ℝ) : Ideal.erfc ((-r : ℝ) : EReal) = ((1 + Mix.erf r : ℝ) : EReal) := by
  rw [EReal.coe_neg, Ideal.erfc_neg, Mix.erf_coe, EReal.coe_add, EReal.coe_one]

/-- The root of two, -/
theorem v9 (i : S_.Idx) : val_main_v9 (F := Ideal) i = ((Real.sqrt 2 : ℝ) : EReal) := by
  pointwise [val_main_v9, val_main_cst_1, bits_two]
  exact sqrt_real two_pos.le

/-- and twice the reciprocal root of four times the arc of one, negated. -/
theorem v16 (i : S_.Idx) : val_main_v16 (F := Ideal) i = ((-2 / Real.sqrt Real.pi : ℝ) : EReal) := by
  pointwise [val_main_v16, val_main_v15, val_main_v13, val_main_v12, val_main_cst_2, val_main_cst_3, val_main_cst_4, bits_four,
    bits_minus_two]
  have e : Ideal.sqrt (((4 : ℝ) : EReal) * Ideal.atan ((1 : ℝ) : EReal)) = ((Real.sqrt Real.pi : ℝ) : EReal) := by
    rw [Ideal.atan_coe, Real.arctan_one, ← EReal.coe_mul, mul_div_cancel₀ _ four_ne_zero, sqrt_real Real.pi_pos.le]
  exact (congrArg (Ideal.div _) e).trans (div_coe_coe _ _ (Real.sqrt_pos.2 Real.pi_pos).ne')

section
variable (k : Mix.Args A0 A1 A2 A3 A4 A5 A6 A7 A8 A9 P x d)
include k

/-- The projected rows. -/
theorem v3 : Holds3 (val_main_v3 (F := Ideal) A1 A2) fun b t => (seq P x d b).p t := by
  intro b t j
  pointwise [val_main_v3, val_main_v2, val_main_v1, val_main_v0, val_main_cst, k.x _ _ _, k.win _ _ _]
  simp only [← EReal.coe_mul, coe_sum, add_zero]
  refine congrArg Real.toEReal (Finset.sum_congr rfl fun f _ => congrArg (· * P.win f j) (congrArg (fun t => x b t f) (Fin.ext ?_)))
  exact (Nat.mod_eq_of_lt t.isLt).symm

/-- The columns to pool, -/
theorem v4 : Holds3 (val_main_v4 (F := Ideal) A1 A2) fun b t => xp (seq P x d b) t := by
  intro b t j
  pointwise [val_main_v4, v3 k _ _ _]
  rfl

/-- and the others: gates, then values. -/
theorem v5 : Holds3 (val_main_v5 (F := Ideal) A1 A2) fun b t j => zz (seq P x d b) t j := by
  intro b t j
  pointwise [val_main_v5, v3 k _ _ _]
  rfl

theorem v11 : Holds3 (val_main_v11 (F := Ideal) A1 A2) fun b t j => -(zz (seq P x d b) t j * (Real.sqrt 2)⁻¹) := by
  intro b t j
  pointwise [val_main_v11, val_main_v8, val_main_v10, v9, v5 k _ _ _]
  rw [← EReal.coe_neg, div_coe_coe _ _ root_two_ne, neg_div, div_eq_mul_inv]

/-- The Gaussian unit, -/
theorem v22 : Holds3 (val_main_v22 (F := Ideal) A1 A2) fun b t j => gelu (zz (seq P x d b) t j) := by
  intro b t j
  pointwise [val_main_v22, val_main_v14, val_main_v7, val_main_v6, val_main_cst_0, bits_half, v11 k _ _ _, v5 k _ _ _]
  rw [erfc_neg_real, ← EReal.coe_mul, ← EReal.coe_mul]
  rfl

/-- The gates, -/
theorem v107 : Holds3 (val_main_v107 (F := Ideal) A1 A2) fun b t => u (seq P x d b) t := by
  intro b t j
  pointwise [val_main_v107, v22 k _ _ _]
  rw [zz_gate]
  rfl

/-- the values, -/
theorem v108 : Holds3 (val_main_v108 (F := Ideal) A1 A2) fun b t => v (seq P x d b) t := by
  intro b t j
  pointwise [val_main_v108, v22 k _ _ _]
  rw [zz_value]
  rfl

/-- their mean, -/
theorem v112 : Holds3 (n := 1) (val_main_v112 (F := Ideal) A1 A2) fun b t _ => Mix.mean (v (seq P x d b) t) := by
  intro b t j
  pointwise [val_main_v112, val_main_v111, val_main_v110, val_main_v109, val_main_cst_19, val_main_cst_20, v108 k _ _ _, bits_512]
  rw [coe_sum, div_512]
  rfl

/-- the distance from the mean, computed twice, -/
theorem v114 : Holds3 (val_main_v114 (F := Ideal) A1 A2) fun b t => Mix.cen (v (seq P x d b) t) := by
  intro b t j
  pointwise [val_main_v114, val_main_v113, v108 k _ _ _, v112 k _ _ _]
  rw [← EReal.coe_sub]
  rfl
theorem v123 : Holds3 (val_main_v123 (F := Ideal) A1 A2) fun b t => Mix.cen (v (seq P x d b) t) := by
  intro b t j
  pointwise [val_main_v123, val_main_v122, v108 k _ _ _, v112 k _ _ _]
  rw [← EReal.coe_sub]
  rfl
theorem v117 : Holds3 (val_main_v117 (F := Ideal) A1 A2) fun b t j => 2 * Mix.cen (v (seq P x d b) t) j := by
  intro b t j
  pointwise [val_main_v117, val_main_v116, val_main_cst_21, bits_two, v114 k _ _ _]
  rw [← EReal.coe_mul]

/-- the variance with the small number added, -/
theorem v125 : Holds3 (n := 1) (val_main_v125 (F := Ideal) A1 A2) fun b t _ => Mix.var (v (seq P x d b) t) + eps := by
  intro b t j
  pointwise [val_main_v125, val_main_v124, val_main_v121, val_main_v120, val_main_v119, val_main_v118, val_main_v115, val_main_cst_22,
    val_main_cst_23, val_main_cst_24, v114 k _ _ _, bits_512, bits_eps]
  simp only [← EReal.coe_mul, coe_sum, zero_add, div_512, ← EReal.coe_add]
  rfl

/-- the reciprocal root of it, -/
theorem v126 : Holds3 (n := 1) (val_main_v126 (F := Ideal) A1 A2) fun b t _ => Mix.inv (v (seq P x d b) t) := by
  intro b t j
  pointwise [val_main_v126, v125 k _ _ _]
  exact rsqrt_pos (Mix.var_eps_pos _)

theorem v129 : Holds3 (n := 1) (val_main_v129 (F := Ideal) A1 A2) fun b t _ =>
    -0.5 * (Mix.inv (v (seq P x d b) t) / (Mix.var (v (seq P x d b) t) + eps)) := by
  intro b t j
  pointwise [val_main_v129, val_main_v128, val_main_v127, val_main_cst_25, bits_neg_half, v125 k _ _ _, v126 k _ _ _]
  rw [div_coe_coe _ _ (Mix.var_eps_pos _).ne', ← EReal.coe_mul]

/-- the normalised values, -/
theorem v131 : Holds3 (val_main_v131 (F := Ideal) A1 A2) fun b t => Mix.hat (v (seq P x d b) t) := by
  intro b t j
  pointwise [val_main_v131, val_main_v130, v123 k _ _ _, v126 k _ _ _]
  rw [← EReal.coe_mul]
  rfl

/-- and the layer norm's result. -/
theorem v137 : Holds3 (val_main_v137 (F := Ideal) A1 A2 A6 A7) fun b t => vln P (seq P x d b) t := by
  intro b t j
  pointwise [val_main_v137, val_main_v136, val_main_v135, val_main_v134, val_main_v133, val_main_v132, val_main_v103, val_main_v104,
    v131 k _ _ _, k.lg _ _, k.lb _ _]
  simp only [← EReal.coe_mul, ← EReal.coe_add]
  rfl

/-! The cotangent of the concatenated result. -/

theorem v159 : Holds3 (val_main_v159 (F := Ideal) A0 A3) fun b t => dmix P (seq P x d b) t := by
  intro b t j
  pointwise [val_main_v159, val_main_v158, val_main_v155, k.d _ _, k.wout _ _ _]
  simp only [seq_row P x (d := d), ← EReal.coe_mul, coe_sum]
  rfl

theorem v162 : Holds3 (val_main_v162 (F := Ideal) A0 A3) fun b t => dpo P (seq P x d b) t := by
  intro b t j
  pointwise [val_main_v162, v159 k _ _ _]
  rfl

theorem v163 : Holds3 (val_main_v163 (F := Ideal) A0 A3) fun b t => dsg P (seq P x d b) t := by
  intro b t j
  pointwise [val_main_v163, v159 k _ _ _]
  rfl

/-- The cotangent of the mixed values. -/
theorem v164 : Holds3 (val_main_v164 (F := Ideal) A0 A1 A2 A3) fun b t => dmx P (seq P x d b) t := by
  intro b t j
  pointwise [val_main_v164, v163 k _ _ _, v107 k _ _ _]
  rw [← EReal.coe_mul, mul_comm]
  rfl

theorem v161 : Holds3 (val_main_v161 (F := Ideal) A0) fun b t j => alpha * (seq P x d b).d t j := by
  intro b t j
  pointwise [val_main_v161, val_main_v160, val_main_cst_28, bits_alpha, val_main_v158, k.d _ _]
  rw [← EReal.coe_mul, seq_row P x (d := d)]

end

end Cert.Reference2Ideal.Meaning

end
-- ==== Proof.MixerSums.lean ====
/- The mixer's reference: its sums over several axes, its running sums, and the windows they make. -/
module

public import proofs.«01_k».proof.Proof.MixerOpen

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

/-! ## Sums over several axes -/

/-- A sum over the first two of three axes, -/
theorem sum_first_two {n0 n1 n2 : ℕ} (h : (⟨3, ![n0, n1, n2]⟩ : Shape).ReducesTo [0, 1] ⟨1, ![n2]⟩)
    (A : (⟨3, ![n0, n1, n2]⟩ : Shape).Idx → EReal) (z : EReal) (c : Fin n2) :
    Ideal.hostReduceAdd h A z (ix1 c) = z + ∑ a : Fin n0, ∑ b : Fin n1, A (ix3 a b c) := by
  refine congrArg (z + ·) ((Finset.sum_filter_eq_sum_of_fiber _ (fun k : Fin n0 × Fin n1 => ix3 k.1 k.2 c)
    (fun _ _ e => Prod.ext (congrFun e 0) (congrFun e 1)) (fun i => ⟨fun e => ⟨(i 0, i 1), ?_⟩, ?_⟩) A).trans ?_)
  · funext a
    match a with
    | ⟨0, _⟩ => rfl
    | ⟨1, _⟩ => rfl
    | ⟨2, _⟩ => exact (congrFun e 0).symm
  · rintro ⟨k, rfl⟩
    funext b
    match b with
    | ⟨0, _⟩ => rfl
  · simp only [Fintype.sum_prod_type]

/-- and one over the first, second and last of five. -/
theorem sum_outer_three {n0 n1 n2 n3 n4 : ℕ} (h : (⟨5, ![n0, n1, n2, n3, n4]⟩ : Shape).ReducesTo [0, 1, 4] ⟨2, ![n2, n3]⟩)
    (A : (⟨5, ![n0, n1, n2, n3, n4]⟩ : Shape).Idx → EReal) (z : EReal) (p : Fin n2) (q : Fin n3) :
    Ideal.hostReduceAdd h A z (ix2 p q) = z + ∑ a : Fin n0, ∑ b : Fin n1, ∑ c : Fin n4, A (ix5 a b p q c) := by
  refine congrArg (z + ·) ((Finset.sum_filter_eq_sum_of_fiber _ (fun k : Fin n0 × Fin n1 × Fin n4 => ix5 k.1 k.2.1 p q k.2.2)
    (fun _ _ e => Prod.ext (congrFun e 0) (Prod.ext (congrFun e 1) (congrFun e 4))) (fun i => ⟨fun e => ⟨(i 0, i 1, i 4), ?_⟩, ?_⟩) A).trans ?_)
  · funext a
    match a with
    | ⟨0, _⟩ => rfl
    | ⟨1, _⟩ => rfl
    | ⟨2, _⟩ => exact (congrFun e 0).symm
    | ⟨3, _⟩ => exact (congrFun e 1).symm
    | ⟨4, _⟩ => rfl
  · rintro ⟨k, rfl⟩
    funext b
    match b with
    | ⟨0, _⟩ => rfl
    | ⟨1, _⟩ => rfl
  · simp only [Fintype.sum_prod_type]

/-- The product that contracts sequences, chunks and a head's columns. -/
theorem product_three (L : S4x4x16x128x128.Idx → EReal) (R : S4x16x128x4x128.Idx → EReal) (z : S4x128x128.Idx → EReal)
    (h : Fin 4) (p s : Fin 128) :
    Ideal.matmul dot_S4x4x16x128x128_S4x16x128x4x128_S4x128x128_123_014_4_2_0_3 L R z (ix3 h p s)
      = z (ix3 h p s) + ∑ b : Fin 4, ∑ n : Fin 16, ∑ j : Fin 128, L (ix5 h b n j p) * R (ix5 b n s h j) := by
  refine congrArg (z (ix3 h p s) + ·) ((sum_idx3 (n0 := 4) (n1 := 16) (n2 := 128) fun w =>
    L (ix5 h (w 0) (w 1) (w 2) p) * R (ix5 (w 0) (w 1) s h (w 2))).symm.trans ?_).symm
  refine Fintype.sum_equiv ⟨fun w a => (match a with | ⟨0, _⟩ => w 0 | ⟨1, _⟩ => w 1 | ⟨2, _⟩ => w 2),
    fun w => ix3 (w ⟨0, by decide⟩) (w ⟨1, by decide⟩) (w ⟨2, by decide⟩), fun w => (eq_ix3 w).symm, fun w => ?_⟩ _ _ fun w => ?_
  · funext a
    match a with
    | ⟨0, _⟩ => rfl
    | ⟨1, _⟩ => rfl
    | ⟨2, _⟩ => rfl
  · refine congrArg₂ (· * ·) (congrArg L (funext fun a => ?_)) (congrArg R (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
      | ⟨4, _⟩ => rfl

/-! ## Running sums -/

theorem foldl_add {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- A sum over windows along the rows: the rows that the window reaches, shifted by the padding in front. -/
theorem window_sum (lo hi : ℕ) (h : (⟨3, ![4, 2048, 512]⟩ : Shape).ReduceWindows ![1, 2048, 1] ![1, 1, 1] ![0, lo, 0] ![0, hi, 0] ⟨3, ![4, 2048, 512]⟩)
    (A : (⟨3, ![4, 2048, 512]⟩ : Shape).Idx → EReal) (b : Fin 4) (t : Fin 2048) (c : Fin 512) :
    Ideal.hostReduceWindowAdd ![1, 2048, 1] ![1, 1, 1] ![0, lo, 0] ![0, hi, 0] h A 0 (ix3 b t c)
      = ∑ i : Fin 2048, if q : lo ≤ t.val + i.val ∧ t.val + i.val - lo < 2048 then A (ix3 b ⟨t.val + i.val - lo, q.2⟩ c) else 0 := by
  let W := (Shape.rowMajor ⟨3, ![1, 2048, 1]⟩).symm
  unfold Ideal.hostReduceWindowAdd Host.reduceWindow
  dsimp only
  refine (foldl_add _ _ _).trans ?_
  rw [zero_add, ← Fin.sum_univ_def]
  refine (Fintype.sum_equiv W _ (fun w : (⟨3, ![1, 2048, 1]⟩ : Shape).Idx =>
    if q : lo ≤ t.val + (w 1).val ∧ t.val + (w 1).val - lo < 2048 then A (ix3 b ⟨t.val + (w 1).val - lo, q.2⟩ c) else 0) fun n => ?_).trans
    ((sum_idx3 _).trans ?_)
  · have w0 : (W n 0).val = 0 := Nat.lt_one_iff.1 (W n 0).isLt
    have w2 : (W n 2).val = 0 := Nat.lt_one_iff.1 (W n 2).isLt
    by_cases q : lo ≤ t.val + (W n 1).val ∧ t.val + (W n 1).val - lo < 2048
    · rw [dif_pos q]
      refine (dif_pos fun a => ?_).trans (congrArg A (funext fun a => Fin.ext ?_))
      · match a with
        | ⟨0, _⟩ => show 0 ≤ b.val * 1 + (W n 0).val ∧ b.val * 1 + (W n 0).val - 0 < 4; omega
        | ⟨1, _⟩ => show lo ≤ t.val * 1 + (W n 1).val ∧ t.val * 1 + (W n 1).val - lo < 2048; omega
        | ⟨2, _⟩ => show 0 ≤ c.val * 1 + (W n 2).val ∧ c.val * 1 + (W n 2).val - 0 < 512; omega
      · match a with
        | ⟨0, _⟩ => show b.val * 1 + (W n 0).val - 0 = b.val; omega
        | ⟨1, _⟩ => show t.val * 1 + (W n 1).val - lo = t.val + (W n 1).val - lo; omega
        | ⟨2, _⟩ => show c.val * 1 + (W n 2).val - 0 = c.val; omega
    · rw [dif_neg q]
      refine dif_neg fun hin => q ?_
      have e : lo ≤ t.val * 1 + (W n 1).val ∧ t.val * 1 + (W n 1).val - lo < 2048 := hin 1
      omega
  · rw [Fin.sum_univ_one]
    simp only [Fin.sum_univ_one]
    rfl

/-- Sums from the start, -/
theorem running_sum (h : (⟨3, ![4, 2048, 512]⟩ : Shape).ReduceWindows ![1, 2048, 1] ![1, 1, 1] ![0, 2047, 0] ![0, 0, 0] ⟨3, ![4, 2048, 512]⟩)
    (hu : 0 < S_.numel) (A : FVec Ideal ⟨3, ![4, 2048, 512]⟩ .f32) (z : FVec Ideal S_ .f32) (hz : z (Shape.Idx.first hu) = (0 : EReal))
    (f : ℕ → ℝ) (b : Fin 4) (c : Fin 512) (hA : ∀ t : Fin 2048, A (ix3 b t c) = ((f t.val : ℝ) : EReal)) (t : Fin 2048) :
    Host.reduceWindowAdd ![1, 2048, 1] ![1, 1, 1] ![0, 2047, 0] ![0, 0, 0] A z h hu (ix3 b t c)
      = ((∑ i ∈ Finset.range (t.val + 1), f i : ℝ) : EReal) := by
  show Ideal.hostReduceWindowAdd ![1, 2048, 1] ![1, 1, 1] ![0, 2047, 0] ![0, 0, 0] h A (z (Shape.Idx.first hu)) (ix3 b t c) = _
  rw [hz]
  refine (window_sum 2047 0 h A b t c).trans ?_
  have e : ∀ i : Fin 2048, (if q : 2047 ≤ t.val + i.val ∧ t.val + i.val - 2047 < 2048 then A (ix3 b ⟨t.val + i.val - 2047, q.2⟩ c) else 0)
      = (((if 2047 ≤ t.val + i.val then f (t.val + i.val - 2047) else 0 : ℝ)) : EReal) := fun i => by
    by_cases q : 2047 ≤ t.val + i.val
    · rw [dif_pos ⟨q, by omega⟩, if_pos q, hA]
    · rw [dif_neg fun r => q r.1, if_neg q]; rfl
  rw [Finset.sum_congr rfl fun i _ => e i, coe_sum, Fin.sum_univ_eq_sum_range (fun i => if 2047 ≤ t.val + i then f (t.val + i - 2047) else 0) 2048]
  refine congrArg Real.toEReal ?_
  have ht := t.isLt
  have s : Finset.range 2048 = Finset.range ((2047 - t.val) + (t.val + 1)) := congrArg Finset.range (by omega)
  rw [s, Finset.sum_range_add, Finset.sum_eq_zero fun i hi => if_neg (by have := Finset.mem_range.1 hi; omega), zero_add]
  exact Finset.sum_congr rfl fun i _ => (if_pos (by omega)).trans (congrArg f (by omega))

/-- and to the end. -/
theorem running_sum_back (h : (⟨3, ![4, 2048, 512]⟩ : Shape).ReduceWindows ![1, 2048, 1] ![1, 1, 1] ![0, 0, 0] ![0, 2047, 0] ⟨3, ![4, 2048, 512]⟩)
    (hu : 0 < S_.numel) (A : FVec Ideal ⟨3, ![4, 2048, 512]⟩ .f32) (z : FVec Ideal S_ .f32) (hz : z (Shape.Idx.first hu) = (0 : EReal))
    (f : ℕ → ℝ) (b : Fin 4) (c : Fin 512) (hA : ∀ t : Fin 2048, A (ix3 b t c) = ((f t.val : ℝ) : EReal)) (t : Fin 2048) :
    Host.reduceWindowAdd ![1, 2048, 1] ![1, 1, 1] ![0, 0, 0] ![0, 2047, 0] A z h hu (ix3 b t c)
      = ((∑ i ∈ Finset.range (2048 - t.val), f (t.val + i) : ℝ) : EReal) := by
  show Ideal.hostReduceWindowAdd ![1, 2048, 1] ![1, 1, 1] ![0, 0, 0] ![0, 2047, 0] h A (z (Shape.Idx.first hu)) (ix3 b t c) = _
  rw [hz]
  refine (window_sum 0 2047 h A b t c).trans ?_
  have e : ∀ i : Fin 2048, (if q : 0 ≤ t.val + i.val ∧ t.val + i.val - 0 < 2048 then A (ix3 b ⟨t.val + i.val - 0, q.2⟩ c) else 0)
      = (((if t.val + i.val < 2048 then f (t.val + i.val) else 0 : ℝ)) : EReal) := fun i => by
    by_cases q : t.val + i.val < 2048
    · rw [dif_pos ⟨Nat.zero_le _, q⟩, if_pos q, hA]; rfl
    · rw [dif_neg fun r => q r.2, if_neg q]; rfl
  rw [Finset.sum_congr rfl fun i _ => e i, coe_sum, Fin.sum_univ_eq_sum_range (fun i => if t.val + i < 2048 then f (t.val + i) else 0) 2048]
  refine congrArg Real.toEReal ?_
  have ht := t.isLt
  have s : Finset.range 2048 = Finset.range ((2048 - t.val) + t.val) := congrArg Finset.range (by omega)
  rw [s, Finset.sum_range_add, Finset.sum_eq_zero (s := Finset.range t.val) fun i _ => if_neg (by omega), add_zero]
  exact Finset.sum_congr rfl fun i hi => if_pos (by have := Finset.mem_range.1 hi; omega)

/-- The sum of the rows before `n`. -/
def upto (f : ℕ → ℝ) (n : ℕ) : ℝ := ∑ i ∈ Finset.range n, f i

/-- A window that ends at a row is a difference of two sums from the start. -/
theorem upto_back (f : ℕ → ℝ) (t w : ℕ) : upto f (t + 1) - upto f (t + 1 - w) = back w f t := by
  induction w with
  | zero => simp [back]
  | succ w ih =>
    rw [back, Finset.sum_range_succ, ← back, ← ih]
    by_cases h : w ≤ t
    · rw [if_pos h, show t + 1 - w = (t - w) + 1 by omega, show t + 1 - (w + 1) = t - w by omega]
      unfold upto
      rw [Finset.sum_range_succ _ (t - w)]
      ring
    · rw [if_neg h, show t + 1 - w = 0 by omega, show t + 1 - (w + 1) = 0 by omega]
      ring

/-- Running sums from the end, of differences of rows a window apart, are windows that begin at a row. -/
theorem ahead_sum (f : ℕ → ℝ) (t w : ℕ) (ht : t ≤ 2048) :
    ∑ i ∈ Finset.range (2048 - t), ((if t + i < 2048 then f (t + i) else 0) - if t + i + w < 2048 then f (t + i + w) else 0)
      = ahead w f t := by
  induction w with
  | zero => simp [ahead]
  | succ w ih =>
    rw [ahead, Finset.sum_range_succ, ← ahead, ← ih, ← sub_eq_iff_eq_add', ← Finset.sum_sub_distrib]
    refine (Finset.sum_congr rfl fun i _ => ?_).trans ((Finset.sum_range_sub' (fun i => if t + i + w < 2048 then f (t + i + w) else 0) (2048 - t)).trans ?_)
    · rw [show t + i + (w + 1) = t + (i + 1) + w by omega]; ring
    · rw [if_neg (show ¬ t + (2048 - t) + w < 2048 by omega), add_zero, sub_zero]

end Cert.Reference2Ideal.Meaning

end
-- ==== Proof.MixerMix.lean ====
/- The mixer's reference: the causal mixing of the chunks' rows, forwards and backwards. -/
module

public import proofs.«01_k».proof.Proof.MixerSums

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-- The array holds, for each sequence, chunk, row of the chunk, head and column of the head, the real number given. -/
def Holds5 (A : (⟨5, ![4, 16, 128, 4, 128]⟩ : Shape).Idx → EReal) (f : Fin 4 → ℕ → Fin 512 → ℝ) : Prop :=
  ∀ b n s h j, A (ix5 b n s h j) = ((f b (128 * n.val + s.val) (col h j) : ℝ) : EReal)

theorem at_row (f : ℕ → Fin 512 → ℝ) (n : Fin 16) (s : Fin 128) (h : Fin 4) (j : Fin 128) :
    ((f (n.val * 128 + s.val) ⟨h.val * 128 + j.val, by omega⟩ : ℝ) : EReal) = ((f (128 * n.val + s.val) (col h j) : ℝ) : EReal) := by
  rw [mul_comm n.val]
  exact congrArg (fun c => ((f _ c : ℝ) : EReal)) (Fin.ext (by dsimp only; omega))

theorem chunk_at (n : ℕ) (s : Fin 128) : chunk (128 * n + s.val) = 128 * n := by
  have hs := s.isLt
  show 128 * ((128 * n + s.val) / 128) = 128 * n
  omega
theorem inside_at (n : ℕ) (s : Fin 128) : inside (128 * n + s.val) = s := Fin.ext (by have hs := s.isLt; dsimp only; omega)
theorem grp_col (h : Fin 4) (j : Fin 128) : grp (col h j) = h := Fin.ext (by dsimp only; omega)
theorem lane_col (h : Fin 4) (j : Fin 128) : lane (col h j) = j := Fin.ext (by dsimp only; omega)
theorem col_grp (c : Fin 512) (h : c.val / 128 < 4) (h' : c.val % 128 < 128) : col ⟨c.val / 128, h⟩ ⟨c.val % 128, h'⟩ = c :=
  Fin.ext (by dsimp only; omega)

section
variable (k : Mix.Args A0 A1 A2 A3 A4 A5 A6 A7 A8 A9 P x d)
include k

/-- The causal weights. -/
theorem v143 (h : Fin 4) (p s : Fin 128) : val_main_v143 (F := Ideal) A8 (ix3 h p s) = ((tri P h p s : ℝ) : EReal) := by
  pointwise [val_main_v143, val_main_v142, val_main_v141, val_main_v140, val_main_v139, val_main_cst_26, val_main_v105, val_main_call1_v0,
    val_main_call1_v1, val_main_call1_v2, val_main_call1_v3, val_main_call1_v4, val_main_call1_v5, val_main_call1_c, val_main_call1_cst, k.sw _ _ _ _]
  refine (congrArg (fun w => Scalar.select (IntOp.cmpi .sge w (BitVec.ofNat 32 s.val)) _ _) (BitVec.add_zero _)).trans ?_
  rw [select_le, tri]
  split_ifs <;> rfl

theorem v138 : Holds5 (val_main_v138 (F := Ideal) A1 A2 A6 A7) fun b t => vln P (seq P x d b) t := by
  intro b n s h j
  pointwise [val_main_v138, v137 k _ _ _]
  exact at_row _ n s h j

theorem v166 : Holds5 (val_main_v166 (F := Ideal) A0 A1 A2 A3) fun b t => dmx P (seq P x d b) t := by
  intro b n s h j
  pointwise [val_main_v166, v164 k _ _ _]
  exact at_row _ n s h j

/-- The mixed values, -/
theorem v149 : Holds5 (val_main_v149 (F := Ideal) A1 A2 A6 A7 A8 A9) fun b t c =>
    mixAt P (seq P x d b) (chunk t) (inside t) (grp c) (lane c) := by
  intro b n s h j
  have q := v138 k
  unfold Holds5 at q
  pointwise [val_main_v149, val_main_v148, val_main_v147, val_main_v146, val_main_v145, val_main_v144, val_main_v106, q _ _ _ _ _, v143 k _ _ _, k.sb _ _ _]
  simp only [← EReal.coe_mul, coe_sum, ← EReal.coe_add, mul_comm (vln _ _ _ _)]
  rw [chunk_at, inside_at, grp_col, lane_col]
  rfl

theorem v150 : Holds3 (val_main_v150 (F := Ideal) A1 A2 A6 A7 A8 A9) fun b t c =>
    mixAt P (seq P x d b) (chunk t) (inside t) (grp c) (lane c) := by
  intro b t c
  have q := v149 k
  unfold Holds5 at q
  pointwise [val_main_v150, q _ _ _ _ _]
  rw [Nat.div_add_mod, col_grp]

/-- and the gates' cotangent. -/
theorem v165 : Holds3 (val_main_v165 (F := Ideal) A0 A1 A2 A3 A6 A7 A8 A9) fun b t => du P (seq P x d b) t := by
  intro b t j
  pointwise [val_main_v165, v163 k _ _ _, v150 k _ _ _]
  rw [← EReal.coe_mul]
  rfl

theorem v170 (h : Fin 4) (p : Fin 128) : val_main_v170 (F := Ideal) A0 A1 A2 A3 (ix2 h p)
    = ((∑ b : Fin 4, ∑ n : Fin 16, ∑ j : Fin 128, dmx P (seq P x d b) (128 * n.val + p.val) (col h j) : ℝ) : EReal) := by
  have q := v166 k
  unfold Holds5 at q
  pointwise [val_main_v170, val_main_v169, val_main_cst_30]
  refine (sum_outer_three _ _ _ p h).trans ?_
  simp only [Fin.sum_univ_one]
  pointwise [val_main_v168, val_main_v167, val_main_cst_29]
  refine (sum_outer_three _ _ _ p h).trans ?_
  simp only [q, coe_sum, zero_add]

theorem v174 : Holds5 (val_main_v174 (F := Ideal) A0 A1 A2 A3 A8) fun b t c => dvln P (seq P x d b) t c := by
  intro b n s h j
  have q := v166 k
  unfold Holds5 at q
  pointwise [val_main_v174, val_main_v173, val_main_v171, v143 k _ _ _, q _ _ _ _ _]
  simp only [← EReal.coe_mul, coe_sum, mul_comm (dmx _ _ _ _)]
  rw [dvln, dvAt, chunk_at, inside_at, grp_col, lane_col]

/-- The cotangent of the layer norm's result. -/
theorem v177 : Holds3 (val_main_v177 (F := Ideal) A0 A1 A2 A3 A8) fun b t => dvln P (seq P x d b) t := by
  intro b t c
  have q := v174 k
  unfold Holds5 at q
  pointwise [val_main_v177, q _ _ _ _ _]
  rw [Nat.div_add_mod, col_grp]

/-- The gradient of the causal weights. -/
theorem v176 (h : Fin 4) (p s : Fin 128) : val_main_v176 (F := Ideal) A0 A1 A2 A3 A6 A7 (ix3 h p s)
    = (((if s ≤ p then ∑ b : Fin 4, ∑ n : Fin 16, ∑ j : Fin 128, dmx P (seq P x d b) (128 * n.val + p.val) (col h j)
        * vln P (seq P x d b) (128 * n.val + s.val) (col h j) else 0 : ℝ)) : EReal) := by
  have q := v166 k
  have r := v138 k
  unfold Holds5 at q r
  pointwise [val_main_v176, val_main_v175, val_main_v172, val_main_v141, val_main_v140, val_main_v139, val_main_cst_26, val_main_call1_v0,
    val_main_call1_v1, val_main_call1_v2, val_main_call1_v3, val_main_call1_v4, val_main_call1_v5, val_main_call1_c, val_main_call1_cst]
  rw [product_three]
  pointwise [val_main_v171, r _ _ _ _ _, q _ _ _ _ _]
  simp only [← EReal.coe_mul, coe_sum]
  refine (congrArg (fun w => Scalar.select (IntOp.cmpi .sge w (BitVec.ofNat 32 s.val)) _ _) (BitVec.add_zero _)).trans ?_
  rw [select_le]
  split_ifs <;> rfl

end

end Cert.Reference2Ideal.Meaning

end
-- ==== Proof.MixerRoll.lean ====
/- Window sums by doubling: rows added to the rows a power of two before (or after) them, as the kernel rotates them;
   the reciprocal of a window's length, from the words that count it. -/
module

public import proofs.«01_k».proof.Proof.MixerMath
public import Idealize.ShloMosaic.Lib.KernelVsHost

@[expose] public section

noncomputable section

open Idealize.ShloMosaic Idealize.ShloMosaic.TcCoe

namespace Cert.Mix

/-- Rows `n` and later hold, in every column, the sum of the `k` rows that end there. -/
def Ends {a b : ℕ} (v : FVec Ideal ⟨2, ![a, b]⟩ .f32) (f : ℕ → Fin b → ℝ) (k n : ℕ) : Prop :=
  ∀ (r : Fin a) (j : Fin b), n ≤ r.val → v (ix2 r j) = ((∑ i ∈ Finset.range k, f (r.val - i) j : ℝ) : EReal)

/-- Rows that leave room for `n` rows hold the sum of the `k` rows that begin there. -/
def Begins {a b : ℕ} (v : FVec Ideal ⟨2, ![a, b]⟩ .f32) (f : ℕ → Fin b → ℝ) (k n : ℕ) : Prop :=
  ∀ (r : Fin a) (j : Fin b), r.val + n ≤ a → v (ix2 r j) = ((∑ i ∈ Finset.range k, f (r.val + i) j : ℝ) : EReal)

/-- A rotation down by `k` rows, where it does not wrap around. -/
theorem rotate_down {a b : ℕ} (v : FVec Ideal ⟨2, ![a, b]⟩ .f32) (s : BitVec 32) (k : ℕ) (hs : s = BitVec.ofNat 32 k)
    (hk : k < a) (ha : a < 2 ^ 31) (h : (⟨2, ![a, b]⟩ : Shape).Rotates 0 none) (r : Fin a) (j : Fin b) (hr : k ≤ r.val) :
    dynamicRotate 0 s none v h (ix2 r j) = v (ix2 ⟨r.val - k, by omega⟩ j) := by
  refine dynamicRotate_apply 0 s v h _ _ fun b' => ?_
  have hr' := r.isLt
  have es : s.toNat = k := by rw [hs, BitVec.toNat_ofNat]; exact Nat.mod_eq_of_lt (by omega)
  match b' with
  | ⟨0, _⟩ =>
    refine Eq.trans ?_ (if_pos (Fin.ext rfl)).symm
    show r.val - k = (r.val + a - s.toNat % a) % a
    rw [es, Nat.mod_eq_of_lt hk, show r.val + a - k = r.val - k + a by omega, Nat.add_mod_right,
      Nat.mod_eq_of_lt (by omega)]
  | ⟨1, _⟩ => exact (if_neg fun q => Nat.one_ne_zero (congrArg Fin.val q)).symm

theorem Ends.double {a b : ℕ} {v : FVec Ideal ⟨2, ![a, b]⟩ .f32} {f : ℕ → Fin b → ℝ} {k n : ℕ} (H : Ends v f k n)
    (s : BitVec 32) (hs : s = BitVec.ofNat 32 k) (hk : k < a) (ha : a < 2 ^ 31)
    (h : (⟨2, ![a, b]⟩ : Shape).Rotates 0 none) : Ends (addf v (dynamicRotate 0 s none v h)) f (k + k) (n + k) := by
  intro r j hr
  show v (ix2 r j) + dynamicRotate 0 s none v h (ix2 r j) = _
  rw [rotate_down v s k hs hk ha h r j (by omega), H r j (by omega), H ⟨r.val - k, by omega⟩ j (by dsimp only; omega),
    ← EReal.coe_add, Finset.sum_range_add]
  refine congrArg (fun x : ℝ => (x : EReal)) (congrArg₂ (· + ·) rfl (Finset.sum_congr rfl fun i _ => ?_))
  rw [Nat.sub_sub]

theorem rotate_up {a b : ℕ} (v : FVec Ideal ⟨2, ![a, b]⟩ .f32) (s : BitVec 32) (k : ℕ) (hs : s = BitVec.ofNat 32 (a - k))
    (hk : k < a) (hk' : 0 < k) (ha : a < 2 ^ 31) (h : (⟨2, ![a, b]⟩ : Shape).Rotates 0 none) (r : Fin a) (j : Fin b)
    (hr : r.val + k < a) : dynamicRotate 0 s none v h (ix2 r j) = v (ix2 ⟨r.val + k, hr⟩ j) := by
  refine dynamicRotate_apply 0 s v h _ _ fun b' => ?_
  have es : s.toNat = a - k := by rw [hs, BitVec.toNat_ofNat]; exact Nat.mod_eq_of_lt (by omega)
  match b' with
  | ⟨0, _⟩ =>
    refine Eq.trans ?_ (if_pos (Fin.ext rfl)).symm
    show r.val + k = (r.val + a - s.toNat % a) % a
    rw [es, Nat.mod_eq_of_lt (a := a - k) (by omega), show r.val + a - (a - k) = r.val + k by omega,
      Nat.mod_eq_of_lt hr]
  | ⟨1, _⟩ => exact (if_neg fun q => Nat.one_ne_zero (congrArg Fin.val q)).symm

theorem Begins.double {a b : ℕ} {v : FVec Ideal ⟨2, ![a, b]⟩ .f32} {f : ℕ → Fin b → ℝ} {k n : ℕ} (H : Begins v f k n)
    (s : BitVec 32) (hs : s = BitVec.ofNat 32 (a - k)) (hk : k < a) (hk' : 0 < k) (hn : 0 < n) (ha : a < 2 ^ 31)
    (h : (⟨2, ![a, b]⟩ : Shape).Rotates 0 none) : Begins (addf v (dynamicRotate 0 s none v h)) f (k + k) (n + k) := by
  intro r j hr
  show v (ix2 r j) + dynamicRotate 0 s none v h (ix2 r j) = _
  rw [rotate_up v s k hs hk hk' ha h r j (by omega), H r j (by omega), H ⟨r.val + k, by omega⟩ j (by dsimp only; omega),
    ← EReal.coe_add, Finset.sum_range_add]
  refine congrArg (fun x : ℝ => (x : EReal)) (congrArg₂ (· + ·) rfl (Finset.sum_congr rfl fun i _ => ?_))
  rw [Nat.add_assoc]

/-- The lesser of two counts, kept as words. -/
theorem count_word (t w : ℕ) (ht : t + 1 < 2 ^ 31) (hw : w < 2 ^ 31) :
    FloatOps.sitofp (F := Ideal) FTy.f32 (IntOp.minsi (BitVec.ofNat 32 (t + 1)) (BitVec.ofNat 32 w))
      = (((min (t + 1) w : ℕ) : ℝ) : EReal) := by
  have e : ∀ n : ℕ, n < 2 ^ 31 → (BitVec.ofNat 32 n).toInt = (n : ℤ) := fun n hn => by
    rw [BitVec.toInt_eq_toNat_of_lt (by rw [BitVec.toNat_ofNat, Nat.mod_eq_of_lt (by omega)]; omega),
      BitVec.toNat_ofNat, Nat.mod_eq_of_lt (by omega)]
  have m : (IntOp.minsi (BitVec.ofNat 32 (t + 1)) (BitVec.ofNat 32 w)).toInt = ((min (t + 1) w : ℕ) : ℤ) := by
    unfold IntOp.minsi
    by_cases q : (BitVec.ofNat 32 (t + 1)).slt (BitVec.ofNat 32 w) = true
    · rw [if_pos q, e _ ht]
      rw [BitVec.slt_iff_toInt_lt, e _ ht, e _ hw] at q
      exact congrArg _ (by omega)
    · rw [if_neg q, e _ hw]
      rw [BitVec.slt_iff_toInt_lt, e _ ht, e _ hw] at q
      exact congrArg _ (by omega)
  show ((((IntOp.minsi (BitVec.ofNat 32 (t + 1)) (BitVec.ofNat 32 w)).toInt : ℤ) : ℝ) : EReal) = _
  rw [m, Int.cast_natCast]

/-- A number over it, -/
theorem share_word (y : ℝ) (t w : ℕ) (ht : t + 1 < 2 ^ 31) (hw : w < 2 ^ 31) (hw' : 0 < w) :
    Ideal.div (y : EReal) (FloatOps.sitofp (F := Ideal) FTy.f32 (IntOp.minsi (BitVec.ofNat 32 (t + 1)) (BitVec.ofNat 32 w)))
      = ((y * recip w t : ℝ) : EReal) := by
  rw [count_word t w ht hw, Cert.Layer.div_coe_coe _ _ (Nat.cast_ne_zero.2 (by omega)), recip, mul_one_div]

/-- and one over it. -/
theorem recip_word (t w : ℕ) (ht : t + 1 < 2 ^ 31) (hw : w < 2 ^ 31) (hw' : 0 < w) :
    Ideal.div 1 (FloatOps.sitofp (F := Ideal) FTy.f32 (IntOp.minsi (BitVec.ofNat 32 (t + 1)) (BitVec.ofNat 32 w)))
      = ((recip w t : ℝ) : EReal) := by
  rw [← EReal.coe_one, share_word 1 t w ht hw hw', one_mul]

end Cert.Mix

end
-- ==== Proof.MixerWindows.lean ====
/- The mixer's reference: the pooled half, forwards. -/
module

public import proofs.«01_k».proof.Proof.MixerMix
public import proofs.«01_k».proof.Proof.MixerRoll

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-- A position's count, one more than its number. -/
theorem count_from_one (t : ℕ) : IntOp.addi (1#32) (BitVec.ofNat 32 t) = BitVec.ofNat 32 (t + 1) := by
  rw [Nat.add_comm]; exact (BitVec.ofNat_add 1 t).symm

/-- The mean over a window that ends at a row, from two running sums, less the row. -/
theorem pooled_of (S : Mix.Seq) (t : Fin 2048) (g : Fin 4) (j : Fin 128) (w : ℕ) (hg : width g = w + 1) (hw : w < 2 ^ 30) (c : Fin 512)
    (hc : c.val = 128 * g.val + j.val) :
    Ideal.div (((upto (fun s => xp S s c) (1 + t.val) : ℝ) : EReal) - if _h : t.val < w then 0 else ((upto (fun s => xp S s c) (t.val - w) : ℝ) : EReal))
        (FloatOps.sitofp (F := Ideal) FTy.f32 (IntOp.minsi (IntOp.addi (1#32) (BitVec.ofNat 32 t.val)) (BitVec.ofNat 32 (w + 1))))
        - ((xp S t.val c : ℝ) : EReal) = ((pooled S t.val g j : ℝ) : EReal) := by
  obtain rfl : c = col g j := Fin.ext hc
  have e : (if _h : t.val < w then (0 : EReal) else ((upto (fun s => xp S s (col g j)) (t.val - w) : ℝ) : EReal))
      = ((upto (fun s => xp S s (col g j)) (t.val + 1 - (w + 1)) : ℝ) : EReal) := by
    by_cases h : t.val < w
    · rw [dif_pos h, show t.val + 1 - (w + 1) = 0 by omega]; simp [upto]
    · rw [dif_neg h, show t.val + 1 - (w + 1) = t.val - w by omega]
  rw [e, ← EReal.coe_sub, count_from_one, share_word _ _ _ (by omega) (by omega) (by omega), ← EReal.coe_sub, Nat.add_comm 1, upto_back, pooled, hg]

section
variable (k : Mix.Args A0 A1 A2 A3 A4 A5 A6 A7 A8 A9 P x d)
include k

/-- The running sums of the pooled columns, -/
theorem v24 : Holds3 (val_main_v24 (F := Ideal) A1 A2) fun b t c => upto (fun s => xp (seq P x d b) s c) (t + 1) := by
  intro b t c
  have z : val_main_call0_call0_v0 (F := Ideal) (Shape.Idx.first Gen.h_S_) = (0 : EReal) := by
    pointwise [val_main_call0_call0_v0, val_main_call0_call0_cst]
  unfold val_main_v24
  exact running_sum _ _ _ _ z (fun s => xp (seq P x d b) s c) b c (fun t => v4 k b t c) t

/-- with a row of zeros in front. -/
theorem v25 (b : Fin 4) (r : Fin 2049) (c : Fin 512) : val_main_v25 (F := Ideal) A1 A2 (ix3 b r c)
    = ((upto (fun s => xp (seq P x d b) s c) r.val : ℝ) : EReal) := by
  pointwise [val_main_v25, val_main_v23, val_main_cst_5, v24 k _ _ _]
  by_cases h : r.val < 1
  · rw [dif_pos h, show r.val = 0 by omega]; simp [upto]
  · rw [dif_neg h, show r.val - 1 + 1 = r.val by omega]

/-- The pooled columns of each group, -/
theorem v44 : Holds3 (val_main_v44 (F := Ideal) A1 A2) fun b t => pooled (seq P x d b) t 0 := by
  intro b t c
  pointwise [val_main_v44, val_main_v43, val_main_v42, val_main_v41, val_main_v40, val_main_v39, val_main_v38, val_main_v37, val_main_v36,
    val_main_v35, val_main_c_9, val_main_v34, val_main_v32, val_main_v31, val_main_cst_7, val_main_v30, val_main_v29, val_main_v28, val_main_c, val_main_v27,
    v25 k _ _ _, v4 k _ _ _]
  exact pooled_of (seq P x d b) t 0 c 1 rfl (by decide) _ (by dsimp only; omega)

theorem v59 : Holds3 (val_main_v59 (F := Ideal) A1 A2) fun b t => pooled (seq P x d b) t 1 := by
  intro b t c
  pointwise [val_main_v59, val_main_v58, val_main_v57, val_main_v56, val_main_v55, val_main_v54, val_main_v53, val_main_v52, val_main_v51,
    val_main_v50, val_main_c_12, val_main_v49, val_main_v47, val_main_v46, val_main_cst_10, val_main_v45, val_main_v29, val_main_v28, val_main_c, val_main_v27,
    v25 k _ _ _, v4 k _ _ _]
  exact pooled_of (seq P x d b) t 1 c 3 rfl (by decide) _ (by dsimp only; omega)

theorem v74 : Holds3 (val_main_v74 (F := Ideal) A1 A2) fun b t => pooled (seq P x d b) t 2 := by
  intro b t c
  pointwise [val_main_v74, val_main_v73, val_main_v72, val_main_v71, val_main_v70, val_main_v69, val_main_v68, val_main_v67, val_main_v66,
    val_main_v65, val_main_c_15, val_main_v64, val_main_v62, val_main_v61, val_main_cst_13, val_main_v60, val_main_v29, val_main_v28, val_main_c, val_main_v27,
    v25 k _ _ _, v4 k _ _ _]
  exact pooled_of (seq P x d b) t 2 c 7 rfl (by decide) _ (by dsimp only; omega)

theorem v89 : Holds3 (val_main_v89 (F := Ideal) A1 A2) fun b t => pooled (seq P x d b) t 3 := by
  intro b t c
  pointwise [val_main_v89, val_main_v88, val_main_v87, val_main_v86, val_main_v85, val_main_v84, val_main_v83, val_main_v82, val_main_v81,
    val_main_v80, val_main_c_18, val_main_v79, val_main_v77, val_main_v76, val_main_cst_16, val_main_v75, val_main_v29, val_main_v28, val_main_c, val_main_v27,
    v25 k _ _ _, v4 k _ _ _]
  exact pooled_of (seq P x d b) t 3 c 15 rfl (by decide) _ (by dsimp only; omega)

/-- and of all. -/
theorem v94 (b : Fin 4) (t : Fin 2048) (g : Fin 4) (j : Fin 128) : val_main_v94 (F := Ideal) A1 A2 (ix4 b t g j)
    = ((pooled (seq P x d b) t.val g j : ℝ) : EReal) := by
  pointwise [val_main_v94, val_main_v90, val_main_v91, val_main_v92, val_main_v93, v44 k _ _ _, v59 k _ _ _, v74 k _ _ _, v89 k _ _ _]
  have hg := g.isLt
  split_ifs with h0 h1 h2 <;> exact congrArg (fun g => ((pooled (seq P x d b) t.val g j : ℝ) : EReal)) (Fin.ext (by omega))

/-- The pooled columns after each group's matrix. -/
theorem v98 : Holds3 (val_main_v98 (F := Ideal) A1 A2 A4) fun b t c => pre P (seq P x d b) t (grp c) (lane c) := by
  intro b t c
  pointwise [val_main_v98, val_main_v97, val_main_v96, val_main_v95, v94 k _ _ _ _, k.pw _ _ _ _]
  simp only [← EReal.coe_mul, coe_sum, mul_comm (P.pw _ _ _)]
  rfl

theorem v222 : Holds3 (val_main_v222 (F := Ideal) A0 A3 A5) fun b t c => dsb P (seq P x d b) t (grp c) (lane c) := by
  intro b t c
  pointwise [val_main_v222, val_main_v221, val_main_v100, val_main_v99, v162 k _ _ _, k.ps _ _]
  rw [← EReal.coe_mul, dsb, col_grp]

/-- The gradient of the pooled half's scale. -/
theorem v223 (c : Fin 512) : val_main_v223 (F := Ideal) A0 A1 A2 A3 A4 (ix1 c)
    = ((∑ b : Fin 4, ∑ t : Fin 2048, dpo P (seq P x d b) t.val c * pre P (seq P x d b) t.val (grp c) (lane c) : ℝ) : EReal) := by
  pointwise [val_main_v223, val_main_cst_45, val_main_v220]
  refine (sum_first_two _ _ _ c).trans ?_
  simp only [Fin.sum_univ_one]
  pointwise [val_main_v219, val_main_cst_44]
  refine (sum_first_two _ _ _ c).trans ?_
  pointwise [val_main_v218, v98 k _ _ _, v162 k _ _ _]
  simp only [← EReal.coe_mul, coe_sum, zero_add, mul_comm (pre _ _ _ _ _)]

theorem v226 (g : Fin 4) (j : Fin 128) (b : Fin 4) (t : Fin 2048) : val_main_v226 (F := Ideal) A0 A3 A5 (ix4 g j b t)
    = ((dsb P (seq P x d b) t.val g j : ℝ) : EReal) := by
  pointwise [val_main_v226, val_main_v225, v222 k _ _ _]
  rw [show (⟨g.val * 128 + j.val, by omega⟩ : Fin 512) = col g j from Fin.ext (by dsimp only; omega), grp_col, lane_col]

/-- The gradient of the pooled groups' matrices. -/
theorem v230 (g : Fin 4) (a b : Fin 128) : val_main_v230 (F := Ideal) A0 A1 A2 A3 A5 (ix3 g a b)
    = ((∑ n : Fin 4, ∑ t : Fin 2048, pooled (seq P x d n) t.val g a * dsb P (seq P x d n) t.val g b : ℝ) : EReal) := by
  pointwise [val_main_v230, val_main_v229, v226 k _ _ _ _, v94 k _ _ _ _]
  simp only [← EReal.coe_mul, coe_sum, mul_comm (dsb _ _ _ _ _)]

/-- The pooled columns' cotangent. -/
theorem v228 (b : Fin 4) (t : Fin 2048) (g : Fin 4) (j : Fin 128) : val_main_v228 (F := Ideal) A0 A3 A4 A5 (ix4 b t g j)
    = ((dpool P (seq P x d b) t.val g j : ℝ) : EReal) := by
  pointwise [val_main_v228, val_main_v227, val_main_v95, v226 k _ _ _ _, k.pw _ _ _ _]
  simp only [← EReal.coe_mul, coe_sum]
  rfl

end

end Cert.Reference2Ideal.Meaning

end
-- ==== Proof.ForwardReference.lean ====
/- The mixer's forward reference, read one operation after the other. -/
module

public import proofs.«01_k».proof.Proof.MixerWindows
public import proofs.«01_k».proof.Proof.ForwardMath
public import proofs.«01_k».proof.Proof.Gen.Reference3Ideal.Read

@[expose] public section

set_option maxRecDepth 16384

noncomputable section

open Idealize.ShloMosaic Idealize.ShloMosaic.TcCoe

namespace Cert.Reference3Ideal.Meaning

open Cert.Reference3Ideal Cert.Reference3Ideal.Read Cert.Layer Cert.Forward
open Cert.Mix (Seq col grp lane chunk inside pooled u v xp select_le)
open Cert.Reference2Ideal.Meaning (Holds3 upto pooled_of)

variable {A0 : FVec Ideal S4x2048x1024 .f32} {A1 : FVec Ideal S1x1024x1536 .f32} {A2 : FVec Ideal S1x1024x1024 .f32}
variable {A3 : FVec Ideal S1x4x128x128 .f32} {A4 A5 A6 : FVec Ideal S1x512 .f32} {A7 : FVec Ideal S1x4x128x128 .f32}
variable {A8 : FVec Ideal S1x4x128 .f32} {x : Fin 4 → Fin 2048 → Fin 1024 → ℝ} {win : Fin 1024 → Fin 1536 → ℝ}

/-! The operations up to the Gaussian units and the normalised values are those of the backward pass. -/

theorem proj_same : val_main_v1 (F := Ideal) A0 A1 = Reference2Ideal.Read.val_main_v3 (F := Ideal) A0 A1 := by
  funext i
  pointwise [Reference2Ideal.Read.val_main_v3, Reference2Ideal.Read.val_main_v0, Reference2Ideal.Read.val_main_cst, add_zero]
  rfl

theorem unit_same : val_main_v11 (F := Ideal) A0 A1 = Reference2Ideal.Read.val_main_v22 (F := Ideal) A0 A1 := by
  simp only [val_main_v11, val_main_v10, val_main_v9, val_main_v6, val_main_v5, val_main_v3, proj_same]
  rfl

theorem gate_same : val_main_v91 (F := Ideal) A0 A1 = Reference2Ideal.Read.val_main_v107 (F := Ideal) A0 A1 := by
  simp only [val_main_v91, unit_same]
  rfl

theorem hat_same : val_main_v110 (F := Ideal) A0 A1 = Reference2Ideal.Read.val_main_v131 (F := Ideal) A0 A1 := by
  simp only [val_main_v110, val_main_v109, val_main_v108, val_main_v107, val_main_v105, val_main_v104, val_main_v103, val_main_v101,
    val_main_v100, val_main_v99, val_main_v98, val_main_v97, val_main_v96, val_main_v94, val_main_v93, val_main_v92, unit_same]
  rfl

section
variable (k : Given A0 A1 x win)
include k

/-- The projected rows, the columns to pool, the gates, the normalised values. -/
theorem v1 : Holds3 (val_main_v1 (F := Ideal) A0 A1) fun b t => (seqOf x win b).p t := by
  rw [proj_same]
  exact Reference2Ideal.Meaning.v3 k.args
theorem v2 : Holds3 (val_main_v2 (F := Ideal) A0 A1) fun b t => xp (seqOf x win b) t := by
  intro b t j
  pointwise [val_main_v2, v1 k _ _ _]
  rfl
theorem v91 : Holds3 (val_main_v91 (F := Ideal) A0 A1) fun b t => u (seqOf x win b) t := by
  rw [gate_same]
  exact Reference2Ideal.Meaning.v107 k.args
theorem v110 : Holds3 (val_main_v110 (F := Ideal) A0 A1) fun b t => Mix.hat (v (seqOf x win b) t) := by
  rw [hat_same]
  exact Reference2Ideal.Meaning.v131 k.args

/-- The running sums of the pooled columns, -/
theorem v13 : Holds3 (val_main_v13 (F := Ideal) A0 A1) fun b t c => upto (fun s => xp (seqOf x win b) s c) (t + 1) := by
  intro b t c
  have z : val_main_call0_call0_v0 (F := Ideal) (Shape.Idx.first Gen.h_S_) = (0 : EReal) := by
    pointwise [val_main_call0_call0_v0, val_main_call0_call0_cst]
  unfold val_main_v13
  exact Reference2Ideal.Meaning.running_sum _ _ _ _ z (fun s => xp (seqOf x win b) s c) b c (fun t => v2 k b t c) t

/-- with a row of zeros in front. -/
theorem v14 (b : Fin 4) (r : Fin 2049) (c : Fin 512) : val_main_v14 (F := Ideal) A0 A1 (ix3 b r c)
    = ((upto (fun s => xp (seqOf x win b) s c) r.val : ℝ) : EReal) := by
  pointwise [val_main_v14, val_main_v12, val_main_cst_1, v13 k _ _ _]
  by_cases h : r.val < 1
  · rw [dif_pos h, show r.val = 0 by omega]; simp [upto]
  · rw [dif_neg h, show r.val - 1 + 1 = r.val by omega]

/-- The pooled columns of each group, -/
theorem v31 : Holds3 (val_main_v31 (F := Ideal) A0 A1) fun b t => pooled (seqOf x win b) t 0 := by
  intro b t c
  pointwise [val_main_v31, val_main_v30, val_main_v29, val_main_v28, val_main_v27, val_main_v26, val_main_v25, val_main_v24, val_main_v23,
    val_main_v22, val_main_c_3, val_main_v21, val_main_v20, val_main_v19, val_main_cst_2, val_main_v18, val_main_v17, val_main_v16, val_main_c, val_main_v15,
    v14 k _ _ _, v2 k _ _ _]
  exact pooled_of (seqOf x win b) t 0 c 1 rfl (by decide) _ (by dsimp only; omega)

theorem v45 : Holds3 (val_main_v45 (F := Ideal) A0 A1) fun b t => pooled (seqOf x win b) t 1 := by
  intro b t c
  pointwise [val_main_v45, val_main_v44, val_main_v43, val_main_v42, val_main_v41, val_main_v40, val_main_v39, val_main_v38, val_main_v37,
    val_main_v36, val_main_c_5, val_main_v35, val_main_v34, val_main_v33, val_main_cst_4, val_main_v32, val_main_v17, val_main_v16, val_main_c, val_main_v15,
    v14 k _ _ _, v2 k _ _ _]
  exact pooled_of (seqOf x win b) t 1 c 3 rfl (by decide) _ (by dsimp only; omega)

theorem v59 : Holds3 (val_main_v59 (F := Ideal) A0 A1) fun b t => pooled (seqOf x win b) t 2 := by
  intro b t c
  pointwise [val_main_v59, val_main_v58, val_main_v57, val_main_v56, val_main_v55, val_main_v54, val_main_v53, val_main_v52, val_main_v51,
    val_main_v50, val_main_c_7, val_main_v49, val_main_v48, val_main_v47, val_main_cst_6, val_main_v46, val_main_v17, val_main_v16, val_main_c, val_main_v15,
    v14 k _ _ _, v2 k _ _ _]
  exact pooled_of (seqOf x win b) t 2 c 7 rfl (by decide) _ (by dsimp only; omega)

theorem v73 : Holds3 (val_main_v73 (F := Ideal) A0 A1) fun b t => pooled (seqOf x win b) t 3 := by
  intro b t c
  pointwise [val_main_v73, val_main_v72, val_main_v71, val_main_v70, val_main_v69, val_main_v68, val_main_v67, val_main_v66, val_main_v65,
    val_main_v64, val_main_c_9, val_main_v63, val_main_v62, val_main_v61, val_main_cst_8, val_main_v60, val_main_v17, val_main_v16, val_main_c, val_main_v15,
    v14 k _ _ _, v2 k _ _ _]
  exact pooled_of (seqOf x win b) t 3 c 15 rfl (by decide) _ (by dsimp only; omega)

/-- and of all. -/
theorem v78 (b : Fin 4) (t : Fin 2048) (g : Fin 4) (j : Fin 128) : val_main_v78 (F := Ideal) A0 A1 (ix4 b t g j)
    = ((pooled (seqOf x win b) t.val g j : ℝ) : EReal) := by
  pointwise [val_main_v78, val_main_v74, val_main_v75, val_main_v76, val_main_v77, v31 k _ _ _, v45 k _ _ _, v59 k _ _ _, v73 k _ _ _]
  have hg := g.isLt
  split_ifs with h0 h1 h2 <;> exact congrArg (fun g => ((pooled (seqOf x win b) t.val g j : ℝ) : EReal)) (Fin.ext (by omega))

/-- The pooled half: through each group's matrix, then scaled. -/
theorem v86 (b : Fin 4) (t : Fin 2048) (c : Fin 512) : val_main_v86 (F := Ideal) A0 A1 A3 A4 (ix3 b t c)
    = pool (weightsOf A2 A3 A4 A5 A6 A7 A8) (seqOf x win b) t.val c := by
  pointwise [val_main_v86, val_main_v85, val_main_v84, val_main_v83, val_main_v82, val_main_v81, val_main_v80, val_main_v79, v78 k _ _ _ _]
  simp only [mul_comm (A3 _)]
  rfl

/-- The layer norm's result over the values, also by chunk, row of the chunk, head and column of the head. -/
theorem v116 (b : Fin 4) (t : Fin 2048) (c : Fin 512) : val_main_v116 (F := Ideal) A0 A1 A5 A6 (ix3 b t c)
    = vln (weightsOf A2 A3 A4 A5 A6 A7 A8) (seqOf x win b) t.val c := by
  pointwise [val_main_v116, val_main_v115, val_main_v114, val_main_v113, val_main_v112, val_main_v111, val_main_v87, val_main_v88, v110 k _ _ _]
  rfl
omit k in
theorem row_at (f : ℕ → Fin 512 → EReal) (n : Fin 16) (s : Fin 128) (h : Fin 4) (j : Fin 128) :
    f (n.val * 128 + s.val) ⟨h.val * 128 + j.val, by omega⟩ = f (128 * n.val + s.val) (col h j) := by
  rw [mul_comm n.val]
  exact congrArg (fun c => f _ c) (Fin.ext (by dsimp only; omega))
theorem v117 (b : Fin 4) (n : Fin 16) (s : Fin 128) (h : Fin 4) (j : Fin 128) : val_main_v117 (F := Ideal) A0 A1 A5 A6 (ix5 b n s h j)
    = vln (weightsOf A2 A3 A4 A5 A6 A7 A8) (seqOf x win b) (128 * n.val + s.val) (col h j) := by
  pointwise [val_main_v117, v116 (A2 := A2) (A3 := A3) (A4 := A4) (A7 := A7) (A8 := A8) k _ _ _]
  exact row_at _ n s h j

omit k in
/-- The causal weights. -/
theorem v122 (h : Fin 4) (p s : Fin 128) : val_main_v122 (F := Ideal) A7 (ix3 h p s)
    = tri (weightsOf A2 A3 A4 A5 A6 A7 A8) h p s := by
  pointwise [val_main_v122, val_main_v121, val_main_v120, val_main_v119, val_main_v118, val_main_cst_15, val_main_v89, val_main_call1_v0,
    val_main_call1_v1, val_main_call1_v2, val_main_call1_v3, val_main_call1_v4, val_main_call1_v5, val_main_call1_c, val_main_call1_cst]
  refine (congrArg (fun w : BitVec 32 => (Scalar.select (IntOp.cmpi .sge w (BitVec.ofNat 32 s.val)) (A7 (ix4 0 h p s)) 0 : EReal)) (BitVec.add_zero _)).trans ?_
  rw [select_le]
  rfl

/-- The mixed values, -/
theorem v128 (b : Fin 4) (n : Fin 16) (p : Fin 128) (h : Fin 4) (j : Fin 128) : val_main_v128 (F := Ideal) A0 A1 A5 A6 A7 A8 (ix5 b n p h j)
    = mixAt (weightsOf A2 A3 A4 A5 A6 A7 A8) (seqOf x win b) (128 * n.val) p h j := by
  pointwise [val_main_v128, val_main_v127, val_main_v126, val_main_v125, val_main_v124, val_main_v123, val_main_v90,
    v117 (A2 := A2) (A3 := A3) (A4 := A4) (A7 := A7) (A8 := A8) k _ _ _ _ _, v122 (A2 := A2) (A3 := A3) (A4 := A4) (A5 := A5) (A6 := A6) (A8 := A8) _ _ _]
  simp only [mul_comm (vln _ _ _ _)]
  rfl

/-- times the gates. -/
theorem v130 (b : Fin 4) (t : Fin 2048) (c : Fin 512) : val_main_v130 (F := Ideal) A0 A1 A5 A6 A7 A8 (ix3 b t c)
    = gated (weightsOf A2 A3 A4 A5 A6 A7 A8) (seqOf x win b) t.val c := by
  pointwise [val_main_v130, val_main_v129, v91 k _ _ _, v128 (A2 := A2) (A3 := A3) (A4 := A4) k _ _ _ _ _]
  rfl

/-- Both halves side by side. -/
theorem v131 (b : Fin 4) (t : Fin 2048) (c : Fin 1024) : val_main_v131 (F := Ideal) A0 A1 A3 A4 A5 A6 A7 A8 (ix3 b t c)
    = mix (weightsOf A2 A3 A4 A5 A6 A7 A8) (seqOf x win b) t.val c := by
  pointwise [val_main_v131, v86 (A2 := A2) (A5 := A5) (A6 := A6) (A7 := A7) (A8 := A8) k _ _ _, v130 (A2 := A2) (A3 := A3) (A4 := A4) k _ _ _]
  rfl

/-- The residual rows, -/
theorem v136 (b : Fin 4) (t : Fin 2048) (j : Fin 1024) : val_main_v136 (F := Ideal) A0 A1 A2 A3 A4 A5 A6 A7 A8 (ix3 b t j)
    = res (weightsOf A2 A3 A4 A5 A6 A7 A8) (seqOf x win b) (rowsOf x b) t.val j := by
  pointwise [val_main_v136, val_main_v135, val_main_v134, val_main_v133, val_main_v132, val_main_cst_16, bits_alpha, k.x _ _ _,
    v131 (A2 := A2) k _ _ _]
  have e : x b t j = rowsOf x b t.val j := congrArg (fun t => x b t j) (Fin.ext (Nat.mod_eq_of_lt t.isLt).symm)
  rw [e]
  rfl

/-- their mean, -/
theorem v140 (b : Fin 4) (t : Fin 2048) (z : Fin 1) : val_main_v140 (F := Ideal) A0 A1 A2 A3 A4 A5 A6 A7 A8 (ix3 b t z)
    = Forward.mean (res (weightsOf A2 A3 A4 A5 A6 A7 A8) (seqOf x win b) (rowsOf x b) t.val) := by
  pointwise [val_main_v140, val_main_v139, val_main_v138, val_main_v137, val_main_cst_17, val_main_cst_18, bits_width, v136 k _ _ _, zero_add]
  rfl

/-- the distance from the mean, computed twice, -/
theorem v142 (b : Fin 4) (t : Fin 2048) (j : Fin 1024) : val_main_v142 (F := Ideal) A0 A1 A2 A3 A4 A5 A6 A7 A8 (ix3 b t j)
    = Forward.cen (res (weightsOf A2 A3 A4 A5 A6 A7 A8) (seqOf x win b) (rowsOf x b) t.val) j := by
  pointwise [val_main_v142, val_main_v141, v136 k _ _ _, v140 k _ _ _]
  rfl
theorem v153 (b : Fin 4) (t : Fin 2048) (j : Fin 1024) : val_main_v153 (F := Ideal) A0 A1 A2 A3 A4 A5 A6 A7 A8 (ix3 b t j)
    = Forward.cen (res (weightsOf A2 A3 A4 A5 A6 A7 A8) (seqOf x win b) (rowsOf x b) t.val) j := by
  pointwise [val_main_v153, val_main_v152, v136 k _ _ _, v140 k _ _ _]
  rfl

/-- the reciprocal standard deviation, -/
theorem v150 (b : Fin 4) (t : Fin 2048) (z : Fin 1) : val_main_v150 (F := Ideal) A0 A1 A2 A3 A4 A5 A6 A7 A8 (ix3 b t z)
    = Forward.rstd (res (weightsOf A2 A3 A4 A5 A6 A7 A8) (seqOf x win b) (rowsOf x b) t.val) := by
  pointwise [val_main_v150, val_main_v149, val_main_v148, val_main_v147, val_main_v146, val_main_v145, val_main_v144, val_main_v143,
    val_main_cst_19, val_main_cst_20, val_main_cst_21, bits_width, bits_eps, v142 k _ _ _, zero_add]
  rfl

/-- and the normalised residual. -/
theorem v155 (b : Fin 4) (t : Fin 2048) (j : Fin 1024) : val_main_v155 (F := Ideal) A0 A1 A2 A3 A4 A5 A6 A7 A8 (ix3 b t j)
    = Forward.hat (res (weightsOf A2 A3 A4 A5 A6 A7 A8) (seqOf x win b) (rowsOf x b) t.val) j := by
  pointwise [val_main_v155, val_main_v154, v153 k _ _ _, v150 k _ _ _]
  rfl

/-! The five results, by the number of the row among all sequences' rows. -/

theorem v151 (n : Fin 8192) (c : Fin 1536) : val_main_v151 (F := Ideal) A0 A1 (ix2 n c)
    = (((seqOf x win ⟨n.val / 2048, by omega⟩).p (n.val % 2048) c : ℝ) : EReal) := by
  pointwise [val_main_v151, v1 k _ _ _]

theorem v156 (n : Fin 8192) (c : Fin 1024) : val_main_v156 (F := Ideal) A0 A1 A2 A3 A4 A5 A6 A7 A8 (ix2 n c)
    = Forward.hat (res (weightsOf A2 A3 A4 A5 A6 A7 A8) (seqOf x win ⟨n.val / 2048, by omega⟩) (rowsOf x ⟨n.val / 2048, by omega⟩)
        (n.val % 2048)) c := by
  pointwise [val_main_v156, v155 k _ _ _]

theorem v157 (n : Fin 8192) (z : Fin 1) : val_main_v157 (F := Ideal) A0 A1 A2 A3 A4 A5 A6 A7 A8 (ix2 n z)
    = Forward.rstd (res (weightsOf A2 A3 A4 A5 A6 A7 A8) (seqOf x win ⟨n.val / 2048, by omega⟩) (rowsOf x ⟨n.val / 2048, by omega⟩)
        (n.val % 2048)) := by
  pointwise [val_main_v157, v150 k _ _ _]

theorem v159 (n : Fin 8192) (c : Fin 1024) : val_main_v159 (F := Ideal) A0 A1 A3 A4 A5 A6 A7 A8 (ix2 n c)
    = mix (weightsOf A2 A3 A4 A5 A6 A7 A8) (seqOf x win ⟨n.val / 2048, by omega⟩) (n.val % 2048) c := by
  pointwise [val_main_v159, val_main_v158, v131 (A2 := A2) k _ _ _]

theorem v161 (n : Fin 8192) (c : Fin 1024) : val_main_v161 (F := Ideal) A0 (ix2 n c)
    = ((x ⟨n.val / 2048, by omega⟩ ⟨n.val % 2048, by omega⟩ c : ℝ) : EReal) := by
  pointwise [val_main_v161, val_main_v160, k.x _ _ _]

/-! ## The five results whole -/

theorem proj_eq : val_main_v151 (F := Ideal) A0 A1 = fun i => projAll x win (i 0) (i 1) := by
  funext i
  exact (congrArg _ (eq_ix2 (show S8192x1536.Idx from i))).trans (v151 k (i 0) (i 1))

theorem xhat_eq : val_main_v156 (F := Ideal) A0 A1 A2 A3 A4 A5 A6 A7 A8
    = fun i => Forward.hat (resAll (weightsOf A2 A3 A4 A5 A6 A7 A8) x win (i 0)) (i 1) := by
  funext i
  exact (congrArg _ (eq_ix2 (show S8192x1024.Idx from i))).trans (v156 k (i 0) (i 1))

theorem rstd_eq : val_main_v157 (F := Ideal) A0 A1 A2 A3 A4 A5 A6 A7 A8
    = fun i => Forward.rstd (resAll (weightsOf A2 A3 A4 A5 A6 A7 A8) x win (i 0)) := by
  funext i
  exact (congrArg _ (eq_ix2 (show S8192x1.Idx from i))).trans (v157 k (i 0) (i 1))

theorem mix_eq : val_main_v159 (F := Ideal) A0 A1 A3 A4 A5 A6 A7 A8
    = fun i => mixAll (weightsOf A2 A3 A4 A5 A6 A7 A8) x win (i 0) (i 1) := by
  funext i
  exact (congrArg _ (eq_ix2 (show S8192x1024.Idx from i))).trans (v159 k (i 0) (i 1))

theorem xb_eq : val_main_v161 (F := Ideal) A0 = fun i => xAll x (i 0) (i 1) := by
  funext i
  exact (congrArg _ (eq_ix2 (show S8192x1024.Idx from i))).trans (v161 k (i 0) (i 1))

end

end Cert.Reference3Ideal.Meaning

end
-- ==== Proof.ForwardTile.lean ====
/- One tile of the mixer's forward pass: the values that a grid point computes from the blocks it reads. -/
module

public import proofs.«01_k».proof.Proof.MixerRoll
public import proofs.«01_k».proof.Proof.ForwardMath
public import proofs.«01_k».proof.Proof.ForwardRun
public import proofs.«01_k».proof.Proof.Pieces
public import Idealize.ShloMosaic.Lib.WholeRead

@[expose] public section

set_option maxRecDepth 16384

noncomputable section

open Idealize.ShloMosaic Idealize.ShloMosaic.TcCoe Idealize.SL.Sem

namespace Cert.Kernel3Ideal.Mixer

open Cert.Kernel3Ideal Cert.Kernel3Ideal.Gen Cert.Layer Cert.Forward Cert.Pieces
open Cert.Mix (Seq col grp lane chunk inside pooled u v xp zu back recip width Ends recip_word select_le div_512 bits_512 one_add)

/-- The array holds the values given. -/
def Shows {φ : FTy} {m n : ℕ} (V : FVec Ideal ⟨2, ![m, n]⟩ φ) (f : Fin m → Fin n → EReal) : Prop := ∀ r j, V (ix2 r j) = f r j

/-- The blocks a point reads hold the sequence's rows from `512 * e` on, the sixteen rows before them where there are such, and the
    weights. -/
structure Reads (W : Forward.Weights) (S : Seq) (x : ℕ → Fin 1024 → ℝ) (win : Fin 1024 → Fin 1536 → ℝ) (i : grid0.Coords) (e : ℕ) (X : Ins Ideal) :
    Prop where
  place : (i 0).val % 4 = e
  acts : Holds (φ := .f32) X.x fun r k => x (512 * e + r.val) k
  prev : e ≠ 0 → Holds (φ := .f32) X.xPrev fun r k => x (512 * e - 16 + r.val) k
  into : Holds (φ := .bf16) X.win fun c k => win k c
  rows : ∀ t c, S.p t c = ∑ k, x t k * win k c
  wout : Shows (φ := .bf16) X.wout W.wout
  pw : ∀ g k j, X.pw (ix3 g k j) = W.pw g k j
  ps : Shows (φ := .f32) X.ps fun _ => W.ps
  lg : Shows (φ := .f32) X.lg fun _ => W.lg
  lb : Shows (φ := .f32) X.lb fun _ => W.lb
  sw : ∀ h p s, X.sw (ix3 h p s) = W.sw h p s
  sb : Shows (φ := .f32) X.sb fun p h => W.sb h p

variable {W : Forward.Weights} {S : Seq} {x : ℕ → Fin 1024 → ℝ} {win : Fin 1024 → Fin 1536 → ℝ} {i : grid0.Coords} {e : ℕ} {X : Ins Ideal}
variable (c : Dev nD) (R : Refs)

theorem named_half : (Named.named (F := Ideal) (φ := .f32) κ "root_half" 0x3F3504F3#32 : EReal)
    = (((Real.sqrt 2)⁻¹ : ℝ) : EReal) := rfl

theorem erf_real (r : ℝ) : FloatOps.erf (F := Ideal) (φ := .f32) (r : EReal) = ((Mix.erf r : ℝ) : EReal) := rfl

/-! ## The projection and its windows -/

theorem four_word : Scalar.select (Scalar.cmpi .eq 4#32 0#32) 1#32 4#32 = 4#32 := rfl

/-- The tile's place in its sequence, as a word. -/
theorem place (i : grid0.Coords) : Scalar.select (Scalar.andi (Scalar.xori (Scalar.cmpi .slt (Scalar.remsi (BitVec.ofNat 32 (i 0).val) 4#32) 0#32) (Scalar.cmpi .slt 4#32 0#32))
      (Scalar.cmpi .ne (Scalar.remsi (BitVec.ofNat 32 (i 0).val) 4#32) 0#32)) (Scalar.addi (Scalar.remsi (BitVec.ofNat 32 (i 0).val) 4#32) 4#32)
      (Scalar.remsi (BitVec.ofNat 32 (i 0).val) 4#32) = BitVec.ofNat 32 ((i 0).val % 4) := by
  have h : ∀ q : Fin 16, Scalar.select (Scalar.andi (Scalar.xori (Scalar.cmpi .slt (Scalar.remsi (BitVec.ofNat 32 q.val) 4#32) 0#32) (Scalar.cmpi .slt 4#32 0#32))
      (Scalar.cmpi .ne (Scalar.remsi (BitVec.ofNat 32 q.val) 4#32) 0#32)) (Scalar.addi (Scalar.remsi (BitVec.ofNat 32 q.val) 4#32) 4#32)
      (Scalar.remsi (BitVec.ofNat 32 q.val) 4#32) = BitVec.ofNat 32 (q.val % 4) := by decide
  exact h (i 0)

theorem Reads.four (h : Reads W S x win i e X) : e < 4 := by
  have := h.place; omega

theorem x_at (h : Reads W S x win i e X) : Holds (φ := .f32) (run.sl.r (F := Ideal) c R X) fun r k => x (512 * e + r.val) k := by
  intro r j
  pointwise [run.sl.r, k0_pay5, Memref.IsWhole.readAt_unread, h.acts _ _]

theorem proj_at (h : Reads W S x win i e X) : Holds (φ := .f32) (run.sl.r_1 (F := Ideal) c R X) fun r => S.p (512 * e + r.val) := by
  intro r j
  pointwise [run.sl.r_1, k0_pay7, k0_pay6, k0_pay5, Memref.IsWhole.readAt_unread, h.acts _ _, h.into _ _]
  simp only [← EReal.coe_mul, coe_sum, zero_add]
  rw [h.rows]

/-- The pooled columns of the sixteen rows before the tile; zero before the sequence. -/
theorem before_at (h : Reads W S x win i e X) :
    Holds (φ := .f32) (run.sl.r_2 (F := Ideal) c i R X) fun r k =>
      if 16 ≤ 512 * e + r.val then xp S (512 * e + r.val - 16) k else 0 := by
  have hq := h.place
  have he := h.four
  intro r j
  have hr := r.isLt
  dsimp only
  by_cases d : e = 0
  · subst d
    rw [if_neg (by omega)]
    pointwise [run.sl.r_2, k0_pay8, four_word, place, hq]
    rfl
  · rw [if_pos (by omega), show 512 * e + r.val - 16 = 512 * e - 16 + r.val by omega]
    have q : Scalar.cmpi .eq (BitVec.ofNat 32 e) 0#32 = 0#1 := by
      have : e = 1 ∨ e = 2 ∨ e = 3 := by omega
      rcases this with rfl | rfl | rfl <;> rfl
    pointwise [run.sl.r_2, k0_pay8, four_word, place, hq, q, Memref.IsWhole.readAt_unread, (h.prev d) _ _, h.into _ _]
    show ∑ k, (x (512 * e - 16 + r.val) k : EReal) * (win k ⟨j.val, by omega⟩ : EReal) = _
    simp only [← EReal.coe_mul, coe_sum]
    rw [xp, h.rows]

theorem pos_at (h : Reads W S x win i e X) (r : Fin 512) : k0_pay9 i (ix2 r 0) = BitVec.ofNat 32 (512 * e + r.val) := by
  pointwise [k0_pay9, four_word, place, h.place]
  show BitVec.ofNat 32 e * BitVec.ofNat 32 512 + BitVec.ofNat 32 r.val = _
  rw [← BitVec.ofNat_mul, ← BitVec.ofNat_add, Nat.mul_comm]

/-- The reciprocals of the windows' lengths. -/
theorem recip_at (h : Reads W S x win i e X) (w : ℕ) (hw : w < 2 ^ 31) (hw' : 0 < w) :
    Holds (divf (broadcast S512x1 (Scalar.ofBits .f32 0x3F800000#32)) (sitofp .f32 (minsi (addi (k0_pay9 i) (broadcast S512x1 1#32))
      (broadcast S512x1 (BitVec.ofNat 32 w))))) fun r _ => recip w (512 * e + r.val) := by
  have he := h.four
  intro r j
  obtain rfl : j = 0 := Subsingleton.elim _ _
  pointwise [pos_at h r]
  refine Eq.trans ?_ (recip_word _ w (by omega) hw hw')
  refine congrArg (fun q => Ideal.div 1 (FloatOps.sitofp (F := Ideal) FTy.f32 (IntOp.minsi q (BitVec.ofNat 32 w)))) ?_
  show BitVec.ofNat 32 (512 * e + r.val) + BitVec.ofNat 32 1 = _
  rw [← BitVec.ofNat_add]

/-! ## A group -/

/-- The rows a group's windows run over: sixteen before the tile, then the tile's. -/
abbrev rows (S : Seq) (e : ℕ) (g : Fin 4) (ρ : ℕ) (j : Fin 128) : ℝ :=
  if 16 ≤ 512 * e + ρ then xp S (512 * e + ρ - 16) (col g j) else 0

section
variable (g : Fin 4) (o : ℕ) (ho : o = 128 * g.val)

include ho in
theorem cat (h : Reads W S x win i e X) (h1 : S16x512.Slices ![0, o] S16x128) (h2 : S512x1536.Slices ![0, o] S512x128)
    (H : Shape.Concatenates [S16x128, S512x128] S528x128 0) :
    Ends (concatenate S528x128 0 [⟨S16x128, extractStridedSlice S16x128 ![0, o] (run.sl.r_2 (F := Ideal) c i R X) h1⟩,
      ⟨S512x128, extractStridedSlice S512x128 ![0, o] (run.sl.r_1 (F := Ideal) c R X) h2⟩] H) (rows S e g) 1 0 := by
  subst ho
  intro r j _
  rw [Finset.sum_range_one, Nat.sub_zero]
  by_cases q : r.val < 16
  · pointwise [before_at c R h _ _]
    rw [dif_pos q]
  · pointwise [proj_at c R h _ _]
    have e2 : rows S e g r.val j = S.p (512 * e + (r.val - 16)) ⟨128 * g.val + j.val, by omega⟩ := by
      rw [rows, if_pos (by omega)]
      exact congrArg (fun t => S.p t ⟨128 * g.val + j.val, by omega⟩) (by omega)
    exact (dif_neg q).trans (congrArg (fun x : ℝ => (x : EReal)) e2.symm)

theorem width_le (g : Fin 4) : width g ≤ 16 := by revert g; decide

/-- The windows' sums over the rows, for rows of the tile. -/
theorem rows_back (S : Seq) (e : ℕ) (g : Fin 4) (r w : ℕ) (j : Fin 128) (hw : w ≤ 17) :
    ∑ k ∈ Finset.range w, rows S e g (16 + r - k) j = back w (fun s => xp S s (col g j)) (512 * e + r) := by
  refine Finset.sum_congr rfl fun k hk => ?_
  have hk' := Finset.mem_range.1 hk
  rw [rows]
  by_cases q : k ≤ 512 * e + r
  · rw [if_pos q, if_pos (by omega), show 512 * e + (16 + r - k) - 16 = 512 * e + r - k by omega]
  · rw [if_neg q, if_neg (by omega)]

include ho in
theorem pooled_of (h : Reads W S x win i e X) {w : FVec Ideal S528x128 .f32} {n : ℕ} (hn : n ≤ 16)
    (hv : Ends w (rows S e g) (width g) n) {q : FVec Ideal S512x1 .f32}
    (hq : Holds q fun r _ => recip (width g) (512 * e + r.val))
    (h1 : S528x128.Slices ![16, 0] S512x128) (h2 : S512x1536.Slices ![0, o] S512x128) (hb : S512x1.Broadcasts S512x128) :
    Holds (subf (mulf (extractStridedSlice S512x128 ![16, 0] w h1) (broadcastTo S512x128 q hb))
      (extractStridedSlice S512x128 ![0, o] (run.sl.r_1 (F := Ideal) c R X) h2))
      fun r j => pooled S (512 * e + r.val) g j := by
  subst ho
  intro r j
  pointwise [proj_at c R h _ _, hq _ _]
  have hw := width_le g
  rw [hv _ _ (by dsimp only; omega)]
  dsimp only
  rw [rows_back S e g r.val _ j (by omega)]
  simp only [← EReal.coe_mul, ← EReal.coe_sub]
  rfl

/-- A group's columns of the pooled half. -/
theorem pool_of {V : FVec Ideal S512x128 .f32} (hV : Holds V fun r j => pooled S (512 * e + r.val) g j)
    {A : Vec Ideal S1x128x128 .f32} (hA : ∀ z k j, A (ix3 z k j) = W.pw g k j) {B : Vec Ideal S1x128 .f32}
    (hB : ∀ z j, B (ix2 z j) = W.ps (col g j)) :
    Shows (k0_pay14 V A B) fun r j => pool W S (512 * e + r.val) (col g j) := by
  intro r j
  pointwise [k0_pay14, hV _ _, hA _ _ _, hB _ _, zero_add]
  show _ = pre W S (512 * e + r.val) (grp (col g j)) (lane (col g j)) * W.ps (col g j)
  rw [show grp (col g j) = g from Fin.ext (by dsimp only; omega), show lane (col g j) = j from Fin.ext (by dsimp only; omega)]
  rfl

include ho in
theorem ps_at (h : Reads W S x win i e X) (b : ∀ a, (![0, o] : Fin 2 → ℕ) a + S1x128.size a ≤ S1x512.size a) (z : Fin 1) (j : Fin 128) :
    View.readAt (Elt Ideal) R.ps.view (Rect.unit (s := S1x512) ![0, o] S1x128.size b).toLoadRect (R.hps.unread X.ps) (ix2 z j)
      = W.ps (col g j) := by
  subst ho
  pointwise [Memref.IsWhole.readAt_unread, h.ps _ _]

theorem pw_at (h : Reads W S x win i e X) (n : ℕ) (hn : n = g.val) (b : ∀ a, (![n, 0, 0] : Fin 3 → ℕ) a + S1x128x128.size a ≤ S4x128x128.size a)
    (z : Fin 1) (k j : Fin 128) :
    View.readAt (Elt Ideal) R.pw.view (Rect.unit (s := S4x128x128) ![n, 0, 0] S1x128x128.size b).toLoadRect (R.hpw.unread X.pw) (ix3 z k j)
      = W.pw g k j := by
  subst hn
  pointwise [Memref.IsWhole.readAt_unread, h.pw _ _ _]

end

/-! ## The gates and the values -/

theorem gate_at (h : Reads W S x win i e X) : Holds (φ := .f32) (run.sl.r_9 (F := Ideal) c R X) fun r => u S (512 * e + r.val) := by
  intro r j
  pointwise [run.sl.r_9, k0_pay20, k0_pay19, k0_pay18, run.sl.r_7, run.sl.r_8, run.sl.cst_63, proj_at c R h _ _, bits_half]
  simp only [named_half, ← EReal.coe_mul, erf_real, one_add]
  rfl

theorem value_of {V : FVec Ideal S512x1536 .f32} (hV : Holds V fun r => S.p (512 * e + r.val)) {A B : Vec Ideal S1x512 .f32}
    (hA : Shows (φ := .f32) A fun _ => W.lg) (hB : Shows (φ := .f32) B fun _ => W.lb) :
    Shows (k0_pay21 V A B) fun r => vln W S (512 * e + r.val) := by
  intro r j
  pointwise [k0_pay21, hV _ _, hA _ _, hB _ _, bits_half, bits_512, bits_eps]
  simp only [named_half, ← EReal.coe_mul, erf_real, one_add, coe_sum, div_512, ← EReal.coe_sub, ← EReal.coe_add]
  refine congrArg (fun q => q * W.lg j + W.lb j) ?_
  show ((Mix.cen (v S (512 * e + r.val)) j : ℝ) : EReal) * Ideal.rsqrt ((Mix.var (v S (512 * e + r.val)) + eps : ℝ) : EReal) = _
  rw [rsqrt_pos (Mix.var_eps_pos _), ← EReal.coe_mul]
  rfl

theorem value_at (h : Reads W S x win i e X) : Shows (φ := .f32) (run.sl.r_10 (F := Ideal) c R X) fun r => vln W S (512 * e + r.val) := by
  refine value_of (proj_at c R h) ?_ ?_
  · intro r j
    pointwise [Memref.IsWhole.readAt_unread, h.lg _ _]
  · intro r j
    pointwise [Memref.IsWhole.readAt_unread, h.lb _ _]

/-! ## A head -/

theorem dite_step {p : Prop} [Decidable p] {a : p → EReal} {b : ¬p → EReal} {x : EReal} (h1 : ∀ q, a q = x) (h2 : ∀ q, b q = x) :
    dite p a b = x := by
  by_cases q : p
  · rw [dif_pos q, h1]
  · rw [dif_neg q, h2]

/-- A head's rows: index `p` inside chunk `q / 128`, column `q % 128`. -/
abbrev at_ (e : ℕ) (q : Fin 512) : ℕ := 512 * e + 128 * (q.val / 128)
abbrev ln_ (q : Fin 512) : Fin 128 := ⟨q.val % 128, by omega⟩

/-- The four chunks of a head's columns, laid side by side. -/
theorem chunks {V : FVec Ideal S512x512 .f32} (hV : Shows V fun r => vln W S (512 * e + r.val)) (g : Fin 4) (o : ℕ) (ho : o = 128 * g.val)
    (h0 : S512x512.Slices ![0, o] S128x128) (h1 : S512x512.Slices ![128, o] S128x128) (h2 : S512x512.Slices ![256, o] S128x128)
    (h3 : S512x512.Slices ![384, o] S128x128) (H : Shape.Concatenates [S128x128, S128x128, S128x128, S128x128] S128x512 1) :
    Shows (concatenate S128x512 1 [⟨S128x128, extractStridedSlice S128x128 ![0, o] V h0⟩,
      ⟨S128x128, extractStridedSlice S128x128 ![128, o] V h1⟩, ⟨S128x128, extractStridedSlice S128x128 ![256, o] V h2⟩,
      ⟨S128x128, extractStridedSlice S128x128 ![384, o] V h3⟩] H)
      fun p q => vln W S (512 * e + 128 * (q.val / 128) + p.val) (col g ⟨q.val % 128, by omega⟩) := by
  subst ho
  intro p q
  have hq := q.isLt
  have E : ∀ (a a' : ℕ) (b b' : Fin 512), a = a' → b.val = b'.val → vln W S a b = vln W S a' b' :=
    fun a a' b b' x y => by rw [x, Fin.ext y]
  pointwise [hV _ _]
  iterate 3 refine dite_step (fun _ => E _ _ _ _ (by omega) (by dsimp only; omega)) fun _ => ?_
  exact E _ _ _ _ (by omega) (by dsimp only; omega)

theorem mixed_of (g : Fin 4) {C : FVec Ideal S128x512 .f32} (hC : Shows C fun p q => vln W S (at_ e q + p.val) (col g (ln_ q)))
    {A : FVec Ideal S128x128 .f32} (hA : Shows A (W.sw g)) {B : FVec Ideal S128x1 .f32} (hB : Shows B fun p _ => W.sb g p)
    (hl : FTy.bf16.bits < FTy.f32.bits) (hb : S128x1.Broadcasts S128x512) :
    Shows (addf (matmul dot_S128x128_S128x512_S128x512_1_0_0_1_n_n none
      (truncf .bf16 (select k0_pay22 A k0_pay24) hl) (truncf .bf16 C hl) (constant S128x512 .f32 0x00000000#32))
      (broadcastTo S128x512 B hb)) fun p q => mixAt W S (at_ e q) p g (ln_ q) := by
  intro p q
  pointwise [k0_pay22, k0_pay24, hA _ _, hB _ _, hC _ _]
  simp only [select_le, zero_add]
  refine congrArg (fun y => y + W.sb g p) (Finset.sum_congr rfl fun s _ => ?_)
  unfold tri
  by_cases d : s ≤ p
  · rw [if_pos d, if_pos d]
  · rw [if_neg d, if_neg d, zero_mul]

theorem same {B : FVec Ideal S128x1 .f32} {f : Fin 128 → Fin 1 → EReal} (hB : Shows B f) (hn : S128x1.ShapeCasts S128x1) :
    Shows (φ := .f32) (shapeCast S128x1 B hn) f := by
  intro p z
  pointwise [hB _ _]

theorem mixed0 {V : FVec Ideal S512x512 .f32} (hV : Shows V fun r => vln W S (512 * e + r.val))
    {A : FVec Ideal S128x128 .f32} (hA : Shows A (W.sw 0)) {B : FVec Ideal S128x1 .f32} (hB : Shows B fun p _ => W.sb 0 p) :
    Shows (k0_pay25 V k0_pay22 A k0_pay24 B) fun p q => mixAt W S (at_ e q) p 0 (ln_ q) := by
  unfold k0_pay25
  exact mixed_of 0 (chunks hV 0 0 rfl _ _ _ _ _) hA (same hB _) _ _
theorem mixed1 {V : FVec Ideal S512x512 .f32} (hV : Shows V fun r => vln W S (512 * e + r.val))
    {A : FVec Ideal S128x128 .f32} (hA : Shows A (W.sw 1)) {B : FVec Ideal S128x1 .f32} (hB : Shows B fun p _ => W.sb 1 p) :
    Shows (k0_pay32 V k0_pay30 A B) fun p q => mixAt W S (at_ e q) p 1 (ln_ q) := by
  unfold k0_pay32
  exact mixed_of 1 (chunks hV 1 128 rfl _ _ _ _ _) hA (same hB _) _ _
theorem plane {A : Vec Ideal S1x128x128 .f32} {g : Fin 4} (hA : ∀ z p s, A (ix3 z p s) = W.sw g p s) (hn : S1x128x128.ShapeCasts S128x128) :
    Shows (φ := .f32) (shapeCast S128x128 A hn) (W.sw g) := by
  intro p s
  pointwise [hA _ _ _]
theorem mixed2 {V : FVec Ideal S512x512 .f32} (hV : Shows V fun r => vln W S (512 * e + r.val))
    {A : Vec Ideal S1x128x128 .f32} (hA : ∀ z p s, A (ix3 z p s) = W.sw 2 p s) {B : FVec Ideal S128x1 .f32} (hB : Shows B fun p _ => W.sb 2 p) :
    Shows (k0_pay38 V k0_pay37 A B) fun p q => mixAt W S (at_ e q) p 2 (ln_ q) := by
  unfold k0_pay38
  exact mixed_of 2 (chunks hV 2 256 rfl _ _ _ _ _) (plane hA _) (same hB _) _ _
theorem mixed3 {V : FVec Ideal S512x512 .f32} (hV : Shows V fun r => vln W S (512 * e + r.val))
    {A : Vec Ideal S1x128x128 .f32} (hA : ∀ z p s, A (ix3 z p s) = W.sw 3 p s) {B : FVec Ideal S128x1 .f32} (hB : Shows B fun p _ => W.sb 3 p) :
    Shows (k0_pay44 V k0_pay43 A B) fun p q => mixAt W S (at_ e q) p 3 (ln_ q) := by
  unfold k0_pay44
  exact mixed_of 3 (chunks hV 3 384 rfl _ _ _ _ _) (plane hA _) (same hB _) _ _

theorem sw_at (h : Reads W S x win i e X) (g : Fin 4) (n : ℕ) (hn : n = g.val) (b : ∀ a, (![n, 0, 0] : Fin 3 → ℕ) a + S1x128x128.size a ≤ S4x128x128.size a)
    (z : Fin 1) (p s : Fin 128) :
    View.readAt (Elt Ideal) R.sw.view (Rect.unit (s := S4x128x128) ![n, 0, 0] S1x128x128.size b).toLoadRect (R.hsw.unread X.sw) (ix3 z p s)
      = W.sw g p s := by
  subst hn
  pointwise [Memref.IsWhole.readAt_unread, h.sw _ _ _]

theorem sb_at (h : Reads W S x win i e X) (g : Fin 4) (n : ℕ) (hn : n = g.val) (b : ∀ a, (![0, n] : Fin 2 → ℕ) a + S128x1.size a ≤ S128x4.size a) :
    Shows (φ := .f32) (View.readAt (Elt Ideal) R.sb.view (Rect.unit (s := S128x4) ![0, n] S128x1.size b).toLoadRect (R.hsb.unread X.sb))
      fun p _ => W.sb g p := by
  subst hn
  intro p z
  pointwise [Memref.IsWhole.readAt_unread, h.sb _ _]

/-- One of a head's blocks, gated. -/
theorem block {U : FVec Ideal S512x512 .f32} (hU : Holds U fun r => u S (512 * e + r.val)) {g : Fin 4} {D : FVec Ideal S128x512 .f32}
    (hD : Shows D fun p q => mixAt W S (at_ e q) p g (ln_ q)) (k : Fin 4) (o b : ℕ) (ho : o = 128 * k.val) (hb : b = 128 * g.val)
    (h1 : S512x512.Slices ![o, b] S128x128) (h2 : S128x512.Slices ![0, o] S128x128) (hn : S128x128.ShapeCasts S128x128)
    {r : Fin 512} {j : Fin 1024} (p q : Fin 128) (hr : r.val = o + p.val) (hj : j.val = 512 + b + q.val) :
    shapeCast S128x128 (mulf (extractStridedSlice S128x128 ![o, b] U h1) (extractStridedSlice S128x128 ![0, o] D h2)) hn (ix2 p q)
      = mix W S (512 * e + r.val) j := by
  subst ho hb
  have hp := p.isLt
  have hg := g.isLt
  have hk := k.isLt
  rw [mix_gated W S _ j (col g q) (by dsimp only; omega)]
  pointwise [hU _ _, hD _ _]
  have e1 : chunk (512 * e + r.val) = 512 * e + 128 * ((128 * k.val + q.val) / 128) := by
    show 128 * ((512 * e + r.val) / 128) = _
    omega
  have e2 : inside (512 * e + r.val) = p := Fin.ext (by dsimp only; omega)
  have e3 : grp (col g q) = g := Fin.ext (by dsimp only; omega)
  have e4 : lane (col g q) = ⟨(128 * k.val + q.val) % 128, by omega⟩ := Fin.ext (by dsimp only; omega)
  unfold gated
  rw [e1, e2, e3, e4, hr]

/-- One of the pooled half's columns. -/
theorem column {V : FVec Ideal S512x128 .f32} {g : Fin 4} (hV : Shows V fun r j => pool W S (512 * e + r.val) (col g j)) (b : ℕ)
    (hb : b = 128 * g.val) {r : Fin 512} {j : Fin 1024} (p : Fin 512) (q : Fin 128) (hr : r.val = 0 + p.val) (hj : j.val = b + q.val) :
    V (ix2 p q) = mix W S (512 * e + r.val) j := by
  subst hb
  have hg := g.isLt
  obtain rfl : r = p := Fin.ext (by omega)
  rw [mix_pool W S _ j (col g q) hj]
  exact hV _ _

end Cert.Kernel3Ideal.Mixer

end
-- ==== Proof.ForwardScratch.lean ====
/- The rows of one tile that pass through the scratch array, and what the tile's five results are. -/
module

public import proofs.«01_k».proof.Proof.ForwardTile

@[expose] public section

set_option maxRecDepth 16384

noncomputable section

open Idealize.ShloMosaic Idealize.ShloMosaic.TcCoe Idealize.SL.Sem

namespace Cert.Kernel3Ideal.Mixer

open Cert.Kernel3Ideal Cert.Kernel3Ideal.Gen Cert.Layer Cert.Forward Cert.Pieces
open Cert.Mix (Seq col Ends)

variable {W : Forward.Weights} {S : Seq} {x : ℕ → Fin 1024 → ℝ} {win : Fin 1024 → Fin 1536 → ℝ} {i : grid0.Coords} {e : ℕ} {X : Ins Ideal}
variable (c : Dev nD) (R : Refs)

/-! ## The pooled half's four groups -/

section
variable {A : Vec Ideal S1x128x128 .f32} {B : Vec Ideal S1x128 .f32}

theorem group0 (h : Reads W S x win i e X) (hA : ∀ z k j, A (ix3 z k j) = W.pw 0 k j) (hB : ∀ z j, B (ix2 z j) = W.ps (col 0 j)) :
    Shows (k0_pay12 (k0_pay9 i) (run.sl.r_3 c R X) (run.sl.r_4 c i R X) 1#32 A B) fun r j => pool W S (512 * e + r.val) (col 0 j) :=
  pool_of 0 (pooled_of c R 0 0 rfl h (n := 1) (by decide) ((cat c R 0 0 rfl h slices_S16x512_o0_0_S16x128 slices_S512x1536_o0_0_S512x128
    concatenates_S16x128_S512x128_S528x128_d0).double 1#32 rfl (by decide) (by decide) rotates_S528x128_d0)
    (recip_at h 2 (by decide) (by decide)) slices_S528x128_o16_0_S512x128 slices_S512x1536_o0_0_S512x128 broadcasts_S512x1_S512x128) hA hB
theorem group1 (h : Reads W S x win i e X) (hA : ∀ z k j, A (ix3 z k j) = W.pw 1 k j) (hB : ∀ z j, B (ix2 z j) = W.ps (col 1 j)) :
    Shows (k0_pay14 (run.sl.r_5 c i R X) A B) fun r j => pool W S (512 * e + r.val) (col 1 j) :=
  pool_of 1 (pooled_of c R 1 128 rfl h (n := 3) (by decide) (((cat c R 1 128 rfl h slices_S16x512_o0_128_S16x128 slices_S512x1536_o0_128_S512x128
    concatenates_S16x128_S512x128_S528x128_d0).double 1#32 rfl (by decide) (by decide) rotates_S528x128_d0).double 2#32 rfl (by decide) (by decide)
    rotates_S528x128_d0)
    (recip_at h 4 (by decide) (by decide)) slices_S528x128_o16_0_S512x128 slices_S512x1536_o0_128_S512x128 broadcasts_S512x1_S512x128) hA hB
theorem group3 (h : Reads W S x win i e X) (hA : ∀ z k j, A (ix3 z k j) = W.pw 3 k j) (hB : ∀ z j, B (ix2 z j) = W.ps (col 3 j)) :
    Shows (k0_pay17 (run.sl.r_1 c R X) (run.sl.r_2 c i R X) (k0_pay9 i) A B) fun r j => pool W S (512 * e + r.val) (col 3 j) :=
  pool_of 3 (pooled_of c R 3 384 rfl h (n := 15) (by decide) (((((cat c R 3 384 rfl h slices_S16x512_o0_384_S16x128 slices_S512x1536_o0_384_S512x128
    concatenates_S16x128_S512x128_S528x128_d0).double 1#32 rfl (by decide) (by decide) rotates_S528x128_d0).double 2#32 rfl (by decide) (by decide)
    rotates_S528x128_d0).double 4#32 rfl (by decide) (by decide) rotates_S528x128_d0).double 8#32 rfl (by decide) (by decide) rotates_S528x128_d0)
    (recip_at h 16 (by decide) (by decide)) slices_S528x128_o16_0_S512x128 slices_S512x1536_o0_384_S512x128 broadcasts_S512x1_S512x128) hA hB
end

theorem group2 (h : Reads W S x win i e X) :
    Shows (k0_pay16 (run.sl.r_6 c i R X)) fun r j => pool W S (512 * e + r.val) (col 2 j) :=
  pool_of 2 (pooled_of c R 2 256 rfl h (n := 7) (by decide) ((((cat c R 2 256 rfl h slices_S16x512_o0_256_S16x128 slices_S512x1536_o0_256_S512x128
    concatenates_S16x128_S512x128_S528x128_d0).double 1#32 rfl (by decide) (by decide) rotates_S528x128_d0).double 2#32 rfl (by decide) (by decide)
    rotates_S528x128_d0).double 4#32 rfl (by decide) (by decide) rotates_S528x128_d0)
    (recip_at h 8 (by decide) (by decide)) slices_S528x128_o16_0_S512x128 slices_S512x1536_o0_256_S512x128 broadcasts_S512x1_S512x128)
    (pw_at R 2 h 2 rfl inb_S4x128x128_S1x128x128_2_0_0) (ps_at R 2 256 rfl h inb_S1x512_S1x128_0_256)

/-! ## The scratch array -/

theorem mixed_0 (h : Reads W S x win i e X) : Shows (k0_pay25 (run.sl.r_10 c R X) k0_pay22 (run.sl.r_11 c R X) k0_pay24
      (View.readAt (Elt Ideal) R.sb.view (Rect.unit (s := S128x4) ![0, 0] S128x1.size inb_S128x4_S128x1_0_0).toLoadRect (R.hsb.unread X.sb)))
    fun p q => mixAt W S (at_ e q) p 0 (ln_ q) :=
  mixed0 (value_at c R h) (plane (sw_at R h 0 0 rfl _) _) (sb_at R h 0 0 rfl _)
theorem mixed_1 (h : Reads W S x win i e X) : Shows (k0_pay32 (run.sl.r_10 c R X) k0_pay30 (run.sl.r_12 c R X)
      (View.readAt (Elt Ideal) R.sb.view (Rect.unit (s := S128x4) ![0, 1] S128x1.size inb_S128x4_S128x1_0_1).toLoadRect (R.hsb.unread X.sb)))
    fun p q => mixAt W S (at_ e q) p 1 (ln_ q) :=
  mixed1 (value_at c R h) (plane (sw_at R h 1 1 rfl _) _) (sb_at R h 1 1 rfl _)
theorem mixed_2 (h : Reads W S x win i e X) : Shows (k0_pay38 (run.sl.r_10 c R X) k0_pay37
      (View.readAt (Elt Ideal) R.sw.view (Rect.unit (s := S4x128x128) ![2, 0, 0] S1x128x128.size inb_S4x128x128_S1x128x128_2_0_0).toLoadRect (R.hsw.unread X.sw))
      (View.readAt (Elt Ideal) R.sb.view (Rect.unit (s := S128x4) ![0, 2] S128x1.size inb_S128x4_S128x1_0_2).toLoadRect (R.hsb.unread X.sb)))
    fun p q => mixAt W S (at_ e q) p 2 (ln_ q) :=
  mixed2 (value_at c R h) (sw_at R h 2 2 rfl _) (sb_at R h 2 2 rfl _)
theorem mixed_3 (h : Reads W S x win i e X) : Shows (k0_pay44 (run.sl.r_10 c R X) k0_pay43
      (View.readAt (Elt Ideal) R.sw.view (Rect.unit (s := S4x128x128) ![3, 0, 0] S1x128x128.size inb_S4x128x128_S1x128x128_3_0_0).toLoadRect (R.hsw.unread X.sw))
      (View.readAt (Elt Ideal) R.sb.view (Rect.unit (s := S128x4) ![0, 3] S128x1.size inb_S128x4_S128x1_0_3).toLoadRect (R.hsb.unread X.sb)))
    fun p q => mixAt W S (at_ e q) p 3 (ln_ q) :=
  mixed3 (value_at c R h) (sw_at R h 3 3 rfl _) (sb_at R h 3 3 rfl _)

set_option maxHeartbeats 4000000 in
/-- The stores over the scratch array leave the mixer's result. -/
theorem scratch_rows (h : Reads W S x win i e X) (r : Fin 512) (j : Fin 1024) :
    View.canon (run.sl.H17_20 (F := Ideal) c i R X) (ix2 r j) = mix W S (512 * e + r.val) j := by
  have U := gate_at c R h
  unfold run.sl.H17_20
  refine canon_step _ _ _ _ _ (fun p q hr hj => block U (mixed_3 c R h) 3 384 384 rfl rfl _ _ _ p q hr (by omega)) fun n1 => ?_
  refine canon_step _ _ _ _ _ (fun p q hr hj => block U (mixed_3 c R h) 2 256 384 rfl rfl _ _ _ p q hr (by omega)) fun n2 => ?_
  refine canon_step _ _ _ _ _ (fun p q hr hj => block U (mixed_3 c R h) 1 128 384 rfl rfl _ _ _ p q hr (by omega)) fun n3 => ?_
  refine canon_step _ _ _ _ _ (fun p q hr hj => block U (mixed_3 c R h) 0 0 384 rfl rfl _ _ _ p q hr (by omega)) fun n4 => ?_
  refine canon_step _ _ _ _ _ (fun p q hr hj => block U (mixed_2 c R h) 3 384 256 rfl rfl _ _ _ p q hr (by omega)) fun n5 => ?_
  refine canon_step _ _ _ _ _ (fun p q hr hj => block U (mixed_2 c R h) 2 256 256 rfl rfl _ _ _ p q hr (by omega)) fun n6 => ?_
  refine canon_step _ _ _ _ _ (fun p q hr hj => block U (mixed_2 c R h) 1 128 256 rfl rfl _ _ _ p q hr (by omega)) fun n7 => ?_
  refine canon_step _ _ _ _ _ (fun p q hr hj => block U (mixed_2 c R h) 0 0 256 rfl rfl _ _ _ p q hr (by omega)) fun n8 => ?_
  refine canon_step _ _ _ _ _ (fun p q hr hj => block U (mixed_1 c R h) 3 384 128 rfl rfl _ _ _ p q hr (by omega)) fun n9 => ?_
  refine canon_step _ _ _ _ _ (fun p q hr hj => block U (mixed_1 c R h) 2 256 128 rfl rfl _ _ _ p q hr (by omega)) fun n10 => ?_
  refine canon_step _ _ _ _ _ (fun p q hr hj => block U (mixed_1 c R h) 1 128 128 rfl rfl _ _ _ p q hr (by omega)) fun n11 => ?_
  refine canon_step _ _ _ _ _ (fun p q hr hj => block U (mixed_1 c R h) 0 0 128 rfl rfl _ _ _ p q hr (by omega)) fun n12 => ?_
  refine canon_step _ _ _ _ _ (fun p q hr hj => block U (mixed_0 c R h) 3 384 0 rfl rfl _ _ _ p q hr (by omega)) fun n13 => ?_
  refine canon_step _ _ _ _ _ (fun p q hr hj => block U (mixed_0 c R h) 2 256 0 rfl rfl _ _ _ p q hr (by omega)) fun n14 => ?_
  refine canon_step _ _ _ _ _ (fun p q hr hj => block U (mixed_0 c R h) 1 128 0 rfl rfl _ _ _ p q hr (by omega)) fun n15 => ?_
  refine canon_step _ _ _ _ _ (fun p q hr hj => block U (mixed_0 c R h) 0 0 0 rfl rfl _ _ _ p q hr (by omega)) fun n16 => ?_
  refine canon_step _ _ _ _ _ (fun p q hr hj => column (group3 c R h (pw_at R 3 h 3 rfl _) (ps_at R 3 384 rfl h _)) 384 rfl p q hr hj) fun n17 => ?_
  refine canon_step _ _ _ _ _ (fun p q hr hj => column (group2 c R h) 256 rfl p q hr hj) fun n18 => ?_
  refine canon_step _ _ _ _ _ (fun p q hr hj => column (group1 c R h (pw_at R 1 h 1 rfl _) (ps_at R 1 128 rfl h _)) 128 rfl p q hr hj) fun n19 => ?_
  refine canon_step _ _ _ _ _ (fun p q hr hj => column (group0 c R h (pw_at R 0 h 0 rfl _) (ps_at R 0 0 rfl h _)) 0 rfl p q hr hj) fun n20 => ?_
  have hr := r.isLt
  have hj := j.isLt
  omega

theorem whole_idx {n k : ℕ} (inb : ∀ x, (![0, 0] : Fin 2 → ℕ) x + (![n, k] : Fin 2 → ℕ) x ≤ (⟨2, ![n, k]⟩ : Shape).size x)
    (r : Fin n) (j : Fin k) : (Rect.unit (s := ⟨2, ![n, k]⟩) ![0, 0] ![n, k] inb).toLoadRect.idx (ix2 r j) = ix2 r j :=
  emb_at inb r j r j (Nat.zero_add _).symm (Nat.zero_add _).symm

theorem mix_at (h : Reads W S x win i e X) : Shows (φ := .f32) (run.sl.v363 (F := Ideal) c i R X) fun r => mix W S (512 * e + r.val) := by
  intro r j
  refine (congrFun (View.readCov_eq_canon' _ _ _) _).trans ?_
  exact (congrArg (View.canon (run.sl.H17_20 (F := Ideal) c i R X)) (whole_idx _ r j)).trans (scratch_rows c R h r j)

/-- The output matrix, as the body reads it. -/
theorem wout_at (h : Reads W S x win i e X) : Shows (φ := .bf16)
    (View.readAt (Elt Ideal) R.wout.view (Rect.unit (s := S1024x1024) ![0, 0] S1024x1024.size inb_S1024x1024_S1024x1024_0_0).toLoadRect
      (R.hwout.unread X.wout)) W.wout := by
  intro r j
  pointwise [Memref.IsWhole.readAt_unread, h.wout _ _]

/-! ## The residual and its layer norm -/

section
variable {A : FVec Ideal S512x1024 .f32} (hA : Holds A fun r k => x (512 * e + r.val) k)
variable {M : Vec Ideal S512x1024 .f32} (hM : Shows (φ := .f32) M fun r => mix W S (512 * e + r.val))
variable {B : Vec Ideal S1024x1024 .bf16} (hB : Shows (φ := .bf16) B W.wout)
include hA hM hB

theorem cen_of : Shows (k0_pay2 A M B) fun r => Forward.cen (res W S x (512 * e + r.val)) := by
  intro r j
  pointwise [k0_pay2, k0_pay1, hA _ _, hM _ _, hB _ _, bits_alpha, bits_width, zero_add]
  rfl
theorem rstd_of : Shows (k0_pay3 A M B) fun r _ => Forward.rstd (res W S x (512 * e + r.val)) := by
  intro r j
  pointwise [k0_pay3, cen_of hA hM hB _ _, bits_width, bits_eps, zero_add]
  rfl
theorem hat_of : Shows (k0_pay4 A M B) fun r => Forward.hat (res W S x (512 * e + r.val)) := by
  intro r j
  pointwise [k0_pay4, cen_of hA hM hB _ _, rstd_of hA hM hB _ _]
  rfl
end

end Cert.Kernel3Ideal.Mixer

end
-- ==== Proof.ForwardResult.lean ====
/- What the mixer's forward kernel leaves in its five results, over the arrays of its arguments. -/
module

public import proofs.«01_k».proof.Proof.ForwardScratch
public import proofs.«01_k».proof.Proof.ForwardFrame

@[expose] public section

set_option maxRecDepth 16384

noncomputable section

open Idealize.ShloMosaic Idealize.ShloMosaic.TcCoe Idealize.SL.Sem
open Idealize.ShloMosaic.Pipeline (Dat)

namespace Cert.Kernel3Ideal.Mixer

open Cert.Kernel3Ideal Cert.Kernel3Ideal.Gen Cert.Layer Cert.Forward
open Cert.Mix (Seq)

section
variable {W : Forward.Weights} {S : Seq} {rows : ℕ → Fin 1024 → ℝ} {win : Fin 1024 → Fin 1536 → ℝ} {i : grid0.Coords} {e : ℕ} {X : Ins Ideal}
variable (c : Dev nD) (R : Refs) (h : Reads W S rows win i e X) (r : Fin 512)
include h

theorem proj_left (j : Fin 1536) : (outOf c i R X).proj (ix2 r j) = ((S.p (512 * e + r.val) j : ℝ) : EReal) := by
  unfold outOf; dsimp only; unfold run; dsimp only
  exact (congrFun (View.canon_cons_unit_zero (S := S512x1536) (by funext x; fin_cases x <;> rfl) _ _ _) _).trans (proj_at c R h r j)

theorem xhat_left (j : Fin 1024) : (outOf c i R X).xhat (ix2 r j) = Forward.hat (res W S rows (512 * e + r.val)) j := by
  unfold outOf; dsimp only; unfold run; dsimp only
  exact (congrFun (View.canon_cons_unit_zero (S := S512x1024) (by funext x; fin_cases x <;> rfl) _ _ _) _).trans
    (hat_of (x_at c R h) (mix_at c R h) (wout_at R h) r j)

theorem rstd_left (z : Fin 1) : (outOf c i R X).rstd (ix2 r z) = Forward.rstd (res W S rows (512 * e + r.val)) := by
  unfold outOf; dsimp only; unfold run; dsimp only
  exact (congrFun (View.canon_cons_unit_zero (S := S512x1) (by funext x; fin_cases x <;> rfl) _ _ _) _).trans
    (rstd_of (x_at c R h) (mix_at c R h) (wout_at R h) r z)

theorem mix_left (j : Fin 1024) : (outOf c i R X).mix (ix2 r j) = mix W S (512 * e + r.val) j := by
  unfold outOf; dsimp only; unfold run; dsimp only
  exact (congrFun (View.canon_cons_unit_zero (S := S512x1024) (by funext x; fin_cases x <;> rfl) _ _ _) _).trans (mix_at c R h r j)

theorem xb_left (j : Fin 1024) : (outOf c i R X).xb (ix2 r j) = ((rows (512 * e + r.val) j : ℝ) : EReal) := by
  unfold outOf; dsimp only; unfold run; dsimp only
  exact (congrFun (View.canon_cons_unit_zero (S := S512x1024) (by funext x; fin_cases x <;> rfl) _ _ _) _).trans (x_at c R h r j)
end

variable (m : (ℓ : Loc nD τ sig) → Buf (Elt Ideal) ℓ) (c : Dev nD)

/-- The activations and the projection's weight hold real numbers. -/
abbrev Known (x : Fin 4 → Fin 2048 → Fin 1024 → ℝ) (win : Fin 1024 → Fin 1536 → ℝ) : Prop :=
  Given (m ((c : Thread nD τ).loc main_arg0)) (m ((c : Thread nD τ).loc main_arg1)) x win

/-- The other weights, whatever they are. -/
abbrev weights : Forward.Weights :=
  weightsOf (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

variable {m c} {x : Fin 4 → Fin 2048 → Fin 1024 → ℝ} {win : Fin 1024 → Fin 1536 → ℝ}

/-! ## What the host has computed before the kernel starts -/

theorem host_x (k : Known m c x win) : Holds (φ := .f32) (V m c main_v0) fun n j => x ⟨n.val / 2048, by omega⟩ ⟨n.val % 2048, by omega⟩ j := by
  intro r j
  unfold V
  after_results
  pointwise [k.x _ _ _]

theorem host_win (k : Known m c x win) : Holds (φ := .bf16) (V m c main_v3) fun f j => win j f := by
  intro r j
  unfold V
  after_results
  pointwise [k.win _ _ _]

theorem host_wout : Shows (φ := .bf16) (V m c main_v5) (weights m c).wout := by
  intro r j
  unfold V
  after_results
  pointwise
  rfl

theorem host_pw (g : Fin 4) (a b : Fin 128) : (V m c main_v6 : S4x128x128.Idx → EReal) (ix3 g a b) = (weights m c).pw g a b := by
  unfold V
  after_results
  pointwise
  rfl

theorem host_sw (g : Fin 4) (a b : Fin 128) : (V m c main_v7 : S4x128x128.Idx → EReal) (ix3 g a b) = (weights m c).sw g a b := by
  unfold V
  after_results
  pointwise
  rfl

theorem host_sb : Shows (φ := .f32) (V m c main_v9) fun p h => (weights m c).sb h p := by
  intro r j
  unfold V
  after_results
  pointwise
  rfl

/-! ## The blocks of one point -/

theorem idx : ∀ t : Fin cfg0.N, win0_0.index t = ![t.val, 0] ∧ win0_1.index t = ![t.val * 32 - 1, 0] ∧ win0_2.index t = ![0, 0] ∧
    win0_3.index t = ![0, 0] ∧ win0_4.index t = ![0, 0, 0] ∧ win0_5.index t = ![0, 0] ∧ win0_6.index t = ![0, 0] ∧
    win0_7.index t = ![0, 0] ∧ win0_8.index t = ![0, 0, 0] ∧ win0_9.index t = ![0, 0] ∧ win0_12.index t = ![t.val, 0] ∧
    win0_13.index t = ![t.val, 0] ∧ win0_14.index t = ![t.val, 0] ∧ win0_15.index t = ![t.val, 0] ∧ win0_16.index t = ![t.val, 0] :=
  (by decide +kernel : ∀ t : Fin grid0.N, _)

theorem lt_16 (t : Fin cfg0.N) : t.val < 16 := lt_of_lt_of_eq t.isLt N_0

/-- Row `r` of tile `t`. -/
def tileRow (t : Fin cfg0.N) (r : Fin 512) : Fin 8192 := ⟨t.val * 512 + r.val, by have := lt_16 t; omega⟩

/-- Row `r` of the block ahead of tile `t`. -/
def prevRow (t : Fin cfg0.N) (r : Fin 16) : Fin 8192 := ⟨(t.val * 32 - 1) * 16 + r.val, by have := lt_16 t; omega⟩

/-- The sequence of tile `t`. -/
abbrev seqNo (t : ℕ) : Fin 4 := ⟨t / 4 % 4, Nat.mod_lt _ (by norm_num)⟩

/-- Whichever sequence and position a row number means. -/
theorem row_eq (t : ℕ) (ht : t < 16) (n : Fin 8192) (o : ℕ) (h : n.val = 2048 * (t / 4) + o) (ho : o < 2048) (k : Fin 1024) :
    x ⟨n.val / 2048, by omega⟩ ⟨n.val % 2048, by omega⟩ k = rowsOf x (seqNo t) o k :=
  congrArg₂ (fun b s => x b s k) (Fin.ext (by show n.val / 2048 = t / 4 % 4; omega)) (Fin.ext (by show n.val % 2048 = o % 2048; omega))

/-- The activations of tile `t`. -/
theorem in_x (k : Known m c x win) (t : Fin cfg0.N) :
    Holds (φ := .f32) (blockAt m c 0 t : S512x1024.Idx → EReal) fun r j => rowsOf x (seqNo t.val) (512 * (t.val % 4) + r.val) j := by
  intro r j
  have hN := lt_16 t
  have h := host_x k (tileRow t r) j
  dsimp only at h
  rw [row_eq (x := x) t.val hN (tileRow t r) (512 * (t.val % 4) + r.val) (by unfold tileRow; dsimp only; omega) (by omega) j] at h
  refine Eq.trans ?_ h
  unfold tileRow
  blk_ext [blockAt, idx t]

/-- The rows ahead of tile `t`, where its sequence has any. -/
theorem in_prev (k : Known m c x win) (t : Fin cfg0.N) (h : t.val % 4 ≠ 0) :
    Holds (φ := .f32) (blockAt m c 1 t : S16x1024.Idx → EReal) fun r j => rowsOf x (seqNo t.val) (512 * (t.val % 4) - 16 + r.val) j := by
  intro r j
  have hN := lt_16 t
  have h := host_x k (prevRow t r) j
  dsimp only at h
  rw [row_eq (x := x) t.val hN (prevRow t r) (512 * (t.val % 4) - 16 + r.val) (by unfold prevRow; dsimp only; omega) (by omega) j] at h
  refine Eq.trans ?_ h
  unfold prevRow
  blk_ext [blockAt, idx t]

/-- The block of the input matrix. -/
theorem in_win (k : Known m c x win) (t : Fin cfg0.N) : Holds (φ := .bf16) (blockAt m c 2 t : S1536x1024.Idx → EReal) fun f j => win j f := by
  intro r j
  refine Eq.trans ?_ (host_win k r j)
  blk_ext [blockAt, idx t]

/-- The block of the output matrix. -/
theorem in_wout (t : Fin cfg0.N) : Shows (φ := .bf16) (blockAt m c 3 t : S1024x1024.Idx → EReal) (weights m c).wout := by
  intro r j
  refine Eq.trans ?_ (host_wout r j)
  blk_ext [blockAt, idx t]

/-- The block of the pooled branch's mixing matrices. -/
theorem in_pw (t : Fin cfg0.N) : ∀ g a b, (blockAt m c 4 t : S4x128x128.Idx → EReal) (ix3 g a b) = (weights m c).pw g a b := by
  intro g a b
  refine Eq.trans ?_ (host_pw g a b)
  blk_ext [blockAt, idx t]

/-- The block of the pooled branch's scale. -/
theorem in_ps (t : Fin cfg0.N) : Shows (φ := .f32) (blockAt m c 5 t : S1x512.Idx → EReal) fun _ => (weights m c).ps := by
  intro r j
  obtain rfl : r = 0 := Subsingleton.elim _ _
  show _ = (m ((c : Thread nD τ).loc main_arg4) : S1x512.Idx → EReal) (ix2 0 j)
  blk_ext [blockAt, V, idx t]

/-- The block of the normalisation's scale. -/
theorem in_lg (t : Fin cfg0.N) : Shows (φ := .f32) (blockAt m c 6 t : S1x512.Idx → EReal) fun _ => (weights m c).lg := by
  intro r j
  obtain rfl : r = 0 := Subsingleton.elim _ _
  show _ = (m ((c : Thread nD τ).loc main_arg5) : S1x512.Idx → EReal) (ix2 0 j)
  blk_ext [blockAt, V, idx t]

/-- The block of the normalisation's shift. -/
theorem in_lb (t : Fin cfg0.N) : Shows (φ := .f32) (blockAt m c 7 t : S1x512.Idx → EReal) fun _ => (weights m c).lb := by
  intro r j
  obtain rfl : r = 0 := Subsingleton.elim _ _
  show _ = (m ((c : Thread nD τ).loc main_arg6) : S1x512.Idx → EReal) (ix2 0 j)
  blk_ext [blockAt, V, idx t]

/-- The block of the gate's matrices. -/
theorem in_sw (t : Fin cfg0.N) : ∀ g a b, (blockAt m c 8 t : S4x128x128.Idx → EReal) (ix3 g a b) = (weights m c).sw g a b := by
  intro g a b
  refine Eq.trans ?_ (host_sw g a b)
  blk_ext [blockAt, idx t]

/-- The block of the gate's shifts. -/
theorem in_sb (t : Fin cfg0.N) : Shows (φ := .f32) (blockAt m c 9 t : S128x4.Idx → EReal) fun p h => (weights m c).sb h p := by
  intro r j
  refine Eq.trans ?_ (host_sb r j)
  blk_ext [blockAt, idx t]

/-- What tile `t` reads. -/
theorem reads (k : Known m c x win) (t : Fin cfg0.N) :
    Reads (weights m c) (seqOf x win (seqNo t.val)) (rowsOf x (seqNo t.val)) win (grid0.coords t) (t.val % 4) (insAt m c t) where
  place := by
    have hN := lt_16 t
    have h : (grid0.coords t 0).val = t.val / 1 % 16 := Pipeline.Grid.coords_val t 0 (by decide) rfl
    rw [h]; omega
  acts := in_x k t
  prev := in_prev k t
  into := in_win k t
  rows _ _ := rfl
  wout := in_wout t
  pw := in_pw t
  ps := in_ps t
  lg := in_lg t
  lb := in_lb t
  sw := in_sw t
  sb := in_sb t

/-! ## What a point leaves -/

theorem at_proj (k : Known m c x win) (t : Fin cfg0.N) (r : Fin 512) (j : Fin 1536) :
    (outsAt m c t).proj (ix2 r j) = (((seqOf x win (seqNo t.val)).p (512 * (t.val % 4) + r.val) j : ℝ) : EReal) :=
  proj_left c _ (reads k t) r j

theorem at_xhat (k : Known m c x win) (t : Fin cfg0.N) (r : Fin 512) (j : Fin 1024) : (outsAt m c t).xhat (ix2 r j)
    = Forward.hat (res (weights m c) (seqOf x win (seqNo t.val)) (rowsOf x (seqNo t.val)) (512 * (t.val % 4) + r.val)) j :=
  xhat_left c _ (reads k t) r j

theorem at_rstd (k : Known m c x win) (t : Fin cfg0.N) (r : Fin 512) (z : Fin 1) : (outsAt m c t).rstd (ix2 r z)
    = Forward.rstd (res (weights m c) (seqOf x win (seqNo t.val)) (rowsOf x (seqNo t.val)) (512 * (t.val % 4) + r.val)) :=
  rstd_left c _ (reads k t) r z

theorem at_mix (k : Known m c x win) (t : Fin cfg0.N) (r : Fin 512) (j : Fin 1024) : (outsAt m c t).mix (ix2 r j)
    = mix (weights m c) (seqOf x win (seqNo t.val)) (512 * (t.val % 4) + r.val) j :=
  mix_left c _ (reads k t) r j

theorem at_xb (k : Known m c x win) (t : Fin cfg0.N) (r : Fin 512) (j : Fin 1024) :
    (outsAt m c t).xb (ix2 r j) = ((rowsOf x (seqNo t.val) (512 * (t.val % 4) + r.val) j : ℝ) : EReal) :=
  xb_left c _ (reads k t) r j

/-! ## The five results -/

/-- Where row `r` of tile `t` stands. -/
theorem tileRow_seq (t : Fin cfg0.N) (r : Fin 512) :
    (⟨(tileRow t r).val / 2048, by omega⟩ : Fin 4) = seqNo t.val ∧ (tileRow t r).val % 2048 = 512 * (t.val % 4) + r.val := by
  have hN := lt_16 t
  constructor
  · exact Fin.ext (by unfold tileRow; dsimp only; omega)
  · unfold tileRow; dsimp only; omega

theorem projAll_row (t : Fin cfg0.N) (r : Fin 512) (j : Fin 1536) :
    projAll x win (tileRow t r) j = (((seqOf x win (seqNo t.val)).p (512 * (t.val % 4) + r.val) j : ℝ) : EReal) := by
  unfold projAll
  rw [(tileRow_seq t r).1, (tileRow_seq t r).2]

theorem resAll_row (t : Fin cfg0.N) (r : Fin 512) : resAll (weights m c) x win (tileRow t r)
    = res (weights m c) (seqOf x win (seqNo t.val)) (rowsOf x (seqNo t.val)) (512 * (t.val % 4) + r.val) := by
  unfold resAll
  rw [(tileRow_seq t r).1, (tileRow_seq t r).2]

theorem mixAll_row (t : Fin cfg0.N) (r : Fin 512) :
    mixAll (weights m c) x win (tileRow t r) = mix (weights m c) (seqOf x win (seqNo t.val)) (512 * (t.val % 4) + r.val) := by
  unfold mixAll
  rw [(tileRow_seq t r).1, (tileRow_seq t r).2]

theorem xAll_row (t : Fin cfg0.N) (r : Fin 512) (j : Fin 1024) :
    xAll x (tileRow t r) j = ((rowsOf x (seqNo t.val) (512 * (t.val % 4) + r.val) j : ℝ) : EReal) := by
  have hN := lt_16 t
  exact congrArg Real.toEReal (row_eq t.val hN (tileRow t r) _ (by unfold tileRow; dsimp only; omega) (by omega) j)

theorem arr_proj (k : Known m c x win) : (dats m 0 c).arrAt 12 (cfgs 0).N = fun i => projAll x win (i 0) (i 1) := by
  refine (dats m 0 c).arrAt_eq_of_covers 12 _ (by decide +kernel) fun t _ i => ?_
  blk_simp
  rw [(after_outs m c t).1]
  have er : (win0_12.blk t).view.emb i 0 = tileRow t (i 0) := Fin.ext (by blk_simp [idx t]; rfl)
  have ej : (win0_12.blk t).view.emb i 1 = (show Fin 1536 from i 1) := Fin.ext (by blk_simp [idx t])
  rw [er, ej]
  exact (congrArg _ (eq_ix2 (show S512x1536.Idx from i))).trans ((at_proj k t (i 0) (i 1)).trans (projAll_row t (i 0) (i 1)).symm)

theorem arr_xhat (k : Known m c x win) : (dats m 0 c).arrAt 13 (cfgs 0).N = fun i => Forward.hat (resAll (weights m c) x win (i 0)) (i 1) := by
  refine (dats m 0 c).arrAt_eq_of_covers 13 _ (by decide +kernel) fun t _ i => ?_
  blk_simp
  rw [(after_outs m c t).2.1]
  have er : (win0_13.blk t).view.emb i 0 = tileRow t (i 0) := Fin.ext (by blk_simp [idx t]; rfl)
  have ej : (win0_13.blk t).view.emb i 1 = (show Fin 1024 from i 1) := Fin.ext (by blk_simp [idx t])
  rw [er, ej]
  exact (congrArg _ (eq_ix2 (show S512x1024.Idx from i))).trans
    ((at_xhat k t (i 0) (i 1)).trans (congrArg (fun f => Forward.hat f (i 1)) (resAll_row t (i 0)).symm))

theorem arr_rstd (k : Known m c x win) : (dats m 0 c).arrAt 14 (cfgs 0).N = fun i => Forward.rstd (resAll (weights m c) x win (i 0)) := by
  refine (dats m 0 c).arrAt_eq_of_covers 14 _ (by decide +kernel) fun t _ i => ?_
  blk_simp
  rw [(after_outs m c t).2.2.1]
  have er : (win0_14.blk t).view.emb i 0 = tileRow t (i 0) := Fin.ext (by blk_simp [idx t]; rfl)
  rw [er]
  exact (congrArg _ (eq_ix2 (show S512x1.Idx from i))).trans
    ((at_rstd k t (i 0) (i 1)).trans (congrArg Forward.rstd (resAll_row t (i 0)).symm))

theorem arr_mix (k : Known m c x win) : (dats m 0 c).arrAt 15 (cfgs 0).N = fun i => mixAll (weights m c) x win (i 0) (i 1) := by
  refine (dats m 0 c).arrAt_eq_of_covers 15 _ (by decide +kernel) fun t _ i => ?_
  blk_simp
  rw [(after_outs m c t).2.2.2.1]
  have er : (win0_15.blk t).view.emb i 0 = tileRow t (i 0) := Fin.ext (by blk_simp [idx t]; rfl)
  have ej : (win0_15.blk t).view.emb i 1 = (show Fin 1024 from i 1) := Fin.ext (by blk_simp [idx t])
  rw [er, ej]
  exact (congrArg _ (eq_ix2 (show S512x1024.Idx from i))).trans ((at_mix k t (i 0) (i 1)).trans (congrFun (mixAll_row t (i 0)) (i 1)).symm)

theorem arr_xb (k : Known m c x win) : (dats m 0 c).arrAt 16 (cfgs 0).N = fun i => xAll x (i 0) (i 1) := by
  refine (dats m 0 c).arrAt_eq_of_covers 16 _ (by decide +kernel) fun t _ i => ?_
  blk_simp
  rw [(after_outs m c t).2.2.2.2]
  have er : (win0_16.blk t).view.emb i 0 = tileRow t (i 0) := Fin.ext (by blk_simp [idx t]; rfl)
  have ej : (win0_16.blk t).view.emb i 1 = (show Fin 1024 from i 1) := Fin.ext (by blk_simp [idx t])
  rw [er, ej]
  exact (congrArg _ (eq_ix2 (show S512x1024.Idx from i))).trans ((at_xb k t (i 0) (i 1)).trans (xAll_row t (i 0) (i 1)).symm)

end Cert.Kernel3Ideal.Mixer

end
-- ==== Proof.MixerRun.lean ====
/- One grid point of the mixer's backward pass: the body run symbolically at the first point and at a later one. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Mixer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The type of the assertions about the machine. -/
local notation "𝕄" => MT nD τ sig Unit (Elt F) ℕ (UR sig nD τ) ℕ

/-- The buffers that the body is handed: thirteen inputs, four outputs, two scratch arrays. -/
structure Refs where
  dr : Memref sig .tc .vmem S1024x1024 .f32
  drNext : Memref sig .tc .vmem S16x1024 .f32
  proj : Memref sig .tc .vmem S1024x1536 .f32
  projPrev : Memref sig .tc .vmem S16x512 .f32
  win : Memref sig .tc .vmem S1536x1024 .bf16
  wout : Memref sig .tc .vmem S1024x1024 .bf16
  pw : Memref sig .tc .vmem S4x128x128 .f32
  ps : Memref sig .tc .vmem S1x512 .f32
  lg : Memref sig .tc .vmem S1x512 .f32
  lb : Memref sig .tc .vmem S1x512 .f32
  sw : Memref sig .tc .vmem S4x128x128 .f32
  sb : Memref sig .tc .vmem S128x4 .f32
  stats : Memref sig .tc .vmem S8x1024 .f32
  gx : Memref sig .tc .vmem S1024x1024 .f32
  dproj : Memref sig .tc .vmem S1024x1536 .bf16
  dmat : Memref sig .tc .vmem S8x128x128 .f32
  dvec : Memref sig .tc .vmem S16x1024 .f32
  du : Memref sig .tc .vmem S1024x512 .f32
  dv : Memref sig .tc .vmem S1024x512 .f32
  hdr : dr.IsWhole
  hdrNext : drNext.IsWhole
  hproj : proj.IsWhole
  hprojPrev : projPrev.IsWhole
  hwin : win.IsWhole
  hwout : wout.IsWhole
  hpw : pw.IsWhole
  hps : ps.IsWhole
  hlg : lg.IsWhole
  hlb : lb.IsWhole
  hsw : sw.IsWhole
  hsb : sb.IsWhole
  hstats : stats.IsWhole
  hgx : gx.IsWhole
  hdproj : dproj.IsWhole
  hdmat : dmat.IsWhole
  hdvec : dvec.IsWhole
  hdu : du.IsWhole
  hdv : dv.IsWhole

/-- The contents of the thirteen inputs. -/
structure Ins (F : FTy → Type) where
  dr : Vec F S1024x1024 .f32
  drNext : Vec F S16x1024 .f32
  proj : Vec F S1024x1536 .f32
  projPrev : Vec F S16x512 .f32
  win : Vec F S1536x1024 .bf16
  wout : Vec F S1024x1024 .bf16
  pw : Vec F S4x128x128 .f32
  ps : Vec F S1x512 .f32
  lg : Vec F S1x512 .f32
  lb : Vec F S1x512 .f32
  sw : Vec F S4x128x128 .f32
  sb : Vec F S128x4 .f32
  stats : Vec F S8x1024 .f32

/-- The body on the buffers `R` at grid coordinates `i`. -/
abbrev body (i : grid0.Coords) (R : Refs) : Prog (TpuEff nD τ sig (Elt F) Λ₀ .tc) PUnit :=
  cc0_mixer_bwd i R.dr R.hdr R.drNext R.hdrNext R.proj R.hproj R.projPrev R.hprojPrev R.win R.hwin R.wout R.hwout R.pw R.hpw
    R.ps R.hps R.lg R.hlg R.lb R.hlb R.sw R.hsw R.sb R.hsb R.stats R.hstats R.gx R.hgx R.dproj R.hdproj R.dmat R.hdmat
    R.dvec R.hdvec R.du R.hdu R.dv R.hdv

/-- The inputs held at the contents `X`. -/
def held (c : Dev nD) (R : Refs) (X : Ins F) : sProp 𝕄 :=
  iprop(owns (c : Thread nD τ) R.dr fullShare X.dr ∗ owns (c : Thread nD τ) R.drNext fullShare X.drNext
    ∗ owns (c : Thread nD τ) R.proj fullShare X.proj ∗ owns (c : Thread nD τ) R.projPrev fullShare X.projPrev
    ∗ owns (c : Thread nD τ) R.win fullShare X.win ∗ owns (c : Thread nD τ) R.wout fullShare X.wout
    ∗ owns (c : Thread nD τ) R.pw fullShare X.pw ∗ owns (c : Thread nD τ) R.ps fullShare X.ps
    ∗ owns (c : Thread nD τ) R.lg fullShare X.lg ∗ owns (c : Thread nD τ) R.lb fullShare X.lb
    ∗ owns (c : Thread nD τ) R.sw fullShare X.sw ∗ owns (c : Thread nD τ) R.sb fullShare X.sb
    ∗ owns (c : Thread nD τ) R.stats fullShare X.stats)

/-- A buffer held at some contents. -/
abbrev some_ (c : Dev nD) {s : Shape} {e : EltTy} (M : Memref sig .tc .vmem s e) : sProp 𝕄 :=
  iprop(∃ d, owns (c : Thread nD τ) M fullShare d)

/-- A buffer held at what the stores `L`, the last one first, leave over some contents. -/
abbrev stored (c : Dev nD) {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

/-- A buffer held at what the stores `L` leave over the contents `x`. -/
abbrev storedOver (c : Dev nD) {s : Shape} {e : EltTy} (M : Memref sig .tc .vmem s e) (h : M.IsWhole) (x : Vec F s e)
    (L : List (View.Piece (Elt F) s e)) : sProp 𝕄 :=
  (M.view.loc (c : Thread nD τ) ↦[M.view.set]{fullShare} M.view.writes (Elt F) (h.unread x) L)

/-- The condition of the body's conditional: the grid point is the first. -/
abbrev First (i : grid0.Coords) : Prop :=
  (Scalar.cmpi .ne (Scalar.extui (Scalar.cmpi .eq (BitVec.ofNat 32 (i 0).val) 0#32)) 0#32) = 1#1

set_option maxHeartbeats 4000000 in
/-- The body at the first point: from the inputs and any contents elsewhere, the stores that each output and each scratch
    array ends with. -/
noncomputable def runFirst (c : Dev nD) (i : grid0.Coords) (R : Refs) (h : First i) (X : Ins F) :
    Σ' (Lgx : List (View.Piece (Elt F) S1024x1024 .f32)) (Ldproj : List (View.Piece (Elt F) S1024x1536 .bf16))
      (Ldmat : List (View.Piece (Elt F) S8x128x128 .f32)) (Ldvec : List (View.Piece (Elt F) S16x1024 .f32))
      (Ldu : List (View.Piece (Elt F) S1024x512 .f32)), { Ldv : List (View.Piece (Elt F) S1024x512 .f32) //
      ∀ K : PUnit → sProp 𝕄,
        iprop(held c R X ∗ some_ c R.gx ∗ some_ c R.dproj ∗ some_ c R.dmat ∗ some_ c R.dvec ∗ some_ c R.du ∗ some_ c R.dv
            ∗ (iprop(held c R X ∗ stored c R.gx Lgx ∗ stored c R.dproj Ldproj ∗ stored c R.dmat Ldmat ∗ stored c R.dvec Ldvec
                ∗ stored c R.du Ldu ∗ stored c R.dv Ldv) -∗ K ⟨⟩))
          ⊢ wp frame (wpE (defs₀ (F := F)) Variants.none c none) Set.univ (body i R) K } := by
  refine ⟨?_, ?_, ?_, ?_, ?_, ?_, fun K => ?run⟩
  case run =>
    simp only [body, cc0_mixer_bwd_eq_skeleton]; unfold cc0_mixer_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton]
    unfold held some_ stored owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := R.hdr.eq_unread hf0; obtain rfl := R.hdrNext.eq_unread hf1; obtain rfl := R.hproj.eq_unread hf2
    obtain rfl := R.hprojPrev.eq_unread hf3; obtain rfl := R.hwin.eq_unread hf4; obtain rfl := R.hwout.eq_unread hf5
    obtain rfl := R.hpw.eq_unread hf6; obtain rfl := R.hps.eq_unread hf7; obtain rfl := R.hlg.eq_unread hf8
    obtain rfl := R.hlb.eq_unread hf9; obtain rfl := R.hsw.eq_unread hf10; obtain rfl := R.hsb.eq_unread hf11
    obtain rfl := R.hstats.eq_unread hf12
    sl_exec (disch := first | sl_exact h)
    sl_step
    iapply Hk
    isplitl [H0 H1 H2 H3 H4 H5 H6 H7 H8 H9 H10 H11 H12]
    · isplitl [H0]; · iexists _; isplitr; · ipureintro; exact R.hdr.read_unread _
                      iexact H0
      isplitl [H1]; · iexists _; isplitr; · ipureintro; exact R.hdrNext.read_unread _
                      iexact H1
      isplitl [H2]; · iexists _; isplitr; · ipureintro; exact R.hproj.read_unread _
                      iexact H2
      isplitl [H3]; · iexists _; isplitr; · ipureintro; exact R.hprojPrev.read_unread _
                      iexact H3
      isplitl [H4]; · iexists _; isplitr; · ipureintro; exact R.hwin.read_unread _
                      iexact H4
      isplitl [H5]; · iexists _; isplitr; · ipureintro; exact R.hwout.read_unread _
                      iexact H5
      isplitl [H6]; · iexists _; isplitr; · ipureintro; exact R.hpw.read_unread _
                      iexact H6
      isplitl [H7]; · iexists _; isplitr; · ipureintro; exact R.hps.read_unread _
                      iexact H7
      isplitl [H8]; · iexists _; isplitr; · ipureintro; exact R.hlg.read_unread _
                      iexact H8
      isplitl [H9]; · iexists _; isplitr; · ipureintro; exact R.hlb.read_unread _
                      iexact H9
      isplitl [H10]; · iexists _; isplitr; · ipureintro; exact R.hsw.read_unread _
                       iexact H10
      isplitl [H11]; · iexists _; isplitr; · ipureintro; exact R.hsb.read_unread _
                       iexact H11
      iexists _; isplitr; · ipureintro; exact R.hstats.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

set_option maxHeartbeats 4000000 in
/-- The body at a later point: the two accumulators start from what the point before left, `y` and `z`. -/
noncomputable def runLater (c : Dev nD) (i : grid0.Coords) (R : Refs) (h : ¬ First i) (X : Ins F) (y : Vec F S8x128x128 .f32)
    (z : Vec F S16x1024 .f32) :
    Σ' (Lgx : List (View.Piece (Elt F) S1024x1024 .f32)) (Ldproj : List (View.Piece (Elt F) S1024x1536 .bf16))
      (Ldmat : List (View.Piece (Elt F) S8x128x128 .f32)) (Ldvec : List (View.Piece (Elt F) S16x1024 .f32))
      (Ldu : List (View.Piece (Elt F) S1024x512 .f32)), { Ldv : List (View.Piece (Elt F) S1024x512 .f32) //
      ∀ K : PUnit → sProp 𝕄,
        iprop(held c R X ∗ some_ c R.gx ∗ some_ c R.dproj
            ∗ owns (c : Thread nD τ) R.dmat fullShare y ∗ owns (c : Thread nD τ) R.dvec fullShare z
            ∗ some_ c R.du ∗ some_ c R.dv
            ∗ (iprop(held c R X ∗ stored c R.gx Lgx ∗ stored c R.dproj Ldproj ∗ storedOver c R.dmat R.hdmat y Ldmat
                ∗ storedOver c R.dvec R.hdvec z Ldvec ∗ stored c R.du Ldu ∗ stored c R.dv Ldv) -∗ K ⟨⟩))
          ⊢ wp frame (wpE (defs₀ (F := F)) Variants.none c none) Set.univ (body i R) K } := by
  refine ⟨?_, ?_, ?_, ?_, ?_, ?_, fun K => ?run⟩
  case run =>
    simp only [body, cc0_mixer_bwd_eq_skeleton]; unfold cc0_mixer_bwd_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton]
    unfold held some_ stored storedOver owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%f15, %hf15, H15⟩, ⟨%f16, %hf16, H16⟩, ⟨%d17, %f17, -, H17⟩, ⟨%d18, %f18, -, H18⟩, Hk⟩
    obtain rfl := R.hdr.eq_unread hf0; obtain rfl := R.hdrNext.eq_unread hf1; obtain rfl := R.hproj.eq_unread hf2
    obtain rfl := R.hprojPrev.eq_unread hf3; obtain rfl := R.hwin.eq_unread hf4; obtain rfl := R.hwout.eq_unread hf5
    obtain rfl := R.hpw.eq_unread hf6; obtain rfl := R.hps.eq_unread hf7; obtain rfl := R.hlg.eq_unread hf8
    obtain rfl := R.hlb.eq_unread hf9; obtain rfl := R.hsw.eq_unread hf10; obtain rfl := R.hsb.eq_unread hf11
    obtain rfl := R.hstats.eq_unread hf12; obtain rfl := R.hdmat.eq_unread hf15; obtain rfl := R.hdvec.eq_unread hf16
    sl_exec (disch := first | sl_exact h)
    sl_step
    iapply Hk
    isplitl [H0 H1 H2 H3 H4 H5 H6 H7 H8 H9 H10 H11 H12]
    · isplitl [H0]; · iexists _; isplitr; · ipureintro; exact R.hdr.read_unread _
                      iexact H0
      isplitl [H1]; · iexists _; isplitr; · ipureintro; exact R.hdrNext.read_unread _
                      iexact H1
      isplitl [H2]; · iexists _; isplitr; · ipureintro; exact R.hproj.read_unread _
                      iexact H2
      isplitl [H3]; · iexists _; isplitr; · ipureintro; exact R.hprojPrev.read_unread _
                      iexact H3
      isplitl [H4]; · iexists _; isplitr; · ipureintro; exact R.hwin.read_unread _
                      iexact H4
      isplitl [H5]; · iexists _; isplitr; · ipureintro; exact R.hwout.read_unread _
                      iexact H5
      isplitl [H6]; · iexists _; isplitr; · ipureintro; exact R.hpw.read_unread _
                      iexact H6
      isplitl [H7]; · iexists _; isplitr; · ipureintro; exact R.hps.read_unread _
                      iexact H7
      isplitl [H8]; · iexists _; isplitr; · ipureintro; exact R.hlg.read_unread _
                      iexact H8
      isplitl [H9]; · iexists _; isplitr; · ipureintro; exact R.hlb.read_unread _
                      iexact H9
      isplitl [H10]; · iexists _; isplitr; · ipureintro; exact R.hsw.read_unread _
                       iexact H10
      isplitl [H11]; · iexists _; isplitr; · ipureintro; exact R.hsb.read_unread _
                       iexact H11
      iexists _; isplitr; · ipureintro; exact R.hstats.read_unread _
      iexact H12
    isplitl [H13]; · iexists _; iexact H13
    isplitl [H14]; · iexists _; iexact H14
    isplitl [H15]; · iexact H15
    isplitl [H16]; · iexact H16
    isplitl [H17]; · iexists _; iexact H17
    iexists _; iexact H18

end Cert.Kernel2Ideal.Mixer

end
-- ==== Proof.MixerFrame.lean ====
/- The frame of the mixer's backward pass: what the run leaves in every buffer, and that its arguments end unchanged. -/
module

public import proofs.«01_k».proof.Proof.MixerRun

@[expose] public section

set_option maxRecDepth 16384

noncomputable section

namespace Cert.Kernel2Ideal.Mixer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The type of the assertions about the machine. -/
local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered. -/
abbrev V (c : Dev nD) (b : Ref sig .tc) : Buf (Elt F) ((c : Thread nD τ).loc b) := StableHlo.after hostOps0 (fun b => m (c, b)) b

/-- No host operation makes a buffer of its own. -/
theorem hostOps_fresh : (hostOps0 : List (HloOp τ sig (Elt F))).Forall fun op => op.fresh = ∅ := by
  simp only [List.Forall]; repeat' constructor

/-- The program up to the region. -/
theorem hmain (𝒱₀ : Variants) : Pipeline.HMain (Ix := Unit) (Name := ℕ) (U := UR sig nD τ) (Lvl := ℕ) cfgs 0 defs₀ 𝒱₀ m
    (main (F := F)) (V m) :=
  Pipeline.hmain_prefix cfgs 0 defs₀ 𝒱₀ m main hostOps0 hostOps0_sub hostOps_fresh main_chain

/-- A buffer that no host operation writes is found as it was launched. -/
theorem V_kept (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! ## What a point is handed -/

/-- Window `w`'s block at point `t`, read from the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The staging buffers at point `t`, with the two scratch arrays. -/
abbrev refs (t : Fin cfg0.N) : Refs :=
  ⟨win0_0.stage (cfg0.slots t 0), win0_1.stage (cfg0.slots t 1), win0_2.stage (cfg0.slots t 2),
   win0_3.stage (cfg0.slots t 3), win0_4.stage (cfg0.slots t 4), win0_5.stage (cfg0.slots t 5),
   win0_6.stage (cfg0.slots t 6), win0_7.stage (cfg0.slots t 7), win0_8.stage (cfg0.slots t 8),
   win0_9.stage (cfg0.slots t 9), win0_10.stage (cfg0.slots t 10), win0_11.stage (cfg0.slots t 11),
   win0_12.stage (cfg0.slots t 12), win0_13.stage (cfg0.slots t 13), win0_14.stage (cfg0.slots t 14),
   win0_15.stage (cfg0.slots t 15), win0_16.stage (cfg0.slots t 16),
   Memref.whole cc0_scratch0, Memref.whole cc0_scratch1,
   hstage0_0 ((cfg0.slots t 0).cast nbuf0_0), hstage0_1 ((cfg0.slots t 1).cast nbuf0_1),
   hstage0_2 ((cfg0.slots t 2).cast nbuf0_2), hstage0_3 ((cfg0.slots t 3).cast nbuf0_3),
   hstage0_4 ((cfg0.slots t 4).cast nbuf0_4), hstage0_5 ((cfg0.slots t 5).cast nbuf0_5),
   hstage0_6 ((cfg0.slots t 6).cast nbuf0_6), hstage0_7 ((cfg0.slots t 7).cast nbuf0_7),
   hstage0_8 ((cfg0.slots t 8).cast nbuf0_8), hstage0_9 ((cfg0.slots t 9).cast nbuf0_9),
   hstage0_10 ((cfg0.slots t 10).cast nbuf0_10), hstage0_11 ((cfg0.slots t 11).cast nbuf0_11),
   hstage0_12 ((cfg0.slots t 12).cast nbuf0_12), hstage0_13 ((cfg0.slots t 13).cast nbuf0_13),
   hstage0_14 ((cfg0.slots t 14).cast nbuf0_14), hstage0_15 ((cfg0.slots t 15).cast nbuf0_15),
   hstage0_16 ((cfg0.slots t 16).cast nbuf0_16),
   Memref.isWhole_whole _, Memref.isWhole_whole _⟩

/-- The blocks of the thirteen inputs at point `t`. -/
def insAt (c : Dev nD) (t : Fin cfg0.N) : Ins F := ⟨blockAt m c 0 t, blockAt m c 1 t, blockAt m c 2 t, blockAt m c 3 t, blockAt m c 4 t,
  blockAt m c 5 t, blockAt m c 6 t, blockAt m c 7 t, blockAt m c 8 t, blockAt m c 9 t,
  blockAt m c 10 t, blockAt m c 11 t, blockAt m c 12 t⟩

/-- The body's conditional is taken at point zero alone. -/
theorem first_iff (t : Fin cfg0.N) : First (grid0.coords t) ↔ t.val = 0 := by
  have hN : t.val < 8 := lt_of_lt_of_eq t.isLt (show cfg0.N = 8 from N_0)
  have e0 : (grid0.coords t 0).val = t.val := by
    have h : (grid0.coords t 0).val = t.val / 1 % 8 := Pipeline.Grid.coords_val t 0 (by decide) rfl
    rw [h]; omega
  simp only [First, e0]
  word_cmp

/-! ## What a point leaves -/

/-- The contents of the four outputs. -/
structure Outs (F : FTy → Type) where
  gx : Vec F S1024x1024 .f32
  dproj : Vec F S1024x1536 .bf16
  dmat : Vec F S8x128x128 .f32
  dvec : Vec F S16x1024 .f32

/-- What the first point leaves in the four outputs. -/
def outFirst (c : Dev nD) (i : grid0.Coords) (R : Refs) (h : First i) (X : Ins F) : Outs F :=
  ⟨View.canon (runFirst c i R h X).1, View.canon (runFirst c i R h X).2.1, View.canon (runFirst c i R h X).2.2.1,
   View.canon (runFirst c i R h X).2.2.2.1⟩

/-- What a later point leaves, the accumulators having held `y` and `z`. -/
def outLater (c : Dev nD) (i : grid0.Coords) (R : Refs) (h : ¬ First i) (X : Ins F) (y : Vec F S8x128x128 .f32)
    (z : Vec F S16x1024 .f32) : Outs F :=
  ⟨View.canon (runLater c i R h X y z).1, View.canon (runLater c i R h X y z).2.1,
   R.dmat.view.read (Elt F) (R.dmat.view.writes (Elt F) (R.hdmat.unread y) (runLater c i R h X y z).2.2.1),
   R.dvec.view.read (Elt F) (R.dvec.view.writes (Elt F) (R.hdvec.unread z) (runLater c i R h X y z).2.2.2.1)⟩

/-- What the outputs hold after point `n`. -/
def outsAt (c : Dev nD) : (n : ℕ) → n < cfg0.N → Outs F
  | 0, hn => outFirst c (grid0.coords ⟨0, hn⟩) (refs ⟨0, hn⟩) ((first_iff ⟨0, hn⟩).mpr rfl) (insAt m c ⟨0, hn⟩)
  | n + 1, hn => outLater c (grid0.coords ⟨n + 1, hn⟩) (refs ⟨n + 1, hn⟩)
      (fun h => Nat.succ_ne_zero n ((first_iff ⟨n + 1, hn⟩).mp h)) (insAt m c ⟨n + 1, hn⟩)
      (outsAt c n (Nat.lt_of_succ_lt hn)).dmat (outsAt c n (Nat.lt_of_succ_lt hn)).dvec

/-- At the first point. -/
theorem outsAt_first (c : Dev nD) (t : Fin cfg0.N) (h : t.val = 0) :
    outsAt m c t.val t.isLt = outFirst c (grid0.coords t) (refs t) ((first_iff t).mpr h) (insAt m c t) := by
  obtain ⟨n, hn⟩ := t; dsimp only at h; subst h; rfl

/-- At a later point, from what the point before left. -/
theorem outsAt_later (c : Dev nD) (t : Fin cfg0.N) (h : t.val ≠ 0) :
    outsAt m c t.val t.isLt = outLater c (grid0.coords t) (refs t) (fun h' => h ((first_iff t).mp h')) (insAt m c t)
      (outsAt m c (t.val - 1) (Nat.lt_of_le_of_lt (Nat.sub_le _ _) t.isLt)).dmat
      (outsAt m c (t.val - 1) (Nat.lt_of_le_of_lt (Nat.sub_le _ _) t.isLt)).dvec := by
  obtain ⟨n, hn⟩ := t
  cases n with
  | zero => exact absurd rfl h
  | succ n => rfl

/-! ## The stores cover what they must -/

/-- The gradient of the input is stored whole at the first point, -/
theorem cover_gx_first (c : Dev nD) (i : grid0.Coords) (R : Refs) (h : First i) (X : Ins F) (y : S1024x1024.Idx) :
    ∃ p ∈ (runFirst c i R h X).1, y ∈ p.1.set := View.cover_of_tiledL _ S1024x1024.size (by sl_kernel_rfl) y

/-- and at a later one. -/
theorem cover_gx_later (c : Dev nD) (i : grid0.Coords) (R : Refs) (h : ¬ First i) (X : Ins F) (y₀ : Vec F S8x128x128 .f32)
    (z₀ : Vec F S16x1024 .f32) (y : S1024x1024.Idx) :
    ∃ p ∈ (runLater c i R h X y₀ z₀).1, y ∈ p.1.set := View.cover_of_tiledL _ S1024x1024.size (by sl_kernel_rfl) y

/-- The gradient of the projection is stored group by group at the first point, -/
theorem cover_dproj_first (c : Dev nD) (i : grid0.Coords) (R : Refs) (h : First i) (X : Ins F) (y : S1024x1536.Idx) :
    ∃ p ∈ (runFirst c i R h X).2.1, y ∈ p.1.set := View.cover_of_tiledBy _ ![1024, 128] (by sl_kernel_rfl) y

/-- and at a later one. -/
theorem cover_dproj_later (c : Dev nD) (i : grid0.Coords) (R : Refs) (h : ¬ First i) (X : Ins F) (y₀ : Vec F S8x128x128 .f32)
    (z₀ : Vec F S16x1024 .f32) (y : S1024x1536.Idx) :
    ∃ p ∈ (runLater c i R h X y₀ z₀).2.1, y ∈ p.1.set := View.cover_of_tiledBy _ ![1024, 128] (by sl_kernel_rfl) y

/-- The first point stores every matrix accumulator, -/
theorem cover_dmat_first (c : Dev nD) (i : grid0.Coords) (R : Refs) (h : First i) (X : Ins F) (y : S8x128x128.Idx) :
    ∃ p ∈ (runFirst c i R h X).2.2.1, y ∈ p.1.set := View.cover_of_tiledBy _ ![1, 128, 128] (by sl_kernel_rfl) y

/-- and every row of the vector accumulators. -/
theorem cover_dvec_first (c : Dev nD) (i : grid0.Coords) (R : Refs) (h : First i) (X : Ins F) (y : S16x1024.Idx) :
    ∃ p ∈ (runFirst c i R h X).2.2.2.1, y ∈ p.1.set := View.cover_of_tiledBy _ ![1, 128] (by sl_kernel_rfl) y

/-! ## The proof data -/

/-- What each window's buffer holds after each point: an input its block, an output what the point leaves. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => (outsAt m c t.val t.isLt).gx
    | ⟨14, _⟩ => (outsAt m c t.val t.isLt).dproj
    | ⟨15, _⟩ => (outsAt m c t.val t.isLt).dmat
    | ⟨16, _⟩ => (outsAt m c t.val t.isLt).dvec
    | ⟨_ + 17, h⟩ => absurd h (Nat.not_lt.2 (Nat.le_add_left _ _))
  Φ _ := Pipeline.ΦA spec0 c
  q := Pipeline.shareOf spec0
  owed _ := 0

/-- The arrays of the proof data are what the region finds. -/
theorem dats_A (c : Dev nD) (w : Fin cfg0.W) : (dats m 0 c).A w = V m c (Pipeline.arrRef spec0 w) := by dsimp only [dats]

/-- After a point, window 0 (dr) still holds its block, -/
theorem after_0 (c : Dev nD) (t : Fin cfg0.N) : (dats m 0 c).after 0 t = blockAt m c 0 t := by dsimp only [dats]
/-- and held it before. -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; unfold Dat.blockOf blockAt; rw [dats_A]; try rfl) t d).trans
    (by unfold Dat.fetched Dat.blockOf blockAt; rw [dats_A]; try rfl)
/-- After a point, window 1 (drNext) still holds its block, -/
theorem after_1 (c : Dev nD) (t : Fin cfg0.N) : (dats m 0 c).after 1 t = blockAt m c 1 t := by dsimp only [dats]
/-- and held it before. -/
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; unfold Dat.blockOf blockAt; rw [dats_A]; try rfl) t d).trans
    (by unfold Dat.fetched Dat.blockOf blockAt; rw [dats_A]; try rfl)
/-- After a point, window 2 (proj) still holds its block, -/
theorem after_2 (c : Dev nD) (t : Fin cfg0.N) : (dats m 0 c).after 2 t = blockAt m c 2 t := by dsimp only [dats]
/-- and held it before. -/
theorem before_2 (c : Dev nD) (t : Fin cfg0.N) (d) : (dats m 0 c).before 2 t d = blockAt m c 2 t :=
  ((dats m 0 c).before_in_eq_fetched 2 rfl (fun _ => rfl) (fun _ _ _ => rfl) (fun t => by rw [after_2]; unfold Dat.blockOf blockAt; rw [dats_A]; try rfl) t d).trans
    (by unfold Dat.fetched Dat.blockOf blockAt; rw [dats_A]; try rfl)
/-- After a point, window 3 (projPrev) still holds its block, -/
theorem after_3 (c : Dev nD) (t : Fin cfg0.N) : (dats m 0 c).after 3 t = blockAt m c 3 t := by dsimp only [dats]
/-- and held it before. -/
theorem before_3 (c : Dev nD) (t : Fin cfg0.N) (d) : (dats m 0 c).before 3 t d = blockAt m c 3 t :=
  ((dats m 0 c).before_in_eq_fetched 3 rfl (fun _ => rfl) (fun _ _ _ => rfl) (fun t => by rw [after_3]; unfold Dat.blockOf blockAt; rw [dats_A]; try rfl) t d).trans
    (by unfold Dat.fetched Dat.blockOf blockAt; rw [dats_A]; try rfl)
/-- After a point, window 4 (win) still holds its block, -/
theorem after_4 (c : Dev nD) (t : Fin cfg0.N) : (dats m 0 c).after 4 t = blockAt m c 4 t := by dsimp only [dats]
/-- and held it before. -/
theorem before_4 (c : Dev nD) (t : Fin cfg0.N) (d) : (dats m 0 c).before 4 t d = blockAt m c 4 t :=
  ((dats m 0 c).before_in_eq_fetched 4 rfl (fun _ => rfl) (fun _ _ _ => rfl) (fun t => by rw [after_4]; unfold Dat.blockOf blockAt; rw [dats_A]; try rfl) t d).trans
    (by unfold Dat.fetched Dat.blockOf blockAt; rw [dats_A]; try rfl)
/-- After a point, window 5 (wout) still holds its block, -/
theorem after_5 (c : Dev nD) (t : Fin cfg0.N) : (dats m 0 c).after 5 t = blockAt m c 5 t := by dsimp only [dats]
/-- and held it before. -/
theorem before_5 (c : Dev nD) (t : Fin cfg0.N) (d) : (dats m 0 c).before 5 t d = blockAt m c 5 t :=
  ((dats m 0 c).before_in_eq_fetched 5 rfl (fun _ => rfl) (fun _ _ _ => rfl) (fun t => by rw [after_5]; unfold Dat.blockOf blockAt; rw [dats_A]; try rfl) t d).trans
    (by unfold Dat.fetched Dat.blockOf blockAt; rw [dats_A]; try rfl)
/-- After a point, window 6 (pw) still holds its block, -/
theorem after_6 (c : Dev nD) (t : Fin cfg0.N) : (dats m 0 c).after 6 t = blockAt m c 6 t := by dsimp only [dats]
/-- and held it before. -/
theorem before_6 (c : Dev nD) (t : Fin cfg0.N) (d) : (dats m 0 c).before 6 t d = blockAt m c 6 t :=
  ((dats m 0 c).before_in_eq_fetched 6 rfl (fun _ => rfl) (fun _ _ _ => rfl) (fun t => by rw [after_6]; unfold Dat.blockOf blockAt; rw [dats_A]; try rfl) t d).trans
    (by unfold Dat.fetched Dat.blockOf blockAt; rw [dats_A]; try rfl)
/-- After a point, window 7 (ps) still holds its block, -/
theorem after_7 (c : Dev nD) (t : Fin cfg0.N) : (dats m 0 c).after 7 t = blockAt m c 7 t := by dsimp only [dats]
/-- and held it before. -/
theorem before_7 (c : Dev nD) (t : Fin cfg0.N) (d) : (dats m 0 c).before 7 t d = blockAt m c 7 t :=
  ((dats m 0 c).before_in_eq_fetched 7 rfl (fun _ => rfl) (fun _ _ _ => rfl) (fun t => by rw [after_7]; unfold Dat.blockOf blockAt; rw [dats_A]; try rfl) t d).trans
    (by unfold Dat.fetched Dat.blockOf blockAt; rw [dats_A]; try rfl)
/-- After a point, window 8 (lg) still holds its block, -/
theorem after_8 (c : Dev nD) (t : Fin cfg0.N) : (dats m 0 c).after 8 t = blockAt m c 8 t := by dsimp only [dats]
/-- and held it before. -/
theorem before_8 (c : Dev nD) (t : Fin cfg0.N) (d) : (dats m 0 c).before 8 t d = blockAt m c 8 t :=
  ((dats m 0 c).before_in_eq_fetched 8 rfl (fun _ => rfl) (fun _ _ _ => rfl) (fun t => by rw [after_8]; unfold Dat.blockOf blockAt; rw [dats_A]; try rfl) t d).trans
    (by unfold Dat.fetched Dat.blockOf blockAt; rw [dats_A]; try rfl)
/-- After a point, window 9 (lb) still holds its block, -/
theorem after_9 (c : Dev nD) (t : Fin cfg0.N) : (dats m 0 c).after 9 t = blockAt m c 9 t := by dsimp only [dats]
/-- and held it before. -/
theorem before_9 (c : Dev nD) (t : Fin cfg0.N) (d) : (dats m 0 c).before 9 t d = blockAt m c 9 t :=
  ((dats m 0 c).before_in_eq_fetched 9 rfl (fun _ => rfl) (fun _ _ _ => rfl) (fun t => by rw [after_9]; unfold Dat.blockOf blockAt; rw [dats_A]; try rfl) t d).trans
    (by unfold Dat.fetched Dat.blockOf blockAt; rw [dats_A]; try rfl)
/-- After a point, window 10 (sw) still holds its block, -/
theorem after_10 (c : Dev nD) (t : Fin cfg0.N) : (dats m 0 c).after 10 t = blockAt m c 10 t := by dsimp only [dats]
/-- and held it before. -/
theorem before_10 (c : Dev nD) (t : Fin cfg0.N) (d) : (dats m 0 c).before 10 t d = blockAt m c 10 t :=
  ((dats m 0 c).before_in_eq_fetched 10 rfl (fun _ => rfl) (fun _ _ _ => rfl) (fun t => by rw [after_10]; unfold Dat.blockOf blockAt; rw [dats_A]; try rfl) t d).trans
    (by unfold Dat.fetched Dat.blockOf blockAt; rw [dats_A]; try rfl)
/-- After a point, window 11 (sb) still holds its block, -/
theorem after_11 (c : Dev nD) (t : Fin cfg0.N) : (dats m 0 c).after 11 t = blockAt m c 11 t := by dsimp only [dats]
/-- and held it before. -/
theorem before_11 (c : Dev nD) (t : Fin cfg0.N) (d) : (dats m 0 c).before 11 t d = blockAt m c 11 t :=
  ((dats m 0 c).before_in_eq_fetched 11 rfl (fun _ => rfl) (fun _ _ _ => rfl) (fun t => by rw [after_11]; unfold Dat.blockOf blockAt; rw [dats_A]; try rfl) t d).trans
    (by unfold Dat.fetched Dat.blockOf blockAt; rw [dats_A]; try rfl)
/-- After a point, window 12 (stats) still holds its block, -/
theorem after_12 (c : Dev nD) (t : Fin cfg0.N) : (dats m 0 c).after 12 t = blockAt m c 12 t := by dsimp only [dats]
/-- and held it before. -/
theorem before_12 (c : Dev nD) (t : Fin cfg0.N) (d) : (dats m 0 c).before 12 t d = blockAt m c 12 t :=
  ((dats m 0 c).before_in_eq_fetched 12 rfl (fun _ => rfl) (fun _ _ _ => rfl) (fun t => by rw [after_12]; unfold Dat.blockOf blockAt; rw [dats_A]; try rfl) t d).trans
    (by unfold Dat.fetched Dat.blockOf blockAt; rw [dats_A]; try rfl)
/-- Window 13 holds what the point leaves in `gx`. -/
theorem after_13 (c : Dev nD) (t : Fin cfg0.N) : (dats m 0 c).after 13 t = (outsAt m c t.val t.isLt).gx := by dsimp only [dats]
/-- Window 14 holds what the point leaves in `dproj`. -/
theorem after_14 (c : Dev nD) (t : Fin cfg0.N) : (dats m 0 c).after 14 t = (outsAt m c t.val t.isLt).dproj := by dsimp only [dats]
/-- Window 15 holds what the point leaves in `dmat`. -/
theorem after_15 (c : Dev nD) (t : Fin cfg0.N) : (dats m 0 c).after 15 t = (outsAt m c t.val t.isLt).dmat := by dsimp only [dats]
/-- Window 16 holds what the point leaves in `dvec`. -/
theorem after_16 (c : Dev nD) (t : Fin cfg0.N) : (dats m 0 c).after 16 t = (outsAt m c t.val t.isLt).dvec := by dsimp only [dats]
/-- At a later point the accumulator `dmat` holds what the point before left. -/
theorem before_15 (c : Dev nD) (t : Fin cfg0.N) (h0 : t.val ≠ 0) (d) :
    (dats m 0 c).before 15 t d = (outsAt m c (t.val - 1) (Nat.lt_of_le_of_lt (Nat.sub_le _ _) t.isLt)).dmat := by
  have hN : t.val < 8 := lt_of_lt_of_eq t.isLt (show cfg0.N = 8 from N_0)
  rw [Dat.before_out_kept _ 15 rfl t h0 (Bool.eq_false_iff.mpr fun h => by have := (flush0_15 _).mp h; dsimp only at this; omega)
    (fun _ => rfl) (fun _ _ => rfl)]
  dsimp only [dats]
/-- At a later point the accumulator `dvec` holds what the point before left. -/
theorem before_16 (c : Dev nD) (t : Fin cfg0.N) (h0 : t.val ≠ 0) (d) :
    (dats m 0 c).before 16 t d = (outsAt m c (t.val - 1) (Nat.lt_of_le_of_lt (Nat.sub_le _ _) t.isLt)).dvec := by
  have hN : t.val < 8 := lt_of_lt_of_eq t.isLt (show cfg0.N = 8 from N_0)
  rw [Dat.before_out_kept _ 16 rfl t h0 (Bool.eq_false_iff.mpr fun h => by have := (flush0_16 _).mp h; dsimp only at this; omega)
    (fun _ => rfl) (fun _ _ => rfl)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (refs t).dr fullShare ((dats m 0 c).before 0 t d))
    ∗ (∃ d, owns (c : Thread nD τ) (refs t).drNext fullShare ((dats m 0 c).before 1 t d))
    ∗ (∃ d, owns (c : Thread nD τ) (refs t).proj fullShare ((dats m 0 c).before 2 t d))
    ∗ (∃ d, owns (c : Thread nD τ) (refs t).projPrev fullShare ((dats m 0 c).before 3 t d))
    ∗ (∃ d, owns (c : Thread nD τ) (refs t).win fullShare ((dats m 0 c).before 4 t d))
    ∗ (∃ d, owns (c : Thread nD τ) (refs t).wout fullShare ((dats m 0 c).before 5 t d))
    ∗ (∃ d, owns (c : Thread nD τ) (refs t).pw fullShare ((dats m 0 c).before 6 t d))
    ∗ (∃ d, owns (c : Thread nD τ) (refs t).ps fullShare ((dats m 0 c).before 7 t d))
    ∗ (∃ d, owns (c : Thread nD τ) (refs t).lg fullShare ((dats m 0 c).before 8 t d))
    ∗ (∃ d, owns (c : Thread nD τ) (refs t).lb fullShare ((dats m 0 c).before 9 t d))
    ∗ (∃ d, owns (c : Thread nD τ) (refs t).sw fullShare ((dats m 0 c).before 10 t d))
    ∗ (∃ d, owns (c : Thread nD τ) (refs t).sb fullShare ((dats m 0 c).before 11 t d))
    ∗ (∃ d, owns (c : Thread nD τ) (refs t).stats fullShare ((dats m 0 c).before 12 t d))
    ∗ (∃ d, owns (c : Thread nD τ) (refs t).gx fullShare ((dats m 0 c).before 13 t d))
    ∗ (∃ d, owns (c : Thread nD τ) (refs t).dproj fullShare ((dats m 0 c).before 14 t d))
    ∗ (∃ d, owns (c : Thread nD τ) (refs t).dmat fullShare ((dats m 0 c).before 15 t d))
    ∗ (∃ d, owns (c : Thread nD τ) (refs t).dvec fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (refs t).dr fullShare ((dats m 0 c).after 0 t)
    ∗ owns (c : Thread nD τ) (refs t).drNext fullShare ((dats m 0 c).after 1 t)
    ∗ owns (c : Thread nD τ) (refs t).proj fullShare ((dats m 0 c).after 2 t)
    ∗ owns (c : Thread nD τ) (refs t).projPrev fullShare ((dats m 0 c).after 3 t)
    ∗ owns (c : Thread nD τ) (refs t).win fullShare ((dats m 0 c).after 4 t)
    ∗ owns (c : Thread nD τ) (refs t).wout fullShare ((dats m 0 c).after 5 t)
    ∗ owns (c : Thread nD τ) (refs t).pw fullShare ((dats m 0 c).after 6 t)
    ∗ owns (c : Thread nD τ) (refs t).ps fullShare ((dats m 0 c).after 7 t)
    ∗ owns (c : Thread nD τ) (refs t).lg fullShare ((dats m 0 c).after 8 t)
    ∗ owns (c : Thread nD τ) (refs t).lb fullShare ((dats m 0 c).after 9 t)
    ∗ owns (c : Thread nD τ) (refs t).sw fullShare ((dats m 0 c).after 10 t)
    ∗ owns (c : Thread nD τ) (refs t).sb fullShare ((dats m 0 c).after 11 t)
    ∗ owns (c : Thread nD τ) (refs t).stats fullShare ((dats m 0 c).after 12 t)
    ∗ owns (c : Thread nD τ) (refs t).gx fullShare ((dats m 0 c).after 13 t)
    ∗ owns (c : Thread nD τ) (refs t).dproj fullShare ((dats m 0 c).after 14 t)
    ∗ owns (c : Thread nD τ) (refs t).dmat fullShare ((dats m 0 c).after 15 t)
    ∗ owns (c : Thread nD τ) (refs t).dvec fullShare ((dats m 0 c).after 16 t))

/-- What the region keeps between points: the two scratch arrays and the generator register, each at anything. -/
theorem kept_eq (c : Dev nD) : (Pipeline.ΦA (U := UR sig nD τ) (Val := Elt F) spec0 c : sProp 𝕄)
    = iprop(((∃ d, owns (c : Thread nD τ) (Memref.whole cc0_scratch0) fullShare d)
        ∗ (∃ d, owns (c : Thread nD τ) (Memref.whole cc0_scratch1) fullShare d)) ∗ ∃ r, prngReg c r) := by
  unfold Pipeline.ΦA
  rw [scopedRest0_eq]
  simp only [owns_whole]
  try rfl

/-- A buffer at stores over anything is a buffer at some contents. -/
theorem some_of_stored (c : Dev nD) {s : Shape} {e : EltTy} (M : Memref sig .tc .vmem s e) (L : List (View.Piece (Elt F) s e)) :
    (stored c M L : sProp 𝕄) ⊢ some_ c M := by
  unfold stored some_ owns
  iintro ⟨%f, H⟩
  iexists _; iexists _; isplitr
  swap; · iexact H
  ipureintro; rfl

/-- A buffer at covering stores holds their contents. -/
theorem owns_of_stored (c : Dev nD) {s : Shape} {e : EltTy} (M : Memref sig .tc .vmem s e) (L : List (View.Piece (Elt F) s e))
    (h : ∀ y : s.Idx, ∃ p ∈ L, y ∈ p.1.set) : (stored c M L : sProp 𝕄) ⊢ owns (c : Thread nD τ) M fullShare (View.canon L) := by
  unfold stored owns
  iintro ⟨%f, H⟩
  iexists _; isplitr
  swap; · iexact H
  ipureintro; exact View.read_writes_eq_canon _ _ _ h

/-- A buffer at stores over known contents holds what they leave. -/
theorem owns_of_storedOver (c : Dev nD) {s : Shape} {e : EltTy} (M : Memref sig .tc .vmem s e) (hM : M.IsWhole) (x : Vec F s e)
    (L : List (View.Piece (Elt F) s e)) : (storedOver c M hM x L : sProp 𝕄)
      ⊢ owns (c : Thread nD τ) M fullShare (M.view.read (Elt F) (M.view.writes (Elt F) (hM.unread x) L)) := by
  unfold storedOver owns
  iintro H
  iexists _; isplitr
  swap; · iexact H
  ipureintro; rfl

set_option maxHeartbeats 4000000 in
/-- The body at any point, from what the windows hold before it to what they hold after. -/
theorem body_holds (c : Dev nD) (t : Fin cfg0.N) :
    bodyPre m c t ⊢ wp frame (wpE (defs₀ (F := F)) Variants.none c none) Set.univ (body (grid0.coords t) (refs t)) (fun _ => bodyPost m c t) := by
  unfold bodyPre bodyPost
  simp only [before_0, before_1, before_2, before_3, before_4, before_5, before_6, before_7, before_8, before_9, before_10, before_11, before_12]
  rw [show (dats m 0 c).Φ t.succ = Pipeline.ΦA spec0 c from rfl, show (dats m 0 c).Φ t.castSucc = Pipeline.ΦA spec0 c from rfl, kept_eq,
    after_0, after_1, after_2, after_3, after_4, after_5, after_6, after_7, after_8, after_9, after_10, after_11, after_12, after_13, after_14, after_15, after_16]
  rw [show (dats m 0 c).owesAt () t.succ = (dats m 0 c).owesAt () t.castSucc from rfl]
  by_cases h0 : t.val = 0
  · rw [outsAt_first m c t h0]
    iintro ⟨⟨⟨HS0, HS1⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runFirst c (grid0.coords t) (refs t) ((first_iff t).mpr h0) (insAt m c t)).2.2.2.2.2.2 _)
    isplitl [H0 H1 H2 H3 H4 H5 H6 H7 H8 H9 H10 H11 H12]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    unfold held
    iintro ⟨⟨H0, H1, H2, H3, H4, H5, H6, H7, H8, H9, H10, H11, H12⟩, H13, H14, H15, H16, HS0, HS1⟩
    isplitl [HS0 HS1 Hg]
    · isplitl [HS0 HS1]
      · isplitl [HS0]; · iapply (some_of_stored c _ _); iexact HS0
        iapply (some_of_stored c _ _); iexact HS1
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (owns_of_stored c _ _ (cover_gx_first c _ _ _ _)); iexact H13
    isplitl [H14]; · iapply (owns_of_stored c _ _ (cover_dproj_first c _ _ _ _)); iexact H14
    isplitl [H15]; · iapply (owns_of_stored c _ _ (cover_dmat_first c _ _ _ _)); iexact H15
    iapply (owns_of_stored c _ _ (cover_dvec_first c _ _ _ _)); iexact H16
  · simp only [before_15 m c t h0, before_16 m c t h0]
    rw [outsAt_later m c t h0]
    iintro ⟨⟨⟨HS0, HS1⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runLater c (grid0.coords t) (refs t) (fun h' => h0 ((first_iff t).mp h')) (insAt m c t) _ _).2.2.2.2.2.2 _)
    isplitl [H0 H1 H2 H3 H4 H5 H6 H7 H8 H9 H10 H11 H12]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexists _; iexact H14
    isplitl [H15]; · iexact H15
    isplitl [H16]; · iexact H16
    isplitl [HS0]; · iexact HS0
    isplitl [HS1]; · iexact HS1
    unfold held
    iintro ⟨⟨H0, H1, H2, H3, H4, H5, H6, H7, H8, H9, H10, H11, H12⟩, H13, H14, H15, H16, HS0, HS1⟩
    isplitl [HS0 HS1 Hg]
    · isplitl [HS0 HS1]
      · isplitl [HS0]; · iapply (some_of_stored c _ _); iexact HS0
        iapply (some_of_stored c _ _); iexact HS1
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (owns_of_stored c _ _ (cover_gx_later c _ _ _ _ _ _)); iexact H13
    isplitl [H14]; · iapply (owns_of_stored c _ _ (cover_dproj_later c _ _ _ _ _ _)); iexact H14
    isplitl [H15]; · iapply (owns_of_storedOver c _ _ _ _); iexact H15
    iapply (owns_of_storedOver c _ _ _ _); iexact H16

/-- The table's row for the body at point `t`. -/
theorem row (t : Fin cfg0.N) :
    defs₀ (F := F) .tc cfg0.body (cfg0.bodyArgs t (cfg0.slots t)) = body (grid0.coords t) (refs t) := by
  unfold defs₀; rw [Defs.onTc_tc]

/-- The pipeline's demand on the body, at every point. -/
theorem obligation (c : Dev nD) : BodyObligation (dats (F := F) m 0 c) (defs₀ (F := F)) Variants.none () Set.univ := fun t => by
  rw [bigSep_W0, bigSep_W0, row]
  exact triple_restated (body_holds m c t) rfl .rfl fun _ => .rfl

/-! ## The run -/

set_option backward.isDefEq.respectTransparency.types false in
/-- Every run ends with the pipeline's arrays at what the proof data say, every other buffer as the region found it, and all
    counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := dats_A m) (hΦ := fun _ _ => rfl)

/-- The contents alone. -/
theorem run_main : θ_run defs (onTc (τ := τ) (main (F := F))) (s₀ m ρ) (Pipeline.FramePost cfgs (dats m) 0 (V m)) :=
  (θ_run defs _ _).mono (fun _ h => h.1) (run_quiet m ρ)

/-- The buffers the host operations write. -/
def hostWrites : List (Ref sig .tc) := [main_v0, main_v1, main_v2, main_v3, main_v4, main_v5, main_v6, main_v7, main_v8, main_v9, main_v10, main_v11]

/-- A buffer that is none of them is written by no host operation. -/
theorem untouched (b : Ref sig .tc) (h : ∀ b' ∈ hostWrites, b ≠ b') :
    (hostOps0 : List (HloOp τ sig (Elt F))).Forall fun op => Proc.devRef .tc b ∉ op.writes := by
  simp only [hostWrites, List.forall_mem_cons] at h
  obtain ⟨h0, h1, h2, h3, h4, h5, h6, h7, h8, h9, h10, h11, -⟩ := h
  simp only [hostOps0, List.Forall, StableHlo.unary_writes, StableHlo.binary_writes, StableHlo.reshape_writes, Finset.mem_singleton]
  refine ⟨?_, ?_, ?_, ?_, ?_, ?_, ?_, ?_, ?_, ?_, ?_, ?_⟩ <;> exact StableHlo.devRef_ne_of_ne (by assumption)

/-- What the pipeline leaves keeps the arguments. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((dats_A m c 0).trans (V_kept m c main_arg0 (untouched main_arg0 (by decide))))),
    ((h c).2 main_arg1 (Pipeline.mem_restRefs_of main_arg1 (by decide) (by decide))).trans (V_kept m c main_arg1 (untouched main_arg1 (by decide))),
    ((h c).2 main_arg2 (Pipeline.mem_restRefs_of main_arg2 (by decide) (by decide))).trans (V_kept m c main_arg2 (untouched main_arg2 (by decide))),
    ((h c).2 main_arg3 (Pipeline.mem_restRefs_of main_arg3 (by decide) (by decide))).trans (V_kept m c main_arg3 (untouched main_arg3 (by decide))),
    ((h c).2 main_arg4 (Pipeline.mem_restRefs_of main_arg4 (by decide) (by decide))).trans (V_kept m c main_arg4 (untouched main_arg4 (by decide))),
    ((h c).1 7).trans (((dats m 0 c).arrAt_in 7 rfl _).trans ((dats_A m c 7).trans (V_kept m c main_arg5 (untouched main_arg5 (by decide))))),
    ((h c).1 8).trans (((dats m 0 c).arrAt_in 8 rfl _).trans ((dats_A m c 8).trans (V_kept m c main_arg6 (untouched main_arg6 (by decide))))),
    ((h c).1 9).trans (((dats m 0 c).arrAt_in 9 rfl _).trans ((dats_A m c 9).trans (V_kept m c main_arg7 (untouched main_arg7 (by decide))))),
    ((h c).2 main_arg8 (Pipeline.mem_restRefs_of main_arg8 (by decide) (by decide))).trans (V_kept m c main_arg8 (untouched main_arg8 (by decide))),
    ((h c).2 main_arg9 (Pipeline.mem_restRefs_of main_arg9 (by decide) (by decide))).trans (V_kept m c main_arg9 (untouched main_arg9 (by decide))),
    ((h c).1 12).trans (((dats m 0 c).arrAt_in 12 rfl _).trans ((dats_A m c 12).trans (V_kept m c main_arg10 (untouched main_arg10 (by decide)))))⟩

/-- Every run ends with the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hq => ⟨args_kept m r hq.1, hq.2⟩) (run_quiet m ρ)

/-- Every run ends with the four results that the write-backs name, the arguments unchanged. -/
theorem run_arrays : θ_run defs (onTc (τ := τ) (main (F := F))) ⟨m, fun _ => 0, ρ⟩ (fun r => ∀ c : Dev nD,
      r.2.mem ((c.tc : Thread nD τ).loc main_v12_0) = (dats m 0 c).arrAt 13 (cfgs 0).N
      ∧ r.2.mem ((c.tc : Thread nD τ).loc main_v12_1) = (dats m 0 c).arrAt 14 (cfgs 0).N
      ∧ r.2.mem ((c.tc : Thread nD τ).loc main_v12_2) = (dats m 0 c).arrAt 15 (cfgs 0).N
      ∧ r.2.mem ((c.tc : Thread nD τ).loc main_v12_3) = (dats m 0 c).arrAt 16 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1 13, (h c).1 14, (h c).1 15, (h c).1 16, args_kept m r h c⟩) (run_main m ρ)

end Cert.Kernel2Ideal.Mixer

end
-- ==== Proof.MixerBits.lean ====
/- The frame of the mixer's backward pass as the machine computes it: the idealized text, its named constants at the words
   the kernel has. -/
module

public import proofs.«01_k».proof.Proof.MixerFrame
public import proofs.«01_k».proof.Defs
public import proofs.«01_k».proof.Proof.Gen.Kernel2

@[expose] public section

set_option maxRecDepth 16384

noncomputable section

namespace Cert.Kernel2.Mixer

open Idealize.ShloMosaic Idealize.ShloMosaic.TcCoe Idealize.SL.Sem Idealize.ShloMosaic.Tactic

/-- At the machine's words a named constant is the word it was printed with. -/
local instance atWords : Named Bits := ⟨fun _ _ _ b => Scalar.ofBits _ b⟩

/-- The two host programs are one text, -/
theorem main_eq : Cert.Kernel2.main (F := Bits) = Cert.Kernel2Ideal.main (F := Bits) := rfl

/-- and so are the two tables of bodies. -/
theorem defs_eq : Cert.Kernel2.defs (F := Bits) = Cert.Kernel2Ideal.defs (F := Bits) := by sl_kernel_rfl

/-- The kernel runs, its arguments end unchanged and all counters at zero. -/
theorem frame : Cert.quiescent_Kernel2 := fun m ρ _ => by
  rw [main_eq, defs_eq]
  exact Cert.Kernel2Ideal.Mixer.frame (F := Bits) m ρ

end Cert.Kernel2.Mixer

end
-- ==== Proof.MixerNorm.lean ====
/- The mixer's reference: the gradients of the layer norm and of the Gaussian units. -/
module

public import proofs.«01_k».proof.Proof.MixerMix

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-- The derivative's rule at the cotangent `y`. -/
theorem gelu_rule (y z : ℝ) : -(0.5 * z * y * (-2 / Real.sqrt Real.pi * Real.exp (-(-(z * (Real.sqrt 2)⁻¹) * -(z * (Real.sqrt 2)⁻¹)))) / Real.sqrt 2)
    + 0.5 * (y * (1 + Mix.erf (z * (Real.sqrt 2)⁻¹))) = y * gelu' z := by
  have e : -(-(z * (Real.sqrt 2)⁻¹) * -(z * (Real.sqrt 2)⁻¹)) = -0.5 * z * z := by
    have h : (Real.sqrt 2)⁻¹ * (Real.sqrt 2)⁻¹ = 0.5 := by rw [← mul_inv, Real.mul_self_sqrt two_pos.le]; norm_num
    linear_combination (-z * z) * h
  have q := root_two_ne
  have r : Real.sqrt Real.pi ≠ 0 := (Real.sqrt_pos.2 Real.pi_pos).ne'
  rw [e, gelu', Real.sqrt_mul two_pos.le]
  field_simp
  ring

section
variable (k : Mix.Args A0 A1 A2 A3 A4 A5 A6 A7 A8 A9 P x d)
include k

/-- The gradients of the layer norm's shift -/
theorem v180 (c : Fin 512) : val_main_v180 (F := Ideal) A0 A1 A2 A3 A8 (ix1 c)
    = ((∑ b : Fin 4, ∑ t : Fin 2048, dvln P (seq P x d b) t.val c : ℝ) : EReal) := by
  pointwise [val_main_v180, val_main_cst_32, val_main_v179]
  refine (sum_first_two _ _ _ c).trans ?_
  simp only [Fin.sum_univ_one]
  pointwise [val_main_v178, val_main_cst_31]
  refine (sum_first_two _ _ _ c).trans ?_
  pointwise [v177 k _ _ _]
  simp only [coe_sum, zero_add]

/-- and of its scale. -/
theorem v186 (c : Fin 512) : val_main_v186 (F := Ideal) A0 A1 A2 A3 A8 (ix1 c)
    = ((∑ b : Fin 4, ∑ t : Fin 2048, dvln P (seq P x d b) t.val c * Mix.hat (v (seq P x d b) t.val) c : ℝ) : EReal) := by
  pointwise [val_main_v186, val_main_cst_34, val_main_v183]
  refine (sum_first_two _ _ _ c).trans ?_
  simp only [Fin.sum_univ_one]
  pointwise [val_main_v182, val_main_cst_33]
  refine (sum_first_two _ _ _ c).trans ?_
  pointwise [val_main_v181, v131 k _ _ _, v177 k _ _ _]
  simp only [← EReal.coe_mul, coe_sum, zero_add, mul_comm (Mix.hat _ _)]

theorem v185 : Holds3 (val_main_v185 (F := Ideal) A0 A1 A2 A3 A6 A8) fun b t j => dvln P (seq P x d b) t j * P.lg j := by
  intro b t j
  pointwise [val_main_v185, val_main_v184, val_main_v132, val_main_v103, k.lg _ _, v177 k _ _ _]
  rw [← EReal.coe_mul]

theorem v189 : Holds3 (n := 1) (val_main_v189 (F := Ideal) A0 A1 A2 A3 A6 A8) fun b t _ =>
    ∑ l, Mix.cen (v (seq P x d b) t) l * (dvln P (seq P x d b) t l * P.lg l) := by
  intro b t j
  pointwise [val_main_v189, val_main_v188, val_main_v187, val_main_cst_35, v123 k _ _ _, v185 k _ _ _]
  simp only [← EReal.coe_mul, coe_sum, zero_add]

theorem v191 : Holds3 (val_main_v191 (F := Ideal) A0 A1 A2 A3 A6 A8) fun b t j =>
    dvln P (seq P x d b) t j * P.lg j * Mix.inv (v (seq P x d b) t) := by
  intro b t j
  pointwise [val_main_v191, val_main_v190, v126 k _ _ _, v185 k _ _ _]
  rw [← EReal.coe_mul]

theorem v200 : Holds3 (val_main_v200 (F := Ideal) A0 A1 A2 A3 A6 A8) fun b t j =>
    (∑ l, Mix.cen (v (seq P x d b) t) l * (dvln P (seq P x d b) t l * P.lg l))
      * (-0.5 * (Mix.inv (v (seq P x d b) t) / (Mix.var (v (seq P x d b) t) + eps))) / 512 * (2 * Mix.cen (v (seq P x d b) t) j) := by
  intro b t j
  pointwise [val_main_v200, val_main_v199, val_main_v198, val_main_cst_38, val_main_v197, val_main_v196, val_main_cst_37, val_main_v192,
    v189 k _ _ _, v129 k _ _ _, v117 k _ _ _, bits_512]
  simp only [Fin.sum_univ_one, ← EReal.coe_mul, div_512]

/-- The values' cotangent. -/
theorem v210 : Holds3 (val_main_v210 (F := Ideal) A0 A1 A2 A3 A6 A8) fun b t => dv P (seq P x d b) t := by
  intro b t j
  pointwise [val_main_v210, val_main_v209, val_main_v208, val_main_cst_41, val_main_v207, val_main_v206, val_main_cst_40, val_main_v205,
    val_main_v204, val_main_v203, val_main_v202, val_main_v201, val_main_cst_39, val_main_v195, val_main_v194, val_main_v193,
    val_main_cst_36, v191 k _ _ _, v200 k _ _ _, bits_512]
  simp only [Fin.sum_univ_one, ← EReal.coe_neg, coe_sum, ← EReal.coe_add, div_512, zero_add]
  exact congrArg Real.toEReal (Mix.normGrad_rules _ _ _ _)

/-- The cotangent of the Gaussian units' results, gates and values. -/
theorem v213 : Holds3 (val_main_v213 (F := Ideal) A0 A1 A2 A3 A6 A7 A8 A9) fun b t j =>
    if h : j.val < 512 then du P (seq P x d b) t ⟨j.val, h⟩ else dv P (seq P x d b) t ⟨j.val - 512, by omega⟩ := by
  intro b t j
  pointwise [val_main_v213, val_main_v212, val_main_v211, val_main_cst_42, val_main_cst_43, v210 k _ _ _, v165 k _ _ _]
  by_cases h : j.val < 512
  · rw [dif_pos h, dif_pos h, dif_neg fun q => by omega, zero_add]
  · rw [dif_neg h, dif_neg h, dif_pos ⟨by omega, by omega⟩, add_zero]

/-- The Gaussian units' cotangent. -/
theorem v302 : Holds3 (val_main_v302 (F := Ideal) A0 A1 A2 A3 A6 A7 A8 A9) fun b t j =>
    (if h : j.val < 512 then du P (seq P x d b) t ⟨j.val, h⟩ else dv P (seq P x d b) t ⟨j.val - 512, by omega⟩)
      * gelu' (zz (seq P x d b) t j) := by
  intro b t j
  pointwise [val_main_v302, val_main_v301, val_main_v300, val_main_cst_62, val_main_v299, val_main_v298, val_main_v297, val_main_v296,
    val_main_v295, val_main_v294, val_main_v21, val_main_v20, val_main_v19, val_main_v18, val_main_v17, val_main_v14, val_main_v7,
    val_main_v6, val_main_cst_0, v9, v16, bits_half, v11 k _ _ _, v5 k _ _ _, v213 k _ _ _]
  rw [erfc_neg_real]
  simp only [← EReal.coe_mul, ← EReal.coe_neg, Ideal.exp_coe, ← EReal.coe_add, div_coe_coe _ _ root_two_ne]
  exact congrArg Real.toEReal (gelu_rule _ _)

end

end Cert.Reference2Ideal.Meaning

end
-- ==== Proof.MixerBackward.lean ====
/- The mixer's reference: the pooled half, backwards. -/
module

public import proofs.«01_k».proof.Proof.MixerWindows
public import proofs.«01_k».proof.Proof.MixerNorm

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-- A row's share of the pooled cotangent. -/
def share (P : Mix.Weights) (S : Mix.Seq) (g : Fin 4) (j : Fin 128) (t : ℕ) : ℝ := dpool P S t g j * recip (width g) t

/-- The cotangent of the running sums before row `r`: what ends there less what begins there. -/
def ends (q : ℕ → ℝ) (w r : ℕ) : ℝ := (if 1 ≤ r then q (r - 1) else 0) - if r + w < 2048 then q (r + w) else 0

theorem ends_real (q : ℕ → ℝ) (w r : ℕ) (hr : r < 2049) :
    (((if h : 1 ≤ r ∧ r - 1 < 2048 then ((q (r - 1) : ℝ) : EReal) else 0) +
      if h : w + r < 2048 then -((q (w + r) : ℝ) : EReal) else 0) : EReal) = ((ends q w r : ℝ) : EReal) := by
  unfold ends
  rw [Nat.add_comm w r, sub_eq_add_neg, EReal.coe_add]
  congr 1
  · by_cases h : 1 ≤ r
    · rw [dif_pos ⟨h, by omega⟩, if_pos h]
    · rw [dif_neg (fun e => h e.1), if_neg h]; rfl
  · by_cases h : r + w < 2048
    · rw [dif_pos h, if_pos h]; rfl
    · rw [dif_neg h, if_neg h, neg_zero]; rfl

/-- Four groups, each written into its own columns and added. -/
theorem columns (F : Fin 4 → Fin 128 → EReal) (c : Fin 512) :
    ((((if h : 384 ≤ c.val ∧ c.val - 384 < 128 then F 3 ⟨c.val - 384, h.2⟩ else 0) +
      if h : 256 ≤ c.val ∧ c.val - 256 < 128 then F 2 ⟨c.val - 256, h.2⟩ else 0) +
      if h : 128 ≤ c.val ∧ c.val - 128 < 128 then F 1 ⟨c.val - 128, h.2⟩ else 0) +
      if h : c.val < 128 then F 0 ⟨c.val, h⟩ else 0) = F (grp c) (lane c) := by
  have at_ : ∀ (g : Fin 4) (j : Fin 128), g.val * 128 + j.val = c.val → F (grp c) (lane c) = F g j := by
    intro g j e
    have e1 : grp c = g := Fin.ext (by show c.val / 128 = _; omega)
    have e2 : lane c = j := Fin.ext (by show c.val % 128 = _; omega)
    rw [e1, e2]
  have hc := c.isLt
  by_cases h3 : 384 ≤ c.val
  · rw [dif_pos ⟨h3, by omega⟩, dif_neg (by omega), dif_neg (by omega), dif_neg (by omega), add_zero, add_zero, add_zero]
    exact (at_ 3 ⟨c.val - 384, by omega⟩ (by show 3 * 128 + (c.val - 384) = _; omega)).symm
  by_cases h2 : 256 ≤ c.val
  · rw [dif_neg (by omega), dif_pos ⟨h2, by omega⟩, dif_neg (by omega), dif_neg (by omega), add_zero, add_zero, zero_add]
    exact (at_ 2 ⟨c.val - 256, by omega⟩ (by show 2 * 128 + (c.val - 256) = _; omega)).symm
  by_cases h1 : 128 ≤ c.val
  · rw [dif_neg (by omega), dif_neg (by omega), dif_pos ⟨h1, by omega⟩, dif_neg (by omega), add_zero, add_zero, zero_add]
    exact (at_ 1 ⟨c.val - 128, by omega⟩ (by show 1 * 128 + (c.val - 128) = _; omega)).symm
  · rw [dif_neg (by omega), dif_neg (by omega), dif_neg (by omega), dif_pos (by omega), add_zero, zero_add, zero_add]
    exact (at_ 0 ⟨c.val, by omega⟩ (by show 0 * 128 + c.val = _; omega)).symm

section
variable (k : Mix.Args A0 A1 A2 A3 A4 A5 A6 A7 A8 A9 P x d)
include k

/-- Group 3's columns of the pooled cotangent. -/
theorem v239 : Holds3 (val_main_v239 (F := Ideal) A0 A3 A4 A5) fun b t => dpool P (seq P x d b) t 3 := by
  intro b t j
  pointwise [val_main_v239, val_main_v238, v228 k _ _ _ _]

theorem v243 : Holds3 (val_main_v243 (F := Ideal) A0 A3 A4 A5) fun b t j => share P (seq P x d b) 3 j t := by
  intro b t j
  pointwise [val_main_v243, val_main_v242, val_main_v83, val_main_v82, val_main_v81, val_main_v80, val_main_c_18, val_main_v29, val_main_v28,
    val_main_c, val_main_v27, v239 k _ _ _]
  rw [count_from_one]
  exact share_word _ _ 16 (by omega) (by decide) (by decide)

theorem v249 (b : Fin 4) (r : Fin 2049) (j : Fin 128) : val_main_v249 (F := Ideal) A0 A3 A4 A5 (ix3 b r j)
    = ((ends (share P (seq P x d b) 3 j) 15 r.val : ℝ) : EReal) := by
  pointwise [val_main_v249, val_main_v248, val_main_v246, val_main_v245, val_main_v244, val_main_cst_47, val_main_cst_48, v243 k _ _ _]
  exact ends_real _ _ _ r.isLt

/-- Group 2's columns of the pooled cotangent. -/
theorem v237 : Holds3 (val_main_v237 (F := Ideal) A0 A3 A4 A5) fun b t => dpool P (seq P x d b) t 2 := by
  intro b t j
  pointwise [val_main_v237, val_main_v236, v228 k _ _ _ _]

theorem v255 : Holds3 (val_main_v255 (F := Ideal) A0 A3 A4 A5) fun b t j => share P (seq P x d b) 2 j t := by
  intro b t j
  pointwise [val_main_v255, val_main_v254, val_main_v68, val_main_v67, val_main_v66, val_main_v65, val_main_c_15, val_main_v29, val_main_v28,
    val_main_c, val_main_v27, v237 k _ _ _]
  rw [count_from_one]
  exact share_word _ _ 8 (by omega) (by decide) (by decide)

theorem v261 (b : Fin 4) (r : Fin 2049) (j : Fin 128) : val_main_v261 (F := Ideal) A0 A3 A4 A5 (ix3 b r j)
    = ((ends (share P (seq P x d b) 2 j) 7 r.val : ℝ) : EReal) := by
  pointwise [val_main_v261, val_main_v260, val_main_v258, val_main_v257, val_main_v256, val_main_cst_51, val_main_cst_52, v255 k _ _ _]
  exact ends_real _ _ _ r.isLt

/-- Group 1's columns of the pooled cotangent. -/
theorem v235 : Holds3 (val_main_v235 (F := Ideal) A0 A3 A4 A5) fun b t => dpool P (seq P x d b) t 1 := by
  intro b t j
  pointwise [val_main_v235, val_main_v234, v228 k _ _ _ _]

theorem v268 : Holds3 (val_main_v268 (F := Ideal) A0 A3 A4 A5) fun b t j => share P (seq P x d b) 1 j t := by
  intro b t j
  pointwise [val_main_v268, val_main_v267, val_main_v53, val_main_v52, val_main_v51, val_main_v50, val_main_c_12, val_main_v29, val_main_v28,
    val_main_c, val_main_v27, v235 k _ _ _]
  rw [count_from_one]
  exact share_word _ _ 4 (by omega) (by decide) (by decide)

theorem v274 (b : Fin 4) (r : Fin 2049) (j : Fin 128) : val_main_v274 (F := Ideal) A0 A3 A4 A5 (ix3 b r j)
    = ((ends (share P (seq P x d b) 1 j) 3 r.val : ℝ) : EReal) := by
  pointwise [val_main_v274, val_main_v273, val_main_v271, val_main_v270, val_main_v269, val_main_cst_55, val_main_cst_56, v268 k _ _ _]
  exact ends_real _ _ _ r.isLt

/-- Group 0's columns of the pooled cotangent. -/
theorem v233 : Holds3 (val_main_v233 (F := Ideal) A0 A3 A4 A5) fun b t => dpool P (seq P x d b) t 0 := by
  intro b t j
  pointwise [val_main_v233, val_main_v232, v228 k _ _ _ _]

theorem v281 : Holds3 (val_main_v281 (F := Ideal) A0 A3 A4 A5) fun b t j => share P (seq P x d b) 0 j t := by
  intro b t j
  pointwise [val_main_v281, val_main_v280, val_main_v38, val_main_v37, val_main_v36, val_main_v35, val_main_c_9, val_main_v29, val_main_v28,
    val_main_c, val_main_v27, v233 k _ _ _]
  rw [count_from_one]
  exact share_word _ _ 2 (by omega) (by decide) (by decide)

theorem v287 (b : Fin 4) (r : Fin 2049) (j : Fin 128) : val_main_v287 (F := Ideal) A0 A3 A4 A5 (ix3 b r j)
    = ((ends (share P (seq P x d b) 0 j) 1 r.val : ℝ) : EReal) := by
  pointwise [val_main_v287, val_main_v286, val_main_v284, val_main_v283, val_main_v282, val_main_cst_59, val_main_cst_60, v281 k _ _ _]
  exact ends_real _ _ _ r.isLt

/-- What ends and begins at a row, all groups' columns. -/
theorem v291 : Holds3 (val_main_v291 (F := Ideal) A0 A3 A4 A5) fun b t c =>
    ends (share P (seq P x d b) (grp c) (lane c)) (width (grp c) - 1) (t + 1) := by
  intro b t c
  pointwise [val_main_v291, val_main_v289, val_main_v288, val_main_v276, val_main_v275, val_main_v263, val_main_v262, val_main_v250, val_main_cst_49,
    val_main_cst_53, val_main_cst_57, val_main_cst_61, v249 k _ _ _, v287 k _ _ _, v274 k _ _ _, v261 k _ _ _]
  have low : 1 + t.val < 2049 := by have := t.isLt; omega
  simp only [low, true_and]
  refine (columns (fun g j => ((ends (share P (seq P x d b) g j) (width g - 1) (1 + t.val) : ℝ) : EReal)) c).trans ?_
  rw [Nat.add_comm 1 t.val]

/-- Less the pooled cotangent itself, all groups' columns. -/
theorem v279 : Holds3 (val_main_v279 (F := Ideal) A0 A3 A4 A5) fun b t c => -dpool P (seq P x d b) t (grp c) (lane c) := by
  intro b t c
  pointwise [val_main_v279, val_main_v278, val_main_v277, val_main_v266, val_main_v265, val_main_v264, val_main_v253, val_main_v252, val_main_v251,
    val_main_v241, val_main_v240, val_main_cst_46, val_main_cst_50, val_main_cst_54, val_main_cst_58, v239 k _ _ _, v237 k _ _ _, v235 k _ _ _, v233 k _ _ _]
  exact columns (fun g j => ((-dpool P (seq P x d b) t.val g j : ℝ) : EReal)) c

/-- The shares of the windows that hold a row. -/
theorem v292 : Holds3 (val_main_v292 (F := Ideal) A0 A3 A4 A5) fun b t c =>
    ahead (width (grp c)) (share P (seq P x d b) (grp c) (lane c)) t := by
  intro b t c
  unfold val_main_v292
  refine (running_sum_back _ _ _ _ (by pointwise [val_main_call2_call0_v0, val_main_call2_call0_cst]) (fun s => ends (share P (seq P x d b) (grp c) (lane c)) (width (grp c) - 1) (s + 1)) b c
    (fun s => v291 k b s c) t).trans ?_
  refine congrArg ((↑) : ℝ → EReal) ?_
  refine Eq.trans ?_ (ahead_sum _ _ _ (by have := t.isLt; omega))
  refine Finset.sum_congr rfl fun i hi => ?_
  have hi' := Finset.mem_range.mp hi
  have hw : 1 ≤ width (grp c) := Nat.one_le_two_pow
  unfold ends
  have e1 : t.val + i + 1 + (width (grp c) - 1) = t.val + i + width (grp c) := by omega
  rw [if_pos (by omega : 1 ≤ t.val + i + 1), if_pos (by omega : t.val + i < 2048), e1, Nat.add_sub_cancel]

/-- The cotangent of the pooled half of the projection. -/
theorem v293 : Holds3 (val_main_v293 (F := Ideal) A0 A3 A4 A5) fun b t c => dxp P (seq P x d b) t (grp c) (lane c) := by
  intro b t c
  pointwise [val_main_v293, v279 k _ _ _, v292 k _ _ _]
  rw [← EReal.coe_add]
  congr 1
  unfold dxp
  rw [neg_add_eq_sub]
  rfl

/-- The projection's cotangent. -/
theorem v305 : Holds3 (val_main_v305 (F := Ideal) A0 A1 A2 A3 A4 A5 A6 A7 A8 A9) fun b t c => dproj P (seq P x d b) t c := by
  intro b t c
  pointwise [val_main_v305, val_main_v304, val_main_v303, val_main_cst_63, val_main_cst_64, v293 k _ _ _, v302 k _ _ _]
  have hc := c.isLt
  by_cases h1 : c.val < 512
  · rw [dif_neg (by omega), dif_pos h1, zero_add, dproj_pool _ _ _ (grp ⟨c.val, h1⟩) (lane ⟨c.val, h1⟩) c (by show c.val = 128 * (c.val / 128) + c.val % 128; omega)]
  rw [dif_pos ⟨by omega, by omega⟩, dif_neg h1, add_zero]
  by_cases h2 : c.val < 1024
  · rw [dif_pos (by omega), dproj_gate _ _ _ ⟨c.val - 512, by omega⟩ c (by dsimp only; omega), zz_gate _ _ ⟨c.val - 512, by omega⟩ _]
  · rw [dif_neg (by omega), dproj_value _ _ _ ⟨c.val - 512 - 512, by omega⟩ c (by dsimp only; omega),
      show zz (seq P x d b) t.val ⟨c.val - 512, _⟩ = zv (seq P x d b) t.val ⟨c.val - 512 - 512, by omega⟩ from
        congrArg ((seq P x d b).p t.val) (Fin.ext (by dsimp only; omega))]

/-- The cotangent of the layer's input. -/
theorem v307 : Holds3 (val_main_v307 (F := Ideal) A0 A1 A2 A3 A4 A5 A6 A7 A8 A9) fun b t j => gx P (seq P x d b) t j := by
  intro b t j
  pointwise [val_main_v307, val_main_v306, val_main_v1, v161 k _ _ _, v305 k _ _ _, k.win _ _ _]
  simp only [← EReal.coe_mul, ← EReal.coe_add, coe_sum]
  rfl

end

end Cert.Reference2Ideal.Meaning

end
-- ==== Proof.MixerPool.lean ====
/- The pooled half of one tile of the mixer's backward pass, from the blocks a grid point reads. -/
module

public import proofs.«01_k».proof.Proof.MixerRoll
public import proofs.«01_k».proof.Proof.MixerRun
public import Idealize.ShloMosaic.Lib.WholeRead

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix

/-- The blocks a point reads hold the sequence's rows from `1024 * e` on, the sixteen rows before and after them where
    there are such, and the weights. -/
structure Reads (P : Mix.Weights) (S : Seq) (i : grid0.Coords) (e : ℕ) (X : Ins Ideal) : Prop where
  half : (i 0).val % 2 = e
  dr : Holds (φ := .f32) X.dr fun r k => S.d (1024 * e + r.val) k
  next : e = 0 → Holds (φ := .f32) X.drNext fun r k => S.d (1024 + r.val) k
  proj : Holds (φ := .f32) X.proj fun r k => S.p (1024 * e + r.val) k
  prev : e = 1 → Holds (φ := .f32) X.projPrev fun r k => S.p (1008 + r.val) ⟨k.val, by omega⟩
  win : Holds (φ := .bf16) X.win fun c k => P.win k c
  wout : Holds (φ := .bf16) X.wout fun c k => P.wout c k
  pw : ∀ g k j, X.pw (ix3 g k j) = ((P.pw g k j : ℝ) : EReal)
  ps : Holds (φ := .f32) X.ps fun _ => P.ps
  lg : Holds (φ := .f32) X.lg fun _ => P.lg
  lb : Holds (φ := .f32) X.lb fun _ => P.lb
  sw : ∀ h p s, X.sw (ix3 h p s) = ((P.sw h p s : ℝ) : EReal)
  sb : Holds (φ := .f32) X.sb fun p h => P.sb h p

variable {P : Mix.Weights} {S : Seq} {i : grid0.Coords} {e : ℕ} {X : Ins Ideal} (c : Dev nD) (R : Refs)

theorem Reads.two (h : Reads P S i e X) : e = 0 ∨ e = 1 := by
  have := h.half; omega

/-- The tile's place in its sequence, as a word. -/
theorem place (i : grid0.Coords) : runLater.sl.v9 i = BitVec.ofNat 32 ((i 0).val % 2) := by
  have h : ∀ q : Fin 8, Scalar.select (Scalar.andi (Scalar.xori (Scalar.cmpi .slt (Scalar.remsi (BitVec.ofNat 32 q.val) 2#32) 0#32) 0#1)
      (Scalar.cmpi .ne (Scalar.remsi (BitVec.ofNat 32 q.val) 2#32) 0#32)) (Scalar.addi (Scalar.remsi (BitVec.ofNat 32 q.val) 2#32) 2#32)
      (Scalar.remsi (BitVec.ofNat 32 q.val) 2#32) = BitVec.ofNat 32 (q.val % 2) := by decide
  exact h (i 0)

theorem dmix17 (h : Reads P S i e X) :
    Holds (φ := .f32) (runLater.sl.v17 (F := Ideal) c R X) fun r => dmix P S (1024 * e + r.val) := by
  intro r j
  pointwise [runLater.sl.v17, runLater.sl.v14, runLater.sl.v16, Memref.IsWhole.readAt_unread, h.dr _ _, h.wout _ _,
    runLater.sl.cst]
  simp only [← EReal.coe_mul, coe_sum, zero_add]
  rfl

theorem proj27 (h : Reads P S i e X) :
    Holds (φ := .f32) (runLater.sl.v27 (F := Ideal) c R X) fun r => S.p (1024 * e + r.val) := by
  intro r j
  pointwise [runLater.sl.v27, Memref.IsWhole.readAt_unread, h.proj _ _]

/-- The pooled columns of the sixteen rows before the tile; zero before the sequence. -/
theorem before32 (h : Reads P S i e X) :
    Holds (φ := .f32) (runLater.sl.v32 (F := Ideal) c i R X) fun r k =>
      if 16 ≤ 1024 * e + r.val then xp S (1024 * e + r.val - 16) k else 0 := by
  have hq := h.half
  intro r j
  have hr := r.isLt
  dsimp only
  rcases h.two with rfl | rfl
  · rw [if_neg (by omega)]
    pointwise [runLater.sl.v32, runLater.sl.v28, place, hq, runLater.sl.v24, runLater.sl.cst_14]
    rfl
  · rw [if_pos (by omega), show 1024 * 1 + r.val - 16 = 1008 + r.val by omega]
    pointwise [runLater.sl.v32, runLater.sl.v28, place, hq, runLater.sl.v24, runLater.sl.v30,
      Memref.IsWhole.readAt_unread, (h.prev rfl) _ _]
    rfl

/-- The pooled half's cotangent in the sixteen rows after the tile; zero after the sequence. -/
theorem after25 (h : Reads P S i e X) :
    Holds (φ := .f32) (runLater.sl.v25 (F := Ideal) c i R X) fun r k =>
      if e = 0 then dpo P S (1024 + r.val) k else 0 := by
  have hq := h.half
  intro r j
  dsimp only
  rcases h.two with rfl | rfl
  · rw [if_pos rfl]
    pointwise [runLater.sl.v25, runLater.sl.v23, place, hq, runLater.sl.v24, runLater.sl.v22, runLater.sl.v19, runLater.sl.v21,
      Memref.IsWhole.readAt_unread, (h.next rfl) _ _, h.wout _ _, runLater.sl.cst_12]
    show ∑ k, (S.d (1024 + r.val) k : EReal) * (P.wout ⟨j.val, by omega⟩ k : EReal) = _
    simp only [← EReal.coe_mul, coe_sum]
    rfl
  · rw [if_neg (by omega)]
    pointwise [runLater.sl.v25, runLater.sl.v23, place, hq, runLater.sl.v24, runLater.sl.cst_14]
    rfl

theorem pos43 (h : Reads P S i e X) (r : Fin 1024) :
    runLater.sl.v43 i (ix2 r 0) = BitVec.ofNat 32 (1024 * e + r.val + 1) := by
  pointwise [runLater.sl.v43, runLater.sl.v36, runLater.sl.v35, runLater.sl.v34, runLater.sl.v33, place, h.half, runLater.sl.v42]
  show BitVec.ofNat 32 e * BitVec.ofNat 32 1024 + BitVec.ofNat 32 r.val + BitVec.ofNat 32 1 = _
  rw [← BitVec.ofNat_mul, ← BitVec.ofNat_add, ← BitVec.ofNat_add, Nat.mul_comm]

theorem pos90 (h : Reads P S i e X) (r : Fin 16) :
    runLater.sl.v90 i (ix2 r 0) = BitVec.ofNat 32 (1024 * (e + 1) + r.val + 1) := by
  pointwise [runLater.sl.v90, runLater.sl.v41, runLater.sl.v40, runLater.sl.v39, runLater.sl.v38, runLater.sl.v37, place,
    h.half, runLater.sl.v89]
  show (BitVec.ofNat 32 e + BitVec.ofNat 32 1) * BitVec.ofNat 32 1024 + BitVec.ofNat 32 r.val + BitVec.ofNat 32 1 = _
  rw [← BitVec.ofNat_add, ← BitVec.ofNat_mul, ← BitVec.ofNat_add, ← BitVec.ofNat_add, Nat.mul_comm]

/-- The reciprocals of the windows' lengths, over the tile's rows and over the rows after it. -/
theorem recip43 (h : Reads P S i e X) (w : ℕ) (hw : w < 2 ^ 31) (hw' : 0 < w) :
    Holds (φ := .f32) (divf runLater.sl.v47 (sitofp .f32 (minsi (runLater.sl.v43 i) (broadcast S1024x1 (BitVec.ofNat 32 w)))))
      fun r _ => recip w (1024 * e + r.val) := by
  have he := h.two
  intro r j
  obtain rfl : j = 0 := Subsingleton.elim _ _
  pointwise [runLater.sl.v47, runLater.sl.cst_25, pos43 h r]
  exact recip_word _ w (by omega) hw hw'

theorem recip90 (h : Reads P S i e X) (w : ℕ) (hw : w < 2 ^ 31) (hw' : 0 < w) :
    Holds (φ := .f32) (divf runLater.sl.v94 (sitofp .f32 (minsi (runLater.sl.v90 i) (broadcast S16x1 (BitVec.ofNat 32 w)))))
      fun r _ => recip w (1024 * (e + 1) + r.val) := by
  have he := h.two
  intro r j
  obtain rfl : j = 0 := Subsingleton.elim _ _
  pointwise [runLater.sl.v94, runLater.sl.cst_25, pos90 h r]
  exact recip_word _ w (by omega) hw hw'

/-! ## A group -/

/-- The rows a group's windows run over: sixteen before the tile, then the tile's. -/
abbrev rows (S : Seq) (e : ℕ) (g : Fin 4) (ρ : ℕ) (j : Fin 128) : ℝ :=
  if 16 ≤ 1024 * e + ρ then xp S (1024 * e + ρ - 16) (col g j) else 0

variable (g : Fin 4) (o : ℕ) (ho : o = 128 * g.val)

include ho in
theorem cat (h : Reads P S i e X) (h1 : S16x512.Slices ![0, o] S16x128) (h2 : S1024x1536.Slices ![0, o] S1024x128)
    (H : Shape.Concatenates [S16x128, S1024x128] S1040x128 0) :
    Ends (concatenate S1040x128 0 [⟨S16x128, extractStridedSlice S16x128 ![0, o] (runLater.sl.v32 (F := Ideal) c i R X) h1⟩,
      ⟨S1024x128, extractStridedSlice S1024x128 ![0, o] (runLater.sl.v27 (F := Ideal) c R X) h2⟩] H) (rows S e g) 1 0 := by
  subst ho
  intro r j _
  rw [Finset.sum_range_one, Nat.sub_zero]
  by_cases q : r.val < 16
  · pointwise [before32 c R h _ _]
    rw [dif_pos q]
  · pointwise [proj27 c R h _ _]
    have e2 : rows S e g r.val j = S.p (1024 * e + (r.val - 16)) ⟨128 * g.val + j.val, by omega⟩ := by
      rw [rows, if_pos (by omega)]
      exact congrArg (fun t => S.p t ⟨128 * g.val + j.val, by omega⟩) (by omega)
    exact (dif_neg q).trans (congrArg (fun x : ℝ => (x : EReal)) e2.symm)

theorem width_le (g : Fin 4) : width g ≤ 16 := by revert g; decide

/-- The windows' sums over the rows, for rows of the tile. -/
theorem rows_back (S : Seq) (e : ℕ) (g : Fin 4) (r w : ℕ) (j : Fin 128) (hw : w ≤ 17) :
    ∑ k ∈ Finset.range w, rows S e g (16 + r - k) j = back w (fun s => xp S s (col g j)) (1024 * e + r) := by
  refine Finset.sum_congr rfl fun k hk => ?_
  have hk' := Finset.mem_range.1 hk
  rw [rows]
  by_cases q : k ≤ 1024 * e + r
  · rw [if_pos q, if_pos (by omega), show 1024 * e + (16 + r - k) - 16 = 1024 * e + r - k by omega]
  · rw [if_neg q, if_neg (by omega)]

include ho in
theorem pooled_of (h : Reads P S i e X) {v : FVec Ideal S1040x128 .f32} {n : ℕ} (hn : n ≤ 16)
    (hv : Ends v (rows S e g) (width g) n) {q : FVec Ideal S1024x1 .f32}
    (hq : Holds q fun r _ => recip (width g) (1024 * e + r.val))
    (h1 : S1040x128.Slices ![16, 0] S1024x128) (h2 : S1024x1536.Slices ![0, o] S1024x128) (hb : S1024x1.Broadcasts S1024x128)
    (hl : FTy.bf16.bits < FTy.f32.bits) :
    Holds (truncf .bf16 (subf (mulf (extractStridedSlice S1024x128 ![16, 0] v h1) (broadcastTo S1024x128 q hb))
      (extractStridedSlice S1024x128 ![0, o] (runLater.sl.v27 (F := Ideal) c R X) h2)) hl)
      fun r j => pooled S (1024 * e + r.val) g j := by
  subst ho
  intro r j
  pointwise [proj27 c R h _ _, hq _ _]
  have hw := width_le g
  rw [hv _ _ (by dsimp only; omega)]
  dsimp only
  rw [rows_back S e g r.val _ j (by omega)]
  simp only [← EReal.coe_mul, ← EReal.coe_sub]
  rfl

include ho in
theorem pre_of (h : Reads P S i e X) {v : FVec Ideal S1024x128 .bf16}
    (hv : Holds v fun r j => pooled S (1024 * e + r.val) g j) {W : FVec Ideal S128x128 .bf16} (hW : Holds W (P.pw g))
    (h2 : S1024x1024.Slices ![0, o] S1024x128) :
    Holds (shapeCast S1x128 (multiReduction .add [0] S128 (mulf (extractStridedSlice S1024x128 ![0, o]
      (runLater.sl.v17 (F := Ideal) c R X) h2) (matmul dot_S1024x128_S128x128_S1024x128_1_0_0_1_n_n none v W runLater.sl.cst_30))
      0x00000000#32 reduces_S1024x128_S128 (.inl rfl) rfl) shapeCasts_S128_S1x128)
      fun _ j => ∑ r : Fin 1024, dpo P S (1024 * e + r.val) (col g j) * pre P S (1024 * e + r.val) g j := by
  subst ho
  intro r j
  pointwise [dmix17 c R h _ _, hv _ _, hW _ _, runLater.sl.cst_30]
  simp only [← EReal.coe_mul, coe_sum, zero_add]
  rfl

include ho in
theorem dsb_of (h : Reads P S i e X) (h2 : S1024x1024.Slices ![0, o] S1024x128)
    (hb : S1x128.Broadcasts S1024x128) (hl : FTy.bf16.bits < FTy.f32.bits) {q : FVec Ideal S1x128 .f32}
    (hq : Holds q fun _ j => P.ps (col g j)) :
    Holds (truncf .bf16 (mulf (extractStridedSlice S1024x128 ![0, o] (runLater.sl.v17 (F := Ideal) c R X) h2)
      (broadcastTo S1024x128 q hb)) hl) fun r j => dsb P S (1024 * e + r.val) g j := by
  subst ho
  intro r j
  pointwise [dmix17 c R h _ _, hq _ _]
  simp only [← EReal.coe_mul]
  rfl

theorem grad_of {v w : FVec Ideal S1024x128 .bf16} (hv : Holds v fun r j => pooled S (1024 * e + r.val) g j)
    (hw : Holds w fun r j => dsb P S (1024 * e + r.val) g j) :
    Holds (matmul dot_S1024x128_S1024x128_S128x128_0_0_1_1_n_n none v w runLater.sl.cst_41)
      fun a b => ∑ r : Fin 1024, pooled S (1024 * e + r.val) g a * dsb P S (1024 * e + r.val) g b := by
  intro r j
  pointwise [hv _ _, hw _ _, runLater.sl.cst_41]
  simp only [← EReal.coe_mul, coe_sum, zero_add]

theorem dpool_of {w : FVec Ideal S1024x128 .bf16} (hw : Holds w fun r j => dsb P S (1024 * e + r.val) g j)
    {W : FVec Ideal S128x128 .bf16} (hW : Holds W (P.pw g)) :
    Holds (matmul dot_S1024x128_S128x128_S1024x128_1_1_0_0_n_n none w W runLater.sl.cst_30)
      fun r k => dpool P S (1024 * e + r.val) g k := by
  intro r j
  pointwise [hW _ _, hw _ _, runLater.sl.cst_30]
  simp only [← EReal.coe_mul, coe_sum, zero_add]
  rfl

include ho in
/-- The group's cotangent at the sixteen rows after the tile. -/
theorem dpool_after (h : Reads P S i e X) (h2 : S16x512.Slices ![0, o] S16x128)
    (hb : S1x128.Broadcasts S16x128) (hl : FTy.bf16.bits < FTy.f32.bits) {q : FVec Ideal S1x128 .f32}
    (hq : Holds q fun _ j => P.ps (col g j)) {W : FVec Ideal S128x128 .bf16} (hW : Holds W (P.pw g)) :
    Holds (matmul dot_S16x128_S128x128_S16x128_1_1_0_0_n_n none
      (truncf .bf16 (mulf (extractStridedSlice S16x128 ![0, o] (runLater.sl.v25 (F := Ideal) c i R X) h2)
        (broadcastTo S16x128 q hb)) hl) W runLater.sl.cst_48)
      fun r k => if e = 0 then dpool P S (1024 + r.val) g k else 0 := by
  subst ho
  intro r j
  pointwise [after25 c R h _ _, hq _ _, hW _ _, runLater.sl.cst_48]
  simp only [← EReal.coe_mul, coe_sum, zero_add]
  refine congrArg (fun x : ℝ => (x : EReal)) ?_
  by_cases q : e = 0
  · simp only [if_pos q]
    rfl
  · simp only [if_neg q, zero_mul, Finset.sum_const_zero]

/-- What the windows that look ahead add up: the tile's rows, then sixteen more. -/
abbrev shares (P : Mix.Weights) (S : Seq) (e : ℕ) (g : Fin 4) (ρ : ℕ) (j : Fin 128) : ℝ :=
  if 1024 * e + ρ < 2048 then dpool P S (1024 * e + ρ) g j * recip (width g) (1024 * e + ρ) else 0

theorem shares_cat (h : Reads P S i e X) {v : FVec Ideal S1024x128 .f32} (hv : Holds v fun r k => dpool P S (1024 * e + r.val) g k)
    {w : FVec Ideal S16x128 .f32} (hw : Holds w fun r k => if e = 0 then dpool P S (1024 + r.val) g k else 0)
    {q : FVec Ideal S1024x1 .f32} (hq : Holds q fun r _ => recip (width g) (1024 * e + r.val))
    {q' : FVec Ideal S16x1 .f32} (hq' : Holds q' fun r _ => recip (width g) (1024 * (e + 1) + r.val))
    (hb : S1024x1.Broadcasts S1024x128) (hb' : S16x1.Broadcasts S16x128)
    (H : Shape.Concatenates [S1024x128, S16x128] S1040x128 0) :
    Begins (concatenate S1040x128 0 [⟨S1024x128, mulf v (broadcastTo S1024x128 q hb)⟩,
      ⟨S16x128, mulf w (broadcastTo S16x128 q' hb')⟩] H) (shares P S e g) 1 1 := by
  have he := h.two
  intro r j _
  have hr := r.isLt
  rw [Finset.sum_range_one, Nat.add_zero]
  by_cases d : r.val < 1024
  · pointwise [hv _ _, hq _ _]
    rw [dif_pos d, ← EReal.coe_mul, shares, if_pos (by omega)]
  · pointwise [hw _ _, hq' _ _]
    rw [dif_neg d, ← EReal.coe_mul, shares]
    refine congrArg (fun x : ℝ => (x : EReal)) ?_
    rcases he with rfl | rfl
    · rw [if_pos rfl, if_pos (by omega)]
      exact congrArg (fun t => dpool P S t g j * recip (width g) t) (by omega)
    · rw [if_neg (by omega), if_neg (by omega), zero_mul]

theorem dxp_of (h : Reads P S i e X) {v : FVec Ideal S1040x128 .f32} {n : ℕ} (hn : n ≤ 17)
    (hv : Begins v (shares P S e g) (width g) n) {w : FVec Ideal S1024x128 .f32}
    (hw : Holds w fun r k => dpool P S (1024 * e + r.val) g k) (h1 : S1040x128.Slices ![0, 0] S1024x128)
    (hl : FTy.bf16.bits < FTy.f32.bits) :
    Holds (truncf .bf16 (subf (extractStridedSlice S1024x128 ![0, 0] v h1) w) hl)
      fun r j => dxp P S (1024 * e + r.val) g j := by
  intro r j
  have hr := r.isLt
  pointwise [hw _ _]
  rw [hv _ _ (by dsimp only; omega), ← EReal.coe_sub]
  refine congrArg (fun x : ℝ => (x : EReal)) (congrArg₂ (· - ·) (Finset.sum_congr rfl fun k _ => ?_) rfl)
  rw [shares, Nat.add_assoc]

/-! ## The four groups -/

theorem pw0 (h : Reads P S i e X) : Holds (φ := .bf16) (runLater.sl.v51 (F := Ideal) c R X) (P.pw 0) := by
  intro r j
  pointwise [runLater.sl.v51, runLater.sl.v50, Memref.IsWhole.readAt_unread, h.pw _ _ _]
theorem pw1 (h : Reads P S i e X) : Holds (φ := .bf16) (runLater.sl.v116 (F := Ideal) c R X) (P.pw 1) := by
  intro r j
  pointwise [runLater.sl.v116, runLater.sl.v115, Memref.IsWhole.readAt_unread, h.pw _ _ _]
theorem pw2 (h : Reads P S i e X) : Holds (φ := .bf16) (runLater.sl.v185 (F := Ideal) c R X) (P.pw 2) := by
  intro r j
  pointwise [runLater.sl.v185, runLater.sl.v184, Memref.IsWhole.readAt_unread, h.pw _ _ _]
theorem pw3 (h : Reads P S i e X) : Holds (φ := .bf16) (runLater.sl.v258 (F := Ideal) c R X) (P.pw 3) := by
  intro r j
  pointwise [runLater.sl.v258, runLater.sl.v257, Memref.IsWhole.readAt_unread, h.pw _ _ _]

theorem pooled0 (h : Reads P S i e X) :
    Holds (φ := .bf16) (runLater.sl.v61 (F := Ideal) c i R X) fun r j => pooled S (1024 * e + r.val) 0 j :=
  pooled_of c R 0 0 rfl h (n := 1) (by decide) ((cat c R 0 0 rfl h _ _ _).double 1#32 rfl (by decide) (by decide) _)
    (recip43 h 2 (by decide) (by decide)) _ _ _ _
theorem pooled1 (h : Reads P S i e X) :
    Holds (φ := .bf16) (runLater.sl.v128 (F := Ideal) c i R X) fun r j => pooled S (1024 * e + r.val) 1 j :=
  pooled_of c R 1 128 rfl h (n := 3) (by decide) (((cat c R 1 128 rfl h _ _ _).double 1#32 rfl (by decide) (by decide) _).double
    2#32 rfl (by decide) (by decide) _) (recip43 h 4 (by decide) (by decide)) _ _ _ _
theorem pooled2 (h : Reads P S i e X) :
    Holds (φ := .bf16) (runLater.sl.v199 (F := Ideal) c i R X) fun r j => pooled S (1024 * e + r.val) 2 j :=
  pooled_of c R 2 256 rfl h (n := 7) (by decide) ((((cat c R 2 256 rfl h _ _ _).double 1#32 rfl (by decide) (by decide) _).double
    2#32 rfl (by decide) (by decide) _).double 4#32 rfl (by decide) (by decide) _) (recip43 h 8 (by decide) (by decide)) _ _ _ _
theorem pooled3 (h : Reads P S i e X) :
    Holds (φ := .bf16) (runLater.sl.v274 (F := Ideal) c i R X) fun r j => pooled S (1024 * e + r.val) 3 j :=
  pooled_of c R 3 384 rfl h (n := 15) (by decide) (((((cat c R 3 384 rfl h _ _ _).double 1#32 rfl (by decide) (by decide) _).double
    2#32 rfl (by decide) (by decide) _).double 4#32 rfl (by decide) (by decide) _).double 8#32 rfl (by decide) (by decide) _)
    (recip43 h 16 (by decide) (by decide)) _ _ _ _

include ho in
theorem ps_at (h : Reads P S i e X) (b : ∀ a, (![0, o] : Fin 2 → ℕ) a + S1x128.size a ≤ S1x512.size a) :
    Holds (φ := .f32) (View.readAt (Elt Ideal) R.ps.view (Rect.unit (s := S1x512) ![0, o] S1x128.size b).toLoadRect (R.hps.unread X.ps))
      fun _ j => P.ps (col g j) := by
  subst ho
  intro r j
  pointwise [Memref.IsWhole.readAt_unread, h.ps _ _]

theorem dsb0 (h : Reads P S i e X) :
    Holds (φ := .bf16) (runLater.sl.v74 (F := Ideal) c R X) fun r j => dsb P S (1024 * e + r.val) 0 j :=
  dsb_of c R 0 0 rfl h _ _ _ (ps_at R 0 0 rfl h _)
theorem dpool0 (h : Reads P S i e X) :
    Holds (φ := .f32) (runLater.sl.v82 (F := Ideal) c R X) fun r k => dpool P S (1024 * e + r.val) 0 k :=
  dpool_of 0 (dsb0 c R h) (pw0 c R h)
theorem after0 (h : Reads P S i e X) : Holds (φ := .f32) (runLater.sl.v88 (F := Ideal) c i R X)
    fun r k => if e = 0 then dpool P S (1024 + r.val) 0 k else 0 :=
  dpool_after c R 0 0 rfl h _ _ _ (ps_at R 0 0 rfl h _) (pw0 c R h)
theorem dxp0 (h : Reads P S i e X) :
    Holds (φ := .bf16) (runLater.sl.v105 (F := Ideal) c i R X) fun r j => dxp P S (1024 * e + r.val) 0 j :=
  dxp_of 0 h (n := 2) (by decide) ((shares_cat 0 h (dpool0 c R h) (after0 c R h) (recip43 h 2 (by decide) (by decide)) (recip90 h 2 (by decide) (by decide)) _ _ _).double 1039#32 rfl (by decide) (by decide) (by decide) (by decide) _)
    (dpool0 c R h) _ _
theorem grad0 (h : Reads P S i e X) : Holds (φ := .f32) (runLater.sl.v77 (F := Ideal) c i R X)
    fun a b => ∑ r : Fin 1024, pooled S (1024 * e + r.val) 0 a * dsb P S (1024 * e + r.val) 0 b :=
  grad_of 0 (pooled0 c R h) (dsb0 c R h)
theorem scale0 (h : Reads P S i e X) : Holds (φ := .f32) (runLater.sl.v68 (F := Ideal) c i R X)
    fun _ j => ∑ r : Fin 1024, dpo P S (1024 * e + r.val) (col 0 j) * pre P S (1024 * e + r.val) 0 j :=
  pre_of c R 0 0 rfl h (pooled0 c R h) (pw0 c R h) _

theorem dsb1 (h : Reads P S i e X) :
    Holds (φ := .bf16) (runLater.sl.v141 (F := Ideal) c R X) fun r j => dsb P S (1024 * e + r.val) 1 j :=
  dsb_of c R 1 128 rfl h _ _ _ (ps_at R 1 128 rfl h _)
theorem dpool1 (h : Reads P S i e X) :
    Holds (φ := .f32) (runLater.sl.v149 (F := Ideal) c R X) fun r k => dpool P S (1024 * e + r.val) 1 k :=
  dpool_of 1 (dsb1 c R h) (pw1 c R h)
theorem after1 (h : Reads P S i e X) : Holds (φ := .f32) (runLater.sl.v155 (F := Ideal) c i R X)
    fun r k => if e = 0 then dpool P S (1024 + r.val) 1 k else 0 :=
  dpool_after c R 1 128 rfl h _ _ _ (ps_at R 1 128 rfl h _) (pw1 c R h)
theorem dxp1 (h : Reads P S i e X) :
    Holds (φ := .bf16) (runLater.sl.v174 (F := Ideal) c i R X) fun r j => dxp P S (1024 * e + r.val) 1 j :=
  dxp_of 1 h (n := 4) (by decide) (((shares_cat 1 h (dpool1 c R h) (after1 c R h) (recip43 h 4 (by decide) (by decide)) (recip90 h 4 (by decide) (by decide)) _ _ _).double 1039#32 rfl (by decide) (by decide) (by decide) (by decide) _).double 1038#32 rfl (by decide) (by decide) (by decide) (by decide) _)
    (dpool1 c R h) _ _
theorem grad1 (h : Reads P S i e X) : Holds (φ := .f32) (runLater.sl.v144 (F := Ideal) c i R X)
    fun a b => ∑ r : Fin 1024, pooled S (1024 * e + r.val) 1 a * dsb P S (1024 * e + r.val) 1 b :=
  grad_of 1 (pooled1 c R h) (dsb1 c R h)
theorem scale1 (h : Reads P S i e X) : Holds (φ := .f32) (runLater.sl.v135 (F := Ideal) c i R X)
    fun _ j => ∑ r : Fin 1024, dpo P S (1024 * e + r.val) (col 1 j) * pre P S (1024 * e + r.val) 1 j :=
  pre_of c R 1 128 rfl h (pooled1 c R h) (pw1 c R h) _

theorem dsb2 (h : Reads P S i e X) :
    Holds (φ := .bf16) (runLater.sl.v212 (F := Ideal) c R X) fun r j => dsb P S (1024 * e + r.val) 2 j :=
  dsb_of c R 2 256 rfl h _ _ _ (ps_at R 2 256 rfl h _)
theorem dpool2 (h : Reads P S i e X) :
    Holds (φ := .f32) (runLater.sl.v220 (F := Ideal) c R X) fun r k => dpool P S (1024 * e + r.val) 2 k :=
  dpool_of 2 (dsb2 c R h) (pw2 c R h)
theorem after2 (h : Reads P S i e X) : Holds (φ := .f32) (runLater.sl.v226 (F := Ideal) c i R X)
    fun r k => if e = 0 then dpool P S (1024 + r.val) 2 k else 0 :=
  dpool_after c R 2 256 rfl h _ _ _ (ps_at R 2 256 rfl h _) (pw2 c R h)
theorem dxp2 (h : Reads P S i e X) :
    Holds (φ := .bf16) (runLater.sl.v247 (F := Ideal) c i R X) fun r j => dxp P S (1024 * e + r.val) 2 j :=
  dxp_of 2 h (n := 8) (by decide) ((((shares_cat 2 h (dpool2 c R h) (after2 c R h) (recip43 h 8 (by decide) (by decide)) (recip90 h 8 (by decide) (by decide)) _ _ _).double 1039#32 rfl (by decide) (by decide) (by decide) (by decide) _).double 1038#32 rfl (by decide) (by decide) (by decide) (by decide) _).double 1036#32 rfl (by decide) (by decide) (by decide) (by decide) _)
    (dpool2 c R h) _ _
theorem grad2 (h : Reads P S i e X) : Holds (φ := .f32) (runLater.sl.v215 (F := Ideal) c i R X)
    fun a b => ∑ r : Fin 1024, pooled S (1024 * e + r.val) 2 a * dsb P S (1024 * e + r.val) 2 b :=
  grad_of 2 (pooled2 c R h) (dsb2 c R h)
theorem scale2 (h : Reads P S i e X) : Holds (φ := .f32) (runLater.sl.v206 (F := Ideal) c i R X)
    fun _ j => ∑ r : Fin 1024, dpo P S (1024 * e + r.val) (col 2 j) * pre P S (1024 * e + r.val) 2 j :=
  pre_of c R 2 256 rfl h (pooled2 c R h) (pw2 c R h) _

theorem dsb3 (h : Reads P S i e X) :
    Holds (φ := .bf16) (runLater.sl.v287 (F := Ideal) c R X) fun r j => dsb P S (1024 * e + r.val) 3 j :=
  dsb_of c R 3 384 rfl h _ _ _ (ps_at R 3 384 rfl h _)
theorem dpool3 (h : Reads P S i e X) :
    Holds (φ := .f32) (runLater.sl.v295 (F := Ideal) c R X) fun r k => dpool P S (1024 * e + r.val) 3 k :=
  dpool_of 3 (dsb3 c R h) (pw3 c R h)
theorem after3 (h : Reads P S i e X) : Holds (φ := .f32) (runLater.sl.v301 (F := Ideal) c i R X)
    fun r k => if e = 0 then dpool P S (1024 + r.val) 3 k else 0 :=
  dpool_after c R 3 384 rfl h _ _ _ (ps_at R 3 384 rfl h _) (pw3 c R h)
theorem dxp3 (h : Reads P S i e X) :
    Holds (φ := .bf16) (k0_pay56 (F := Ideal) (runLater.sl.v255 i) (runLater.sl.v295 c R X) (runLater.sl.v301 c i R X)
      (runLater.sl.v90 i) runLater.sl.v304) fun r j => dxp P S (1024 * e + r.val) 3 j :=
  dxp_of 3 h (n := 16) (by decide) (((((shares_cat 3 h (dpool3 c R h) (after3 c R h) (recip43 h 16 (by decide) (by decide)) (recip90 h 16 (by decide) (by decide)) _ _ _).double 1039#32 rfl (by decide) (by decide) (by decide) (by decide) _).double 1038#32 rfl (by decide) (by decide) (by decide) (by decide) _).double 1036#32 rfl (by decide) (by decide) (by decide) (by decide) _).double 1032#32 rfl (by decide) (by decide) (by decide) (by decide) _)
    (dpool3 c R h) _ _
theorem grad3 (h : Reads P S i e X) : Holds (φ := .f32) (runLater.sl.v290 (F := Ideal) c i R X)
    fun a b => ∑ r : Fin 1024, pooled S (1024 * e + r.val) 3 a * dsb P S (1024 * e + r.val) 3 b :=
  grad_of 3 (pooled3 c R h) (dsb3 c R h)
theorem scale3 (h : Reads P S i e X) : Holds (φ := .f32) (runLater.sl.v281 (F := Ideal) c i R X)
    fun _ j => ∑ r : Fin 1024, dpo P S (1024 * e + r.val) (col 3 j) * pre P S (1024 * e + r.val) 3 j :=
  pre_of c R 3 384 rfl h (pooled3 c R h) (pw3 c R h) _

end Cert.Kernel2Ideal.Mixer

end
-- ==== Proof.MixerGate.lean ====
/- The gated half of one tile of the mixer's backward pass, from the blocks a grid point reads. -/
module

public import proofs.«01_k».proof.Proof.MixerPool
public import proofs.«01_k».proof.Proof.MixerArgs

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix

variable {P : Mix.Weights} {S : Seq} {i : grid0.Coords} {e : ℕ} {X : Ins Ideal} (c : Dev nD) (R : Refs)

theorem named_half : (Named.named (F := Ideal) (φ := .f32) κ "root_half" 0x3F3504F3#32 : EReal)
    = (((Real.sqrt 2)⁻¹ : ℝ) : EReal) := rfl

theorem named_pi : (Named.named (F := Ideal) (φ := .f32) κ "inv_root_two_pi" 0x3ECC422A#32 : EReal)
    = (((Real.sqrt (2 * Real.pi))⁻¹ : ℝ) : EReal) := rfl

theorem erf_real (r : ℝ) : FloatOps.erf (F := Ideal) (φ := .f32) (r : EReal) = ((Mix.erf r : ℝ) : EReal) := rfl

theorem gate3 (h : Reads P S i e X) :
    Holds (φ := .f32) (runLater.sl.r_3 (F := Ideal) c R X) fun r => u S (1024 * e + r.val) := by
  intro r j
  pointwise [runLater.sl.r_3, k0_pay59, k0_pay57, proj27 c R h _ _, bits_half]
  simp only [named_half, ← EReal.coe_mul, erf_real, one_add]
  rfl

theorem value4 (h : Reads P S i e X) :
    Holds (φ := .f32) (runLater.sl.r_4 (F := Ideal) c R X) fun r => v S (1024 * e + r.val) := by
  intro r j
  pointwise [runLater.sl.r_4, k0_pay60, k0_pay58, proj27 c R h _ _, bits_half]
  simp only [named_half, ← EReal.coe_mul, erf_real, one_add]
  rfl

theorem mean5 (h : Reads P S i e X) :
    Holds (φ := .f32) (runLater.sl.r_5 (F := Ideal) c R X) fun r _ => Mix.mean (v S (1024 * e + r.val)) := by
  intro r j
  have q : ∀ r j, k0_pay60 (F := Ideal) (runLater.sl.v27 c R X) (ix2 r j) = _ := value4 c R h
  pointwise [runLater.sl.r_5, k0_pay61, q _ _, bits_512]
  rw [coe_sum, div_512]
  rfl

theorem cen349 (h : Reads P S i e X) :
    Holds (φ := .f32) (runLater.sl.v349 (F := Ideal) c R X) fun r => Mix.cen (v S (1024 * e + r.val)) := by
  intro r j
  pointwise [runLater.sl.v349, value4 c R h _ _, mean5 c R h _ _]
  rw [← EReal.coe_sub]
  rfl

theorem inv357 (h : Reads P S i e X) :
    Holds (φ := .f32) (runLater.sl.v357 (F := Ideal) c R X) fun r _ => Mix.inv (v S (1024 * e + r.val)) := by
  intro r j
  pointwise [runLater.sl.v357, runLater.sl.v356, runLater.sl.v355, runLater.sl.v354, runLater.sl.v353, runLater.sl.v352,
    runLater.sl.v351, runLater.sl.v350, cen349 c R h _ _, runLater.sl.cst_159, runLater.sl.cst_160, bits_512, bits_eps]
  simp only [← EReal.coe_mul, coe_sum, div_512, ← EReal.coe_add]
  exact rsqrt_pos (Mix.var_eps_pos _)

theorem hat359 (h : Reads P S i e X) :
    Holds (φ := .f32) (runLater.sl.v359 (F := Ideal) c R X) fun r => Mix.hat (v S (1024 * e + r.val)) := by
  intro r j
  pointwise [runLater.sl.v359, runLater.sl.v358, cen349 c R h _ _, inv357 c R h _ _]
  rw [← EReal.coe_mul]
  rfl

theorem vln365 (h : Reads P S i e X) :
    Holds (φ := .f32) (runLater.sl.v365 (F := Ideal) c R X) fun r => vln P S (1024 * e + r.val) := by
  intro r j
  pointwise [runLater.sl.v365, runLater.sl.v364, runLater.sl.v362, runLater.sl.v361, hat359 c R h _ _,
    Memref.IsWhole.readAt_unread, h.lg _ _, h.lb _ _]
  rw [← EReal.coe_mul, ← EReal.coe_add]
  rfl

theorem dsg366 (h : Reads P S i e X) :
    Holds (φ := .f32) (runLater.sl.v366 (F := Ideal) c R X) fun r => dsg P S (1024 * e + r.val) := by
  intro r j
  pointwise [runLater.sl.v366, dmix17 c R h _ _]
  rfl

/-! ## A head -/

theorem dite_step {p : Prop} [Decidable p] {a : p → EReal} {b : ¬p → EReal} {x : EReal} (h1 : ∀ q, a q = x) (h2 : ∀ q, b q = x) :
    dite p a b = x := by
  by_cases q : p
  · rw [dif_pos q, h1]
  · rw [dif_neg q, h2]

/-- The eight chunks of a head's columns, laid side by side. -/
theorem chunks {V : FVec Ideal S1024x512 .f32} {f : ℕ → Fin 512 → ℝ} (hV : Holds V fun r => f (1024 * e + r.val))
    (g : Fin 4) (o : ℕ) (ho : o = 128 * g.val)
    (h0 : S1024x512.Slices ![0, o] S128x128) (h1 : S1024x512.Slices ![128, o] S128x128) (h2 : S1024x512.Slices ![256, o] S128x128)
    (h3 : S1024x512.Slices ![384, o] S128x128) (h4 : S1024x512.Slices ![512, o] S128x128) (h5 : S1024x512.Slices ![640, o] S128x128)
    (h6 : S1024x512.Slices ![768, o] S128x128) (h7 : S1024x512.Slices ![896, o] S128x128)
    (H : Shape.Concatenates [S128x128, S128x128, S128x128, S128x128, S128x128, S128x128, S128x128, S128x128] S128x1024 1) :
    Holds (concatenate S128x1024 1 [⟨S128x128, extractStridedSlice S128x128 ![0, o] V h0⟩,
      ⟨S128x128, extractStridedSlice S128x128 ![128, o] V h1⟩, ⟨S128x128, extractStridedSlice S128x128 ![256, o] V h2⟩,
      ⟨S128x128, extractStridedSlice S128x128 ![384, o] V h3⟩, ⟨S128x128, extractStridedSlice S128x128 ![512, o] V h4⟩,
      ⟨S128x128, extractStridedSlice S128x128 ![640, o] V h5⟩, ⟨S128x128, extractStridedSlice S128x128 ![768, o] V h6⟩,
      ⟨S128x128, extractStridedSlice S128x128 ![896, o] V h7⟩] H)
      fun p q => f (1024 * e + 128 * (q.val / 128) + p.val) (col g ⟨q.val % 128, by omega⟩) := by
  subst ho
  intro p q
  have hq := q.isLt
  have E : ∀ (a a' : ℕ) (b b' : Fin 512), a = a' → b.val = b'.val → ((f a b : ℝ) : EReal) = ((f a' b' : ℝ) : EReal) :=
    fun a a' b b' x y => by rw [x, Fin.ext y]
  pointwise [hV _ _]
  iterate 7 refine dite_step (fun _ => E _ _ _ _ (by omega) (by dsimp only; omega)) fun _ => ?_
  exact E _ _ _ _ (by omega) (by dsimp only; omega)

/-- A head's rows: index `p` inside chunk `q / 128`, column `q % 128`. -/
abbrev at_ (e : ℕ) (q : Fin 1024) : ℕ := 1024 * e + 128 * (q.val / 128)
abbrev ln_ (q : Fin 1024) : Fin 128 := ⟨q.val % 128, by omega⟩

theorem tri_of (g : Fin 4) {W : FVec Ideal S128x128 .f32} (hW : Holds W (P.sw g)) (hl : FTy.bf16.bits < FTy.f32.bits) :
    Holds (truncf .bf16 (select (cmpi .sge runLater.sl.v367 runLater.sl.v368) W runLater.sl.v374) hl) (tri P g) := by
  intro r j
  pointwise [runLater.sl.v367, runLater.sl.v368, runLater.sl.v374, hW _ _, runLater.sl.cst_14]
  rw [select_le, ← EReal.coe_zero, tri]
  by_cases d : j ≤ r
  · rw [if_pos d, if_pos d]
  · rw [if_neg d, if_neg d]

theorem mixed_of (g : Fin 4) {W : FVec Ideal S128x128 .bf16} (hW : Holds W (tri P g)) {V : FVec Ideal S128x1024 .f32}
    (hV : Holds V fun p q => vln P S (at_ e q + p.val) (col g (ln_ q))) (hl : FTy.bf16.bits < FTy.f32.bits)
    {b : FVec Ideal S128x1 .f32} (hb : Holds b fun p _ => P.sb g p) (hB : S128x1.Broadcasts S128x1024) :
    Holds (addf (matmul dot_S128x128_S128x1024_S128x1024_1_0_0_1_n_n none W (truncf .bf16 V hl) runLater.sl.cst_169)
      (broadcastTo S128x1024 b hB)) fun p q => mixAt P S (at_ e q) p g (ln_ q) := by
  intro r j
  pointwise [hW _ _, hV _ _, hb _ _, runLater.sl.cst_169]
  simp only [← EReal.coe_mul, coe_sum, zero_add, ← EReal.coe_add]
  rfl

theorem mul_of {V W : FVec Ideal S128x1024 .f32} {f k : Fin 128 → Fin 1024 → ℝ} (hV : Holds V f) (hW : Holds W k) :
    Holds (mulf V W) fun p q => f p q * k p q := by
  intro r j
  pointwise [hV _ _, hW _ _]
  rw [← EReal.coe_mul]

theorem shift_of {V : FVec Ideal S128x1024 .f32} {f : Fin 128 → Fin 1024 → ℝ} (hV : Holds V f)
    (h : S8x128.Slices ![0, 0] S1x128) :
    Holds (extractStridedSlice S1x128 ![0, 0] (matmul dot_S8x1024_S128x1024_S8x128_1_1_0_0_n_n (some ContractPrecision.bf16x3)
      runLater.sl.v412 V runLater.sl.cst_173) h) fun _ p => ∑ q, f p q := by
  intro r j
  pointwise [hV _ _, runLater.sl.v412, runLater.sl.cst_173, runLater.sl.cst_25]
  simp only [one_mul, coe_sum, zero_add]

theorem weight_of {V W : FVec Ideal S128x1024 .f32} {f k : Fin 128 → Fin 1024 → ℝ} (hV : Holds V f) (hW : Holds W k)
    (hl hl' : FTy.bf16.bits < FTy.f32.bits) :
    Holds (select (cmpi .sge runLater.sl.v367 runLater.sl.v368) (matmul dot_S128x1024_S128x1024_S128x128_1_1_0_0_n_n none
      (truncf .bf16 V hl) (truncf .bf16 W hl') runLater.sl.cst_41) runLater.sl.v374)
      fun a b => if b ≤ a then ∑ q, f a q * k b q else 0 := by
  intro r j
  pointwise [runLater.sl.v367, runLater.sl.v368, runLater.sl.v374, hV _ _, hW _ _, runLater.sl.cst_41, runLater.sl.cst_14]
  rw [select_le]
  simp only [← EReal.coe_mul, coe_sum, zero_add]
  by_cases d : j ≤ r
  · rw [if_pos d, if_pos d]
  · rw [if_neg d, if_neg d, EReal.coe_zero]

theorem back_of (g : Fin 4) {W : FVec Ideal S128x128 .bf16} (hW : Holds W (tri P g)) {V : FVec Ideal S128x1024 .f32}
    (hV : Holds V fun p q => dmx P S (at_ e q + p.val) (col g (ln_ q))) (hl : FTy.bf16.bits < FTy.f32.bits) :
    Holds (matmul dot_S128x128_S128x1024_S128x1024_0_0_1_1_n_n none W (truncf .bf16 V hl) runLater.sl.cst_169)
      fun s q => dvAt P S (at_ e q) s g (ln_ q) := by
  intro r j
  pointwise [hW _ _, hV _ _, runLater.sl.cst_169]
  simp only [← EReal.coe_mul, coe_sum, zero_add]
  rfl

end Cert.Kernel2Ideal.Mixer

end
-- ==== Proof.MixerHeads.lean ====
/- The four heads of the gated half of one tile, and the sums that its rows give. -/
module

public import proofs.«01_k».proof.Proof.MixerGate

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix

variable {P : Mix.Weights} {S : Seq} {i : grid0.Coords} {e : ℕ} {X : Ins Ideal} (c : Dev nD) (R : Refs)

/-- What a head computes: the gradient of the gate, the row of the bias gradient, the block of the weight gradient, the gradient
    of the normalised value. -/
structure Gated (P : Mix.Weights) (S : Seq) (e : ℕ) (g : Fin 4) (du : FVec Ideal S128x1024 .f32) (row : FVec Ideal S1x128 .f32)
    (weight : FVec Ideal S128x128 .f32) (back : FVec Ideal S128x1024 .f32) : Prop where
  du : Holds du fun p q => dsg P S (at_ e q + p.val) (col g (ln_ q)) * mixAt P S (at_ e q) p g (ln_ q)
  row : Holds row fun _ p => ∑ q : Fin 1024, dmx P S (at_ e q + p.val) (col g (ln_ q))
  weight : Holds weight fun a b => if b ≤ a then ∑ q : Fin 1024, dmx P S (at_ e q + a.val) (col g (ln_ q))
    * vln P S (at_ e q + b.val) (col g (ln_ q)) else 0
  back : Holds back fun s q => dvAt P S (at_ e q) s g (ln_ q)

/-- The eight chunks of a head, side by side. -/
abbrev side (V : FVec Ideal S1024x512 .f32) (o : ℕ)
    (h0 : S1024x512.Slices ![0, o] S128x128) (h1 : S1024x512.Slices ![128, o] S128x128) (h2 : S1024x512.Slices ![256, o] S128x128)
    (h3 : S1024x512.Slices ![384, o] S128x128) (h4 : S1024x512.Slices ![512, o] S128x128) (h5 : S1024x512.Slices ![640, o] S128x128)
    (h6 : S1024x512.Slices ![768, o] S128x128) (h7 : S1024x512.Slices ![896, o] S128x128)
    (H : Shape.Concatenates [S128x128, S128x128, S128x128, S128x128, S128x128, S128x128, S128x128, S128x128] S128x1024 1) :
    FVec Ideal S128x1024 .f32 :=
  concatenate S128x1024 1 [⟨S128x128, extractStridedSlice S128x128 ![0, o] V h0⟩,
      ⟨S128x128, extractStridedSlice S128x128 ![128, o] V h1⟩, ⟨S128x128, extractStridedSlice S128x128 ![256, o] V h2⟩,
      ⟨S128x128, extractStridedSlice S128x128 ![384, o] V h3⟩, ⟨S128x128, extractStridedSlice S128x128 ![512, o] V h4⟩,
      ⟨S128x128, extractStridedSlice S128x128 ![640, o] V h5⟩, ⟨S128x128, extractStridedSlice S128x128 ![768, o] V h6⟩,
      ⟨S128x128, extractStridedSlice S128x128 ![896, o] V h7⟩] H

theorem gated_of (h : Reads P S i e X) (g : Fin 4) (o : ℕ) (ho : o = 128 * g.val)
    {h0 : S1024x512.Slices ![0, o] S128x128} {h1 : S1024x512.Slices ![128, o] S128x128} {h2 : S1024x512.Slices ![256, o] S128x128}
    {h3 : S1024x512.Slices ![384, o] S128x128} {h4 : S1024x512.Slices ![512, o] S128x128} {h5 : S1024x512.Slices ![640, o] S128x128}
    {h6 : S1024x512.Slices ![768, o] S128x128} {h7 : S1024x512.Slices ![896, o] S128x128}
    {H : Shape.Concatenates [S128x128, S128x128, S128x128, S128x128, S128x128, S128x128, S128x128, S128x128] S128x1024 1}
    {W : FVec Ideal S128x128 .f32} (hW : Holds W (P.sw g)) {b : FVec Ideal S128x1 .f32} (hb : Holds b fun p _ => P.sb g p)
    {hl : FTy.bf16.bits < FTy.f32.bits} {hB : S128x1.Broadcasts S128x1024} {hs : S8x128.Slices ![0, 0] S1x128} :
    Gated P S e g
      (mulf (side (runLater.sl.v366 c R X) o h0 h1 h2 h3 h4 h5 h6 h7 H)
        (addf (matmul dot_S128x128_S128x1024_S128x1024_1_0_0_1_n_n none
          (truncf .bf16 (select (cmpi .sge runLater.sl.v367 runLater.sl.v368) W runLater.sl.v374) hl)
          (truncf .bf16 (side (runLater.sl.v365 c R X) o h0 h1 h2 h3 h4 h5 h6 h7 H) hl) runLater.sl.cst_169)
          (broadcastTo S128x1024 b hB)))
      (extractStridedSlice S1x128 ![0, 0] (matmul dot_S8x1024_S128x1024_S8x128_1_1_0_0_n_n (some ContractPrecision.bf16x3)
        runLater.sl.v412 (mulf (side (runLater.sl.v366 c R X) o h0 h1 h2 h3 h4 h5 h6 h7 H)
          (side (runLater.sl.r_3 c R X) o h0 h1 h2 h3 h4 h5 h6 h7 H)) runLater.sl.cst_173) hs)
      (select (cmpi .sge runLater.sl.v367 runLater.sl.v368) (matmul dot_S128x1024_S128x1024_S128x128_1_1_0_0_n_n none
        (truncf .bf16 (mulf (side (runLater.sl.v366 c R X) o h0 h1 h2 h3 h4 h5 h6 h7 H)
          (side (runLater.sl.r_3 c R X) o h0 h1 h2 h3 h4 h5 h6 h7 H)) hl)
        (truncf .bf16 (side (runLater.sl.v365 c R X) o h0 h1 h2 h3 h4 h5 h6 h7 H) hl) runLater.sl.cst_41) runLater.sl.v374)
      (matmul dot_S128x128_S128x1024_S128x1024_0_0_1_1_n_n none
        (truncf .bf16 (select (cmpi .sge runLater.sl.v367 runLater.sl.v368) W runLater.sl.v374) hl)
        (truncf .bf16 (mulf (side (runLater.sl.v366 c R X) o h0 h1 h2 h3 h4 h5 h6 h7 H)
          (side (runLater.sl.r_3 c R X) o h0 h1 h2 h3 h4 h5 h6 h7 H)) hl) runLater.sl.cst_169) := by
  have D := chunks (dsg366 c R h) g o ho h0 h1 h2 h3 h4 h5 h6 h7 H
  have U := chunks (gate3 c R h) g o ho h0 h1 h2 h3 h4 h5 h6 h7 H
  have N := chunks (vln365 c R h) g o ho h0 h1 h2 h3 h4 h5 h6 h7 H
  have M := mul_of D U
  exact ⟨mul_of D (mixed_of g (tri_of g hW hl) N hl hb hB), shift_of M hs, weight_of M N hl hl, back_of g (tri_of g hW hl) M hl⟩

theorem sw0 (h : Reads P S i e X) : Holds (φ := .f32) (runLater.sl.v373 (F := Ideal) c R X) (P.sw 0) := by
  intro r j
  pointwise [runLater.sl.v373, Memref.IsWhole.readAt_unread, h.sw _ _ _]
theorem sw1 (h : Reads P S i e X) : Holds (φ := .f32) (runLater.sl.v499 (F := Ideal) c R X) (P.sw 1) := by
  intro r j
  pointwise [runLater.sl.v499, Memref.IsWhole.readAt_unread, h.sw _ _ _]
theorem sw2 (h : Reads P S i e X) : Holds (φ := .f32) (runLater.sl.v625 (F := Ideal) c R X) (P.sw 2) := by
  intro r j
  pointwise [runLater.sl.v625, Memref.IsWhole.readAt_unread, h.sw _ _ _]
theorem sw3 (h : Reads P S i e X) : Holds (φ := .f32) (runLater.sl.v751 (F := Ideal) c R X) (P.sw 3) := by
  intro r j
  pointwise [runLater.sl.v751, Memref.IsWhole.readAt_unread, h.sw _ _ _]

theorem sb_at (h : Reads P S i e X) (g : Fin 4) (b : ∀ a, (![0, g.val] : Fin 2 → ℕ) a + S128x1.size a ≤ S128x4.size a)
    (hn : S128x1.numel = S128x1.numel) :
    Holds (φ := .f32) (shapeCast S128x1 (View.readAt (Elt Ideal) R.sb.view
      (Rect.unit (s := S128x4) ![0, g.val] S128x1.size b).toLoadRect (R.hsb.unread X.sb)) hn) fun p _ => P.sb g p := by
  intro p k
  pointwise [Memref.IsWhole.readAt_unread, h.sb _ _]

theorem head0 (h : Reads P S i e X) : Gated P S e 0 (runLater.sl.v401 c R X) (runLater.sl.v416 c R X) (runLater.sl.v425 c R X)
    (runLater.sl.v430 c R X) := gated_of c R h 0 0 rfl (sw0 c R h) (sb_at R h 0 _ _)

theorem head1 (h : Reads P S i e X) : Gated P S e 1 (runLater.sl.v527 c R X) (runLater.sl.v542 c R X) (runLater.sl.v551 c R X)
    (runLater.sl.v556 c R X) := gated_of c R h 1 128 rfl (sw1 c R h) (sb_at R h 1 _ _)

theorem head2 (h : Reads P S i e X) : Gated P S e 2 (runLater.sl.v653 c R X) (runLater.sl.v668 c R X) (runLater.sl.v677 c R X)
    (runLater.sl.v682 c R X) := gated_of c R h 2 256 rfl (sw2 c R h) (sb_at R h 2 _ _)

theorem head3 (h : Reads P S i e X) : Gated P S e 3 (runLater.sl.v779 c R X) (runLater.sl.v794 c R X) (runLater.sl.v803 c R X)
    (runLater.sl.v808 c R X) := gated_of c R h 3 384 rfl (sw3 c R h) (sb_at R h 3 _ _)

end Cert.Kernel2Ideal.Mixer

end
-- ==== Proof.MixerScratch.lean ====
/- The rows of one tile that pass through the scratch buffers: the gradients of the gate and of the normalised value, stored block
   by block, and the gradient of the projection that is made of them. -/
module

public import proofs.«01_k».proof.Proof.MixerHeads
public import proofs.«01_k».proof.Proof.Pieces

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix Cert.Pieces

variable {P : Mix.Weights} {S : Seq} {i : grid0.Coords} {e : ℕ} {X : Ins Ideal} (c : Dev nD) (R : Refs)

/-- `D` holds the columns of head `g` of the rows `G`, chunk beside chunk. -/
def Fits (D : FVec Ideal S128x1024 .f32) (g : Fin 4) (G : Fin 1024 → Fin 512 → ℝ) : Prop :=
  ∀ (p : Fin 128) (q : Fin 1024) (r : Fin 1024) (j : Fin 512), r.val = 128 * (q.val / 128) + p.val → j.val = 128 * g.val + q.val % 128 →
    D (ix2 p q) = ((G r j : ℝ) : EReal)

theorem Fits.piece {D : FVec Ideal S128x1024 .f32} {g : Fin 4} {G : Fin 1024 → Fin 512 → ℝ} (hD : Fits D g G) (k : Fin 8) (o b : ℕ)
    (ho : o = 128 * k.val) (hb : b = 128 * g.val) (hs : S128x1024.Slices ![0, o] S128x128) (hn : S128x128.numel = S128x128.numel)
    {r : Fin 1024} {j : Fin 512} (x y : Fin 128) (hr : r.val = o + x.val) (hj : j.val = b + y.val) :
    shapeCast S128x128 (extractStridedSlice S128x128 ![0, o] D hs) hn (ix2 x y) = ((G r j : ℝ) : EReal) := by
  subst ho hb
  pointwise []
  exact hD _ _ _ _ (by dsimp only; omega) (by dsimp only; omega)

/-- A head's eight blocks over earlier stores. -/
theorem Fits.column {D : FVec Ideal S128x1024 .f32} {g : Fin 4} {G : Fin 1024 → Fin 512 → ℝ} (hD : Fits D g G) (b : ℕ)
    (hb : b = 128 * g.val) (r : Fin 1024) (j : Fin 512)
    {h0 : S128x1024.Slices ![0, 0] S128x128} {h1 : S128x1024.Slices ![0, 128] S128x128} {h2 : S128x1024.Slices ![0, 256] S128x128}
    {h3 : S128x1024.Slices ![0, 384] S128x128} {h4 : S128x1024.Slices ![0, 512] S128x128} {h5 : S128x1024.Slices ![0, 640] S128x128}
    {h6 : S128x1024.Slices ![0, 768] S128x128} {h7 : S128x1024.Slices ![0, 896] S128x128} {hn : S128x128.numel = S128x128.numel}
    {i0 : ∀ x, (![0, b] : Fin 2 → ℕ) x + S128x128.size x ≤ S1024x512.size x}
    {i1 : ∀ x, (![128, b] : Fin 2 → ℕ) x + S128x128.size x ≤ S1024x512.size x}
    {i2 : ∀ x, (![256, b] : Fin 2 → ℕ) x + S128x128.size x ≤ S1024x512.size x}
    {i3 : ∀ x, (![384, b] : Fin 2 → ℕ) x + S128x128.size x ≤ S1024x512.size x}
    {i4 : ∀ x, (![512, b] : Fin 2 → ℕ) x + S128x128.size x ≤ S1024x512.size x}
    {i5 : ∀ x, (![640, b] : Fin 2 → ℕ) x + S128x128.size x ≤ S1024x512.size x}
    {i6 : ∀ x, (![768, b] : Fin 2 → ℕ) x + S128x128.size x ≤ S1024x512.size x}
    {i7 : ∀ x, (![896, b] : Fin 2 → ℕ) x + S128x128.size x ≤ S1024x512.size x}
    {L : List (View.Piece (Elt Ideal) S1024x512 .f32)}
    (hL : ¬(b ≤ j.val ∧ j.val < b + 128) → View.canon L (ix2 r j) = ((G r j : ℝ) : EReal)) :
    View.canon ((⟨Rect.unit (s := S1024x512) ![896, b] S128x128.size i7, shapeCast S128x128 (extractStridedSlice S128x128 ![0, 896] D h7) hn⟩ : View.Piece (Elt Ideal) S1024x512 .f32)
      :: (⟨Rect.unit (s := S1024x512) ![768, b] S128x128.size i6, shapeCast S128x128 (extractStridedSlice S128x128 ![0, 768] D h6) hn⟩ : View.Piece (Elt Ideal) S1024x512 .f32)
      :: (⟨Rect.unit (s := S1024x512) ![640, b] S128x128.size i5, shapeCast S128x128 (extractStridedSlice S128x128 ![0, 640] D h5) hn⟩ : View.Piece (Elt Ideal) S1024x512 .f32)
      :: (⟨Rect.unit (s := S1024x512) ![512, b] S128x128.size i4, shapeCast S128x128 (extractStridedSlice S128x128 ![0, 512] D h4) hn⟩ : View.Piece (Elt Ideal) S1024x512 .f32)
      :: (⟨Rect.unit (s := S1024x512) ![384, b] S128x128.size i3, shapeCast S128x128 (extractStridedSlice S128x128 ![0, 384] D h3) hn⟩ : View.Piece (Elt Ideal) S1024x512 .f32)
      :: (⟨Rect.unit (s := S1024x512) ![256, b] S128x128.size i2, shapeCast S128x128 (extractStridedSlice S128x128 ![0, 256] D h2) hn⟩ : View.Piece (Elt Ideal) S1024x512 .f32)
      :: (⟨Rect.unit (s := S1024x512) ![128, b] S128x128.size i1, shapeCast S128x128 (extractStridedSlice S128x128 ![0, 128] D h1) hn⟩ : View.Piece (Elt Ideal) S1024x512 .f32)
      :: (⟨Rect.unit (s := S1024x512) ![0, b] S128x128.size i0, shapeCast S128x128 (extractStridedSlice S128x128 ![0, 0] D h0) hn⟩ : View.Piece (Elt Ideal) S1024x512 .f32)
      :: L) (ix2 r j) = ((G r j : ℝ) : EReal) := by
  refine canon_step _ _ _ _ _ (fun x y hr hj => hD.piece 7 896 b rfl hb _ _ x y hr hj) fun m7 => ?_
  refine canon_step _ _ _ _ _ (fun x y hr hj => hD.piece 6 768 b rfl hb _ _ x y hr hj) fun m6 => ?_
  refine canon_step _ _ _ _ _ (fun x y hr hj => hD.piece 5 640 b rfl hb _ _ x y hr hj) fun m5 => ?_
  refine canon_step _ _ _ _ _ (fun x y hr hj => hD.piece 4 512 b rfl hb _ _ x y hr hj) fun m4 => ?_
  refine canon_step _ _ _ _ _ (fun x y hr hj => hD.piece 3 384 b rfl hb _ _ x y hr hj) fun m3 => ?_
  refine canon_step _ _ _ _ _ (fun x y hr hj => hD.piece 2 256 b rfl hb _ _ x y hr hj) fun m2 => ?_
  refine canon_step _ _ _ _ _ (fun x y hr hj => hD.piece 1 128 b rfl hb _ _ x y hr hj) fun m1 => ?_
  refine canon_step _ _ _ _ _ (fun x y hr hj => hD.piece 0 0 b rfl hb _ _ x y hr hj) fun m0 => ?_
  have hr := r.isLt
  exact hL fun hj => by omega

theorem Gated.fits_du {g : Fin 4} {du row weight back} (h : Gated P S e g du row weight back) :
    Fits du g fun r => Mix.du P S (1024 * e + r.val) := by
  intro p q r j hr hj
  have hp := p.isLt
  have hg := g.isLt
  have ej : col g (ln_ q) = j := Fin.ext (by dsimp only; omega)
  have et : at_ e q + p.val = 1024 * e + r.val := by
    show 1024 * e + 128 * (q.val / 128) + p.val = 1024 * e + r.val
    omega
  have ec : chunk (1024 * e + r.val) = at_ e q := by
    show 128 * ((1024 * e + r.val) / 128) = 1024 * e + 128 * (q.val / 128)
    omega
  have ei : inside (1024 * e + r.val) = p := Fin.ext (by dsimp only; omega)
  have eg : grp j = g := Fin.ext (by dsimp only; omega)
  have el : lane j = ln_ q := Fin.ext (by dsimp only; omega)
  refine (h.du p q).trans ?_
  show _ = ((dsg P S (1024 * e + r.val) j * mixAt P S (chunk (1024 * e + r.val)) (inside (1024 * e + r.val)) (grp j) (lane j) : ℝ) : EReal)
  dsimp only
  rw [ej, et, ec, ei, eg, el]

theorem Gated.fits_back {g : Fin 4} {du row weight back} (h : Gated P S e g du row weight back) :
    Fits back g fun r => Mix.dvln P S (1024 * e + r.val) := by
  intro p q r j hr hj
  have hp := p.isLt
  have hg := g.isLt
  have ec : chunk (1024 * e + r.val) = at_ e q := by
    show 128 * ((1024 * e + r.val) / 128) = 1024 * e + 128 * (q.val / 128)
    omega
  have ei : inside (1024 * e + r.val) = p := Fin.ext (by dsimp only; omega)
  have eg : grp j = g := Fin.ext (by dsimp only; omega)
  have el : lane j = ln_ q := Fin.ext (by dsimp only; omega)
  refine (h.back p q).trans ?_
  show _ = ((dvAt P S (chunk (1024 * e + r.val)) (inside (1024 * e + r.val)) (grp j) (lane j) : ℝ) : EReal)
  rw [ec, ei, eg, el]

theorem whole_idx {n k : ℕ} (inb : ∀ x, (![0, 0] : Fin 2 → ℕ) x + (![n, k] : Fin 2 → ℕ) x ≤ (⟨2, ![n, k]⟩ : Shape).size x)
    (r : Fin n) (j : Fin k) : (Rect.unit (s := ⟨2, ![n, k]⟩) ![0, 0] ![n, k] inb).toLoadRect.idx (ix2 r j) = ix2 r j :=
  emb_at inb r j r j (Nat.zero_add _).symm (Nat.zero_add _).symm

theorem du_rows (h : Reads P S i e X) (r : Fin 1024) (j : Fin 512) :
    View.canon (runLater.sl.H17_32 (F := Ideal) c R X) (ix2 r j) = ((Mix.du P S (1024 * e + r.val) j : ℝ) : EReal) := by
  have hj := j.isLt
  refine (head3 c R h).fits_du.column 384 rfl r j fun m3 => ?_
  refine (head2 c R h).fits_du.column 256 rfl r j fun m2 => ?_
  refine (head1 c R h).fits_du.column 128 rfl r j fun m1 => ?_
  refine (head0 c R h).fits_du.column 0 rfl r j fun m0 => ?_
  omega

theorem dvln_rows (h : Reads P S i e X) (r : Fin 1024) (j : Fin 512) :
    View.canon (runLater.sl.H18_32 (F := Ideal) c R X) (ix2 r j) = ((Mix.dvln P S (1024 * e + r.val) j : ℝ) : EReal) := by
  have hj := j.isLt
  refine (head3 c R h).fits_back.column 384 rfl r j fun m3 => ?_
  refine (head2 c R h).fits_back.column 256 rfl r j fun m2 => ?_
  refine (head1 c R h).fits_back.column 128 rfl r j fun m1 => ?_
  refine (head0 c R h).fits_back.column 0 rfl r j fun m0 => ?_
  omega

theorem dvln873 (h : Reads P S i e X) :
    Holds (φ := .f32) (runLater.sl.v873 (F := Ideal) c R X) fun r => Mix.dvln P S (1024 * e + r.val) := by
  intro r j
  refine (congrFun (View.readCov_eq_canon' _ _ _) _).trans ?_
  exact (congrArg (View.canon (runLater.sl.H18_32 (F := Ideal) c R X)) (whole_idx _ r j)).trans (dvln_rows c R h r j)

theorem du906 (h : Reads P S i e X) :
    Holds (φ := .f32) (runLater.sl.v906 (F := Ideal) c R X) fun r => Mix.du P S (1024 * e + r.val) := by
  intro r j
  refine (congrFun (View.readCov_eq_canon' _ _ _) _).trans ?_
  exact (congrArg (View.canon (runLater.sl.H17_32 (F := Ideal) c R X)) (whole_idx _ r j)).trans (du_rows c R h r j)

theorem exp_real (r : ℝ) : FloatOps.exp (F := Ideal) (φ := .f32) (r : EReal) = ((Real.exp r : ℝ) : EReal) := rfl

theorem dv905 (h : Reads P S i e X) :
    Holds (φ := .f32) (runLater.sl.r_6 (F := Ideal) c R X) fun r => dv P S (1024 * e + r.val) := by
  intro r j
  pointwise [runLater.sl.r_6, k0_pay188, dvln873 c R h _ _, hat359 c R h _ _, inv357 c R h _ _, Memref.IsWhole.readAt_unread, h.lg _ _,
    bits_512]
  simp only [← EReal.coe_mul, coe_sum, div_512, ← EReal.coe_sub]
  rfl

theorem dgate923 (h : Reads P S i e X) :
    Holds (φ := .bf16) (runLater.sl.r_7 (F := Ideal) c R X) fun r j =>
      Mix.du P S (1024 * e + r.val) j * gelu' (zu S (1024 * e + r.val) j) := by
  intro r j
  pointwise [runLater.sl.r_7, runLater.sl.r_1, k0_pay189, k0_pay57, proj27 c R h _ _, du906 c R h _ _, bits_half, bits_neg_half]
  simp only [named_half, named_pi, ← EReal.coe_mul, erf_real, exp_real, one_add, ← EReal.coe_add]
  rfl

theorem dvalue941 (h : Reads P S i e X) :
    Holds (φ := .bf16) (k0_pay190 (F := Ideal) (runLater.sl.r_2 c R X) (runLater.sl.r_6 c R X)) fun r j =>
      dv P S (1024 * e + r.val) j * gelu' (zv S (1024 * e + r.val) j) := by
  intro r j
  pointwise [runLater.sl.r_2, k0_pay190, k0_pay58, proj27 c R h _ _, dv905 c R h _ _, bits_half, bits_neg_half]
  simp only [named_half, named_pi, ← EReal.coe_mul, erf_real, exp_real, one_add, ← EReal.coe_add]
  rfl

end Cert.Kernel2Ideal.Mixer

end
-- ==== Proof.MixerTile.lean ====
/- What one tile of the mixer's backward pass leaves in its four outputs. -/
module

public import proofs.«01_k».proof.Proof.MixerScratch
public import proofs.«01_k».proof.Proof.MixerFrame

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix Cert.Pieces

variable {P : Mix.Weights} {S : Seq} {i : grid0.Coords} {e : ℕ} {X : Ins Ideal} (c : Dev nD) (R : Refs)

/-! ## The gradient of the projection and of the input -/

theorem dproj_rows (h : Reads P S i e X) (r : Fin 1024) (j : Fin 1536) :
    View.canon (runLater.sl.H14_6 (F := Ideal) c i R X) (ix2 r j) = ((dproj P S (1024 * e + r.val) j : ℝ) : EReal) := by
  have hj := j.isLt
  have hr := r.isLt
  have own : ∀ {x : Fin 1024}, r.val = 0 + x.val → x = r := fun q => Fin.ext (by omega)
  refine canon_step _ _ _ _ _ (fun x y hx hy => ?_) fun m0 => ?_
  · rw [own hx]; exact (dvalue941 c R h r y).trans (congrArg _ (dproj_value P S _ y j hy).symm)
  refine canon_step _ _ _ _ _ (fun x y hx hy => ?_) fun m1 => ?_
  · rw [own hx]; exact (dgate923 c R h r y).trans (congrArg _ (dproj_gate P S _ y j hy).symm)
  refine canon_step _ _ _ _ _ (fun x y hx hy => ?_) fun m2 => ?_
  · rw [own hx]; exact (dxp3 c R h r y).trans (congrArg _ (dproj_pool P S _ 3 y j hy).symm)
  refine canon_step _ _ _ _ _ (fun x y hx hy => ?_) fun m3 => ?_
  · rw [own hx]; exact (dxp2 c R h r y).trans (congrArg _ (dproj_pool P S _ 2 y j hy).symm)
  refine canon_step _ _ _ _ _ (fun x y hx hy => ?_) fun m4 => ?_
  · rw [own hx]; exact (dxp1 c R h r y).trans (congrArg _ (dproj_pool P S _ 1 y j hy).symm)
  refine canon_step _ _ _ _ _ (fun x y hx hy => ?_) fun m5 => ?_
  · rw [own hx]; exact (dxp0 c R h r y).trans (congrArg _ (dproj_pool P S _ 0 y j hy).symm)
  omega

theorem dproj945 (h : Reads P S i e X) :
    Holds (φ := .bf16) (runLater.sl.v945 (F := Ideal) c i R X) fun r => dproj P S (1024 * e + r.val) := by
  intro r j
  refine (congrFun (View.readCov_eq_canon' _ _ _) _).trans ?_
  exact (congrArg (View.canon (runLater.sl.H14_6 (F := Ideal) c i R X)) (whole_idx _ r j)).trans (dproj_rows c R h r j)

theorem gx950 (h : Reads P S i e X) :
    Holds (φ := .f32) (k0_pay1 (F := Ideal) (runLater.sl.r_8 c R X) (runLater.sl.r_9 c i R X)
      (View.readAt (Elt Ideal) R.win.view (Rect.unit (s := S1536x1024) ![0, 0] S1536x1024.size inb_S1536x1024_S1536x1024_0_0).toLoadRect
        (R.hwin.unread X.win))) fun r => gx P S (1024 * e + r.val) := by
  intro r j
  pointwise [k0_pay1, runLater.sl.r_8, runLater.sl.r_9, runLater.sl.r, k0_pay191, k0_pay192, dproj945 c R h _ _,
    Memref.IsWhole.readAt_unread, h.win _ _, h.dr _ _, bits_alpha]
  simp only [← EReal.coe_mul, coe_sum, zero_add, ← EReal.coe_add]
  rfl

/-! ## The gradients of the matrices -/

section Planes

variable {k : ℕ} (inb : ∀ x, (![k, 0, 0] : Fin 3 → ℕ) x + S1x128x128.size x ≤ S8x128x128.size x)
variable (w : S1x128x128.Idx → Elt Ideal .f32) (L : List (View.Piece (Elt Ideal) S8x128x128 .f32))
variable (g : Fin 8) (a b : Fin 128)

theorem plane_emb (hg : g.val = k) :
    (Rect.unit (s := S8x128x128) ![k, 0, 0] S1x128x128.size inb).emb (ix3 0 a b) = ix3 g a b := by
  funext x
  refine Fin.ext ?_
  rw [ValueKit.rect_emb_unit_val]
  fin_cases x
  · exact hg.symm
  · exact Nat.zero_add _
  · exact Nat.zero_add _

theorem plane_not_mem (hg : g.val ≠ k) :
    (ix3 g a b : S8x128x128.Idx) ∉ (Rect.unit (s := S8x128x128) ![k, 0, 0] S1x128x128.size inb).set := by
  intro hm
  obtain ⟨x, hx⟩ := (Rect.unit (s := S8x128x128) ![k, 0, 0] S1x128x128.size inb).exists_idx_of_mem hm
  have h0 := congrArg Fin.val (congrFun hx 0)
  change ((Rect.unit (s := S8x128x128) ![k, 0, 0] S1x128x128.size inb).emb x 0 : ℕ) = g.val at h0
  rw [ValueKit.rect_emb_unit_val] at h0
  have l0 : (x 0 : ℕ) < 1 := (x 0).isLt
  change k + (x 0 : ℕ) = g.val at h0
  omega

theorem plane_same : S1x128x128.numel = S128x128.numel := by decide

/-- A plane of the old contents plus a gradient. -/
abbrev planeSum (old : FVec Ideal S1x128x128 .f32) (grad : FVec Ideal S128x128 .f32) : FVec Ideal S1x128x128 .f32 :=
  shapeCast S1x128x128 (addf (shapeCast S128x128 old plane_same) grad) plane_same.symm

theorem plane_in (n : ℕ) (h : n < 8) (x : Fin 3) : (![n, 0, 0] : Fin 3 → ℕ) x + S1x128x128.size x ≤ S8x128x128.size x := by
  fin_cases x
  · exact h
  · exact le_refl 128
  · exact le_refl 128

theorem plane_pay {old : FVec Ideal S1x128x128 .f32} {grad : FVec Ideal S128x128 .f32} {f : Fin 128 → Fin 128 → ℝ}
    (hf : Holds grad f) (hn : S1x128x128.numel = S128x128.numel) (hn' : S128x128.numel = S1x128x128.numel) (a b : Fin 128) :
    shapeCast S1x128x128 (addf (shapeCast S128x128 old hn) grad) hn' (ix3 0 a b) = old (ix3 0 a b) + ((f a b : ℝ) : EReal) := by
  pointwise [hf _ _]

/-- The first `n` planes hold their values over the old contents `A`. -/
def Upto (V : S8x128x128.Idx → EReal) (A : Fin 8 → Fin 128 → Fin 128 → EReal) (M : Fin 8 → Fin 128 → Fin 128 → ℝ) (n : ℕ) : Prop :=
  ∀ g a b, V (ix3 g a b) = A g a b + (((if g.val < n then M g a b else 0 : ℝ)) : EReal)

variable {A : Fin 8 → Fin 128 → Fin 128 → EReal} {M : Fin 8 → Fin 128 → Fin 128 → ℝ}

theorem Upto.next {V V' : S8x128x128.Idx → EReal} {n : ℕ} (h : Upto V A M n)
    (hit : ∀ g a b, g.val = n → V' (ix3 g a b) = A g a b + ((M g a b : ℝ) : EReal))
    (miss : ∀ g a b, g.val ≠ n → V' (ix3 g a b) = V (ix3 g a b)) : Upto V' A M (n + 1) := by
  intro g a b
  by_cases q : g.val = n
  · rw [hit g a b q, if_pos (by omega)]
  · rw [miss g a b q, h g a b]
    by_cases q' : g.val < n
    · rw [if_pos q', if_pos (by omega)]
    · rw [if_neg q', if_neg (by omega)]

theorem Upto.first {L : List (View.Piece (Elt Ideal) S8x128x128 .f32)} {n : ℕ} (h : Upto (View.canon L) A M n) (k : Fin 8)
    (hk : k.val = n)
    {v : View sig .tc .vmem S8x128x128 .f32} {grad : FVec Ideal S128x128 .f32} (hf : Holds grad (M k)) :
    Upto (View.canon ((⟨Rect.unit (s := S8x128x128) ![n, 0, 0] S1x128x128.size (plane_in n (hk ▸ k.isLt)), planeSum
      (v.readCov L (Rect.unit (s := S8x128x128) ![n, 0, 0] S1x128x128.size (plane_in n (hk ▸ k.isLt))).toLoadRect) grad⟩
        : View.Piece (Elt Ideal) S8x128x128 .f32) :: L)) A M (n + 1) := by
  refine h.next (fun g a b hg => ?_) fun g a b hg => View.canon_cons_of_not_mem _ L (plane_not_mem (plane_in n (hk ▸ k.isLt)) g a b hg)
  obtain rfl : g = k := Fin.ext (by omega)
  rw [← plane_emb (plane_in n (hk ▸ g.isLt)) g a b hg]
  refine (View.canon_cons_emb _ _ L _).trans ?_
  refine (plane_pay hf plane_same plane_same.symm a b).trans (congrArg (· + ((M g a b : ℝ) : EReal)) ?_)
  refine (congrFun (View.readCov_eq_canon' _ _ _) _).trans ?_
  refine (congrArg (View.canon L) (plane_emb (plane_in n (hk ▸ g.isLt)) g a b hg)).trans ?_
  rw [h g a b, if_neg (by omega), EReal.coe_zero, add_zero]

theorem Upto.later {L : List (View.Piece (Elt Ideal) S8x128x128 .f32)} {n : ℕ} {m : Memref sig .tc .vmem S8x128x128 .f32}
    {hm : m.IsWhole} {y : S8x128x128.Idx → EReal}
    (h : Upto (m.view.read (Elt Ideal) (m.view.writes (Elt Ideal) (hm.unread y) L)) (fun g a b => y (ix3 g a b)) M n) (k : Fin 8)
    (hk : k.val = n)
    {grad : FVec Ideal S128x128 .f32} (hf : Holds grad (M k)) :
    Upto (m.view.read (Elt Ideal) (m.view.writes (Elt Ideal) (hm.unread y)
      ((⟨Rect.unit (s := S8x128x128) ![n, 0, 0] S1x128x128.size (plane_in n (hk ▸ k.isLt)), planeSum
      (View.readAt (Elt Ideal) m.view (Rect.unit (s := S8x128x128) ![n, 0, 0] S1x128x128.size (plane_in n (hk ▸ k.isLt))).toLoadRect (hm.unread y))
        grad⟩ : View.Piece (Elt Ideal) S8x128x128 .f32) :: L)))
      (fun g a b => y (ix3 g a b)) M (n + 1) := by
  refine h.next (fun g a b hg => ?_) fun g a b hg => ?_
  · obtain rfl : g = k := Fin.ext (by omega)
    rw [← plane_emb (plane_in n (hk ▸ g.isLt)) g a b hg]
    refine (m.view.read_writes_cons_emb _ _ _ L _).trans ?_
    refine (plane_pay hf plane_same plane_same.symm a b).trans (congrArg (· + ((M g a b : ℝ) : EReal)) ?_)
    rw [Memref.IsWhole.readAt_unread]
    rfl
  · rw [View.writes_cons]
    exact View.read_slice_write_of_not_mem _ _ _ _ (by rw [Rect.map_emb_univ]; exact plane_not_mem (plane_in n (hk ▸ k.isLt)) g a b hg)

end Planes

theorem mat_pool (g : Fin 4) (k : Fin 8) (hk : k.val = g.val) (t : ℕ) (a b : Fin 128) :
    matPart P S t k a b = ∑ r : Fin 1024, pooled S (t + r.val) g a * dsb P S (t + r.val) g b := by
  have hg := g.isLt
  have e : ∀ q : k.val < 4, (⟨k.val, q⟩ : Fin 4) = g := fun q => Fin.ext hk
  rw [matPart, dif_pos (by omega), e]

theorem mat_head (g : Fin 4) (k : Fin 8) (hk : k.val = 4 + g.val) (a b : Fin 128) :
    matPart P S (1024 * e) k a b = if b ≤ a then ∑ q : Fin 1024, dmx P S (at_ e q + a.val) (col g (ln_ q))
      * vln P S (at_ e q + b.val) (col g (ln_ q)) else 0 := by
  have hg := g.isLt
  have e' : ∀ q : k.val - 4 < 4, (⟨k.val - 4, q⟩ : Fin 4) = g := fun q => Fin.ext (by dsimp only; omega)
  rw [matPart, dif_neg (by omega)]
  simp only [e']

theorem holds_pool {V : FVec Ideal S128x128 .f32} (g : Fin 4) (k : Fin 8) (hk : k.val = g.val)
    (h : Holds V fun a b => ∑ r : Fin 1024, pooled S (1024 * e + r.val) g a * dsb P S (1024 * e + r.val) g b) :
    Holds V (matPart P S (1024 * e) k) := fun a b => (h a b).trans (congrArg _ (mat_pool g k hk _ a b).symm)

theorem holds_head {V : FVec Ideal S128x128 .f32} (g : Fin 4) (k : Fin 8) (hk : k.val = 4 + g.val)
    (h : Holds V fun a b => if b ≤ a then ∑ q : Fin 1024, dmx P S (at_ e q + a.val) (col g (ln_ q))
      * vln P S (at_ e q + b.val) (col g (ln_ q)) else 0) :
    Holds V (matPart P S (1024 * e) k) := fun a b => (h a b).trans (congrArg _ (mat_head g k hk a b).symm)

theorem mat_later (h : Reads P S i e X) (hi : ¬ First i) (y : Vec Ideal S8x128x128 .f32) (z : Vec Ideal S16x1024 .f32)
    (g : Fin 8) (a b : Fin 128) :
    (outLater c i R hi X y z).dmat (ix3 g a b) = y (ix3 g a b) + ((matPart P S (1024 * e) g a b : ℝ) : EReal) := by
  have s0 : Upto (R.dmat.view.read (Elt Ideal) (R.dmat.view.writes (Elt Ideal) (R.hdmat.unread y) []))
      (fun g a b => y (ix3 g a b)) (matPart P S (1024 * e)) 0 := fun g a b => by
    rw [if_neg (by omega), EReal.coe_zero, add_zero]
    exact congrFun (R.hdmat.read_unread y) _
  have s := (((((((s0.later 0 rfl (holds_pool 0 0 rfl (grad0 c R h))).later 1 rfl (holds_pool 1 1 rfl (grad1 c R h))).later 2 rfl
    (holds_pool 2 2 rfl (grad2 c R h))).later 3 rfl (holds_pool 3 3 rfl (grad3 c R h))).later 4 rfl
    (holds_head 0 4 rfl (head0 c R h).weight)).later 5 rfl (holds_head 1 5 rfl (head1 c R h).weight)).later 6 rfl
    (holds_head 2 6 rfl (head2 c R h).weight)).later 7 rfl (holds_head 3 7 rfl (head3 c R h).weight)
  refine (s g a b).trans ?_
  rw [if_pos g.isLt]

theorem mat_first (h : Reads P S i e X) (hi : First i) (g : Fin 8) (a b : Fin 128) :
    (outFirst c i R hi X).dmat (ix3 g a b) = ((matPart P S (1024 * e) g a b : ℝ) : EReal) := by
  have s0 : Upto (View.canon (runFirst.sl.H15_1 (F := Ideal))) (fun _ _ _ => 0) (matPart P S (1024 * e)) 0 := fun g a b => by
    rw [if_neg (by omega), EReal.coe_zero, add_zero]
    refine (congrFun (View.canon_cons_unit_zero (S := S8x128x128) (by funext x; fin_cases x <;> rfl) _ _ _) _).trans ?_
    pointwise [runFirst.sl.v952, runFirst.sl.cst_414]
  have s1 : Upto (View.canon (runFirst.sl.H15_2 (F := Ideal) c i R X)) (fun _ _ _ => 0) (matPart P S (1024 * e)) 1 :=
    s0.first (v := R.dmat.view) 0 rfl (holds_pool 0 0 rfl (grad0 c R h))
  have s2 : Upto (View.canon (runFirst.sl.H15_3 (F := Ideal) c i R X)) (fun _ _ _ => 0) (matPart P S (1024 * e)) 2 :=
    s1.first (v := R.dmat.view) 1 rfl (holds_pool 1 1 rfl (grad1 c R h))
  have s3 : Upto (View.canon (runFirst.sl.H15_4 (F := Ideal) c i R X)) (fun _ _ _ => 0) (matPart P S (1024 * e)) 3 :=
    s2.first (v := R.dmat.view) 2 rfl (holds_pool 2 2 rfl (grad2 c R h))
  have s4 : Upto (View.canon (runFirst.sl.H15_5 (F := Ideal) c i R X)) (fun _ _ _ => 0) (matPart P S (1024 * e)) 4 :=
    s3.first (v := R.dmat.view) 3 rfl (holds_pool 3 3 rfl (grad3 c R h))
  have s5 : Upto (View.canon (runFirst.sl.H15_6 (F := Ideal) c i R X)) (fun _ _ _ => 0) (matPart P S (1024 * e)) 5 :=
    s4.first (v := R.dmat.view) 4 rfl (holds_head 0 4 rfl (head0 c R h).weight)
  have s6 : Upto (View.canon (runFirst.sl.H15_7 (F := Ideal) c i R X)) (fun _ _ _ => 0) (matPart P S (1024 * e)) 6 :=
    s5.first (v := R.dmat.view) 5 rfl (holds_head 1 5 rfl (head1 c R h).weight)
  have s7 : Upto (View.canon (runFirst.sl.H15_8 (F := Ideal) c i R X)) (fun _ _ _ => 0) (matPart P S (1024 * e)) 7 :=
    s6.first (v := R.dmat.view) 6 rfl (holds_head 2 6 rfl (head2 c R h).weight)
  have s8 : Upto (View.canon ((runFirst c i R hi X).2.2.1)) (fun _ _ _ => 0) (matPart P S (1024 * e)) 8 :=
    s7.first (v := R.dmat.view) 7 rfl (holds_head 3 7 rfl (head3 c R h).weight)
  refine (s8 g a b).trans ?_
  rw [if_pos g.isLt, zero_add]

end Cert.Kernel2Ideal.Mixer

end
-- ==== Proof.MixerVec.lean ====
/- What one tile of the mixer's backward pass adds to the vectors' gradients. -/
module

public import proofs.«01_k».proof.Proof.MixerTile

@[expose] public section

set_option maxRecDepth 16384

noncomputable section

open Idealize.ShloMosaic Idealize.ShloMosaic.TcCoe Idealize.SL.Sem

namespace Cert.Kernel2Ideal.Mixer

open Cert.Kernel2Ideal Cert.Kernel2Ideal.Gen Cert.Layer Cert.Mix Cert.Pieces

variable {P : Mix.Weights} {S : Seq} {i : grid0.Coords} {e : ℕ} {X : Ins Ideal} (c : Dev nD) (R : Refs)

/-- The store that writes row `r`, column `c`, counted from nought; ten where none does. -/
def stage (r c : ℕ) : ℕ :=
  if r = 0 ∧ c < 512 then c / 128 else if 3 ≤ r ∧ r < 7 ∧ c < 128 then r + 1 else if r = 2 ∧ c < 512 then 8
  else if r = 1 ∧ c < 512 then 9 else 10

theorem stage_scale (g : ℕ) (hg : g < 4) (r c : ℕ) : stage r c = g ↔ r = 0 ∧ 128 * g ≤ c ∧ c < 128 * g + 128 := by
  unfold stage; constructor <;> intro h <;> split_ifs at * <;> omega

theorem stage_shift (k : ℕ) (h3 : 3 ≤ k) (h7 : k < 7) (r c : ℕ) : stage r c = k + 1 ↔ r = k ∧ 0 ≤ c ∧ c < 0 + 128 := by
  unfold stage; constructor <;> intro h <;> split_ifs at * <;> omega

theorem stage_two (r c : ℕ) : stage r c = 8 ↔ r = 2 ∧ 0 ≤ c ∧ c < 0 + 512 := by
  unfold stage; constructor <;> intro h <;> split_ifs at * <;> omega

theorem stage_one (r c : ℕ) : stage r c = 9 ↔ r = 1 ∧ 0 ≤ c ∧ c < 0 + 512 := by
  unfold stage; constructor <;> intro h <;> split_ifs at * <;> omega

/-- The first `n` stores have added their values to the old contents `A`. -/
def Rows (V : S16x1024.Idx → EReal) (A : Fin 16 → Fin 1024 → EReal) (M : Fin 16 → Fin 1024 → ℝ) (n : ℕ) : Prop :=
  ∀ r c, V (ix2 r c) = A r c + (((if stage r.val c.val < n then M r c else 0 : ℝ)) : EReal)

variable {A : Fin 16 → Fin 1024 → EReal} {M : Fin 16 → Fin 1024 → ℝ}

theorem Rows.next {V V' : S16x1024.Idx → EReal} {n : ℕ} (h : Rows V A M n)
    (hit : ∀ r c, stage r.val c.val = n → V' (ix2 r c) = A r c + ((M r c : ℝ) : EReal))
    (miss : ∀ r c, stage r.val c.val ≠ n → V' (ix2 r c) = V (ix2 r c)) : Rows V' A M (n + 1) := by
  intro r c
  by_cases q : stage r.val c.val = n
  · rw [hit r c q, if_pos (by omega)]
  · rw [miss r c q, h r c]
    by_cases q' : stage r.val c.val < n
    · rw [if_pos q', if_pos (by omega)]
    · rw [if_neg q', if_neg (by omega)]

section Row

variable (k o w : ℕ)

/-- A row of the old contents plus a gradient. -/
abbrev rowSum {w : ℕ} (old grad : FVec Ideal ⟨2, ![1, w]⟩ .f32) : FVec Ideal ⟨2, ![1, w]⟩ .f32 :=
  addf (shapeCast ⟨2, ![1, w]⟩ old rfl) grad

theorem row_in (hk : k < 16) (ho : o + w ≤ 1024) (x : Fin 2) :
    (![k, o] : Fin 2 → ℕ) x + (⟨2, ![1, w]⟩ : Shape).size x ≤ S16x1024.size x := by
  fin_cases x
  · exact hk
  · exact ho

theorem row_pay {w : ℕ} (old grad : FVec Ideal ⟨2, ![1, w]⟩ .f32) (j : Fin w) :
    rowSum old grad (ix2 0 j) = old (ix2 0 j) + grad (ix2 0 j) := by
  rw [rowSum, shapeCast_self]
  rfl

variable {k o w}

theorem Rows.first {L : List (View.Piece (Elt Ideal) S16x1024 .f32)} {n : ℕ} (h : Rows (View.canon L) A M n)
    (hk : k < 16) (ho : o + w ≤ 1024) (reg : ∀ r c, stage r c = n ↔ r = k ∧ o ≤ c ∧ c < o + w)
    {v : View sig .tc .vmem S16x1024 .f32} {grad : FVec Ideal ⟨2, ![1, w]⟩ .f32}
    (hf : ∀ (r : Fin 16) (j : Fin w) (c : Fin 1024), r.val = k → c.val = o + j.val → grad (ix2 0 j) = ((M r c : ℝ) : EReal)) :
    Rows (View.canon ((⟨Rect.unit (s := S16x1024) ![k, o] (⟨2, ![1, w]⟩ : Shape).size (row_in k o w hk ho), rowSum
      (v.readCov L (Rect.unit (s := S16x1024) ![k, o] (⟨2, ![1, w]⟩ : Shape).size (row_in k o w hk ho)).toLoadRect) grad⟩
        : View.Piece (Elt Ideal) S16x1024 .f32) :: L)) A M (n + 1) := by
  refine h.next (fun r c hg => ?_) fun r c hg => canon_miss _ _ L r c fun q => hg ((reg _ _).2 ⟨by omega, q.2.2.1, q.2.2.2⟩)
  obtain ⟨h1, h2, h3⟩ := (reg _ _).1 hg
  have hr : r.val = k + (0 : Fin 1).val := h1
  have hc : c.val = o + (⟨c.val - o, by omega⟩ : Fin w).val := by dsimp only; omega
  refine (canon_hit _ _ L r c 0 ⟨c.val - o, by omega⟩ hr hc).trans ?_
  refine (row_pay _ _ _).trans ?_
  rw [hf r ⟨c.val - o, by omega⟩ c h1 hc]
  refine congrArg (· + ((M r c : ℝ) : EReal)) ?_
  refine (congrFun (View.readCov_eq_canon' _ _ _) _).trans ?_
  refine (congrArg (View.canon L) (emb_at (row_in k o w hk ho) r c 0 ⟨c.val - o, by omega⟩ hr hc)).trans ?_
  rw [h r c, if_neg (by omega), EReal.coe_zero, add_zero]

theorem Rows.later {L : List (View.Piece (Elt Ideal) S16x1024 .f32)} {n : ℕ} {m : Memref sig .tc .vmem S16x1024 .f32}
    {hm : m.IsWhole} {z : S16x1024.Idx → EReal}
    (h : Rows (m.view.read (Elt Ideal) (m.view.writes (Elt Ideal) (hm.unread z) L)) (fun r c => z (ix2 r c)) M n)
    (hk : k < 16) (ho : o + w ≤ 1024) (reg : ∀ r c, stage r c = n ↔ r = k ∧ o ≤ c ∧ c < o + w)
    {grad : FVec Ideal ⟨2, ![1, w]⟩ .f32}
    (hf : ∀ (r : Fin 16) (j : Fin w) (c : Fin 1024), r.val = k → c.val = o + j.val → grad (ix2 0 j) = ((M r c : ℝ) : EReal)) :
    Rows (m.view.read (Elt Ideal) (m.view.writes (Elt Ideal) (hm.unread z)
      ((⟨Rect.unit (s := S16x1024) ![k, o] (⟨2, ![1, w]⟩ : Shape).size (row_in k o w hk ho), rowSum
      (View.readAt (Elt Ideal) m.view (Rect.unit (s := S16x1024) ![k, o] (⟨2, ![1, w]⟩ : Shape).size (row_in k o w hk ho)).toLoadRect
        (hm.unread z)) grad⟩ : View.Piece (Elt Ideal) S16x1024 .f32) :: L))) (fun r c => z (ix2 r c)) M (n + 1) := by
  refine h.next (fun r c hg => ?_) fun r c hg =>
    writes_miss _ _ L r c m.view _ fun q => hg ((reg _ _).2 ⟨by omega, q.2.2.1, q.2.2.2⟩)
  obtain ⟨h1, h2, h3⟩ := (reg _ _).1 hg
  have hr : r.val = k + (0 : Fin 1).val := h1
  have hc : c.val = o + (⟨c.val - o, by omega⟩ : Fin w).val := by dsimp only; omega
  refine (writes_hit _ _ L r c m.view _ 0 ⟨c.val - o, by omega⟩ hr hc).trans ?_
  refine (row_pay _ _ _).trans ?_
  rw [hf r ⟨c.val - o, by omega⟩ c h1 hc]
  refine congrArg (· + ((M r c : ℝ) : EReal)) ?_
  rw [Memref.IsWhole.readAt_unread]
  exact congrArg z (emb_at (row_in k o w hk ho) r c 0 ⟨c.val - o, by omega⟩ hr hc)

end Row

/-- What the 1024 rows from `t` on give to a row of the accumulator: nothing to the lower eight. -/
def vecAll (P : Mix.Weights) (S : Seq) (t : ℕ) (r : Fin 16) (c : Fin 1024) : ℝ :=
  if h : r.val < 8 then vecPart P S t ⟨r.val, h⟩ c else 0

theorem row_scale (g : Fin 4) {grad : FVec Ideal S1x128 .f32}
    (h : Holds grad fun _ j => ∑ r : Fin 1024, dpo P S (1024 * e + r.val) (col g j) * pre P S (1024 * e + r.val) g j)
    (o : ℕ) (ho : o = 128 * g.val) (r : Fin 16) (j : Fin 128) (c : Fin 1024) (hr : r.val = 0) (hc : c.val = o + j.val) :
    grad (ix2 0 j) = ((vecAll P S (1024 * e) r c : ℝ) : EReal) := by
  have hg := g.isLt
  have hj := j.isLt
  have e1 : ∀ q : c.val < 512, (⟨c.val, q⟩ : Fin 512) = col g j := fun q => Fin.ext (by dsimp only; omega)
  have e2 : grp (col g j) = g := Fin.ext (by dsimp only; omega)
  have e3 : lane (col g j) = j := Fin.ext (by dsimp only; omega)
  rw [h 0 j, vecAll, dif_pos (by omega), vecPart, dif_pos (by dsimp only; omega), dif_pos (by omega), if_pos hr]
  simp only [e1, e2, e3]

theorem row_shift (g : Fin 4) {grad : FVec Ideal S1x128 .f32}
    (h : Holds grad fun _ p => ∑ q : Fin 1024, dmx P S (at_ e q + p.val) (col g (ln_ q)))
    (k : ℕ) (hk : k = 3 + g.val) (r : Fin 16) (j : Fin 128) (c : Fin 1024) (hr : r.val = k) (hc : c.val = 0 + j.val) :
    grad (ix2 0 j) = ((vecAll P S (1024 * e) r c : ℝ) : EReal) := by
  have hg := g.isLt
  have hj := j.isLt
  have e1 : ∀ q : r.val - 3 < 4, (⟨r.val - 3, q⟩ : Fin 4) = g := fun q => Fin.ext (by dsimp only; omega)
  have e2 : c.val = j.val := by omega
  rw [h 0 j, vecAll, dif_pos (by omega), vecPart, dif_neg (by dsimp only; omega), dif_pos (by dsimp only; omega), if_pos (by omega)]
  simp only [e1, e2]

theorem row_two (h : Reads P S i e X) (r : Fin 16) (j : Fin 512) (c' : Fin 1024) (hr : r.val = 2) (hc : c'.val = 0 + j.val) :
    (runLater.sl.v877 (F := Ideal) c R X) (ix2 0 j) = ((vecAll P S (1024 * e) r c' : ℝ) : EReal) := by
  have hj := j.isLt
  have e1 : ∀ q : c'.val < 512, (⟨c'.val, q⟩ : Fin 512) = j := fun q => Fin.ext (by dsimp only; omega)
  rw [vecAll, dif_pos (by omega), vecPart, dif_pos (by dsimp only; omega), dif_pos (by omega), if_neg (by dsimp only; omega),
    if_neg (by dsimp only; omega)]
  simp only [e1]
  pointwise [runLater.sl.v877, runLater.sl.v876, dvln873 c R h _ _]
  exact coe_sum _

theorem row_one (h : Reads P S i e X) (hn : S512.numel = S1x512.numel) (hred : Shape.Reduces S1024x512 [0] S512)
    (r : Fin 16) (j : Fin 512) (c' : Fin 1024) (hr : r.val = 1) (hc : c'.val = 0 + j.val) :
    shapeCast S1x512 (multiReduction (F := Ideal) (φ := .f32) .add [0] S512 (runLater.sl.v882 c R X) 0x00000000#32 hred (.inl rfl) rfl) hn (ix2 0 j)
      = ((vecAll P S (1024 * e) r c' : ℝ) : EReal) := by
  have hj := j.isLt
  have e1 : ∀ q : c'.val < 512, (⟨c'.val, q⟩ : Fin 512) = j := fun q => Fin.ext (by dsimp only; omega)
  rw [vecAll, dif_pos (by omega), vecPart, dif_pos (by dsimp only; omega), dif_pos (by omega), if_neg (by dsimp only; omega),
    if_pos hr]
  simp only [e1]
  pointwise [runLater.sl.v882, dvln873 c R h _ _, hat359 c R h _ _]
  simp only [← EReal.coe_mul, coe_sum]

/-- Every entry that some store adds to is reached, the others get nothing. -/
theorem stage_all (t : ℕ) (r : Fin 16) (c : Fin 1024) :
    (if stage r.val c.val < 10 then vecAll P S t r c else 0) = vecAll P S t r c := by
  by_cases q : stage r.val c.val < 10
  · rw [if_pos q]
  rw [if_neg q]
  have hc := c.isLt
  rw [vecAll]
  split_ifs with h8
  · rw [vecPart]
    dsimp only
    split_ifs <;> first | rfl | (refine absurd ?_ q; unfold stage; split_ifs <;> omega)
  · rfl

theorem vec_later (h : Reads P S i e X) (hi : ¬ First i) (y : Vec Ideal S8x128x128 .f32) (z : Vec Ideal S16x1024 .f32)
    (r : Fin 16) (k : Fin 1024) :
    (outLater c i R hi X y z).dvec (ix2 r k) = z (ix2 r k) + ((vecAll P S (1024 * e) r k : ℝ) : EReal) := by
  have s0 : Rows (R.dvec.view.read (Elt Ideal) (R.dvec.view.writes (Elt Ideal) (R.hdvec.unread z) []))
      (fun r c => z (ix2 r c)) (vecAll P S (1024 * e)) 0 := fun g a => by
    rw [if_neg (by omega), EReal.coe_zero, add_zero]
    exact congrFun (R.hdvec.read_unread z) _
  have s4 := (((s0.later (k := 0) (o := 0) (w := 128) (by omega) (by omega) (stage_scale 0 (by omega)) (row_scale 0 (scale0 c R h) 0 rfl)).later
    (k := 0) (o := 128) (w := 128) (by omega) (by omega) (stage_scale 1 (by omega)) (row_scale 1 (scale1 c R h) 128 rfl)).later
    (k := 0) (o := 256) (w := 128) (by omega) (by omega) (stage_scale 2 (by omega)) (row_scale 2 (scale2 c R h) 256 rfl)).later
    (k := 0) (o := 384) (w := 128) (by omega) (by omega) (stage_scale 3 (by omega)) (row_scale 3 (scale3 c R h) 384 rfl)
  have s8 := (((s4.later (k := 3) (o := 0) (w := 128) (by omega) (by omega) (stage_shift 3 (by omega) (by omega)) (row_shift 0 (head0 c R h).row 3 rfl)).later
    (k := 4) (o := 0) (w := 128) (by omega) (by omega) (stage_shift 4 (by omega) (by omega)) (row_shift 1 (head1 c R h).row 4 rfl)).later
    (k := 5) (o := 0) (w := 128) (by omega) (by omega) (stage_shift 5 (by omega) (by omega)) (row_shift 2 (head2 c R h).row 5 rfl)).later
    (k := 6) (o := 0) (w := 128) (by omega) (by omega) (stage_shift 6 (by omega) (by omega)) (row_shift 3 (head3 c R h).row 6 rfl)
  have s10 := (s8.later (k := 2) (o := 0) (w := 512) (by omega) (by omega) stage_two (row_two c R h)).later
    (k := 1) (o := 0) (w := 512) (by omega) (by omega) stage_one
    (row_one c R h shapeCasts_S512_S1x512 reduces_S1024x512_S512)
  exact (s10 r k).trans (congrArg (fun x : ℝ => z (ix2 r k) + (x : EReal)) (stage_all _ r k))

/-- What the accumulator holds before the first tile: nothing in its upper half, the carried statistics below. -/
def carried (st : Vec Ideal S8x1024 .f32) (r : Fin 16) (k : Fin 1024) : EReal :=
  if h : r.val < 8 then 0 else st (ix2 ⟨r.val - 8, by omega⟩ k)

theorem vec_first (h : Reads P S i e X) (hi : First i) (r : Fin 16) (k : Fin 1024) :
    (outFirst c i R hi X).dvec (ix2 r k) = carried X.stats r k + ((vecAll P S (1024 * e) r k : ℝ) : EReal) := by
  have s0 : Rows (View.canon (runFirst.sl.H16_2 (F := Ideal) c R X)) (carried X.stats) (vecAll P S (1024 * e)) 0 := fun r k => by
    have hr := r.isLt
    have hk := k.isLt
    rw [if_neg (by omega), EReal.coe_zero, add_zero]
    refine canon_step _ _ _ _ _ (fun x y hx hy => ?_) fun m0 => canon_step _ _ _ _ _ (fun x y hx hy => ?_) fun m1 => by omega
    · have ex : (⟨r.val - 8, by omega⟩ : Fin 8) = x := Fin.ext (by dsimp only; omega)
      have ey : k = y := Fin.ext (by omega)
      rw [carried, dif_neg (by omega), ex, ey]
      pointwise [Memref.IsWhole.readAt_unread]
    · rw [carried, dif_pos (by omega)]
      pointwise [runFirst.sl.v954, runFirst.sl.cst_414]
  have s1 : Rows (View.canon (runFirst.sl.H16_3 (F := Ideal) c i R X)) (carried X.stats) (vecAll P S (1024 * e)) 1 :=
    s0.first (v := R.dvec.view) (k := 0) (o := 0) (w := 128) (by omega) (by omega) (stage_scale 0 (by omega)) (row_scale 0 (scale0 c R h) 0 rfl)
  have s2 : Rows (View.canon (runFirst.sl.H16_4 (F := Ideal) c i R X)) (carried X.stats) (vecAll P S (1024 * e)) 2 :=
    s1.first (v := R.dvec.view) (k := 0) (o := 128) (w := 128) (by omega) (by omega) (stage_scale 1 (by omega)) (row_scale 1 (scale1 c R h) 128 rfl)
  have s3 : Rows (View.canon (runFirst.sl.H16_5 (F := Ideal) c i R X)) (carried X.stats) (vecAll P S (1024 * e)) 3 :=
    s2.first (v := R.dvec.view) (k := 0) (o := 256) (w := 128) (by omega) (by omega) (stage_scale 2 (by omega)) (row_scale 2 (scale2 c R h) 256 rfl)
  have s4 : Rows (View.canon (runFirst.sl.H16_6 (F := Ideal) c i R X)) (carried X.stats) (vecAll P S (1024 * e)) 4 :=
    s3.first (v := R.dvec.view) (k := 0) (o := 384) (w := 128) (by omega) (by omega) (stage_scale 3 (by omega)) (row_scale 3 (scale3 c R h) 384 rfl)
  have s5 : Rows (View.canon (runFirst.sl.H16_7 (F := Ideal) c i R X)) (carried X.stats) (vecAll P S (1024 * e)) 5 :=
    s4.first (v := R.dvec.view) (k := 3) (o := 0) (w := 128) (by omega) (by omega) (stage_shift 3 (by omega) (by omega)) (row_shift 0 (head0 c R h).row 3 rfl)
  have s6 : Rows (View.canon (runFirst.sl.H16_8 (F := Ideal) c i R X)) (carried X.stats) (vecAll P S (1024 * e)) 6 :=
    s5.first (v := R.dvec.view) (k := 4) (o := 0) (w := 128) (by omega) (by omega) (stage_shift 4 (by omega) (by omega)) (row_shift 1 (head1 c R h).row 4 rfl)
  have s7 : Rows (View.canon (runFirst.sl.H16_9 (F := Ideal) c i R X)) (carried X.stats) (vecAll P S (1024 * e)) 7 :=
    s6.first (v := R.dvec.view) (k := 5) (o := 0) (w := 128) (by omega) (by omega) (stage_shift 5 (by omega) (by omega)) (row_shift 2 (head2 c R h).row 5 rfl)
  have s8 : Rows (View.canon (runFirst.sl.H16_10 (F := Ideal) c i R X)) (carried X.stats) (vecAll P S (1024 * e)) 8 :=
    s7.first (v := R.dvec.view) (k := 6) (o := 0) (w := 128) (by omega) (by omega) (stage_shift 6 (by omega) (by omega)) (row_shift 3 (head3 c R h).row 6 rfl)
  have s9 : Rows (View.canon (runFirst.sl.H16_11 (F := Ideal) c i R X)) (carried X.stats) (vecAll P S (1024 * e)) 9 :=
    s8.first (v := R.dvec.view) (k := 2) (o := 0) (w := 512) (by omega) (by omega) stage_two (row_two c R h)
  have s10 : Rows (View.canon (runFirst c i R hi X).2.2.2.1) (carried X.stats) (vecAll P S (1024 * e)) 10 :=
    s9.first (v := R.dvec.view) (k := 1) (o := 0) (w := 512) (by omega) (by omega) stage_one
      (row_one c R h shapeCasts_S512_S1x512 reduces_S1024x512_S512)
  unfold outFirst
  dsimp only
  exact (s10 r k).trans (congrArg (fun x : ℝ => carried X.stats r k + (x : EReal)) (stage_all _ r k))

/-! ## The gradients of the projection and of the input, at a first and at a later tile -/

theorem dproj_later (h : Reads P S i e X) (hi : ¬ First i) (y : Vec Ideal S8x128x128 .f32) (z : Vec Ideal S16x1024 .f32)
    (r : Fin 1024) (j : Fin 1536) :
    (outLater c i R hi X y z).dproj (ix2 r j) = ((dproj P S (1024 * e + r.val) j : ℝ) : EReal) := by
  unfold outLater; dsimp only; unfold runLater; dsimp only
  exact dproj_rows c R h r j

theorem gx_later (h : Reads P S i e X) (hi : ¬ First i) (y : Vec Ideal S8x128x128 .f32) (z : Vec Ideal S16x1024 .f32)
    (r : Fin 1024) (j : Fin 1024) :
    (outLater c i R hi X y z).gx (ix2 r j) = ((gx P S (1024 * e + r.val) j : ℝ) : EReal) := by
  unfold outLater; dsimp only; unfold runLater; dsimp only
  exact (congrFun (View.canon_cons_unit_zero (S := S1024x1024) (by funext x; fin_cases x <;> rfl) _ _ _) _).trans (gx950 c R h r j)

theorem dproj_first (h : Reads P S i e X) (hi : First i)
    (r : Fin 1024) (j : Fin 1536) :
    (outFirst c i R hi X).dproj (ix2 r j) = ((dproj P S (1024 * e + r.val) j : ℝ) : EReal) := by
  unfold outFirst; dsimp only; unfold runFirst; dsimp only
  exact dproj_rows c R h r j

theorem gx_first (h : Reads P S i e X) (hi : First i)
    (r : Fin 1024) (j : Fin 1024) :
    (outFirst c i R hi X).gx (ix2 r j) = ((gx P S (1024 * e + r.val) j : ℝ) : EReal) := by
  unfold outFirst; dsimp only; unfold runFirst; dsimp only
  exact (congrFun (View.canon_cons_unit_zero (S := S1024x1024) (by funext x; fin_cases x <;> rfl) _ _ _) _).trans (gx950 c R h r j)

end Cert.Kernel2Ideal.Mixer

end
-- ==== Proof.MixerResult.lean ====
/- What the mixer's backward kernel leaves in its four results, as sums of real numbers. -/
module

public import proofs.«01_k».proof.Proof.MixerVec
public import proofs.«01_k».proof.Proof.MixerArgs

@[expose] public section

set_option maxRecDepth 16384

noncomputable section

open Idealize.ShloMosaic Idealize.ShloMosaic.TcCoe Idealize.SL.Sem
open Idealize.ShloMosaic.Pipeline (Dat)

namespace Cert.Kernel2Ideal.Mixer

open Cert.Kernel2Ideal Cert.Kernel2Ideal.Gen Cert.Layer Cert.Mix

variable (m : (ℓ : Loc nD τ sig) → Buf (Elt Ideal) ℓ) (c : Dev nD)

/-- The arguments of the program hold real numbers; the carried statistics may be anything. -/
abbrev Known (P : Mix.Weights) (x : Fin 4 → Fin 2048 → Fin 1024 → ℝ) (d : Fin 8192 → Fin 1024 → ℝ) : Prop :=
  Mix.Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) P x d

variable {m c} {P : Mix.Weights} {x : Fin 4 → Fin 2048 → Fin 1024 → ℝ} {d : Fin 8192 → Fin 1024 → ℝ}

/-! ## What the host has computed before the kernel starts -/

/-- Row `n` of all the tokens, in its sequence. -/
abbrev seqOf (n : ℕ) : Fin 4 := ⟨n / 2048 % 4, Nat.mod_lt _ (by norm_num)⟩

theorem host_proj (k : Known m c P x d) : Holds (φ := .f32) (V m c main_v5) fun n => (seq P x d (seqOf n.val)).p (n.val % 2048) := by
  intro r j
  unfold V
  after_results
  pointwise [k.x _ _ _, k.win _ _ _]
  rw [← show (∑ f, x ⟨r.val / 2048, by omega⟩ ⟨r.val % 2048, by omega⟩ f * P.win f j) = (seq P x d (seqOf r.val)).p (r.val % 2048) j from
    Finset.sum_congr rfl fun f _ => congrArg (· * P.win f j) (congrArg₂ (fun b t => x b t f) (Fin.ext (by show r.val / 2048 = r.val / 2048 % 4; omega))
      (Fin.ext (by show r.val % 2048 = r.val % 2048 % 2048; omega)))]
  simp only [← EReal.coe_mul, coe_sum]

theorem host_win (k : Known m c P x d) : Holds (φ := .bf16) (V m c main_v2) fun f j => P.win j f := by
  intro r j
  unfold V
  after_results
  pointwise [k.win _ _ _]

theorem host_wout (k : Known m c P x d) : Holds (φ := .bf16) (V m c main_v7) P.wout := by
  intro r j
  unfold V
  after_results
  pointwise [k.wout _ _ _]

theorem host_pw (k : Known m c P x d) (g : Fin 4) (a b : Fin 128) : (V m c main_v8 : S4x128x128.Idx → EReal) (ix3 g a b) = ((P.pw g a b : ℝ) : EReal) := by
  unfold V
  after_results
  pointwise [k.pw _ _ _ _]

theorem host_sw (k : Known m c P x d) (g : Fin 4) (a b : Fin 128) : (V m c main_v9 : S4x128x128.Idx → EReal) (ix3 g a b) = ((P.sw g a b : ℝ) : EReal) := by
  unfold V
  after_results
  pointwise [k.sw _ _ _ _]

theorem host_sb (k : Known m c P x d) : Holds (φ := .f32) (V m c main_v11) fun p h => P.sb h p := by
  intro r j
  unfold V
  after_results
  pointwise [k.sb _ _ _]

/-! ## The blocks of one point -/

theorem idx : ∀ t : Fin cfg0.N, win0_0.index t = ![t.val, 0] ∧ win0_1.index t = ![min ((t.val + 1) * 64) 511, 0] ∧ win0_2.index t = ![t.val, 0] ∧
    win0_3.index t = ![t.val * 64 - 1, 0] ∧ win0_4.index t = ![0, 0] ∧ win0_5.index t = ![0, 0] ∧ win0_6.index t = ![0, 0, 0] ∧
    win0_7.index t = ![0, 0] ∧ win0_8.index t = ![0, 0] ∧ win0_9.index t = ![0, 0] ∧ win0_10.index t = ![0, 0, 0] ∧
    win0_11.index t = ![0, 0] ∧ win0_12.index t = ![0, 0] ∧ win0_13.index t = ![t.val, 0] ∧ win0_14.index t = ![t.val, 0] ∧
    win0_15.index t = ![0, 0, 0] ∧ win0_16.index t = ![0, 0] :=
  (by decide +kernel : ∀ t : Fin grid0.N, _)

theorem idx_next (t : Fin cfg0.N) (h : t.val % 2 = 0) : win0_1.index t = ![(t.val + 1) * 64, 0] := by
  have hN : t.val < 8 := lt_of_lt_of_eq t.isLt (show cfg0.N = 8 from N_0)
  rw [(idx t).2.1, min_eq_left (by omega)]

/-- Row `r` of tile `t`. -/
def tileRow (t : Fin cfg0.N) (r : Fin 1024) : Fin 8192 := ⟨t.val * 1024 + r.val, by have := lt_of_lt_of_eq t.isLt N_0; omega⟩

/-- Row `r` of the block behind tile `t`. -/
def nextRow (t : Fin cfg0.N) (h : t.val % 2 = 0) (r : Fin 16) : Fin 8192 :=
  ⟨(t.val + 1) * 64 * 16 + r.val, by have := lt_of_lt_of_eq t.isLt N_0; omega⟩

/-- Row `r` of the block ahead of tile `t`. -/
def prevRow (t : Fin cfg0.N) (r : Fin 16) : Fin 8192 :=
  ⟨(t.val * 64 - 1) * 16 + r.val, by have := lt_of_lt_of_eq t.isLt N_0; omega⟩

/-- The sequence of tile `t`. -/
abbrev seqAt (P : Mix.Weights) (x : Fin 4 → Fin 2048 → Fin 1024 → ℝ) (d : Fin 8192 → Fin 1024 → ℝ) (t : ℕ) : Seq :=
  seq P x d ⟨t / 2 % 4, Nat.mod_lt _ (by norm_num)⟩

theorem lt_8 (t : Fin cfg0.N) : t.val < 8 := lt_of_lt_of_eq t.isLt N_0

/-- Whichever sequence and position a row number means. -/
theorem seq_d (t : ℕ) (ht : t < 8) (n : Fin 8192) (o : ℕ) (h : n.val = 2048 * (t / 2) + o) (ho : o < 2048) (k : Fin 1024) :
    d n k = (seqAt P x d t).d o k := by
  show d n k = d ⟨2048 * (t / 2 % 4) + o % 2048, _⟩ k
  exact congrArg (fun n => d n k) (Fin.ext (by show n.val = 2048 * (t / 2 % 4) + o % 2048; omega))

theorem seq_p (t : ℕ) (ht : t < 8) (n : Fin 8192) (o : ℕ) (h : n.val = 2048 * (t / 2) + o) (ho : o < 2048) :
    (seq P x d (seqOf n.val)).p (n.val % 2048) = (seqAt P x d t).p o := by
  rw [show n.val % 2048 = o by omega, show seqOf n.val = ⟨t / 2 % 4, Nat.mod_lt _ (by norm_num)⟩ from Fin.ext (by show n.val / 2048 % 4 = t / 2 % 4; omega)]

/-- The cotangents of tile `t`. -/
theorem in_dr (k : Known m c P x d) (t : Fin cfg0.N) :
    Holds (φ := .f32) (blockAt m c 0 t : S1024x1024.Idx → EReal) fun r j => (seqAt P x d t.val).d (1024 * (t.val % 2) + r) j := by
  intro r j
  have hN := lt_8 t
  have h := k.d (tileRow t r) j
  rw [seq_d (P := P) (x := x) (d := d) t.val hN (tileRow t r) (1024 * (t.val % 2) + r.val) (by unfold tileRow; dsimp only; omega) (by omega) j] at h
  refine Eq.trans ?_ h
  unfold tileRow
  blk_ext [blockAt, V, idx t]

/-- The cotangents of the rows behind tile `t`, where its sequence has any. -/
theorem in_next (k : Known m c P x d) (t : Fin cfg0.N) (h : t.val % 2 = 0) :
    Holds (φ := .f32) (blockAt m c 1 t : S16x1024.Idx → EReal) fun r j => (seqAt P x d t.val).d (1024 + r) j := by
  intro r j
  have hN := lt_8 t
  have h' := k.d (nextRow t h r) j
  rw [seq_d (P := P) (x := x) (d := d) t.val hN (nextRow t h r) (1024 + r.val) (by unfold nextRow; dsimp only; omega) (by omega) j] at h'
  refine Eq.trans ?_ h'
  unfold nextRow
  blk_ext [blockAt, V, idx_next t h]

/-- The projected rows of tile `t`. -/
theorem in_proj (k : Known m c P x d) (t : Fin cfg0.N) :
    Holds (φ := .f32) (blockAt m c 2 t : S1024x1536.Idx → EReal) fun r j => (seqAt P x d t.val).p (1024 * (t.val % 2) + r) j := by
  intro r j
  have hN := lt_8 t
  have h := host_proj k (tileRow t r) j
  dsimp only at h
  rw [seq_p (P := P) (x := x) (d := d) t.val hN (tileRow t r) (1024 * (t.val % 2) + r.val) (by unfold tileRow; dsimp only; omega) (by omega)] at h
  refine Eq.trans ?_ h
  unfold tileRow
  blk_ext [blockAt, idx t]

/-- The projected rows ahead of tile `t`, where its sequence has any. -/
theorem in_prev (k : Known m c P x d) (t : Fin cfg0.N) (h : t.val % 2 = 1) :
    Holds (φ := .f32) (blockAt m c 3 t : S16x512.Idx → EReal) fun r (j : Fin 512) => (seqAt P x d t.val).p (1008 + r) ⟨j.val, by omega⟩ := by
  intro r j
  have hN := lt_8 t
  have h := host_proj k (prevRow t r) ⟨j.val, by omega⟩
  dsimp only at h
  rw [seq_p (P := P) (x := x) (d := d) t.val hN (prevRow t r) (1008 + r.val) (by unfold prevRow; dsimp only; omega) (by omega)] at h
  refine Eq.trans ?_ h
  unfold prevRow
  blk_ext [blockAt, idx t]

/-- The block of the input matrix. -/
theorem in_win (k : Known m c P x d) (t : Fin cfg0.N) : Holds (φ := .bf16) (blockAt m c 4 t : S1536x1024.Idx → EReal) fun f j => P.win j f := by
  intro r j
  refine Eq.trans ?_ (host_win k r j)
  blk_ext [blockAt, idx t]

/-- The block of the output matrix. -/
theorem in_wout (k : Known m c P x d) (t : Fin cfg0.N) : Holds (φ := .bf16) (blockAt m c 5 t : S1024x1024.Idx → EReal) P.wout := by
  intro r j
  refine Eq.trans ?_ (host_wout k r j)
  blk_ext [blockAt, idx t]

/-- The block of the pooled branch's mixing matrices. -/
theorem in_pw (k : Known m c P x d) (t : Fin cfg0.N) : ∀ g a b, (blockAt m c 6 t : S4x128x128.Idx → EReal) (ix3 g a b) = ((P.pw g a b : ℝ) : EReal) := by
  intro g a b
  refine Eq.trans ?_ (host_pw k g a b)
  blk_ext [blockAt, idx t]

/-- The block of the pooled branch's scale. -/
theorem in_ps (k : Known m c P x d) (t : Fin cfg0.N) : Holds (φ := .f32) (blockAt m c 7 t : S1x512.Idx → EReal) fun _ => P.ps := by
  intro r j
  refine Eq.trans ?_ (k.ps r j)
  blk_ext [blockAt, V, idx t]

/-- The block of the normalisation's scale. -/
theorem in_lg (k : Known m c P x d) (t : Fin cfg0.N) : Holds (φ := .f32) (blockAt m c 8 t : S1x512.Idx → EReal) fun _ => P.lg := by
  intro r j
  refine Eq.trans ?_ (k.lg r j)
  blk_ext [blockAt, V, idx t]

/-- The block of the normalisation's shift. -/
theorem in_lb (k : Known m c P x d) (t : Fin cfg0.N) : Holds (φ := .f32) (blockAt m c 9 t : S1x512.Idx → EReal) fun _ => P.lb := by
  intro r j
  refine Eq.trans ?_ (k.lb r j)
  blk_ext [blockAt, V, idx t]

/-- The block of the gate's matrices. -/
theorem in_sw (k : Known m c P x d) (t : Fin cfg0.N) : ∀ g a b, (blockAt m c 10 t : S4x128x128.Idx → EReal) (ix3 g a b) = ((P.sw g a b : ℝ) : EReal) := by
  intro g a b
  refine Eq.trans ?_ (host_sw k g a b)
  blk_ext [blockAt, idx t]

/-- The block of the gate's shifts. -/
theorem in_sb (k : Known m c P x d) (t : Fin cfg0.N) : Holds (φ := .f32) (blockAt m c 11 t : S128x4.Idx → EReal) fun p h => P.sb h p := by
  intro r j
  refine Eq.trans ?_ (host_sb k r j)
  blk_ext [blockAt, idx t]

/-- What tile `t` reads. -/
theorem reads (k : Known m c P x d) (t : Fin cfg0.N) : Reads P (seqAt P x d t.val) (grid0.coords t) (t.val % 2) (insAt m c t) where
  half := by
    have hN := lt_8 t
    have h : (grid0.coords t 0).val = t.val / 1 % 8 := Pipeline.Grid.coords_val t 0 (by decide) rfl
    rw [h]; omega
  dr := in_dr k t
  next := in_next k t
  proj := in_proj k t
  prev := in_prev k t
  win := in_win k t
  wout := in_wout k t
  pw := in_pw k t
  ps := in_ps k t
  lg := in_lg k t
  lb := in_lb k t
  sw := in_sw k t
  sb := in_sb k t

/-- The carried statistics. -/
theorem in_stats (t : Fin cfg0.N) (r : Fin 8) (j : Fin 1024) :
    (blockAt m c 12 t : S8x1024.Idx → EReal) (ix2 r j) = (m ((c : Thread nD τ).loc main_arg10) : S8x1024.Idx → EReal) (ix2 r j) := by
  blk_ext [blockAt, V, idx t]

/-! ## What a point leaves -/

theorem at_gx (k : Known m c P x d) (t : Fin cfg0.N) (r j : Fin 1024) :
    (outsAt m c t.val t.isLt).gx (ix2 r j) = ((gx P (seqAt P x d t.val) (1024 * (t.val % 2) + r.val) j : ℝ) : EReal) := by
  by_cases h : t.val = 0
  · rw [outsAt_first m c t h]; exact gx_first c _ (reads k t) _ r j
  · rw [outsAt_later m c t h]; exact gx_later c _ (reads k t) _ _ _ r j

theorem at_dproj (k : Known m c P x d) (t : Fin cfg0.N) (r : Fin 1024) (j : Fin 1536) :
    (outsAt m c t.val t.isLt).dproj (ix2 r j) = ((dproj P (seqAt P x d t.val) (1024 * (t.val % 2) + r.val) j : ℝ) : EReal) := by
  by_cases h : t.val = 0
  · rw [outsAt_first m c t h]; exact dproj_first c _ (reads k t) _ r j
  · rw [outsAt_later m c t h]; exact dproj_later c _ (reads k t) _ _ _ r j

/-- The terms of tile `t` in the gradients of the matrices, -/
def matTerm (P : Mix.Weights) (x : Fin 4 → Fin 2048 → Fin 1024 → ℝ) (d : Fin 8192 → Fin 1024 → ℝ) (t : ℕ) (g : Fin 8) (a b : Fin 128) : ℝ :=
  matPart P (seqAt P x d t) (1024 * (t % 2)) g a b

/-- and in those of the vectors. -/
def vecTerm (P : Mix.Weights) (x : Fin 4 → Fin 2048 → Fin 1024 → ℝ) (d : Fin 8192 → Fin 1024 → ℝ) (t : ℕ) (r : Fin 16) (j : Fin 1024) : ℝ :=
  vecAll P (seqAt P x d t) (1024 * (t % 2)) r j

/-- The last point leaves the sums over all the tiles, -/
theorem dmat_last (k : Known m c P x d) (t : Fin cfg0.N) (ht : t.val + 1 = cfg0.N) (i : S8x128x128.Idx) :
    (outsAt m c t.val t.isLt).dmat i = ((∑ t : Fin 8, matTerm P x d t.val (i 0) (i 1) (i 2) : ℝ) : EReal) := by
  rw [Pipeline.eq_sum_fin_of_reset_step_apply_last (fun n h => (outsAt m c n h).dmat) 8 (fun _ => 0)
    (fun t i => ((matTerm P x d t.val (i 0) (i 1) (i 2) : ℝ) : EReal))
    (fun t h i => by
      have hN := lt_8 t
      rw [eq_ix3 i, zero_add, outsAt_first m c t (by omega)]
      exact mat_first c _ (reads k t) _ (i 0) (i 1) (i 2))
    (fun t h i => by
      have hN := lt_8 t
      rw [eq_ix3 i, outsAt_later m c t (by omega)]
      exact mat_later c _ (reads k t) _ _ _ (i 0) (i 1) (i 2)) (le_of_eq N_0) t ht i]
  rw [zero_add, coe_sum]
  rfl

/-- above the carried statistics for the vectors. -/
theorem dvec_last (k : Known m c P x d) (t : Fin cfg0.N) (ht : t.val + 1 = cfg0.N) (i : S16x1024.Idx) :
    (outsAt m c t.val t.isLt).dvec i = carried (m ((c : Thread nD τ).loc main_arg10)) (i 0) (i 1)
      + ((∑ t : Fin 8, vecTerm P x d t.val (i 0) (i 1) : ℝ) : EReal) := by
  rw [Pipeline.eq_sum_fin_of_reset_step_apply_last (fun n h => (outsAt m c n h).dvec) 8 (fun i => carried (m ((c : Thread nD τ).loc main_arg10)) (i 0) (i 1))
    (fun t i => ((vecTerm P x d t.val (i 0) (i 1) : ℝ) : EReal))
    (fun t h i => by
      have hN := lt_8 t
      rw [eq_ix2 i, outsAt_first m c t (by omega)]
      refine (vec_first c _ (reads k t) _ (i 0) (i 1)).trans (congrArg (· + _) ?_)
      exact dite_congr rfl (fun _ => rfl) fun _ => in_stats t _ _)
    (fun t h i => by
      have hN := lt_8 t
      rw [eq_ix2 i, outsAt_later m c t (by omega)]
      exact vec_later c _ (reads k t) _ _ _ (i 0) (i 1)) (le_of_eq N_0) t ht i]
  rw [coe_sum]
  rfl

/-! ## The four results -/

/-- Where row `n` stands in its sequence. -/
theorem tileRow_seq (t : Fin cfg0.N) (r : Fin 1024) : seqOf (tileRow t r).val = ⟨t.val / 2 % 4, Nat.mod_lt _ (by norm_num)⟩ ∧
    (tileRow t r).val % 2048 = 1024 * (t.val % 2) + r.val := by
  have hN := lt_8 t
  constructor
  · exact Fin.ext (by unfold tileRow; dsimp only; omega)
  · unfold tileRow; dsimp only; omega

/-- The gradient in the activations of token `n`, -/
def gxAll (P : Mix.Weights) (x : Fin 4 → Fin 2048 → Fin 1024 → ℝ) (d : Fin 8192 → Fin 1024 → ℝ) (n : Fin 8192) (j : Fin 1024) : ℝ :=
  gx P (seq P x d (seqOf n.val)) (n.val % 2048) j

/-- and in its projected row. -/
def dprojAll (P : Mix.Weights) (x : Fin 4 → Fin 2048 → Fin 1024 → ℝ) (d : Fin 8192 → Fin 1024 → ℝ) (n : Fin 8192) (j : Fin 1536) : ℝ :=
  dproj P (seq P x d (seqOf n.val)) (n.val % 2048) j

theorem gxAll_row (t : Fin cfg0.N) (r : Fin 1024) (j : Fin 1024) :
    gxAll P x d (tileRow t r) j = gx P (seqAt P x d t.val) (1024 * (t.val % 2) + r.val) j := by
  unfold gxAll
  rw [(tileRow_seq t r).1, (tileRow_seq t r).2]

theorem dprojAll_row (t : Fin cfg0.N) (r : Fin 1024) (j : Fin 1536) :
    dprojAll P x d (tileRow t r) j = dproj P (seqAt P x d t.val) (1024 * (t.val % 2) + r.val) j := by
  unfold dprojAll
  rw [(tileRow_seq t r).1, (tileRow_seq t r).2]

/-- The gradient in the activations. -/
theorem arr_gx (k : Known m c P x d) : (dats m 0 c).arrAt 13 (cfgs 0).N =
    fun i => ((gxAll P x d (i 0) (i 1) : ℝ) : EReal) := by
  refine (dats m 0 c).arrAt_eq_of_covers 13 _ (by decide +kernel) fun t _ i => ?_
  blk_simp
  rw [after_13]
  have er : (win0_13.blk t).view.emb i 0 = tileRow t (i 0) := Fin.ext (by blk_simp [idx t]; rfl)
  have ej : (win0_13.blk t).view.emb i 1 = (show Fin 1024 from i 1) := Fin.ext (by blk_simp [idx t])
  rw [er, ej]
  exact (congrArg _ (eq_ix2 (show S1024x1024.Idx from i))).trans ((at_gx k t (i 0) (i 1)).trans (congrArg Real.toEReal (gxAll_row t (i 0) (i 1)).symm))

/-- The gradient in the projected rows. -/
theorem arr_dproj (k : Known m c P x d) : (dats m 0 c).arrAt 14 (cfgs 0).N =
    fun i => ((dprojAll P x d (i 0) (i 1) : ℝ) : EReal) := by
  refine (dats m 0 c).arrAt_eq_of_covers 14 _ (by decide +kernel) fun t _ i => ?_
  blk_simp
  rw [after_14]
  have er : (win0_14.blk t).view.emb i 0 = tileRow t (i 0) := Fin.ext (by blk_simp [idx t]; rfl)
  have ej : (win0_14.blk t).view.emb i 1 = (show Fin 1536 from i 1) := Fin.ext (by blk_simp [idx t])
  rw [er, ej]
  exact (congrArg _ (eq_ix2 (show S1024x1536.Idx from i))).trans ((at_dproj k t (i 0) (i 1)).trans (congrArg Real.toEReal (dprojAll_row t (i 0) (i 1)).symm))

/-- The gradients of the matrices. -/
theorem arr_dmat (k : Known m c P x d) : (dats m 0 c).arrAt 15 (cfgs 0).N =
    fun i => ((∑ t : Fin 8, matTerm P x d t.val (i 0) (i 1) (i 2) : ℝ) : EReal) := by
  refine (dats m 0 c).arrAt_eq_of_covers 15 _ (by decide +kernel) fun t hf i => ?_
  blk_simp
  rw [after_15]
  have e0 : (win0_15.blk t).view.emb i 0 = (show Fin 8 from i 0) := Fin.ext (by blk_simp [idx t])
  have e1 : (win0_15.blk t).view.emb i 1 = (show Fin 128 from i 1) := Fin.ext (by blk_simp [idx t])
  have e2 : (win0_15.blk t).view.emb i 2 = (show Fin 128 from i 2) := Fin.ext (by blk_simp [idx t])
  rw [e0, e1, e2]
  have hN : cfg0.N = 8 := N_0
  have hf := (flush0_15 t).mp hf
  have := t.isLt
  exact dmat_last k t (by omega) i

/-- The gradients of the vectors, above the carried statistics. -/
theorem arr_dvec (k : Known m c P x d) : (dats m 0 c).arrAt 16 (cfgs 0).N =
    fun i => carried (m ((c : Thread nD τ).loc main_arg10)) (i 0) (i 1) + ((∑ t : Fin 8, vecTerm P x d t.val (i 0) (i 1) : ℝ) : EReal) := by
  refine (dats m 0 c).arrAt_eq_of_covers 16 _ (by decide +kernel) fun t hf i => ?_
  blk_simp
  rw [after_16]
  have e0 : (win0_16.blk t).view.emb i 0 = (show Fin 16 from i 0) := Fin.ext (by blk_simp [idx t])
  have e1 : (win0_16.blk t).view.emb i 1 = (show Fin 1024 from i 1) := Fin.ext (by blk_simp [idx t])
  rw [e0, e1]
  have hN : cfg0.N = 8 := N_0
  have hf := (flush0_16 t).mp hf
  have := t.isLt
  exact dvec_last k t (by omega) i

end Cert.Kernel2Ideal.Mixer

end
-- ==== Proof.MixerOutputs.lean ====
/- The mixer's reference: the pooled half, the four results. -/
module

public import proofs.«01_k».proof.Proof.MixerBackward
public import proofs.«01_k».proof.Proof.MixerResult

@[expose] public section

set_option maxRecDepth 16384

noncomputable section

open Idealize.ShloMosaic Idealize.ShloMosaic.TcCoe

namespace Cert.Reference2Ideal.Meaning

open Cert.Reference2Ideal Cert.Reference2Ideal.Read Cert.Layer Cert.Mix

variable {A0 : FVec Ideal S8192x1024 .f32} {A1 : FVec Ideal S4x2048x1024 .f32} {A2 : FVec Ideal S1x1024x1536 .f32}
variable {A3 : FVec Ideal S1x1024x1024 .f32} {A4 : FVec Ideal S1x4x128x128 .f32} {A5 A6 A7 : FVec Ideal S1x512 .f32}
variable {A8 : FVec Ideal S1x4x128x128 .f32} {A9 : FVec Ideal S1x4x128 .f32}
variable {P : Mix.Weights} {x : Fin 4 → Fin 2048 → Fin 1024 → ℝ} {d : Fin 8192 → Fin 1024 → ℝ}

/-! ## Sums over the tiles -/

section
variable (m : ℕ) (F : Fin 4 → ℕ → ℝ)

theorem halves (f : ℕ → ℝ) : ∑ n : Fin (m + m), f n.val = (∑ r : Fin m, f r.val) + ∑ r : Fin m, f (m + r.val) := by
  rw [← Finset.sum_range f, ← Finset.sum_range f, ← Finset.sum_range fun r => f (m + r)]
  exact Finset.sum_range_add f m m

/-- Eight tiles of `m` rows are the rows of four sequences of two tiles each. -/
theorem tiles_sum : ∑ t : Fin 8, ∑ r : Fin m, F ⟨t.val / 2 % 4, Nat.mod_lt _ (by norm_num)⟩ (m * (t.val % 2) + r.val)
    = ∑ b : Fin 4, ∑ n : Fin (m + m), F b n.val := by
  simp only [halves]
  rw [Fin.sum_univ_eight, Fin.sum_univ_four]
  have e : ∀ (t : Fin 8) (b : Fin 4) (h : Fin 2), t.val = 2 * b.val + h.val →
      (∑ r : Fin m, F ⟨t.val / 2 % 4, Nat.mod_lt _ (by norm_num)⟩ (m * (t.val % 2) + r.val)) = ∑ r : Fin m, F b (m * h.val + r.val) := by
    intro t b h ht
    rw [show (⟨t.val / 2 % 4, Nat.mod_lt _ (by norm_num)⟩ : Fin 4) = b from Fin.ext (by dsimp only; omega), show t.val % 2 = h.val by omega]
  rw [e 0 0 0 rfl, e 1 0 1 rfl, e 2 1 0 rfl, e 3 1 1 rfl, e 4 2 0 rfl, e 5 2 1 rfl, e 6 3 0 rfl, e 7 3 1 rfl]
  simp only [Fin.val_zero, Fin.val_one, Nat.mul_zero, Nat.mul_one, zero_add, add_assoc]

end

/-- The 1024 rows of a tile are eight chunks of 128. -/
theorem chunks_sum (H : ℕ → Fin 128 → ℝ) : ∑ q : Fin 1024, H (q.val / 128) ⟨q.val % 128, Nat.mod_lt _ (by norm_num)⟩ = ∑ c : Fin 8, ∑ j : Fin 128, H c.val j := by
  rw [← Fintype.sum_prod_type']
  refine (Fintype.sum_equiv (finProdFinEquiv (m := 8) (n := 128)) (fun p => H p.1.val p.2)
    (fun q : Fin 1024 => H (q.val / 128) ⟨q.val % 128, Nat.mod_lt _ (by norm_num)⟩) fun p => ?_).symm
  have h := p.2.isLt
  have e : (finProdFinEquiv p : Fin 1024).val = p.2.val + 128 * p.1.val := rfl
  have e1 : (finProdFinEquiv p : Fin 1024).val / 128 = p.1.val := by rw [e]; omega
  have e2 : (⟨(finProdFinEquiv p : Fin 1024).val % 128, Nat.mod_lt _ (by norm_num)⟩ : Fin 128) = p.2 := Fin.ext (by dsimp only; rw [e]; omega)
  rw [e1, e2]

/-- Chunks of eight tiles are the chunks of four sequences of sixteen each. -/
theorem tiles_chunks (G : Fin 4 → ℕ → Fin 128 → ℝ) :
    ∑ t : Fin 8, ∑ q : Fin 1024, G ⟨t.val / 2 % 4, Nat.mod_lt _ (by norm_num)⟩ (1024 * (t.val % 2) + 128 * (q.val / 128)) ⟨q.val % 128, Nat.mod_lt _ (by norm_num)⟩
      = ∑ b : Fin 4, ∑ n : Fin 16, ∑ j : Fin 128, G b (128 * n.val) j := by
  refine Eq.trans ?_ (tiles_sum 8 fun b n => ∑ j : Fin 128, G b (128 * n) j)
  refine Finset.sum_congr rfl fun t _ => ?_
  refine (chunks_sum fun c => G _ (1024 * (t.val % 2) + 128 * c)).trans (Finset.sum_congr rfl fun c _ => ?_)
  rw [show 1024 * (t.val % 2) + 128 * c.val = 128 * (8 * (t.val % 2) + c.val) by omega]

open Cert.Kernel2Ideal.Mixer (seqOf gxAll dprojAll matTerm vecTerm carried vecAll)

section
variable (P : Mix.Weights) (x : Fin 4 → Fin 2048 → Fin 1024 → ℝ) (d : Fin 8192 → Fin 1024 → ℝ)

theorem mat_pooled (g : Fin 8) (a b : Fin 128) (h : g.val < 4) : ∑ t : Fin 8, matTerm P x d t.val g a b
    = ∑ n : Fin 4, ∑ t : Fin 2048, pooled (seq P x d n) t.val ⟨g.val, h⟩ a * dsb P (seq P x d n) t.val ⟨g.val, h⟩ b := by
  refine Eq.trans (Finset.sum_congr rfl fun t _ => ?_) (tiles_sum 1024 fun n t => pooled (seq P x d n) t ⟨g.val, h⟩ a * dsb P (seq P x d n) t ⟨g.val, h⟩ b)
  rw [matTerm, matPart, dif_pos h]

theorem mat_mixed (g : Fin 8) (a b : Fin 128) (h : ¬ g.val < 4) : ∑ t : Fin 8, matTerm P x d t.val g a b
    = if b ≤ a then ∑ n : Fin 4, ∑ c : Fin 16, ∑ j : Fin 128, dmx P (seq P x d n) (128 * c.val + a.val) (col ⟨g.val - 4, by omega⟩ j)
        * vln P (seq P x d n) (128 * c.val + b.val) (col ⟨g.val - 4, by omega⟩ j) else 0 := by
  by_cases hb : b ≤ a
  · rw [if_pos hb]
    refine Eq.trans (Finset.sum_congr rfl fun t _ => ?_) (tiles_chunks fun n s j => dmx P (seq P x d n) (s + a.val) (col ⟨g.val - 4, by omega⟩ j)
        * vln P (seq P x d n) (s + b.val) (col ⟨g.val - 4, by omega⟩ j))
    rw [matTerm, matPart, dif_neg h, if_pos hb]
  · rw [if_neg hb]
    refine Finset.sum_eq_zero fun t _ => ?_
    rw [matTerm, matPart, dif_neg h, if_neg hb]

theorem vec_pool_scale (r : Fin 16) (c : Fin 1024) (hr : r.val = 0) (hc : c.val < 512) : ∑ t : Fin 8, vecTerm P x d t.val r c
    = ∑ n : Fin 4, ∑ t : Fin 2048, dpo P (seq P x d n) t.val ⟨c.val, hc⟩ * pre P (seq P x d n) t.val (grp ⟨c.val, hc⟩) (lane ⟨c.val, hc⟩) := by
  refine Eq.trans (Finset.sum_congr rfl fun t _ => ?_) (tiles_sum 1024 fun n t => dpo P (seq P x d n) t ⟨c.val, hc⟩ * pre P (seq P x d n) t (grp ⟨c.val, hc⟩) (lane ⟨c.val, hc⟩))
  rw [vecTerm, vecAll, dif_pos (by omega), vecPart, dif_pos (by dsimp only; omega), dif_pos hc, if_pos hr]

theorem vec_norm_scale (r : Fin 16) (c : Fin 1024) (hr : r.val = 1) (hc : c.val < 512) : ∑ t : Fin 8, vecTerm P x d t.val r c
    = ∑ n : Fin 4, ∑ t : Fin 2048, dvln P (seq P x d n) t.val ⟨c.val, hc⟩ * Mix.hat (v (seq P x d n) t.val) ⟨c.val, hc⟩ := by
  refine Eq.trans (Finset.sum_congr rfl fun t _ => ?_) (tiles_sum 1024 fun n t => dvln P (seq P x d n) t ⟨c.val, hc⟩ * Mix.hat (v (seq P x d n) t) ⟨c.val, hc⟩)
  rw [vecTerm, vecAll, dif_pos (by omega), vecPart, dif_pos (by dsimp only; omega), dif_pos hc, if_neg (by dsimp only; omega), if_pos hr]

theorem vec_norm_shift (r : Fin 16) (c : Fin 1024) (hr : r.val = 2) (hc : c.val < 512) : ∑ t : Fin 8, vecTerm P x d t.val r c
    = ∑ n : Fin 4, ∑ t : Fin 2048, dvln P (seq P x d n) t.val ⟨c.val, hc⟩ := by
  refine Eq.trans (Finset.sum_congr rfl fun t _ => ?_) (tiles_sum 1024 fun n t => dvln P (seq P x d n) t ⟨c.val, hc⟩)
  rw [vecTerm, vecAll, dif_pos (by omega), vecPart, dif_pos (by dsimp only; omega), dif_pos hc, if_neg (by dsimp only; omega), if_neg (by dsimp only; omega)]

theorem vec_head (r : Fin 16) (c : Fin 1024) (hr : ¬ r.val < 3) (hr' : r.val < 7) (hc : c.val < 128) : ∑ t : Fin 8, vecTerm P x d t.val r c
    = ∑ n : Fin 4, ∑ b : Fin 16, ∑ j : Fin 128, dmx P (seq P x d n) (128 * b.val + c.val) (col ⟨r.val - 3, by omega⟩ j) := by
  refine Eq.trans (Finset.sum_congr rfl fun t _ => ?_) (tiles_chunks fun n s j => dmx P (seq P x d n) (s + c.val) (col ⟨r.val - 3, by omega⟩ j))
  rw [vecTerm, vecAll, dif_pos (by omega), vecPart, dif_neg (by dsimp only; omega), dif_pos (by dsimp only; omega), if_pos hc]

/-- The places of the vectors' rows that no gradient takes. -/
theorem vec_none (r : Fin 16) (c : Fin 1024) (h : (r.val < 3 ∧ ¬ c.val < 512) ∨ (¬ r.val < 3 ∧ ¬ c.val < 128) ∨ 7 ≤ r.val) :
    ∑ t : Fin 8, vecTerm P x d t.val r c = 0 := by
  refine Finset.sum_eq_zero fun t _ => ?_
  rw [vecTerm, vecAll]
  by_cases h8 : r.val < 8
  · rw [dif_pos h8, vecPart]
    by_cases h3 : r.val < 3
    · rw [dif_pos h3, dif_neg (by omega)]
    · rw [dif_neg h3]
      by_cases h7 : r.val < 7
      · rw [dif_pos h7, if_neg (by omega)]
      · rw [dif_neg h7]
  · rw [dif_neg h8]

end

theorem zero_word : FloatOps.sitofp (F := Ideal) FTy.f32 (0#32) = 0 := by
  show (((0#32 : BitVec 32).toInt : ℝ) : EReal) = 0
  norm_num

/-- The sixteen rows of the vectors: each gradient in its place, zero beside it, and the carried rows below. -/
theorem rows (f0 f1 f2 : Fin 512 → EReal) (f3 : Fin 4 → Fin 128 → EReal) (z : EReal) (hz : z = 0) (st : FVec Ideal S8x1024 .f32)
    (r : Fin 16) (c : Fin 1024) (T : EReal) (e0 : r.val = 0 → ∀ hc : c.val < 512, f0 ⟨c.val, hc⟩ = T)
    (e1 : r.val = 1 → ∀ hc : c.val < 512, f1 ⟨c.val, hc⟩ = T) (e2 : r.val = 2 → ∀ hc : c.val < 512, f2 ⟨c.val, hc⟩ = T)
    (e3 : ¬ r.val < 3 → r.val < 7 → ∀ (h : r.val - 1 - 1 - 1 < 4) (hc : c.val < 128), f3 ⟨r.val - 1 - 1 - 1, h⟩ ⟨c.val, hc⟩ = T)
    (en : ((r.val < 3 ∧ ¬ c.val < 512) ∨ (¬ r.val < 3 ∧ ¬ c.val < 128) ∨ 7 ≤ r.val) → T = 0) :
    (if r.val < 1 then if h : r.val < 1 ∧ c.val < 512 then f0 ⟨c.val, h.2⟩ else z
    else if r.val - 1 < 1 then if h : r.val - 1 < 1 ∧ c.val < 512 then f1 ⟨c.val, h.2⟩ else z
    else if r.val - 1 - 1 < 1 then if h : r.val - 1 - 1 < 1 ∧ c.val < 512 then f2 ⟨c.val, h.2⟩ else z
    else if r.val - 1 - 1 - 1 < 4 then
      if h : r.val - 1 - 1 - 1 < 4 ∧ c.val < 128 then f3 ⟨r.val - 1 - 1 - 1, h.1⟩ ⟨c.val, h.2⟩ else z
    else if r.val - 1 - 1 - 1 - 4 < 1 then 0 else st (ix2 ⟨r.val - 1 - 1 - 1 - 4 - 1, by omega⟩ c)) = carried st r c + T := by
  have hr := r.isLt
  have low : r.val < 8 → carried st r c = 0 := fun h => dif_pos h
  subst hz
  by_cases h0 : r.val = 0
  · rw [if_pos (by omega), low (by omega), zero_add]
    by_cases hc : c.val < 512
    · rw [dif_pos ⟨by omega, hc⟩, e0 h0 hc]
    · rw [dif_neg (fun e => hc e.2), en (by omega)]
  rw [if_neg (by omega)]
  by_cases h1 : r.val = 1
  · rw [if_pos (by omega), low (by omega), zero_add]
    by_cases hc : c.val < 512
    · rw [dif_pos ⟨by omega, hc⟩, e1 h1 hc]
    · rw [dif_neg (fun e => hc e.2), en (by omega)]
  rw [if_neg (by omega)]
  by_cases h2 : r.val = 2
  · rw [if_pos (by omega), low (by omega), zero_add]
    by_cases hc : c.val < 512
    · rw [dif_pos ⟨by omega, hc⟩, e2 h2 hc]
    · rw [dif_neg (fun e => hc e.2), en (by omega)]
  rw [if_neg (by omega)]
  by_cases h7 : r.val < 7
  · rw [if_pos (by omega), low (by omega), zero_add]
    by_cases hc : c.val < 128
    · rw [dif_pos ⟨by omega, hc⟩, e3 (by omega) h7 _ hc]
    · rw [dif_neg (fun e => hc e.2), en (by omega)]
  rw [if_neg (by omega), en (by omega), add_zero]
  by_cases h8 : r.val < 8
  · rw [if_pos (by omega), low h8]
  · rw [if_neg (by omega), carried, dif_neg h8]
    exact congrArg st (congrArg (fun r => ix2 r c) (Fin.ext (by dsimp only; omega)))

section
variable (k : Mix.Args A0 A1 A2 A3 A4 A5 A6 A7 A8 A9 P x d)
include k

theorem v318 : Holds (φ := .f32) (val_main_v318 (F := Ideal) A0 A1 A2 A3 A4 A5 A6 A7 A8 A9) (gxAll P x d) := by
  intro n j
  pointwise [val_main_v318, v307 k _ _ _]
  have h : (⟨n.val / 2048, by omega⟩ : Fin 4) = seqOf n.val := Fin.ext (by dsimp only; omega)
  rw [h]
  rfl

theorem v320 : Holds (φ := .bf16) (val_main_v320 (F := Ideal) A0 A1 A2 A3 A4 A5 A6 A7 A8 A9) (dprojAll P x d) := by
  intro n j
  pointwise [val_main_v320, val_main_v319, v305 k _ _ _]
  have h : (⟨n.val / 2048, by omega⟩ : Fin 4) = seqOf n.val := Fin.ext (by dsimp only; omega)
  rw [h]
  rfl

theorem v310 (g : Fin 8) (a b : Fin 128) : val_main_v310 (F := Ideal) A0 A1 A2 A3 A5 A6 A7 (ix3 g a b)
    = ((∑ t : Fin 8, matTerm P x d t.val g a b : ℝ) : EReal) := by
  pointwise [val_main_v310, val_main_v309, val_main_v308, val_main_v231, val_main_v215, v230 k _ _ _, v176 k _ _ _]
  by_cases h : g.val < 4
  · rw [dif_pos h, mat_pooled P x d g a b h]
  · rw [dif_neg h, mat_mixed P x d g a b h]

theorem v317 (A10 : FVec Ideal S8x1024 .f32) (r : Fin 16) (c : Fin 1024) : val_main_v317 (F := Ideal) A0 A1 A2 A3 A4 A8 A10 (ix2 r c)
    = carried A10 r c + ((∑ t : Fin 8, vecTerm P x d t.val r c : ℝ) : EReal) := by
  pointwise [val_main_v317, val_main_v316, val_main_v315, val_main_v314, val_main_v313, val_main_v312, val_main_v311, val_main_v214, val_main_v216, val_main_v217, val_main_v224,
    val_main_call3_v0, val_main_call4_v0, val_main_call5_v0, val_main_call6_v0, val_main_c_65, val_main_c_66, val_main_c_67, val_main_c_68, val_main_cst_69, v223 k _, v186 k _, v180 k _, v170 k _ _]
  refine rows (fun c => ((∑ b, ∑ t : Fin 2048, dpo P (seq P x d b) t.val c * pre P (seq P x d b) t.val (grp c) (lane c) : ℝ) : EReal))
    (fun c => ((∑ b, ∑ t : Fin 2048, dvln P (seq P x d b) t.val c * Mix.hat (v (seq P x d b) t.val) c : ℝ) : EReal))
    (fun c => ((∑ b, ∑ t : Fin 2048, dvln P (seq P x d b) t.val c : ℝ) : EReal))
    (fun h p => ((∑ b, ∑ n : Fin 16, ∑ j, dmx P (seq P x d b) (128 * n.val + p.val) (col h j) : ℝ) : EReal)) _ zero_word A10 r c _
    ?_ ?_ ?_ ?_ ?_
  · intro hr hc; rw [vec_pool_scale P x d r c hr hc]
  · intro hr hc; rw [vec_norm_scale P x d r c hr hc]
  · intro hr hc; rw [vec_norm_shift P x d r c hr hc]
  · intro hr hr' h hc; rw [vec_head P x d r c hr hr' hc]; rfl
  · intro h; rw [vec_none P x d r c h]; rfl

/-- The matrices' gradients, as one array, -/
theorem dmat : val_main_v310 (F := Ideal) A0 A1 A2 A3 A5 A6 A7
    = fun i => ((∑ t : Fin 8, matTerm P x d t.val (i 0) (i 1) (i 2) : ℝ) : EReal) :=
  funext fun i => (congrArg _ (eq_ix3 i)).trans (v310 k (i 0) (i 1) (i 2))

/-- and the vectors'. -/
theorem dvec (A10 : FVec Ideal S8x1024 .f32) : val_main_v317 (F := Ideal) A0 A1 A2 A3 A4 A8 A10
    = fun i => carried A10 (i 0) (i 1) + ((∑ t : Fin 8, vecTerm P x d t.val (i 0) (i 1) : ℝ) : EReal) :=
  funext fun i => (congrArg _ (eq_ix2 i)).trans (v317 k A10 (i 0) (i 1))

end

end Cert.Reference2Ideal.Meaning

end
-- ==== Proof.Reference.lean ====
/- The reference, read one operation after the other: where the arguments hold real numbers, so do its buffers, and the
   results are the real numbers of `Layer`. -/
module

public import proofs.«01_k».proof.Proof.Layer
public import proofs.«01_k».proof.Proof.Gen.ReferenceIdeal.Read

@[expose] public section

set_option maxRecDepth 16384

noncomputable section

open Idealize.ShloMosaic Idealize.ShloMosaic.TcCoe

namespace Cert.ReferenceIdeal.Meaning

open Cert.ReferenceIdeal Cert.ReferenceIdeal.Read Cert.Layer

variable {P : Weights} {x y : Fin 8192 → Row}
variable {X T : FVec Ideal S8192x1024 .f32} {W : FVec Ideal S1024x5632 .f32} {D : FVec Ideal S2816x1024 .f32}
variable {s1 t1 s2 t2 : FVec Ideal S1x1024 .f32}

/-- The reciprocal of one and an exponential is the logistic function. -/
theorem div_one_exp (z : ℝ) : Ideal.div 1 (1 + ((Real.exp (-z) : ℝ) : EReal)) = ((sg z : ℝ) : EReal) := by
  have h : (1 + Real.exp (-z)) ≠ 0 := (add_pos one_pos (Real.exp_pos _)).ne'
  have e := div_coe_coe 1 _ h
  rw [EReal.coe_add, EReal.coe_one] at e
  rw [e, sg, one_div]

/-- The reciprocal root over the variance, as the derivative of the reciprocal root has it. -/
theorem div_var (z : Row) : Ideal.div ((inv z : ℝ) : EReal) ((var z + eps : ℝ) : EReal) = ((inv z / (var z + eps) : ℝ) : EReal) :=
  div_coe_coe _ _ (var_eps_pos z).ne'

section first
variable (h : Holds X x)
include h

theorem v7 : Holds (φ := .f32) (val_main_v7 (F := Ideal) X) fun r => cen (x r) := by
  intro r j
  pointwise [val_main_v7, val_main_v6, val_main_v5, val_main_v4, val_main_v3, val_main_v2, val_main_cst_1, val_main_cst_2,
    h _ _, bits_width]
  simp only [← EReal.coe_sub, coe_sum, zero_add, div_width]
  rfl

theorem v16 : Holds (φ := .f32) (val_main_v16 (F := Ideal) X) fun r => cen (x r) := v7 h

theorem v14 : Holds (φ := .f32) (val_main_v14 (F := Ideal) X) fun r _ => var (x r) := by
  intro r j
  pointwise [val_main_v14, val_main_v13, val_main_v12, val_main_v11, val_main_v8, val_main_cst_4, val_main_cst_5,
    v7 h _ _, bits_width]
  simp only [← EReal.coe_mul, coe_sum, zero_add, div_width]
  rfl

theorem v19 : Holds (φ := .f32) (val_main_v19 (F := Ideal) X) fun r _ => inv (x r) := by
  intro r j
  pointwise [val_main_v19, val_main_v18, val_main_v17, val_main_cst_6, v14 h _ _, bits_eps]
  simp only [← EReal.coe_add]
  exact rsqrt_var _

theorem v22 : Holds (φ := .f32) (val_main_v22 (F := Ideal) X) fun r _ => -0.5 * (Layer.inv (x r) / (var (x r) + eps)) := by
  intro r j
  pointwise [val_main_v22, val_main_v21, val_main_v20, val_main_v18, val_main_v17, val_main_cst_6, val_main_cst_7,
    v14 h _ _, v19 h _ _, bits_eps, bits_neg_half]
  simp only [← EReal.coe_add, div_var, ← EReal.coe_mul]

theorem v24 : Holds (φ := .f32) (val_main_v24 (F := Ideal) X) fun r => hat (x r) := by
  intro r j
  pointwise [val_main_v24, val_main_v23, v16 h _ _, v19 h _ _]
  simp only [← EReal.coe_mul]
  rfl

end first

variable (a : Args X T W D s1 t1 s2 t2 P x y)
include a

theorem v28 : Holds (φ := .f32) (val_main_v28 (F := Ideal) X s1 t1) fun r => hid P (x r) := by
  intro r j
  pointwise [val_main_v28, val_main_v27, val_main_v26, val_main_v25, v24 a.rows _ _, a.g1 _ _, a.b1 _ _]
  simp only [← EReal.coe_mul, ← EReal.coe_add]
  rfl

theorem v31 : Holds (φ := .f32) (val_main_v31 (F := Ideal) X W s1 t1) fun r => gate P (x r) := by
  intro r j
  pointwise [val_main_v31, val_main_v30, val_main_v29, val_main_v0, val_main_cst, v28 a _ _, a.pair _ _]
  simp only [← EReal.coe_mul, coe_sum, add_zero]
  rfl

theorem v32 : Holds (φ := .f32) (val_main_v32 (F := Ideal) X W s1 t1) fun r => up P (x r) := by
  intro r j
  pointwise [val_main_v32, val_main_v30, val_main_v29, val_main_v0, val_main_cst, v28 a _ _, a.pair _ _]
  simp only [← EReal.coe_mul, coe_sum, add_zero]
  rfl

theorem s33_2 : Holds (φ := .f32) (val_main_v33_2 (F := Ideal) X W s1 t1) fun r f => sg (gate P (x r) f) := by
  intro r j
  pointwise [val_main_v33_2, val_main_call0_v4, val_main_call0_v3, val_main_call0_v2, val_main_call0_v1, val_main_call0_v0, val_main_call0_cst, val_main_call0_cst_0, v31 a _ _, ← EReal.coe_neg, Ideal.exp_coe, div_one_exp]
  skip

theorem s33_1 : Holds (φ := .f32) (val_main_v33_1 (F := Ideal) X W s1 t1) fun r f => sg (gate P (x r) f) * (1 - sg (gate P (x r) f)) := by
  intro r j
  pointwise [val_main_v33_1, val_main_call0_v7, val_main_call0_v6, val_main_call0_cst_1, s33_2 a _ _]
  simp only [← EReal.coe_one, ← EReal.coe_mul, ← EReal.coe_sub]

theorem s33_0 : Holds (φ := .f32) (val_main_v33_0 (F := Ideal) X W s1 t1) fun r f => gate P (x r) f * sg (gate P (x r) f) := by
  intro r j
  pointwise [val_main_v33_0, s33_2 a _ _, v31 a _ _]
  simp only [← EReal.coe_mul]

theorem v34 : Holds (φ := .f32) (val_main_v34 (F := Ideal) X W s1 t1) fun r => act P (x r) := by
  intro r j
  pointwise [val_main_v34, s33_0 a _ _, v32 a _ _]
  simp only [← EReal.coe_mul]
  rfl

theorem v39 : Holds (φ := .f32) (val_main_v39 (F := Ideal) X W D s1 t1) fun r => res P (x r) := by
  intro r j
  pointwise [val_main_v39, val_main_v38, val_main_v37, val_main_v36, val_main_v35, val_main_v1, val_main_cst_0, val_main_cst_8, v28 a _ _, v34 a _ _, a.down _ _, bits_alpha]
  simp only [← EReal.coe_mul, ← EReal.coe_add, ← EReal.coe_sub, ← EReal.coe_neg, coe_sum, zero_add, add_zero, div_width]
  rfl

theorem v45 : Holds (φ := .f32) (val_main_v45 (F := Ideal) X W D s1 t1) fun r => cen (res P (x r)) := by
  intro r j
  pointwise [val_main_v45, val_main_v44, val_main_v43, val_main_v42, val_main_v41, val_main_v40, val_main_cst_9, val_main_cst_10, v39 a _ _, bits_width]
  simp only [← EReal.coe_mul, ← EReal.coe_add, ← EReal.coe_sub, ← EReal.coe_neg, coe_sum, zero_add, add_zero, div_width]
  rfl

theorem v54 : Holds (φ := .f32) (val_main_v54 (F := Ideal) X W D s1 t1) fun r => cen (res P (x r)) := v45 a

theorem v52 : Holds (φ := .f32) (val_main_v52 (F := Ideal) X W D s1 t1) fun r _ => var (res P (x r)) := by
  intro r j
  pointwise [val_main_v52, val_main_v51, val_main_v50, val_main_v49, val_main_v46, val_main_cst_12, val_main_cst_13, v45 a _ _, bits_width]
  simp only [← EReal.coe_mul, ← EReal.coe_add, ← EReal.coe_sub, ← EReal.coe_neg, coe_sum, zero_add, add_zero, div_width]
  rfl

theorem v57 : Holds (φ := .f32) (val_main_v57 (F := Ideal) X W D s1 t1) fun r _ => Layer.inv (res P (x r)) := by
  intro r j
  pointwise [val_main_v57, val_main_v56, val_main_v55, val_main_cst_14, v52 a _ _, bits_eps]
  simp only [← EReal.coe_add]
  exact rsqrt_var _

theorem v60 : Holds (φ := .f32) (val_main_v60 (F := Ideal) X W D s1 t1) fun r _ => -0.5 * (Layer.inv (res P (x r)) / (var (res P (x r)) + eps)) := by
  intro r j
  pointwise [val_main_v60, val_main_v59, val_main_v58, val_main_v56, val_main_v55, val_main_cst_14, val_main_cst_15, v52 a _ _, v57 a _ _, bits_eps, bits_neg_half]
  simp only [← EReal.coe_add, div_var, ← EReal.coe_mul]

theorem v62 : Holds (φ := .f32) (val_main_v62 (F := Ideal) X W D s1 t1) fun r => hat (res P (x r)) := by
  intro r j
  pointwise [val_main_v62, val_main_v61, v54 a _ _, v57 a _ _]
  simp only [← EReal.coe_mul]
  rfl

theorem v67 : Holds (φ := .f32) (val_main_v67 (F := Ideal) X T W D s1 t1 s2 t2) fun r => err P (x r) (y r) := by
  intro r j
  pointwise [val_main_v67, val_main_v66, val_main_v65, val_main_v64, val_main_v63, v62 a _ _, a.g2 _ _, a.b2 _ _, a.target _ _]
  simp only [← EReal.coe_mul, ← EReal.coe_add, ← EReal.coe_sub, ← EReal.coe_neg, coe_sum, zero_add, add_zero, div_width]
  rfl

theorem v83 : Holds (φ := .f32) (val_main_v83 (F := Ideal) X T W D s1 t1 s2 t2) fun r => dy P (x r) (y r) := by
  intro r j
  pointwise [val_main_v83, val_main_v82, val_main_v81, val_main_v80, val_main_v79, val_main_v78, val_main_v70, val_main_v69, val_main_cst_16, val_main_cst_22, val_main_cst_23, val_main_cst_24, v67 a _ _, bits_width, bits_half, bits_two, mul_one, div_width]
  simp only [← EReal.coe_mul]
  exact congrArg _ (by unfold dy; ring)

theorem v90 : Holds (φ := .f32) (val_main_v90 (F := Ideal) X T W D s1 t1 s2 t2) fun r j => dy P (x r) (y r) j * P.g2 j := by
  intro r j
  pointwise [val_main_v90, val_main_v89, v83 a _ _, a.g2 _ _]
  simp only [← EReal.coe_mul]

theorem v95 : Holds (φ := .f32) (val_main_v95 (F := Ideal) X T W D s1 t1 s2 t2) fun r j => dy P (x r) (y r) j * P.g2 j * Layer.inv (res P (x r)) := by
  intro r j
  pointwise [val_main_v95, val_main_v94, v90 a _ _, v57 a _ _]
  simp only [← EReal.coe_mul]

theorem v104 : Holds (φ := .f32) (val_main_v104 (F := Ideal) X T W D s1 t1 s2 t2) fun r j =>
    (∑ k, cen (res P (x r)) k * (dy P (x r) (y r) k * P.g2 k)) * (-0.5 * (Layer.inv (res P (x r)) / (var (res P (x r)) + eps))) / 1024
      * (2 * cen (res P (x r)) j) := by
  intro r j
  pointwise [val_main_v104, val_main_v103, val_main_v102, val_main_v101, val_main_v100, val_main_v96, val_main_v93, val_main_v92, val_main_v91, val_main_v48, val_main_v47, val_main_cst_27, val_main_cst_29, val_main_cst_30, val_main_cst_11, v90 a _ _, v54 a _ _, v60 a _ _, v45 a _ _, bits_width, bits_two]
  simp only [← EReal.coe_mul, ← EReal.coe_add, ← EReal.coe_sub, ← EReal.coe_neg, coe_sum, zero_add, add_zero, div_width, Fin.sum_univ_one]

/-- The second layer norm's gradient. -/
theorem v114 : Holds (φ := .f32) (val_main_v114 (F := Ideal) X T W D s1 t1 s2 t2) fun r => dres P (x r) (y r) := by
  intro r j
  pointwise [val_main_v114, val_main_v113, val_main_v112, val_main_v111, val_main_v110, val_main_v109, val_main_v108, val_main_v107, val_main_v106, val_main_v105, val_main_v99, val_main_v98, val_main_v97, val_main_cst_28, val_main_cst_31, val_main_cst_32, val_main_cst_33, v95 a _ _, v104 a _ _, bits_width]
  simp only [← EReal.coe_mul, ← EReal.coe_add, ← EReal.coe_sub, ← EReal.coe_neg, coe_sum, zero_add, add_zero, div_width, Fin.sum_univ_one]
  exact congrArg _ (normGrad_rules _ _ _ _)

theorem v115 : Holds (φ := .f32) (val_main_v115 (F := Ideal) X T W D s1 t1 s2 t2) fun r => dact P (x r) (y r) := by
  intro r j
  pointwise [val_main_v115, v114 a _ _, a.down _ _]
  simp only [← EReal.coe_mul, ← EReal.coe_add, ← EReal.coe_sub, ← EReal.coe_neg, coe_sum, zero_add, add_zero, div_width]
  rfl

theorem v118 : Holds (φ := .f32) (val_main_v118 (F := Ideal) X T W D s1 t1 s2 t2) fun r => dup P (x r) (y r) := by
  intro r j
  pointwise [val_main_v118, s33_0 a _ _, v115 a _ _]
  simp only [← EReal.coe_mul]
  exact congrArg _ (by unfold dup; ring)

/-- The gated unit's derivative, in the gate. -/
theorem v120 : Holds (φ := .f32) (val_main_v120 (F := Ideal) X T W D s1 t1 s2 t2) fun r => dgate P (x r) (y r) := by
  intro r j
  pointwise [val_main_v120, val_main_call1_v2, val_main_call1_v1, val_main_call1_v0, val_main_v119, s33_1 a _ _, s33_2 a _ _, v31 a _ _, v32 a _ _, v115 a _ _]
  simp only [← EReal.coe_mul, ← EReal.coe_add]
  exact congrArg _ (by unfold dgate; ring)

/-- The gated pair's gradients side by side. -/
theorem v123 (r : Fin 8192) (j : Fin 5632) : val_main_v123 (F := Ideal) X T W D s1 t1 s2 t2 (ix2 r j)
    = ((if h : j.val < 2816 then dgate P (x r) (y r) ⟨j.val, h⟩ else dup P (x r) (y r) ⟨j.val - 2816, by omega⟩ : ℝ) : EReal) := by
  pointwise [val_main_v123, val_main_v122, val_main_v121, val_main_cst_35, val_main_cst_36, v118 a _ _, v120 a _ _]
  by_cases hj : j.val < 2816
  · rw [dif_neg (by omega), dif_pos hj, dif_pos hj, zero_add]
  · rw [dif_pos (by omega), dif_neg hj, dif_neg hj, add_zero]

theorem v125 : Holds (φ := .f32) (val_main_v125 (F := Ideal) X T W D s1 t1 s2 t2) fun r => dhid P (x r) (y r) := by
  intro r j
  pointwise [val_main_v125, val_main_v124, val_main_v117, val_main_v116, val_main_cst_34, v123 a _ _, v114 a _ _, a.pair _ _, bits_alpha]
  simp only [← EReal.coe_mul, ← EReal.coe_add, coe_sum]
  exact congrArg _ (add_assoc _ _ _).symm

theorem v132 : Holds (φ := .f32) (val_main_v132 (F := Ideal) X T W D s1 t1 s2 t2) fun r j => dhid P (x r) (y r) j * P.g1 j := by
  intro r j
  pointwise [val_main_v132, val_main_v131, v125 a _ _, a.g1 _ _]
  simp only [← EReal.coe_mul]

theorem v137 : Holds (φ := .f32) (val_main_v137 (F := Ideal) X T W D s1 t1 s2 t2) fun r j => dhid P (x r) (y r) j * P.g1 j * Layer.inv (x r) := by
  intro r j
  pointwise [val_main_v137, val_main_v136, v132 a _ _, v19 a.rows _ _]
  simp only [← EReal.coe_mul]

theorem v146 : Holds (φ := .f32) (val_main_v146 (F := Ideal) X T W D s1 t1 s2 t2) fun r j =>
    (∑ k, cen (x r) k * (dhid P (x r) (y r) k * P.g1 k)) * (-0.5 * (Layer.inv (x r) / (var (x r) + eps))) / 1024
      * (2 * cen (x r) j) := by
  intro r j
  pointwise [val_main_v146, val_main_v145, val_main_v144, val_main_v143, val_main_v142, val_main_v138, val_main_v135, val_main_v134, val_main_v133, val_main_v10, val_main_v9, val_main_cst_39, val_main_cst_41, val_main_cst_42, val_main_cst_3, v132 a _ _, v16 a.rows _ _, v22 a.rows _ _, v7 a.rows _ _, bits_width, bits_two]
  simp only [← EReal.coe_mul, ← EReal.coe_add, ← EReal.coe_sub, ← EReal.coe_neg, coe_sum, zero_add, add_zero, div_width, Fin.sum_univ_one]

/-- The first layer norm's gradient, which is the layer's. -/
theorem v156 : Holds (φ := .f32) (val_main_v156 (F := Ideal) X T W D s1 t1 s2 t2) fun r => dx P (x r) (y r) := by
  intro r j
  pointwise [val_main_v156, val_main_v155, val_main_v154, val_main_v153, val_main_v152, val_main_v151, val_main_v150, val_main_v149, val_main_v148, val_main_v147, val_main_v141, val_main_v140, val_main_v139, val_main_cst_40, val_main_cst_43, val_main_cst_44, val_main_cst_45, v137 a _ _, v146 a _ _, bits_width]
  simp only [← EReal.coe_mul, ← EReal.coe_add, ← EReal.coe_sub, ← EReal.coe_neg, coe_sum, zero_add, add_zero, div_width, Fin.sum_univ_one]
  exact congrArg _ (normGrad_rules _ _ _ _)

theorem v158 : Holds (φ := .bf16) (val_main_v158 (F := Ideal) X T W D s1 t1 s2 t2) fun r => actsRow P (x r) (y r) := by
  intro r j
  pointwise [val_main_v158, val_main_v157, v28 a _ _, v114 a _ _, v156 a _ _]
  by_cases h1 : j.val < 1024
  · rw [dif_pos h1, actsRow_hid P (x r) (y r) j ⟨j.val, h1⟩ rfl]
  by_cases h2 : j.val - 1024 < 1024
  · rw [dif_neg h1, dif_pos h2, actsRow_dres P (x r) (y r) j ⟨j.val - 1024, h2⟩ (by dsimp only; omega)]
  · rw [dif_neg h1, dif_neg h2, actsRow_dx P (x r) (y r) j ⟨j.val - 1024 - 1024, by omega⟩ (by dsimp only; omega)]

theorem v160 : Holds (φ := .bf16) (val_main_v160 (F := Ideal) X T W D s1 t1 s2 t2) fun r => gradsRow P (x r) (y r) := by
  intro r j
  pointwise [val_main_v160, val_main_v159, v123 a _ _, v34 a _ _]
  by_cases h1 : j.val < 5632
  · rw [dif_pos h1, gradsRow]
    by_cases h2 : j.val < 2816
    · rw [dif_pos h2, dif_pos h2]
    · rw [dif_neg h2, dif_neg h2, dif_pos h1]
  · rw [dif_neg h1, gradsRow_act P (x r) (y r) j ⟨j.val - 5632, by omega⟩ (by dsimp only; omega)]

theorem v162 : Holds (φ := .f32) (val_main_v162 (F := Ideal) X T W D s1 t1 s2 t2) fun r j => ∑ n, stat P (x n) (y n) r j := by
  intro r j
  pointwise [val_main_v162, val_main_v161, val_main_cst_46, val_main_v130, val_main_v129, val_main_v128, val_main_v127,
    val_main_v126, val_main_v88, val_main_v87, val_main_v86, val_main_v85, val_main_v84, val_main_v77, val_main_v76,
    val_main_v68, val_main_cst_21, val_main_cst_25, val_main_cst_26, val_main_cst_37, val_main_cst_38,
    v62 a _ _, v67 a _ _, v83 a _ _, v24 a.rows _ _, v125 a _ _]
  simp only [← EReal.coe_mul, coe_sum, zero_add]
  fin_cases r <;> simp [stat, mul_comm]

end Cert.ReferenceIdeal.Meaning

end
-- ==== Proof.Tile.lean ====
/- What the kernel's body computes from the blocks it has read, at each element: where the blocks hold real numbers, the
   real numbers of `Layer`. -/
module

public import proofs.«01_k».proof.Proof.Layer
public import proofs.«01_k».proof.Proof.Gen.KernelIdeal.Skeleton

@[expose] public section

set_option maxRecDepth 16384

noncomputable section

open Idealize.ShloMosaic Idealize.ShloMosaic.TcCoe

namespace Cert.KernelIdeal.Tile

open Cert.KernelIdeal Cert.KernelIdeal.Gen Cert.Layer

variable {P : Weights} {x t : Fin 256 → Row}
variable {X Y : FVec Ideal S256x1024 .f32} {g1 b1 g2 b2 : FVec Ideal S1x1024 .f32}
variable {Wg Wu Wd : FVec Ideal S2816x1024 .bf16}

/-- The blocks a point reads: the normalised rows, and the weights (the gated pair transposed, in two halves). -/
structure Reads (P : Weights) (x : Fin 256 → Row) (X : FVec Ideal S256x1024 .f32) (g1 b1 : FVec Ideal S1x1024 .f32)
    (Wg Wu : FVec Ideal S2816x1024 .bf16) : Prop where
  rows : Holds X fun r => hat (x r)
  scale : Holds g1 fun _ => P.g1
  shift : Holds b1 fun _ => P.b1
  gate : Holds Wg fun f j => P.gu j ⟨f.val, by omega⟩
  up : Holds Wu fun f j => P.gu j ⟨2816 + f.val, by omega⟩

theorem pay6 (h : Reads P x X g1 b1 Wg Wu) : Holds (k0_pay6 X g1 b1) fun r => hid P (x r) := by
  intro r j
  pointwise [k0_pay6, k0_pay5, h.rows _ _, h.scale _ _, h.shift _ _]
  simp only [← EReal.coe_add, ← EReal.coe_mul]
  rfl

theorem pay8 (h : Reads P x X g1 b1 Wg Wu) : Holds (k0_pay8 X g1 b1 Wg) fun r => gate P (x r) := by
  intro r j
  pointwise [k0_pay8, k0_pay7, pay6 h _ _, h.gate _ _]
  simp only [← EReal.coe_add, ← EReal.coe_mul, coe_sum, zero_add]
  rfl

theorem pay9 (h : Reads P x X g1 b1 Wg Wu) : Holds (k0_pay9 X g1 b1 Wu) fun r => up P (x r) := by
  intro r j
  pointwise [k0_pay9, k0_pay7, pay6 h _ _, h.up _ _]
  simp only [← EReal.coe_add, ← EReal.coe_mul, coe_sum, zero_add]
  rfl

theorem pay12 (h : Reads P x X g1 b1 Wg Wu) : Holds (k0_pay12 X g1 b1 Wg Wu) fun r => act P (x r) := by
  intro r j
  pointwise [k0_pay12, pay8 h _ _, pay9 h _ _, logistic_sg]
  simp only [← EReal.coe_add, ← EReal.coe_mul]
  rfl

theorem pay13 (h : Reads P x X g1 b1 Wg Wu) : Holds (k0_pay13 X g1 b1) fun r j => alpha * hid P (x r) j := by
  intro r j
  pointwise [k0_pay13, pay6 h _ _, bits_alpha]
  simp only [← EReal.coe_add, ← EReal.coe_mul]

/-- The second half's blocks: the gated unit's result, the residual, the weights of the way down and the second norm. -/
structure Mid (P : Weights) (x t : Fin 256 → Row) (A : FVec Ideal S256x2816 .bf16) (H : FVec Ideal S256x1024 .f32)
    (Wd : FVec Ideal S2816x1024 .bf16) (g2 b2 : FVec Ideal S1x1024 .f32) (T : FVec Ideal S256x1024 .f32) : Prop where
  act : Holds A fun r => act P (x r)
  hid : Holds H fun r j => alpha * hid P (x r) j
  down : Holds Wd P.down
  scale : Holds g2 fun _ => P.g2
  shift : Holds b2 fun _ => P.b2
  target : Holds T t

variable {A : FVec Ideal S256x2816 .bf16} {H T : FVec Ideal S256x1024 .f32}

theorem pay14 (h : Mid P x t A H Wd g2 b2 T) : Holds (k0_pay14 A H Wd) fun r => cen (res P (x r)) := by
  intro r j
  pointwise [k0_pay14, h.act _ _, h.hid _ _, h.down _ _, bits_width]
  simp only [← EReal.coe_add, ← EReal.coe_mul, ← EReal.coe_sub, coe_sum, zero_add, div_width]
  rfl

theorem pay15 (h : Mid P x t A H Wd g2 b2 T) : Holds (k0_pay15 A H Wd) fun r _ => inv (res P (x r)) := by
  intro r j
  pointwise [k0_pay15, pay14 h _ _, bits_width, bits_eps]
  simp only [← EReal.coe_add, ← EReal.coe_mul, ← EReal.coe_sub, coe_sum, zero_add, div_width]
  exact rsqrt_var _

theorem pay16 (h : Mid P x t A H Wd g2 b2 T) : Holds (k0_pay16 A H Wd) fun r => hat (res P (x r)) := by
  intro r j
  pointwise [k0_pay16, pay14 h _ _, pay15 h _ _]
  simp only [← EReal.coe_mul]
  rfl

theorem pay17 (h : Mid P x t A H Wd g2 b2 T) : Holds (k0_pay17 A H Wd g2 b2 T) fun r => err P (x r) (t r) := by
  intro r j
  pointwise [k0_pay17, pay16 h _ _, h.scale _ _, h.shift _ _, h.target _ _]
  simp only [← EReal.coe_add, ← EReal.coe_mul, ← EReal.coe_sub]
  rfl

theorem pay18 (h : Mid P x t A H Wd g2 b2 T) : Holds (k0_pay18 A H Wd g2 b2 T) fun r => dy P (x r) (t r) := by
  intro r j
  pointwise [k0_pay18, pay17 h _ _, bits_recip]
  simp only [← EReal.coe_mul, mul_one_div]
  rfl

/-- A row of the statistics: what it held, and the tile's part. -/
theorem pay19 (h : Mid P x t A H Wd g2 b2 T) (v : FVec Ideal S1x1024 .f32) (j : Fin 1024) :
    k0_pay19 A H Wd g2 b2 T v (ix2 0 j) = v (ix2 0 j) + ((∑ r, dy P (x r) (t r) j * hat (res P (x r)) j : ℝ) : EReal) := by
  pointwise [k0_pay19, pay16 h _ _, pay18 h _ _]
  simp only [← EReal.coe_mul, coe_sum, zero_add]

theorem pay21 (h : Mid P x t A H Wd g2 b2 T) (v : FVec Ideal S1x1024 .f32) (j : Fin 1024) :
    k0_pay21 (k0_pay18 A H Wd g2 b2 T) (k0_pay20 v) (ix2 0 j) = v (ix2 0 j) + ((∑ r, dy P (x r) (t r) j : ℝ) : EReal) := by
  pointwise [k0_pay21, k0_pay20, pay18 h _ _]
  simp only [coe_sum, zero_add]

theorem pay22 (h : Mid P x t A H Wd g2 b2 T) (v : FVec Ideal S1x1024 .f32) (j : Fin 1024) :
    k0_pay22 (k0_pay17 A H Wd g2 b2 T) v (ix2 0 j)
      = v (ix2 0 j) + ((∑ r, err P (x r) (t r) j * err P (x r) (t r) j : ℝ) : EReal) := by
  pointwise [k0_pay22, pay17 h _ _]
  simp only [← EReal.coe_mul, coe_sum, zero_add]

/-- The layer norm's gradient as the kernel has it, from the normalised rows and the reciprocal roots. -/
theorem pay23 {s : FVec Ideal S256x1 .f32} {N D : FVec Ideal S256x1024 .f32} {g : FVec Ideal S1x1024 .f32}
    {y d : Fin 256 → Row} {γ : Row} (hs : Holds s fun r _ => inv (y r)) (hN : Holds N fun r => hat (y r)) (hD : Holds D d)
    (hg : Holds g fun _ => γ) : Holds (k0_pay23 s N D g) fun r => normGrad γ (y r) (d r) := by
  intro r j
  pointwise [k0_pay23, hs _ _, hN _ _, hD _ _, hg _ _, bits_width]
  simp only [← EReal.coe_add, ← EReal.coe_mul, ← EReal.coe_sub, coe_sum, zero_add, div_width]
  rfl

theorem pay2 {s : FVec Ideal S256x1 .f32} {N D : FVec Ideal S256x1024 .f32} {g : FVec Ideal S1x1024 .f32}
    {y d : Fin 256 → Row} {γ : Row} (hs : Holds s fun r _ => inv (y r)) (hN : Holds N fun r => hat (y r)) (hD : Holds D d)
    (hg : Holds g fun _ => γ) : Holds (k0_pay2 N D s g) fun r => normGrad γ (y r) (d r) := by
  intro r j
  pointwise [k0_pay2, hs _ _, hN _ _, hD _ _, hg _ _, bits_width]
  simp only [← EReal.coe_add, ← EReal.coe_mul, ← EReal.coe_sub, coe_sum, zero_add, div_width]
  rfl

variable {s : FVec Ideal S256x1 .f32} {N D : FVec Ideal S256x1024 .f32} {g : FVec Ideal S1x1024 .f32}

theorem pay25 (hR : Holds (k0_pay23 s N D g) fun r => dres P (x r) (t r)) (hW : Holds Wd P.down) :
    Holds (k0_pay25 s N D g Wd) fun r => dact P (x r) (t r) := by
  intro r j
  pointwise [k0_pay25, k0_pay24, hR _ _, hW _ _]
  simp only [← EReal.coe_mul, coe_sum, zero_add]
  rfl

variable {V G U : FVec Ideal S256x2816 .f32}

theorem pay27 (hV : Holds V fun r => dact P (x r) (t r)) (hG : Holds G fun r => gate P (x r)) (hU : Holds U fun r => up P (x r)) :
    Holds (k0_pay27 V G U) fun r => dgate P (x r) (t r) := by
  intro r j
  pointwise [k0_pay27, k0_pay26, hV _ _, hG _ _, hU _ _, logistic_sg]
  simp only [← EReal.coe_one, ← EReal.coe_add, ← EReal.coe_mul, ← EReal.coe_sub]
  rfl

theorem pay28 (hV : Holds V fun r => dact P (x r) (t r)) (hG : Holds G fun r => gate P (x r)) :
    Holds (k0_pay28 V G) fun r => dup P (x r) (t r) := by
  intro r j
  pointwise [k0_pay28, k0_pay26, hV _ _, hG _ _, logistic_sg]
  simp only [← EReal.coe_mul]
  rfl

/-- The last third's blocks. -/
structure Back (P : Weights) (x t : Fin 256 → Row) (R : FVec Ideal S256x1024 .f32) (V G U : FVec Ideal S256x2816 .f32)
    (Wg Wu : FVec Ideal S2816x1024 .bf16) : Prop where
  dres : Holds R fun r => dres P (x r) (t r)
  dact : Holds V fun r => dact P (x r) (t r)
  gate : Holds G fun r => Layer.gate P (x r)
  up : Holds U fun r => Layer.up P (x r)
  wgate : Holds Wg fun f j => P.gu j ⟨f.val, by omega⟩
  wup : Holds Wu fun f j => P.gu j ⟨2816 + f.val, by omega⟩

variable {R : FVec Ideal S256x1024 .f32}

theorem pay29 (h : Back P x t R V G U Wg Wu) : Holds (k0_pay29 R V G U Wg Wu) fun r => dhid P (x r) (t r) := by
  intro r j
  pointwise [k0_pay29, h.dres _ _, pay27 h.dact h.gate h.up _ _, pay28 h.dact h.gate _ _, h.wgate _ _, h.wup _ _, bits_alpha]
  simp only [← EReal.coe_add, ← EReal.coe_mul, coe_sum, zero_add]
  rfl

theorem pay30 (h : Back P x t R V G U Wg Wu) (hN : Holds N fun r => hat (x r)) (v : FVec Ideal S1x1024 .f32) (j : Fin 1024) :
    k0_pay30 N R V G U Wg Wu v (ix2 0 j) = v (ix2 0 j) + ((∑ r, dhid P (x r) (t r) j * hat (x r) j : ℝ) : EReal) := by
  pointwise [k0_pay30, pay29 h _ _, hN _ _]
  simp only [← EReal.coe_mul, coe_sum, zero_add]

theorem pay1 (h : Back P x t R V G U Wg Wu) (v : FVec Ideal S1x1024 .f32) (j : Fin 1024) :
    k0_pay1 (k0_pay31 v) (k0_pay32 R V G U Wg Wu) (ix2 0 j) = v (ix2 0 j) + ((∑ r, dhid P (x r) (t r) j : ℝ) : EReal) := by
  pointwise [k0_pay1, k0_pay31, k0_pay32, pay29 h _ _]
  simp only [coe_sum, zero_add]

/-- All the blocks a point reads. -/
structure Blocks (P : Weights) (x t : Fin 256 → Row) (X : FVec Ideal S256x1024 .f32) (s : FVec Ideal S256x1 .f32)
    (T : FVec Ideal S256x1024 .f32) (g1 b1 g2 b2 : FVec Ideal S1x1024 .f32) (Wg Wu Wd : FVec Ideal S2816x1024 .bf16) : Prop
    extends Reads P x X g1 b1 Wg Wu where
  root : Holds s fun r _ => inv (x r)
  target : Holds T t
  scale2 : Holds g2 fun _ => P.g2
  shift2 : Holds b2 fun _ => P.b2
  down : Holds Wd P.down

theorem Blocks.mid (h : Blocks P x t X s T g1 b1 g2 b2 Wg Wu Wd) :
    Mid P x t (k0_pay12 X g1 b1 Wg Wu) (k0_pay13 X g1 b1) Wd g2 b2 T :=
  ⟨pay12 h.toReads, pay13 h.toReads, h.down, h.scale2, h.shift2, h.target⟩

theorem Blocks.dres (h : Blocks P x t X s T g1 b1 g2 b2 Wg Wu Wd) :
    Holds (k0_pay23 (k0_pay15 (k0_pay12 X g1 b1 Wg Wu) (k0_pay13 X g1 b1) Wd)
      (k0_pay16 (k0_pay12 X g1 b1 Wg Wu) (k0_pay13 X g1 b1) Wd)
      (k0_pay18 (k0_pay12 X g1 b1 Wg Wu) (k0_pay13 X g1 b1) Wd g2 b2 T) g2) fun r => dres P (x r) (t r) :=
  pay23 (pay15 h.mid) (pay16 h.mid) (pay18 h.mid) h.scale2

theorem Blocks.back (h : Blocks P x t X s T g1 b1 g2 b2 Wg Wu Wd) :
    Back P x t (k0_pay23 (k0_pay15 (k0_pay12 X g1 b1 Wg Wu) (k0_pay13 X g1 b1) Wd)
        (k0_pay16 (k0_pay12 X g1 b1 Wg Wu) (k0_pay13 X g1 b1) Wd)
        (k0_pay18 (k0_pay12 X g1 b1 Wg Wu) (k0_pay13 X g1 b1) Wd g2 b2 T) g2)
      (k0_pay25 (k0_pay15 (k0_pay12 X g1 b1 Wg Wu) (k0_pay13 X g1 b1) Wd)
        (k0_pay16 (k0_pay12 X g1 b1 Wg Wu) (k0_pay13 X g1 b1) Wd)
        (k0_pay18 (k0_pay12 X g1 b1 Wg Wu) (k0_pay13 X g1 b1) Wd g2 b2 T) g2 Wd)
      (k0_pay10 X g1 b1 Wg) (k0_pay11 X g1 b1 Wu) Wg Wu where
  dres := h.dres
  dact := pay25 h.dres h.down
  gate := fun r j => by pointwise [k0_pay10, pay8 h.toReads _ _]
  up := fun r j => by pointwise [k0_pay11, pay9 h.toReads _ _]
  wgate := h.toReads.gate
  wup := h.toReads.up

theorem Blocks.rows5 (h : Blocks P x t X s T g1 b1 g2 b2 Wg Wu Wd) : Holds (k0_pay5 X) fun r => hat (x r) :=
  fun r j => by pointwise [k0_pay5, h.rows _ _]

/-- The gradient in the argument that a point stores. -/
theorem Blocks.dx (h : Blocks P x t X s T g1 b1 g2 b2 Wg Wu Wd) {E : FVec Ideal S256x1024 .f32}
    (hE : Holds E fun r => dhid P (x r) (t r)) : Holds (k0_pay2 (k0_pay5 X) E s g1) fun r => dx P (x r) (t r) :=
  pay2 h.root h.rows5 hE h.scale

/-! ## What a point stores, in the narrow type -/

theorem pay7 (h : Reads P x X g1 b1 Wg Wu) : Holds (k0_pay7 X g1 b1) fun r => hid P (x r) :=
  fun r j => by pointwise [k0_pay7, pay6 h _ _]

theorem Blocks.dresStored (h : Blocks P x t X s T g1 b1 g2 b2 Wg Wu Wd) :
    Holds (k0_pay24 (k0_pay15 (k0_pay12 X g1 b1 Wg Wu) (k0_pay13 X g1 b1) Wd)
      (k0_pay16 (k0_pay12 X g1 b1 Wg Wu) (k0_pay13 X g1 b1) Wd)
      (k0_pay18 (k0_pay12 X g1 b1 Wg Wu) (k0_pay13 X g1 b1) Wd g2 b2 T) g2) fun r => Layer.dres P (x r) (t r) :=
  fun r j => by pointwise [k0_pay24, h.dres _ _]

theorem Blocks.dxStored (h : Blocks P x t X s T g1 b1 g2 b2 Wg Wu Wd) {E : FVec Ideal S256x1024 .f32}
    (hE : Holds E fun r => dhid P (x r) (t r)) : Holds (k0_pay3 (k0_pay5 X) E s g1) fun r => Layer.dx P (x r) (t r) :=
  fun r j => by pointwise [k0_pay3, h.dx hE _ _]

theorem fill (r : Fin 8) (j : Fin 1024) : k0_pay4 (F := Ideal) (ix2 r j) = 0 := by
  pointwise [k0_pay4]

end Cert.KernelIdeal.Tile

end
-- ==== Proof.Point.lean ====
/- What the body leaves in the output blocks at each point of the grid. -/
module

public import proofs.«01_k».proof.Proof.Tile
public import proofs.«01_k».proof.Proof.Pieces
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen Cert.KernelIdeal.Tile Cert.Layer Cert.Pieces

variable (m : (ℓ : Loc nD τ sig) → Buf (Elt Ideal) ℓ) (c : Dev nD)

/-- The scratch holds the weights of the gated pair after every point: the first point's transfer brings them, the later
    points leave them. -/
theorem scratch_pair (n : ℕ) (hn : n < cfg0.N) : (outsAt0 m c n hn).2.2.2.2.1 = V m c main_v17 := by
  induction n with
  | zero =>
    rw [outsAt0_A m c ⟨0, hn⟩ (Nat.zero_mod _)]
    frame_out
    exact canon_whole _ _
  | succ n ih =>
    by_cases h : (n + 1) % 32 = 0
    · rw [outsAt0_A m c ⟨n + 1, hn⟩ h]
      frame_out
      exact canon_whole _ _
    · rw [outsAt0_B m c ⟨n + 1, hn⟩ h]
      dsimp only
      unfold sout0_B_0
      exact ih _

/-- … and the weights of the way down. -/
theorem scratch_down (n : ℕ) (hn : n < cfg0.N) : (outsAt0 m c n hn).2.2.2.2.2 = V m c main_v18 := by
  induction n with
  | zero =>
    rw [outsAt0_A m c ⟨0, hn⟩ (Nat.zero_mod _)]
    frame_out
    exact canon_whole _ _
  | succ n ih =>
    by_cases h : (n + 1) % 32 = 0
    · rw [outsAt0_A m c ⟨n + 1, hn⟩ h]
      frame_out
      exact canon_whole _ _
    · rw [outsAt0_B m c ⟨n + 1, hn⟩ h]
      dsimp only
      unfold sout0_B_1
      exact ih _

/-- The blocks of point `t`, with the weights as the region finds them. -/
structure Given (P : Weights) (x y : Fin 256 → Row) (t : Fin cfg0.N) : Prop where
  rows : Holds (φ := .f32) (iblk m c 0 t) fun r => hat (x r)
  root : Holds (φ := .f32) (iblk m c 1 t) fun r _ => inv (x r)
  target : Holds (φ := .f32) (iblk m c 2 t) y
  g1 : Holds (φ := .f32) (iblk m c 3 t) fun _ => P.g1
  b1 : Holds (φ := .f32) (iblk m c 4 t) fun _ => P.b1
  g2 : Holds (φ := .f32) (iblk m c 5 t) fun _ => P.g2
  b2 : Holds (φ := .f32) (iblk m c 6 t) fun _ => P.b2
  pair : Holds (φ := .bf16) (V m c main_v17) fun f j => P.gu j f
  down : Holds (φ := .bf16) (V m c main_v18) P.down

variable {P : Weights} {x y : Fin 256 → Row} {t : Fin cfg0.N}

/-- The first half of the rows of the gated pair's weights, as the body loads it. -/
abbrev gateRows (W : Vec Ideal S5632x1024 .bf16) : Vec Ideal S2816x1024 .bf16 :=
  View.ld (Val := Elt Ideal) W (Rect.unit (s := S5632x1024) ![0, 0] ![2816, 1024] inb_S5632x1024_S2816x1024_0_0)

/-- The second half. -/
abbrev upRows (W : Vec Ideal S5632x1024 .bf16) : Vec Ideal S2816x1024 .bf16 :=
  View.ld (Val := Elt Ideal) W (Rect.unit (s := S5632x1024) ![2816, 0] ![2816, 1024] inb_S5632x1024_S2816x1024_2816_0)

theorem Given.blocks (g : Given m c P x y t) :
    Blocks P x y (iblk m c 0 t) (iblk m c 1 t) (iblk m c 2 t) (iblk m c 3 t) (iblk m c 4 t) (iblk m c 5 t) (iblk m c 6 t)
      (gateRows (V m c main_v17)) (upRows (V m c main_v17)) (V m c main_v18) where
  rows := g.rows
  root := g.root
  target := g.target
  scale := g.g1
  shift := g.b1
  scale2 := g.g2
  shift2 := g.b2
  down := g.down
  gate := fun f j => by
    unfold gateRows
    pointwise
    exact g.pair ⟨f.val, by omega⟩ j
  up := fun f j => by
    unfold upRows
    pointwise
    exact g.pair ⟨2816 + f.val, by omega⟩ j

/-- The gradient in the argument. -/
theorem dr1 (g : Given m c P x y t) : Holds (φ := .f32) (outsAt0 m c t.val t.isLt).1 fun r => dx P (x r) (y r) := by
  intro r j
  have e := g.blocks.dx (pay29 g.blocks.back) r j
  dsimp only at e ⊢
  by_cases h : t.val % 32 = 0
  · rw [outsAt0_A m c t h]
    frame_open
    simp (disch := decide) only [↓ View.readCov_skip, ↓ View.readCov_cons_toLoadRect, ↓ View.readCov_fill]
    frame_out [readCov_whole, read_unread_whole]
    simp only [ReadAs.apply, View.read_whole]
    exact e
  · rw [outsAt0_B m c t h]
    frame_open
    simp (disch := decide) only [↓ View.readCov_skip, ↓ View.readCov_cons_toLoadRect, ↓ View.readCov_fill]
    frame_out [readCov_whole, read_unread_whole, scratch_pair, scratch_down]
    exact e

/-- The three matrices of activations, side by side. -/
theorem acts (g : Given m c P x y t) : Holds (φ := .bf16) (outsAt0 m c t.val t.isLt).2.1 fun r => actsRow P (x r) (y r) := by
  intro r j
  have h0 : ∀ (j : Fin 3072) (i : Fin 1024), j.val = 0 + i.val → _ = ((actsRow P (x r) (y r) j : ℝ) : EReal) := fun j i e =>
    (pay7 g.blocks.toReads r i).trans (congrArg Real.toEReal (actsRow_hid P (x r) (y r) j i (by omega)).symm)
  have h1 : ∀ (j : Fin 3072) (i : Fin 1024), j.val = 1024 + i.val → _ = ((actsRow P (x r) (y r) j : ℝ) : EReal) := fun j i e =>
    (g.blocks.dresStored r i).trans (congrArg Real.toEReal (actsRow_dres P (x r) (y r) j i e).symm)
  have h2 : ∀ (j : Fin 3072) (i : Fin 1024), j.val = 2048 + i.val → _ = ((actsRow P (x r) (y r) j : ℝ) : EReal) := fun j i e =>
    (g.blocks.dxStored (pay29 g.blocks.back) r i).trans (congrArg Real.toEReal (actsRow_dx P (x r) (y r) j i e).symm)
  have whole := three_columns (Val := Elt Ideal) (e := .bf16) (k := 3072) r j
    (F := fun j => ((actsRow P (x r) (y r) j : ℝ) : EReal))
    inb_S256x3072_S256x1024_0_2048 inb_S256x3072_S256x1024_0_1024 inb_S256x3072_S256x1024_0_0 (fun i hi => by omega) h2 h1 h0
  by_cases h : t.val % 32 = 0
  · rw [outsAt0_A m c t h]
    frame_open
    simp (disch := decide) only [↓ View.readCov_skip, ↓ View.readCov_cons_toLoadRect, ↓ View.readCov_fill]
    frame_out [readCov_whole, read_unread_whole]
    simp only [ReadAs.apply, View.read_whole]
    exact whole
  · rw [outsAt0_B m c t h]
    frame_open
    simp (disch := decide) only [↓ View.readCov_skip, ↓ View.readCov_cons_toLoadRect, ↓ View.readCov_fill]
    frame_out [readCov_whole, read_unread_whole, scratch_pair, scratch_down]
    exact whole

/-- The three matrices of the gated pair's side, side by side. -/
theorem grads (g : Given m c P x y t) :
    Holds (φ := .bf16) (outsAt0 m c t.val t.isLt).2.2.1 fun r => gradsRow P (x r) (y r) := by
  intro r j
  have h0 : ∀ (j : Fin 8448) (i : Fin 2816), j.val = 0 + i.val → _ = ((gradsRow P (x r) (y r) j : ℝ) : EReal) := fun j i e =>
    (pay27 g.blocks.back.dact g.blocks.back.gate g.blocks.back.up r i).trans
      (congrArg Real.toEReal (gradsRow_dgate P (x r) (y r) j i (by omega)).symm)
  have h1 : ∀ (j : Fin 8448) (i : Fin 2816), j.val = 2816 + i.val → _ = ((gradsRow P (x r) (y r) j : ℝ) : EReal) :=
    fun j i e => (pay28 g.blocks.back.dact g.blocks.back.gate r i).trans
      (congrArg Real.toEReal (gradsRow_dup P (x r) (y r) j i e).symm)
  have h2 : ∀ (j : Fin 8448) (i : Fin 2816), j.val = 5632 + i.val → _ = ((gradsRow P (x r) (y r) j : ℝ) : EReal) :=
    fun j i e => (pay12 g.blocks.toReads r i).trans (congrArg Real.toEReal (gradsRow_act P (x r) (y r) j i e).symm)
  have whole := three_columns (Val := Elt Ideal) (e := .bf16) (k := 8448) r j
    (F := fun j => ((gradsRow P (x r) (y r) j : ℝ) : EReal))
    inb_S256x8448_S256x2816_0_2816 inb_S256x8448_S256x2816_0_0 inb_S256x8448_S256x2816_0_5632 (fun i hi => by omega) h1 h0 h2
  by_cases h : t.val % 32 = 0
  · rw [outsAt0_A m c t h]
    frame_open
    simp (disch := decide) only [↓ View.readCov_skip, ↓ View.readCov_cons_toLoadRect, ↓ View.readCov_fill]
    frame_out [readCov_whole, read_unread_whole]
    simp only [ReadAs.apply, View.read_whole]
    exact whole
  · rw [outsAt0_B m c t h]
    frame_open
    simp (disch := decide) only [↓ View.readCov_skip, ↓ View.readCov_cons_toLoadRect, ↓ View.readCov_fill]
    frame_out [readCov_whole, read_unread_whole, scratch_pair, scratch_down]
    exact whole

/-- The five rows that a point adds to, over the fill. -/
theorem rows_over_fill {f : Fin 8 → EReal} {j : Fin 1024} {w0 w1 w2 w3 w4 : Vec Ideal S1x1024 .f32}
    (h0 : w0 (ix2 0 j) = f 0) (h1 : w1 (ix2 0 j) = f 1) (h2 : w2 (ix2 0 j) = f 2) (h3 : w3 (ix2 0 j) = f 3)
    (h4 : w4 (ix2 0 j) = f 4) {Z : Vec Ideal S8x1024 .f32}
    (hZ : ∀ r : Fin 8, 5 ≤ r.val → Z (ix2 r j) = f r) (r : Fin 8) :
    View.canon ([⟨Rect.unit ![3, 0] ![1, 1024] inb_S8x1024_S1x1024_3_0, w3⟩,
        ⟨Rect.unit ![2, 0] ![1, 1024] inb_S8x1024_S1x1024_2_0, w2⟩,
        ⟨Rect.unit ![4, 0] ![1, 1024] inb_S8x1024_S1x1024_4_0, w4⟩,
        ⟨Rect.unit ![1, 0] ![1, 1024] inb_S8x1024_S1x1024_1_0, w1⟩,
        ⟨Rect.unit ![0, 0] ![1, 1024] inb_S8x1024_S1x1024_0_0, w0⟩,
        ⟨Rect.unit ![0, 0] ![8, 1024] inb_S8x1024_S8x1024_0_0, Z⟩] :
        List (View.Piece (Elt Ideal) ⟨2, ![8, 1024]⟩ .f32)) (ix2 r j) = f r := by
  have hr := r.isLt
  have at_row : ∀ (k : Fin 8) {v : EReal}, v = f k → r.val = k.val → v = f r := fun k v hv e => (Fin.ext e : r = k) ▸ hv
  exact row_step _ r j _ (at_row 3 h3) fun n3 => row_step _ r j _ (at_row 2 h2) fun n2 => row_step _ r j _ (at_row 4 h4) fun n4 =>
    row_step _ r j _ (at_row 1 h1) fun n1 => row_step _ r j _ (at_row 0 h0) fun n0 =>
    (canon_hit _ _ _ r j r j (by omega) (by omega)).trans (hZ r (by omega))

/-- The five rows that a point adds to, over what the block held before. -/
theorem rows_over_block {f : Fin 8 → EReal} {j : Fin 1024} {w0 w1 w2 w3 w4 : Vec Ideal S1x1024 .f32}
    (h0 : w0 (ix2 0 j) = f 0) (h1 : w1 (ix2 0 j) = f 1) (h2 : w2 (ix2 0 j) = f 2) (h3 : w3 (ix2 0 j) = f 3)
    (h4 : w4 (ix2 0 j) = f 4) {κ : Kind} {sp : Space}
    (v : View sig κ sp ⟨2, ![8, 1024]⟩ .f32) (b : v.ty.Contents (Elt Ideal))
    (hb : ∀ r : Fin 8, 5 ≤ r.val → v.read (Elt Ideal) b (ix2 r j) = f r) (r : Fin 8) :
    v.read (Elt Ideal) (v.writes (Elt Ideal) b ([⟨Rect.unit ![3, 0] ![1, 1024] inb_S8x1024_S1x1024_3_0, w3⟩,
        ⟨Rect.unit ![2, 0] ![1, 1024] inb_S8x1024_S1x1024_2_0, w2⟩,
        ⟨Rect.unit ![4, 0] ![1, 1024] inb_S8x1024_S1x1024_4_0, w4⟩,
        ⟨Rect.unit ![1, 0] ![1, 1024] inb_S8x1024_S1x1024_1_0, w1⟩,
        ⟨Rect.unit ![0, 0] ![1, 1024] inb_S8x1024_S1x1024_0_0, w0⟩] :
        List (View.Piece (Elt Ideal) ⟨2, ![8, 1024]⟩ .f32))) (ix2 r j) = f r := by
  have hr := r.isLt
  have at_row : ∀ (k : Fin 8) {v : EReal}, v = f k → r.val = k.val → v = f r := fun k v hv e => (Fin.ext e : r = k) ▸ hv
  exact row_step_over _ r j v b _ (at_row 3 h3) fun n3 => row_step_over _ r j v b _ (at_row 2 h2) fun n2 => row_step_over _ r j v b _ (at_row 4 h4) fun n4 =>
    row_step_over _ r j v b _ (at_row 1 h1) fun n1 => row_step_over _ r j v b _ (at_row 0 h0) fun n0 =>
    (hb r (by omega))

theorem stat_high (P : Weights) (x y : Row) (r : Fin 8) (j : Fin 1024) (h : 5 ≤ r.val) : stat P x y r j = 0 := by
  unfold stat
  split <;> first | rfl | exact absurd h (by decide)

/-- The first point leaves its own sums. -/
theorem stats_first (g : Given m c P x y t) (h : t.val % 32 = 0) (r : Fin 8) (j : Fin 1024) :
    (outsAt0 m c t.val t.isLt).2.2.2.1 (ix2 r j) = ((∑ i, stat P (x i) (y i) r j : ℝ) : EReal) := by
  rw [outsAt0_A m c t h]
  frame_open
  simp (disch := decide) only [↓ View.readCov_skip, ↓ View.readCov_cons_toLoadRect, ↓ View.readCov_fill]
  frame_out [readCov_whole, read_unread_whole]
  simp only [ReadAs.apply, View.read_whole]
  refine rows_over_fill (f := fun r => ((∑ i, stat P (x i) (y i) r j : ℝ) : EReal))
    ((pay19 g.blocks.mid _ j).trans ?_) ((pay21 g.blocks.mid _ j).trans ?_) ((pay30 g.blocks.back g.blocks.rows5 _ j).trans ?_)
    ((pay1 g.blocks.back _ j).trans ?_) ((pay22 g.blocks.mid _ j).trans ?_) (fun k hk => (fill k j).trans ?_) r
  · pointwise [k0_pay4]
    rfl
  · pointwise [k0_pay4]
    rfl
  · pointwise [k0_pay4]
    rfl
  · pointwise [k0_pay4]
    rfl
  · pointwise [k0_pay4]
    rfl
  · simp only [stat_high _ _ _ _ _ hk, Finset.sum_const_zero, EReal.coe_zero]

/-- A later point adds its sums to what the point before left. -/
theorem stats_later (g : Given m c P x y t) (h : ¬t.val % 32 = 0) (r : Fin 8) (j : Fin 1024) :
    (outsAt0 m c t.val t.isLt).2.2.2.1 (ix2 r j)
      = (outsAt0 m c (t.val - 1) (Nat.lt_of_le_of_lt (Nat.sub_le _ _) t.isLt)).2.2.2.1 (ix2 r j)
        + ((∑ i, stat P (x i) (y i) r j : ℝ) : EReal) := by
  rw [outsAt0_B m c t h]
  frame_open
  simp (disch := decide) only [↓ View.readCov_skip, ↓ View.readCov_cons_toLoadRect, ↓ View.readCov_fill]
  frame_out [readCov_whole, read_unread_whole, scratch_pair, scratch_down]
  refine rows_over_block (f := fun r =>
      (outsAt0 m c (t.val - 1) (Nat.lt_of_le_of_lt (Nat.sub_le _ _) t.isLt)).2.2.2.1 (ix2 r j)
        + ((∑ i, stat P (x i) (y i) r j : ℝ) : EReal))
    ((pay19 g.blocks.mid _ j).trans ?_) ((pay21 g.blocks.mid _ j).trans ?_) ((pay30 g.blocks.back g.blocks.rows5 _ j).trans ?_)
    ((pay1 g.blocks.back _ j).trans ?_) ((pay22 g.blocks.mid _ j).trans ?_) _ _ (fun k hk => ?_) r
  · pointwise
    rfl
  · pointwise
    rfl
  · pointwise
    rfl
  · pointwise
    rfl
  · pointwise
    rfl
  · simp only [stat_high _ _ _ _ _ hk, Finset.sum_const_zero, EReal.coe_zero, add_zero, Memref.IsWhole.read_unread]

end Cert.KernelIdeal.Point

end
-- ==== Proof.Result.lean ====
/- What the kernel leaves in its four results: token by token the real numbers of `Layer`, and the statistics summed over
   all tokens. -/
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.Layer

variable (m : (ℓ : Loc nD τ sig) → Buf (Elt Ideal) ℓ) (c : Dev nD)

/-- The arguments of the program hold real numbers. -/
abbrev Known (P : Weights) (x y : Fin 8192 → Row) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) P x y

variable {m c} {P : Weights} {x y : Fin 8192 → Row}

/-! ## What the host has computed before the kernel starts -/

theorem host_root (k : Known m c P x y) : Holds (φ := .f32) (V m c main_v13) fun r _ => inv (x r) := by
  intro r j
  unfold V
  after_results
  pointwise [k.rows _ _, bits_width, bits_eps]
  simp only [← EReal.coe_add, ← EReal.coe_mul, ← EReal.coe_sub, coe_sum, zero_add, div_width]
  exact rsqrt_var (x r)

theorem host_hat (k : Known m c P x y) : Holds (φ := .f32) (V m c main_v15) fun r => hat (x r) := by
  intro r j
  unfold V
  after_results
  pointwise [k.rows _ _, bits_width, bits_eps]
  simp only [← EReal.coe_add, ← EReal.coe_mul, ← EReal.coe_sub, coe_sum, zero_add, div_width]
  refine (congrArg (_ * ·) (rsqrt_var (x r))).trans ?_
  rw [← EReal.coe_mul]
  rfl

theorem host_pair (k : Known m c P x y) : Holds (φ := .bf16) (V m c main_v17) fun f j => P.gu j f := by
  intro r j
  unfold V
  after_results
  pointwise [k.pair _ _]

theorem host_down (k : Known m c P x y) : Holds (φ := .bf16) (V m c main_v18) P.down := by
  intro r j
  unfold V
  after_results
  pointwise [k.down _ _]

/-! ## The blocks of one point -/

theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![t.val, 0] ∧ win0_10.index t = ![0, 0] :=
  (by decide +kernel : ∀ t : Fin grid0.N, _)

/-- Row `r` of block `t`. -/
def row (t : Fin cfg0.N) (r : Fin 256) : Fin 8192 := ⟨t.val * 256 + r.val, by have := lt_of_lt_of_eq t.isLt N_0; omega⟩

theorem given (k : Known m c P x y) (t : Fin cfg0.N) : Point.Given m c P (fun r => x (row t r)) (fun r => y (row t r)) t where
  rows := fun r j => by
    refine Eq.trans ?_ (host_hat k (row t r) j)
    unfold row
    blk_ext [iblk, V, idx t]
  root := fun r j => by
    refine Eq.trans ?_ (host_root k (row t r) j)
    unfold row
    blk_ext [iblk, V, idx t]
  target := fun r j => by
    refine Eq.trans ?_ (k.target (row t r) j)
    unfold row
    blk_ext [iblk, V, idx t]
  g1 := fun r j => by
    refine Eq.trans ?_ (k.g1 r j)
    blk_ext [iblk, V, idx t]
  b1 := fun r j => by
    refine Eq.trans ?_ (k.b1 r j)
    blk_ext [iblk, V, idx t]
  g2 := fun r j => by
    refine Eq.trans ?_ (k.g2 r j)
    blk_ext [iblk, V, idx t]
  b2 := fun r j => by
    refine Eq.trans ?_ (k.b2 r j)
    blk_ext [iblk, V, idx t]
  pair := host_pair k
  down := host_down k

/-! ## The four results -/

/-- The gradient in the argument. -/
theorem dr1 (k : Known m c P x y) :
    (dats m 0 c).arrAt 7 (cfgs 0).N = fun i => ((dx P (x (i 0)) (y (i 0)) (i 1) : ℝ) : EReal) := by
  refine (dats m 0 c).arrAt_eq_of_covers 7 _ (by decide +kernel) fun t _ i => ?_
  blk_simp
  rw [after0_7]
  have er : (win0_7.blk t).view.emb i 0 = row t (i 0) := Fin.ext (by blk_simp [idx t]; rfl)
  have ej : (win0_7.blk t).view.emb i 1 = (show Fin 1024 from i 1) := Fin.ext (by blk_simp [idx t])
  rw [er, ej]
  exact (congrArg _ (eq_ix2 (show (⟨2, ![256, 1024]⟩ : Shape).Idx from i))).trans (Point.dr1 m c (given k t) (i 0) (i 1))

/-- The activations of the width of the model. -/
theorem acts (k : Known m c P x y) :
    (dats m 0 c).arrAt 8 (cfgs 0).N = fun i => ((actsRow P (x (i 0)) (y (i 0)) (i 1) : ℝ) : EReal) := by
  refine (dats m 0 c).arrAt_eq_of_covers 8 _ (by decide +kernel) fun t _ i => ?_
  blk_simp
  rw [after0_8]
  have er : (win0_8.blk t).view.emb i 0 = row t (i 0) := Fin.ext (by blk_simp [idx t]; rfl)
  have ej : (win0_8.blk t).view.emb i 1 = (show Fin 3072 from i 1) := Fin.ext (by blk_simp [idx t])
  rw [er, ej]
  exact (congrArg _ (eq_ix2 (show (⟨2, ![256, 3072]⟩ : Shape).Idx from i))).trans (Point.acts m c (given k t) (i 0) (i 1))

/-- The gradients and the activation of the gated pair. -/
theorem grads (k : Known m c P x y) :
    (dats m 0 c).arrAt 9 (cfgs 0).N = fun i => ((gradsRow P (x (i 0)) (y (i 0)) (i 1) : ℝ) : EReal) := by
  refine (dats m 0 c).arrAt_eq_of_covers 9 _ (by decide +kernel) fun t _ i => ?_
  blk_simp
  rw [after0_9]
  have er : (win0_9.blk t).view.emb i 0 = row t (i 0) := Fin.ext (by blk_simp [idx t]; rfl)
  have ej : (win0_9.blk t).view.emb i 1 = (show Fin 8448 from i 1) := Fin.ext (by blk_simp [idx t])
  rw [er, ej]
  exact (congrArg _ (eq_ix2 (show (⟨2, ![256, 8448]⟩ : Shape).Idx from i))).trans (Point.grads m c (given k t) (i 0) (i 1))

/-- The last point leaves the sums over all the tokens. -/
theorem stats_last (k : Known m c P x y) (t : Fin cfg0.N) (ht : t.val + 1 = cfg0.N) (i : S8x1024.Idx) :
    (outsAt0 m c t.val t.isLt).2.2.2.1 i = ((∑ n, stat P (x n) (y n) (i 0) (i 1) : ℝ) : EReal) := by
  rw [Pipeline.eq_sum_fin_of_reset_step_apply_last (fun n h => (outsAt0 m c n h).2.2.2.1) 32 (fun _ => 0)
    (fun t i => ((∑ r, stat P (x (row t r)) (y (row t r)) (i 0) (i 1) : ℝ) : EReal))
    (fun t h i => (congrArg _ (eq_ix2 i)).trans
      ((Point.stats_first m c (given k t) h (i 0) (i 1)).trans (zero_add _).symm))
    (fun t h i => (congrArg _ (eq_ix2 i)).trans ((Point.stats_later m c (given k t) h (i 0) (i 1)).trans
      (congrArg (fun v => (outsAt0 m c (t.val - 1) (Nat.lt_of_le_of_lt (Nat.sub_le _ _) t.isLt)).2.2.2.1 v + _)
        (eq_ix2 i).symm))) (le_of_eq N_0) t ht i]
  show (0 : EReal) + ∑ p : Fin cfg0.N, _ = _
  rw [zero_add, coe_sum]
  refine congrArg Real.toEReal ?_
  exact Fin.sum_mul_add_congr (L := 8192) (f := fun n => stat P (x n) (y n) (i 0) (i 1)) fun s r h => rfl

/-- The statistics, summed over the tokens. -/
theorem stats (k : Known m c P x y) :
    (dats m 0 c).arrAt 10 (cfgs 0).N = fun i => ((∑ n, stat P (x n) (y n) (i 0) (i 1) : ℝ) : EReal) := by
  refine (dats m 0 c).arrAt_eq_of_covers 10 _ (by decide +kernel) fun t hf i => ?_
  blk_simp
  rw [after0_10]
  have er : (win0_10.blk t).view.emb i 0 = (show Fin 8 from i 0) := Fin.ext (by blk_simp [idx t])
  have ej : (win0_10.blk t).view.emb i 1 = (show Fin 1024 from i 1) := Fin.ext (by blk_simp [idx t])
  rw [er, ej]
  have hN : cfg0.N = 32 := N_0
  have hf := (flush0_10 t).mp hf
  have := t.isLt
  exact stats_last k t (by omega) i

end Cert.KernelIdeal.Result

end
-- ==== Proof.ExchangeSlots.lean ====
/- A buffer of four slots: its slots as views, what is held of each, and the loads, stores and copies through them. -/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Pipeline.Launch
public import Idealize.ShloMosaic.Lib.Pipeline.Kit
public import Idealize.ShloMosaic.Lib.ViewIndex
public import Idealize.ShloMosaic.Lib.Pointwise
public import Idealize.ShloMosaic.Lib.Tactic

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the exchange's, one duty to a round -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

abbrev 𝒱₀ : Variants := Variants.none

/-- Ownership of a memref of device `c`'s TensorCore. -/
abbrev holds (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

/-- The weakest precondition of a program of device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD) {s : Shape} {e : EltTy} {M : Memref sig .tc .vmem s e}

/-- A load through a rectangle of a memref held whole reads the held values there. -/
theorem load_within {α : Type} {Q : α → sProp 𝕄} {r : Rect s} {hl : M.view.LoadsAt r.toLoadRect} {k : (r.shape.Idx → Elt F e) → Prog (TpuEff nD τ sig (Elt F) Λ₀ .tc) α}
    {X : s.Idx → Elt F e} :
    holds c M X ⊢ iprop((holds c M X -∗ WP c (k (fun x => X (r.toLoadRect.idx x))) Q) -∗ WP c (.op (.load M r.toLoadRect hl) k) Q) := by
  unfold holds owns
  iintro ⟨%f, %hf, Hf⟩ Hk
  iapply (wp_load 𝒱₀ (c : Thread nD τ) none Set.univ (m := M) (View.setOn_subset_set _ _)) $$ Hf
  iintro Hf
  rw [show M.view.readAt (Elt F) r.toLoadRect f = fun x => X (r.toLoadRect.idx x) from
    funext fun x => by rw [View.readAt_apply, hf]]
  iapply Hk
  iexists f
  isplitr; · (ipureintro; exact hf)
  iexact Hf

/-- A load through the rectangle a part is held at reads the held values. -/
theorem load_part {α : Type} {Q : α → sProp 𝕄} {r : Rect s} {hr : ∀ a, r.stride a = 1} {hl : M.view.LoadsAt r.toLoadRect}
    {k : (r.shape.Idx → Elt F e) → Prog (TpuEff nD τ sig (Elt F) Λ₀ .tc) α} {X : r.shape.Idx → Elt F e} :
    holds c (M.slice r hr) X ⊢ iprop((holds c (M.slice r hr) X -∗ WP c (k X) Q) -∗ WP c (.op (.load M r.toLoadRect hl) k) Q) := by
  unfold holds owns
  iintro ⟨%f, %hf, Hf⟩ Hk
  iapply (wp_load_rect 𝒱₀ (c : Thread nD τ) none Set.univ (m := M) (r := r) (Finset.Subset.refl _)) $$ Hf
  iintro Hf
  rw [show (M.access r).read (Elt F) f = X from hf]
  iapply Hk
  iexists f
  isplitr; · (ipureintro; exact hf)
  iexact Hf

/-- A store through the rectangle a part is held at leaves the part at what was stored. -/
theorem store_part {α : Type} {Q : α → sProp 𝕄} {r : Rect s} {hr : ∀ a, r.stride a = 1} {w : r.shape.Idx → Elt F e} {hx : (M.access r).Stores Finset.univ}
    {hm : Finset.univ = Finset.univ ∨ ∀ a, r.stride a = 1}
    {k : PUnit → Prog (TpuEff nD τ sig (Elt F) Λ₀ .tc) α} {X : r.shape.Idx → Elt F e} :
    holds c (M.slice r hr) X ⊢ iprop((holds c (M.slice r hr) w -∗ WP c (k ⟨⟩) Q) -∗ WP c (.op (.store M r w Finset.univ hx hm) k) Q) := by
  unfold holds owns
  iintro ⟨%f, %hf, Hf⟩ Hk
  iapply (wp_store 𝒱₀ (c : Thread nD τ) none Set.univ (m := M) (r := r) (Mk := Finset.univ) (S := (M.slice r hr).view.set)
    (Finset.Subset.refl _)) $$ Hf
  iintro Hf
  iapply Hk
  iexists _
  isplitr; · (ipureintro; exact View.read_write_univ f w)
  iexact Hf

/-- A store over a whole memref leaves it at what was stored. -/
theorem store_over {α : Type} {Q : α → sProp 𝕄} {r : Rect s} {w : r.shape.Idx → Elt F e} {hx : (M.access r).Stores Finset.univ}
    {hm : Finset.univ = Finset.univ ∨ ∀ a, r.stride a = 1}
    {k : PUnit → Prog (TpuEff nD τ sig (Elt F) Λ₀ .tc) α} {X Y : s.Idx → Elt F e}
    (hY : ∀ y : s.Idx, ∃ x, r.emb x = y ∧ w x = Y y) :
    holds c M X ⊢ iprop((holds c M Y -∗ WP c (k ⟨⟩) Q) -∗ WP c (.op (.store M r w Finset.univ hx hm) k) Q) := by
  unfold holds owns
  iintro ⟨%f, %hf, Hf⟩ Hk
  iapply (wp_store 𝒱₀ (c : Thread nD τ) none Set.univ (m := M) (r := r) (Mk := Finset.univ) (S := M.view.set)
    (View.set_slice_subset M.view r)) $$ Hf
  iintro Hf
  iapply Hk
  iexists _
  isplitr
  · ipureintro
    funext y
    obtain ⟨x, rfl, hx'⟩ := hY y
    rw [← hx']
    exact View.read_slice_write_emb r f w (Finset.mem_univ x)
  iexact Hf

end Steps

/-! ## Four slots -/

theorem slot_inb (q : Fin 4) : ∀ a, (![q.val, 0, 0] : Fin 3 → ℕ) a + S1x352x1024.size a ≤ S4x352x1024.size a := by
  revert q; decide

/-- Slot `q`'s rectangle. -/
abbrev slotR (q : Fin 4) : Rect S4x352x1024 := Rect.unit (s := S4x352x1024) ![q.val, 0, 0] S1x352x1024.size (slot_inb q)

/-- Slot `q` of a buffer of four. -/
abbrev part {e : EltTy} (M : Memref sig .tc .vmem S4x352x1024 e) (q : Fin 4) : Memref sig .tc .vmem S1x352x1024 e :=
  M.slice (slotR q) (fun _ => rfl)

/-- The same as a copy names it. -/
abbrev slot {e : EltTy} (M : Memref sig .tc .vmem S4x352x1024 e) (q : Fin 4) : Memref sig .tc .vmem S352x1024 e :=
  (part M q).squeeze S352x1024 squeezes_S1x352x1024_S352x1024

/-- Four slots' values as the buffer's. -/
def paste {e : EltTy} (w : Fin 4 → S1x352x1024.Idx → Elt F e) : S4x352x1024.Idx → Elt F e := fun i => w (i 0) (ix3 0 (i 1) (i 2))

theorem slot_emb (q : Fin 4) (x : S1x352x1024.Idx) : (slotR q).emb x = (ix3 q (x 1) (x 2) : S4x352x1024.Idx) := by
  refine funext fun a => Fin.ext ?_
  fin_cases a
  · have : (x 0).val = 0 := by have := (x 0).isLt; simp at this; exact this
    show q.val + 1 * (x 0).val = q.val
    omega
  · show 0 + 1 * (x 1).val = (x 1).val; omega
  · show 0 + 1 * (x 2).val = (x 2).val; omega

theorem paste_slot {e : EltTy} (w : Fin 4 → S1x352x1024.Idx → Elt F e) (q : Fin 4) (x : S1x352x1024.Idx) :
    paste w ((slotR q).emb x) = w q x := by
  rw [slot_emb]
  show w q (ix3 0 (x 1) (x 2)) = w q x
  congr 1
  refine funext fun a => Fin.ext ?_
  fin_cases a
  · exact (congrArg Fin.val (Subsingleton.elim (α := Fin 1) (x 0) 0)).symm
  · rfl
  · rfl

theorem in_slot (y : S4x352x1024.Idx) : ∃ (q : Fin 4) (x : S1x352x1024.Idx), (slotR q).emb x = y :=
  ⟨y 0, ix3 0 (y 1) (y 2), (slot_emb _ _).trans (eq_ix3 y).symm⟩

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

section Parts
variable (c : Dev nD) {e : EltTy} {M : Memref sig .tc .vmem S4x352x1024 e}

theorem part_sep : ∀ q ∈ (Finset.univ : Finset (Fin 4)), ∀ q' ∈ (Finset.univ : Finset (Fin 4)), q ≠ q' →
    Disjoint (part M q).view.set (part M q').view.set := by
  intro q _ q' _ hne
  refine Finset.disjoint_left.mpr fun i hi hi' => hne ?_
  obtain ⟨x, rfl⟩ := View.exists_of_mem_set_slice hi
  obtain ⟨y, hy⟩ := View.exists_of_mem_set_slice hi'
  have h := M.view.emb.injective hy
  rw [slot_emb, slot_emb] at h
  exact (congrFun h (0 : Fin 3)).symm

theorem part_cover : M.view.set = (Finset.univ : Finset (Fin 4)).biUnion fun q => (part M q).view.set := by
  ext i
  constructor
  · intro hi
    obtain ⟨y, -, rfl⟩ := Finset.mem_map.mp hi
    obtain ⟨q, x, rfl⟩ := in_slot y
    exact Finset.mem_biUnion.mpr ⟨q, Finset.mem_univ _, Finset.mem_map.mpr ⟨x, Finset.mem_univ _, rfl⟩⟩
  · intro hi
    obtain ⟨q, -, h⟩ := Finset.mem_biUnion.mp hi
    exact View.set_slice_subset _ _ h

/-- A buffer held whole is its four slots held. -/
theorem split_slots (X : S4x352x1024.Idx → Elt F e) :
    holds c M X ⊢ bigSep Finset.univ fun q : Fin 4 => holds c (part M q) (fun x => X ((slotR q).emb x)) := by
  have one (f : M.view.ty.Contents (Elt F)) (hf : M.view.read (Elt F) f = X) (q : Fin 4) :
      (M.view.loc (c : Thread nD τ) ↦[(part M q).view.set]{fullShare} f : sProp 𝕄) ⊢ holds c (part M q) (fun x => X ((slotR q).emb x)) := by
    subst hf
    unfold holds owns
    iintro H
    iexists f
    isplitr; · (ipureintro; exact funext fun x => rfl)
    iexact H
  have all (f : M.view.ty.Contents (Elt F)) :
      (M.view.loc (c : Thread nD τ) ↦[M.view.set]{fullShare} f : sProp 𝕄)
        = bigSep Finset.univ fun q : Fin 4 => (M.view.loc (c : Thread nD τ) ↦[(part M q).view.set]{fullShare} f : sProp 𝕄) := by
    rw [part_cover]
    exact pointsTo_biUnion (ℓ := M.view.loc (c : Thread nD τ)) (q := fullShare) (f := f) Finset.univ
      (fun q => (part M q).view.set) part_sep
  have both (f : M.view.ty.Contents (Elt F)) (hf : M.view.read (Elt F) f = X) :
      (M.view.loc (c : Thread nD τ) ↦[M.view.set]{fullShare} f : sProp 𝕄)
        ⊢ bigSep Finset.univ fun q : Fin 4 => holds c (part M q) (fun x => X ((slotR q).emb x)) :=
    (Entails.of_eq (all f)).trans (bigSep_mono fun q _ => one f hf q)
  show owns (Ix := Unit) (Name := ℕ) (U := UU) (Lvl := ℕ) (c : Thread nD τ) M fullShare X ⊢ _
  unfold owns
  iintro ⟨%f, %hf, Hf⟩
  iapply (both f hf)
  iexact Hf

/-- Four slots held are the buffer held whole, at the slots' values. -/
theorem join_slots (w : Fin 4 → S1x352x1024.Idx → Elt F e) :
    (bigSep Finset.univ fun q : Fin 4 => holds c (part M q) (w q)) ⊢ holds c M (paste w) := by
  rw [four]
  unfold holds owns
  iintro ⟨⟨%f0, %h0, H0⟩, ⟨%f1, %h1, H1⟩, ⟨%f2, %h2, H2⟩, ⟨%f3, %h3, H3⟩⟩
  let fs : Fin 4 → M.view.ty.Contents (Elt F) := ![f0, f1, f2, f3]
  have hfs : ∀ q, (part M q).view.read (Elt F) (fs q) = w q := by
    intro q; fin_cases q
    · exact h0
    · exact h1
    · exact h2
    · exact h3
  ihave H := (pointsTo_biUnion_join (ℓ := M.view.loc (c : Thread nD τ)) (q := fullShare) Finset.univ (fun q => (part M q).view.set) fs f0 part_sep) $$ [H0 H1 H2 H3]
  · rw [four]
    isplitl [H0]; · iexact H0
    isplitl [H1]; · iexact H1
    isplitl [H2]; · iexact H2
    iexact H3
  icases H with ⟨%g, %hg, H⟩
  iexists g
  isplitr
  · ipureintro
    funext y
    obtain ⟨q, x, rfl⟩ := in_slot y
    rw [paste_slot, ← hfs]
    exact View.read_congr_at (v := (part M q).view) x (hg q (Finset.mem_univ _) _ (View.emb_mem_set _ _))
  · rw [part_cover]
    iexact H

/-- Four slots held at anything are the buffer held at something. -/
theorem join_any :
    (bigSep Finset.univ fun q : Fin 4 => iprop(∃ X, holds c (part M q) X) : sProp 𝕄) ⊢ iprop(∃ X, holds c M X) := by
  iintro H
  ihave H := (BI.bigSep_exists_pi Finset.univ (fun (q : Fin 4) X => (holds c (part M q) X : sProp 𝕄))) $$ H
  icases H with ⟨%w, H⟩
  iexists _
  iapply (join_slots c w)
  iexact H

/-- What a copy from one buffer's slot leaves of another's. -/
theorem copied {M' : Memref sig .tc .vmem S4x352x1024 e} (q : Fin 4) (d : Dev nD) {X : S1x352x1024.Idx → Elt F e}
    (fs : M.view.ty.Contents (Elt F)) (fd : M'.view.ty.Contents (Elt F)) (hfs : (part M q).view.read (Elt F) fs = X) :
    ((slot M' q).view.loc (d : Thread nD τ) ↦[(slot M' q).view.set]{fullShare}
        ((slot M' q).view.write (Elt F) fd ((slot M q).view.read (Elt F) fs) Finset.univ) : sProp 𝕄)
      ⊢ holds d (part M' q) X := by
  unfold holds owns
  iintro H
  iexists ((slot M' q).view.write (Elt F) fd ((slot M q).view.read (Elt F) fs) Finset.univ)
  isplitr
  · ipureintro
    subst hfs
    funext x
    obtain ⟨y, rfl⟩ := (Shape.reshapeEquiv (s := S1x352x1024) (s' := S352x1024) squeezes_S1x352x1024_S352x1024.numel_eq).surjective x
    exact View.read_write_reshape (part M' q).view _ fd _ y
  · rw [show (part M' q).view.set = (slot M' q).view.set from (View.set_reshape _ _).symm]
    iexact H

end Parts

end Cert.Exchange

end
-- ==== Proof.ExchangeSchedule.lean ====
/- The exchange between the two devices: its semaphores, what each hand-over carries, what each device owes and when it may wait. -/
module

public import proofs.«01_k».proof.Proof.ExchangeSlots

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two devices and their semaphores -/

/-- The other device. -/
def sib (c : Dev nD) : Dev nD := ⟨1 - c.val, by have : c.val < 2 := c.isLt; show 1 - c.val < 2; omega⟩

theorem sib_sib (c : Dev nD) : sib (sib c) = c := by revert c; decide

def swap : Dev nD ≃ Dev nD := ⟨sib, sib, sib_sib, sib_sib⟩

/-- A device's semaphores of the exchange: the barrier's, and of each slot the one that counts its departure (`false`) and the
    one that counts its arrival (`true`). -/
abbrev Key : Type := Option (Bool × Fin 4)

abbrev barS : Sem sig := (SemArray.scalar (sig.barrier 2 rfl) : Sems sig S_).sem
def sendSem (q : Fin 4) : DmaSem sig := ⟨6 + q.val, by show 6 + q.val < 14; omega⟩
def recvSem (q : Fin 4) : DmaSem sig := ⟨10 + q.val, by show 10 + q.val < 14; omega⟩

def semOf : Key → SemLoc sig
  | none => .reg barS
  | some (false, q) => .dma (sendSem q)
  | some (true, q) => .dma (recvSem q)

/-- Which of them a semaphore is, if any. -/
def keyOf : SemLoc sig → Option Key
  | .reg s => if s = barS then some none else none
  | .dma d => if 10 ≤ d.val then some (some (true, ⟨(d.val - 10) % 4, Nat.mod_lt _ (by decide)⟩))
      else if 6 ≤ d.val then some (some (false, ⟨(d.val - 6) % 4, Nat.mod_lt _ (by decide)⟩)) else none

theorem keyOf_semOf (k : Key) : keyOf (semOf k) = some k := by revert k; decide

theorem semOf_injective : Function.Injective semOf := fun a b h => by
  have := congrArg keyOf h
  rw [keyOf_semOf, keyOf_semOf] at this
  exact Option.some.inj this

abbrev cell (ck : Dev nD × Key) : GSem nD τ sig := ((ck.1 : Thread nD τ), semOf ck.2)
abbrev bar (c : Dev nD) : GSem nD τ sig := cell (c, none)
abbrev send (c : Dev nD) (q : Fin 4) : GSem nD τ sig := cell (c, some (false, q))
abbrev recv (c : Dev nD) (q : Fin 4) : GSem nD τ sig := cell (c, some (true, q))

theorem cell_injective : Function.Injective (cell : Dev nD × Key → GSem nD τ sig) := by
  rintro ⟨c, k⟩ ⟨c', k'⟩ h
  have h1 : c = c' := congrArg (fun g : GSem nD τ sig => g.1.1) h
  have h2 : k = k' := semOf_injective (congrArg Prod.snd h)
  rw [h1, h2]

/-! ## The buffers -/

abbrev outM : Memref sig .tc .vmem S4x352x1024 .bf16 := Memref.whole cc0_stg2_0
abbrev ownM : Memref sig .tc .vmem S352x1024 .f32 := Memref.whole cc0_stg3_0
abbrev accM : Memref sig .tc .vmem S2816x1024 .f32 := Memref.whole cc0_scratch0
abbrev keptM : Memref sig .tc .vmem S4x352x1024 .f32 := Memref.whole cc0_scratch1
abbrev landM : Memref sig .tc .vmem S4x352x1024 .bf16 := Memref.whole cc0_scratch2

/-- The units one slot's copy counts. -/
abbrev N : ℕ := (slot landM 0).view.dmaCredit
theorem N_pos : 0 < N := View.dmaCredit_pos _ (by decide)
theorem credit_slot (M : Memref sig .tc .vmem S4x352x1024 .bf16) (q : Fin 4) : (slot M q).view.dmaCredit = N := rfl

/-! ## What the buffers hold -/

variable (m : (ℓ : Loc nD τ sig) → Buf (Elt F) ℓ) (ρ : Dev nD → PrngReg)

/-- The memory a run starts from: any contents, every semaphore at zero. -/
def s₀ : MemSt nD τ sig (Elt F) := ⟨m, fun _ => 0, ρ⟩

theorem points : cfg0.N = 8 := N_0
/-- The grid's `n`-th point. -/
def pt (n : ℕ) : Fin cfg0.N := ⟨n % 8, by rw [points]; exact Nat.mod_lt _ (by decide)⟩

/-- The blocks of the two arguments that a point reads. -/
def lhs (c : Dev nD) (t : Fin cfg0.N) : S1024x2816.Idx → Elt F .bf16 :=
  (win0_0.blk t).view.read (Elt F) ((s₀ m ρ).mem ((c : Thread nD τ).loc main_arg0))
def rhs (c : Dev nD) (t : Fin cfg0.N) : S1024x1024.Idx → Elt F .bf16 :=
  (win0_1.blk t).view.read (Elt F) ((s₀ m ρ).mem ((c : Thread nD τ).loc main_arg1))

/-- The sum of the first `n + 1` points' products. -/
def acc (c : Dev nD) : ℕ → Vec F S2816x1024 .f32
  | 0 => k0_pay1 (lhs m ρ c (pt 0)) (rhs m ρ c (pt 0))
  | n + 1 => k0_pay2 (acc c n) (lhs m ρ c (pt (n + 1))) (rhs m ρ c (pt (n + 1)))

/-- 352 rows of it, from row `o` on. -/
def rows (T : Vec F S2816x1024 .f32) (o : ℕ) : Vec F S352x1024 .f32 :=
  fun x => T (ix2 ⟨(o + (x 0).val) % 2816, Nat.mod_lt _ (by decide)⟩ (x 1))

/-- What a device keeps of slot `q`, what it sends of it, and what it makes of what it kept and what arrived. -/
def kept (c : Dev nD) (q : Fin 4) : S1x352x1024.Idx → Elt F .f32 := k0_pay5 (rows (acc m ρ c 7) (704 * q.val + 352 * c.val))
def sent (c : Dev nD) (q : Fin 4) : S1x352x1024.Idx → Elt F .bf16 := k0_pay6 (rows (acc m ρ c 7) ((704 * q.val + 352) - 352 * c.val))
def made (c : Dev nD) (q : Fin 4) : S1x352x1024.Idx → Elt F .bf16 := k0_pay12 (kept m ρ c q) (sent m ρ (sib c) q)
/-- Slot 0 of that before it is rounded. -/
def own (c : Dev nD) : S352x1024.Idx → Elt F .f32 := k0_pay11 (kept m ρ c 0) (sent m ρ (sib c) 0)

/-! ## The hand-overs -/

/-- What each semaphore's count hands its device: the barrier's, the other device's landing slots; a departure's, the slot that
    was sent; an arrival's, the landing slot holding what the other device sent. -/
def pay (c : Dev nD) : Key → sProp 𝕄
  | none => bigSep Finset.univ fun q : Fin 4 => iprop(∃ X, holds (sib c) (part landM q) X)
  | some (false, q) => holds c (part outM q) (sent m ρ c q)
  | some (true, q) => holds c (part landM q) (sent m ρ (sib c) q)

instance pay_storable (c : Dev nD) (k : Key) : BI.Storable (upEmb : UEmb _ 𝕄) (pay m ρ c k) := by
  rcases k with _ | ⟨_ | _, q⟩ <;> (unfold pay; infer_instance)

def units : Key → ℕ
  | none => 1
  | some _ => N

theorem units_pos (k : Key) : 0 < units k := by
  cases k
  · exact Nat.one_pos
  · exact N_pos

/-- One round on each semaphore, of one hand-over. -/
def sched : Rounds.Schedule (GSem nD τ sig) Unit 𝕄 where
  duties g r := if r = 0 ∧ g.1.2 = .tc ∧ (keyOf g.2).isSome then {()} else ∅
  unitless _ := False
  amount g _ _ := match keyOf g.2 with
    | some k => units k
    | none => 1
  payload g _ _ := match keyOf g.2 with
    | some k => pay m ρ g.1.1 k
    | none => iprop(emp)
  amount_pos g _ _ _ := by
    cases keyOf g.2 with
    | none => exact Nat.one_pos
    | some k => exact units_pos k

instance sched_storable (g : GSem nD τ sig) (r : ℕ) (d : Unit) : BI.Storable (upEmb : UEmb _ 𝕄) ((sched (F := F) m ρ).payload g r d) := by
  show BI.Storable upEmb (match keyOf g.2 with | some k => pay m ρ g.1.1 k | none => iprop(emp))
  cases keyOf g.2 <;> infer_instance

section Tables
variable (c : Dev nD) (k : Key)

theorem duties_cell : (sched (F := F) m ρ).duties (cell (c, k)) 0 = {()} := by
  dsimp only [sched]; rw [keyOf_semOf]; exact if_pos ⟨rfl, rfl, rfl⟩
theorem duties_after (g : GSem nD τ sig) : ∀ r, 1 ≤ r → (sched (F := F) m ρ).duties g r = ∅ :=
  fun r hr => by dsimp only [sched]; exact if_neg fun h => by omega
theorem amount_cell (d : Unit) : (sched (F := F) m ρ).amount (cell (c, k)) 0 d = units k := by
  dsimp only [sched]; rw [keyOf_semOf]
theorem expect_cell : (sched (F := F) m ρ).expect (cell (c, k)) 0 = units k := by
  unfold Schedule.expect Schedule.amountOf; rw [duties_cell, Finset.sum_singleton, amount_cell]
theorem payload_cell (d : Unit) : (sched (F := F) m ρ).payload (cell (c, k)) 0 d = pay m ρ c k := by
  dsimp only [sched]; rw [keyOf_semOf]
theorem rest_cell : bigSep ((sched (F := F) m ρ).duties (cell (c, k)) 0 \ ∅) (fun d => (sched (F := F) m ρ).payload (cell (c, k)) 0 d) = pay m ρ c k := by
  rw [Finset.sdiff_empty, duties_cell, bigSep_singleton, payload_cell]

end Tables

/-! ## What a device owes, and when it may wait -/

/-- What is still to be sent when `n` slots are left: the last `n` slots' arrivals at the other device. -/
def due (c : Dev nD) : ℕ → CellTallies nD τ sig Unit
  | 0 => 0
  | n + 1 => due c n + tallyAt (recv (sib c) ⟨(3 - n) % 4, Nat.mod_lt _ (by decide)⟩) () N

theorem due_step (c : Dev nD) (q : Fin 4) : due c (4 - q.val) = due c (3 - q.val) + tallyAt (recv (sib c) q) () N := by
  fin_cases q <;> rfl

/-- What a device owes at launch: the four arrivals and one count of the other's barrier. -/
def debt (c : Dev nD) : CellTallies nD τ sig Unit := due c 4 + tallyAt (bar (sib c)) () 1

def L (g : GSem nD τ sig) : Finset Unit := if g.1.2 = .tc then {()} else ∅
/-- The order of waiting: the barrier before the arrivals, anything else before both. -/
def lv (g : GSem nD τ sig) (_ : Unit) : ℕ := match keyOf g.2 with
  | some none => 1
  | some (some (true, _)) => 2
  | _ => 0

theorem L_of_ne (g : GSem nD τ sig) (h : g.1.2 ≠ .tc) : L g = ∅ := if_neg h
theorem mem_L (c : Dev nD) (sm : SemLoc sig) (u : Unit) : u ∈ L ((c : Thread nD τ), sm) := by
  rw [L, if_pos rfl]; exact Finset.mem_singleton_self _
theorem lv_bar (c : Dev nD) : lv (bar c) () = 1 := by dsimp only [lv]; rw [keyOf_semOf]
theorem lv_recv (c : Dev nD) (q : Fin 4) : lv (recv c q) () = 2 := by dsimp only [lv]; rw [keyOf_semOf]

theorem due_pos {c : Dev nD} {n : ℕ} {g : GSem nD τ sig} {u : Unit} (h : 0 < due c n g u) : ∃ q, g = recv (sib c) q := by
  induction n with
  | zero => exact absurd h (Nat.lt_irrefl 0)
  | succ n ih =>
    rcases Pipeline.add_pos_cases h with h | h
    · exact ih h
    · rw [tallyAt_apply] at h
      refine ⟨⟨(3 - n) % 4, Nat.mod_lt _ (by decide)⟩, ?_⟩
      by_contra hn
      rw [if_neg fun h' => hn h'.1] at h
      exact Nat.lt_irrefl 0 h

theorem debt_pos {c : Dev nD} {g : GSem nD τ sig} {u : Unit} (h : 0 < debt c g u) : (∃ q, g = recv (sib c) q) ∨ g = bar (sib c) := by
  rcases Pipeline.add_pos_cases h with h | h
  · exact Or.inl (due_pos h)
  · refine Or.inr ?_
    rw [tallyAt_apply] at h
    by_contra hn
    rw [if_neg fun h' => hn h'.1] at h
    exact Nat.lt_irrefl 0 h

/-- The staging copies' waits, whatever of the exchange is still owed. -/
theorem wait_staging (c : Dev nD) (d : DmaSem sig) (hd : keyOf (.dma d) = none) (O : CellTallies nD τ sig Unit)
    (hO : O = debt c ∨ (∃ n, O = due c n)) : (levAts L lv : sProp 𝕄) ⊢ MayWait (c : Thread nD τ) (.dma d) () O := by
  have h0 : lv ((c : Thread nD τ), .dma d) () = 0 := by dsimp only [lv]; rw [hd]
  refine Pipeline.mayWait_of_levAts (mem_L c _ _) fun g u hg => ?_
  rw [h0]
  have hr (q : Fin 4) : u ∈ L (recv (sib c) q) ∧ 0 < lv (recv (sib c) q) u := ⟨mem_L _ _ _, by cases u; rw [lv_recv]; decide⟩
  rcases hO with rfl | ⟨n, rfl⟩
  · rcases debt_pos hg with ⟨q, rfl⟩ | rfl
    · exact hr q
    · exact ⟨mem_L _ _ _, by cases u; rw [lv_bar]; decide⟩
  · obtain ⟨q, rfl⟩ := due_pos hg
    exact hr q

/-- The barrier's wait, the four arrivals still owed. -/
theorem wait_bar (c : Dev nD) : (levAts L lv : sProp 𝕄) ⊢ MayWait (c : Thread nD τ) (semOf none) () (due c 4) :=
  Pipeline.mayWait_of_levAts (mem_L c _ _) fun g u hg => by
    obtain ⟨q, rfl⟩ := due_pos hg
    exact ⟨mem_L _ _ _, by cases u; rw [lv_recv, lv_bar]; decide⟩

/-! ## What a device holds at each grid point -/

/-- Every semaphore of the exchange is kept to the schedule, and at its round. -/
def records (K : Dev nD × Key → ℕ) : sProp 𝕄 :=
  iprop((bigSep Finset.univ fun ck : Dev nD × Key => cellInv ER (sched m ρ) (K ck) (cell ck))
    ∗ bigSep Finset.univ fun ck : Dev nD × Key => reached ER (cell ck) 0)

instance records_persistent (K : Dev nD × Key → ℕ) : BI.Persistent (records m ρ K) := by unfold records; infer_instance

theorem inv_of (K : Dev nD × Key → ℕ) (ck : Dev nD × Key) : records m ρ K ⊢ cellInv ER (sched m ρ) (K ck) (cell ck) := by
  unfold records
  exact sep_elim_left.trans (bigSep_elim (Finset.mem_univ ck))
theorem reached_of (K : Dev nD × Key → ℕ) (ck : Dev nD × Key) : records m ρ K ⊢ reached ER (cell ck) 0 := by
  unfold records
  exact sep_elim_right.trans (bigSep_elim (Finset.mem_univ ck))

/-- Slot `q`'s part of the protocol before it is used, without the credit of its arrival; -/
def ticket (c : Dev nD) (q : Fin 4) : sProp 𝕄 :=
  iprop(atPos ER (send c q) 0 ∅ 0 ∗ atPos ER (recv c q) 0 ∅ 0 ∗ dutyTok ER (recv (sib c) q) 0 () ∗ dutyTok ER (send c q) 0 ())
/-- and with it. -/
def lane (c : Dev nD) (q : Fin 4) : sProp 𝕄 := iprop(ticket c q ∗ cred (tallyAt (recv c q) () N))

def gate (c : Dev nD) : sProp 𝕄 := iprop(atPos ER (bar c) 0 ∅ 0 ∗ dutyTok ER (bar (sib c)) 0 ())

/-- What the launch hands a device. -/
def start (c : Dev nD) : sProp 𝕄 :=
  iprop((∃ K, records m ρ K) ∗ gate c ∗ (bigSep Finset.univ fun q : Fin 4 => lane c q) ∗ cred (tallyAt (bar c) () 1) ∗ levAts L lv)

/-- Before the first point: that and the three scratch buffers. -/
def first (c : Dev nD) : sProp 𝕄 :=
  iprop(start m ρ c ∗ (∃ X, holds c accM X) ∗ (∃ X, holds c keptM X) ∗ (∃ X, holds c landM X))

/-- The barrier passed: the other device's landing slots are this one's to write. -/
def open_ (c : Dev nD) : sProp 𝕄 :=
  iprop((∃ K, records m ρ K) ∗ (bigSep Finset.univ fun q : Fin 4 => lane c q) ∗ semVal (bar c) 0
    ∗ bigSep Finset.univ fun q : Fin 4 => iprop(∃ X, holds (sib c) (part landM q) X))

/-- After point `n`, before the last: the sum so far. -/
def amid (c : Dev nD) (n : ℕ) : sProp 𝕄 := iprop(open_ m ρ c ∗ holds c accM (acc m ρ c n) ∗ (∃ X, holds c keptM X))

/-- At the end: the scratch buffers, and every semaphore at zero. -/
def last (c : Dev nD) : sProp 𝕄 :=
  iprop((∃ X, holds c accM X) ∗ (∃ X, holds c keptM X) ∗ (∃ X, holds c landM X)
    ∗ (bigSep Finset.univ fun q : Fin 4 => iprop(semVal (send c q) 0 ∗ semVal (recv c q) 0)) ∗ semVal (bar c) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => lhs m ρ c t
    | ⟨1, _⟩ => rhs m ρ c t
    | ⟨2, _⟩ => paste (made m ρ c)
    | ⟨3, _⟩ => own m ρ c
  Φ t := match t.val with
    | 0 => first m ρ c
    | n + 1 => if n = 7 then last c else amid m ρ c n
  q _ := fullShare
  owed t := match t.val with
    | 0 => debt c
    | n + 1 => if n = 7 then 0 else due c 4

end Cert.Exchange

end
-- ==== Proof.ExchangeSteps.lean ====
/- The steps of the last grid point: a slot cut and sent, a copy waited for, a slot made of what was kept and what arrived. -/
module

public import proofs.«01_k».proof.Proof.ExchangeSchedule
public import Idealize.ShloMosaic.Lib.VecWindow

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Nothing left to run. -/
theorem done (c : Dev nD) {α : Type} {Q : α → sProp 𝕄} {a : α} : Q a ⊢ WP (F := F) c (.ret a) Q := by
  show Q a ⊢ wp frame (wpE (defs₀ (F := F)) 𝒱₀ (c : Thread nD τ) none) Set.univ (.ret a) Q
  rw [wp_ret]
  iintro H
  imodintro
  iexact H

/-! ## Whole buffers -/

section Whole
variable (c : Dev nD) {s : Shape} {e : EltTy} {M : Memref sig .tc .vmem s e} {o : Fin s.rank → ℕ}

/-- A load of all of a buffer reads all it holds. -/
theorem load_all {α : Type} {Q : α → sProp 𝕄} {inb : ∀ a, o a + s.size a ≤ s.size a} {hl : M.view.LoadsAt (Rect.unit o s.size inb).toLoadRect}
    {k : ((Rect.unit o s.size inb).shape.Idx → Elt F e) → Prog (TpuEff nD τ sig (Elt F) Λ₀ .tc) α} {X : s.Idx → Elt F e} :
    holds c M X ⊢ iprop((holds c M X -∗ WP c (k X) Q) -∗ WP c (.op (.load M (Rect.unit o s.size inb).toLoadRect hl) k) Q) := by
  have h : (fun x => X ((Rect.unit o s.size inb).toLoadRect.idx x)) = X := funext fun x => congrArg X (Rect.emb_unit_full inb x)
  have := load_within (F := F) c (M := M) (r := Rect.unit o s.size inb) (hl := hl) (k := k) (Q := Q) (X := X)
  rwa [h] at this

/-- A store over all of a buffer leaves it at what was stored. -/
theorem store_all {α : Type} {Q : α → sProp 𝕄} {inb : ∀ a, o a + s.size a ≤ s.size a} {w : (Rect.unit o s.size inb).shape.Idx → Elt F e}
    {hx : (M.access (Rect.unit o s.size inb)).Stores Finset.univ}
    {hm : Finset.univ = Finset.univ ∨ ∀ a, (Rect.unit o s.size inb).stride a = 1}
    {k : PUnit → Prog (TpuEff nD τ sig (Elt F) Λ₀ .tc) α} {X : s.Idx → Elt F e} :
    holds c M X ⊢ iprop((holds c M (s := s) w -∗ WP c (k ⟨⟩) Q) -∗ WP c (.op (.store M (Rect.unit o s.size inb) w Finset.univ hx hm) k) Q) :=
  store_over c (Y := w) fun y => ⟨y, Rect.emb_unit_full inb y, rfl⟩

end Whole

/-- The rows a load of the sum reads. -/
theorem rows_of {o : Fin 2 → ℕ} {n : ℕ} (ho : o = ![n, 0]) (inb : ∀ a, o a + S352x1024.size a ≤ S2816x1024.size a) (T : Vec F S2816x1024 .f32) :
    (fun x => T ((Rect.unit (s := S2816x1024) o S352x1024.size inb).toLoadRect.idx x)) = rows T n := by
  subst ho
  funext x
  unfold rows
  congr 1
  refine funext fun a => Fin.ext ?_
  have h0 := inb 0
  have hx : (x 0).val < 352 := (x 0).isLt
  fin_cases a
  · show n + 1 * (x 0).val = (n + (x 0).val) % 2816
    have : n + 352 ≤ 2816 := h0
    rw [Nat.mod_eq_of_lt (by omega)]; omega
  · show 0 + 1 * (x 1).val = (x 1).val; omega

/-! ## A slot's departure -/

variable (m : (ℓ : Loc nD τ sig) → Buf (Elt F) ℓ) (ρ : Dev nD → PrngReg) (K : Dev nD × Key → ℕ)

theorem copy_slot (c n : Dev nD) (hn : n = sib c) (q : Fin 4) {α : Type} {Q : α → sProp 𝕄}
    {hsc : (slot landM q : Memref sig (Dev.tc n : Thread nD τ).2.kind .vmem S352x1024 .bf16).view.ref.isScScratch = false}
    {hsrc : (slot outM q).view.WordExact} {hdst : (slot landM q).view.WordExact}
    {hsem : DmaTarget.Typed .vmem (.dma (recvSem q)) (.remote (Dev.tc n : Thread nD τ) (slot landM q) (.dma (sendSem q)) hsc)}
    {k : PUnit → Prog (TpuEff nD τ sig (Elt F) Λ₀ .tc) α} (W : Waits sig Unit) :
    iprop(records m ρ K ∗ holds c (part outM q) (sent m ρ c q) ∗ (∃ X, holds (sib c) (part landM q) X)
        ∗ owes (c : Thread nD τ) (due c (4 - q.val)) W ∗ dutyTok ER (send c q) 0 () ∗ dutyTok ER (recv (sib c) q) 0 ())
      ⊢ iprop(((cred (tallyAt (send c q) () N) ∗ owes (c : Thread nD τ) (due c (3 - q.val)) W) -∗ WP c (k ⟨⟩) Q)
          -∗ WP c (.op (.enqueueDma (slot outM q) (.remote (Dev.tc n : Thread nD τ) (slot landM q) (.dma (sendSem q)) hsc) (.dma (recvSem q)) hsrc hdst hsem) k) Q) := by
  subst hn
  unfold holds owns
  iintro ⟨#HR, ⟨%fs, %hfs, Hs⟩, ⟨%X, %fd, -, Hd⟩, Ho, HtS, HtR⟩ Hk
  iapply (Rounds.wp_send_pointsTo 𝒱₀ ER (sched m ρ) (c : Thread nD τ) none (c' := (sib c : Thread nD τ)) (src := slot outM q) (dst := slot landM q) (fs := fs) (fd := fd)
    (κ₁ := K (c, some (false, q))) (κ₂ := K (sib c, some (true, q)))
    (r₁ := 0) (r₂ := 0) (d₁ := ()) (d₂ := ())
    (by show () ∈ (sched m ρ).duties (cell (c, some (false, q))) 0; rw [duties_cell]; exact Finset.mem_singleton_self _)
    (by show () ∈ (sched m ρ).duties (cell (sib c, some (true, q))) 0; rw [duties_cell]; exact Finset.mem_singleton_self _)
    () () N rfl (amount_cell m ρ c (some (false, q)) ()) (amount_cell m ρ (sib c) (some (true, q)) ())
    (due c (3 - q.val)) (due_step c q) (W := W)
    (by
      refine BIBase.Entails.trans ?_ (Entails.of_eq (payload_cell m ρ c (some (false, q)) ()).symm)
      show _ ⊢ holds c (part outM q) (sent m ρ c q)
      unfold holds owns
      iintro H
      iexists fs
      isplitr; · (ipureintro; exact hfs)
      rw [show (part outM q).view.set = (slot outM q).view.set from (View.set_reshape _ _).symm]
      iexact H)
    (by
      refine BIBase.Entails.trans ?_ (Entails.of_eq (payload_cell m ρ (sib c) (some (true, q)) ()).symm)
      show _ ⊢ holds (sib c) (part landM q) (sent m ρ (sib (sib c)) q)
      rw [sib_sib]
      exact copied q (sib c) fs fd hfs)) $$ [Hs Hd Ho HtS HtR] [Hk]
  · isplitr; · (iapply (inv_of m ρ K (c, some (false, q))); iexact HR)
    isplitr; · (iapply (inv_of m ρ K (sib c, some (true, q))); iexact HR)
    isplitl [Hs]
    · rw [show (slot outM q).view.set = (part outM q).view.set from View.set_reshape _ _]; iexact Hs
    isplitl [Hd]
    · rw [show (slot landM q).view.set = (part landM q).view.set from View.set_reshape _ _]; iexact Hd
    isplitl [Ho]; · iexact Ho
    isplitl [HtS]; · iexact HtS
    isplitr; · (iapply (reached_of m ρ K (c, some (false, q))); iexact HR)
    isplitl [HtR]; · iexact HtR
    iapply (reached_of m ρ K (sib c, some (true, q))); iexact HR
  · iexact Hk

section Depart
variable (c n : Dev nD) (q : Fin 4)
variable {o1 o3 : Fin 2 → ℕ} {o2 o5 : Fin 3 → ℕ} {ss rs : DmaSem sig}
variable {payK : Vec F S352x1024 .f32 → FVec F S1x352x1024 .f32} {payS : Vec F S352x1024 .f32 → FVec F S1x352x1024 .bf16}

/-- A slot's departure: its kept rows put by, its other rows rounded into the slot, the slot sent. -/
theorem depart (hn : n = sib c) (ho1 : o1 = ![704 * q.val + 352 * c.val, 0]) (ho3 : o3 = ![(704 * q.val + 352) - 352 * c.val, 0])
    (ho2 : o2 = ![q.val, 0, 0]) (ho5 : o5 = ![q.val, 0, 0]) (hss : ss = sendSem q) (hrs : rs = recvSem q)
    (hK : payK = k0_pay5) (hS : payS = k0_pay6)
    {i1 : ∀ a, o1 a + S352x1024.size a ≤ S2816x1024.size a} {i3 : ∀ a, o3 a + S352x1024.size a ≤ S2816x1024.size a}
    {i2 : ∀ a, o2 a + S1x352x1024.size a ≤ S4x352x1024.size a} {i5 : ∀ a, o5 a + S1x352x1024.size a ≤ S4x352x1024.size a}
    {α : Type} {Q : α → sProp 𝕄} {l1 l2 l3 l4 x1 x2 y1 y2 hsc hsem}
    {hsrc : ((outM.slice (Rect.unit (s := S4x352x1024) o5 S1x352x1024.size i5) (fun _ => rfl)).squeeze S352x1024 squeezes_S1x352x1024_S352x1024).view.WordExact}
    {hdst : ((landM.slice (Rect.unit (s := S4x352x1024) o5 S1x352x1024.size i5) (fun _ => rfl)).squeeze S352x1024 squeezes_S1x352x1024_S352x1024).view.WordExact}
    {k : PUnit → Prog (TpuEff nD τ sig (Elt F) Λ₀ .tc) α} (W : Waits sig Unit) :
    iprop(records m ρ K ∗ holds c accM (acc m ρ c 7) ∗ (∃ X, holds c (part keptM q) X) ∗ (∃ X, holds c (part outM q) X)
        ∗ (∃ X, holds (sib c) (part landM q) X)
        ∗ owes (c : Thread nD τ) (due c (4 - q.val)) W ∗ dutyTok ER (send c q) 0 () ∗ dutyTok ER (recv (sib c) q) 0 ())
      ⊢ iprop(((holds c accM (acc m ρ c 7) ∗ holds c (part keptM q) (kept m ρ c q) ∗ cred (tallyAt (send c q) () N)
            ∗ owes (c : Thread nD τ) (due c (3 - q.val)) W) -∗ WP c (k ⟨⟩) Q)
          -∗ WP c (.op (.load accM (Rect.unit (s := S2816x1024) o1 S352x1024.size i1).toLoadRect l1) fun v =>
              .op (.load keptM (Rect.unit (s := S4x352x1024) o2 S1x352x1024.size i2).toLoadRect l2) fun _ =>
              .op (.store keptM (Rect.unit (s := S4x352x1024) o2 S1x352x1024.size i2) (payK v) Finset.univ x1 y1) fun _ =>
              .op (.load accM (Rect.unit (s := S2816x1024) o3 S352x1024.size i3).toLoadRect l3) fun v' =>
              .op (.load outM (Rect.unit (s := S4x352x1024) o2 S1x352x1024.size i2).toLoadRect l4) fun _ =>
              .op (.store outM (Rect.unit (s := S4x352x1024) o2 S1x352x1024.size i2) (payS v') Finset.univ x2 y2) fun _ =>
              .op (.enqueueDma ((outM.slice (Rect.unit (s := S4x352x1024) o5 S1x352x1024.size i5) (fun _ => rfl)).squeeze S352x1024 squeezes_S1x352x1024_S352x1024)
                (.remote (Dev.tc n : Thread nD τ) ((landM.slice (Rect.unit (s := S4x352x1024) o5 S1x352x1024.size i5) (fun _ => rfl)).squeeze S352x1024 squeezes_S1x352x1024_S352x1024)
                  (.dma ss) hsc) (.dma rs) hsrc hdst hsem) k) Q) := by
  have e1 := rows_of ho1 i1 (acc m ρ c 7)
  have e3 := rows_of ho3 i3 (acc m ρ c 7)
  subst ho2 ho5 hss hrs hK hS
  iintro ⟨#HR, Ha, ⟨%xk, Hkp⟩, ⟨%xo, Hout⟩, Hl, Ho, HtS, HtR⟩ Hk
  iapply (load_within c) $$ Ha; iintro Ha
  rw [e1]
  iapply (load_part c (r := slotR q) (hr := fun _ => rfl)) $$ Hkp; iintro Hkp
  iapply (store_part c (r := slotR q) (hr := fun _ => rfl)) $$ Hkp; iintro Hkp
  iapply (load_within c) $$ Ha; iintro Ha
  rw [e3]
  iapply (load_part c (r := slotR q) (hr := fun _ => rfl)) $$ Hout; iintro Hout
  iapply (store_part c (r := slotR q) (hr := fun _ => rfl)) $$ Hout; iintro Hout
  iapply (copy_slot m ρ K c n hn q W) $$ [Hout Hl Ho HtS HtR]
  · isplitr; · iexact HR
    isplitl [Hout]; · iexact Hout
    isplitl [Hl]; · iexact Hl
    isplitl [Ho]; · iexact Ho
    isplitl [HtS] <;> iassumption
  iintro ⟨Hc, Ho⟩
  iapply Hk
  isplitl [Ha]; · iexact Ha
  isplitl [Hkp]; · iexact Hkp
  isplitl [Hc] <;> iassumption

end Depart

/-! ## A wait -/

/-- A wait for a departure or an arrival hands over what its count carries, and leaves its semaphore at zero for good. -/
theorem take (c : Dev nD) (b : Bool) (q : Fin 4) {s : DmaSem sig} (hs : SemLoc.dma s = semOf (some (b, q)))
    {src dst : Memref sig .tc .vmem S352x1024 .bf16} (hN : dst.view.dmaCredit = N) {hsrc : src.view.WordExact} {hdst : dst.view.WordExact}
    {α : Type} {Q : α → sProp 𝕄} {k : PUnit → Prog (TpuEff nD τ sig (Elt F) Λ₀ .tc) α} :
    iprop(records m ρ K ∗ cred (tallyAt (cell (c, some (b, q))) () N) ∗ atPos ER (cell (c, some (b, q))) 0 ∅ 0 ∗ (∃ W, owes (c : Thread nD τ) 0 W))
      ⊢ iprop((((∃ W, owes (c : Thread nD τ) 0 W) ∗ semVal (cell (c, some (b, q))) 0 ∗ pay m ρ c (some (b, q))) -∗ WP c (k ⟨⟩) Q)
          -∗ WP c (.op (.waitDma2 s src dst hsrc hdst) k) Q) := by
  iintro ⟨#HR, Hc, Hat, ⟨%W, Ho⟩⟩ Hk
  iapply (Rounds.wp_wait_rest_token 𝒱₀ ER (sched m ρ) (c : Thread nD τ) none (κ := K (c, some (b, q))) (sm := semOf (some (b, q))) (k' := N)
    (fun Kt => by rw [← hs, ← hN]; exact wpE_waitDma2_eq 𝒱₀ (c : Thread nD τ) none Set.univ Kt) (Set.mem_univ _) () (O := 0) (W := W) (R := 0) (m := 0) (T := ∅)
    (by rw [Nat.zero_add]; exact (expect_cell m ρ c (some (b, q))).symm)) $$ [Hc Ho Hat]
  · isplitr; · (iapply (inv_of m ρ K (c, some (b, q))); iexact HR)
    isplitl [Hc]; · iexact Hc
    isplitl [Ho]; · iexact Ho
    isplitr; · (rw [MayWait_zero]; iempintro)
    iexact Hat
  iintro ⟨Ho, Hat, -, Hpay⟩
  ihave Hp := (Entails.of_eq (rest_cell m ρ c (some (b, q)))) $$ Hpay
  imod (Rounds.cell_close ER (sched m ρ) (Set.mem_univ (K (c, some (b, q)))) (fun h => h) (R := 0 + 1) (duties_after m ρ (cell (c, some (b, q))))) $$ [Hat] with Hz
  · isplitr; · (iapply (inv_of m ρ K (c, some (b, q))); iexact HR)
    iexact Hat
  iapply Hk
  isplitl [Ho]; · (iexists _; iexact Ho)
  isplitl [Hz] <;> iassumption

/-- The wait for a slot's departure: the slot again. -/
theorem departed (c : Dev nD) (q : Fin 4) {hsrc : (slot landM q).view.WordExact} {hdst : (slot outM q).view.WordExact}
    {α : Type} {Q : α → sProp 𝕄} {k : PUnit → Prog (TpuEff nD τ sig (Elt F) Λ₀ .tc) α} :
    iprop(records m ρ K ∗ cred (tallyAt (send c q) () N) ∗ atPos ER (send c q) 0 ∅ 0 ∗ (∃ W, owes (c : Thread nD τ) 0 W))
      ⊢ iprop((((∃ W, owes (c : Thread nD τ) 0 W) ∗ semVal (send c q) 0 ∗ holds c (part outM q) (sent m ρ c q)) -∗ WP c (k ⟨⟩) Q)
          -∗ WP c (.op (.waitDma2 (sendSem q) (slot landM q) (slot outM q) hsrc hdst) k) Q) :=
  take m ρ K c false q rfl (credit_slot outM q)

/-- The wait for a slot's arrival: the landing slot, holding what the other device sent. -/
theorem arrived (c : Dev nD) (q : Fin 4) {hsrc : (slot outM q).view.WordExact} {hdst : (slot landM q).view.WordExact}
    {α : Type} {Q : α → sProp 𝕄} {k : PUnit → Prog (TpuEff nD τ sig (Elt F) Λ₀ .tc) α} :
    iprop(records m ρ K ∗ cred (tallyAt (recv c q) () N) ∗ atPos ER (recv c q) 0 ∅ 0 ∗ (∃ W, owes (c : Thread nD τ) 0 W))
      ⊢ iprop((((∃ W, owes (c : Thread nD τ) 0 W) ∗ semVal (recv c q) 0 ∗ holds c (part landM q) (sent m ρ (sib c) q)) -∗ WP c (k ⟨⟩) Q)
          -∗ WP c (.op (.waitDma2 (recvSem q) (slot outM q) (slot landM q) hsrc hdst) k) Q) :=
  take m ρ K c true q rfl (credit_slot landM q)

/-! ## A slot's last value -/

/-- What was kept and what arrived, added and rounded into the slot. -/
theorem combine (c : Dev nD) (q : Fin 4) {o : Fin 3 → ℕ} (ho : o = ![q.val, 0, 0]) {i : ∀ a, o a + S1x352x1024.size a ≤ S4x352x1024.size a}
    {payO : Vec F S1x352x1024 .f32 → Vec F S1x352x1024 .bf16 → FVec F S1x352x1024 .bf16} (hP : payO = k0_pay12)
    {α : Type} {Q : α → sProp 𝕄} {l1 l2 l3 x1 y1}
    {k : Vec F S1x352x1024 .f32 → Vec F S1x352x1024 .bf16 → Prog (TpuEff nD τ sig (Elt F) Λ₀ .tc) α} :
    iprop(holds c (part keptM q) (kept m ρ c q) ∗ holds c (part landM q) (sent m ρ (sib c) q) ∗ holds c (part outM q) (sent m ρ c q))
      ⊢ iprop(((holds c (part keptM q) (kept m ρ c q) ∗ holds c (part landM q) (sent m ρ (sib c) q) ∗ holds c (part outM q) (made m ρ c q))
            -∗ WP c (k (kept m ρ c q) (sent m ρ (sib c) q)) Q)
          -∗ WP c (.op (.load keptM (Rect.unit (s := S4x352x1024) o S1x352x1024.size i).toLoadRect l1) fun v =>
              .op (.load landM (Rect.unit (s := S4x352x1024) o S1x352x1024.size i).toLoadRect l2) fun v' =>
              .op (.load outM (Rect.unit (s := S4x352x1024) o S1x352x1024.size i).toLoadRect l3) fun _ =>
              .op (.store outM (Rect.unit (s := S4x352x1024) o S1x352x1024.size i) (payO v v') Finset.univ x1 y1) fun _ => k v v') Q) := by
  subst ho hP
  iintro ⟨Hk, Hl, Ho⟩ HK
  iapply (load_part c (r := slotR q) (hr := fun _ => rfl)) $$ Hk; iintro Hk
  iapply (load_part c (r := slotR q) (hr := fun _ => rfl)) $$ Hl; iintro Hl
  iapply (load_part c (r := slotR q) (hr := fun _ => rfl)) $$ Ho; iintro Ho
  iapply (store_part c (r := slotR q) (hr := fun _ => rfl)) $$ Ho; iintro Ho
  iapply HK
  isplitl [Hk]; · iexact Hk
  isplitl [Hl]; · iexact Hl
  iexact Ho

end Cert.Exchange

end
-- ==== Proof.ExchangePoints.lean ====
/- The three kinds of grid point: the first, the ones between, the last. -/
module

public import proofs.«01_k».proof.Proof.ExchangeSteps

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Whether a grid point is the second axis's first, or a later one, as the body asks it. -/
abbrev atStart (i : grid0.Coords) : Prop := Scalar.cmpi .ne (Scalar.extui (Scalar.cmpi .eq (BitVec.ofNat 32 (i 1).val) 0#32)) (0#32 : BitVec 32) = 1#1
abbrev pastStart (i : grid0.Coords) : Prop := Scalar.cmpi .ne (Scalar.extui (Scalar.cmpi .sgt (BitVec.ofNat 32 (i 1).val) 0#32)) (0#32 : BitVec 32) = 1#1

theorem device_eq (c : Dev nD) {n : ℕ} {h : n < nD} (hn : n = 1 - c.val) : (⟨n, h⟩ : Dev nD) = sib c := Fin.ext hn

section
variable (c : Dev nD) (i : grid0.Coords)
variable (A : Memref sig .tc .vmem S1024x2816 .bf16) (hA : A.IsWhole) (B : Memref sig .tc .vmem S1024x1024 .bf16) (hB : B.IsWhole)
variable (w2 : outM.IsWhole) (w3 : ownM.IsWhole) (w4 : accM.IsWhole) (w5 : keptM.IsWhole) (w6 : landM.IsWhole)
variable (X : S1024x2816.Idx → Elt F .bf16) (Y : S1024x1024.Idx → Elt F .bf16)

/-- The body on these buffers. -/
abbrev body : Prog (TpuEff nD τ sig (Elt F) Λ₀ .tc) PUnit :=
  cc0_wgrad_down i A hA B hB outM w2 ownM w3 accM w4 keptM w5 landM w6 cc0_scratch3 cc0_scratch4

/-- Telling the other device that the landing slots are free, and waiting to be told. -/
theorem handshake (n : Dev nD) (hn : n = sib c) {α : Type} {Q : α → sProp 𝕄} {k : PUnit → Prog (TpuEff nD τ sig (Elt F) Λ₀ .tc) α} :
    iprop(first m ρ c ∗ (∃ W, owes (c : Thread nD τ) (debt c) W))
      ⊢ iprop(((open_ m ρ c ∗ (∃ T, holds c accM T) ∗ (∃ T, holds c keptM T) ∗ (∃ W, owes (c : Thread nD τ) (due c 4) W)) -∗ WP c (k ⟨⟩) Q)
          -∗ WP c (.op (.semSignal (n : Thread nD τ) barS (1#32).toInt) fun _ => .op (.semWait barS (1#32).toInt) k) Q) := by
  subst hn
  unfold first start gate
  iintro ⟨⟨⟨⟨%K, #HR⟩, ⟨Hat, Htok⟩, Hl, Hc, #Hlev⟩, Ha, Hkp, ⟨%T, Hld⟩⟩, ⟨%W, Ho⟩⟩ Hk
  ihave Hsl := (split_slots c T) $$ Hld
  have any : ∀ q : Fin 4, holds (F := F) c (part landM q) (fun x => T ((slotR q).emb x)) ⊢ iprop(∃ X, holds c (part landM q) X) := fun q => by
    iintro H; iexists _; iexact H
  have give : (bigSep Finset.univ fun q : Fin 4 => holds (F := F) c (part landM q) (fun x => T ((slotR q).emb x)))
      ⊢ (sched m ρ).payload (cell (sib c, none)) 0 () := by
    rw [payload_cell]
    unfold pay
    rw [sib_sib]
    exact bigSep_mono fun q _ => any q
  have told : (bigSep Finset.univ fun q : Fin 4 => holds (F := F) c (part landM q) (fun x => T ((slotR q).emb x)))
      ⊢ (sched m ρ).payload ((sib c : Thread nD τ), SemLoc.reg barS) 0 () := give
  ihave Hg := told $$ Hsl
  iapply (Rounds.wp_signal 𝒱₀ ER (sched m ρ) (c : Thread nD τ) none (dst := (sib c : Thread nD τ)) (sem := barS) (κ := K (sib c, none)) (r := 0) (d := ()) (k' := 1)
    (by show () ∈ (sched m ρ).duties (cell (sib c, none)) 0; rw [duties_cell]; exact Finset.mem_singleton_self _)
    (amount_cell m ρ (sib c) none ()) () (due c 4) rfl (W := W)) $$ [Ho Htok Hg]
  · isplitr; · (iapply (inv_of m ρ K (sib c, none)); iexact HR)
    isplitl [Ho]; · iexact Ho
    isplitl [Htok]; · iexact Htok
    isplitl [Hg]; · iexact Hg
    iapply (reached_of m ρ K (sib c, none)); iexact HR
  iintro Ho
  iapply (Rounds.wp_wait_rest_token 𝒱₀ ER (sched m ρ) (c : Thread nD τ) none (κ := K (c, none)) (sm := semOf none) (k' := 1)
    (wpE_semWait_eq 𝒱₀ (c : Thread nD τ) none Set.univ) (Set.mem_univ _) () (O := due c 4) (W := W) (R := 0) (m := 0) (T := ∅)
    (by rw [Nat.zero_add]; exact (expect_cell m ρ c none).symm)) $$ [Hc Ho Hat]
  · isplitr; · (iapply (inv_of m ρ K (c, none)); iexact HR)
    isplitl [Hc]; · iexact Hc
    isplitl [Ho]; · iexact Ho
    isplitr; · (iapply (wait_bar c); iexact Hlev)
    iexact Hat
  iintro ⟨Ho, Hat, -, Hpay⟩
  ihave Hp := (Entails.of_eq ((rest_cell m ρ c none).trans (show pay m ρ c none = bigSep Finset.univ fun q : Fin 4 => iprop(∃ X, holds (sib c) (part landM q) X) from rfl))) $$ Hpay
  imod (Rounds.cell_close ER (sched m ρ) (Set.mem_univ (K (c, none))) (fun h => h) (R := 0 + 1) (duties_after m ρ (cell (c, none)))) $$ [Hat] with Hz
  · isplitr; · (iapply (inv_of m ρ K (c, none)); iexact HR)
    iexact Hat
  iapply Hk
  unfold open_
  isplitl [Hl Hz Hp]
  · isplitr; · (iexists K; iexact HR)
    isplitl [Hl]; · iexact Hl
    isplitl [Hz]; · iexact Hz
    iexact Hp
  isplitl [Ha]; · iexact Ha
  isplitl [Hkp]; · iexact Hkp
  iexists _; iexact Ho

/-- The first point: the barrier, then the first product. -/
theorem at_first (h1 : k0_cond1 i = 1#1) (h2 : atStart i) (h3 : ¬ pastStart i) (h4 : ¬ k0_cond4 i = 1#1) (h5 : ¬ k0_cond5 i = 1#1) (Kt : PUnit → sProp 𝕄) :
    iprop(first m ρ c ∗ (∃ W, owes (c : Thread nD τ) (debt c) W) ∗ holds c A X ∗ holds c B Y)
      ⊢ iprop(((open_ m ρ c ∗ holds c accM (k0_pay1 X Y) ∗ (∃ T, holds c keptM T) ∗ (∃ W, owes (c : Thread nD τ) (due c 4) W) ∗ holds c A X ∗ holds c B Y) -∗ Kt ⟨⟩)
          -∗ WP c (body i A hA B hB w2 w3 w4 w5 w6) Kt) := by
  unfold body
  simp only [cc0_wgrad_down_eq_skeleton]
  unfold cc0_wgrad_down_skel
  simp only [dif_pos h1, dif_pos h2, dif_neg h3, dif_neg h4, dif_neg h5, semSignalWord, semWaitWord, Prog.lift, Prog.bind_op, Prog.bind_ret, Prog.pure_eq_ret, wp_deviceId]
  iintro ⟨Hf, Ho, HA, HB⟩ Hk
  iapply (handshake m ρ c _ (device_eq c (k0_dev1_eq c))) $$ [Hf Ho]
  · isplitl [Hf]; · iexact Hf
    iexact Ho
  iintro ⟨Hop, ⟨%T, Ha⟩, Hkp, Ho⟩
  iapply (load_all c) $$ HA; iintro HA
  iapply (load_all c) $$ HB; iintro HB
  iapply (load_all c) $$ Ha; iintro Ha
  iapply (store_all c) $$ Ha; iintro Ha
  iapply (done c)
  iapply Hk
  isplitl [Hop]; · iexact Hop
  isplitl [Ha]; · iexact Ha
  isplitl [Hkp]; · iexact Hkp
  isplitl [Ho]; · iexact Ho
  isplitl [HA]; · iexact HA
  iexact HB

/-- A point between: one more product on the sum. -/
theorem at_next (h1 : ¬ k0_cond1 i = 1#1) (h2 : ¬ atStart i) (h3 : pastStart i) (h4 : ¬ k0_cond4 i = 1#1) (h5 : ¬ k0_cond5 i = 1#1)
    (T : Vec F S2816x1024 .f32) (Kt : PUnit → sProp 𝕄) :
    iprop(holds c accM T ∗ holds c A X ∗ holds c B Y)
      ⊢ iprop(((holds c accM (k0_pay2 T X Y) ∗ holds c A X ∗ holds c B Y) -∗ Kt ⟨⟩) -∗ WP c (body i A hA B hB w2 w3 w4 w5 w6) Kt) := by
  unfold body
  simp only [cc0_wgrad_down_eq_skeleton]
  unfold cc0_wgrad_down_skel
  simp only [dif_neg h1, dif_neg h2, dif_pos h3, dif_neg h4, dif_neg h5, Prog.lift, Prog.bind_op, Prog.bind_ret, Prog.pure_eq_ret, wp_deviceId]
  iintro ⟨Ha, HA, HB⟩ Hk
  iapply (load_all c) $$ Ha; iintro Ha
  iapply (load_all c) $$ HA; iintro HA
  iapply (load_all c) $$ HB; iintro HB
  iapply (load_all c) $$ Ha; iintro Ha
  iapply (store_all c) $$ Ha; iintro Ha
  iapply (done c)
  iapply Hk
  isplitl [Ha]; · iexact Ha
  isplitl [HA]; · iexact HA
  iexact HB

/-! ### Offsets and semaphores at the one value of the first axis -/

section
variable {i} (hi : (i 0).val = 0) (q : Fin 4)
include hi
theorem off2 : k0_off2 i (BitVec.ofNat 32 q.val) = ![q.val, 0, 0] := by rw [k0_off2_eq, hi, Nat.mul_zero, Nat.zero_add]
theorem off4 : k0_off4 i (BitVec.ofNat 32 q.val) = ![q.val] := by rw [k0_off4_eq, hi, Nat.mul_zero, Nat.zero_add]
theorem off5 : k0_off5 i (BitVec.ofNat 32 q.val) = ![q.val, 0, 0] := by rw [k0_off5_eq, hi, Nat.mul_zero, Nat.zero_add]
end

theorem send_sem {q : Fin 4} {o : Fin 1 → ℕ} (ho : o = ![q.val]) (inb : ∀ a, o a + S1.size a ≤ S4.size a) :
    ((cc0_scratch3.slice (Rect.unit (s := S4) o S1.size inb)).squeeze S_ squeezes_S1_S_).sem = sendSem q := by
  subst ho; revert q; decide +kernel
theorem recv_sem {q : Fin 4} {o : Fin 1 → ℕ} (ho : o = ![q.val]) (inb : ∀ a, o a + S1.size a ≤ S4.size a) :
    ((cc0_scratch4.slice (Rect.unit (s := S4) o S1.size inb)).squeeze S_ squeezes_S1_S_).sem = recvSem q := by
  subst ho; revert q; decide +kernel

/-- A buffer's four slots, whatever they hold. -/
theorem slots_any {e : EltTy} {M : Memref sig .tc .vmem S4x352x1024 e} :
    iprop(∃ T, holds (F := F) c M T) ⊢ iprop((∃ T, holds c (part M 0) T) ∗ (∃ T, holds c (part M 1) T) ∗ (∃ T, holds c (part M 2) T) ∗ ∃ T, holds c (part M 3) T) := by
  have any : ∀ (T : S4x352x1024.Idx → Elt F e) (q : Fin 4), holds (F := F) c (part M q) (fun x => T ((slotR q).emb x)) ⊢ iprop(∃ X, holds c (part M q) X) := fun T q => by
    iintro H; iexists _; iexact H
  have all : ∀ T : S4x352x1024.Idx → Elt F e, holds (F := F) c M T ⊢ iprop((∃ T, holds c (part M 0) T) ∗ (∃ T, holds c (part M 1) T) ∗ (∃ T, holds c (part M 2) T) ∗ ∃ T, holds c (part M 3) T) := fun T =>
    ((split_slots c T).trans (bigSep_mono fun q _ => any T q)).trans (Entails.of_eq (four _))
  iintro ⟨%T, H⟩
  iapply (all T)
  iexact H

/-- Four slots that hold these make a buffer that holds them one under the other. -/
theorem whole_of {e : EltTy} {M : Memref sig .tc .vmem S4x352x1024 e} (w : Fin 4 → S1x352x1024.Idx → Elt F e) :
    iprop(holds c (part M 0) (w 0) ∗ holds c (part M 1) (w 1) ∗ holds c (part M 2) (w 2) ∗ holds c (part M 3) (w 3)) ⊢ holds c M (paste w) :=
  (Entails.of_eq (four fun q => holds c (part M q) (w q)).symm).trans (join_slots c w)

/-- With every slot sent nothing is owed. -/
theorem owes_none (W : Waits sig Unit) : (owes (c : Thread nD τ) (due c (3 - (3 : Fin 4).val)) W : sProp 𝕄) ⊢ iprop(∃ W, owes (c : Thread nD τ) 0 W) := by
  show (owes (c : Thread nD τ) 0 W : sProp 𝕄) ⊢ _
  iintro H; iexists W; iexact H

set_option maxHeartbeats 1600000 in
/-- The last point, its sum complete: the four slots sent, the eight copies waited for, the four slots made. -/
theorem at_last (hi : (i 0).val = 0) (h1 : ¬ k0_cond1 i = 1#1) (h2 : ¬ atStart i) (h3 : pastStart i) (h4 : k0_cond4 i = 1#1) (h5 : k0_cond5 i = 1#1)
    (T : Vec F S2816x1024 .f32) (hT : k0_pay2 T X Y = acc m ρ c 7) (Kt : PUnit → sProp 𝕄) :
    iprop(open_ m ρ c ∗ holds c accM T ∗ (∃ T, holds c keptM T) ∗ (∃ T, holds c outM T) ∗ (∃ T, holds c ownM T)
        ∗ (∃ W, owes (c : Thread nD τ) (due c 4) W) ∗ holds c A X ∗ holds c B Y)
      ⊢ iprop(((last c ∗ holds c outM (paste (made m ρ c)) ∗ holds c ownM (own m ρ c) ∗ (∃ W, owes (c : Thread nD τ) 0 W) ∗ holds c A X ∗ holds c B Y) -∗ Kt ⟨⟩)
          -∗ WP c (body i A hA B hB w2 w3 w4 w5 w6) Kt) := by
  unfold body
  simp only [cc0_wgrad_down_eq_skeleton]
  unfold cc0_wgrad_down_skel
  simp only [dif_neg h1, dif_neg h2, dif_pos h3, dif_pos h4, dif_pos h5, k0_part1_eq_skeleton, k0_part2_eq_skeleton, k0_part3_eq_skeleton,
    k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold open_
  iintro ⟨⟨⟨%K, #HR⟩, HL, Hz, HD⟩, Ha, Hkp, Hout, ⟨%T', Hown⟩, ⟨%W, Ho⟩, HA, HB⟩ Hk
  ihave HL := (Entails.of_eq (four fun q => lane (F := F) c q)) $$ HL
  unfold lane ticket
  icases HL with ⟨⟨⟨HaS0, HaR0, HtR0, HtS0⟩, Hc0⟩, ⟨⟨HaS1, HaR1, HtR1, HtS1⟩, Hc1⟩, ⟨⟨HaS2, HaR2, HtR2, HtS2⟩, Hc2⟩, ⟨⟨HaS3, HaR3, HtR3, HtS3⟩, Hc3⟩⟩
  ihave HD := (Entails.of_eq (four fun q => iprop(∃ X, holds (F := F) (sib c) (part landM q) X))) $$ HD
  icases HD with ⟨Hl0, Hl1, Hl2, Hl3⟩
  ihave Hkp := (slots_any c) $$ Hkp
  icases Hkp with ⟨Hk0, Hk1, Hk2, Hk3⟩
  ihave Hout := (slots_any c) $$ Hout
  icases Hout with ⟨Hu0, Hu1, Hu2, Hu3⟩
  iapply (load_all c) $$ Ha; iintro Ha
  iapply (load_all c) $$ HA; iintro HA
  iapply (load_all c) $$ HB; iintro HB
  iapply (load_all c) $$ Ha; iintro Ha
  iapply (store_all c) $$ Ha; iintro Ha
  rw [hT]
  iapply (depart m ρ K c _ 0 (device_eq c (k0_dev2_eq c)) (k0_off1_eq c 0) (k0_off3_eq c 0) (off2 hi 0) (off5 hi 0)
    (send_sem (off4 hi 0) _) (recv_sem (off4 hi 0) _) (payK := k0_pay5) rfl (payS := k0_pay6) rfl _) $$ [Ha Hk0 Hu0 Hl0 Ho HtS0 HtR0]
  · isplitr; · iexact HR
    isplitl [Ha]; · iexact Ha
    isplitl [Hk0]; · iexact Hk0
    isplitl [Hu0]; · iexact Hu0
    isplitl [Hl0]; · iexact Hl0
    isplitl [Ho]; · iexact Ho
    isplitl [HtS0]; · iexact HtS0
    iexact HtR0
  iintro ⟨Ha, Hk0, Hs0, Ho⟩
  iapply (depart m ρ K c _ 1 (device_eq c (k0_dev3_eq c)) (k0_off1_eq c 1) (k0_off3_eq c 1) (off2 hi 1) (off5 hi 1)
    (send_sem (off4 hi 1) _) (recv_sem (off4 hi 1) _) (payK := k0_pay7) rfl (payS := k0_pay8) rfl _) $$ [Ha Hk1 Hu1 Hl1 Ho HtS1 HtR1]
  · isplitr; · iexact HR
    isplitl [Ha]; · iexact Ha
    isplitl [Hk1]; · iexact Hk1
    isplitl [Hu1]; · iexact Hu1
    isplitl [Hl1]; · iexact Hl1
    isplitl [Ho]; · iexact Ho
    isplitl [HtS1]; · iexact HtS1
    iexact HtR1
  iintro ⟨Ha, Hk1, Hs1, Ho⟩
  iapply (depart m ρ K c _ 2 (device_eq c (k0_dev4_eq c)) (k0_off1_eq c 2) (k0_off3_eq c 2) (off2 hi 2) (off5 hi 2)
    (send_sem (off4 hi 2) _) (recv_sem (off4 hi 2) _) (payK := k0_pay9) rfl (payS := k0_pay10) rfl _) $$ [Ha Hk2 Hu2 Hl2 Ho HtS2 HtR2]
  · isplitr; · iexact HR
    isplitl [Ha]; · iexact Ha
    isplitl [Hk2]; · iexact Hk2
    isplitl [Hu2]; · iexact Hu2
    isplitl [Hl2]; · iexact Hl2
    isplitl [Ho]; · iexact Ho
    isplitl [HtS2]; · iexact HtS2
    iexact HtR2
  iintro ⟨Ha, Hk2, Hs2, Ho⟩
  iapply (depart m ρ K c _ 3 (device_eq c (k0_dev5_eq c)) (k0_off1_eq c 3) (k0_off3_eq c 3) (off2 hi 3) (off5 hi 3)
    (send_sem (off4 hi 3) _) (recv_sem (off4 hi 3) _) (payK := k0_pay3) rfl (payS := k0_pay4) rfl _) $$ [Ha Hk3 Hu3 Hl3 Ho HtS3 HtR3]
  · isplitr; · iexact HR
    isplitl [Ha]; · iexact Ha
    isplitl [Hk3]; · iexact Hk3
    isplitl [Hu3]; · iexact Hu3
    isplitl [Hl3]; · iexact Hl3
    isplitl [Ho]; · iexact Ho
    isplitl [HtS3]; · iexact HtS3
    iexact HtR3
  iintro ⟨Ha, Hk3, Hs3, Ho⟩
  ihave Ho := (owes_none c _) $$ Ho
  iapply (departed m ρ K c 0) $$ [Hs0 HaS0 Ho]
  · isplitr; · iexact HR
    isplitl [Hs0]; · iexact Hs0
    isplitl [HaS0]; · iexact HaS0
    iexact Ho
  iintro ⟨Ho, HzS0, Hu0⟩
  iapply (arrived m ρ K c 0) $$ [Hc0 HaR0 Ho]
  · isplitr; · iexact HR
    isplitl [Hc0]; · iexact Hc0
    isplitl [HaR0]; · iexact HaR0
    iexact Ho
  iintro ⟨Ho, HzR0, Hd0⟩
  iapply (departed m ρ K c 1) $$ [Hs1 HaS1 Ho]
  · isplitr; · iexact HR
    isplitl [Hs1]; · iexact Hs1
    isplitl [HaS1]; · iexact HaS1
    iexact Ho
  iintro ⟨Ho, HzS1, Hu1⟩
  iapply (arrived m ρ K c 1) $$ [Hc1 HaR1 Ho]
  · isplitr; · iexact HR
    isplitl [Hc1]; · iexact Hc1
    isplitl [HaR1]; · iexact HaR1
    iexact Ho
  iintro ⟨Ho, HzR1, Hd1⟩
  iapply (departed m ρ K c 2) $$ [Hs2 HaS2 Ho]
  · isplitr; · iexact HR
    isplitl [Hs2]; · iexact Hs2
    isplitl [HaS2]; · iexact HaS2
    iexact Ho
  iintro ⟨Ho, HzS2, Hu2⟩
  iapply (arrived m ρ K c 2) $$ [Hc2 HaR2 Ho]
  · isplitr; · iexact HR
    isplitl [Hc2]; · iexact Hc2
    isplitl [HaR2]; · iexact HaR2
    iexact Ho
  iintro ⟨Ho, HzR2, Hd2⟩
  iapply (departed m ρ K c 3) $$ [Hs3 HaS3 Ho]
  · isplitr; · iexact HR
    isplitl [Hs3]; · iexact Hs3
    isplitl [HaS3]; · iexact HaS3
    iexact Ho
  iintro ⟨Ho, HzS3, Hu3⟩
  iapply (arrived m ρ K c 3) $$ [Hc3 HaR3 Ho]
  · isplitr; · iexact HR
    isplitl [Hc3]; · iexact Hc3
    isplitl [HaR3]; · iexact HaR3
    iexact Ho
  iintro ⟨Ho, HzR3, Hd3⟩
  iapply (combine m ρ c 0 (o := ![0, 0, 0]) rfl (payO := k0_pay12) rfl) $$ [Hk0 Hd0 Hu0]
  · isplitl [Hk0]; · iexact Hk0
    isplitl [Hd0]; · iexact Hd0
    iexact Hu0
  iintro ⟨Hk0, Hd0, Hu0⟩
  iapply (load_all c) $$ Hown; iintro Hown
  iapply (store_all c) $$ Hown; iintro Hown
  iapply (combine m ρ c 1 (o := ![1, 0, 0]) rfl (payO := k0_pay13) rfl) $$ [Hk1 Hd1 Hu1]
  · isplitl [Hk1]; · iexact Hk1
    isplitl [Hd1]; · iexact Hd1
    iexact Hu1
  iintro ⟨Hk1, Hd1, Hu1⟩
  iapply (combine m ρ c 2 (o := ![2, 0, 0]) rfl (payO := k0_pay14) rfl) $$ [Hk2 Hd2 Hu2]
  · isplitl [Hk2]; · iexact Hk2
    isplitl [Hd2]; · iexact Hd2
    iexact Hu2
  iintro ⟨Hk2, Hd2, Hu2⟩
  iapply (combine m ρ c 3 (o := ![3, 0, 0]) rfl (payO := k0_pay15) rfl) $$ [Hk3 Hd3 Hu3]
  · isplitl [Hk3]; · iexact Hk3
    isplitl [Hd3]; · iexact Hd3
    iexact Hu3
  iintro ⟨Hk3, Hd3, Hu3⟩
  iapply (done c)
  iapply Hk
  unfold last
  isplitl [Ha Hk0 Hk1 Hk2 Hk3 Hd0 Hd1 Hd2 Hd3 HzS0 HzR0 HzS1 HzR1 HzS2 HzR2 HzS3 HzR3 Hz]
  · isplitl [Ha]; · (iexists _; iexact Ha)
    isplitl [Hk0 Hk1 Hk2 Hk3]
    · iexists _
      iapply (whole_of c (kept m ρ c))
      isplitl [Hk0]; · iexact Hk0
      isplitl [Hk1]; · iexact Hk1
      isplitl [Hk2]; · iexact Hk2
      iexact Hk3
    isplitl [Hd0 Hd1 Hd2 Hd3]
    · iexists _
      iapply (whole_of c (sent m ρ (sib c)))
      isplitl [Hd0]; · iexact Hd0
      isplitl [Hd1]; · iexact Hd1
      isplitl [Hd2]; · iexact Hd2
      iexact Hd3
    isplitr [Hz]
    · rw [four]
      isplitl [HzS0 HzR0]; · (isplitl [HzS0]; · iexact HzS0
                              iexact HzR0)
      isplitl [HzS1 HzR1]; · (isplitl [HzS1]; · iexact HzS1
                              iexact HzR1)
      isplitl [HzS2 HzR2]; · (isplitl [HzS2]; · iexact HzS2
                              iexact HzR2)
      isplitl [HzS3]; · iexact HzS3
      iexact HzR3
    iexact Hz
  isplitl [Hu0 Hu1 Hu2 Hu3]
  · iapply (whole_of c (made m ρ c))
    isplitl [Hu0]; · iexact Hu0
    isplitl [Hu1]; · iexact Hu1
    isplitl [Hu2]; · iexact Hu2
    iexact Hu3
  isplitl [Hown]; · iexact Hown
  isplitl [Ho]; · iexact Ho
  isplitl [HA]; · iexact HA
  iexact HB

end

end Cert.Exchange

end
-- ==== Proof.ExchangeBody.lean ====
/- Every grid point keeps what the grid promises of it. -/
module

public import proofs.«01_k».proof.Proof.ExchangePoints

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the body asks of each point -/

theorem asked_first : k0_cond1 (grid0.coords t0_0) = 1#1 ∧ atStart (grid0.coords t0_0) ∧ ¬ pastStart (grid0.coords t0_0)
    ∧ ¬ k0_cond4 (grid0.coords t0_0) = 1#1 ∧ ¬ k0_cond5 (grid0.coords t0_0) = 1#1 := by decide +kernel
theorem asked_next : ∀ t : Fin cfg0.N, 0 < t.val → t.val < 7 → ¬ k0_cond1 (grid0.coords t) = 1#1 ∧ ¬ atStart (grid0.coords t) ∧ pastStart (grid0.coords t)
    ∧ ¬ k0_cond4 (grid0.coords t) = 1#1 ∧ ¬ k0_cond5 (grid0.coords t) = 1#1 := by decide +kernel
theorem asked_last : ((grid0.coords t0_7) 0).val = 0 ∧ ¬ k0_cond1 (grid0.coords t0_7) = 1#1 ∧ ¬ atStart (grid0.coords t0_7) ∧ pastStart (grid0.coords t0_7)
    ∧ k0_cond4 (grid0.coords t0_7) = 1#1 ∧ k0_cond5 (grid0.coords t0_7) = 1#1 := by decide +kernel

/-- The two results' buffers are left alone before the last point, -/
theorem idle_before : ∀ t : Fin grid0.N, t.val < 7 → idle0 2 (grid0.coords t) = true ∧ idle0 3 (grid0.coords t) = true := by
  decide +kernel
/-- and not at it. -/
theorem busy_last : idle0 2 (grid0.coords t0_7) = false ∧ idle0 3 (grid0.coords t0_7) = false := by
  decide +kernel

theorem stays2 (t : Fin cfg0.N) (h : t.val < 7) : (cfg0.win 2).flush t = false := by
  rw [Bool.eq_false_iff]; intro hf; have := (flush0_2 t).mp hf; omega
theorem stays3 (t : Fin cfg0.N) (h : t.val < 7) : (cfg0.win 3).flush t = false := by
  rw [Bool.eq_false_iff]; intro hf; have := (flush0_3 t).mp hf; omega

/-! ## What a point finds -/

theorem finds0 (t : Fin cfg0.N) (d) : (dats m ρ 0 c).before (0 : Fin 4) t d = lhs m ρ c t := by
  unfold Dat.before; rw [if_pos (fetch0_0 t)]; rfl
theorem finds1 (t : Fin cfg0.N) (d) : (dats m ρ 0 c).before (1 : Fin 4) t d = rhs m ρ c t := by
  unfold Dat.before; rw [if_pos (fetch0_1 t)]; rfl

theorem pt_val (t : Fin cfg0.N) : pt t.val = t := Fin.ext (Nat.mod_eq_of_lt (lt_of_lt_of_eq t.isLt points))

theorem inv_mid (n : ℕ) (hn : n ≠ 7) (h : n + 1 < cfg0.N + 1) : (dats m ρ 0 c).Φ ⟨n + 1, h⟩ = amid m ρ c n := if_neg hn
theorem owed_mid (n : ℕ) (hn : n ≠ 7) (h : n + 1 < cfg0.N + 1) : (dats m ρ 0 c).owed ⟨n + 1, h⟩ = due c 4 := if_neg hn

/-- What is owed at a point, in the grid's words and here. -/
theorem owes_at (t : Fin (cfg0.N + 1)) (O : CellTallies nD τ sig Unit) (hO : (dats m ρ 0 c).owed t = O) :
    ((dats m ρ 0 c).owesAt () t : sProp 𝕄) ⊢ iprop(∃ W, owes (c : Thread nD τ) O W) := by
  unfold Dat.owesAt Pipeline.owesWithin
  rw [hO]
  iintro ⟨%W, -, H⟩
  iexists W; iexact H
theorem owes_back (t : Fin (cfg0.N + 1)) (O : CellTallies nD τ sig Unit) (hO : (dats m ρ 0 c).owed t = O) :
    iprop(∃ W, owes (c : Thread nD τ) O W) ⊢ ((dats m ρ 0 c).owesAt () t : sProp 𝕄) := by
  unfold Dat.owesAt Pipeline.owesWithin
  rw [hO]
  iintro ⟨%W, H⟩
  iexists W
  isplitr; · (ipureintro; exact fun _ _ => Or.inl trivial)
  iexact H

/-- The results' buffers, one each. -/
theorem buffer2 (j : Fin 1) : stage0_2 j = outM := by obtain rfl := Subsingleton.elim j 0; rfl
theorem buffer3 (j : Fin 1) : stage0_3 j = ownM := by obtain rfl := Subsingleton.elim j 0; rfl

theorem body_on (i : grid0.Coords) (A : Memref sig .tc .vmem S1024x2816 .bf16) (hA : A.IsWhole) (B : Memref sig .tc .vmem S1024x1024 .bf16) (hB : B.IsWhole)
    (C : Memref sig .tc .vmem S4x352x1024 .bf16) (hC : C.IsWhole) (D : Memref sig .tc .vmem S352x1024 .f32) (hD : D.IsWhole) (eC : C = outM) (eD : D = ownM)
    (w2 : outM.IsWhole) (w3 : ownM.IsWhole) (w4 : accM.IsWhole) (w5 : keptM.IsWhole) (w6 : landM.IsWhole) :
    cc0_wgrad_down (F := F) i A hA B hB C hC D hD accM w4 keptM w5 landM w6 cc0_scratch3 cc0_scratch4 = body i A hA B hB w2 w3 w4 w5 w6 := by
  subst eC eD; rfl

/-- The body at a point, on that point's buffers. -/
theorem body_at (t : Fin cfg0.N) (hA : (st0_0 t).IsWhole) (hB : (st0_1 t).IsWhole)
    (w2 : outM.IsWhole) (w3 : ownM.IsWhole) (w4 : accM.IsWhole) (w5 : keptM.IsWhole) (w6 : landM.IsWhole) :
    bodyAt0 (F := F) t = body (grid0.coords t) (st0_0 t) hA (st0_1 t) hB w2 w3 w4 w5 w6 :=
  body_on _ _ _ _ _ _ _ _ _ (buffer2 _) (buffer3 _) w2 w3 w4 w5 w6

/-- A point before the last, from what it does to the sum. -/
theorem before_last (t : Fin cfg0.N) (n : ℕ) (hn : t.val = n) (h7 : n < 7) (I : sProp 𝕄) (O : CellTallies nD τ sig Unit)
    (hI : (dats m ρ 0 c).Φ t.castSucc = I) (hO : (dats m ρ 0 c).owed t.castSucc = O)
    (run : ∀ Kt : PUnit → sProp 𝕄, iprop(I ∗ (∃ W, owes (c : Thread nD τ) O W) ∗ holds c (st0_0 t) (lhs m ρ c t) ∗ holds c (st0_1 t) (rhs m ρ c t))
      ⊢ iprop(((amid m ρ c n ∗ (∃ W, owes (c : Thread nD τ) (due c 4) W) ∗ holds c (st0_0 t) (lhs m ρ c t) ∗ holds c (st0_1 t) (rhs m ρ c t)) -∗ Kt ⟨⟩)
        -∗ WP c (bodyAt0 t) Kt)) :
    iprop((dats m ρ 0 c).Φ t.castSucc ∗ (dats m ρ 0 c).owesAt () t.castSucc
        ∗ (∃ d, owns c (st0_0 t) fullShare ((dats m ρ 0 c).before (0 : Fin 4) t d)) ∗ (∃ d, owns c (st0_1 t) fullShare ((dats m ρ 0 c).before (1 : Fin 4) t d))
        ∗ (∃ d, owns c (st0_2 t) fullShare ((dats m ρ 0 c).before (2 : Fin 4) t d)) ∗ (∃ d, owns c (st0_3 t) fullShare ((dats m ρ 0 c).before (3 : Fin 4) t d)))
      ⊢ WP c (bodyAt0 t) fun _ => iprop((dats m ρ 0 c).Φ t.succ ∗ (dats m ρ 0 c).owesAt () t.succ
        ∗ owns c (st0_0 t) fullShare ((dats m ρ 0 c).after (0 : Fin 4) t) ∗ owns c (st0_1 t) fullShare ((dats m ρ 0 c).after (1 : Fin 4) t)
        ∗ (∃ d, owns c (st0_2 t) fullShare ((dats m ρ 0 c).before (2 : Fin 4) t d)) ∗ (∃ d, owns c (st0_3 t) fullShare ((dats m ρ 0 c).before (3 : Fin 4) t d))) := by
  have hI' : (dats m ρ 0 c).Φ t.succ = amid m ρ c n := by
    subst hn; exact inv_mid m ρ c t.val (by omega) (by have := t.isLt; omega)
  have hO' : (dats m ρ 0 c).owed t.succ = due c 4 := by
    subst hn; exact owed_mid m ρ c t.val (by omega) (by have := t.isLt; omega)
  rw [hI, hI']
  simp only [finds0, finds1]
  iintro ⟨HI, Ho, ⟨%d0, H0⟩, ⟨%d1, H1⟩, H2, H3⟩
  ihave Ho := (owes_at m ρ c t.castSucc O hO) $$ Ho
  iapply (run _) $$ [HI Ho H0 H1]
  · isplitl [HI]; · iexact HI
    isplitl [Ho]; · iexact Ho
    isplitl [H0]; · iexact H0
    iexact H1
  iintro ⟨HI, Ho, H0, H1⟩
  isplitl [HI]; · iexact HI
  isplitl [Ho]; · (iapply (owes_back m ρ c t.succ _ hO'); iexact Ho)
  isplitl [H0]; · iexact H0
  isplitl [H1]; · iexact H1
  isplitl [H2]; · iexact H2
  iexact H3

theorem first_point (Kt : PUnit → sProp 𝕄) :
    iprop(first m ρ c ∗ (∃ W, owes (c : Thread nD τ) (debt c) W) ∗ holds c (st0_0 t0_0) (lhs m ρ c t0_0) ∗ holds c (st0_1 t0_0) (rhs m ρ c t0_0))
      ⊢ iprop(((amid m ρ c 0 ∗ (∃ W, owes (c : Thread nD τ) (due c 4) W) ∗ holds c (st0_0 t0_0) (lhs m ρ c t0_0) ∗ holds c (st0_1 t0_0) (rhs m ρ c t0_0)) -∗ Kt ⟨⟩)
        -∗ WP c (bodyAt0 t0_0) Kt) := by
  obtain ⟨h1, h2, h3, h4, h5⟩ := asked_first
  unfold amid
  rw [body_at t0_0 (hstage0_0 ((cfg0.slots t0_0 0).cast nbuf0_0)) (hstage0_1 ((cfg0.slots t0_0 1).cast nbuf0_1)) (Memref.isWhole_whole _) (Memref.isWhole_whole _) (Memref.isWhole_whole _) (Memref.isWhole_whole _) (Memref.isWhole_whole _)]
  iintro ⟨Hf, Ho, H0, H1⟩ Hk
  iapply (at_first m ρ c (grid0.coords t0_0) (st0_0 t0_0) _ (st0_1 t0_0) _ _ _ _ _ _ (lhs m ρ c t0_0) (rhs m ρ c t0_0) h1 h2 h3 h4 h5 Kt) $$ [Hf Ho H0 H1]
  · isplitl [Hf]; · iexact Hf
    isplitl [Ho]; · iexact Ho
    isplitl [H0]; · iexact H0
    iexact H1
  iintro ⟨Hop, Ha, Hkp, Ho, H0, H1⟩
  iapply Hk
  isplitl [Hop Ha Hkp]
  · isplitl [Hop]; · iexact Hop
    isplitl [Ha]; · iexact Ha
    iexact Hkp
  isplitl [Ho]; · iexact Ho
  isplitl [H0]; · iexact H0
  iexact H1

theorem next_point (t : Fin cfg0.N) (n : ℕ) (hn : t.val = n + 1) (h7 : n + 1 < 7) (Kt : PUnit → sProp 𝕄) :
    iprop(amid m ρ c n ∗ (∃ W, owes (c : Thread nD τ) (due c 4) W) ∗ holds c (st0_0 t) (lhs m ρ c t) ∗ holds c (st0_1 t) (rhs m ρ c t))
      ⊢ iprop(((amid m ρ c (n + 1) ∗ (∃ W, owes (c : Thread nD τ) (due c 4) W) ∗ holds c (st0_0 t) (lhs m ρ c t) ∗ holds c (st0_1 t) (rhs m ρ c t)) -∗ Kt ⟨⟩)
        -∗ WP c (bodyAt0 t) Kt) := by
  obtain ⟨h1, h2, h3, h4, h5⟩ := asked_next t (by omega) (by omega)
  have hT : acc m ρ c (n + 1) = k0_pay2 (acc m ρ c n) (lhs m ρ c t) (rhs m ρ c t) := by
    rw [← pt_val t, hn]; rfl
  unfold amid
  rw [hT, body_at t (hstage0_0 ((cfg0.slots t 0).cast nbuf0_0)) (hstage0_1 ((cfg0.slots t 1).cast nbuf0_1)) (Memref.isWhole_whole _) (Memref.isWhole_whole _) (Memref.isWhole_whole _) (Memref.isWhole_whole _) (Memref.isWhole_whole _)]
  iintro ⟨⟨Hop, Ha, Hkp⟩, Ho, H0, H1⟩ Hk
  iapply (at_next c (grid0.coords t) (st0_0 t) _ (st0_1 t) _ _ _ _ _ _ (lhs m ρ c t) (rhs m ρ c t) h1 h2 h3 h4 h5 (acc m ρ c n) Kt) $$ [Ha H0 H1]
  · isplitl [Ha]; · iexact Ha
    isplitl [H0]; · iexact H0
    iexact H1
  iintro ⟨Ha, H0, H1⟩
  iapply Hk
  isplitl [Hop Ha Hkp]
  · isplitl [Hop]; · iexact Hop
    isplitl [Ha]; · iexact Ha
    iexact Hkp
  isplitl [Ho]; · iexact Ho
  isplitl [H0]; · iexact H0
  iexact H1

theorem last_point :
    iprop((dats m ρ 0 c).Φ t0_7.castSucc ∗ (dats m ρ 0 c).owesAt () t0_7.castSucc
        ∗ (∃ d, owns c (st0_0 t0_7) fullShare ((dats m ρ 0 c).before (0 : Fin 4) t0_7 d)) ∗ (∃ d, owns c (st0_1 t0_7) fullShare ((dats m ρ 0 c).before (1 : Fin 4) t0_7 d))
        ∗ (∃ d, owns c (st0_2 t0_7) fullShare ((dats m ρ 0 c).before (2 : Fin 4) t0_7 d)) ∗ (∃ d, owns c (st0_3 t0_7) fullShare ((dats m ρ 0 c).before (3 : Fin 4) t0_7 d)))
      ⊢ WP c (bodyAt0 t0_7) fun _ => iprop((dats m ρ 0 c).Φ t0_7.succ ∗ (dats m ρ 0 c).owesAt () t0_7.succ
        ∗ owns c (st0_0 t0_7) fullShare ((dats m ρ 0 c).after (0 : Fin 4) t0_7) ∗ owns c (st0_1 t0_7) fullShare ((dats m ρ 0 c).after (1 : Fin 4) t0_7)
        ∗ owns c (st0_2 t0_7) fullShare ((dats m ρ 0 c).after (2 : Fin 4) t0_7) ∗ owns c (st0_3 t0_7) fullShare ((dats m ρ 0 c).after (3 : Fin 4) t0_7)) := by
  obtain ⟨hi, h1, h2, h3, h4, h5⟩ := asked_last
  rw [show (dats m ρ 0 c).Φ t0_7.castSucc = amid m ρ c 6 from rfl, show (dats m ρ 0 c).Φ t0_7.succ = last c from rfl]
  simp only [finds0, finds1]
  unfold amid
  rw [body_at t0_7 (hstage0_0 ((cfg0.slots t0_7 0).cast nbuf0_0)) (hstage0_1 ((cfg0.slots t0_7 1).cast nbuf0_1)) (Memref.isWhole_whole _) (Memref.isWhole_whole _) (Memref.isWhole_whole _) (Memref.isWhole_whole _) (Memref.isWhole_whole _), show st0_2 t0_7 = outM from buffer2 (cfg0.slots t0_7 2), show st0_3 t0_7 = ownM from buffer3 (cfg0.slots t0_7 3)]
  iintro ⟨⟨Hop, Ha, Hkp⟩, Ho, ⟨%d0, H0⟩, ⟨%d1, H1⟩, ⟨%d2, H2⟩, ⟨%d3, H3⟩⟩
  ihave Ho := (owes_at m ρ c t0_7.castSucc (due c 4) rfl) $$ Ho
  iapply (at_last m ρ c (grid0.coords t0_7) (st0_0 t0_7) _ (st0_1 t0_7) _ _ _ _ _ _ (lhs m ρ c t0_7) (rhs m ρ c t0_7) hi h1 h2 h3 h4 h5 (acc m ρ c 6) rfl _) $$ [Hop Ha Hkp Ho H0 H1 H2 H3]
  · isplitl [Hop]; · iexact Hop
    isplitl [Ha]; · iexact Ha
    isplitl [Hkp]; · iexact Hkp
    isplitl [H2]; · (iexists _; iexact H2)
    isplitl [H3]; · (iexists _; iexact H3)
    isplitl [Ho]; · iexact Ho
    isplitl [H0]; · iexact H0
    iexact H1
  iintro ⟨Hl, H2, H3, Ho, H0, H1⟩
  isplitl [Hl]; · iexact Hl
  isplitl [Ho]; · (iapply (owes_back m ρ c t0_7.succ 0 rfl); iexact Ho)
  isplitl [H0]; · iexact H0
  isplitl [H1]; · iexact H1
  isplitl [H2]; · iexact H2
  iexact H3

/-- Each point, from what stands before it, leaves what is to stand after it. -/
theorem body_obligation : BodyObligation (dats (F := F) m ρ 0 c) (defs₀ (F := F)) 𝒱₀ () Set.univ := fun t => by
  rw [bigSep_W0, bigSep_W0]
  by_cases h7 : t.val < 7
  · simp only [(idle_before t h7).1, (idle_before t h7).2, stays2 t h7, stays3 t h7]
    rcases Nat.eq_zero_or_pos t.val with h0 | hp
    · obtain rfl : t = t0_0 := Fin.ext h0
      exact before_last m ρ c t0_0 0 rfl (by decide) (first m ρ c) (debt c) rfl rfl (first_point m ρ c)
    · obtain ⟨n, hn⟩ : ∃ n, t.val = n + 1 := ⟨t.val - 1, by omega⟩
      have hI : (dats m ρ 0 c).Φ t.castSucc = amid m ρ c n := by
        rw [show t.castSucc = ⟨n + 1, by have := t.isLt; omega⟩ from Fin.ext hn]; exact inv_mid m ρ c n (by omega) _
      have hO : (dats m ρ 0 c).owed t.castSucc = due c 4 := by
        rw [show t.castSucc = ⟨n + 1, by have := t.isLt; omega⟩ from Fin.ext hn]; exact owed_mid m ρ c n (by omega) _
      exact before_last m ρ c t (n + 1) hn (by omega) _ _ hI hO (next_point m ρ c t n hn (by omega))
  · obtain rfl : t = t0_7 := Fin.ext (by have := lt_of_lt_of_eq t.isLt points; show t.val = 7; omega)
    simp only [busy_last.1, busy_last.2]
    exact last_point m ρ c

end Cert.Exchange

end
-- ==== Proof.ExchangeLaunch.lean ====
/- What the two devices start with, dealt between them, and the run of the whole program. -/
module

public import proofs.«01_k».proof.Proof.ExchangeBody
public import Idealize.ShloMosaic.Lib.Pipeline.CollectiveSegs

@[expose] public section

set_option maxRecDepth 16384

noncomputable section

namespace Cert.Exchange

open Cert.Kernel5Ideal Cert.Kernel5Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's nine semaphores, taken apart and put together -/

theorem keys (Φ : Key → sProp 𝕄) :
    bigSep Finset.univ Φ
      = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL [none, some (false, 0), some (false, 1), some (false, 2), some (false, 3), some (true, 0), some (true, 1),
    some (true, 2), some (true, 3)] (by decide) (by decide) Φ

/-- Over all nine: the barrier's, and slot by slot the other two. -/
theorem keys_split (Φ : Key → sProp 𝕄) :
    bigSep Finset.univ Φ ⊢ iprop(Φ none ∗ bigSep Finset.univ fun q : Fin 4 => iprop(Φ (some (false, q)) ∗ Φ (some (true, q)))) := by
  rw [keys, four]
  iintro ⟨B, S0, S1, S2, S3, R0, R1, R2, R3⟩
  isplitl [B]; · iexact B
  isplitl [S0 R0]
  · isplitl [S0] <;> iassumption
  isplitl [S1 R1]
  · isplitl [S1] <;> iassumption
  isplitl [S2 R2]
  · isplitl [S2] <;> iassumption
  isplitl [S3] <;> iassumption

/-- The departures' and the arrivals' semaphores, which are the kernel's own. -/
abbrev osem (j : Fin 8) : SemLoc sig := .dma ⟨6 + j.val, by show 6 + j.val < 14; omega⟩

theorem ownSemFacts : Pipeline.OwnSemFacts cfg0.spec osem := by decide

theorem ownSems_eq (c : Dev nD) :
    (Pipeline.ownSems0 (Ix := Unit) (Name := ℕ) (U := UU) (Lvl := ℕ) (Val := Elt F) (τ := τ) osem c : sProp 𝕄)
      = iprop(semVal (send c 0) 0 ∗ semVal (send c 1) 0 ∗ semVal (send c 2) 0 ∗ semVal (send c 3) 0
        ∗ semVal (recv c 0) 0 ∗ semVal (recv c 1) 0 ∗ semVal (recv c 2) 0 ∗ semVal (recv c 3) 0) := by
  rw [Pipeline.ownSems0_eq_of_list c osem [0, 1, 2, 3, 4, 5, 6, 7] (by decide) (by decide)]; rfl

/-- The barrier's is the one semaphore that outlives the kernel. -/
theorem unscopedSems_eq (c : Dev nD) : (unscopedSems0 c : sProp 𝕄) = semVal (bar c) 0 := by
  unfold unscopedSems0; rw [bigSep_eq_bigSepL_of_eq [SemLoc.reg barS] (by decide) (by decide)]; rfl

theorem sems_join (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell (c, k)) 0 : sProp 𝕄) := by
  rw [ownSems_eq, unscopedSems_eq, keys]
  iintro ⟨H, B⟩
  isplitl [B]; · iexact B
  iexact H

/-- The two semaphores of each slot, gathered to the kernel's eight. -/
theorem slots_sems (c : Dev nD) :
    (bigSep Finset.univ fun q : Fin 4 => iprop(semVal (send c q) 0 ∗ semVal (recv c q) 0) : sProp 𝕄)
      ⊢ Pipeline.ownSems0 (Ix := Unit) (Name := ℕ) (U := UU) (Lvl := ℕ) (Val := Elt F) (τ := τ) osem c := by
  rw [ownSems_eq, four]
  iintro ⟨⟨S0, R0⟩, ⟨S1, R1⟩, ⟨S2, R2⟩, ⟨S3, R3⟩⟩
  isplitl [S0]; · iexact S0
  isplitl [S1]; · iexact S1
  isplitl [S2]; · iexact S2
  isplitl [S3]; · iexact S3
  isplitl [R0]; · iexact R0
  isplitl [R1]; · iexact R1
  isplitl [R2]; · iexact R2
  iexact R3

/-! ## The launch's resources -/

section Launch

variable (m : (ℓ : Loc nD τ sig) → Buf (Elt F) ℓ) (ρ : Dev nD → PrngReg)

theorem share_eq (c : Dev nD) (w : Fin cfg0.W) : (dats m ρ 0 c).share w = fullShare := by
  unfold Dat.share; split <;> rfl

def allCells : Finset (GSem nD τ sig) := Finset.univ.map ⟨cell, cell_injective⟩

def tokenOf (ck : Dev nD × Key) : GSem nD τ sig × ℕ × Unit := (cell ck, 0, ())
theorem tokenOf_injective : Function.Injective tokenOf := fun a b h => cell_injective (congrArg Prod.fst h)
def allTokens : Finset (GSem nD τ sig × ℕ × Unit) := Finset.univ.map ⟨tokenOf, tokenOf_injective⟩

def u₀ : UU := (initOf (Pipeline.cells cfgs cellOf_inj) (Pipeline.launchToks cfgs cellOf_inj), initOf allCells allTokens)

/-- What the launch makes for a device, of its own semaphores. -/
def minted (c : Dev nD) : sProp 𝕄 :=
  iprop((bigSep Finset.univ fun k : Key => roundState ER (sched m ρ) (cell (c, k)) 0)
    ∗ (bigSep Finset.univ fun k : Key => atPos ER (cell (c, k)) 0 ∅ 0)
    ∗ (bigSep Finset.univ fun k : Key => reached ER (cell (c, k)) 0)
    ∗ (bigSep Finset.univ fun k : Key => dutyTok ER (cell (c, k)) 0 ()))

theorem mint : BI.own (ER (initOf allCells allTokens)) ⊢ (|==> bigSep Finset.univ (minted m ρ) : sProp 𝕄) := by
  have cells (Φ : GSem nD τ sig → sProp 𝕄) :
      bigSep allCells Φ = bigSep Finset.univ fun c : Dev nD => bigSep Finset.univ fun k : Key => Φ (cell (c, k)) := by
    unfold allCells; rw [bigSep_map, bigSep_univ_prod]; rfl
  have tokens : bigSep allTokens (fun x => (dutyTok ER x.1 x.2.1 x.2.2 : sProp 𝕄))
      = bigSep Finset.univ fun c : Dev nD => bigSep Finset.univ fun k : Key => dutyTok ER (cell (c, k)) 0 () := by
    unfold allTokens; rw [bigSep_map, bigSep_univ_prod]; rfl
  iintro H
  imod (Rounds.fund ER (sched m ρ) allCells allTokens) $$ H with ⟨S, R, A, T⟩
  imodintro
  ihave S := (Entails.of_eq (cells fun g => roundState ER (sched m ρ) g 0)) $$ S
  ihave A := (Entails.of_eq (cells fun g => atPos ER g 0 ∅ 0)) $$ A
  ihave R := (Entails.of_eq (cells fun g => reached ER g 0)) $$ R
  ihave T := (Entails.of_eq tokens) $$ T
  unfold minted; simp only [bigSep_sep']
  isplitl [S]; · iexact S
  isplitl [A]; · iexact A
  isplitl [R]; · iexact R
  iexact T

/-- The same with the counters put under their invariants. -/
def founded (c : Dev nD) : sProp 𝕄 :=
  iprop((bigSep Finset.univ fun k : Key => iprop(∃ κ : ℕ, cellInv ER (sched m ρ) κ (cell (c, k))))
    ∗ (bigSep Finset.univ fun k : Key => atPos ER (cell (c, k)) 0 ∅ 0)
    ∗ (bigSep Finset.univ fun k : Key => reached ER (cell (c, k)) 0)
    ∗ (bigSep Finset.univ fun k : Key => dutyTok ER (cell (c, k)) 0 ()))

theorem found (c : Dev nD) :
    iprop(Pipeline.ownSems0 (Ix := Unit) (Name := ℕ) (U := UU) (Lvl := ℕ) (Val := Elt F) (τ := τ) osem c ∗ unscopedSems0 c ∗ minted m ρ c)
      ⊢ |={Set.univ}=> founded m ρ c := by
  have open_all : iprop((bigSep Finset.univ fun k : Key => semVal (cell (c, k)) 0)
        ∗ bigSep Finset.univ fun k : Key => roundState ER (sched m ρ) (cell (c, k)) 0)
      ⊢ (|={Set.univ}=> bigSep Finset.univ fun k => iprop(∃ κ : ℕ, cellInv ER (sched m ρ) κ (cell (c, k))) : sProp 𝕄) := by
    rw [← bigSep_sep']
    exact (bigSep_mono fun k _ => (Rounds.body_intro ER (sched m ρ) (cell (c, k))).trans inv_alloc).trans (bigSep_fupd _ _)
  unfold minted founded
  iintro ⟨O, U, S, A, R, T⟩
  ihave V := (sems_join (F := F) c) $$ [O U]
  · isplitl [O] <;> iassumption
  imod open_all $$ [V S] with I
  · isplitl [V] <;> iassumption
  imodintro
  isplitl [I]; · iexact I
  isplitl [A]; · iexact A
  isplitl [R]; · iexact R
  iexact T

/-! ## The tokens change hands: an arrival's and a barrier's go to the device that pays them -/

/-- The tokens of the duties a device pays. -/
def paying (c : Dev nD) : sProp 𝕄 :=
  iprop(dutyTok ER (bar (sib c)) 0 ()
    ∗ (bigSep Finset.univ fun q : Fin 4 => dutyTok ER (send c q) 0 ()) ∗ bigSep Finset.univ fun q : Fin 4 => dutyTok ER (recv (sib c) q) 0 ())

theorem deal : (bigSep Finset.univ fun c : Dev nD => bigSep Finset.univ fun k : Key => dutyTok ER (cell (c, k)) 0 () : sProp 𝕄)
    ⊢ bigSep Finset.univ (paying (F := F)) := by
  have apart (c : Dev nD) : (bigSep Finset.univ fun k : Key => dutyTok ER (cell (c, k)) 0 () : sProp 𝕄)
      ⊢ iprop(dutyTok ER (bar c) 0 () ∗ (bigSep Finset.univ fun q : Fin 4 => dutyTok ER (send c q) 0 ())
        ∗ bigSep Finset.univ fun q : Fin 4 => dutyTok ER (recv c q) 0 ()) :=
    (keys_split fun k => dutyTok ER (cell (c, k)) 0 ()).trans
      (Entails.of_eq (congrArg (fun X => iprop(dutyTok ER (bar c) 0 () ∗ X)) (bigSep_sep' _ _ _)))
  have across : (bigSep Finset.univ fun c : Dev nD => iprop(dutyTok ER (bar c) 0 () ∗ (bigSep Finset.univ fun q : Fin 4 => dutyTok ER (send c q) 0 ())
        ∗ bigSep Finset.univ fun q : Fin 4 => dutyTok ER (recv c q) 0 ()) : sProp 𝕄) ⊢ bigSep Finset.univ (paying (F := F)) := by
    unfold paying
    rw [bigSep_sep', bigSep_sep', bigSep_sep', bigSep_sep',
      bigSep_univ_equiv swap (fun c : Dev nD => (dutyTok ER (bar c) 0 () : sProp 𝕄)),
      bigSep_univ_equiv swap (fun c : Dev nD => (bigSep Finset.univ fun q : Fin 4 => dutyTok ER (recv c q) 0 () : sProp 𝕄))]
    iintro ⟨A, B, C⟩
    isplitl [A]; · iexact A
    isplitl [B]; · iexact B
    iexact C
  exact (bigSep_mono fun c _ => apart c).trans across

/-- What a device starts with, but for its credit. -/
def dealt (c : Dev nD) : sProp 𝕄 :=
  iprop((∃ K, records m ρ K) ∗ gate c ∗ bigSep Finset.univ fun q : Fin 4 => ticket c q)

theorem gather (K : Dev nD × Key → ℕ) (c : Dev nD) :
    iprop(records m ρ K ∗ (bigSep Finset.univ fun k : Key => atPos ER (cell (c, k)) 0 ∅ 0) ∗ paying c) ⊢ dealt m ρ c := by
  unfold paying dealt gate ticket
  simp only [bigSep_sep']
  iintro ⟨K, A, TB, TS, TR⟩
  ihave A := ((keys_split fun k => atPos ER (cell (c, k)) 0 ∅ 0).trans
    (Entails.of_eq (congrArg (fun X => iprop(atPos ER (cell (c, none)) 0 ∅ 0 ∗ X)) (bigSep_sep' _ _ _)))) $$ A
  icases A with ⟨AB, AS, AR⟩
  isplitl [K]; · iexists K; iexact K
  isplitl [AB TB]
  · isplitl [AB] <;> iassumption
  isplitl [AS]; · iexact AS
  isplitl [AR]; · iexact AR
  isplitl [TR]; · iexact TR
  iexact TS

theorem regroup : bigSep Finset.univ (founded m ρ) ⊢ bigSep Finset.univ (dealt m ρ) := by
  have spread {R : sProp 𝕄} [BI.Persistent R] {Φ Ψ : Dev nD → sProp 𝕄} (h : ∀ c, iprop(R ∗ Φ c) ⊢ Ψ c) :
      iprop(R ∗ bigSep Finset.univ Φ) ⊢ bigSep Finset.univ Ψ :=
    (sep_mono_left (BI.bigSep_of_persistent Finset.univ R)).trans (by rw [← bigSep_sep']; exact bigSep_mono fun c _ => h c)
  unfold founded
  rw [bigSep_sep', bigSep_sep', bigSep_sep', ← bigSep_univ_prod (fun ck : Dev nD × Key => iprop(∃ κ : ℕ, cellInv ER (sched m ρ) κ (cell ck))),
    ← bigSep_univ_prod (fun ck : Dev nD × Key => (reached ER (cell ck) 0 : sProp 𝕄))]
  iintro ⟨I, A, #R, T⟩
  ihave I := (BI.bigSep_exists_pi Finset.univ (fun (ck : Dev nD × Key) (κ : ℕ) => (cellInv ER (sched m ρ) κ (cell ck) : sProp 𝕄))) $$ I
  icases I with ⟨%K, #I⟩
  ihave T := (deal (F := F)) $$ T
  iapply (spread (R := records m ρ K) fun c => gather m ρ K c)
  isplitr
  · unfold records
    isplitl
    · iexact I
    iexact R
  rw [bigSep_sep']
  isplitl [A]; · iexact A
  iexact T

theorem launch :
    (bigSep Finset.univ fun c => iprop(Pipeline.ownSems0 (Ix := Unit) (Name := ℕ) (U := UU) (Lvl := ℕ) (Val := Elt F) (τ := τ) osem c
        ∗ unscopedSems0 c ∗ minted m ρ c) : sProp 𝕄)
      ⊢ |={Set.univ}=> bigSep Finset.univ (dealt m ρ) :=
  ((bigSep_mono fun c _ => found m ρ c).trans (bigSep_fupd _ _)).trans (BI.fupd_mono (regroup m ρ))

/-! ## The credit -/

/-- A device's credit, slot by slot and the barrier's, from the other's debt. -/
theorem credit (c : Dev nD) :
    (Pipeline.launchCred debt c : sProp 𝕄)
      ⊢ iprop((bigSep Finset.univ fun q : Fin 4 => cred (tallyAt (recv c q) () N)) ∗ cred (tallyAt (bar c) () 1)) := by
  have one (k : Key) (n : ℕ) :
      (Pipeline.launchCred (fun d => tallyAt (cell (sib d, k)) () n) c : sProp 𝕄) ⊢ cred (tallyAt (cell (c, k)) () n) :=
    Pipeline.launchCred_tallyAt (semOf k) sib sib sib_sib sib_sib () n c
  rw [show debt = fun d => ((((0 + tallyAt (recv (sib d) 3) () N) + tallyAt (recv (sib d) 2) () N) + tallyAt (recv (sib d) 1) () N)
      + tallyAt (recv (sib d) 0) () N) + tallyAt (bar (sib d)) () 1 from rfl,
    Pipeline.launchCred_add, Pipeline.launchCred_add, Pipeline.launchCred_add, Pipeline.launchCred_add, Pipeline.launchCred_add, four]
  iintro ⟨⟨⟨⟨⟨-, C3⟩, C2⟩, C1⟩, C0⟩, CB⟩
  isplitl [C0 C1 C2 C3]
  · isplitl [C0]; · iapply (one (some (true, 0)) N); iexact C0
    isplitl [C1]; · iapply (one (some (true, 1)) N); iexact C1
    isplitl [C2]; · iapply (one (some (true, 2)) N); iexact C2
    iapply (one (some (true, 3)) N); iexact C3
  iapply (one none 1); iexact CB

/-! ## In and out of the grid -/

theorem begin_ (c : Dev nD) :
    iprop(Pipeline.unscopedRestP Pipeline.Prefetch.none cfg0.spec c (fun b => m ((c : Thread nD τ).loc b)) ∗ levAts L lv
        ∗ Pipeline.launchCred debt c ∗ prngReg c (ρ c) ∗ dealt m ρ c)
      ⊢ |={Set.univ}=> iprop(start m ρ c ∗ emp) := by
  iintro ⟨-, V, C, -, D⟩
  ihave C := (credit (F := F) c) $$ C
  icases C with ⟨CR, CB⟩
  imodintro
  unfold start dealt lane
  simp only [bigSep_sep']
  icases D with ⟨K, G, T⟩
  isplitl
  · isplitl [K]; · iexact K
    isplitl [G]; · iexact G
    isplitl [T CR]
    · isplitl [T] <;> iassumption
    isplitl [CB]; · iexact CB
    iexact V
  · iempintro

theorem owned (c : Dev nD) (b : Ref sig .tc) (X : b.ty.Contents (Elt F)) :
    (holds c (Memref.whole b) X : sProp 𝕄) = (((c : Thread nD τ).loc b) ↦{fullShare} X) :=
  owns_whole (c : Thread nD τ) b fullShare X

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = first m ρ c from rfl, scopedRest0_eq]
  unfold first
  iintro ⟨S, -, ⟨%f, A⟩, ⟨%g, B⟩, ⟨%h, C⟩⟩
  isplitl [S]; · iexact S
  isplitl [A]
  · iexists f; rw [owned]; iexact A
  isplitl [B]
  · iexists g; rw [owned]; iexact B
  iexists h; rw [owned]; iexact C

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = last c from rfl, scopedRest0_eq, unscopedSems_eq]
  unfold last
  iintro ⟨⟨%X, A⟩, ⟨%Y, B⟩, ⟨%Z, C⟩, S, V⟩
  isplitl [V]; · iexact V
  isplitl [S]
  · iapply (slots_sems (F := F) c); iexact S
  isplitl [A]
  · iexists X; rw [← owned]; iexact A
  isplitl [B]
  · iexists Y; rw [← owned]; iexact B
  iexists Z; rw [← owned]; iexact C

theorem waits (c : Dev nD) : (levAts L lv : sProp 𝕄) ⊢ Pipeline.cellsWaits cfgs (dats m ρ) () 0 c :=
  Pipeline.cellsWaits_intro cfgs (dats m ρ) () 0 c fun w s t =>
    wait_staging c _ (by fin_cases w <;> fin_cases s <;> decide) _ (by
      show (match t.val with | 0 => debt c | n + 1 => if n = 7 then 0 else due c 4) = debt c
        ∨ ∃ n, (match t.val with | 0 => debt c | n + 1 => if n = 7 then 0 else due c 4) = due c n
      rcases t.val with _ | n
      · exact Or.inl rfl
      · refine Or.inr ?_
        show ∃ k, (if n = 7 then 0 else due c 4) = due c k
        split
        · exact ⟨0, rfl⟩
        · exact ⟨4, rfl⟩)

/-! ## The run -/

/-- At the end each device's arrays hold what the grid's points left there. -/
def Ended : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- The program ends, for any float values and from any memory: the two devices pass the barrier, sum their token blocks, send
    each other four slots and wait for four; and every semaphore is at zero then. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0)
    (hstage := stage_whole0) (hshare := share_eq m ρ) (hdistinct := winFacts0.arr_inj)
    (O₀ := debt) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro H
      ihave H := (ownU_pair _ _) $$ H
      icases H with ⟨P, X⟩
      imod (mint m ρ) $$ X with G
      imodintro
      isplitl [P] <;> iassumption)
    (hglob := launch m ρ)
    (hA := fun _ _ => rfl) (hpf := fun _ k => k.elim0)
    (X := start m ρ) (Y := fun c => unscopedSems0 c) (Z := fun _ => iprop(emp))
    (hX := begin_ m ρ) (hin := enter m ρ) (hout := leave m ρ)
    (QY := fun c s => ∀ sm : SemLoc sig, sm.isScoped .tc = false → s.sem ((c.tc : Thread nD τ), sm) = 0)
    (hY := fun c s' => by
      iintro ⟨U, -, S⟩
      iapply (Pipeline.unscopedSems0_read (X := unscopedSems0 c) (c := c) fupd_intro s')
      isplitl [U] <;> iassumption)
    (hQ := fun _ h hs => ⟨fun c w => (h c).1 w, sem_eq_zero hs fun c => (h c).2.2⟩)

end Launch

end Cert.Exchange

end
-- ==== Proof.ExchangeValue.lean ====
/- What the exchange leaves: each device's block of the product over the tokens of both. -/
module

public import proofs.«01_k».proof.Proof.ExchangeLaunch
public import proofs.«01_k».proof.Proof.Pieces
public import proofs.«01_k».proof.Proof.Gen.Reference5Ideal.Read

@[expose] public section

set_option maxRecDepth 16384
set_option backward.proofsInPublic true

noncomputable section

namespace Cert.Exchange

open Idealize.ShloMosaic Idealize.ShloMosaic.TcCoe Idealize.SL.Sem
open Idealize.ShloMosaic.Pipeline (Dat)

/-! ## The product -/

/-- The activations of a set of tokens, `w_gate_up`'s part and `w_down`'s. -/
abbrev Left (n : ℕ) := (⟨2, ![n, 8448]⟩ : Shape).Idx → EReal
/-- The gradients that meet them. -/
abbrev Right (n : ℕ) := (⟨2, ![n, 3072]⟩ : Shape).Idx → EReal

/-- What token `s` adds at row `d` and column `j` of the product. -/
def term {n : ℕ} [NeZero n] (A : Left n) (B : Right n) (d : Fin 2816) (j : Fin 1024) (s : ℕ) : EReal :=
  A (ix2 (Fin.ofNat n s) ⟨5632 + d.val, by omega⟩) * B (ix2 (Fin.ofNat n s) ⟨1024 + j.val, by omega⟩)

/-- The product over all of them. -/
def product {n : ℕ} [NeZero n] (A : Left n) (B : Right n) (d : Fin 2816) (j : Fin 1024) : EReal := ∑ s ∈ Finset.range n, term A B d j s

/-! ## A device's own sum -/

section Kernel

open Cert.Kernel5Ideal Cert.Kernel5Ideal.Gen

variable (m : (ℓ : Loc nD τ sig) → Buf (Elt Ideal) ℓ) (ρ : Dev nD → PrngReg) (c : Dev nD)

abbrev left : Left 8192 := m ((c : Thread nD τ).loc main_arg0)
abbrev right : Right 8192 := m ((c : Thread nD τ).loc main_arg1)

theorem pay_first (x : Vec Ideal S1024x2816 .bf16) (y : Vec Ideal S1024x1024 .bf16) (d : Fin 2816) (j : Fin 1024) :
    k0_pay1 x y (ix2 d j) = ∑ r : Fin 1024, x (ix2 r d) * y (ix2 r j) := by
  pointwise [k0_pay1]

theorem pay_next (a : Vec Ideal S2816x1024 .f32) (x : Vec Ideal S1024x2816 .bf16) (y : Vec Ideal S1024x1024 .bf16) (d : Fin 2816) (j : Fin 1024) :
    k0_pay2 a x y (ix2 d j) = a (ix2 d j) + ∑ r : Fin 1024, x (ix2 r d) * y (ix2 r j) := by
  pointwise [k0_pay2]

/-- Where the grid's points find their blocks. -/
theorem idx : ∀ t : Fin cfg0.N, win0_0.index t = ![t.val, 2] ∧ win0_1.index t = ![t.val, 1] ∧ win0_2.index t = ![0, 0, 0]
    ∧ win0_3.index t = ![0, 0] :=
  (by decide +kernel : ∀ t : Fin grid0.N, _)

/-- Row `r` of point `t`'s block. -/
def token (t : Fin cfg0.N) (r : Fin 1024) : Fin 8192 := ⟨t.val * 1024 + r.val, by have := lt_of_lt_of_eq t.isLt N_0; omega⟩

theorem blk_left (t : Fin cfg0.N) (r : Fin 1024) (d : Fin 2816) :
    lhs m ρ c t (ix2 r d) = left m c (ix2 (token t r) ⟨5632 + d.val, by omega⟩) := by
  have e : (win0_0.blk t).view.emb (ix2 r d) = ix2 (token t r) (⟨5632 + d.val, by omega⟩ : Fin 8448) := by
    unfold token
    blk_ext [idx t]
  exact congrArg (left m c) e

theorem blk_right (t : Fin cfg0.N) (r : Fin 1024) (j : Fin 1024) :
    rhs m ρ c t (ix2 r j) = right m c (ix2 (token t r) ⟨1024 + j.val, by omega⟩) := by
  have e : (win0_1.blk t).view.emb (ix2 r j) = ix2 (token t r) (⟨1024 + j.val, by omega⟩ : Fin 3072) := by
    unfold token
    blk_ext [idx t]
  exact congrArg (right m c) e

/-- One point's product. -/
theorem point (n : ℕ) (hn : n < 8) (d : Fin 2816) (j : Fin 1024) :
    (∑ r : Fin 1024, lhs m ρ c (pt n) (ix2 r d) * rhs m ρ c (pt n) (ix2 r j))
      = ∑ r ∈ Finset.range 1024, term (left m c) (right m c) d j (1024 * n + r) := by
  rw [← Fin.sum_univ_eq_sum_range (fun r => term (left m c) (right m c) d j (1024 * n + r)) 1024]
  refine Finset.sum_congr rfl fun r _ => ?_
  have e : token (pt n) r = Fin.ofNat 8192 (1024 * n + r.val) := Fin.ext (by
    show n % 8 * 1024 + r.val = (1024 * n + r.val) % 8192
    omega)
  rw [blk_left, blk_right, e]
  rfl

/-- The sum of the first points' products. -/
theorem acc_eq (n : ℕ) (hn : n < 8) (d : Fin 2816) (j : Fin 1024) :
    acc m ρ c n (ix2 d j) = ∑ s ∈ Finset.range (1024 * (n + 1)), term (left m c) (right m c) d j s := by
  induction n with
  | zero =>
    refine (pay_first _ _ d j).trans ((point m ρ c 0 hn d j).trans ?_)
    simp
  | succ n ih =>
    refine (pay_next _ _ _ d j).trans ?_
    rw [ih (by omega), point m ρ c (n + 1) hn d j, show 1024 * (n + 1 + 1) = 1024 * (n + 1) + 1024 from by ring, Finset.sum_range_add]

/-- A device's own sum, complete. -/
theorem acc_last (d : Fin 2816) (j : Fin 1024) : acc m ρ c 7 (ix2 d j) = product (left m c) (right m c) d j :=
  acc_eq m ρ c 7 (by decide) d j

/-! ## What the two make of their sums -/

/-- Row `r` of device `c`'s half of slot `q`. -/
def place (c : Dev nD) (q : Fin 4) (r : Fin 352) : Fin 2816 := ⟨704 * q.val + 352 * c.val + r.val, by have : c.val < 2 := c.isLt; omega⟩

/-- One entry of the exchange: both devices' sums at one place. -/
def both (q : Fin 4) (r : Fin 352) (j : Fin 1024) : EReal :=
  product (left m c) (right m c) (place c q r) j + product (left m (sib c)) (right m (sib c)) (place c q r) j

theorem own_kept (q : Fin 4) (r : Fin 352) (j : Fin 1024) :
    kept m ρ c q (ix3 0 r j) = product (left m c) (right m c) (place c q r) j := by
  rw [← acc_last m ρ]
  unfold kept rows place
  pointwise [k0_pay5]
  congr 2
  have : c.val < 2 := c.isLt
  exact Fin.ext (Nat.mod_eq_of_lt (by omega))

theorem its_sent (q : Fin 4) (r : Fin 352) (j : Fin 1024) :
    sent m ρ (sib c) q (ix3 0 r j) = product (left m (sib c)) (right m (sib c)) (place c q r) j := by
  rw [← acc_last m ρ]
  unfold sent rows place
  pointwise [k0_pay6]
  congr 2
  have : c.val < 2 := c.isLt
  refine Fin.ext ?_
  show (704 * q.val + 352 - 352 * (1 - c.val) + r.val) % 2816 = 704 * q.val + 352 * c.val + r.val
  omega

theorem made_eq (q : Fin 4) (r : Fin 352) (j : Fin 1024) : made m ρ c q (ix3 0 r j) = both m c q r j := by
  unfold made both
  rw [← own_kept m ρ, ← its_sent m ρ]
  pointwise [k0_pay12, k0_pay11]

theorem own_eq (r : Fin 352) (j : Fin 1024) : own m ρ c (ix2 r j) = both m c 0 r j := by
  unfold own both
  rw [← own_kept m ρ, ← its_sent m ρ]
  pointwise [k0_pay11]

/-- The first result of a device: its half of every chip's rows. -/
theorem arr_made : (dats m ρ 0 c).arrAt 2 cfg0.N = fun i => both m c (i 0) (i 1) (i 2) := by
  refine (dats m ρ 0 c).arrAt_eq_of_covers 2 _ (by decide +kernel) fun t _ i => ?_
  blk_simp
  have e : (win0_2.blk t).view.emb i = i := by
    blk_ext [idx t]
  rw [e]
  exact made_eq m ρ c (i 0) (i 1) (i 2)

/-- The second result: its half of the first chip's rows. -/
theorem arr_own : (dats m ρ 0 c).arrAt 3 cfg0.N = fun i => both m c 0 (i 0) (i 1) := by
  refine (dats m ρ 0 c).arrAt_eq_of_covers 3 _ (by decide +kernel) fun t _ i => ?_
  blk_simp
  have e : (win0_3.blk t).view.emb i = i := by
    blk_ext [idx t]
  rw [e]
  exact (congrArg (own m ρ c) (eq_ix2 (show (⟨2, ![352, 1024]⟩ : Shape).Idx from i))).trans (own_eq m ρ c (i 0) (i 1))

/-! ## Both devices' tokens -/

section Whole

variable (A : Left 16384) (B : Right 16384)
  (hA : ∀ c, left m c = Layout.block ⟨2, ![8192, 8448]⟩ ⟨2, ![16384, 8448]⟩ 0 2 c A)
  (hB : ∀ c, right m c = Layout.block ⟨2, ![8192, 3072]⟩ ⟨2, ![16384, 3072]⟩ 0 2 c B)

include hA hB

/-- A device's sum is the product over its half of the tokens. -/
theorem half (d : Fin 2816) (j : Fin 1024) :
    product (left m c) (right m c) d j = ∑ s ∈ Finset.range 8192, term A B d j (8192 * c.val + s) := by
  refine Finset.sum_congr rfl fun s hs => ?_
  have hs := Finset.mem_range.mp hs
  have hc : c.val < 2 := c.isLt
  unfold term
  rw [hA, hB, Layout.block_apply, Layout.block_apply]
  refine congrArg₂ (fun x y => A x * B y) ?_ ?_
  · refine funext fun a => Fin.ext ?_
    match a with
    | ⟨0, _⟩ => show c.val * 8192 + s % 8192 = (8192 * c.val + s) % 16384; omega
    | ⟨1, _⟩ => rfl
  · refine funext fun a => Fin.ext ?_
    match a with
    | ⟨0, _⟩ => show c.val * 8192 + s % 8192 = (8192 * c.val + s) % 16384; omega
    | ⟨1, _⟩ => rfl

/-- What the two make together is the product over all tokens. -/
theorem both_eq (q : Fin 4) (r : Fin 352) (j : Fin 1024) : both m c q r j = product A B (place c q r) j := by
  have all (d : Fin 2816) : product A B d j
      = (∑ s ∈ Finset.range 8192, term A B d j s) + ∑ s ∈ Finset.range 8192, term A B d j (8192 + s) :=
    Finset.sum_range_add (fun s => term A B d j s) 8192 8192
  unfold both
  rw [half m c A B hA hB, half m (sib c) A B hA hB, all]
  have e0 (s : ℕ) : 8192 * 0 + s = s := by omega
  have e1 (s : ℕ) : 8192 * 1 + s = 8192 + s := by omega
  rcases (show c = 0 ∨ c = 1 from by revert c; decide) with rfl | rfl
  · refine congrArg₂ (· + ·) (Finset.sum_congr rfl fun s _ => congrArg _ (e0 s)) (Finset.sum_congr rfl fun s _ => congrArg _ (e1 s))
  · rw [add_comm]
    refine congrArg₂ (· + ·) (Finset.sum_congr rfl fun s _ => congrArg _ (e0 s)) (Finset.sum_congr rfl fun s _ => congrArg _ (e1 s))

end Whole

end Kernel

/-! ## The reference -/

section Reference

open Cert.Reference5Ideal Cert.Reference5Ideal.Read

variable (A : Left 16384) (B : Right 16384)

/-- The reference's product. -/
theorem ref_product (d : Fin 2816) (j : Fin 1024) : val_main_v5 (F := Ideal) A B (ix2 d j) = product A B d j := by
  rw [val_main_v5_apply]
  refine (Finset.sum_congr rfl fun k _ => ?_).trans (Fin.sum_univ_eq_sum_range (fun s => term A B d j s) 16384)
  have e : Fin.ofNat 16384 k.val = k := Fin.ext (Nat.mod_eq_of_lt k.isLt)
  rw [val_main_v2_apply, val_main_v1_apply, val_main_v0_apply, val_main_v4_apply, val_main_v3_apply]
  unfold term
  rw [e]
  refine congrArg₂ (fun x y => A x * B y) ?_ ?_
  · refine funext fun a => Fin.ext ?_
    match a with
    | ⟨0, _⟩ => first | rfl | exact Nat.zero_add _
    | ⟨1, _⟩ => rfl
  · refine funext fun a => Fin.ext ?_
    match a with
    | ⟨0, _⟩ => first | rfl | exact Nat.zero_add _
    | ⟨1, _⟩ => rfl

/-- Its rows, chip by chip. -/
theorem ref_chips (q : Fin 4) (r : Fin 704) (j : Fin 1024) :
    val_main_v6 (F := Ideal) A B (ix3 q r j) = product A B ⟨704 * q.val + r.val, by omega⟩ j := by
  rw [val_main_v6_apply, ← ref_product]
  refine congrArg _ (funext fun a => Fin.ext ?_)
  match a with
  | ⟨0, _⟩ => show ((q.val * 704 + r.val) * 1024 + j.val) / 1024 = 704 * q.val + r.val; omega
  | ⟨1, _⟩ => show ((q.val * 704 + r.val) * 1024 + j.val) % 1024 = j.val; omega

/-- The first chip's. -/
theorem ref_first (r : Fin 704) (j : Fin 1024) :
    val_main_v9 (F := Ideal) A B (ix2 r j) = val_main_v6 (F := Ideal) A B (ix3 0 r j) := by
  rw [val_main_v9_apply, val_main_v8_apply]
  refine congrArg _ (funext fun a => Fin.ext ?_)
  match a with
  | ⟨0, _⟩ => rfl
  | ⟨1, _⟩ => show (r.val * 1024 + j.val) / 1024 % 704 = r.val; omega
  | ⟨2, _⟩ => show (r.val * 1024 + j.val) % 1024 = j.val; omega

end Reference

/-! ## The two programs' results -/

section Results

open Cert.Kernel5Ideal Cert.Kernel5Ideal.Gen

variable (m : (ℓ : Loc nD τ sig) → Buf (Elt Ideal) ℓ) (ρ : Dev nD → PrngReg) (c : Dev nD)
  (A : Left 16384) (B : Right 16384)
  (hA : ∀ c, left m c = Layout.block ⟨2, ![8192, 8448]⟩ ⟨2, ![16384, 8448]⟩ 0 2 c A)
  (hB : ∀ c, right m c = Layout.block ⟨2, ![8192, 3072]⟩ ⟨2, ![16384, 3072]⟩ 0 2 c B)

include hA hB

/-- A device's first result is its block of the reference's. -/
theorem made_block : (dats m ρ 0 c).arrAt 2 cfg0.N
    = Layout.block ⟨3, ![4, 352, 1024]⟩ ⟨3, ![4, 704, 1024]⟩ 1 2 c (Cert.Reference5Ideal.Read.val_main_v7 (F := Ideal) A B) := by
  refine (arr_made m ρ c).trans (funext fun i => (both_eq m c A B hA hB (i 0) (i 1) (i 2)).trans ?_)
  have hc : c.val < 2 := c.isLt
  have h1 : (i 1).val < 352 := (i 1).isLt
  have e : (show Layout.Tiles ⟨3, ![4, 352, 1024]⟩ ⟨3, ![4, 704, 1024]⟩ 1 2 from by decide).idx c i
      = ix3 (i 0) (⟨352 * c.val + (i 1).val, by omega⟩ : Fin 704) (i 2) := by
    refine funext fun a => Fin.ext ?_
    match a with
    | ⟨0, _⟩ => rfl
    | ⟨1, _⟩ => show c.val * 352 + (i 1).val = 352 * c.val + (i 1).val; omega
    | ⟨2, _⟩ => rfl
  rw [Layout.block_apply, e]
  refine Eq.trans ?_ (ref_chips A B (i 0) ⟨352 * c.val + (i 1).val, by omega⟩ (i 2)).symm
  exact congrArg (fun d => product A B d (i 2)) (Fin.ext (Nat.add_assoc _ _ _))

/-- And its second of the reference's second. -/
theorem own_block : (dats m ρ 0 c).arrAt 3 cfg0.N
    = Layout.block ⟨2, ![352, 1024]⟩ ⟨2, ![704, 1024]⟩ 0 2 c (Cert.Reference5Ideal.Read.val_main_v9 (F := Ideal) A B) := by
  refine (arr_own m ρ c).trans (funext fun i => (both_eq m c A B hA hB 0 (i 0) (i 1)).trans ?_)
  have hc : c.val < 2 := c.isLt
  have h0 : (i 0).val < 352 := (i 0).isLt
  have e : (show Layout.Tiles ⟨2, ![352, 1024]⟩ ⟨2, ![704, 1024]⟩ 0 2 from by decide).idx c i
      = ix2 (⟨352 * c.val + (i 0).val, by omega⟩ : Fin 704) (i 1) := by
    refine funext fun a => Fin.ext ?_
    match a with
    | ⟨0, _⟩ => show c.val * 352 + (i 0).val = 352 * c.val + (i 0).val; omega
    | ⟨1, _⟩ => rfl
  rw [Layout.block_apply, e]
  refine Eq.trans ?_ ((ref_first A B ⟨352 * c.val + (i 0).val, by omega⟩ (i 1)).trans
    (ref_chips A B 0 ⟨352 * c.val + (i 0).val, by omega⟩ (i 1))).symm
  exact congrArg (fun d => product A B d (i 1)) (Fin.ext (Nat.add_assoc _ _ _))

end Results

end Cert.Exchange

end
-- ==== Proof.SmallRun.lean ====
/- The body of the small parameters' optimiser: what it is handed, and the stores that it ends with. -/
module

public import proofs.«01_k».proof.Proof.Gen.Kernel6Ideal.Frame.Runs

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The type of the assertions about the machine. -/
local notation "𝕄" => MT nD τ sig Unit (Elt F) ℕ (UR sig nD τ) ℕ

/-- Ten whole buffers, one for each small parameter. -/
structure Refs where
  pool : Memref sig .tc .vmem S1x4x128x128 .f32
  sgu : Memref sig .tc .vmem S1x4x128x128 .f32
  scale : Memref sig .tc .vmem S1x512 .f32
  gain : Memref sig .tc .vmem S1x512 .f32
  bias : Memref sig .tc .vmem S1x512 .f32
  gate : Memref sig .tc .vmem S1x4x128 .f32
  n1 : Memref sig .tc .vmem S1x1024 .f32
  n2 : Memref sig .tc .vmem S1x1024 .f32
  n3 : Memref sig .tc .vmem S1x1024 .f32
  n4 : Memref sig .tc .vmem S1x1024 .f32
  hpool : pool.IsWhole
  hsgu : sgu.IsWhole
  hscale : scale.IsWhole
  hgain : gain.IsWhole
  hbias : bias.IsWhole
  hgate : gate.IsWhole
  hn1 : n1.IsWhole
  hn2 : n2.IsWhole
  hn3 : n3.IsWhole
  hn4 : n4.IsWhole

/-- Ten arrays, one for each small parameter. -/
structure Vals (F : FTy → Type) where
  pool : Vec F S1x4x128x128 .f32
  sgu : Vec F S1x4x128x128 .f32
  scale : Vec F S1x512 .f32
  gain : Vec F S1x512 .f32
  bias : Vec F S1x512 .f32
  gate : Vec F S1x4x128 .f32
  n1 : Vec F S1x1024 .f32
  n2 : Vec F S1x1024 .f32
  n3 : Vec F S1x1024 .f32
  n4 : Vec F S1x1024 .f32

/-- Ten lists of stores, each with the last one first. -/
structure Stores (F : FTy → Type) where
  pool : List (View.Piece (Elt F) S1x4x128x128 .f32)
  sgu : List (View.Piece (Elt F) S1x4x128x128 .f32)
  scale : List (View.Piece (Elt F) S1x512 .f32)
  gain : List (View.Piece (Elt F) S1x512 .f32)
  bias : List (View.Piece (Elt F) S1x512 .f32)
  gate : List (View.Piece (Elt F) S1x4x128 .f32)
  n1 : List (View.Piece (Elt F) S1x1024 .f32)
  n2 : List (View.Piece (Elt F) S1x1024 .f32)
  n3 : List (View.Piece (Elt F) S1x1024 .f32)
  n4 : List (View.Piece (Elt F) S1x1024 .f32)

/-- The buffers that the body is handed: the devices' parts, the parameters, their moments, the loss and the four groups of results. -/
structure Buffers where
  mats : Memref sig .tc .vmem S8x8x128x128 .f32
  vecs : Memref sig .tc .vmem S8x16x1024 .f32
  w : Refs
  m : Refs
  v : Refs
  loss : Memref sig .tc .vmem S8x128 .f32
  g : Refs
  d : Refs
  mo : Refs
  vo : Refs
  total : Memref sig .tc .vmem S16x1024 .f32
  hmats : mats.IsWhole
  hvecs : vecs.IsWhole
  hloss : loss.IsWhole
  htotal : total.IsWhole

/-- The contents of the inputs. -/
structure Ins (F : FTy → Type) where
  mats : Vec F S8x8x128x128 .f32
  vecs : Vec F S8x16x1024 .f32
  w : Vals F
  m : Vals F
  v : Vals F

/-- The contents of the results and of the scratch array. -/
structure Outs (F : FTy → Type) where
  loss : Vec F S8x128 .f32
  g : Vals F
  d : Vals F
  mo : Vals F
  vo : Vals F
  total : Vec F S16x1024 .f32

/-- The stores into the results and the scratch array. -/
structure Ends (F : FTy → Type) where
  loss : List (View.Piece (Elt F) S8x128 .f32)
  g : Stores F
  d : Stores F
  mo : Stores F
  vo : Stores F
  total : List (View.Piece (Elt F) S16x1024 .f32)

/-- The body on the buffers `R`. -/
abbrev body (R : Buffers) : Prog (TpuEff nD τ sig (Elt F) Λ₀ .tc) PUnit :=
  cc0_small_sum_adamw R.mats R.hmats R.vecs R.hvecs
    R.w.pool R.w.hpool R.w.sgu R.w.hsgu R.w.scale R.w.hscale R.w.gain R.w.hgain R.w.bias R.w.hbias R.w.gate R.w.hgate R.w.n1 R.w.hn1 R.w.n2 R.w.hn2 R.w.n3 R.w.hn3 R.w.n4 R.w.hn4
    R.m.pool R.m.hpool R.m.sgu R.m.hsgu R.m.scale R.m.hscale R.m.gain R.m.hgain R.m.bias R.m.hbias R.m.gate R.m.hgate R.m.n1 R.m.hn1 R.m.n2 R.m.hn2 R.m.n3 R.m.hn3 R.m.n4 R.m.hn4
    R.v.pool R.v.hpool R.v.sgu R.v.hsgu R.v.scale R.v.hscale R.v.gain R.v.hgain R.v.bias R.v.hbias R.v.gate R.v.hgate R.v.n1 R.v.hn1 R.v.n2 R.v.hn2 R.v.n3 R.v.hn3 R.v.n4 R.v.hn4
    R.loss R.hloss
    R.g.pool R.g.hpool R.g.sgu R.g.hsgu R.g.scale R.g.hscale R.g.gain R.g.hgain R.g.bias R.g.hbias R.g.gate R.g.hgate R.g.n1 R.g.hn1 R.g.n2 R.g.hn2 R.g.n3 R.g.hn3 R.g.n4 R.g.hn4
    R.d.pool R.d.hpool R.d.sgu R.d.hsgu R.d.scale R.d.hscale R.d.gain R.d.hgain R.d.bias R.d.hbias R.d.gate R.d.hgate R.d.n1 R.d.hn1 R.d.n2 R.d.hn2 R.d.n3 R.d.hn3 R.d.n4 R.d.hn4
    R.mo.pool R.mo.hpool R.mo.sgu R.mo.hsgu R.mo.scale R.mo.hscale R.mo.gain R.mo.hgain R.mo.bias R.mo.hbias R.mo.gate R.mo.hgate R.mo.n1 R.mo.hn1 R.mo.n2 R.mo.hn2 R.mo.n3 R.mo.hn3 R.mo.n4 R.mo.hn4
    R.vo.pool R.vo.hpool R.vo.sgu R.vo.hsgu R.vo.scale R.vo.hscale R.vo.gain R.vo.hgain R.vo.bias R.vo.hbias R.vo.gate R.vo.hgate R.vo.n1 R.vo.hn1 R.vo.n2 R.vo.hn2 R.vo.n3 R.vo.hn3 R.vo.n4 R.vo.hn4
    R.total R.htotal

/-- A whole buffer with the contents `x`. -/
abbrev at_ (c : Dev nD) {s : Shape} {e : EltTy} (M : Memref sig .tc .vmem s e) (h : M.IsWhole) (x : Vec F s e) : sProp 𝕄 :=
  (M.view.loc (c : Thread nD τ) ↦[M.view.set]{fullShare} h.unread x)

/-- A whole buffer with what the stores `L` leave over the contents `x`. -/
abbrev over (c : Dev nD) {s : Shape} {e : EltTy} (M : Memref sig .tc .vmem s e) (h : M.IsWhole) (x : Vec F s e)
    (L : List (View.Piece (Elt F) s e)) : sProp 𝕄 :=
  (M.view.loc (c : Thread nD τ) ↦[M.view.set]{fullShare} M.view.writes (Elt F) (h.unread x) L)

/-- Ten buffers with the contents `X`. -/
abbrev ats (c : Dev nD) (R : Refs) (X : Vals F) : sProp 𝕄 :=
  iprop(at_ c R.pool R.hpool X.pool ∗ at_ c R.sgu R.hsgu X.sgu ∗ at_ c R.scale R.hscale X.scale ∗ at_ c R.gain R.hgain X.gain ∗ at_ c R.bias R.hbias X.bias ∗ at_ c R.gate R.hgate X.gate
    ∗ at_ c R.n1 R.hn1 X.n1 ∗ at_ c R.n2 R.hn2 X.n2 ∗ at_ c R.n3 R.hn3 X.n3 ∗ at_ c R.n4 R.hn4 X.n4)

/-- Ten buffers with what the stores `L` leave over the contents `X`. -/
abbrev overs (c : Dev nD) (R : Refs) (X : Vals F) (L : Stores F) : sProp 𝕄 :=
  iprop(over c R.pool R.hpool X.pool L.pool ∗ over c R.sgu R.hsgu X.sgu L.sgu ∗ over c R.scale R.hscale X.scale L.scale ∗ over c R.gain R.hgain X.gain L.gain ∗ over c R.bias R.hbias X.bias L.bias ∗ over c R.gate R.hgate X.gate L.gate ∗ over c R.n1 R.hn1 X.n1 L.n1 ∗ over c R.n2 R.hn2 X.n2 L.n2 ∗ over c R.n3 R.hn3 X.n3 L.n3 ∗ over c R.n4 R.hn4 X.n4 L.n4)

set_option maxHeartbeats 4000000 in
/-- The body from the inputs `X` and any contents `Y` elsewhere: the stores that each result ends with. -/
noncomputable def run (c : Dev nD) (R : Buffers) (X : Ins F) : { L : Ends F //
    ∀ (Y : Outs F) (E : Set ℕ) (K : PUnit → sProp 𝕄),
      iprop(at_ c R.mats R.hmats X.mats ∗ at_ c R.vecs R.hvecs X.vecs ∗ ats c R.w X.w ∗ ats c R.m X.m ∗ ats c R.v X.v
          ∗ at_ c R.loss R.hloss Y.loss ∗ ats c R.g Y.g ∗ ats c R.d Y.d ∗ ats c R.mo Y.mo ∗ ats c R.vo Y.vo
          ∗ at_ c R.total R.htotal Y.total
          ∗ (iprop(at_ c R.mats R.hmats X.mats ∗ at_ c R.vecs R.hvecs X.vecs ∗ ats c R.w X.w ∗ ats c R.m X.m ∗ ats c R.v X.v
              ∗ over c R.loss R.hloss Y.loss L.loss ∗ overs c R.g Y.g L.g ∗ overs c R.d Y.d L.d ∗ overs c R.mo Y.mo L.mo
              ∗ overs c R.vo Y.vo L.vo ∗ over c R.total R.htotal Y.total L.total) -∗ K ⟨⟩))
        ⊢ wp frame (wpE (defs₀ (F := F)) Variants.none c none) E (body R) K } := by
  refine ⟨⟨?_, ⟨?_, ?_, ?_, ?_, ?_, ?_, ?_, ?_, ?_, ?_⟩, ⟨?_, ?_, ?_, ?_, ?_, ?_, ?_, ?_, ?_, ?_⟩, ⟨?_, ?_, ?_, ?_, ?_, ?_, ?_, ?_, ?_, ?_⟩, ⟨?_, ?_, ?_, ?_, ?_, ?_, ?_, ?_, ?_, ?_⟩, ?_⟩, fun Y E K => ?run⟩
  case run =>
    simp only [body, cc0_small_sum_adamw_eq_skeleton]; unfold cc0_small_sum_adamw_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    iintro ⟨H0, H1, ⟨H2, H3, H4, H5, H6, H7, H8, H9, H10, H11⟩, ⟨H12, H13, H14, H15, H16, H17, H18, H19, H20, H21⟩, ⟨H22, H23, H24, H25, H26, H27, H28, H29, H30, H31⟩, H32, ⟨H33, H34, H35, H36, H37, H38, H39, H40, H41, H42⟩, ⟨H43, H44, H45, H46, H47, H48, H49, H50, H51, H52⟩, ⟨H53, H54, H55, H56, H57, H58, H59, H60, H61, H62⟩, ⟨H63, H64, H65, H66, H67, H68, H69, H70, H71, H72⟩, H73, Hk⟩
    sl_exec
    sl_step
    iapply Hk
    isplitl [H0]; · iexact H0
    isplitl [H1]; · iexact H1
    isplitl [H2 H3 H4 H5 H6 H7 H8 H9 H10 H11]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12 H13 H14 H15 H16 H17 H18 H19 H20 H21]
    · isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [H22 H23 H24 H25 H26 H27 H28 H29 H30 H31]
    · isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      iexact H31
    isplitl [H32]; · iexact H32
    isplitl [H33 H34 H35 H36 H37 H38 H39 H40 H41 H42]
    · isplitl [H33]; · iexact H33
      isplitl [H34]; · iexact H34
      isplitl [H35]; · iexact H35
      isplitl [H36]; · iexact H36
      isplitl [H37]; · iexact H37
      isplitl [H38]; · iexact H38
      isplitl [H39]; · iexact H39
      isplitl [H40]; · iexact H40
      isplitl [H41]; · iexact H41
      iexact H42
    isplitl [H43 H44 H45 H46 H47 H48 H49 H50 H51 H52]
    · isplitl [H43]; · iexact H43
      isplitl [H44]; · iexact H44
      isplitl [H45]; · iexact H45
      isplitl [H46]; · iexact H46
      isplitl [H47]; · iexact H47
      isplitl [H48]; · iexact H48
      isplitl [H49]; · iexact H49
      isplitl [H50]; · iexact H50
      isplitl [H51]; · iexact H51
      iexact H52
    isplitl [H53 H54 H55 H56 H57 H58 H59 H60 H61 H62]
    · isplitl [H53]; · iexact H53
      isplitl [H54]; · iexact H54
      isplitl [H55]; · iexact H55
      isplitl [H56]; · iexact H56
      isplitl [H57]; · iexact H57
      isplitl [H58]; · iexact H58
      isplitl [H59]; · iexact H59
      isplitl [H60]; · iexact H60
      isplitl [H61]; · iexact H61
      iexact H62
    isplitl [H63 H64 H65 H66 H67 H68 H69 H70 H71 H72]
    · isplitl [H63]; · iexact H63
      isplitl [H64]; · iexact H64
      isplitl [H65]; · iexact H65
      isplitl [H66]; · iexact H66
      isplitl [H67]; · iexact H67
      isplitl [H68]; · iexact H68
      isplitl [H69]; · iexact H69
      isplitl [H70]; · iexact H70
      isplitl [H71]; · iexact H71
      iexact H72
    iexact H73

end Cert.Kernel6Ideal.Small

end
-- ==== Proof.SmallData.lean ====
/- The frame of the small parameters' optimiser: what the run leaves in every buffer, and that its arguments end unchanged. -/
module

public import proofs.«01_k».proof.Proof.SmallRun

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The type of the assertions about the machine. -/
local notation "𝕄" => MT nD τ sig Unit (Elt F) ℕ (UR sig nD τ) ℕ

variable (m : (ℓ : Loc nD τ sig) → Buf (Elt F) ℓ) (ρ : Dev nD → PrngReg)

/-! ## What the stores leave -/

/-- The arrays that ten lists of stores leave. -/
def Stores.vals (L : Stores F) : Vals F :=
  ⟨View.canon L.pool, View.canon L.sgu, View.canon L.scale, View.canon L.gain, View.canon L.bias, View.canon L.gate, View.canon L.n1, View.canon L.n2, View.canon L.n3, View.canon L.n4⟩

/-- Ten lists of stores cover their arrays. -/
def Stores.Covers (L : Stores F) : Prop :=
  (∀ y, ∃ p ∈ L.pool, y ∈ p.1.set) ∧ (∀ y, ∃ p ∈ L.sgu, y ∈ p.1.set) ∧ (∀ y, ∃ p ∈ L.scale, y ∈ p.1.set) ∧ (∀ y, ∃ p ∈ L.gain, y ∈ p.1.set) ∧ (∀ y, ∃ p ∈ L.bias, y ∈ p.1.set) ∧ (∀ y, ∃ p ∈ L.gate, y ∈ p.1.set) ∧ (∀ y, ∃ p ∈ L.n1, y ∈ p.1.set) ∧ (∀ y, ∃ p ∈ L.n2, y ∈ p.1.set) ∧ (∀ y, ∃ p ∈ L.n3, y ∈ p.1.set) ∧ (∀ y, ∃ p ∈ L.n4, y ∈ p.1.set)

/-- What the body leaves from the inputs `X`. -/
def left (c : Dev nD) (R : Buffers) (X : Ins F) : Outs F :=
  ⟨View.canon (run c R X).1.loss, (run c R X).1.g.vals, (run c R X).1.d.vals, (run c R X).1.mo.vals, (run c R X).1.vo.vals,
    View.canon (run c R X).1.total⟩

/-- The loss is stored whole. -/
theorem covered_loss (c : Dev nD) (R : Buffers) (X : Ins F) : ∀ y, ∃ p ∈ (run c R X).1.loss, y ∈ p.1.set :=
  View.cover_of_tiledL _ ![8, 128] (by sl_kernel_rfl)

/-- The gradients are stored whole. -/
theorem covered_g (c : Dev nD) (R : Buffers) (X : Ins F) : (run c R X).1.g.Covers :=
  ⟨View.cover_of_tiledBy _ ![1, 1, 128, 128] (by sl_kernel_rfl), View.cover_of_tiledBy _ ![1, 1, 128, 128] (by sl_kernel_rfl),
    View.cover_of_tiledL _ ![1, 512] (by sl_kernel_rfl),
    View.cover_of_tiledL _ ![1, 512] (by sl_kernel_rfl),
    View.cover_of_tiledL _ ![1, 512] (by sl_kernel_rfl),
    View.cover_of_tiledL _ ![1, 4, 128] (by sl_kernel_rfl),
    View.cover_of_tiledL _ ![1, 1024] (by sl_kernel_rfl),
    View.cover_of_tiledL _ ![1, 1024] (by sl_kernel_rfl),
    View.cover_of_tiledL _ ![1, 1024] (by sl_kernel_rfl),
    View.cover_of_tiledL _ ![1, 1024] (by sl_kernel_rfl)⟩

/-- The changes are stored whole. -/
theorem covered_d (c : Dev nD) (R : Buffers) (X : Ins F) : (run c R X).1.d.Covers :=
  ⟨View.cover_of_tiledBy _ ![1, 1, 128, 128] (by sl_kernel_rfl), View.cover_of_tiledBy _ ![1, 1, 128, 128] (by sl_kernel_rfl),
    View.cover_of_tiledL _ ![1, 512] (by sl_kernel_rfl),
    View.cover_of_tiledL _ ![1, 512] (by sl_kernel_rfl),
    View.cover_of_tiledL _ ![1, 512] (by sl_kernel_rfl),
    View.cover_of_tiledL _ ![1, 4, 128] (by sl_kernel_rfl),
    View.cover_of_tiledL _ ![1, 1024] (by sl_kernel_rfl),
    View.cover_of_tiledL _ ![1, 1024] (by sl_kernel_rfl),
    View.cover_of_tiledL _ ![1, 1024] (by sl_kernel_rfl),
    View.cover_of_tiledL _ ![1, 1024] (by sl_kernel_rfl)⟩

/-- The first moments are stored whole. -/
theorem covered_mo (c : Dev nD) (R : Buffers) (X : Ins F) : (run c R X).1.mo.Covers :=
  ⟨View.cover_of_tiledBy _ ![1, 1, 128, 128] (by sl_kernel_rfl), View.cover_of_tiledBy _ ![1, 1, 128, 128] (by sl_kernel_rfl),
    View.cover_of_tiledL _ ![1, 512] (by sl_kernel_rfl),
    View.cover_of_tiledL _ ![1, 512] (by sl_kernel_rfl),
    View.cover_of_tiledL _ ![1, 512] (by sl_kernel_rfl),
    View.cover_of_tiledL _ ![1, 4, 128] (by sl_kernel_rfl),
    View.cover_of_tiledL _ ![1, 1024] (by sl_kernel_rfl),
    View.cover_of_tiledL _ ![1, 1024] (by sl_kernel_rfl),
    View.cover_of_tiledL _ ![1, 1024] (by sl_kernel_rfl),
    View.cover_of_tiledL _ ![1, 1024] (by sl_kernel_rfl)⟩

/-- The second moments are stored whole. -/
theorem covered_vo (c : Dev nD) (R : Buffers) (X : Ins F) : (run c R X).1.vo.Covers :=
  ⟨View.cover_of_tiledBy _ ![1, 1, 128, 128] (by sl_kernel_rfl), View.cover_of_tiledBy _ ![1, 1, 128, 128] (by sl_kernel_rfl),
    View.cover_of_tiledL _ ![1, 512] (by sl_kernel_rfl),
    View.cover_of_tiledL _ ![1, 512] (by sl_kernel_rfl),
    View.cover_of_tiledL _ ![1, 512] (by sl_kernel_rfl),
    View.cover_of_tiledL _ ![1, 4, 128] (by sl_kernel_rfl),
    View.cover_of_tiledL _ ![1, 1024] (by sl_kernel_rfl),
    View.cover_of_tiledL _ ![1, 1024] (by sl_kernel_rfl),
    View.cover_of_tiledL _ ![1, 1024] (by sl_kernel_rfl),
    View.cover_of_tiledL _ ![1, 1024] (by sl_kernel_rfl)⟩

/-! ## The proof data -/

/-- The staging buffers at point `t`, with the scratch array. -/
def refs (t : Fin cfg0.N) : Buffers :=
  ⟨ms0_0 t, ms0_1 t,
    ⟨ms0_2 t, ms0_3 t, ms0_4 t, ms0_5 t, ms0_6 t, ms0_7 t, ms0_8 t, ms0_9 t, ms0_10 t, ms0_11 t,
     hs0_2 t, hs0_3 t, hs0_4 t, hs0_5 t, hs0_6 t, hs0_7 t, hs0_8 t, hs0_9 t, hs0_10 t, hs0_11 t⟩,
    ⟨ms0_12 t, ms0_13 t, ms0_14 t, ms0_15 t, ms0_16 t, ms0_17 t, ms0_18 t, ms0_19 t, ms0_20 t, ms0_21 t,
     hs0_12 t, hs0_13 t, hs0_14 t, hs0_15 t, hs0_16 t, hs0_17 t, hs0_18 t, hs0_19 t, hs0_20 t, hs0_21 t⟩,
    ⟨ms0_22 t, ms0_23 t, ms0_24 t, ms0_25 t, ms0_26 t, ms0_27 t, ms0_28 t, ms0_29 t, ms0_30 t, ms0_31 t,
     hs0_22 t, hs0_23 t, hs0_24 t, hs0_25 t, hs0_26 t, hs0_27 t, hs0_28 t, hs0_29 t, hs0_30 t, hs0_31 t⟩,
    ms0_32 t,
    ⟨ms0_33 t, ms0_34 t, ms0_35 t, ms0_36 t, ms0_37 t, ms0_38 t, ms0_39 t, ms0_40 t, ms0_41 t, ms0_42 t,
     hs0_33 t, hs0_34 t, hs0_35 t, hs0_36 t, hs0_37 t, hs0_38 t, hs0_39 t, hs0_40 t, hs0_41 t, hs0_42 t⟩,
    ⟨ms0_43 t, ms0_44 t, ms0_45 t, ms0_46 t, ms0_47 t, ms0_48 t, ms0_49 t, ms0_50 t, ms0_51 t, ms0_52 t,
     hs0_43 t, hs0_44 t, hs0_45 t, hs0_46 t, hs0_47 t, hs0_48 t, hs0_49 t, hs0_50 t, hs0_51 t, hs0_52 t⟩,
    ⟨ms0_53 t, ms0_54 t, ms0_55 t, ms0_56 t, ms0_57 t, ms0_58 t, ms0_59 t, ms0_60 t, ms0_61 t, ms0_62 t,
     hs0_53 t, hs0_54 t, hs0_55 t, hs0_56 t, hs0_57 t, hs0_58 t, hs0_59 t, hs0_60 t, hs0_61 t, hs0_62 t⟩,
    ⟨ms0_63 t, ms0_64 t, ms0_65 t, ms0_66 t, ms0_67 t, ms0_68 t, ms0_69 t, ms0_70 t, ms0_71 t, ms0_72 t,
     hs0_63 t, hs0_64 t, hs0_65 t, hs0_66 t, hs0_67 t, hs0_68 t, hs0_69 t, hs0_70 t, hs0_71 t, hs0_72 t⟩,
    scM0_0, hs0_0 t, hs0_1 t, hs0_32 t, Memref.isWhole_whole _⟩

/-- The inputs at point `t`. -/
def insAt (c : Dev nD) (t : Fin cfg0.N) : Ins F :=
  ⟨iblk m c 0 t, iblk m c 1 t,
    ⟨iblk m c 2 t, iblk m c 3 t, iblk m c 4 t, iblk m c 5 t, iblk m c 6 t, iblk m c 7 t, iblk m c 8 t, iblk m c 9 t, iblk m c 10 t, iblk m c 11 t⟩,
    ⟨iblk m c 12 t, iblk m c 13 t, iblk m c 14 t, iblk m c 15 t, iblk m c 16 t, iblk m c 17 t, iblk m c 18 t, iblk m c 19 t, iblk m c 20 t, iblk m c 21 t⟩,
    ⟨iblk m c 22 t, iblk m c 23 t, iblk m c 24 t, iblk m c 25 t, iblk m c 26 t, iblk m c 27 t, iblk m c 28 t, iblk m c 29 t, iblk m c 30 t, iblk m c 31 t⟩⟩

/-- What point `t` leaves. -/
def outsAt (c : Dev nD) (t : Fin cfg0.N) : Outs F := left c (refs t) (insAt m c t)

/-- What each window's buffer holds after each point: an input its block, an output what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => (outsAt m c t).loss
    | ⟨33, _⟩ => (outsAt m c t).g.pool
    | ⟨34, _⟩ => (outsAt m c t).g.sgu
    | ⟨35, _⟩ => (outsAt m c t).g.scale
    | ⟨36, _⟩ => (outsAt m c t).g.gain
    | ⟨37, _⟩ => (outsAt m c t).g.bias
    | ⟨38, _⟩ => (outsAt m c t).g.gate
    | ⟨39, _⟩ => (outsAt m c t).g.n1
    | ⟨40, _⟩ => (outsAt m c t).g.n2
    | ⟨41, _⟩ => (outsAt m c t).g.n3
    | ⟨42, _⟩ => (outsAt m c t).g.n4
    | ⟨43, _⟩ => (outsAt m c t).d.pool
    | ⟨44, _⟩ => (outsAt m c t).d.sgu
    | ⟨45, _⟩ => (outsAt m c t).d.scale
    | ⟨46, _⟩ => (outsAt m c t).d.gain
    | ⟨47, _⟩ => (outsAt m c t).d.bias
    | ⟨48, _⟩ => (outsAt m c t).d.gate
    | ⟨49, _⟩ => (outsAt m c t).d.n1
    | ⟨50, _⟩ => (outsAt m c t).d.n2
    | ⟨51, _⟩ => (outsAt m c t).d.n3
    | ⟨52, _⟩ => (outsAt m c t).d.n4
    | ⟨53, _⟩ => (outsAt m c t).mo.pool
    | ⟨54, _⟩ => (outsAt m c t).mo.sgu
    | ⟨55, _⟩ => (outsAt m c t).mo.scale
    | ⟨56, _⟩ => (outsAt m c t).mo.gain
    | ⟨57, _⟩ => (outsAt m c t).mo.bias
    | ⟨58, _⟩ => (outsAt m c t).mo.gate
    | ⟨59, _⟩ => (outsAt m c t).mo.n1
    | ⟨60, _⟩ => (outsAt m c t).mo.n2
    | ⟨61, _⟩ => (outsAt m c t).mo.n3
    | ⟨62, _⟩ => (outsAt m c t).mo.n4
    | ⟨63, _⟩ => (outsAt m c t).vo.pool
    | ⟨64, _⟩ => (outsAt m c t).vo.sgu
    | ⟨65, _⟩ => (outsAt m c t).vo.scale
    | ⟨66, _⟩ => (outsAt m c t).vo.gain
    | ⟨67, _⟩ => (outsAt m c t).vo.bias
    | ⟨68, _⟩ => (outsAt m c t).vo.gate
    | ⟨69, _⟩ => (outsAt m c t).vo.n1
    | ⟨70, _⟩ => (outsAt m c t).vo.n2
    | ⟨71, _⟩ => (outsAt m c t).vo.n3
    | ⟨72, _⟩ => (outsAt m c t).vo.n4
    | ⟨_ + 73, h⟩ => absurd h (Nat.not_lt.2 (Nat.le_add_left _ _))
  Φ _ := Pipeline.ΦA spec0 c
  q _ := fullShare
  owed _ := 0

/-- The arrays of the proof data are what the region finds. -/
theorem dats_A (c : Dev nD) (w : Fin cfg0.W) : (dats m 0 c).A w = V m c (Pipeline.arrRef spec0 w) := by dsimp only [dats]

end Cert.Kernel6Ideal.Small
-- ==== Proof.SmallBlocks.lean ====
/- The optimiser of the small parameters takes every argument and every result whole: what its buffers hold is what the arrays hold. -/
module

public import proofs.«01_k».proof.Proof.SmallData
public import proofs.«01_k».proof.Proof.Adam

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic Idealize.SL.Sem
open Idealize.ShloMosaic.Pipeline (Dat Cfg Window BodyObligation cellOf)

variable (m : (ℓ : Loc nD τ sig) → Buf (Elt Ideal) ℓ) (c : Dev nD)

/-- A window that is the whole array places every index at itself. -/
theorem emb_all {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin grid0.N) (i : s.Idx) :
    ((Pipeline.Window.whole arr isOut sync stage sem harr hstage).blk t).view.emb i = arr.view.emb i := by
  refine congrArg arr.view.emb (funext fun a => Fin.ext ?_)
  simp
  exact .inl rfl

/-- The arguments of the program on device `c`. -/
def args : Ins Ideal :=
  ⟨m ((c : Thread nD τ).loc main_arg0), m ((c : Thread nD τ).loc main_arg1),
    ⟨m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11)⟩,
    ⟨m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩,
    ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31)⟩⟩

set_option maxHeartbeats 4000000 in
/-- The buffers of the inputs hold the arguments. -/
theorem ins_eq (t : Fin cfg0.N) : insAt m c t = args m c := by
  simp only [insAt, args, Ins.mk.injEq, Vals.mk.injEq]
  refine ⟨?_, ?_, ⟨?_, ?_, ?_, ?_, ?_, ?_, ?_, ?_, ?_, ?_⟩, ⟨?_, ?_, ?_, ?_, ?_, ?_, ?_, ?_, ?_, ?_⟩, ?_, ?_, ?_, ?_, ?_, ?_, ?_, ?_, ?_, ?_⟩
  all_goals
    funext i
    blk_simp [iblk, V]
    exact congrArg _ (emb_all _ _ _ _ _ _ _ t i)

/-- The one point. -/
abbrev only : Fin cfg0.N := ⟨0, by decide⟩

theorem only_eq (t : Fin cfg0.N) : t = only := Fin.ext (by have := lt_of_lt_of_eq t.isLt N_0; show t.val = 0; omega)

/-- What the kernel leaves in its results. -/
def outs : Outs Ideal := left c (refs only) (args m c)

theorem outs_eq (t : Fin cfg0.N) : outsAt m c t = outs m c := by
  rw [only_eq t, outs, ← ins_eq m c only]; rfl

attribute [local irreducible] outsAt outs

theorem arr_loss : (dats m 0 c).arrAt 32 (cfgs 0).N = (outs m c).loss := by
  refine (dats m 0 c).arrAt_eq_of_covers _ _ (by decide +kernel) fun t _ i => ?_
  blk_simp
  exact (congrFun (congrArg Outs.loss (outs_eq m c t)) i).trans (congrArg (outs m c).loss (emb_all _ _ _ _ _ _ _ t i).symm)

set_option maxHeartbeats 2000000 in
/-- The arrays of the gradients end as the body leaves them. -/
theorem arr_g : (dats m 0 c).arrAt 33 (cfgs 0).N = (outs m c).g.pool ∧ (dats m 0 c).arrAt 34 (cfgs 0).N = (outs m c).g.sgu ∧ (dats m 0 c).arrAt 35 (cfgs 0).N = (outs m c).g.scale ∧ (dats m 0 c).arrAt 36 (cfgs 0).N = (outs m c).g.gain ∧ (dats m 0 c).arrAt 37 (cfgs 0).N = (outs m c).g.bias ∧ (dats m 0 c).arrAt 38 (cfgs 0).N = (outs m c).g.gate ∧ (dats m 0 c).arrAt 39 (cfgs 0).N = (outs m c).g.n1 ∧ (dats m 0 c).arrAt 40 (cfgs 0).N = (outs m c).g.n2 ∧ (dats m 0 c).arrAt 41 (cfgs 0).N = (outs m c).g.n3 ∧ (dats m 0 c).arrAt 42 (cfgs 0).N = (outs m c).g.n4 := by
  refine ⟨?_, ?_, ?_, ?_, ?_, ?_, ?_, ?_, ?_, ?_⟩
  all_goals
    refine (dats m 0 c).arrAt_eq_of_covers _ _ (by decide +kernel) fun t _ i => ?_
    blk_simp
    rw [← outs_eq m c t]
    exact congrArg _ (emb_all _ _ _ _ _ _ _ t i).symm

set_option maxHeartbeats 2000000 in
/-- The arrays of the changes end as the body leaves them. -/
theorem arr_d : (dats m 0 c).arrAt 43 (cfgs 0).N = (outs m c).d.pool ∧ (dats m 0 c).arrAt 44 (cfgs 0).N = (outs m c).d.sgu ∧ (dats m 0 c).arrAt 45 (cfgs 0).N = (outs m c).d.scale ∧ (dats m 0 c).arrAt 46 (cfgs 0).N = (outs m c).d.gain ∧ (dats m 0 c).arrAt 47 (cfgs 0).N = (outs m c).d.bias ∧ (dats m 0 c).arrAt 48 (cfgs 0).N = (outs m c).d.gate ∧ (dats m 0 c).arrAt 49 (cfgs 0).N = (outs m c).d.n1 ∧ (dats m 0 c).arrAt 50 (cfgs 0).N = (outs m c).d.n2 ∧ (dats m 0 c).arrAt 51 (cfgs 0).N = (outs m c).d.n3 ∧ (dats m 0 c).arrAt 52 (cfgs 0).N = (outs m c).d.n4 := by
  refine ⟨?_, ?_, ?_, ?_, ?_, ?_, ?_, ?_, ?_, ?_⟩
  all_goals
    refine (dats m 0 c).arrAt_eq_of_covers _ _ (by decide +kernel) fun t _ i => ?_
    blk_simp
    rw [← outs_eq m c t]
    exact congrArg _ (emb_all _ _ _ _ _ _ _ t i).symm

set_option maxHeartbeats 2000000 in
/-- The arrays of the first moments end as the body leaves them. -/
theorem arr_mo : (dats m 0 c).arrAt 53 (cfgs 0).N = (outs m c).mo.pool ∧ (dats m 0 c).arrAt 54 (cfgs 0).N = (outs m c).mo.sgu ∧ (dats m 0 c).arrAt 55 (cfgs 0).N = (outs m c).mo.scale ∧ (dats m 0 c).arrAt 56 (cfgs 0).N = (outs m c).mo.gain ∧ (dats m 0 c).arrAt 57 (cfgs 0).N = (outs m c).mo.bias ∧ (dats m 0 c).arrAt 58 (cfgs 0).N = (outs m c).mo.gate ∧ (dats m 0 c).arrAt 59 (cfgs 0).N = (outs m c).mo.n1 ∧ (dats m 0 c).arrAt 60 (cfgs 0).N = (outs m c).mo.n2 ∧ (dats m 0 c).arrAt 61 (cfgs 0).N = (outs m c).mo.n3 ∧ (dats m 0 c).arrAt 62 (cfgs 0).N = (outs m c).mo.n4 := by
  refine ⟨?_, ?_, ?_, ?_, ?_, ?_, ?_, ?_, ?_, ?_⟩
  all_goals
    refine (dats m 0 c).arrAt_eq_of_covers _ _ (by decide +kernel) fun t _ i => ?_
    blk_simp
    rw [← outs_eq m c t]
    exact congrArg _ (emb_all _ _ _ _ _ _ _ t i).symm

set_option maxHeartbeats 2000000 in
/-- The arrays of the second moments end as the body leaves them. -/
theorem arr_vo : (dats m 0 c).arrAt 63 (cfgs 0).N = (outs m c).vo.pool ∧ (dats m 0 c).arrAt 64 (cfgs 0).N = (outs m c).vo.sgu ∧ (dats m 0 c).arrAt 65 (cfgs 0).N = (outs m c).vo.scale ∧ (dats m 0 c).arrAt 66 (cfgs 0).N = (outs m c).vo.gain ∧ (dats m 0 c).arrAt 67 (cfgs 0).N = (outs m c).vo.bias ∧ (dats m 0 c).arrAt 68 (cfgs 0).N = (outs m c).vo.gate ∧ (dats m 0 c).arrAt 69 (cfgs 0).N = (outs m c).vo.n1 ∧ (dats m 0 c).arrAt 70 (cfgs 0).N = (outs m c).vo.n2 ∧ (dats m 0 c).arrAt 71 (cfgs 0).N = (outs m c).vo.n3 ∧ (dats m 0 c).arrAt 72 (cfgs 0).N = (outs m c).vo.n4 := by
  refine ⟨?_, ?_, ?_, ?_, ?_, ?_, ?_, ?_, ?_, ?_⟩
  all_goals
    refine (dats m 0 c).arrAt_eq_of_covers _ _ (by decide +kernel) fun t _ i => ?_
    blk_simp
    rw [← outs_eq m c t]
    exact congrArg _ (emb_all _ _ _ _ _ _ _ t i).symm

end Cert.Kernel6Ideal.Small

end
-- ==== Proof.SmallStores.lean ====
/- What the body of the small parameters' optimiser stores: of each parameter the devices' sum and the optimiser's step of it. -/
module

public import proofs.«01_k».proof.Proof.SmallData
public import proofs.«01_k».proof.Proof.Adam

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic Idealize.SL.Sem
open Idealize.ShloMosaic.Pipeline (Dat Cfg Window BodyObligation cellOf)
open Cert.Adam (word first second change)

/-! ## The step, array by array -/

section Step

variable {s : Shape} (w g u a b : FVec Ideal s .f32)

/-- The first moments after the step. -/
def firstV : FVec Ideal s .f32 :=
  addf (mulf (broadcast s (Scalar.ofBits .f32 0x3F666666#32)) u) (mulf (broadcast s (Scalar.ofBits .f32 0x3DCCCCCD#32)) g)

/-- The second moments after the step. -/
def secondV : FVec Ideal s .f32 :=
  addf (mulf (broadcast s (Scalar.ofBits .f32 0x3F7FBE77#32)) u) (mulf (broadcast s (Scalar.ofBits .f32 0x3A83126F#32)) (mulf g g))

/-- The changes of the weights. -/
def changeV : FVec Ideal s .f32 :=
  mulf (broadcast s (Scalar.ofBits .f32 0xBA83126F#32))
    (addf (divf (divf a (broadcast s (Scalar.ofBits .f32 0x3F26BD02#32)))
        (addf (sqrt (divf b (broadcast s (Scalar.ofBits .f32 0x3C231ACC#32)))) (broadcast s (Scalar.ofBits .f32 0x322BCC77#32))))
      (mulf (broadcast s (Scalar.ofBits .f32 0x3C23D70A#32)) w))

theorem firstV_at (i : s.Idx) : firstV g u i = first (g i) (u i) := rfl
theorem secondV_at (i : s.Idx) : secondV g u i = second (g i) (u i) := rfl
theorem changeV_at (i : s.Idx) : changeV w a b i = change (w i) (a i) (b i) := rfl

end Step

/-- A load of the rectangle of sizes `size` at `off`, from a buffer that holds `x`. -/
def rd {s : Shape} {e : EltTy} (M : Memref sig .tc .vmem s e) (h : M.IsWhole) (x : Vec Ideal s e) (off size : Fin s.rank → ℕ)
    (inb : ∀ a, off a + size a ≤ s.size a) : (Rect.unit off size inb).shape.Idx → Elt Ideal e :=
  View.readAt (Elt Ideal) M.view (Rect.unit off size inb).toLoadRect (h.unread x)

/-! ## The blocks of the two square parameters -/

theorem inb_mats (d k : Fin 8) : ∀ a, (![d.val, k.val, 0, 0] : Fin 4 → ℕ) a + S1x1x128x128.size a ≤ S8x8x128x128.size a := by
  decide +revert

theorem inb_four (k : Fin 4) : ∀ a, (![0, k.val, 0, 0] : Fin 4 → ℕ) a + S1x1x128x128.size a ≤ S1x4x128x128.size a := by
  decide +revert

theorem inb_vecs (d : Fin 8) : ∀ a, (![d.val, 0, 0] : Fin 3 → ℕ) a + S1x16x1024.size a ≤ S8x16x1024.size a := by
  decide +revert

/-- One block of a square parameter. -/
def part (M : Memref sig .tc .vmem S1x4x128x128 .f32) (h : M.IsWhole) (x : Vec Ideal S1x4x128x128 .f32) (k : Fin 4) : FVec Ideal S128x128 .f32 :=
  shapeCast S128x128 (rd M h x ![0, k.val, 0, 0] S1x1x128x128.size (inb_four k)) shapeCasts_S1x1x128x128_S128x128

/-- Four stores, one for each block. -/
def four (y : Fin 4 → FVec Ideal S128x128 .f32) : List (View.Piece (Elt Ideal) S1x4x128x128 .f32) :=
  [⟨Rect.unit ![0, 3, 0, 0] ![1, 1, 128, 128] (inb_four 3), shapeCast S1x1x128x128 (y 3) shapeCasts_S128x128_S1x1x128x128⟩,
    ⟨Rect.unit ![0, 2, 0, 0] ![1, 1, 128, 128] (inb_four 2), shapeCast S1x1x128x128 (y 2) shapeCasts_S128x128_S1x1x128x128⟩,
    ⟨Rect.unit ![0, 1, 0, 0] ![1, 1, 128, 128] (inb_four 1), shapeCast S1x1x128x128 (y 1) shapeCasts_S128x128_S1x1x128x128⟩,
    ⟨Rect.unit ![0, 0, 0, 0] ![1, 1, 128, 128] (inb_four 0), shapeCast S1x1x128x128 (y 0) shapeCasts_S128x128_S1x1x128x128⟩]

/-- A block's place in its parameter. -/
theorem four_emb (k : Fin 4) (x : S1x1x128x128.Idx) :
    (Rect.unit (s := S1x4x128x128) ![0, k.val, 0, 0] ![1, 1, 128, 128] (inb_four k)).emb x = ix4 0 k (x 2) (x 3) := by
  funext a
  refine Fin.ext ?_
  rw [ValueKit.rect_emb_unit_val]
  have h0 : (x 0 : ℕ) < 1 := (x 0).isLt
  have h1 : (x 1 : ℕ) < 1 := (x 1).isLt
  fin_cases a
  · show 0 + (x 0 : ℕ) = 0; omega
  · show k.val + (x 1 : ℕ) = k.val; omega
  · exact Nat.zero_add _
  · exact Nat.zero_add _

/-- A block as it is stored. -/
theorem four_piece (y : Fin 4 → FVec Ideal S128x128 .f32) (k : Fin 4) (x : S1x1x128x128.Idx) :
    shapeCast S1x1x128x128 (y k) shapeCasts_S128x128_S1x1x128x128 x
      = (fun q : S1x4x128x128.Idx => y (q 1) (ix2 (q 2) (q 3)))
        ((Rect.unit (s := S1x4x128x128) ![0, k.val, 0, 0] ![1, 1, 128, 128] (inb_four k)).emb x) := by
  rw [four_emb]
  obtain ⟨i, j, rfl⟩ : ∃ i j, x = ix4 0 0 i j := ⟨x 2, x 3, (eq_ix4 x).trans (by
    rw [show x 0 = (0 : Fin 1) from Subsingleton.elim (α := Fin 1) _ _, show x 1 = (0 : Fin 1) from Subsingleton.elim (α := Fin 1) _ _])⟩
  pointwise

/-- What four stores leave. -/
theorem four_at (y : Fin 4 → FVec Ideal S128x128 .f32) (q : S1x4x128x128.Idx) : View.canon (four y) q = y (q 1) (ix2 (q 2) (q 3)) := by
  refine View.canon_apply_of_pieces (fun q : S1x4x128x128.Idx => y (q 1) (ix2 (q 2) (q 3))) (four y) ?_ q
    (View.cover_of_tiledBy _ ![1, 1, 128, 128] (by sl_kernel_rfl) q)
  simp only [four, List.forall_mem_cons]
  exact ⟨four_piece y 3, four_piece y 2, four_piece y 1, four_piece y 0, fun _ h => nomatch h⟩

variable (c : Dev nD) (R : Buffers) (X : Ins Ideal)

/-- Device `d`'s part of matrix `k`, and the sum of the parts in the devices' order. -/
def matPart (k d : Fin 8) : FVec Ideal S128x128 .f32 :=
  shapeCast S128x128 (rd R.mats R.hmats X.mats ![d.val, k.val, 0, 0] S1x1x128x128.size (inb_mats d k)) shapeCasts_S1x1x128x128_S128x128

def matSum (k : Fin 8) : FVec Ideal S128x128 .f32 :=
  let p := matPart R X k
  addf (addf (addf (addf (addf (addf (addf (p 0) (p 1)) (p 2)) (p 3)) (p 4)) (p 5)) (p 6)) (p 7)

/-! ## The rows -/

/-- Device `d`'s rows, and the sum of the rows in the devices' order. -/
def vecPart (d : Fin 8) : FVec Ideal S16x1024 .f32 :=
  shapeCast S16x1024 (rd R.vecs R.hvecs X.vecs ![d.val, 0, 0] S1x16x1024.size (inb_vecs d)) shapeCasts_S1x16x1024_S16x1024

def vecSum : FVec Ideal S16x1024 .f32 :=
  let p := vecPart R X
  addf (addf (addf (addf (addf (addf (addf (p 0) (p 1)) (p 2)) (p 3)) (p 4)) (p 5)) (p 6)) (p 7)

/-- A load of the sum from where the body keeps it. -/
def kept (off size : Fin 2 → ℕ) (inb : ∀ a, off a + size a ≤ S16x1024.size a) : (Rect.unit (s := S16x1024) off size inb).shape.Idx → EReal :=
  R.total.view.readCov [(⟨Rect.unit ![0, 0] S16x1024.size inb_S16x1024_S16x1024_0_0,
    shapeCast S16x1024 (vecSum R X) shapeCasts_S16x1024_S16x1024⟩ : View.Piece (Elt Ideal) S16x1024 .f32)] (Rect.unit (s := S16x1024) off size inb).toLoadRect

/-- The stores of `gate`. -/
theorem stores_gate : (run c R X).1.g.gate = [⟨Rect.unit ![0, 0, 0] ![1, 4, 128] inb_S1x4x128_S1x4x128_0_0_0, shapeCast S1x4x128 (kept R X ![3, 0] S4x128.size inb_S16x1024_S4x128_3_0) shapeCasts_S4x128_S1x4x128⟩] ∧
    (run c R X).1.d.gate = [⟨Rect.unit ![0, 0, 0] ![1, 4, 128] inb_S1x4x128_S1x4x128_0_0_0, shapeCast S1x4x128 (changeV (s := S4x128) (shapeCast S4x128 (rd R.w.gate R.w.hgate X.w.gate ![0, 0, 0] S1x4x128.size inb_S1x4x128_S1x4x128_0_0_0) shapeCasts_S1x4x128_S4x128) (firstV (s := S4x128) (kept R X ![3, 0] S4x128.size inb_S16x1024_S4x128_3_0) (shapeCast S4x128 (rd R.m.gate R.m.hgate X.m.gate ![0, 0, 0] S1x4x128.size inb_S1x4x128_S1x4x128_0_0_0) shapeCasts_S1x4x128_S4x128)) (secondV (s := S4x128) (kept R X ![3, 0] S4x128.size inb_S16x1024_S4x128_3_0) (shapeCast S4x128 (rd R.v.gate R.v.hgate X.v.gate ![0, 0, 0] S1x4x128.size inb_S1x4x128_S1x4x128_0_0_0) shapeCasts_S1x4x128_S4x128))) shapeCasts_S4x128_S1x4x128⟩] ∧
    (run c R X).1.mo.gate = [⟨Rect.unit ![0, 0, 0] ![1, 4, 128] inb_S1x4x128_S1x4x128_0_0_0, shapeCast S1x4x128 (firstV (s := S4x128) (kept R X ![3, 0] S4x128.size inb_S16x1024_S4x128_3_0) (shapeCast S4x128 (rd R.m.gate R.m.hgate X.m.gate ![0, 0, 0] S1x4x128.size inb_S1x4x128_S1x4x128_0_0_0) shapeCasts_S1x4x128_S4x128)) shapeCasts_S4x128_S1x4x128⟩] ∧
    (run c R X).1.vo.gate = [⟨Rect.unit ![0, 0, 0] ![1, 4, 128] inb_S1x4x128_S1x4x128_0_0_0, shapeCast S1x4x128 (secondV (s := S4x128) (kept R X ![3, 0] S4x128.size inb_S16x1024_S4x128_3_0) (shapeCast S4x128 (rd R.v.gate R.v.hgate X.v.gate ![0, 0, 0] S1x4x128.size inb_S1x4x128_S1x4x128_0_0_0) shapeCasts_S1x4x128_S4x128)) shapeCasts_S4x128_S1x4x128⟩] :=
  ⟨by sl_kernel_rfl, by sl_kernel_rfl, by sl_kernel_rfl, by sl_kernel_rfl⟩

/-- The store of the loss. -/
theorem stores_loss : (run c R X).1.loss = [⟨Rect.unit ![0, 0] ![8, 128] inb_S8x128_S8x128_0_0,
    k0_pay1 (F := Ideal) (kept R X ![12, 0] S1x1024.size inb_S16x1024_S1x1024_12_0)⟩] := by sl_kernel_rfl

end Cert.Kernel6Ideal.Small

end
-- ==== Proof.SmallReference.lean ====
/- The reference of the small parameters' optimiser, line by line: the devices' sum and the step of each parameter. -/
module

public import proofs.«01_k».proof.Proof.Adam
public import proofs.«01_k».proof.Proof.Gen.Reference6Ideal.Read

@[expose] public section

set_option maxRecDepth 16384

noncomputable section

namespace Cert.Small

open Cert.Reference6Ideal Cert.Reference6Ideal.Read
open Cert.Adam (word first second change)
open Idealize.ShloMosaic Idealize.ShloMosaic.TcCoe Idealize.ShloMosaic.Tactic Idealize.SL.Sem

/-- The devices' parts of the gradients of the square parameters, and of the other parameters' rows. -/
abbrev Mats := (⟨4, ![8, 8, 128, 128]⟩ : Shape).Idx → EReal
abbrev Rows := (⟨3, ![8, 16, 1024]⟩ : Shape).Idx → EReal

/-- A square parameter's gradient: four of the eight matrices, summed over the devices. -/
def blocks (f : Fin 4 → Fin 8) (x : Mats) : (⟨4, ![1, 4, 128, 128]⟩ : Shape).Idx → EReal :=
  fun q => ∑ d : Fin 8, x (ix4 d (f (q 1)) (q 2) (q 3))

/-- The gradient of a parameter of one row. -/
def row (r : Fin 16) (n : ℕ) (h : n ≤ 1024) (x : Rows) : (⟨2, ![1, n]⟩ : Shape).Idx → EReal :=
  fun q => ∑ d : Fin 8, x (ix3 d r (Fin.castLE h (q 1)))

/-- The gradient of the gates' bias, which has four rows. -/
def gates (x : Rows) : (⟨3, ![1, 4, 128]⟩ : Shape).Idx → EReal :=
  fun q => ∑ d : Fin 8, x (ix3 d (Fin.castLE (by decide) (Fin.natAdd 3 (q 1))) (Fin.castLE (by decide : 128 ≤ 1024) (q 2)))

/-- The loss: half of the last row's sum, over the width of the model. -/
def loss (x : Rows) : EReal := Ideal.div (word 0x3F000000#32 * ∑ j : Fin 1024, ∑ d : Fin 8, x (ix3 d 12 j)) (word 0x44800000#32)

section Step

variable {s : Shape} (g w u v : s.Idx → EReal)

/-- The first and the second moments after the step, and the changes of the weights. -/
def firsts : s.Idx → EReal := fun i => first (g i) (u i)
def seconds : s.Idx → EReal := fun i => second (g i) (v i)
def changes : s.Idx → EReal := fun i => change (w i) (firsts g u i) (seconds g v i)

end Step

variable (x0 : Mats) (x1 : Rows)

/-- The reference's line for the loss. -/
theorem loss_line : val_main_v260 (F := Ideal) x1 = fun _ => loss x1 := by
  funext i
  pointwise [val_main_v260, val_main_v19, val_main_v18, val_main_v17, val_main_v16, val_main_v15, val_main_v1, val_main_cst_0,
    val_main_cst_1, val_main_cst_2, val_main_cst_3]
  rfl

/-- The reference's gradient of `pool`. -/
theorem line_pool : val_main_v3 (F := Ideal) x0 = (blocks (Fin.castLE (by decide)) x0) := by
  funext q
  obtain ⟨i, j, k, l, rfl⟩ : ∃ i j k l, q = ix4 i j k l := ⟨q 0, q 1, q 2, q 3, eq_ix4 q⟩
  obtain rfl : i = (0 : Fin 1) := Subsingleton.elim (α := Fin 1) _ _
  pointwise [val_main_v3, val_main_v2, val_main_v0, val_main_cst]
  rfl

/-- The reference's gradient of `sgu`. -/
theorem line_sgu : val_main_v5 (F := Ideal) x0 = (blocks (Fin.natAdd 4) x0) := by
  funext q
  obtain ⟨i, j, k, l, rfl⟩ : ∃ i j k l, q = ix4 i j k l := ⟨q 0, q 1, q 2, q 3, eq_ix4 q⟩
  obtain rfl : i = (0 : Fin 1) := Subsingleton.elim (α := Fin 1) _ _
  pointwise [val_main_v5, val_main_v4, val_main_v0, val_main_cst]
  rfl

/-- The reference's gradient of `scale`. -/
theorem line_scale : val_main_v6 (F := Ideal) x1 = (row 0 512 (by decide) x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v6, val_main_v1, val_main_cst_0]
  rfl

/-- The reference's gradient of `gain`. -/
theorem line_gain : val_main_v7 (F := Ideal) x1 = (row 1 512 (by decide) x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v7, val_main_v1, val_main_cst_0]
  rfl

/-- The reference's gradient of `bias`. -/
theorem line_bias : val_main_v8 (F := Ideal) x1 = (row 2 512 (by decide) x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v8, val_main_v1, val_main_cst_0]
  rfl

/-- The reference's gradient of `gate`. -/
theorem line_gate : val_main_v10 (F := Ideal) x1 = (gates x1) := by
  funext q
  obtain ⟨i, j, k, rfl⟩ : ∃ i j k, q = ix3 i j k := ⟨q 0, q 1, q 2, eq_ix3 q⟩
  obtain rfl : i = (0 : Fin 1) := Subsingleton.elim (α := Fin 1) _ _
  pointwise [val_main_v10, val_main_v9, val_main_v1, val_main_cst_0]
  rfl

/-- The reference's gradient of `n1`. -/
theorem line_n1 : val_main_v11 (F := Ideal) x1 = (row 10 1024 le_rfl x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v11, val_main_v1, val_main_cst_0]
  rfl

/-- The reference's gradient of `n2`. -/
theorem line_n2 : val_main_v12 (F := Ideal) x1 = (row 11 1024 le_rfl x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v12, val_main_v1, val_main_cst_0]
  rfl

/-- The reference's gradient of `n3`. -/
theorem line_n3 : val_main_v13 (F := Ideal) x1 = (row 8 1024 le_rfl x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v13, val_main_v1, val_main_cst_0]
  rfl

/-- The reference's gradient of `n4`. -/
theorem line_n4 : val_main_v14 (F := Ideal) x1 = (row 9 1024 le_rfl x1) := by
  funext q
  obtain ⟨i, j, rfl⟩ : ∃ i j, q = ix2 i j := ⟨q 0, q 1, eq_ix2 q⟩
  obtain rfl : i = (0 : Fin 1) := Subsingleton.elim (α := Fin 1) _ _
  pointwise [val_main_v14, val_main_v1, val_main_cst_0]
  rfl

end Cert.Small

end
-- ==== Proof.SmallValue.lean ====
/- What the body of the small parameters' optimiser leaves in its results, as functions of its arguments. -/
module

public import proofs.«01_k».proof.Proof.SmallStores
public import proofs.«01_k».proof.Proof.SmallReference
public import proofs.«01_k».proof.Proof.Layer
public import Idealize.ShloMosaic.Lib.WholeRead

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic Idealize.SL.Sem
open Idealize.ShloMosaic.Pipeline (Dat Cfg Window BodyObligation cellOf)
open Cert.Adam (word first second change)
open Cert.Small (blocks gates loss firsts seconds changes)

/-- A load of a buffer that holds `x` reads `x` where the rectangle lies. -/
theorem rd_at {s : Shape} {e : EltTy} (M : Memref sig .tc .vmem s e) (h : M.IsWhole) (x : Vec Ideal s e) (off size : Fin s.rank → ℕ)
    (inb : ∀ a, off a + size a ≤ s.size a) (j : (Rect.unit off size inb).shape.Idx) :
    rd M h x off size inb j = x ((Rect.unit off size inb).emb j) :=
  Memref.IsWhole.readAt_unread h x (Rect.unit off size inb).toLoadRect j

/-- A block and a device's rows without their leading dimensions. -/
theorem cast_block (z : FVec Ideal S1x1x128x128 .f32) (i j : Fin 128) :
    shapeCast S128x128 z shapeCasts_S1x1x128x128_S128x128 (ix2 i j) = z (ix4 0 0 i j) := by pointwise

theorem cast_rows (z : FVec Ideal S1x16x1024 .f32) (i : Fin 16) (j : Fin 1024) :
    shapeCast S16x1024 z shapeCasts_S1x16x1024_S16x1024 (ix2 i j) = z (ix3 0 i j) := by pointwise

/-- One entry of a block. -/
theorem part_at (M : Memref sig .tc .vmem S1x4x128x128 .f32) (h : M.IsWhole) (x : Vec Ideal S1x4x128x128 .f32) (k : Fin 4)
    (i j : Fin 128) : part M h x k (ix2 i j) = x (ix4 0 k i j) :=
  (cast_block _ i j).trans ((rd_at ..).trans (congrArg x (four_emb k _)))

/-- Eight arrays added from the left. -/
theorem sum_eight {s : Shape} (p : Fin 8 → FVec Ideal s .f32) (i : s.Idx) :
    addf (addf (addf (addf (addf (addf (addf (p 0) (p 1)) (p 2)) (p 3)) (p 4)) (p 5)) (p 6)) (p 7) i = ∑ d, p d i := by
  rw [Fin.sum_univ_eight]
  rfl

attribute [local irreducible] run

variable (c : Dev nD) (R : Buffers) (X : Ins Ideal)

/-- One entry of the sum of the devices' matrices. -/
theorem matSum_at (k : Fin 8) (i j : Fin 128) : matSum R X k (ix2 i j) = ∑ d : Fin 8, X.mats (ix4 d k i j) := by
  refine (sum_eight (matPart R X k) _).trans (Finset.sum_congr rfl fun d _ => (cast_block _ i j).trans ((rd_at ..).trans ?_))
  refine congrArg X.mats (funext fun a => Fin.ext ((ValueKit.rect_emb_unit_val ..).trans ?_))
  fin_cases a
  · exact Nat.add_zero _
  · exact Nat.add_zero _
  · exact Nat.zero_add _
  · exact Nat.zero_add _

/-- One entry of the sum of the devices' rows. -/
theorem vecSum_at (i : Fin 16) (j : Fin 1024) : vecSum R X (ix2 i j) = ∑ d : Fin 8, X.vecs (ix3 d i j) := by
  refine (sum_eight (vecPart R X) _).trans (Finset.sum_congr rfl fun d _ => (cast_rows _ i j).trans ((rd_at ..).trans ?_))
  refine congrArg X.vecs (funext fun a => Fin.ext ((ValueKit.rect_emb_unit_val ..).trans ?_))
  fin_cases a
  · exact Nat.add_zero _
  · exact Nat.zero_add _
  · exact Nat.zero_add _

/-- A load of the kept sum. -/
theorem kept_at (off size : Fin 2 → ℕ) (inb : ∀ a, off a + size a ≤ S16x1024.size a)
    (j : (Rect.unit (s := S16x1024) off size inb).shape.Idx) (p : Fin 16) (q : Fin 1024) (hp : off 0 + (j 0 : ℕ) = p) (hq : off 1 + (j 1 : ℕ) = q) :
    kept R X off size inb j = ∑ d : Fin 8, X.vecs (ix3 d p q) := by
  rw [← vecSum_at R X p q, kept, View.readCov_eq_canon']
  rw [View.canon_cons_unit_lit _ _ _ (by decide)]
  rw [shapeCast_self]
  refine congrArg (vecSum R X) (funext fun a => Fin.ext ?_)
  fin_cases a
  · exact (ValueKit.rect_emb_unit_val ..).trans hp
  · exact (ValueKit.rect_emb_unit_val ..).trans hq

theorem zero_two (a : Fin 2) : (![0, 0] : Fin 2 → ℕ) a = 0 := by fin_cases a <;> rfl

/-- What one store of a whole array leaves. -/
theorem whole_at {a b : ℕ} (inb : ∀ z, (![0, 0] : Fin 2 → ℕ) z + (![a, b] : Fin 2 → ℕ) z ≤ (![a, b] : Fin 2 → ℕ) z) (M : Memref sig .tc .vmem ⟨2, ![a, b]⟩ .f32)
    (h : M.IsWhole) (x : Vec Ideal ⟨2, ![a, b]⟩ .f32) : rd M h x ![0, 0] ![a, b] inb = x := by
  funext j
  refine (rd_at ..).trans (congrArg x (funext fun z => Fin.ext ?_))
  rw [ValueKit.rect_emb_unit_val]
  fin_cases z <;> exact Nat.zero_add _

/-- A row of the kept sum. -/
theorem kept_row (r : Fin 16) (n : ℕ) (h : n ≤ 1024) (inb : ∀ a, (![r.val, 0] : Fin 2 → ℕ) a + (![1, n] : Fin 2 → ℕ) a ≤ S16x1024.size a) :
    kept R X ![r.val, 0] ![1, n] inb = Cert.Small.row r n h X.vecs :=
  funext fun j => kept_at R X _ _ inb j r (Fin.castLE h (j 1))
    (by have : (j 0 : ℕ) < 1 := (j 0).isLt; show r.val + (j 0 : ℕ) = r.val; omega) (Nat.zero_add _)

/-- The lists of one whole store each of a parameter's gradient and step leave the gradient and the step. -/
theorem row_value {n : ℕ} (inb : ∀ z, (![0, 0] : Fin 2 → ℕ) z + (![1, n] : Fin 2 → ℕ) z ≤ (![1, n] : Fin 2 → ℕ) z)
    {Lg Ld Lm Lv : List (View.Piece (Elt Ideal) ⟨2, ![1, n]⟩ .f32)} {k G w u v : FVec Ideal ⟨2, ![1, n]⟩ .f32}
    {Mw Mu Mv : Memref sig .tc .vmem ⟨2, ![1, n]⟩ .f32} {hw : Mw.IsWhole} {hu : Mu.IsWhole} {hv : Mv.IsWhole}
    (h : Lg = [⟨Rect.unit ![0, 0] ![1, n] inb, k⟩] ∧
      Ld = [⟨Rect.unit ![0, 0] ![1, n] inb, changeV (s := ⟨2, ![1, n]⟩) (rd Mw hw w ![0, 0] ![1, n] inb)
        (firstV (s := ⟨2, ![1, n]⟩) k (rd Mu hu u ![0, 0] ![1, n] inb)) (secondV (s := ⟨2, ![1, n]⟩) k (rd Mv hv v ![0, 0] ![1, n] inb))⟩] ∧
      Lm = [⟨Rect.unit ![0, 0] ![1, n] inb, firstV (s := ⟨2, ![1, n]⟩) k (rd Mu hu u ![0, 0] ![1, n] inb)⟩] ∧
      Lv = [⟨Rect.unit ![0, 0] ![1, n] inb, secondV (s := ⟨2, ![1, n]⟩) k (rd Mv hv v ![0, 0] ![1, n] inb)⟩]) (e : k = G) :
    View.canon Lg = G ∧ View.canon Ld = changes G w u v ∧ View.canon Lm = firsts G u ∧ View.canon Lv = seconds G v := by
  obtain ⟨rfl, rfl, rfl, rfl⟩ := h
  subst e
  rw [whole_at, whole_at, whole_at]
  exact ⟨View.canon_cons_unit_lit _ _ _ zero_two, View.canon_cons_unit_lit _ _ _ zero_two,
    View.canon_cons_unit_lit _ _ _ zero_two, View.canon_cons_unit_lit _ _ _ zero_two⟩

/-- Four stores each of a square parameter's gradient and step leave the gradient and the step. -/
theorem blocks_value {f : Fin 4 → Fin 8} {Lg Ld Lm Lv : List (View.Piece (Elt Ideal) S1x4x128x128 .f32)} {w u v : FVec Ideal S1x4x128x128 .f32}
    {Mw Mu Mv : Memref sig .tc .vmem S1x4x128x128 .f32} {hw : Mw.IsWhole} {hu : Mu.IsWhole} {hv : Mv.IsWhole}
    (h : Lg = four (fun k => matSum R X (f k)) ∧
      Ld = four (fun k => changeV (part Mw hw w k) (firstV (matSum R X (f k)) (part Mu hu u k)) (secondV (matSum R X (f k)) (part Mv hv v k))) ∧
      Lm = four (fun k => firstV (matSum R X (f k)) (part Mu hu u k)) ∧ Lv = four (fun k => secondV (matSum R X (f k)) (part Mv hv v k))) :
    View.canon Lg = blocks f X.mats ∧ View.canon Ld = changes (blocks f X.mats) w u v ∧ View.canon Lm = firsts (blocks f X.mats) u ∧
      View.canon Lv = seconds (blocks f X.mats) v := by
  obtain ⟨rfl, rfl, rfl, rfl⟩ := h
  refine ⟨?_, ?_, ?_, ?_⟩
  all_goals
    funext q
    obtain ⟨l, k, i, j, rfl⟩ : ∃ l k i j, q = ix4 l k i j := ⟨q 0, q 1, q 2, q 3, eq_ix4 q⟩
    obtain rfl : l = (0 : Fin 1) := Subsingleton.elim (α := Fin 1) _ _
    refine (four_at _ _).trans ?_
    simp only [changeV_at, firstV_at, secondV_at, ix4_1, ix4_2, ix4_3]
    simp only [changes, firsts, seconds, blocks]
    first
      | rw [part_at, part_at, part_at, matSum_at]; rfl
      | rw [part_at, matSum_at]; rfl
      | rw [matSum_at]; rfl

/-- The results for `pool`. -/
theorem value_pool : (left c R X).g.pool = (blocks (Fin.castLE (by decide)) X.mats) ∧ (left c R X).d.pool = changes (blocks (Fin.castLE (by decide)) X.mats) X.w.pool X.m.pool X.v.pool ∧
    (left c R X).mo.pool = firsts (blocks (Fin.castLE (by decide)) X.mats) X.m.pool ∧ (left c R X).vo.pool = seconds (blocks (Fin.castLE (by decide)) X.mats) X.v.pool :=
  blocks_value R X (hw := R.w.hpool) (hu := R.m.hpool) (hv := R.v.hpool)
    ⟨by sl_kernel_rfl, by sl_kernel_rfl, by sl_kernel_rfl, by sl_kernel_rfl⟩

/-- The results for `sgu`. -/
theorem value_sgu : (left c R X).g.sgu = (blocks (Fin.natAdd 4) X.mats) ∧ (left c R X).d.sgu = changes (blocks (Fin.natAdd 4) X.mats) X.w.sgu X.m.sgu X.v.sgu ∧
    (left c R X).mo.sgu = firsts (blocks (Fin.natAdd 4) X.mats) X.m.sgu ∧ (left c R X).vo.sgu = seconds (blocks (Fin.natAdd 4) X.mats) X.v.sgu :=
  blocks_value R X (hw := R.w.hsgu) (hu := R.m.hsgu) (hv := R.v.hsgu)
    ⟨by sl_kernel_rfl, by sl_kernel_rfl, by sl_kernel_rfl, by sl_kernel_rfl⟩

/-- The results for `scale`. -/
theorem value_scale : (left c R X).g.scale = (Cert.Small.row 0 512 (by decide) X.vecs) ∧ (left c R X).d.scale = changes (Cert.Small.row 0 512 (by decide) X.vecs) X.w.scale X.m.scale X.v.scale ∧
    (left c R X).mo.scale = firsts (Cert.Small.row 0 512 (by decide) X.vecs) X.m.scale ∧ (left c R X).vo.scale = seconds (Cert.Small.row 0 512 (by decide) X.vecs) X.v.scale :=
  row_value inb_S1x512_S1x512_0_0 (k := kept R X ![0, 0] S1x512.size inb_S16x1024_S1x512_0_0) (hw := R.w.hscale) (hu := R.m.hscale) (hv := R.v.hscale)
    ⟨by sl_kernel_rfl, by sl_kernel_rfl, by sl_kernel_rfl, by sl_kernel_rfl⟩ (kept_row R X 0 512 (by decide) _)

/-- The results for `gain`. -/
theorem value_gain : (left c R X).g.gain = (Cert.Small.row 1 512 (by decide) X.vecs) ∧ (left c R X).d.gain = changes (Cert.Small.row 1 512 (by decide) X.vecs) X.w.gain X.m.gain X.v.gain ∧
    (left c R X).mo.gain = firsts (Cert.Small.row 1 512 (by decide) X.vecs) X.m.gain ∧ (left c R X).vo.gain = seconds (Cert.Small.row 1 512 (by decide) X.vecs) X.v.gain :=
  row_value inb_S1x512_S1x512_0_0 (k := kept R X ![1, 0] S1x512.size inb_S16x1024_S1x512_1_0) (hw := R.w.hgain) (hu := R.m.hgain) (hv := R.v.hgain)
    ⟨by sl_kernel_rfl, by sl_kernel_rfl, by sl_kernel_rfl, by sl_kernel_rfl⟩ (kept_row R X 1 512 (by decide) _)

/-- The results for `bias`. -/
theorem value_bias : (left c R X).g.bias = (Cert.Small.row 2 512 (by decide) X.vecs) ∧ (left c R X).d.bias = changes (Cert.Small.row 2 512 (by decide) X.vecs) X.w.bias X.m.bias X.v.bias ∧
    (left c R X).mo.bias = firsts (Cert.Small.row 2 512 (by decide) X.vecs) X.m.bias ∧ (left c R X).vo.bias = seconds (Cert.Small.row 2 512 (by decide) X.vecs) X.v.bias :=
  row_value inb_S1x512_S1x512_0_0 (k := kept R X ![2, 0] S1x512.size inb_S16x1024_S1x512_2_0) (hw := R.w.hbias) (hu := R.m.hbias) (hv := R.v.hbias)
    ⟨by sl_kernel_rfl, by sl_kernel_rfl, by sl_kernel_rfl, by sl_kernel_rfl⟩ (kept_row R X 2 512 (by decide) _)

/-- The results for `n1`. -/
theorem value_n1 : (left c R X).g.n1 = (Cert.Small.row 10 1024 le_rfl X.vecs) ∧ (left c R X).d.n1 = changes (Cert.Small.row 10 1024 le_rfl X.vecs) X.w.n1 X.m.n1 X.v.n1 ∧
    (left c R X).mo.n1 = firsts (Cert.Small.row 10 1024 le_rfl X.vecs) X.m.n1 ∧ (left c R X).vo.n1 = seconds (Cert.Small.row 10 1024 le_rfl X.vecs) X.v.n1 :=
  row_value inb_S1x1024_S1x1024_0_0 (k := kept R X ![10, 0] S1x1024.size inb_S16x1024_S1x1024_10_0) (hw := R.w.hn1) (hu := R.m.hn1) (hv := R.v.hn1)
    ⟨by sl_kernel_rfl, by sl_kernel_rfl, by sl_kernel_rfl, by sl_kernel_rfl⟩ (kept_row R X 10 1024 (by decide) _)

/-- The results for `n2`. -/
theorem value_n2 : (left c R X).g.n2 = (Cert.Small.row 11 1024 le_rfl X.vecs) ∧ (left c R X).d.n2 = changes (Cert.Small.row 11 1024 le_rfl X.vecs) X.w.n2 X.m.n2 X.v.n2 ∧
    (left c R X).mo.n2 = firsts (Cert.Small.row 11 1024 le_rfl X.vecs) X.m.n2 ∧ (left c R X).vo.n2 = seconds (Cert.Small.row 11 1024 le_rfl X.vecs) X.v.n2 :=
  row_value inb_S1x1024_S1x1024_0_0 (k := kept R X ![11, 0] S1x1024.size inb_S16x1024_S1x1024_11_0) (hw := R.w.hn2) (hu := R.m.hn2) (hv := R.v.hn2)
    ⟨by sl_kernel_rfl, by sl_kernel_rfl, by sl_kernel_rfl, by sl_kernel_rfl⟩ (kept_row R X 11 1024 (by decide) _)

/-- The results for `n3`. -/
theorem value_n3 : (left c R X).g.n3 = (Cert.Small.row 8 1024 le_rfl X.vecs) ∧ (left c R X).d.n3 = changes (Cert.Small.row 8 1024 le_rfl X.vecs) X.w.n3 X.m.n3 X.v.n3 ∧
    (left c R X).mo.n3 = firsts (Cert.Small.row 8 1024 le_rfl X.vecs) X.m.n3 ∧ (left c R X).vo.n3 = seconds (Cert.Small.row 8 1024 le_rfl X.vecs) X.v.n3 :=
  row_value inb_S1x1024_S1x1024_0_0 (k := kept R X ![8, 0] S1x1024.size inb_S16x1024_S1x1024_8_0) (hw := R.w.hn3) (hu := R.m.hn3) (hv := R.v.hn3)
    ⟨by sl_kernel_rfl, by sl_kernel_rfl, by sl_kernel_rfl, by sl_kernel_rfl⟩ (kept_row R X 8 1024 (by decide) _)

/-- The results for `n4`. -/
theorem value_n4 : (left c R X).g.n4 = (Cert.Small.row 9 1024 le_rfl X.vecs) ∧ (left c R X).d.n4 = changes (Cert.Small.row 9 1024 le_rfl X.vecs) X.w.n4 X.m.n4 X.v.n4 ∧
    (left c R X).mo.n4 = firsts (Cert.Small.row 9 1024 le_rfl X.vecs) X.m.n4 ∧ (left c R X).vo.n4 = seconds (Cert.Small.row 9 1024 le_rfl X.vecs) X.v.n4 :=
  row_value inb_S1x1024_S1x1024_0_0 (k := kept R X ![9, 0] S1x1024.size inb_S16x1024_S1x1024_9_0) (hw := R.w.hn4) (hu := R.m.hn4) (hv := R.v.hn4)
    ⟨by sl_kernel_rfl, by sl_kernel_rfl, by sl_kernel_rfl, by sl_kernel_rfl⟩ (kept_row R X 9 1024 (by decide) _)

/-- The gates' bias as it is loaded, and as it is stored. -/
theorem gate_rd (M : Memref sig .tc .vmem S1x4x128 .f32) (h : M.IsWhole) (x : Vec Ideal S1x4x128 .f32) (i : Fin 4) (j : Fin 128) :
    shapeCast S4x128 (rd M h x ![0, 0, 0] S1x4x128.size inb_S1x4x128_S1x4x128_0_0_0) shapeCasts_S1x4x128_S4x128 (ix2 i j) = x (ix3 0 i j) := by
  have e (z : FVec Ideal S1x4x128 .f32) : shapeCast S4x128 z shapeCasts_S1x4x128_S4x128 (ix2 i j) = z (ix3 0 i j) := by pointwise
  refine (e _).trans ((rd_at ..).trans (congrArg x (funext fun a => Fin.ext ((ValueKit.rect_emb_unit_val ..).trans ?_))))
  fin_cases a <;> exact Nat.zero_add _

theorem gate_at (y : FVec Ideal S4x128 .f32) (q : S1x4x128.Idx) :
    View.canon [(⟨Rect.unit ![0, 0, 0] ![1, 4, 128] inb_S1x4x128_S1x4x128_0_0_0, shapeCast S1x4x128 y shapeCasts_S4x128_S1x4x128⟩ :
      View.Piece (Elt Ideal) S1x4x128 .f32)] q = y (ix2 (q 1) (q 2)) := by
  refine (congrFun (View.canon_cons_unit_lit _ _ _ (by decide)) q).trans ?_
  obtain ⟨l, i, j, rfl⟩ : ∃ l i j, q = ix3 l i j := ⟨q 0, q 1, q 2, eq_ix3 q⟩
  obtain rfl : l = (0 : Fin 1) := Subsingleton.elim (α := Fin 1) _ _
  pointwise

theorem kept_gate (i : Fin 4) (j : Fin 128) :
    kept R X ![3, 0] S4x128.size inb_S16x1024_S4x128_3_0 (ix2 i j) = gates X.vecs (ix3 0 i j) :=
  kept_at R X _ _ _ _ (Fin.castLE (by decide) (Fin.natAdd 3 i)) (Fin.castLE (by decide) j) rfl (Nat.zero_add _)

/-- The results for `gate`. -/
theorem value_gate : (left c R X).g.gate = (gates X.vecs) ∧ (left c R X).d.gate = changes (gates X.vecs) X.w.gate X.m.gate X.v.gate ∧
    (left c R X).mo.gate = firsts (gates X.vecs) X.m.gate ∧ (left c R X).vo.gate = seconds (gates X.vecs) X.v.gate := by
  obtain ⟨h1, h2, h3, h4⟩ := stores_gate c R X
  refine ⟨(congrArg View.canon h1).trans ?_, (congrArg View.canon h2).trans ?_, (congrArg View.canon h3).trans ?_,
    (congrArg View.canon h4).trans ?_⟩
  all_goals
    funext q
    obtain ⟨l, i, j, rfl⟩ : ∃ l i j, q = ix3 l i j := ⟨q 0, q 1, q 2, eq_ix3 q⟩
    obtain rfl : l = (0 : Fin 1) := Subsingleton.elim (α := Fin 1) _ _
    refine (gate_at _ _).trans ?_
    simp only [changeV_at, firstV_at, secondV_at, ix3_1, ix3_2, changes, firsts, seconds]
    first
      | rw [gate_rd, gate_rd, gate_rd, kept_gate]
      | rw [gate_rd, kept_gate]
      | rw [kept_gate]

/-- The kernel scales the last row's sum by one factor where the reference halves it and divides by the width. -/
theorem loss_scale (s : EReal) : s * word 0x3A000000#32 = Ideal.div (word 0x3F000000#32 * s) (word 0x44800000#32) := by
  have h1 : word 0x3A000000#32 = ((1 / 2048 : ℝ) : EReal) := by
    show Ideal.ofBits .f32 0x3A000000#32 = _
    simp [Ideal.ofBits, Ideal.ieee, -EReal.coe_mul]; norm_num
  rw [h1, show word 0x3F000000#32 = _ from Cert.Layer.bits_half, show word 0x44800000#32 = _ from Cert.Layer.bits_width,
    Ideal.div_coe (by norm_num), mul_comm _ s, mul_assoc, ← EReal.coe_mul]
  norm_num

/-- The result for the loss. -/
theorem value_loss : (left c R X).loss = fun _ => loss X.vecs := by
  refine (congrArg View.canon (stores_loss c R X)).trans ((View.canon_cons_unit_lit _ _ _ zero_two).trans (funext fun q => ?_))
  have e (z : FVec Ideal S1x1024 .f32) : k0_pay1 (F := Ideal) z q = (∑ j : Fin 1024, z (ix2 0 j)) * word 0x3A000000#32 := by
    pointwise [k0_pay1]
    try rfl
  refine (e _).trans ((loss_scale _).trans ?_)
  exact congrArg (fun z : FVec Ideal S1x1024 .f32 => Ideal.div (word 0x3F000000#32 * ∑ j : Fin 1024, z (ix2 0 j)) (word 0x44800000#32))
    (kept_row R X 12 1024 le_rfl inb_S16x1024_S1x1024_12_0)

end Cert.Kernel6Ideal.Small

end
-- ==== Proof.SmallFrame.lean ====
/- The frame of the small parameters' optimiser: the body's obligation, and that its arguments end unchanged. -/
module

public import proofs.«01_k».proof.Proof.SmallData

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The type of the assertions about the machine. -/
local notation "𝕄" => MT nD τ sig Unit (Elt F) ℕ (UR sig nD τ) ℕ

variable (m : (ℓ : Loc nD τ sig) → Buf (Elt F) ℓ) (ρ : Dev nD → PrngReg)

/-! ## The body at a point -/

/-- A buffer with the contents `x`. -/
abbrev own (c : Dev nD) {s : Shape} {e : EltTy} (M : Memref sig .tc .vmem s e) (x : Vec F s e) : sProp 𝕄 :=
  owns (c : Thread nD τ) M fullShare x

/-- A buffer with some contents. -/
abbrev some_ (c : Dev nD) {s : Shape} {e : EltTy} (M : Memref sig .tc .vmem s e) : sProp 𝕄 := iprop(∃ d, own c M d)

/-- A whole buffer that is owned holds its contents, -/
theorem at_of_own (c : Dev nD) {s : Shape} {e : EltTy} (M : Memref sig .tc .vmem s e) (h : M.IsWhole) (x : Vec F s e) :
    (own c M x : sProp 𝕄) ⊢ at_ c M h x := by
  unfold own owns at_
  iintro ⟨%f, %hf, H⟩
  obtain rfl := h.eq_unread hf
  iexact H

/-- and the other way round. -/
theorem own_of_at (c : Dev nD) {s : Shape} {e : EltTy} (M : Memref sig .tc .vmem s e) (h : M.IsWhole) (x : Vec F s e) :
    (at_ c M h x : sProp 𝕄) ⊢ own c M x := by
  unfold own owns at_
  iintro H
  iexists _; isplitr
  swap; · iexact H
  ipureintro; exact h.read_unread _

/-- An input's buffer holds its contents, whatever the region kept there. -/
theorem at_of_input (c : Dev nD) {s : Shape} {e : EltTy} {β : Type} (M : Memref sig .tc .vmem s e) (h : M.IsWhole) (x : Vec F s e) (f : β → Vec F s e)
    (hf : ∀ b, f b = x) : iprop(∃ b, own c M (f b)) ⊢ (at_ c M h x : sProp 𝕄) := by
  iintro ⟨%b, H⟩
  rw [hf b]
  iapply (at_of_own c M h x); iexact H

/-- A result's buffer holds something. -/
theorem some_of_any (c : Dev nD) {s : Shape} {e : EltTy} {β : Type} (M : Memref sig .tc .vmem s e) (f : β → Vec F s e) :
    iprop(∃ b, own c M (f b)) ⊢ some_ c M := by
  iintro ⟨%b, H⟩
  iexists _; iexact H

/-- A buffer at covering stores holds their contents. -/
theorem own_of_over (c : Dev nD) {s : Shape} {e : EltTy} (M : Memref sig .tc .vmem s e) (h : M.IsWhole) (x : Vec F s e)
    (L : List (View.Piece (Elt F) s e)) (hL : ∀ y : s.Idx, ∃ p ∈ L, y ∈ p.1.set) : (over c M h x L : sProp 𝕄) ⊢ own c M (View.canon L) := by
  unfold over own owns
  iintro H
  iexists _; isplitr
  swap; · iexact H
  ipureintro; exact View.read_writes_eq_canon _ _ _ hL

/-- A buffer at any stores holds something. -/
theorem some_of_over (c : Dev nD) {s : Shape} {e : EltTy} (M : Memref sig .tc .vmem s e) (h : M.IsWhole) (x : Vec F s e)
    (L : List (View.Piece (Elt F) s e)) : (over c M h x L : sProp 𝕄) ⊢ some_ c M := by
  unfold over some_ own owns
  iintro H
  iexists _; iexists _; isplitr
  swap; · iexact H
  ipureintro; rfl

/-- Ten results' buffers have ten contents. -/
theorem ten_any (c : Dev nD) (R : Refs) {β0 β1 β2 β3 β4 β5 β6 β7 β8 β9 : Type} {f0 : β0 → _} {f1 : β1 → _} {f2 : β2 → _} {f3 : β3 → _} {f4 : β4 → _} {f5 : β5 → _} {f6 : β6 → _} {f7 : β7 → _} {f8 : β8 → _} {f9 : β9 → _} :
    iprop((∃ b, own (F := F) c R.pool (f0 b)) ∗ (∃ b, own (F := F) c R.sgu (f1 b)) ∗ (∃ b, own (F := F) c R.scale (f2 b)) ∗ (∃ b, own (F := F) c R.gain (f3 b)) ∗ (∃ b, own (F := F) c R.bias (f4 b)) ∗ (∃ b, own (F := F) c R.gate (f5 b)) ∗ (∃ b, own (F := F) c R.n1 (f6 b)) ∗ (∃ b, own (F := F) c R.n2 (f7 b)) ∗ (∃ b, own (F := F) c R.n3 (f8 b)) ∗ (∃ b, own (F := F) c R.n4 (f9 b)))
      ⊢ iprop(∃ Y, ats (F := F) c R Y) := by
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iexists ⟨f0 d0, f1 d1, f2 d2, f3 d3, f4 d4, f5 d5, f6 d6, f7 d7, f8 d8, f9 d9⟩
  iapply (show iprop(own c R.pool (f0 d0) ∗ own c R.sgu (f1 d1) ∗ own c R.scale (f2 d2) ∗ own c R.gain (f3 d3) ∗ own c R.bias (f4 d4) ∗ own c R.gate (f5 d5) ∗ own c R.n1 (f6 d6) ∗ own c R.n2 (f7 d7) ∗ own c R.n3 (f8 d8) ∗ own c R.n4 (f9 d9)) ⊢ ats c R _ from by
    repeat' first | exact at_of_own c _ _ _ | refine BIClass.sep_mono (at_of_own c _ _ _) ?_)
  iframe H0 H1 H2 H3 H4 H5 H6 H7 H8 H9

/-- Ten inputs' buffers are given back. -/
theorem ten_out (c : Dev nD) (R : Refs) (X : Vals F) :
    ats c R X ⊢ iprop(own c R.pool X.pool ∗ own c R.sgu X.sgu ∗ own c R.scale X.scale ∗ own c R.gain X.gain ∗ own c R.bias X.bias ∗ own c R.gate X.gate
      ∗ own c R.n1 X.n1 ∗ own c R.n2 X.n2 ∗ own c R.n3 X.n3 ∗ own c R.n4 X.n4) := by
  repeat' first | exact own_of_at c _ _ _ | refine BIClass.sep_mono (own_of_at c _ _ _) ?_

/-- Ten results' buffers hold what the stores leave. -/
theorem ten_left (c : Dev nD) (R : Refs) (Y : Vals F) (L : Stores F) (h : L.Covers) :
    overs c R Y L ⊢ iprop(own c R.pool L.vals.pool ∗ own c R.sgu L.vals.sgu ∗ own c R.scale L.vals.scale ∗ own c R.gain L.vals.gain ∗ own c R.bias L.vals.bias ∗ own c R.gate L.vals.gate
      ∗ own c R.n1 L.vals.n1 ∗ own c R.n2 L.vals.n2 ∗ own c R.n3 L.vals.n3 ∗ own c R.n4 L.vals.n4) := by
  obtain ⟨h0, h1, h2, h3, h4, h5, h6, h7, h8, h9⟩ := h
  exact BIClass.sep_mono (own_of_over c _ _ _ _ h0) <| BIClass.sep_mono (own_of_over c _ _ _ _ h1) <| BIClass.sep_mono (own_of_over c _ _ _ _ h2) <| BIClass.sep_mono (own_of_over c _ _ _ _ h3) <| BIClass.sep_mono (own_of_over c _ _ _ _ h4) <| BIClass.sep_mono (own_of_over c _ _ _ _ h5) <| BIClass.sep_mono (own_of_over c _ _ _ _ h6) <| BIClass.sep_mono (own_of_over c _ _ _ _ h7) <| BIClass.sep_mono (own_of_over c _ _ _ _ h8) <| own_of_over c _ _ _ _ h9

/-- Assertions side by side, grouped the other way. -/
theorem regroup (P Q R : sProp 𝕄) : iprop((P ∗ Q) ∗ R) = iprop(P ∗ Q ∗ R) := equiv_iff.mp ⟨sep_assoc, sep_assoc'⟩

/-- Ten windows. -/
abbrev ten (Φ : Fin 73 → sProp 𝕄) (w0 w1 w2 w3 w4 w5 w6 w7 w8 w9 : Fin 73) : sProp 𝕄 :=
  iprop(Φ w0 ∗ Φ w1 ∗ Φ w2 ∗ Φ w3 ∗ Φ w4 ∗ Φ w5 ∗ Φ w6 ∗ Φ w7 ∗ Φ w8 ∗ Φ w9)

/-- All windows: the devices' parts, the parameters, the moments, the loss, and the results. -/
theorem windows (Φ : Fin 73 → sProp 𝕄) : bigSep Finset.univ Φ = iprop(Φ 0 ∗ Φ 1 ∗ ten Φ 2 3 4 5 6 7 8 9 10 11 ∗ ten Φ 12 13 14 15 16 17 18 19 20 21 ∗ ten Φ 22 23 24 25 26 27 28 29 30 31
    ∗ Φ 32 ∗ ten Φ 33 34 35 36 37 38 39 40 41 42 ∗ ten Φ 43 44 45 46 47 48 49 50 51 52
    ∗ ten Φ 53 54 55 56 57 58 59 60 61 62 ∗ ten Φ 63 64 65 66 67 68 69 70 71 72) := by
  rw [bigSep_W0]; simp only [ten, regroup]

/-- What the body is called with at point `t`, -/
def bodyPre (c : Dev nD) (t : Fin cfg0.N) : sProp 𝕄 :=
  iprop((dats m 0 c).Φ t.castSucc ∗ (dats m 0 c).owesAt () t.castSucc ∗ bigSep Finset.univ fun w : Fin 73 =>
    iprop(∃ d, owns (c : Thread nD τ) ((cfg0.win w).stage (cfg0.slots t w)) fullShare ((dats m 0 c).before w t d)))

/-- and what it returns. -/
def bodyPost (c : Dev nD) (t : Fin cfg0.N) : sProp 𝕄 :=
  iprop((dats m 0 c).Φ t.succ ∗ (dats m 0 c).owesAt () t.succ ∗ bigSep Finset.univ fun w : Fin 73 =>
    owns (c : Thread nD τ) ((cfg0.win w).stage (cfg0.slots t w)) fullShare ((dats m 0 c).after w t))

set_option maxHeartbeats 1000000 in
/-- The parameters' buffers hold their blocks. -/
theorem ten_w (c : Dev nD) (t : Fin cfg0.N) : ten (fun w => iprop(∃ d, owns (c : Thread nD τ) ((cfg0.win w).stage (cfg0.slots t w)) fullShare
    ((dats m 0 c).before w t d))) 2 3 4 5 6 7 8 9 10 11 ⊢ ats c (refs t).w (insAt m c t).w :=
  BIClass.sep_mono (at_of_input c _ _ _ _ (fun d => before0_2_of m (dats m 0 c) (dats_A m c 2) (fun _ => rfl) t d)) <|
      BIClass.sep_mono (at_of_input c _ _ _ _ (fun d => before0_3_of m (dats m 0 c) (dats_A m c 3) (fun _ => rfl) t d)) <|
      BIClass.sep_mono (at_of_input c _ _ _ _ (fun d => before0_4_of m (dats m 0 c) (dats_A m c 4) (fun _ => rfl) t d)) <|
      BIClass.sep_mono (at_of_input c _ _ _ _ (fun d => before0_5_of m (dats m 0 c) (dats_A m c 5) (fun _ => rfl) t d)) <|
      BIClass.sep_mono (at_of_input c _ _ _ _ (fun d => before0_6_of m (dats m 0 c) (dats_A m c 6) (fun _ => rfl) t d)) <|
      BIClass.sep_mono (at_of_input c _ _ _ _ (fun d => before0_7_of m (dats m 0 c) (dats_A m c 7) (fun _ => rfl) t d)) <|
      BIClass.sep_mono (at_of_input c _ _ _ _ (fun d => before0_8_of m (dats m 0 c) (dats_A m c 8) (fun _ => rfl) t d)) <|
      BIClass.sep_mono (at_of_input c _ _ _ _ (fun d => before0_9_of m (dats m 0 c) (dats_A m c 9) (fun _ => rfl) t d)) <|
      BIClass.sep_mono (at_of_input c _ _ _ _ (fun d => before0_10_of m (dats m 0 c) (dats_A m c 10) (fun _ => rfl) t d)) <|
      at_of_input c _ _ _ _ (fun d => before0_11_of m (dats m 0 c) (dats_A m c 11) (fun _ => rfl) t d)

set_option maxHeartbeats 1000000 in
/-- The first moments' buffers hold their blocks. -/
theorem ten_m (c : Dev nD) (t : Fin cfg0.N) : ten (fun w => iprop(∃ d, owns (c : Thread nD τ) ((cfg0.win w).stage (cfg0.slots t w)) fullShare
    ((dats m 0 c).before w t d))) 12 13 14 15 16 17 18 19 20 21 ⊢ ats c (refs t).m (insAt m c t).m :=
  BIClass.sep_mono (at_of_input c _ _ _ _ (fun d => before0_12_of m (dats m 0 c) (dats_A m c 12) (fun _ => rfl) t d)) <|
      BIClass.sep_mono (at_of_input c _ _ _ _ (fun d => before0_13_of m (dats m 0 c) (dats_A m c 13) (fun _ => rfl) t d)) <|
      BIClass.sep_mono (at_of_input c _ _ _ _ (fun d => before0_14_of m (dats m 0 c) (dats_A m c 14) (fun _ => rfl) t d)) <|
      BIClass.sep_mono (at_of_input c _ _ _ _ (fun d => before0_15_of m (dats m 0 c) (dats_A m c 15) (fun _ => rfl) t d)) <|
      BIClass.sep_mono (at_of_input c _ _ _ _ (fun d => before0_16_of m (dats m 0 c) (dats_A m c 16) (fun _ => rfl) t d)) <|
      BIClass.sep_mono (at_of_input c _ _ _ _ (fun d => before0_17_of m (dats m 0 c) (dats_A m c 17) (fun _ => rfl) t d)) <|
      BIClass.sep_mono (at_of_input c _ _ _ _ (fun d => before0_18_of m (dats m 0 c) (dats_A m c 18) (fun _ => rfl) t d)) <|
      BIClass.sep_mono (at_of_input c _ _ _ _ (fun d => before0_19_of m (dats m 0 c) (dats_A m c 19) (fun _ => rfl) t d)) <|
      BIClass.sep_mono (at_of_input c _ _ _ _ (fun d => before0_20_of m (dats m 0 c) (dats_A m c 20) (fun _ => rfl) t d)) <|
      at_of_input c _ _ _ _ (fun d => before0_21_of m (dats m 0 c) (dats_A m c 21) (fun _ => rfl) t d)

set_option maxHeartbeats 1000000 in
/-- The second moments' buffers hold their blocks. -/
theorem ten_v (c : Dev nD) (t : Fin cfg0.N) : ten (fun w => iprop(∃ d, owns (c : Thread nD τ) ((cfg0.win w).stage (cfg0.slots t w)) fullShare
    ((dats m 0 c).before w t d))) 22 23 24 25 26 27 28 29 30 31 ⊢ ats c (refs t).v (insAt m c t).v :=
  BIClass.sep_mono (at_of_input c _ _ _ _ (fun d => before0_22_of m (dats m 0 c) (dats_A m c 22) (fun _ => rfl) t d)) <|
      BIClass.sep_mono (at_of_input c _ _ _ _ (fun d => before0_23_of m (dats m 0 c) (dats_A m c 23) (fun _ => rfl) t d)) <|
      BIClass.sep_mono (at_of_input c _ _ _ _ (fun d => before0_24_of m (dats m 0 c) (dats_A m c 24) (fun _ => rfl) t d)) <|
      BIClass.sep_mono (at_of_input c _ _ _ _ (fun d => before0_25_of m (dats m 0 c) (dats_A m c 25) (fun _ => rfl) t d)) <|
      BIClass.sep_mono (at_of_input c _ _ _ _ (fun d => before0_26_of m (dats m 0 c) (dats_A m c 26) (fun _ => rfl) t d)) <|
      BIClass.sep_mono (at_of_input c _ _ _ _ (fun d => before0_27_of m (dats m 0 c) (dats_A m c 27) (fun _ => rfl) t d)) <|
      BIClass.sep_mono (at_of_input c _ _ _ _ (fun d => before0_28_of m (dats m 0 c) (dats_A m c 28) (fun _ => rfl) t d)) <|
      BIClass.sep_mono (at_of_input c _ _ _ _ (fun d => before0_29_of m (dats m 0 c) (dats_A m c 29) (fun _ => rfl) t d)) <|
      BIClass.sep_mono (at_of_input c _ _ _ _ (fun d => before0_30_of m (dats m 0 c) (dats_A m c 30) (fun _ => rfl) t d)) <|
      at_of_input c _ _ _ _ (fun d => before0_31_of m (dats m 0 c) (dats_A m c 31) (fun _ => rfl) t d)

set_option maxHeartbeats 2000000 in
/-- What the windows hold before the body, as the body's run takes it. -/
theorem before_all (c : Dev nD) (t : Fin cfg0.N) :
    (bigSep Finset.univ fun w : Fin 73 =>
      iprop(∃ d, owns (c : Thread nD τ) ((cfg0.win w).stage (cfg0.slots t w)) fullShare ((dats m 0 c).before w t d)))
      ⊢ iprop(at_ c (refs t).mats (refs t).hmats (insAt m c t).mats ∗ at_ c (refs t).vecs (refs t).hvecs (insAt m c t).vecs
        ∗ ats c (refs t).w (insAt m c t).w ∗ ats c (refs t).m (insAt m c t).m ∗ ats c (refs t).v (insAt m c t).v
        ∗ some_ c (refs t).loss ∗ (∃ Y, ats c (refs t).g Y) ∗ (∃ Y, ats c (refs t).d Y) ∗ (∃ Y, ats c (refs t).mo Y)
        ∗ (∃ Y, ats c (refs t).vo Y)) := by
  rw [windows]
  refine BIClass.sep_mono (at_of_input c _ (refs t).hmats _ _ fun d => before0_0_of m (dats m 0 c) (dats_A m c 0) (fun _ => rfl) t d) <|
    BIClass.sep_mono (at_of_input c _ (refs t).hvecs _ _ fun d => before0_1_of m (dats m 0 c) (dats_A m c 1) (fun _ => rfl) t d) <|
    BIClass.sep_mono (ten_w m c t) <| BIClass.sep_mono (ten_m m c t) <| BIClass.sep_mono (ten_v m c t) <| BIClass.sep_mono (some_of_any c (refs t).loss _) <|
    BIClass.sep_mono (ten_any c (refs t).g)  <| BIClass.sep_mono (ten_any c (refs t).d) <| BIClass.sep_mono (ten_any c (refs t).mo) (ten_any c (refs t).vo)

/-- What the body leaves of the loss, -/
theorem left_loss (c : Dev nD) (t : Fin cfg0.N) : View.canon (run c (refs t) (insAt m c t)).1.loss = (outsAt m c t).loss := rfl

/-- of the gradients, -/
theorem left_g (c : Dev nD) (t : Fin cfg0.N) : (run c (refs t) (insAt m c t)).1.g.vals = (outsAt m c t).g := rfl

/-- of the changes, -/
theorem left_d (c : Dev nD) (t : Fin cfg0.N) : (run c (refs t) (insAt m c t)).1.d.vals = (outsAt m c t).d := rfl

/-- of the first moments -/
theorem left_mo (c : Dev nD) (t : Fin cfg0.N) : (run c (refs t) (insAt m c t)).1.mo.vals = (outsAt m c t).mo := rfl

/-- and of the second. -/
theorem left_vo (c : Dev nD) (t : Fin cfg0.N) : (run c (refs t) (insAt m c t)).1.vo.vals = (outsAt m c t).vo := rfl

attribute [local irreducible] outsAt

set_option maxHeartbeats 1000000 in
/-- The gradients' buffers hold what the body leaves. -/
theorem ten_g (c : Dev nD) (t : Fin cfg0.N) (Y : Vals F) : overs c (refs t).g Y (run c (refs t) (insAt m c t)).1.g
    ⊢ ten (fun w => owns (c : Thread nD τ) ((cfg0.win w).stage (cfg0.slots t w)) fullShare ((dats m 0 c).after w t)) 33 34 35 36 37 38 39 40 41 42 := by
  have h := ten_left c (refs t).g Y _ (covered_g c (refs t) (insAt m c t))
  rw [left_g m c t] at h
  exact h

set_option maxHeartbeats 1000000 in
/-- The changes' buffers hold what the body leaves. -/
theorem ten_d (c : Dev nD) (t : Fin cfg0.N) (Y : Vals F) : overs c (refs t).d Y (run c (refs t) (insAt m c t)).1.d
    ⊢ ten (fun w => owns (c : Thread nD τ) ((cfg0.win w).stage (cfg0.slots t w)) fullShare ((dats m 0 c).after w t)) 43 44 45 46 47 48 49 50 51 52 := by
  have h := ten_left c (refs t).d Y _ (covered_d c (refs t) (insAt m c t))
  rw [left_d m c t] at h
  exact h

set_option maxHeartbeats 1000000 in
/-- The first moments' buffers hold what the body leaves. -/
theorem ten_mo (c : Dev nD) (t : Fin cfg0.N) (Y : Vals F) : overs c (refs t).mo Y (run c (refs t) (insAt m c t)).1.mo
    ⊢ ten (fun w => owns (c : Thread nD τ) ((cfg0.win w).stage (cfg0.slots t w)) fullShare ((dats m 0 c).after w t)) 53 54 55 56 57 58 59 60 61 62 := by
  have h := ten_left c (refs t).mo Y _ (covered_mo c (refs t) (insAt m c t))
  rw [left_mo m c t] at h
  exact h

set_option maxHeartbeats 1000000 in
/-- The second moments' buffers hold what the body leaves. -/
theorem ten_vo (c : Dev nD) (t : Fin cfg0.N) (Y : Vals F) : overs c (refs t).vo Y (run c (refs t) (insAt m c t)).1.vo
    ⊢ ten (fun w => owns (c : Thread nD τ) ((cfg0.win w).stage (cfg0.slots t w)) fullShare ((dats m 0 c).after w t)) 63 64 65 66 67 68 69 70 71 72 := by
  have h := ten_left c (refs t).vo Y _ (covered_vo c (refs t) (insAt m c t))
  rw [left_vo m c t] at h
  exact h

set_option maxHeartbeats 2000000 in
/-- What the run returns, as what the windows hold after the body. -/
theorem after_all (c : Dev nD) (t : Fin cfg0.N) (Y : Outs F) :
    iprop(at_ c (refs t).mats (refs t).hmats (insAt m c t).mats ∗ at_ c (refs t).vecs (refs t).hvecs (insAt m c t).vecs
        ∗ ats c (refs t).w (insAt m c t).w ∗ ats c (refs t).m (insAt m c t).m ∗ ats c (refs t).v (insAt m c t).v
        ∗ over c (refs t).loss (refs t).hloss Y.loss (run c (refs t) (insAt m c t)).1.loss
        ∗ overs c (refs t).g Y.g (run c (refs t) (insAt m c t)).1.g ∗ overs c (refs t).d Y.d (run c (refs t) (insAt m c t)).1.d
        ∗ overs c (refs t).mo Y.mo (run c (refs t) (insAt m c t)).1.mo ∗ overs c (refs t).vo Y.vo (run c (refs t) (insAt m c t)).1.vo)
      ⊢ bigSep Finset.univ fun w : Fin 73 => owns (c : Thread nD τ) ((cfg0.win w).stage (cfg0.slots t w)) fullShare ((dats m 0 c).after w t) := by
  rw [windows]
  have hl := own_of_over c (refs t).loss (refs t).hloss Y.loss _ (covered_loss c (refs t) (insAt m c t))
  rw [left_loss m c t] at hl
  exact BIClass.sep_mono (own_of_at c _ _ _) <| BIClass.sep_mono (own_of_at c _ _ _) <| BIClass.sep_mono (ten_out c (refs t).w (insAt m c t).w) <|
    BIClass.sep_mono (ten_out c (refs t).m (insAt m c t).m) <| BIClass.sep_mono (ten_out c (refs t).v (insAt m c t).v) <| BIClass.sep_mono hl <|
    BIClass.sep_mono (ten_g m c t Y.g) <| BIClass.sep_mono (ten_d m c t Y.d) <| BIClass.sep_mono (ten_mo m c t Y.mo) (ten_vo m c t Y.vo)

/-- The body at a point, from what the windows hold before it to what they hold after. -/
theorem body_holds (c : Dev nD) (t : Fin cfg0.N) :
    bodyPre m c t ⊢ wp frame (wpE (defs₀ (F := F)) Variants.none c none) Set.univ (body (refs t)) (fun _ => bodyPost m c t) := by
  unfold bodyPre bodyPost
  rw [show (dats m 0 c).Φ t.succ = Pipeline.ΦA spec0 c from rfl, show (dats m 0 c).Φ t.castSucc = Pipeline.ΦA spec0 c from rfl, PhiA0_eq,
    show (dats m 0 c).owesAt () t.succ = (dats m 0 c).owesAt () t.castSucc from rfl]
  refine (BIClass.sep_mono .rfl (BIClass.sep_mono .rfl (before_all m c t))).trans ?_
  iintro ⟨⟨⟨%ds, HS⟩, Hr⟩, HW, H0, H1, Hw, Hm, Hv, ⟨%y, Hl⟩, ⟨%Yg, Hg⟩, ⟨%Yd, Hd⟩, ⟨%Ym, Ho⟩, ⟨%Yv, Hp⟩⟩
  iapply ((run c (refs t) (insAt m c t)).2 ⟨y, Yg, Yd, Ym, Yv, ds⟩ Set.univ _)
  isplitl [H0]; · iexact H0
  isplitl [H1]; · iexact H1
  isplitl [Hw]; · iexact Hw
  isplitl [Hm]; · iexact Hm
  isplitl [Hv]; · iexact Hv
  isplitl [Hl]; · iapply (at_of_own c _ _ _); iexact Hl
  isplitl [Hg]; · iexact Hg
  isplitl [Hd]; · iexact Hd
  isplitl [Ho]; · iexact Ho
  isplitl [Hp]; · iexact Hp
  isplitl [HS]; · iapply (at_of_own c _ _ _); iexact HS
  iintro ⟨H0, H1, Hw, Hm, Hv, Hl, Hg, Hd, Ho, Hp, HS⟩
  isplitl [HS Hr]
  · isplitl [HS]; · iapply (some_of_over c _ _ _ _); iexact HS
    iexact Hr
  isplitl [HW]; · iexact HW
  iapply (after_all m c t ⟨y, Yg, Yd, Ym, Yv, ds⟩)
  isplitl [H0]; · iexact H0
  isplitl [H1]; · iexact H1
  isplitl [Hw]; · iexact Hw
  isplitl [Hm]; · iexact Hm
  isplitl [Hv]; · iexact Hv
  isplitl [Hl]; · iexact Hl
  isplitl [Hg]; · iexact Hg
  isplitl [Hd]; · iexact Hd
  isplitl [Ho]; · iexact Ho
  iexact Hp

end Cert.Kernel6Ideal.Small
-- ==== Proof.SmallQuiet.lean ====
/- The frame of the small parameters' optimiser: every run ends quiet, and its arguments end unchanged. -/
module

public import proofs.«01_k».proof.Proof.SmallFrame
public import Idealize.ShloMosaic.Lib.Claim

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The type of the assertions about the machine. -/
local notation "𝕄" => MT nD τ sig Unit (Elt F) ℕ (UR sig nD τ) ℕ

variable (m : (ℓ : Loc nD τ sig) → Buf (Elt F) ℓ) (ρ : Dev nD → PrngReg)

/-- The table's row for the body at point `t`. -/
theorem row (t : Fin cfg0.N) :
    defs₀ (F := F) .tc cfg0.body (cfg0.bodyArgs t (cfg0.slots t)) = body (refs t) := by
  unfold defs₀; rw [Defs.onTc_tc]; rfl

/-- The pipeline's demand on the body, at every point. -/
theorem obligation (c : Dev nD) : BodyObligation (dats (F := F) m 0 c) (defs₀ (F := F)) Variants.none () Set.univ := fun t => by
  rw [row]
  exact triple_restated (body_holds m c t) rfl .rfl fun _ => .rfl

/-! ## The run -/

set_option backward.isDefEq.respectTransparency.types false in
/-- Every run ends with the pipeline's arrays at what the proof data say, every other buffer as the region found it, and all
    counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The contents alone. -/
theorem run_main : θ_run defs (onTc (τ := τ) (main (F := F))) (s₀ m ρ) (Pipeline.FramePost cfgs (dats m) 0 (V m)) :=
  (θ_run defs _ _).mono (fun _ h => h.1) (run_quiet m ρ)

end Cert.Kernel6Ideal.Small

end
-- ==== Proof.SmallBits.lean ====
/- The frames of the small parameters' optimiser, as the machine computes it and over the extended reals. -/
module

public import proofs.«01_k».proof.Proof.SmallQuiet
public import proofs.«01_k».proof.Defs
public import proofs.«01_k».proof.Proof.Gen.Kernel6

@[expose] public section

set_option maxRecDepth 16384

noncomputable section

namespace Cert.Kernel6Ideal.Small

open Cert.Kernel6Ideal.Gen
open Idealize.ShloMosaic Idealize.ShloMosaic.TcCoe Idealize.SL.Sem Idealize.ShloMosaic.Tactic

/-- The kernel runs, its arguments end unchanged and all counters at zero. -/
theorem frame : Cert.quiescent_Kernel6Ideal := fun m ρ _ =>
  θ_run_and (frame_of (F := Ideal) m ρ (dats m) (dats_A m) (run_main m ρ)) ((θ_run defs _ _).mono (fun _ h => h.2) (run_quiet m ρ))

/-- So it does at the machine's float values: its text and the idealized one are the same. -/
theorem frame_bits : Cert.quiescent_Kernel6 :=
  Eq.mp (by sl_kernel_rfl) fun m ρ (_ : True) =>
    θ_run_and (frame_of (F := Bits) m ρ (dats m) (dats_A m) (run_main m ρ)) ((θ_run defs _ _).mono (fun _ h => h.2) (run_quiet m ρ))

end Cert.Kernel6Ideal.Small

end
-- ==== Proof.SmallResult.lean ====
/- The small parameters' optimiser and its reference agree: parameter by parameter, every result. -/
module

public import proofs.«01_k».proof.Proof.SmallBlocks
public import proofs.«01_k».proof.Proof.SmallValue
public import proofs.«01_k».proof.Proof.SmallBits
public import proofs.«01_k».proof.Proof.Gen.Reference6Ideal.Run

@[expose] public section

set_option maxRecDepth 16384

noncomputable section

namespace Cert.Kernel6Ideal.Small

open Cert.Kernel6Ideal Cert.Kernel6Ideal.Gen
open Idealize.ShloMosaic Idealize.ShloMosaic.TcCoe Idealize.ShloMosaic.Tactic Idealize.SL.Sem
open Idealize.ShloMosaic.Pipeline (Dat Cfg Window BodyObligation cellOf)
open Cert.Reference6Ideal.Read
open Cert.Small (changes firsts seconds)

/-- A gradient that the reference and the kernel have alike, and the reference's and the kernel's step from it: the four results agree. -/
theorem agree {s : Shape} {g d f e g' d' f' e' g'' d'' f'' e'' G w u v : s.Idx → EReal} (line : g = G)
    (hd : d = changes g w u v) (hf : f = firsts g u) (he : e = seconds g v)
    (value : g' = G ∧ d' = changes G w u v ∧ f' = firsts G u ∧ e' = seconds G v) (kg : g'' = g') (kd : d'' = d') (kf : f'' = f')
    (ke : e'' = e') : g = g'' ∧ d = d'' ∧ f = f'' ∧ e = e'' := by
  obtain ⟨rfl, rfl, rfl, rfl⟩ := value
  subst line kg kd kf ke
  exact ⟨rfl, hd, hf, he⟩

variable (m : (ℓ : Loc nD τ sig) → Buf (Elt Ideal) ℓ) (c : Dev nD)

/-- The loss. -/
theorem agree_loss {x} (e : x = m ((c : Thread nD τ).loc main_arg1)) : val_main_v260 (F := Ideal) x = (dats m 0 c).arrAt 32 (cfgs 0).N := by
  subst e
  exact (Cert.Small.loss_line _).trans ((arr_loss m c).trans (value_loss c (refs only) (args m c))).symm

/-- The parameter `pool`. -/
theorem agree_pool {x w u v} (e : x = m ((c : Thread nD τ).loc main_arg0)) (ew : w = m ((c : Thread nD τ).loc main_arg2))
    (eu : u = m ((c : Thread nD τ).loc main_arg12)) (ev : v = m ((c : Thread nD τ).loc main_arg22)) :
    val_main_v3 (F := Ideal) x = (dats m 0 c).arrAt 33 (cfgs 0).N ∧ val_main_v43 (F := Ideal) x w u v = (dats m 0 c).arrAt 43 (cfgs 0).N ∧
    val_main_v24 (F := Ideal) x u = (dats m 0 c).arrAt 53 (cfgs 0).N ∧ val_main_v30 (F := Ideal) x v = (dats m 0 c).arrAt 63 (cfgs 0).N := by
  subst e ew eu ev
  exact agree (Cert.Small.line_pool _) (by sl_kernel_rfl) (by sl_kernel_rfl) (by sl_kernel_rfl) (value_pool c (refs only) (args m c)) (arr_g m c).1 (arr_d m c).1 (arr_mo m c).1 (arr_vo m c).1

/-- The parameter `sgu`. -/
theorem agree_sgu {x w u v} (e : x = m ((c : Thread nD τ).loc main_arg0)) (ew : w = m ((c : Thread nD τ).loc main_arg3))
    (eu : u = m ((c : Thread nD τ).loc main_arg13)) (ev : v = m ((c : Thread nD τ).loc main_arg23)) :
    val_main_v5 (F := Ideal) x = (dats m 0 c).arrAt 34 (cfgs 0).N ∧ val_main_v67 (F := Ideal) x w u v = (dats m 0 c).arrAt 44 (cfgs 0).N ∧
    val_main_v48 (F := Ideal) x u = (dats m 0 c).arrAt 54 (cfgs 0).N ∧ val_main_v54 (F := Ideal) x v = (dats m 0 c).arrAt 64 (cfgs 0).N := by
  subst e ew eu ev
  exact agree (Cert.Small.line_sgu _) (by sl_kernel_rfl) (by sl_kernel_rfl) (by sl_kernel_rfl) (value_sgu c (refs only) (args m c)) (arr_g m c).2.1 (arr_d m c).2.1 (arr_mo m c).2.1 (arr_vo m c).2.1

/-- The parameter `scale`. -/
theorem agree_scale {x w u v} (e : x = m ((c : Thread nD τ).loc main_arg1)) (ew : w = m ((c : Thread nD τ).loc main_arg4))
    (eu : u = m ((c : Thread nD τ).loc main_arg14)) (ev : v = m ((c : Thread nD τ).loc main_arg24)) :
    val_main_v6 (F := Ideal) x = (dats m 0 c).arrAt 35 (cfgs 0).N ∧ val_main_v91 (F := Ideal) x w u v = (dats m 0 c).arrAt 45 (cfgs 0).N ∧
    val_main_v72 (F := Ideal) x u = (dats m 0 c).arrAt 55 (cfgs 0).N ∧ val_main_v78 (F := Ideal) x v = (dats m 0 c).arrAt 65 (cfgs 0).N := by
  subst e ew eu ev
  exact agree (Cert.Small.line_scale _) (by sl_kernel_rfl) (by sl_kernel_rfl) (by sl_kernel_rfl) (value_scale c (refs only) (args m c)) (arr_g m c).2.2.1 (arr_d m c).2.2.1 (arr_mo m c).2.2.1 (arr_vo m c).2.2.1

/-- The parameter `gain`. -/
theorem agree_gain {x w u v} (e : x = m ((c : Thread nD τ).loc main_arg1)) (ew : w = m ((c : Thread nD τ).loc main_arg5))
    (eu : u = m ((c : Thread nD τ).loc main_arg15)) (ev : v = m ((c : Thread nD τ).loc main_arg25)) :
    val_main_v7 (F := Ideal) x = (dats m 0 c).arrAt 36 (cfgs 0).N ∧ val_main_v115 (F := Ideal) x w u v = (dats m 0 c).arrAt 46 (cfgs 0).N ∧
    val_main_v96 (F := Ideal) x u = (dats m 0 c).arrAt 56 (cfgs 0).N ∧ val_main_v102 (F := Ideal) x v = (dats m 0 c).arrAt 66 (cfgs 0).N := by
  subst e ew eu ev
  exact agree (Cert.Small.line_gain _) (by sl_kernel_rfl) (by sl_kernel_rfl) (by sl_kernel_rfl) (value_gain c (refs only) (args m c)) (arr_g m c).2.2.2.1 (arr_d m c).2.2.2.1 (arr_mo m c).2.2.2.1 (arr_vo m c).2.2.2.1

/-- The parameter `bias`. -/
theorem agree_bias {x w u v} (e : x = m ((c : Thread nD τ).loc main_arg1)) (ew : w = m ((c : Thread nD τ).loc main_arg6))
    (eu : u = m ((c : Thread nD τ).loc main_arg16)) (ev : v = m ((c : Thread nD τ).loc main_arg26)) :
    val_main_v8 (F := Ideal) x = (dats m 0 c).arrAt 37 (cfgs 0).N ∧ val_main_v139 (F := Ideal) x w u v = (dats m 0 c).arrAt 47 (cfgs 0).N ∧
    val_main_v120 (F := Ideal) x u = (dats m 0 c).arrAt 57 (cfgs 0).N ∧ val_main_v126 (F := Ideal) x v = (dats m 0 c).arrAt 67 (cfgs 0).N := by
  subst e ew eu ev
  exact agree (Cert.Small.line_bias _) (by sl_kernel_rfl) (by sl_kernel_rfl) (by sl_kernel_rfl) (value_bias c (refs only) (args m c)) (arr_g m c).2.2.2.2.1 (arr_d m c).2.2.2.2.1 (arr_mo m c).2.2.2.2.1 (arr_vo m c).2.2.2.2.1

/-- The parameter `gate`. -/
theorem agree_gate {x w u v} (e : x = m ((c : Thread nD τ).loc main_arg1)) (ew : w = m ((c : Thread nD τ).loc main_arg7))
    (eu : u = m ((c : Thread nD τ).loc main_arg17)) (ev : v = m ((c : Thread nD τ).loc main_arg27)) :
    val_main_v10 (F := Ideal) x = (dats m 0 c).arrAt 38 (cfgs 0).N ∧ val_main_v163 (F := Ideal) x w u v = (dats m 0 c).arrAt 48 (cfgs 0).N ∧
    val_main_v144 (F := Ideal) x u = (dats m 0 c).arrAt 58 (cfgs 0).N ∧ val_main_v150 (F := Ideal) x v = (dats m 0 c).arrAt 68 (cfgs 0).N := by
  subst e ew eu ev
  exact agree (Cert.Small.line_gate _) (by sl_kernel_rfl) (by sl_kernel_rfl) (by sl_kernel_rfl) (value_gate c (refs only) (args m c)) (arr_g m c).2.2.2.2.2.1 (arr_d m c).2.2.2.2.2.1 (arr_mo m c).2.2.2.2.2.1 (arr_vo m c).2.2.2.2.2.1

/-- The parameter `n1`. -/
theorem agree_n1 {x w u v} (e : x = m ((c : Thread nD τ).loc main_arg1)) (ew : w = m ((c : Thread nD τ).loc main_arg8))
    (eu : u = m ((c : Thread nD τ).loc main_arg18)) (ev : v = m ((c : Thread nD τ).loc main_arg28)) :
    val_main_v11 (F := Ideal) x = (dats m 0 c).arrAt 39 (cfgs 0).N ∧ val_main_v187 (F := Ideal) x w u v = (dats m 0 c).arrAt 49 (cfgs 0).N ∧
    val_main_v168 (F := Ideal) x u = (dats m 0 c).arrAt 59 (cfgs 0).N ∧ val_main_v174 (F := Ideal) x v = (dats m 0 c).arrAt 69 (cfgs 0).N := by
  subst e ew eu ev
  exact agree (Cert.Small.line_n1 _) (by sl_kernel_rfl) (by sl_kernel_rfl) (by sl_kernel_rfl) (value_n1 c (refs only) (args m c)) (arr_g m c).2.2.2.2.2.2.1 (arr_d m c).2.2.2.2.2.2.1 (arr_mo m c).2.2.2.2.2.2.1 (arr_vo m c).2.2.2.2.2.2.1

/-- The parameter `n2`. -/
theorem agree_n2 {x w u v} (e : x = m ((c : Thread nD τ).loc main_arg1)) (ew : w = m ((c : Thread nD τ).loc main_arg9))
    (eu : u = m ((c : Thread nD τ).loc main_arg19)) (ev : v = m ((c : Thread nD τ).loc main_arg29)) :
    val_main_v12 (F := Ideal) x = (dats m 0 c).arrAt 40 (cfgs 0).N ∧ val_main_v211 (F := Ideal) x w u v = (dats m 0 c).arrAt 50 (cfgs 0).N ∧
    val_main_v192 (F := Ideal) x u = (dats m 0 c).arrAt 60 (cfgs 0).N ∧ val_main_v198 (F := Ideal) x v = (dats m 0 c).arrAt 70 (cfgs 0).N := by
  subst e ew eu ev
  exact agree (Cert.Small.line_n2 _) (by sl_kernel_rfl) (by sl_kernel_rfl) (by sl_kernel_rfl) (value_n2 c (refs only) (args m c)) (arr_g m c).2.2.2.2.2.2.2.1 (arr_d m c).2.2.2.2.2.2.2.1 (arr_mo m c).2.2.2.2.2.2.2.1 (arr_vo m c).2.2.2.2.2.2.2.1

/-- The parameter `n3`. -/
theorem agree_n3 {x w u v} (e : x = m ((c : Thread nD τ).loc main_arg1)) (ew : w = m ((c : Thread nD τ).loc main_arg10))
    (eu : u = m ((c : Thread nD τ).loc main_arg20)) (ev : v = m ((c : Thread nD τ).loc main_arg30)) :
    val_main_v13 (F := Ideal) x = (dats m 0 c).arrAt 41 (cfgs 0).N ∧ val_main_v235 (F := Ideal) x w u v = (dats m 0 c).arrAt 51 (cfgs 0).N ∧
    val_main_v216 (F := Ideal) x u = (dats m 0 c).arrAt 61 (cfgs 0).N ∧ val_main_v222 (F := Ideal) x v = (dats m 0 c).arrAt 71 (cfgs 0).N := by
  subst e ew eu ev
  exact agree (Cert.Small.line_n3 _) (by sl_kernel_rfl) (by sl_kernel_rfl) (by sl_kernel_rfl) (value_n3 c (refs only) (args m c)) (arr_g m c).2.2.2.2.2.2.2.2.1 (arr_d m c).2.2.2.2.2.2.2.2.1 (arr_mo m c).2.2.2.2.2.2.2.2.1 (arr_vo m c).2.2.2.2.2.2.2.2.1

/-- The parameter `n4`. -/
theorem agree_n4 {x w u v} (e : x = m ((c : Thread nD τ).loc main_arg1)) (ew : w = m ((c : Thread nD τ).loc main_arg11))
    (eu : u = m ((c : Thread nD τ).loc main_arg21)) (ev : v = m ((c : Thread nD τ).loc main_arg31)) :
    val_main_v14 (F := Ideal) x = (dats m 0 c).arrAt 42 (cfgs 0).N ∧ val_main_v259 (F := Ideal) x w u v = (dats m 0 c).arrAt 52 (cfgs 0).N ∧
    val_main_v240 (F := Ideal) x u = (dats m 0 c).arrAt 62 (cfgs 0).N ∧ val_main_v246 (F := Ideal) x v = (dats m 0 c).arrAt 72 (cfgs 0).N := by
  subst e ew eu ev
  exact agree (Cert.Small.line_n4 _) (by sl_kernel_rfl) (by sl_kernel_rfl) (by sl_kernel_rfl) (value_n4 c (refs only) (args m c)) (arr_g m c).2.2.2.2.2.2.2.2.2 (arr_d m c).2.2.2.2.2.2.2.2.2 (arr_mo m c).2.2.2.2.2.2.2.2.2 (arr_vo m c).2.2.2.2.2.2.2.2.2

end Cert.Kernel6Ideal.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite2
public import proofs.«01_k».proof.Proof.Adam
public import proofs.«01_k».proof.Proof.Finite
public import proofs.«01_k».proof.Proof.ForwardBits
public import proofs.«01_k».proof.Proof.ForwardFinite
public import proofs.«01_k».proof.Proof.ForwardReference
public import proofs.«01_k».proof.Proof.ForwardResult
public import proofs.«01_k».proof.Proof.MixerBits
public import proofs.«01_k».proof.Proof.MixerFinite
public import proofs.«01_k».proof.Proof.MixerOutputs
public import proofs.«01_k».proof.Proof.Reference
public import proofs.«01_k».proof.Proof.Result
public import Idealize.ShloMosaic.Adequacy
public import Idealize.ShloMosaic.Init
public import proofs.«01_k».proof.Proof.ExchangeValue
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.SmallResult

@[expose] public section

set_option maxRecDepth 16384

noncomputable section

namespace Cert.Proof

open Idealize.ShloMosaic Idealize.ShloMosaic.TcCoe Idealize.SL.Sem Cert.Layer

/-- The reference's frame: its run, which leaves the arguments; it has no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The fused backward call and the derivative of the forward lines hold the same real numbers, on every device. -/
theorem algebraic : Cert.algebraic_KernelIdeal_ReferenceIdeal_pre_finite := by
  pair_intro
  · run_from Cert.KernelIdeal.Value.run_blocks m g
  · run_from Cert.ReferenceIdeal.Value.run m' g'
    all_goals
      obtain ⟨P, x, y, k⟩ := Cert.Finite.known _ _ _ _ _ _ _ _ (hpre c)
      obtain ⟨e0, e1, e2, e3, e4, e5, e6, e7⟩ := hagree c
      have k' := k
      rw [← e0, ← e1, ← e2, ← e3, ← e4, ← e5, ← e6, ← e7] at k'
    · exact (Cert.ReferenceIdeal.Read.val_main_v156_eq _).trans
        ((Cert.ReferenceIdeal.Meaning.v156 k').eq.trans (Cert.KernelIdeal.Result.dr1 k).symm)
    · exact (Cert.ReferenceIdeal.Read.val_main_v158_eq _).trans
        ((Cert.ReferenceIdeal.Meaning.v158 k').eq.trans (Cert.KernelIdeal.Result.acts k).symm)
    · exact (Cert.ReferenceIdeal.Read.val_main_v160_eq _).trans
        ((Cert.ReferenceIdeal.Meaning.v160 k').eq.trans (Cert.KernelIdeal.Result.grads k).symm)
    · exact (Cert.ReferenceIdeal.Read.val_main_v162_eq _).trans
        ((Cert.ReferenceIdeal.Meaning.v162 k').eq.trans (Cert.KernelIdeal.Result.stats k).symm)

/-- The mixer's reference: its run leaves the arguments, and it has no semaphore. -/
theorem frame_reference2 : Cert.quiescent_Reference2Ideal := fun m ρ _ =>
  (θ_run Cert.Reference2Ideal.defs _ _).mono
    (fun r h => ⟨fun c => (h c).2.2.2.2, sem_eq_zero_of_no_sems (by decide) r.2⟩) (Cert.Reference2Ideal.Value.run m ρ)

/-- The two constants that the idealized mixer names stand for what their names say. -/
theorem preserves2 : Cert.preserves_Kernel2_Kernel2Ideal :=
  ⟨IdealRules.named_const.statement _ _ _ _ _ rfl, IdealRules.named_const.statement _ _ _ _ _ rfl⟩

/-- The mixer's backward call and the derivative of its forward lines hold the same real numbers, on every device. -/
theorem algebraic2 : Cert.algebraic_Kernel2Ideal_Reference2Ideal_pre_finite2 := by
  pair_intro
  · run_from Cert.Kernel2Ideal.Mixer.run_arrays m g
  · run_from Cert.Reference2Ideal.Value.run m' g'
    all_goals
      obtain ⟨P, x, d, k⟩ := Cert.Finite.known2 _ _ _ _ _ _ _ _ _ _ _ (hpre c)
      obtain ⟨e0, e1, e2, e3, e4, e5, e6, e7, e8, e9, e10⟩ := hagree c
      have k' := k
      rw [← e0, ← e1, ← e2, ← e3, ← e4, ← e5, ← e6, ← e7, ← e8, ← e9] at k'
    · exact (Cert.Reference2Ideal.Read.val_main_v318_eq _).trans
        ((Cert.Reference2Ideal.Meaning.v318 k').eq.trans (Cert.Kernel2Ideal.Mixer.arr_gx k).symm)
    · exact (Cert.Reference2Ideal.Read.val_main_v320_eq _).trans
        ((Cert.Reference2Ideal.Meaning.v320 k').eq.trans (Cert.Kernel2Ideal.Mixer.arr_dproj k).symm)
    · exact (Cert.Reference2Ideal.Read.val_main_v310_eq _).trans
        ((Cert.Reference2Ideal.Meaning.dmat k').trans (Cert.Kernel2Ideal.Mixer.arr_dmat k).symm)
    · refine (Cert.Reference2Ideal.Read.val_main_v317_eq _).trans
        ((Cert.Reference2Ideal.Meaning.dvec k' _).trans (Eq.trans ?_ (Cert.Kernel2Ideal.Mixer.arr_dvec k).symm))
      rw [← e10]
      rfl

/-- The forward mixer's reference: its run leaves the arguments, and it has no semaphore. -/
theorem frame_reference3 : Cert.quiescent_Reference3Ideal := fun m ρ _ =>
  (θ_run Cert.Reference3Ideal.defs _ _).mono
    (fun r h => ⟨fun c => (h c).2.2.2.2.2, sem_eq_zero_of_no_sems (by decide) r.2⟩) (Cert.Reference3Ideal.Value.run m ρ)

/-- The constant that the idealized forward mixer names stands for what its name says. -/
theorem preserves3 : Cert.preserves_Kernel3_Kernel3Ideal := IdealRules.named_const.statement _ _ _ _ _ rfl

/-- The mixer's forward call and its lines written plainly leave the same values, on every device. -/
theorem algebraic3 : Cert.algebraic_Kernel3Ideal_Reference3Ideal_pre_finite3 := by
  pair_intro
  · run_from Cert.Kernel3Ideal.Mixer.run_arrays m g
  · run_from Cert.Reference3Ideal.Value.run m' g'
    all_goals
      obtain ⟨x, win, k⟩ := Cert.Finite.known3 _ _ _ _ _ _ _ _ _ _ _ (hpre c)
      obtain ⟨e0, e1, e2, e3, e4, e5, e6, e7, e8, e9, e10⟩ := hagree c
      have k' := k
      rw [← e0, ← e1] at k'
      have w := Cert.Forward.weightsOf_congr e2 e3 e4 e5 e6 e7 e8
    · exact (Cert.Reference3Ideal.Read.val_main_v151_eq _).trans
        ((Cert.Reference3Ideal.Meaning.proj_eq k').trans (Cert.Kernel3Ideal.Mixer.arr_proj k).symm)
    · refine (Cert.Reference3Ideal.Read.val_main_v156_eq _).trans
        ((Cert.Reference3Ideal.Meaning.xhat_eq k').trans (Eq.trans ?_ (Cert.Kernel3Ideal.Mixer.arr_xhat k).symm))
      exact congrArg (fun W => fun i : Cert.Reference3Ideal.S8192x1024.Idx =>
        Cert.Forward.hat (Cert.Forward.resAll W x win (i 0)) (i 1)) w
    · refine (Cert.Reference3Ideal.Read.val_main_v157_eq _).trans
        ((Cert.Reference3Ideal.Meaning.rstd_eq k').trans (Eq.trans ?_ (Cert.Kernel3Ideal.Mixer.arr_rstd k).symm))
      exact congrArg (fun W => fun i : Cert.Reference3Ideal.S8192x1.Idx => Cert.Forward.rstd (Cert.Forward.resAll W x win (i 0))) w
    · refine (Cert.Reference3Ideal.Read.val_main_v159_eq _).trans
        ((Cert.Reference3Ideal.Meaning.mix_eq (A2 := StableHlo.launchContents m' c (Proc.devRef .tc Cert.Reference3Ideal.main_arg2)) k').trans (Eq.trans ?_ (Cert.Kernel3Ideal.Mixer.arr_mix k).symm))
      exact congrArg (fun W => fun i : Cert.Reference3Ideal.S8192x1024.Idx => Cert.Forward.mixAll W x win (i 0) (i 1)) w
    · exact (Cert.Reference3Ideal.Meaning.xb_eq k).trans (Cert.Kernel3Ideal.Mixer.arr_xb k).symm

/-- The reference of the optimiser's step: its run leaves the arguments, and it has no semaphore. -/
theorem frame_reference4 : Cert.quiescent_Reference4Ideal := fun m ρ _ =>
  (θ_run Cert.Reference4Ideal.defs _ _).mono
    (fun r h => ⟨fun c => (h c).2.2.2.2, sem_eq_zero_of_no_sems (by decide) r.2⟩) (Cert.Reference4Ideal.Value.run m ρ)

/-- The optimiser's step on one matrix and its lines in the reference leave the same values, whatever the arguments. -/
theorem algebraic4 : Cert.algebraic_Kernel4Ideal_Reference4Ideal := by
  pair_intro
  · run_from Cert.Kernel4Ideal.Value.run_blocks m g
  · run_from Cert.Reference4Ideal.Value.run m' g'
    · exact (Cert.Reference4Ideal.Read.val_main_v31_eq _ _).trans ((Cert.Adam.ref_grad _ _).trans (Cert.Adam.arr_grad m c).symm)
    · exact (Cert.Reference4Ideal.Read.val_main_v32_eq _ _ _ _ _).trans ((Cert.Adam.ref_changes _ _ _ _ _).trans (Cert.Adam.arr_changes m c).symm)
    · exact (Cert.Reference4Ideal.Read.val_main_v33_eq _ _ _).trans ((Cert.Adam.ref_firsts _ _ _).trans (Cert.Adam.arr_firsts m c).symm)
    · exact (Cert.Reference4Ideal.Read.val_main_v34_eq _ _ _).trans ((Cert.Adam.ref_seconds _ _ _).trans (Cert.Adam.arr_seconds m c).symm)

/-! ## The gradient product whose halves two devices exchange -/

/-- The kernel of the exchange ends, for any float values, leaves its arguments as they were, and is quiet. -/
theorem exchange_kept {F : FTy → Type} [FloatOps F]
    (m : (ℓ : Loc Cert.Kernel5Ideal.nD Cert.Kernel5Ideal.τ Cert.Kernel5Ideal.sig) → Buf (Elt F) ℓ) (ρ : Dev Cert.Kernel5Ideal.nD → PrngReg) :
    θ_run (Cert.Kernel5Ideal.defs (F := F)) (onTc (τ := Cert.Kernel5Ideal.τ) (Cert.Kernel5Ideal.main (F := F))) ⟨m, fun _ => 0, ρ⟩
      (fun r => (∀ c : Dev Cert.Kernel5Ideal.nD,
        r.2.mem ((c.tc : Thread Cert.Kernel5Ideal.nD Cert.Kernel5Ideal.τ).loc Cert.Kernel5Ideal.main_arg0)
            = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1)
            = m ((c.tc : Thread Cert.Kernel5Ideal.nD Cert.Kernel5Ideal.τ).loc Cert.Kernel5Ideal.main_arg1))
        ∧ r.2.sem = fun _ => 0) :=
  (θ_run Cert.Kernel5Ideal.defs _ _).mono
    (fun r h => ⟨fun c => ⟨(h.1 c 0).trans ((Cert.Exchange.dats m ρ 0 c).arrAt_in (0 : Fin 4) rfl _),
      (h.1 c 1).trans ((Cert.Exchange.dats m ρ 0 c).arrAt_in (1 : Fin 4) rfl _)⟩, h.2⟩)
    (Cert.Exchange.run_main m ρ)

/-- The two printed programs of the exchange are the same text. -/
theorem exchange_main : Cert.Kernel5.main (F := Bits) = Cert.Kernel5Ideal.main (F := Bits) := by sl_kernel_rfl
theorem exchange_defs : Cert.Kernel5.defs (F := Bits) = Cert.Kernel5Ideal.defs (F := Bits) := by sl_kernel_rfl

/-- So it does at the machine's float values. -/
theorem frame_exchange : Cert.quiescent_Kernel5 := fun m ρ _ => by
  rw [exchange_main, exchange_defs]
  exact exchange_kept (F := Bits) m ρ

/-- And over the extended reals. -/
theorem frame_exchange_ideal : Cert.quiescent_Kernel5Ideal := fun m ρ _ => exchange_kept (F := Ideal) m ρ

/-- The reference of the exchange: its run leaves the arguments, and it has no semaphore. -/
theorem frame_reference5 : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run m ρ)

/-- The two devices, each with half of the tokens, leave their blocks of the product over all of them, whatever the arguments. -/
theorem algebraic5 : Cert.algebraic_Kernel5Ideal_Reference5Ideal := fun m g m' g' _ same =>
  ⟨_, _,
    (θ_run Cert.Kernel5Ideal.defs _ _).mono
      (fun r h c => ⟨(h.1 c 2).trans (Cert.Exchange.made_block m g c _ _ (fun c => (same c).1) (fun c => (same c).2)),
        (h.1 c 3).trans (Cert.Exchange.own_block m g c _ _ (fun c => (same c).1) (fun c => (same c).2)),
        (h.1 c 0).trans ((Cert.Exchange.dats m g 0 c).arrAt_in (0 : Fin 4) rfl _),
        (h.1 c 1).trans ((Cert.Exchange.dats m g 0 c).arrAt_in (1 : Fin 4) rfl _)⟩)
      (Cert.Exchange.run_main (F := Ideal) m g),
    (θ_run Cert.Reference5Ideal.defs _ _).mono
      (fun r h => ⟨(h 0).1.trans (Cert.Reference5Ideal.Read.val_main_v7_eq _ _), (h 0).2.1.trans (Cert.Reference5Ideal.Read.val_main_v9_eq _ _),
        (h 0).2.2⟩)
      (Cert.Reference5Ideal.Value.run m' g')⟩

/-! ## The optimiser of the small parameters -/

/-- The reference of the small parameters' optimiser: its run leaves the arguments, and it has no semaphore. -/
theorem frame_reference6 : Cert.quiescent_Reference6Ideal := fun m ρ _ =>
  (θ_run Cert.Reference6Ideal.defs _ _).mono
    (fun r h => ⟨fun c => (h c).2.2.2.2.2.2.2.2.2.2.2.2.2.2.2.2.2.2.2.2.2.2.2.2.2.2.2.2.2.2.2.2.2.2.2.2.2.2.2.2.2, sem_eq_zero_of_no_sems (by decide) r.2⟩)
    (Cert.Reference6Ideal.Value.run m ρ)

section
open Cert.Kernel6Ideal.Small

set_option maxHeartbeats 4000000 in
/-- The optimiser of the small parameters and its lines in the reference leave the same values, whatever the arguments. -/
theorem algebraic6 : Cert.algebraic_Kernel6Ideal_Reference6Ideal := fun m g m' g' _ same => by
  refine ⟨_, _, _, _, _, _, _, _, _, _, _, _, _, _, _, _, _, _, _, _, _, _, _, _, _, _, _, _, _, _, _, _, _, _, _, _, _, _, _, _, _,
    (θ_run Cert.Kernel6Ideal.defs _ _).mono (fun r h c => ⟨
      (h.1 c).1 32, (h.1 c).1 33, (h.1 c).1 34, (h.1 c).1 35, (h.1 c).1 36, (h.1 c).1 37, (h.1 c).1 38, (h.1 c).1 39,
      (h.1 c).1 40, (h.1 c).1 41, (h.1 c).1 42, (h.1 c).1 43, (h.1 c).1 44, (h.1 c).1 45, (h.1 c).1 46, (h.1 c).1 47,
      (h.1 c).1 48, (h.1 c).1 49, (h.1 c).1 50, (h.1 c).1 51, (h.1 c).1 52, (h.1 c).1 53, (h.1 c).1 54, (h.1 c).1 55,
      (h.1 c).1 56, (h.1 c).1 57, (h.1 c).1 58, (h.1 c).1 59, (h.1 c).1 60, (h.1 c).1 61, (h.1 c).1 62, (h.1 c).1 63,
      (h.1 c).1 64, (h.1 c).1 65, (h.1 c).1 66, (h.1 c).1 67, (h.1 c).1 68, (h.1 c).1 69, (h.1 c).1 70, (h.1 c).1 71,
      (h.1 c).1 72, h.2 c⟩)
      (θ_run_and (run_main m g) (Cert.Kernel6Ideal.Gen.frame_of (F := Ideal) m g (dats m) (dats_A m) (run_main m g))),
    (θ_run Cert.Reference6Ideal.defs _ _).mono (fun r h c => ?_) (Cert.Reference6Ideal.Value.run m' g')⟩
  obtain ⟨h_loss, g_pool, g_sgu, g_scale, g_gain, g_bias, g_gate, g_n1, g_n2, g_n3, g_n4, d_pool, d_sgu, d_scale, d_gain,
    d_bias, d_gate, d_n1, d_n2, d_n3, d_n4, f_pool, f_sgu, f_scale, f_gain, f_bias, f_gate, f_n1, f_n2, f_n3, f_n4,
    s_pool, s_sgu, s_scale, s_gain, s_bias, s_gate, s_n1, s_n2, s_n3, s_n4, kept⟩ := h c
  obtain ⟨e0, e1, e2, e3, e4, e5, e6, e7, e8, e9, e10, e11, e12, e13, e14, e15, e16, e17, e18, e19, e20, e21, e22, e23, e24,
    e25, e26, e27, e28, e29, e30, e31⟩ := same c
  have l := agree_loss m c e1
  have p_pool := agree_pool m c e0 e2 e12 e22
  have p_sgu := agree_sgu m c e0 e3 e13 e23
  have p_scale := agree_scale m c e1 e4 e14 e24
  have p_gain := agree_gain m c e1 e5 e15 e25
  have p_bias := agree_bias m c e1 e6 e16 e26
  have p_gate := agree_gate m c e1 e7 e17 e27
  have p_n1 := agree_n1 m c e1 e8 e18 e28
  have p_n2 := agree_n2 m c e1 e9 e19 e29
  have p_n3 := agree_n3 m c e1 e10 e20 e30
  have p_n4 := agree_n4 m c e1 e11 e21 e31
  exact ⟨h_loss.trans ((Cert.Reference6Ideal.Read.val_main_v260_eq _).trans l),
    g_pool.trans ((Cert.Reference6Ideal.Read.val_main_v3_eq _).trans (p_pool.1)),
    g_sgu.trans ((Cert.Reference6Ideal.Read.val_main_v5_eq _).trans (p_sgu.1)),
    g_scale.trans ((Cert.Reference6Ideal.Read.val_main_v6_eq _).trans (p_scale.1)),
    g_gain.trans ((Cert.Reference6Ideal.Read.val_main_v7_eq _).trans (p_gain.1)),
    g_bias.trans ((Cert.Reference6Ideal.Read.val_main_v8_eq _).trans (p_bias.1)),
    g_gate.trans ((Cert.Reference6Ideal.Read.val_main_v10_eq _).trans (p_gate.1)),
    g_n1.trans ((Cert.Reference6Ideal.Read.val_main_v11_eq _).trans (p_n1.1)),
    g_n2.trans ((Cert.Reference6Ideal.Read.val_main_v12_eq _).trans (p_n2.1)),
    g_n3.trans ((Cert.Reference6Ideal.Read.val_main_v13_eq _).trans (p_n3.1)),
    g_n4.trans ((Cert.Reference6Ideal.Read.val_main_v14_eq _).trans (p_n4.1)),
    d_pool.trans ((Cert.Reference6Ideal.Read.val_main_v43_eq _).trans (p_pool.2.1)),
    d_sgu.trans ((Cert.Reference6Ideal.Read.val_main_v67_eq _).trans (p_sgu.2.1)),
    d_scale.trans ((Cert.Reference6Ideal.Read.val_main_v91_eq _).trans (p_scale.2.1)),
    d_gain.trans ((Cert.Reference6Ideal.Read.val_main_v115_eq _).trans (p_gain.2.1)),
    d_bias.trans ((Cert.Reference6Ideal.Read.val_main_v139_eq _).trans (p_bias.2.1)),
    d_gate.trans ((Cert.Reference6Ideal.Read.val_main_v163_eq _).trans (p_gate.2.1)),
    d_n1.trans ((Cert.Reference6Ideal.Read.val_main_v187_eq _).trans (p_n1.2.1)),
    d_n2.trans ((Cert.Reference6Ideal.Read.val_main_v211_eq _).trans (p_n2.2.1)),
    d_n3.trans ((Cert.Reference6Ideal.Read.val_main_v235_eq _).trans (p_n3.2.1)),
    d_n4.trans ((Cert.Reference6Ideal.Read.val_main_v259_eq _).trans (p_n4.2.1)),
    f_pool.trans ((Cert.Reference6Ideal.Read.val_main_v24_eq _).trans (p_pool.2.2.1)),
    f_sgu.trans ((Cert.Reference6Ideal.Read.val_main_v48_eq _).trans (p_sgu.2.2.1)),
    f_scale.trans ((Cert.Reference6Ideal.Read.val_main_v72_eq _).trans (p_scale.2.2.1)),
    f_gain.trans ((Cert.Reference6Ideal.Read.val_main_v96_eq _).trans (p_gain.2.2.1)),
    f_bias.trans ((Cert.Reference6Ideal.Read.val_main_v120_eq _).trans (p_bias.2.2.1)),
    f_gate.trans ((Cert.Reference6Ideal.Read.val_main_v144_eq _).trans (p_gate.2.2.1)),
    f_n1.trans ((Cert.Reference6Ideal.Read.val_main_v168_eq _).trans (p_n1.2.2.1)),
    f_n2.trans ((Cert.Reference6Ideal.Read.val_main_v192_eq _).trans (p_n2.2.2.1)),
    f_n3.trans ((Cert.Reference6Ideal.Read.val_main_v216_eq _).trans (p_n3.2.2.1)),
    f_n4.trans ((Cert.Reference6Ideal.Read.val_main_v240_eq _).trans (p_n4.2.2.1)),
    s_pool.trans ((Cert.Reference6Ideal.Read.val_main_v30_eq _).trans (p_pool.2.2.2)),
    s_sgu.trans ((Cert.Reference6Ideal.Read.val_main_v54_eq _).trans (p_sgu.2.2.2)),
    s_scale.trans ((Cert.Reference6Ideal.Read.val_main_v78_eq _).trans (p_scale.2.2.2)),
    s_gain.trans ((Cert.Reference6Ideal.Read.val_main_v102_eq _).trans (p_gain.2.2.2)),
    s_bias.trans ((Cert.Reference6Ideal.Read.val_main_v126_eq _).trans (p_bias.2.2.2)),
    s_gate.trans ((Cert.Reference6Ideal.Read.val_main_v150_eq _).trans (p_gate.2.2.2)),
    s_n1.trans ((Cert.Reference6Ideal.Read.val_main_v174_eq _).trans (p_n1.2.2.2)),
    s_n2.trans ((Cert.Reference6Ideal.Read.val_main_v198_eq _).trans (p_n2.2.2.2)),
    s_n3.trans ((Cert.Reference6Ideal.Read.val_main_v222_eq _).trans (p_n3.2.2.2)),
    s_n4.trans ((Cert.Reference6Ideal.Read.val_main_v246_eq _).trans (p_n4.2.2.2)), kept⟩

end

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  Cert.Kernel2.Mixer.frame, fun m ρ _ => Cert.Kernel2Ideal.Mixer.frame m ρ, fun m ρ _ => Cert.Kernel2Ideal.Mixer.frame m ρ,
  frame_reference2, fun m ρ _ => frame_reference2 m ρ trivial,
  Cert.Kernel3.Mixer.frame, fun m ρ _ => Cert.Kernel3Ideal.Mixer.frame m ρ, fun m ρ _ => Cert.Kernel3Ideal.Mixer.frame m ρ,
  frame_reference3, fun m ρ _ => frame_reference3 m ρ trivial,
  fun m ρ _ => Cert.Kernel4.Gen.frame m ρ, fun m ρ _ => Cert.Kernel4Ideal.Gen.frame m ρ, frame_reference4,
  frame_exchange, frame_exchange_ideal, frame_reference5,
  Cert.Kernel6Ideal.Small.frame_bits, Cert.Kernel6Ideal.Small.frame, frame_reference6,
  trivial, algebraic, preserves2, algebraic2, preserves3, algebraic3, trivial, algebraic4, trivial, algebraic5, trivial, algebraic6⟩

end Cert.Proof

end
